-- ==== Defs.lean ====
def Pre_Kernel [hPre_tokens_fit : Cert.Pre_tokens_fit.Facts] (m : (ℓ : Loc Cert.Kernel.nD Cert.Kernel.τ Cert.Kernel.sig) → Buf (Elt Bits) ℓ) : Prop :=
  ∀ c : Dev Cert.Kernel.nD,
    (Cert.Pre_tokens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_tokens_fit : Cert.Pre_tokens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_fit [hPre_tokens_fit : Cert.Pre_tokens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_tokens_fit : Cert.Pre_tokens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_tokens_fit : Cert.Pre_tokens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_tokens_fit [hReferenceIdeal : Cert.ReferenceIdeal.Facts] [hPre_tokens_fit : Cert.Pre_tokens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_on_logits_only [hKernelIdeal : Cert.KernelIdeal.Facts] [hReferenceIdeal : Cert.ReferenceIdeal.Facts] [hPre_tokens_fit : Cert.Pre_tokens_fit.Facts] [hOn_logits_only : Cert.On_logits_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![3, 7]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v3_0) i = v0 c i)
          ∧ (∀ i : (⟨2, ![3, 7]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v3_1) i = v1 c i)
          ∧ (∀ i : (⟨2, ![3, 8]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v3_2) i = v2 c i)
          ∧ (∀ i : (⟨2, ![3, 7]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v3_3) i = v3 c i)
          ∧ (∀ i : (⟨3, ![3, 8, 128256]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.KernelIdeal.nD Cert.KernelIdeal.τ).loc Cert.KernelIdeal.main_v3_4) i = v4 c i)
          ∧ (∀ i : (⟨3, ![3, 7, 32000]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 i = 1#1 → r.2.mem ((c.tc : Thread Cert.KernelIdeal.nD Cert.KernelIdeal.τ).loc Cert.KernelIdeal.main_v3_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![3, 7]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v2_0) i = v0 c i)
          ∧ (∀ i : (⟨2, ![3, 7]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v2_1) i = v1 c i)
          ∧ (∀ i : (⟨2, ![3, 8]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v2_2) i = v2 c i)
          ∧ (∀ i : (⟨2, ![3, 7]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v2_3) i = v3 c i)
          ∧ (∀ i : (⟨3, ![3, 8, 128256]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.ReferenceIdeal.nD Cert.ReferenceIdeal.τ).loc Cert.ReferenceIdeal.main_v2_4) i = v4 c i)
          ∧ (∀ i : (⟨3, ![3, 7, 32000]⟩ : Shape).Idx, (Cert.On_logits_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 i = 1#1 → r.2.mem ((c.tc : Thread Cert.ReferenceIdeal.nD Cert.ReferenceIdeal.τ).loc Cert.ReferenceIdeal.main_v2_5) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_tokens_fit : Cert.Pre_tokens_fit.Facts) (hOn_logits_only : Cert.On_logits_only.Facts),
    quiescent_Kernel (hKernel := hKernel) (hPre_tokens_fit := hPre_tokens_fit)
    ∧ quiescent_KernelIdeal (hKernelIdeal := hKernelIdeal) (hPre_tokens_fit := hPre_tokens_fit)
    ∧ quiescent_ReferenceIdeal (hReferenceIdeal := hReferenceIdeal)
    ∧ quiescent_ReferenceIdeal_pre_tokens_fit (hReferenceIdeal := hReferenceIdeal) (hPre_tokens_fit := hPre_tokens_fit)
    ∧ preserves_Kernel_KernelIdeal
    ∧ algebraic_KernelIdeal_ReferenceIdeal_on_logits_only (hKernelIdeal := hKernelIdeal) (hReferenceIdeal := hReferenceIdeal) (hPre_tokens_fit := hPre_tokens_fit) (hOn_logits_only := hOn_logits_only)
-- ==== On_logits_only.lean ====
abbrev S3x8x3072 : Shape := ⟨3, ![3, 8, 3072]⟩
abbrev S3x8 : Shape := ⟨2, ![3, 8]⟩
abbrev S3072x128256 : Shape := ⟨2, ![3072, 128256]⟩
abbrev S128256 : Shape := ⟨1, ![128256]⟩
abbrev S3x7x3072 : Shape := ⟨3, ![3, 7, 3072]⟩
abbrev S3x7 : Shape := ⟨2, ![3, 7]⟩
abbrev S3072x32000 : Shape := ⟨2, ![3072, 32000]⟩
abbrev S32000 : Shape := ⟨1, ![32000]⟩
abbrev S_ : Shape := ⟨0, ![]⟩
abbrev S3x8x128256 : Shape := ⟨3, ![3, 8, 128256]⟩
abbrev S3x7x32000 : Shape := ⟨3, ![3, 7, 32000]⟩

class Facts : Prop where
  bcast_S_S3x7 : S_.BroadcastsInDim S3x7 (![] : Fin 0 → Fin S3x7.rank)
  bcast_S_S3x8 : S_.BroadcastsInDim S3x8 (![] : Fin 0 → Fin S3x8.rank)
  bcast_S_S3x8x128256 : S_.BroadcastsInDim S3x8x128256 (![] : Fin 0 → Fin S3x8x128256.rank)
  bcast_S_S3x7x32000 : S_.BroadcastsInDim S3x7x32000 (![] : Fin 0 → Fin S3x7x32000.rank)

variable [Facts]

def fn {F : FTy → Type} [FloatOps F] (main_arg0 : FVec F S3x8x3072 .fp8e4m3) (main_arg1 : FVec F S3x8 .f32) (main_arg2 : FVec F S3072x128256 .fp8e4m3) (main_arg3 : FVec F S128256 .f32) (main_arg4 : FVec F S3x7x3072 .fp8e4m3) (main_arg5 : FVec F S3x7 .f32) (main_arg6 : FVec F S3072x32000 .fp8e4m3) (main_arg7 : FVec F S32000 .f32) (main_arg8 : IVec S32000 32) (main_arg9 : IVec S3x7 32) (main_arg10 : IVec S3x7 32) : IVec S3x7 1 × IVec S3x7 1 × IVec S3x8 1 × IVec S3x7 1 × IVec S3x8x128256 1 × IVec S3x7x32000 1 :=
  let main_c : IVec S_ 1 := constantI S_ 1 0#1
  let main_v0 : IVec S3x7 1 := broadcastInDim S3x7 ![] bcast_S_S3x7 main_c
  let main_c_0 : IVec S_ 1 := constantI S_ 1 0#1
  let main_v1 : IVec S3x8 1 := broadcastInDim S3x8 ![] bcast_S_S3x8 main_c_0
  let main_c_1 : IVec S_ 1 := constantI S_ 1 1#1
  let main_v2 : IVec S3x8x128256 1 := broadcastInDim S3x8x128256 ![] bcast_S_S3x8x128256 main_c_1
  let main_c_2 : IVec S_ 1 := constantI S_ 1 0#1
  let main_v3 : IVec S3x7x32000 1 := broadcastInDim S3x7x32000 ![] bcast_S_S3x7x32000 main_c_2
  (main_v0, main_v0, main_v1, main_v0, main_v2, main_v3)
-- ==== Pre_tokens_fit.lean ====
abbrev S3x8x3072 : Shape := ⟨3, ![3, 8, 3072]⟩
abbrev S3x8 : Shape := ⟨2, ![3, 8]⟩
abbrev S3072x128256 : Shape := ⟨2, ![3072, 128256]⟩
abbrev S128256 : Shape := ⟨1, ![128256]⟩
abbrev S3x7x3072 : Shape := ⟨3, ![3, 7, 3072]⟩
abbrev S3x7 : Shape := ⟨2, ![3, 7]⟩
abbrev S3072x32000 : Shape := ⟨2, ![3072, 32000]⟩
abbrev S32000 : Shape := ⟨1, ![32000]⟩
abbrev S_ : Shape := ⟨0, ![]⟩

class Facts : Prop where
  bcast_S_S3x7 : S_.BroadcastsInDim S3x7 (![] : Fin 0 → Fin S3x7.rank)

variable [Facts]

def fn {F : FTy → Type} [FloatOps F] (main_arg0 : FVec F S3x8x3072 .fp8e4m3) (main_arg1 : FVec F S3x8 .f32) (main_arg2 : FVec F S3072x128256 .fp8e4m3) (main_arg3 : FVec F S128256 .f32) (main_arg4 : FVec F S3x7x3072 .fp8e4m3) (main_arg5 : FVec F S3x7 .f32) (main_arg6 : FVec F S3072x32000 .fp8e4m3) (main_arg7 : FVec F S32000 .f32) (main_arg8 : IVec S32000 32) (main_arg9 : IVec S3x7 32) (main_arg10 : IVec S3x7 32) : IVec S3x7 1 :=
  let main_c : IVec S_ 32 := constantI S_ 32 0#32
  let main_v0 : IVec S3x7 32 := broadcastInDim S3x7 ![] bcast_S_S3x7 main_c
  let main_v1 : IVec S3x7 1 := cmpi .sge main_arg9 main_v0
  let main_c_0 : IVec S_ 32 := constantI S_ 32 32000#32
  let main_v2 : IVec S3x7 32 := broadcastInDim S3x7 ![] bcast_S_S3x7 main_c_0
  let main_v3 : IVec S3x7 1 := cmpi .slt main_arg9 main_v2
  let main_v4 : IVec S3x7 1 := andi main_v1 main_v3
  main_v4
-- ==== Kernel.lean ====
abbrev S3x8x3072 : Shape := ⟨3, ![3, 8, 3072]⟩
abbrev S3x8 : Shape := ⟨2, ![3, 8]⟩
abbrev S3072x128256 : Shape := ⟨2, ![3072, 128256]⟩
abbrev S128256 : Shape := ⟨1, ![128256]⟩
abbrev S3x7x3072 : Shape := ⟨3, ![3, 7, 3072]⟩
abbrev S3x7 : Shape := ⟨2, ![3, 7]⟩
abbrev S3072x32000 : Shape := ⟨2, ![3072, 32000]⟩
abbrev S32000 : Shape := ⟨1, ![32000]⟩
abbrev S1002x128 : Shape := ⟨2, ![1002, 128]⟩
abbrev S250x128 : Shape := ⟨2, ![250, 128]⟩
abbrev S3x8x128256 : Shape := ⟨3, ![3, 8, 128256]⟩
abbrev S3x7x32000 : Shape := ⟨3, ![3, 7, 32000]⟩
abbrev S4x3072x1024 : Shape := ⟨3, ![4, 3072, 1024]⟩
abbrev S32x3072 : Shape := ⟨2, ![32, 3072]⟩
abbrev S250x24x128 : Shape := ⟨3, ![250, 24, 128]⟩
abbrev S2x3x8x1024 : Shape := ⟨4, ![2, 3, 8, 1024]⟩
abbrev S2x3x7x1024 : Shape := ⟨4, ![2, 3, 7, 1024]⟩
abbrev S4 : Shape := ⟨1, ![4]⟩
abbrev S10 : Shape := ⟨1, ![10]⟩
abbrev S2 : Shape := ⟨1, ![2]⟩
abbrev S1 : Shape := ⟨1, ![1]⟩
abbrev S_ : Shape := ⟨0, ![]⟩
abbrev S1x3072x1024 : Shape := ⟨3, ![1, 3072, 1024]⟩
abbrev S3072x1024 : Shape := ⟨2, ![3072, 1024]⟩
abbrev S1x3072x256 : Shape := ⟨3, ![1, 3072, 256]⟩
abbrev S3072x256 : Shape := ⟨2, ![3072, 256]⟩
abbrev S1x8x3072 : Shape := ⟨3, ![1, 8, 3072]⟩
abbrev S8x3072 : Shape := ⟨2, ![8, 3072]⟩
abbrev S1x7x3072 : Shape := ⟨3, ![1, 7, 3072]⟩
abbrev S7x3072 : Shape := ⟨2, ![7, 3072]⟩
abbrev S1x3072 : Shape := ⟨2, ![1, 3072]⟩
abbrev S1x8 : Shape := ⟨2, ![1, 8]⟩
abbrev S1x120 : Shape := ⟨2, ![1, 120]⟩
abbrev S1x128 : Shape := ⟨2, ![1, 128]⟩
abbrev S8x128 : Shape := ⟨2, ![8, 128]⟩
abbrev S8 : Shape := ⟨1, ![8]⟩
abbrev S8x1 : Shape := ⟨2, ![8, 1]⟩
abbrev S1x7 : Shape := ⟨2, ![1, 7]⟩
abbrev S1x121 : Shape := ⟨2, ![1, 121]⟩
abbrev S3x7x1024 : Shape := ⟨3, ![3, 7, 1024]⟩
abbrev S1x3x7x1024 : Shape := ⟨4, ![1, 3, 7, 1024]⟩
abbrev S32x1024 : Shape := ⟨2, ![32, 1024]⟩
abbrev S1x8x128 : Shape := ⟨3, ![1, 8, 128]⟩
abbrev S7x128 : Shape := ⟨2, ![7, 128]⟩
abbrev S1x1x7x128 : Shape := ⟨4, ![1, 1, 7, 128]⟩
abbrev S32x256 : Shape := ⟨2, ![32, 256]⟩
abbrev S3x7x256 : Shape := ⟨3, ![3, 7, 256]⟩
abbrev S1x3x7x256 : Shape := ⟨4, ![1, 3, 7, 256]⟩
abbrev S24x128 : Shape := ⟨2, ![24, 128]⟩
abbrev S1x24x128 : Shape := ⟨3, ![1, 24, 128]⟩
abbrev S1x1 : Shape := ⟨2, ![1, 1]⟩
abbrev S3x8x1024 : Shape := ⟨3, ![3, 8, 1024]⟩
abbrev S1x3x8x1024 : Shape := ⟨4, ![1, 3, 8, 1024]⟩
abbrev S1x1x8x128 : Shape := ⟨4, ![1, 1, 8, 128]⟩
abbrev S8x128x1 : Shape := ⟨3, ![8, 128, 1]⟩
abbrev S3x8x256 : Shape := ⟨3, ![3, 8, 256]⟩
abbrev S1x3x8x256 : Shape := ⟨4, ![1, 3, 8, 256]⟩
abbrev S128 : Shape := ⟨1, ![128]⟩

abbrev nBuf : Space → Nat
  | .hbm => 20
  | .vmem => 18
  | .smem => 3
  | _ => 0

abbrev bufTy : (tb : Table) → Fin (tcTables nBuf tb) → BufTy
  | .hbm, ⟨0, _⟩ => ⟨S3x8x3072, .fp8e4m3⟩
  | .hbm, ⟨1, _⟩ => ⟨S3x8, .f32⟩
  | .hbm, ⟨2, _⟩ => ⟨S3072x128256, .fp8e4m3⟩
  | .hbm, ⟨3, _⟩ => ⟨S128256, .f32⟩
  | .hbm, ⟨4, _⟩ => ⟨S3x7x3072, .fp8e4m3⟩
  | .hbm, ⟨5, _⟩ => ⟨S3x7, .f32⟩
  | .hbm, ⟨6, _⟩ => ⟨S3072x32000, .fp8e4m3⟩
  | .hbm, ⟨7, _⟩ => ⟨S32000, .f32⟩
  | .hbm, ⟨8, _⟩ => ⟨S32000, .i32⟩
  | .hbm, ⟨9, _⟩ => ⟨S3x7, .i32⟩
  | .hbm, ⟨10, _⟩ => ⟨S3x7, .i32⟩
  | .hbm, ⟨11, _⟩ => ⟨S1002x128, .f32⟩
  | .hbm, ⟨12, _⟩ => ⟨S250x128, .f32⟩
  | .hbm, ⟨13, _⟩ => ⟨S250x128, .i32⟩
  | .hbm, ⟨14, _⟩ => ⟨S3x7, .f32⟩
  | .hbm, ⟨15, _⟩ => ⟨S3x7, .f32⟩
  | .hbm, ⟨16, _⟩ => ⟨S3x8, .f32⟩
  | .hbm, ⟨17, _⟩ => ⟨S3x7, .f32⟩
  | .hbm, ⟨18, _⟩ => ⟨S3x8x128256, .bf16⟩
  | .hbm, ⟨19, _⟩ => ⟨S3x7x32000, .bf16⟩
  | .local _ .vmem, ⟨0, _⟩ => ⟨S3x7, .f32⟩
  | .local _ .vmem, ⟨1, _⟩ => ⟨S3x7, .f32⟩
  | .local _ .vmem, ⟨2, _⟩ => ⟨S3x8, .f32⟩
  | .local _ .vmem, ⟨3, _⟩ => ⟨S3x7, .f32⟩
  | .local _ .vmem, ⟨4, _⟩ => ⟨S4x3072x1024, .fp8e4m3⟩
  | .local _ .vmem, ⟨5, _⟩ => ⟨S3x8x3072, .fp8e4m3⟩
  | .local _ .vmem, ⟨6, _⟩ => ⟨S3x7x3072, .fp8e4m3⟩
  | .local _ .vmem, ⟨7, _⟩ => ⟨S3x8, .f32⟩
  | .local _ .vmem, ⟨8, _⟩ => ⟨S3x7, .f32⟩
  | .local _ .vmem, ⟨9, _⟩ => ⟨S1002x128, .f32⟩
  | .local _ .vmem, ⟨10, _⟩ => ⟨S250x128, .f32⟩
  | .local _ .vmem, ⟨11, _⟩ => ⟨S250x128, .i32⟩
  | .local _ .vmem, ⟨12, _⟩ => ⟨S32x3072, .fp8e4m3⟩
  | .local _ .vmem, ⟨13, _⟩ => ⟨S32x3072, .fp8e4m3⟩
  | .local _ .vmem, ⟨14, _⟩ => ⟨S250x24x128, .f32⟩
  | .local _ .vmem, ⟨15, _⟩ => ⟨S250x24x128, .f32⟩
  | .local _ .vmem, ⟨16, _⟩ => ⟨S2x3x8x1024, .bf16⟩
  | .local _ .vmem, ⟨17, _⟩ => ⟨S2x3x7x1024, .bf16⟩
  | .local _ .smem, ⟨0, _⟩ => ⟨S250x128, .i32⟩
  | .local _ .smem, ⟨1, _⟩ => ⟨S3x7, .i32⟩
  | .local _ .smem, ⟨2, _⟩ => ⟨S3x7, .i32⟩
  | _, _ => ⟨S3x8x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_scratch8 : Ref sig .tc := ⟨.smem, 0, rfl⟩
abbrev cc0_scratch9 : Ref sig .tc := ⟨.smem, 1, rfl⟩
abbrev cc0_scratch10 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_cond1 : BitVec 1 :=
  let c0_i32_2 : BitVec 32 := 0#32
  let c31_i32 : BitVec 32 := 31#32
  let v11 : BitVec 1 := Scalar.cmpi .slt c0_i32_2 c31_i32
  let v12 : BitVec 32 := Scalar.extui v11
  let c0_i32_4 : BitVec 32 := 0#32
  let v13 : BitVec 1 := Scalar.cmpi .ne v12 c0_i32_4
  v13

def k0_mult1 : BitVec 32 :=
  let c0_i32_3 : BitVec 32 := 0#32
  let c1024_i32 : BitVec 32 := 1024#32
  let v1566 : BitVec 32 := Scalar.muli c0_i32_3 c1024_i32
  v1566
def k0_off1 : Fin 1 → Nat :=
  let c0_i32_0 : BitVec 32 := 0#32
  let c4_i32_1 : BitVec 32 := 4#32
  let v10 : BitVec 32 := Scalar.remsi c0_i32_0 c4_i32_1
  ![v10.toNat]
def k0_off2 : Fin 3 → Nat :=
  let c0_i32_0 : BitVec 32 := 0#32
  let c4_i32_1 : BitVec 32 := 4#32
  let v10 : BitVec 32 := Scalar.remsi c0_i32_0 c4_i32_1
  let c0_i32_767 : BitVec 32 := 0#32
  let c0_i32_768 : BitVec 32 := 0#32
  ![v10.toNat, 0, 0]
def k0_off3 : Fin 2 → Nat :=
  let c0_i32_769 : BitVec 32 := 0#32
  let c0_i32_3 : BitVec 32 := 0#32
  let c1024_i32 : BitVec 32 := 1024#32
  let v1566 : BitVec 32 := Scalar.muli c0_i32_3 c1024_i32
  let v1567 : BitVec 32 := v1566
  ![0, v1567.toNat]
def k0_cond2 : BitVec 1 :=
  let c0_i32_5 : BitVec 32 := 0#32
  let c31_i32_6 : BitVec 32 := 31#32
  let v14 : BitVec 1 := Scalar.cmpi .eq c0_i32_5 c31_i32_6
  let v15 : BitVec 32 := Scalar.extui v14
  let c0_i32_7 : BitVec 32 := 0#32
  let v16 : BitVec 1 := Scalar.cmpi .ne v15 c0_i32_7
  v16

def k0_off4 : Fin 1 → Nat :=
  let c0_i32_0 : BitVec 32 := 0#32
  let c4_i32_1 : BitVec 32 := 4#32
  let v10 : BitVec 32 := Scalar.remsi c0_i32_0 c4_i32_1
  ![v10.toNat]
def k0_off5 : Fin 3 → Nat :=
  let c0_i32_0 : BitVec 32 := 0#32
  let c4_i32_1 : BitVec 32 := 4#32
  let v10 : BitVec 32 := Scalar.remsi c0_i32_0 c4_i32_1
  let c0_i32_767 : BitVec 32 := 0#32
  let c0_i32_768 : BitVec 32 := 0#32
  ![v10.toNat, 0, 0]
def k0_cond3 : BitVec 1 :=
  let c0_i32_8 : BitVec 32 := 0#32
  let c32_i32 : BitVec 32 := 32#32
  let v17 : BitVec 1 := Scalar.cmpi .sge c0_i32_8 c32_i32
  let c0_i32_9 : BitVec 32 := 0#32
  let c157_i32 : BitVec 32 := 157#32
  let v18 : BitVec 1 := Scalar.cmpi .slt c0_i32_9 c157_i32
  let v19 : BitVec 1 := Scalar.andi v17 v18
  let v20 : BitVec 32 := Scalar.extui v19
  let c0_i32_11 : BitVec 32 := 0#32
  let v21 : BitVec 1 := Scalar.cmpi .ne v20 c0_i32_11
  v21

def k0_mult2 : BitVec 32 :=
  let c0_i32_10 : BitVec 32 := 0#32
  let c32_i32_767 : BitVec 32 := 32#32
  let v1566 : BitVec 32 := Scalar.subi c0_i32_10 c32_i32_767
  let c1024_i32 : BitVec 32 := 1024#32
  let v1567 : BitVec 32 := Scalar.muli v1566 c1024_i32
  v1567
def k0_off6 : Fin 1 → Nat :=
  let c0_i32_0 : BitVec 32 := 0#32
  let c4_i32_1 : BitVec 32 := 4#32
  let v10 : BitVec 32 := Scalar.remsi c0_i32_0 c4_i32_1
  ![v10.toNat]
def k0_off7 : Fin 3 → Nat :=
  let c0_i32_0 : BitVec 32 := 0#32
  let c4_i32_1 : BitVec 32 := 4#32
  let v10 : BitVec 32 := Scalar.remsi c0_i32_0 c4_i32_1
  let c0_i32_768 : BitVec 32 := 0#32
  let c0_i32_769 : BitVec 32 := 0#32
  ![v10.toNat, 0, 0]
def k0_off8 : Fin 2 → Nat :=
  let c0_i32_770 : BitVec 32 := 0#32
  let c0_i32_10 : BitVec 32 := 0#32
  let c32_i32_767 : BitVec 32 := 32#32
  let v1566 : BitVec 32 := Scalar.subi c0_i32_10 c32_i32_767
  let c1024_i32 : BitVec 32 := 1024#32
  let v1567 : BitVec 32 := Scalar.muli v1566 c1024_i32
  let v1568 : BitVec 32 := v1567
  ![0, v1568.toNat]
def k0_cond4 : BitVec 1 :=
  let c0_i32_12 : BitVec 32 := 0#32
  let c157_i32_13 : BitVec 32 := 157#32
  let v22 : BitVec 1 := Scalar.cmpi .eq c0_i32_12 c157_i32_13
  let v23 : BitVec 32 := Scalar.extui v22
  let c0_i32_14 : BitVec 32 := 0#32
  let v24 : BitVec 1 := Scalar.cmpi .ne v23 c0_i32_14
  v24

def k0_off9 : Fin 1 → Nat :=
  let c0_i32_0 : BitVec 32 := 0#32
  let c4_i32_1 : BitVec 32 := 4#32
  let v10 : BitVec 32 := Scalar.remsi c0_i32_0 c4_i32_1
  ![v10.toNat]
def k0_off10 : Fin 3 → Nat :=
  let c0_i32_0 : BitVec 32 := 0#32
  let c4_i32_1 : BitVec 32 := 4#32
  let v10 : BitVec 32 := Scalar.remsi c0_i32_0 c4_i32_1
  let c0_i32_767 : BitVec 32 := 0#32
  let c0_i32_768 : BitVec 32 := 0#32
  ![v10.toNat, 0, 0]
def k0_cond5 : BitVec 1 :=
  let c1_i32_17 : BitVec 32 := 1#32
  let c31_i32_18 : BitVec 32 := 31#32
  let v26 : BitVec 1 := Scalar.cmpi .slt c1_i32_17 c31_i32_18
  let v27 : BitVec 32 := Scalar.extui v26
  let c0_i32_20 : BitVec 32 := 0#32
  let v28 : BitVec 1 := Scalar.cmpi .ne v27 c0_i32_20
  v28

def k0_mult3 : BitVec 32 :=
  let c1_i32_19 : BitVec 32 := 1#32
  let c1024_i32 : BitVec 32 := 1024#32
  let v1566 : BitVec 32 := Scalar.muli c1_i32_19 c1024_i32
  v1566
def k0_off11 : Fin 1 → Nat :=
  let c1_i32_15 : BitVec 32 := 1#32
  let c4_i32_16 : BitVec 32 := 4#32
  let v25 : BitVec 32 := Scalar.remsi c1_i32_15 c4_i32_16
  ![v25.toNat]
def k0_off12 : Fin 3 → Nat :=
  let c1_i32_15 : BitVec 32 := 1#32
  let c4_i32_16 : BitVec 32 := 4#32
  let v25 : BitVec 32 := Scalar.remsi c1_i32_15 c4_i32_16
  let c0_i32_767 : BitVec 32 := 0#32
  let c0_i32_768 : BitVec 32 := 0#32
  ![v25.toNat, 0, 0]
def k0_off13 : Fin 2 → Nat :=
  let c0_i32_769 : BitVec 32 := 0#32
  let c1_i32_19 : BitVec 32 := 1#32
  let c1024_i32 : BitVec 32 := 1024#32
  let v1566 : BitVec 32 := Scalar.muli c1_i32_19 c1024_i32
  let v1567 : BitVec 32 := v1566
  ![0, v1567.toNat]
def k0_cond6 : BitVec 1 :=
  let c1_i32_21 : BitVec 32 := 1#32
  let c31_i32_22 : BitVec 32 := 31#32
  let v29 : BitVec 1 := Scalar.cmpi .eq c1_i32_21 c31_i32_22
  let v30 : BitVec 32 := Scalar.extui v29
  let c0_i32_23 : BitVec 32 := 0#32
  let v31 : BitVec 1 := Scalar.cmpi .ne v30 c0_i32_23
  v31

def k0_off14 : Fin 1 → Nat :=
  let c1_i32_15 : BitVec 32 := 1#32
  let c4_i32_16 : BitVec 32 := 4#32
  let v25 : BitVec 32 := Scalar.remsi c1_i32_15 c4_i32_16
  ![v25.toNat]
def k0_off15 : Fin 3 → Nat :=
  let c1_i32_15 : BitVec 32 := 1#32
  let c4_i32_16 : BitVec 32 := 4#32
  let v25 : BitVec 32 := Scalar.remsi c1_i32_15 c4_i32_16
  let c0_i32_767 : BitVec 32 := 0#32
  let c0_i32_768 : BitVec 32 := 0#32
  ![v25.toNat, 0, 0]
def k0_cond7 : BitVec 1 :=
  let c1_i32_24 : BitVec 32 := 1#32
  let c32_i32_25 : BitVec 32 := 32#32
  let v32 : BitVec 1 := Scalar.cmpi .sge c1_i32_24 c32_i32_25
  let c1_i32_26 : BitVec 32 := 1#32
  let c157_i32_27 : BitVec 32 := 157#32
  let v33 : BitVec 1 := Scalar.cmpi .slt c1_i32_26 c157_i32_27
  let v34 : BitVec 1 := Scalar.andi v32 v33
  let v35 : BitVec 32 := Scalar.extui v34
  let c0_i32_29 : BitVec 32 := 0#32
  let v36 : BitVec 1 := Scalar.cmpi .ne v35 c0_i32_29
  v36

def k0_mult4 : BitVec 32 :=
  let c1_i32_28 : BitVec 32 := 1#32
  let c32_i32_767 : BitVec 32 := 32#32
  let v1566 : BitVec 32 := Scalar.subi c1_i32_28 c32_i32_767
  let c1024_i32 : BitVec 32 := 1024#32
  let v1567 : BitVec 32 := Scalar.muli v1566 c1024_i32
  v1567
def k0_off16 : Fin 1 → Nat :=
  let c1_i32_15 : BitVec 32 := 1#32
  let c4_i32_16 : BitVec 32 := 4#32
  let v25 : BitVec 32 := Scalar.remsi c1_i32_15 c4_i32_16
  ![v25.toNat]
def k0_off17 : Fin 3 → Nat :=
  let c1_i32_15 : BitVec 32 := 1#32
  let c4_i32_16 : BitVec 32 := 4#32
  let v25 : BitVec 32 := Scalar.remsi c1_i32_15 c4_i32_16
  let c0_i32_768 : BitVec 32 := 0#32
  let c0_i32_769 : BitVec 32 := 0#32
  ![v25.toNat, 0, 0]
def k0_off18 : Fin 2 → Nat :=
  let c0_i32_770 : BitVec 32 := 0#32
  let c1_i32_28 : BitVec 32 := 1#32
  let c32_i32_767 : BitVec 32 := 32#32
  let v1566 : BitVec 32 := Scalar.subi c1_i32_28 c32_i32_767
  let c1024_i32 : BitVec 32 := 1024#32
  let v1567 : BitVec 32 := Scalar.muli v1566 c1024_i32
  let v1568 : BitVec 32 := v1567
  ![0, v1568.toNat]
def k0_cond8 : BitVec 1 :=
  let c1_i32_30 : BitVec 32 := 1#32
  let c157_i32_31 : BitVec 32 := 157#32
  let v37 : BitVec 1 := Scalar.cmpi .eq c1_i32_30 c157_i32_31
  let v38 : BitVec 32 := Scalar.extui v37
  let c0_i32_32 : BitVec 32 := 0#32
  let v39 : BitVec 1 := Scalar.cmpi .ne v38 c0_i32_32
  v39

def k0_off19 : Fin 1 → Nat :=
  let c1_i32_15 : BitVec 32 := 1#32
  let c4_i32_16 : BitVec 32 := 4#32
  let v25 : BitVec 32 := Scalar.remsi c1_i32_15 c4_i32_16
  ![v25.toNat]
def k0_off20 : Fin 3 → Nat :=
  let c1_i32_15 : BitVec 32 := 1#32
  let c4_i32_16 : BitVec 32 := 4#32
  let v25 : BitVec 32 := Scalar.remsi c1_i32_15 c4_i32_16
  let c0_i32_767 : BitVec 32 := 0#32
  let c0_i32_768 : BitVec 32 := 0#32
  ![v25.toNat, 0, 0]
def k0_cond9 : BitVec 1 :=
  let c2_i32_35 : BitVec 32 := 2#32
  let c31_i32_36 : BitVec 32 := 31#32
  let v41 : BitVec 1 := Scalar.cmpi .slt c2_i32_35 c31_i32_36
  let v42 : BitVec 32 := Scalar.extui v41
  let c0_i32_38 : BitVec 32 := 0#32
  let v43 : BitVec 1 := Scalar.cmpi .ne v42 c0_i32_38
  v43

def k0_mult5 : BitVec 32 :=
  let c2_i32_37 : BitVec 32 := 2#32
  let c1024_i32 : BitVec 32 := 1024#32
  let v1566 : BitVec 32 := Scalar.muli c2_i32_37 c1024_i32
  v1566
def k0_off21 : Fin 1 → Nat :=
  let c2_i32_33 : BitVec 32 := 2#32
  let c4_i32_34 : BitVec 32 := 4#32
  let v40 : BitVec 32 := Scalar.remsi c2_i32_33 c4_i32_34
  ![v40.toNat]
def k0_off22 : Fin 3 → Nat :=
  let c2_i32_33 : BitVec 32 := 2#32
  let c4_i32_34 : BitVec 32 := 4#32
  let v40 : BitVec 32 := Scalar.remsi c2_i32_33 c4_i32_34
  let c0_i32_767 : BitVec 32 := 0#32
  let c0_i32_768 : BitVec 32 := 0#32
  ![v40.toNat, 0, 0]
def k0_off23 : Fin 2 → Nat :=
  let c0_i32_769 : BitVec 32 := 0#32
  let c2_i32_37 : BitVec 32 := 2#32
  let c1024_i32 : BitVec 32 := 1024#32
  let v1566 : BitVec 32 := Scalar.muli c2_i32_37 c1024_i32
  let v1567 : BitVec 32 := v1566
  ![0, v1567.toNat]
def k0_cond10 : BitVec 1 :=
  let c2_i32_39 : BitVec 32 := 2#32
  let c31_i32_40 : BitVec 32 := 31#32
  let v44 : BitVec 1 := Scalar.cmpi .eq c2_i32_39 c31_i32_40
  let v45 : BitVec 32 := Scalar.extui v44
  let c0_i32_41 : BitVec 32 := 0#32
  let v46 : BitVec 1 := Scalar.cmpi .ne v45 c0_i32_41
  v46

def k0_off24 : Fin 1 → Nat :=
  let c2_i32_33 : BitVec 32 := 2#32
  let c4_i32_34 : BitVec 32 := 4#32
  let v40 : BitVec 32 := Scalar.remsi c2_i32_33 c4_i32_34
  ![v40.toNat]
def k0_off25 : Fin 3 → Nat :=
  let c2_i32_33 : BitVec 32 := 2#32
  let c4_i32_34 : BitVec 32 := 4#32
  let v40 : BitVec 32 := Scalar.remsi c2_i32_33 c4_i32_34
  let c0_i32_767 : BitVec 32 := 0#32
  let c0_i32_768 : BitVec 32 := 0#32
  ![v40.toNat, 0, 0]
def k0_cond11 : BitVec 1 :=
  let c2_i32_42 : BitVec 32 := 2#32
  let c32_i32_43 : BitVec 32 := 32#32
  let v47 : BitVec 1 := Scalar.cmpi .sge c2_i32_42 c32_i32_43
  let c2_i32_44 : BitVec 32 := 2#32
  let c157_i32_45 : BitVec 32 := 157#32
  let v48 : BitVec 1 := Scalar.cmpi .slt c2_i32_44 c157_i32_45
  let v49 : BitVec 1 := Scalar.andi v47 v48
  let v50 : BitVec 32 := Scalar.extui v49
  let c0_i32_47 : BitVec 32 := 0#32
  let v51 : BitVec 1 := Scalar.cmpi .ne v50 c0_i32_47
  v51

def k0_mult6 : BitVec 32 :=
  let c2_i32_46 : BitVec 32 := 2#32
  let c32_i32_767 : BitVec 32 := 32#32
  let v1566 : BitVec 32 := Scalar.subi c2_i32_46 c32_i32_767
  let c1024_i32 : BitVec 32 := 1024#32
  let v1567 : BitVec 32 := Scalar.muli v1566 c1024_i32
  v1567
def k0_off26 : Fin 1 → Nat :=
  let c2_i32_33 : BitVec 32 := 2#32
  let c4_i32_34 : BitVec 32 := 4#32
  let v40 : BitVec 32 := Scalar.remsi c2_i32_33 c4_i32_34
  ![v40.toNat]
def k0_off27 : Fin 3 → Nat :=
  let c2_i32_33 : BitVec 32 := 2#32
  let c4_i32_34 : BitVec 32 := 4#32
  let v40 : BitVec 32 := Scalar.remsi c2_i32_33 c4_i32_34
  let c0_i32_768 : BitVec 32 := 0#32
  let c0_i32_769 : BitVec 32 := 0#32
  ![v40.toNat, 0, 0]
def k0_off28 : Fin 2 → Nat :=
  let c0_i32_770 : BitVec 32 := 0#32
  let c2_i32_46 : BitVec 32 := 2#32
  let c32_i32_767 : BitVec 32 := 32#32
  let v1566 : BitVec 32 := Scalar.subi c2_i32_46 c32_i32_767
  let c1024_i32 : BitVec 32 := 1024#32
  let v1567 : BitVec 32 := Scalar.muli v1566 c1024_i32
  let v1568 : BitVec 32 := v1567
  ![0, v1568.toNat]
def k0_cond12 : BitVec 1 :=
  let c2_i32_48 : BitVec 32 := 2#32
  let c157_i32_49 : BitVec 32 := 157#32
  let v52 : BitVec 1 := Scalar.cmpi .eq c2_i32_48 c157_i32_49
  let v53 : BitVec 32 := Scalar.extui v52
  let c0_i32_50 : BitVec 32 := 0#32
  let v54 : BitVec 1 := Scalar.cmpi .ne v53 c0_i32_50
  v54

def k0_off29 : Fin 1 → Nat :=
  let c2_i32_33 : BitVec 32 := 2#32
  let c4_i32_34 : BitVec 32 := 4#32
  let v40 : BitVec 32 := Scalar.remsi c2_i32_33 c4_i32_34
  ![v40.toNat]
def k0_off30 : Fin 3 → Nat :=
  let c2_i32_33 : BitVec 32 := 2#32
  let c4_i32_34 : BitVec 32 := 4#32
  let v40 : BitVec 32 := Scalar.remsi c2_i32_33 c4_i32_34
  let c0_i32_767 : BitVec 32 := 0#32
  let c0_i32_768 : BitVec 32 := 0#32
  ![v40.toNat, 0, 0]
@[reducible] def k0_t1_loop : Scf.Loop 32 :=
  let c0_i32_124 : BitVec 32 := 0#32
  let c31_i32_125 : BitVec 32 := 31#32
  let v214 : BitVec 32 := Scalar.addi c0_i32_124 c31_i32_125
  let c1_i32_126 : BitVec 32 := 1#32
  ⟨c0_i32_124, v214, c1_i32_126⟩
def k0_off31 (k0_t1 : Fin k0_t1_loop.trips) : Fin 1 → Nat :=
  let c0_i32_124 : BitVec 32 := 0#32
  let c1_i32_126 : BitVec 32 := 1#32
  let arg39 : BitVec 32 := Scf.iv c0_i32_124 c1_i32_126 k0_t1
  let c4_i32_767 : BitVec 32 := 4#32
  let v1566 : BitVec 32 := Scalar.remsi arg39 c4_i32_767
  ![v1566.toNat]
def k0_off32 (k0_t1 : Fin k0_t1_loop.trips) : Fin 3 → Nat :=
  let c0_i32_124 : BitVec 32 := 0#32
  let c1_i32_126 : BitVec 32 := 1#32
  let arg39 : BitVec 32 := Scf.iv c0_i32_124 c1_i32_126 k0_t1
  let c4_i32_767 : BitVec 32 := 4#32
  let v1566 : BitVec 32 := Scalar.remsi arg39 c4_i32_767
  let c0_i32_768 : BitVec 32 := 0#32
  let c0_i32_769 : BitVec 32 := 0#32
  ![v1566.toNat, 0, 0]
def k0_cond13 (k0_t1 : Fin k0_t1_loop.trips) : BitVec 1 :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c31_i32_774 : BitVec 32 := 31#32
  let v1574 : BitVec 1 := Scalar.cmpi .slt v1572 c31_i32_774
  let v1575 : BitVec 32 := Scalar.extui v1574
  let c0_i32_775 : BitVec 32 := 0#32
  let v1576 : BitVec 1 := Scalar.cmpi .ne v1575 c0_i32_775
  v1576

def k0_mult7 (k0_t1 : Fin k0_t1_loop.trips) : BitVec 32 :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c1024_i32_959 : BitVec 32 := 1024#32
  let v2102 : BitVec 32 := Scalar.muli v1572 c1024_i32_959
  v2102
def k0_off33 (k0_t1 : Fin k0_t1_loop.trips) : Fin 1 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  ![v1573.toNat]
def k0_off34 (k0_t1 : Fin k0_t1_loop.trips) : Fin 3 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  let c0_i32_960 : BitVec 32 := 0#32
  let c0_i32_961 : BitVec 32 := 0#32
  ![v1573.toNat, 0, 0]
def k0_off35 (k0_t1 : Fin k0_t1_loop.trips) : Fin 2 → Nat :=
  let c0_i32_962 : BitVec 32 := 0#32
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c1024_i32_959 : BitVec 32 := 1024#32
  let v2102 : BitVec 32 := Scalar.muli v1572 c1024_i32_959
  let v2103 : BitVec 32 := v2102
  ![0, v2103.toNat]
def k0_cond14 (k0_t1 : Fin k0_t1_loop.trips) : BitVec 1 :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c31_i32_776 : BitVec 32 := 31#32
  let v1577 : BitVec 1 := Scalar.cmpi .eq v1572 c31_i32_776
  let v1578 : BitVec 32 := Scalar.extui v1577
  let c0_i32_777 : BitVec 32 := 0#32
  let v1579 : BitVec 1 := Scalar.cmpi .ne v1578 c0_i32_777
  v1579

def k0_off36 (k0_t1 : Fin k0_t1_loop.trips) : Fin 1 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  ![v1573.toNat]
def k0_off37 (k0_t1 : Fin k0_t1_loop.trips) : Fin 3 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  let c0_i32_959 : BitVec 32 := 0#32
  let c0_i32_960 : BitVec 32 := 0#32
  ![v1573.toNat, 0, 0]
def k0_cond15 (k0_t1 : Fin k0_t1_loop.trips) : BitVec 1 :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c32_i32_778 : BitVec 32 := 32#32
  let v1580 : BitVec 1 := Scalar.cmpi .sge v1572 c32_i32_778
  let c157_i32_779 : BitVec 32 := 157#32
  let v1581 : BitVec 1 := Scalar.cmpi .slt v1572 c157_i32_779
  let v1582 : BitVec 1 := Scalar.andi v1580 v1581
  let v1583 : BitVec 32 := Scalar.extui v1582
  let c0_i32_780 : BitVec 32 := 0#32
  let v1584 : BitVec 1 := Scalar.cmpi .ne v1583 c0_i32_780
  v1584

def k0_mult8 (k0_t1 : Fin k0_t1_loop.trips) : BitVec 32 :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c32_i32_959 : BitVec 32 := 32#32
  let v2102 : BitVec 32 := Scalar.subi v1572 c32_i32_959
  let c1024_i32_960 : BitVec 32 := 1024#32
  let v2103 : BitVec 32 := Scalar.muli v2102 c1024_i32_960
  v2103
def k0_off38 (k0_t1 : Fin k0_t1_loop.trips) : Fin 1 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  ![v1573.toNat]
def k0_off39 (k0_t1 : Fin k0_t1_loop.trips) : Fin 3 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  let c0_i32_961 : BitVec 32 := 0#32
  let c0_i32_962 : BitVec 32 := 0#32
  ![v1573.toNat, 0, 0]
def k0_off40 (k0_t1 : Fin k0_t1_loop.trips) : Fin 2 → Nat :=
  let c0_i32_963 : BitVec 32 := 0#32
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c32_i32_959 : BitVec 32 := 32#32
  let v2102 : BitVec 32 := Scalar.subi v1572 c32_i32_959
  let c1024_i32_960 : BitVec 32 := 1024#32
  let v2103 : BitVec 32 := Scalar.muli v2102 c1024_i32_960
  let v2104 : BitVec 32 := v2103
  ![0, v2104.toNat]
def k0_cond16 (k0_t1 : Fin k0_t1_loop.trips) : BitVec 1 :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c157_i32_781 : BitVec 32 := 157#32
  let v1585 : BitVec 1 := Scalar.cmpi .eq v1572 c157_i32_781
  let v1586 : BitVec 32 := Scalar.extui v1585
  let c0_i32_782 : BitVec 32 := 0#32
  let v1587 : BitVec 1 := Scalar.cmpi .ne v1586 c0_i32_782
  v1587

def k0_off41 (k0_t1 : Fin k0_t1_loop.trips) : Fin 1 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  ![v1573.toNat]
def k0_off42 (k0_t1 : Fin k0_t1_loop.trips) : Fin 3 → Nat :=
  let c0_i32_124 : BitVec 32 := 0#32
  let c1_i32_126 : BitVec 32 := 1#32
  let arg39 : BitVec 32 := Scf.iv c0_i32_124 c1_i32_126 k0_t1
  let c3_i32_772 : BitVec 32 := 3#32
  let v1572 : BitVec 32 := Scalar.addi arg39 c3_i32_772
  let c4_i32_773 : BitVec 32 := 4#32
  let v1573 : BitVec 32 := Scalar.remsi v1572 c4_i32_773
  let c0_i32_959 : BitVec 32 := 0#32
  let c0_i32_960 : BitVec 32 := 0#32
  ![v1573.toNat, 0, 0]
def k0_cond17 (k0_t1 : Fin k0_t1_loop.trips) : BitVec 1 :=
  let c0_i32_124 : BitVec 32 := 0#32
  let c1_i32_126 : BitVec 32 := 1#32
  let arg39 : BitVec 32 := Scf.iv c0_i32_124 c1_i32_126 k0_t1
  let c2_i32_784 : BitVec 32 := 2#32
  let v1589 : BitVec 1 := Scalar.cmpi .sge arg39 c2_i32_784
  let v1590 : BitVec 32 := Scalar.extui v1589
  let c0_i32_785 : BitVec 32 := 0#32
  let v1591 : BitVec 1 := Scalar.cmpi .ne v1590 c0_i32_785
  v1591

def k0_off43 (k0_t1 : Fin k0_t1_loop.trips) : Fin 1 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  ![v1588.toNat]
def k0_off44 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let c0_i32_962 : BitVec 32 := 0#32
  let c0_i32_963 : BitVec 32 := 0#32
  let c0_i32_964 : BitVec 32 := 0#32
  ![v1588.toNat, 0, 0, 0]
def k0_off45 (k0_t1 : Fin k0_t1_loop.trips) : Fin 3 → Nat :=
  let c0_i32_124 : BitVec 32 := 0#32
  let c1_i32_126 : BitVec 32 := 1#32
  let arg39 : BitVec 32 := Scf.iv c0_i32_124 c1_i32_126 k0_t1
  let c4_i32_767 : BitVec 32 := 4#32
  let v1566 : BitVec 32 := Scalar.remsi arg39 c4_i32_767
  let v1594 : Index := Scalar.indexCast v1566
  let c0_789 : Index := 0#32
  let c0_790 : Index := 0#32
  ![v1594.toNat, 0, 0]
def k0_off46 (k0_t1 : Fin k0_t1_loop.trips) (c0_i32_792 : BitVec 32) : Fin 2 → Nat :=
  let c0_i32_124 : BitVec 32 := 0#32
  let c1_i32_126 : BitVec 32 := 1#32
  let arg39 : BitVec 32 := Scf.iv c0_i32_124 c1_i32_126 k0_t1
  let c8_i32_786 : BitVec 32 := 8#32
  let v1592 : BitVec 32 := Scalar.muli arg39 c8_i32_786
  let v1598 : BitVec 32 := Scalar.addi v1592 c0_i32_792
  let v1599 : Index := Scalar.indexCast v1598
  let c0_793 : Index := 0#32
  ![v1599.toNat, 0]
def k0_off47 (k0_t1 : Fin k0_t1_loop.trips) (c0_i32_816 : BitVec 32) : Fin 3 → Nat :=
  let c0_i32_124 : BitVec 32 := 0#32
  let c1_i32_126 : BitVec 32 := 1#32
  let arg39 : BitVec 32 := Scf.iv c0_i32_124 c1_i32_126 k0_t1
  let c8_i32_786 : BitVec 32 := 8#32
  let v1592 : BitVec 32 := Scalar.muli arg39 c8_i32_786
  let v1726 : BitVec 32 := Scalar.addi v1592 c0_i32_816
  let v1727 : Index := Scalar.indexCast v1726
  let c0_817 : Index := 0#32
  let c0_818 : Index := 0#32
  ![v1727.toNat, 0, 0]
def k0_off48 (k0_t1 : Fin k0_t1_loop.trips) (c0_i32_819 : BitVec 32) : Fin 3 → Nat :=
  let c0_i32_124 : BitVec 32 := 0#32
  let c1_i32_126 : BitVec 32 := 1#32
  let arg39 : BitVec 32 := Scf.iv c0_i32_124 c1_i32_126 k0_t1
  let c8_i32_786 : BitVec 32 := 8#32
  let v1592 : BitVec 32 := Scalar.muli arg39 c8_i32_786
  let v1731 : BitVec 32 := Scalar.addi v1592 c0_i32_819
  let v1732 : Index := Scalar.indexCast v1731
  let c8_820 : Index := 8#32
  let c0_821 : Index := 0#32
  ![v1732.toNat, 8, 0]
def k0_off49 (k0_t1 : Fin k0_t1_loop.trips) (c0_i32_822 : BitVec 32) : Fin 3 → Nat :=
  let c0_i32_124 : BitVec 32 := 0#32
  let c1_i32_126 : BitVec 32 := 1#32
  let arg39 : BitVec 32 := Scf.iv c0_i32_124 c1_i32_126 k0_t1
  let c8_i32_786 : BitVec 32 := 8#32
  let v1592 : BitVec 32 := Scalar.muli arg39 c8_i32_786
  let v1736 : BitVec 32 := Scalar.addi v1592 c0_i32_822
  let v1737 : Index := Scalar.indexCast v1736
  let c16_823 : Index := 16#32
  let c0_824 : Index := 0#32
  ![v1737.toNat, 16, 0]
def k0_off50 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1953 : Index := Scalar.indexCast v1588
  let c0_888 : Index := 0#32
  let c0_889 : Index := 0#32
  let c0_890 : Index := 0#32
  ![v1953.toNat, 0, 0, 0]
def k0_off51 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1959 : Index := Scalar.indexCast v1588
  let c1_891 : Index := 1#32
  let c0_892 : Index := 0#32
  let c0_893 : Index := 0#32
  ![v1959.toNat, 1, 0, 0]
def k0_off52 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1965 : Index := Scalar.indexCast v1588
  let c2_894 : Index := 2#32
  let c0_895 : Index := 0#32
  let c0_896 : Index := 0#32
  ![v1965.toNat, 2, 0, 0]
def k0_off53 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1971 : Index := Scalar.indexCast v1588
  let c0_897 : Index := 0#32
  let c0_898 : Index := 0#32
  let c128_899 : Index := 128#32
  ![v1971.toNat, 0, 0, 128]
def k0_off54 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1977 : Index := Scalar.indexCast v1588
  let c1_900 : Index := 1#32
  let c0_901 : Index := 0#32
  let c128_902 : Index := 128#32
  ![v1977.toNat, 1, 0, 128]
def k0_off55 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1983 : Index := Scalar.indexCast v1588
  let c2_903 : Index := 2#32
  let c0_904 : Index := 0#32
  let c128_905 : Index := 128#32
  ![v1983.toNat, 2, 0, 128]
def k0_off56 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1989 : Index := Scalar.indexCast v1588
  let c0_906 : Index := 0#32
  let c0_907 : Index := 0#32
  let c256 : Index := 256#32
  ![v1989.toNat, 0, 0, 256]
def k0_off57 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v1995 : Index := Scalar.indexCast v1588
  let c1_908 : Index := 1#32
  let c0_909 : Index := 0#32
  let c256_910 : Index := 256#32
  ![v1995.toNat, 1, 0, 256]
def k0_off58 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2001 : Index := Scalar.indexCast v1588
  let c2_911 : Index := 2#32
  let c0_912 : Index := 0#32
  let c256_913 : Index := 256#32
  ![v2001.toNat, 2, 0, 256]
def k0_off59 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2007 : Index := Scalar.indexCast v1588
  let c0_914 : Index := 0#32
  let c0_915 : Index := 0#32
  let c384 : Index := 384#32
  ![v2007.toNat, 0, 0, 384]
def k0_off60 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2013 : Index := Scalar.indexCast v1588
  let c1_916 : Index := 1#32
  let c0_917 : Index := 0#32
  let c384_918 : Index := 384#32
  ![v2013.toNat, 1, 0, 384]
def k0_off61 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2019 : Index := Scalar.indexCast v1588
  let c2_919 : Index := 2#32
  let c0_920 : Index := 0#32
  let c384_921 : Index := 384#32
  ![v2019.toNat, 2, 0, 384]
def k0_off62 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2025 : Index := Scalar.indexCast v1588
  let c0_922 : Index := 0#32
  let c0_923 : Index := 0#32
  let c512 : Index := 512#32
  ![v2025.toNat, 0, 0, 512]
def k0_off63 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2031 : Index := Scalar.indexCast v1588
  let c1_924 : Index := 1#32
  let c0_925 : Index := 0#32
  let c512_926 : Index := 512#32
  ![v2031.toNat, 1, 0, 512]
def k0_off64 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2037 : Index := Scalar.indexCast v1588
  let c2_927 : Index := 2#32
  let c0_928 : Index := 0#32
  let c512_929 : Index := 512#32
  ![v2037.toNat, 2, 0, 512]
def k0_off65 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2043 : Index := Scalar.indexCast v1588
  let c0_930 : Index := 0#32
  let c0_931 : Index := 0#32
  let c640 : Index := 640#32
  ![v2043.toNat, 0, 0, 640]
def k0_off66 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2049 : Index := Scalar.indexCast v1588
  let c1_932 : Index := 1#32
  let c0_933 : Index := 0#32
  let c640_934 : Index := 640#32
  ![v2049.toNat, 1, 0, 640]
def k0_off67 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2055 : Index := Scalar.indexCast v1588
  let c2_935 : Index := 2#32
  let c0_936 : Index := 0#32
  let c640_937 : Index := 640#32
  ![v2055.toNat, 2, 0, 640]
def k0_off68 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2061 : Index := Scalar.indexCast v1588
  let c0_938 : Index := 0#32
  let c0_939 : Index := 0#32
  let c768 : Index := 768#32
  ![v2061.toNat, 0, 0, 768]
def k0_off69 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2067 : Index := Scalar.indexCast v1588
  let c1_940 : Index := 1#32
  let c0_941 : Index := 0#32
  let c768_942 : Index := 768#32
  ![v2067.toNat, 1, 0, 768]
def k0_off70 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2073 : Index := Scalar.indexCast v1588
  let c2_943 : Index := 2#32
  let c0_944 : Index := 0#32
  let c768_945 : Index := 768#32
  ![v2073.toNat, 2, 0, 768]
def k0_off71 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2079 : Index := Scalar.indexCast v1588
  let c0_946 : Index := 0#32
  let c0_947 : Index := 0#32
  let c896 : Index := 896#32
  ![v2079.toNat, 0, 0, 896]
def k0_off72 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2085 : Index := Scalar.indexCast v1588
  let c1_948 : Index := 1#32
  let c0_949 : Index := 0#32
  let c896_950 : Index := 896#32
  ![v2085.toNat, 1, 0, 896]
def k0_off73 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let v2091 : Index := Scalar.indexCast v1588
  let c2_951 : Index := 2#32
  let c0_952 : Index := 0#32
  let c896_953 : Index := 896#32
  ![v2091.toNat, 2, 0, 896]
def k0_mult9 (k0_t1 : Fin k0_t1_loop.trips) : BitVec 32 :=
  let c0_i32_124 : BitVec 32 := 0#32
  let c1_i32_126 : BitVec 32 := 1#32
  let arg39 : BitVec 32 := Scf.iv c0_i32_124 c1_i32_126 k0_t1
  let c1024_i32 : BitVec 32 := 1024#32
  let v2095 : BitVec 32 := Scalar.muli arg39 c1024_i32
  v2095
def k0_off74 (k0_t1 : Fin k0_t1_loop.trips) : Fin 1 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  ![v1588.toNat]
def k0_off75 (k0_t1 : Fin k0_t1_loop.trips) : Fin 3 → Nat :=
  let c0_i32_954 : BitVec 32 := 0#32
  let c0_i32_955 : BitVec 32 := 0#32
  let c0_i32_124 : BitVec 32 := 0#32
  let c1_i32_126 : BitVec 32 := 1#32
  let arg39 : BitVec 32 := Scf.iv c0_i32_124 c1_i32_126 k0_t1
  let c1024_i32 : BitVec 32 := 1024#32
  let v2095 : BitVec 32 := Scalar.muli arg39 c1024_i32
  let v2096 : BitVec 32 := v2095
  ![0, 0, v2096.toNat]
def k0_off76 (k0_t1 : Fin k0_t1_loop.trips) : Fin 4 → Nat :=
  let c0_i32_124 : BitVec 32 := 0#32
  let c1_i32_126 : BitVec 32 := 1#32
  let arg39 : BitVec 32 := Scf.iv c0_i32_124 c1_i32_126 k0_t1
  let c2_i32_783 : BitVec 32 := 2#32
  let v1588 : BitVec 32 := Scalar.remsi arg39 c2_i32_783
  let c0_i32_956 : BitVec 32 := 0#32
  let c0_i32_957 : BitVec 32 := 0#32
  let c0_i32_958 : BitVec 32 := 0#32
  ![v1588.toNat, 0, 0, 0]
def k0_cond18 : BitVec 1 :=
  let c34_i32_151 : BitVec 32 := 34#32
  let c31_i32_152 : BitVec 32 := 31#32
  let v232 : BitVec 1 := Scalar.cmpi .slt c34_i32_151 c31_i32_152
  let v233 : BitVec 32 := Scalar.extui v232
  let c0_i32_154 : BitVec 32 := 0#32
  let v234 : BitVec 1 := Scalar.cmpi .ne v233 c0_i32_154
  v234

def k0_mult10 : BitVec 32 :=
  let c34_i32_153 : BitVec 32 := 34#32
  let c1024_i32 : BitVec 32 := 1024#32
  let v1566 : BitVec 32 := Scalar.muli c34_i32_153 c1024_i32
  v1566
def k0_off77 : Fin 1 → Nat :=
  let c34_i32 : BitVec 32 := 34#32
  let c4_i32_150 : BitVec 32 := 4#32
  let v231 : BitVec 32 := Scalar.remsi c34_i32 c4_i32_150
  ![v231.toNat]
def k0_off78 : Fin 3 → Nat :=
  let c34_i32 : BitVec 32 := 34#32
  let c4_i32_150 : BitVec 32 := 4#32
  let v231 : BitVec 32 := Scalar.remsi c34_i32 c4_i32_150
  let c0_i32_767 : BitVec 32 := 0#32
  let c0_i32_768 : BitVec 32 := 0#32
  ![v231.toNat, 0, 0]
def k0_off79 : Fin 2 → Nat :=
  let c0_i32_769 : BitVec 32 := 0#32
  let c34_i32_153 : BitVec 32 := 34#32
  let c1024_i32 : BitVec 32 := 1024#32
  let v1566 : BitVec 32 := Scalar.muli c34_i32_153 c1024_i32
  let v1567 : BitVec 32 := v1566
  ![0, v1567.toNat]
def k0_cond19 : BitVec 1 :=
  let c34_i32_155 : BitVec 32 := 34#32
  let c31_i32_156 : BitVec 32 := 31#32
  let v235 : BitVec 1 := Scalar.cmpi .eq c34_i32_155 c31_i32_156
  let v236 : BitVec 32 := Scalar.extui v235
  let c0_i32_157 : BitVec 32 := 0#32
  let v237 : BitVec 1 := Scalar.cmpi .ne v236 c0_i32_157
  v237

def k0_off80 : Fin 1 → Nat :=
  let c34_i32 : BitVec 32 := 34#32
  let c4_i32_150 : BitVec 32 := 4#32
  let v231 : BitVec 32 := Scalar.remsi c34_i32 c4_i32_150
  ![v231.toNat]
def k0_off81 : Fin 3 → Nat :=
  let c34_i32 : BitVec 32 := 34#32
  let c4_i32_150 : BitVec 32 := 4#32
  let v231 : BitVec 32 := Scalar.remsi c34_i32 c4_i32_150
  let c0_i32_767 : BitVec 32 := 0#32
  let c0_i32_768 : BitVec 32 := 0#32
  ![v231.toNat, 0, 0]
def k0_cond20 : BitVec 1 :=
  let c34_i32_158 : BitVec 32 := 34#32
  let c32_i32_159 : BitVec 32 := 32#32
  let v238 : BitVec 1 := Scalar.cmpi .sge c34_i32_158 c32_i32_159
  let c34_i32_160 : BitVec 32 := 34#32
  let c157_i32_161 : BitVec 32 := 157#32
  let v239 : BitVec 1 := Scalar.cmpi .slt c34_i32_160 c157_i32_161
  let v240 : BitVec 1 := Scalar.andi v238 v239
  let v241 : BitVec 32 := Scalar.extui v240
  let c0_i32_163 : BitVec 32 := 0#32
  let v242 : BitVec 1 := Scalar.cmpi .ne v241 c0_i32_163
  v242

def k0_mult11 : BitVec 32 :=
  let c34_i32_162 : BitVec 32 := 34#32
  let c32_i32_767 : BitVec 32 := 32#32
  let v1566 : BitVec 32 := Scalar.subi c34_i32_162 c32_i32_767
  let c1024_i32 : BitVec 32 := 1024#32
  let v1567 : BitVec 32 := Scalar.muli v1566 c1024_i32
  v1567
def k0_off82 : Fin 1 → Nat :=
  let c34_i32 : BitVec 32 := 34#32
  let c4_i32_150 : BitVec 32 := 4#32
  let v231 : BitVec 32 := Scalar.remsi c34_i32 c4_i32_150
  ![v231.toNat]
def k0_off83 : Fin 3 → Nat :=
  let c34_i32 : BitVec 32 := 34#32
  let c4_i32_150 : BitVec 32 := 4#32
  let v231 : BitVec 32 := Scalar.remsi c34_i32 c4_i32_150
  let c0_i32_768 : BitVec 32 := 0#32
  let c0_i32_769 : BitVec 32 := 0#32
  ![v231.toNat, 0, 0]
def k0_off84 : Fin 2 → Nat :=
  let c0_i32_770 : BitVec 32 := 0#32
  let c34_i32_162 : BitVec 32 := 34#32
  let c32_i32_767 : BitVec 32 := 32#32
  let v1566 : BitVec 32 := Scalar.subi c34_i32_162 c32_i32_767
  let c1024_i32 : BitVec 32 := 1024#32
  let v1567 : BitVec 32 := Scalar.muli v1566 c1024_i32
  let v1568 : BitVec 32 := v1567
  ![0, v1568.toNat]
def k0_cond21 : BitVec 1 :=
  let c34_i32_164 : BitVec 32 := 34#32
  let c157_i32_165 : BitVec 32 := 157#32
  let v243 : BitVec 1 := Scalar.cmpi .eq c34_i32_164 c157_i32_165
  let v244 : BitVec 32 := Scalar.extui v243
  let c0_i32_166 : BitVec 32 := 0#32
  let v245 : BitVec 1 := Scalar.cmpi .ne v244 c0_i32_166
  v245

def k0_off85 : Fin 1 → Nat :=
  let c34_i32 : BitVec 32 := 34#32
  let c4_i32_150 : BitVec 32 := 4#32
  let v231 : BitVec 32 := Scalar.remsi c34_i32 c4_i32_150
  ![v231.toNat]
def k0_off86 : Fin 3 → Nat :=
  let c34_i32 : BitVec 32 := 34#32
  let c4_i32_150 : BitVec 32 := 4#32
  let v231 : BitVec 32 := Scalar.remsi c34_i32 c4_i32_150
  let c0_i32_767 : BitVec 32 := 0#32
  let c0_i32_768 : BitVec 32 := 0#32
  ![v231.toNat, 0, 0]
@[reducible] def k0_t2_loop : Scf.Loop 32 :=
  let c0_i32_228 : BitVec 32 := 0#32
  let c250_i32 : BitVec 32 := 250#32
  let v401 : BitVec 32 := Scalar.addi c0_i32_228 c250_i32
  let c1_i32_229 : BitVec 32 := 1#32
  ⟨c0_i32_228, v401, c1_i32_229⟩
def k0_off87 (k0_t2 : Fin k0_t2_loop.trips) : Fin 3 → Nat :=
  let c0_i32_228 : BitVec 32 := 0#32
  let c1_i32_229 : BitVec 32 := 1#32
  let arg39 : BitVec 32 := Scf.iv c0_i32_228 c1_i32_229 k0_t2
  let v1566 : Index := Scalar.indexCast arg39
  let c0_767 : Index := 0#32
  let c0_768 : Index := 0#32
  ![v1566.toNat, 0, 0]
@[reducible] def k0_t3_loop : Scf.Loop 32 :=
  let c0_i32_295 : BitVec 32 := 0#32
  let c125_i32 : BitVec 32 := 125#32
  let v510 : BitVec 32 := Scalar.addi c0_i32_295 c125_i32
  let c1_i32_296 : BitVec 32 := 1#32
  ⟨c0_i32_295, v510, c1_i32_296⟩
def k0_off88 (k0_t3 : Fin k0_t3_loop.trips) : Fin 1 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c4_i32_768 : BitVec 32 := 4#32
  let v1567 : BitVec 32 := Scalar.remsi v1566 c4_i32_768
  ![v1567.toNat]
def k0_off89 (k0_t3 : Fin k0_t3_loop.trips) : Fin 3 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c4_i32_768 : BitVec 32 := 4#32
  let v1567 : BitVec 32 := Scalar.remsi v1566 c4_i32_768
  let c0_i32_769 : BitVec 32 := 0#32
  let c0_i32_770 : BitVec 32 := 0#32
  ![v1567.toNat, 0, 0]
def k0_cond22 (k0_t3 : Fin k0_t3_loop.trips) : BitVec 1 :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c31_i32_775 : BitVec 32 := 31#32
  let v1575 : BitVec 1 := Scalar.cmpi .slt v1573 c31_i32_775
  let v1576 : BitVec 32 := Scalar.extui v1575
  let c0_i32_776 : BitVec 32 := 0#32
  let v1577 : BitVec 1 := Scalar.cmpi .ne v1576 c0_i32_776
  v1577

def k0_mult12 (k0_t3 : Fin k0_t3_loop.trips) : BitVec 32 :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c1024_i32_1424 : BitVec 32 := 1024#32
  let v3471 : BitVec 32 := Scalar.muli v1573 c1024_i32_1424
  v3471
def k0_off90 (k0_t3 : Fin k0_t3_loop.trips) : Fin 1 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  ![v1574.toNat]
def k0_off91 (k0_t3 : Fin k0_t3_loop.trips) : Fin 3 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  let c0_i32_1425 : BitVec 32 := 0#32
  let c0_i32_1426 : BitVec 32 := 0#32
  ![v1574.toNat, 0, 0]
def k0_off92 (k0_t3 : Fin k0_t3_loop.trips) : Fin 2 → Nat :=
  let c0_i32_1427 : BitVec 32 := 0#32
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c1024_i32_1424 : BitVec 32 := 1024#32
  let v3471 : BitVec 32 := Scalar.muli v1573 c1024_i32_1424
  let v3472 : BitVec 32 := v3471
  ![0, v3472.toNat]
def k0_cond23 (k0_t3 : Fin k0_t3_loop.trips) : BitVec 1 :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c31_i32_777 : BitVec 32 := 31#32
  let v1578 : BitVec 1 := Scalar.cmpi .eq v1573 c31_i32_777
  let v1579 : BitVec 32 := Scalar.extui v1578
  let c0_i32_778 : BitVec 32 := 0#32
  let v1580 : BitVec 1 := Scalar.cmpi .ne v1579 c0_i32_778
  v1580

def k0_off93 (k0_t3 : Fin k0_t3_loop.trips) : Fin 1 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  ![v1574.toNat]
def k0_off94 (k0_t3 : Fin k0_t3_loop.trips) : Fin 3 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  let c0_i32_1424 : BitVec 32 := 0#32
  let c0_i32_1425 : BitVec 32 := 0#32
  ![v1574.toNat, 0, 0]
def k0_cond24 (k0_t3 : Fin k0_t3_loop.trips) : BitVec 1 :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c32_i32_779 : BitVec 32 := 32#32
  let v1581 : BitVec 1 := Scalar.cmpi .sge v1573 c32_i32_779
  let c157_i32_780 : BitVec 32 := 157#32
  let v1582 : BitVec 1 := Scalar.cmpi .slt v1573 c157_i32_780
  let v1583 : BitVec 1 := Scalar.andi v1581 v1582
  let v1584 : BitVec 32 := Scalar.extui v1583
  let c0_i32_781 : BitVec 32 := 0#32
  let v1585 : BitVec 1 := Scalar.cmpi .ne v1584 c0_i32_781
  v1585

def k0_mult13 (k0_t3 : Fin k0_t3_loop.trips) : BitVec 32 :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c32_i32_1424 : BitVec 32 := 32#32
  let v3471 : BitVec 32 := Scalar.subi v1573 c32_i32_1424
  let c1024_i32_1425 : BitVec 32 := 1024#32
  let v3472 : BitVec 32 := Scalar.muli v3471 c1024_i32_1425
  v3472
def k0_off95 (k0_t3 : Fin k0_t3_loop.trips) : Fin 1 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  ![v1574.toNat]
def k0_off96 (k0_t3 : Fin k0_t3_loop.trips) : Fin 3 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  let c0_i32_1426 : BitVec 32 := 0#32
  let c0_i32_1427 : BitVec 32 := 0#32
  ![v1574.toNat, 0, 0]
def k0_off97 (k0_t3 : Fin k0_t3_loop.trips) : Fin 2 → Nat :=
  let c0_i32_1428 : BitVec 32 := 0#32
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c32_i32_1424 : BitVec 32 := 32#32
  let v3471 : BitVec 32 := Scalar.subi v1573 c32_i32_1424
  let c1024_i32_1425 : BitVec 32 := 1024#32
  let v3472 : BitVec 32 := Scalar.muli v3471 c1024_i32_1425
  let v3473 : BitVec 32 := v3472
  ![0, v3473.toNat]
def k0_cond25 (k0_t3 : Fin k0_t3_loop.trips) : BitVec 1 :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c157_i32_782 : BitVec 32 := 157#32
  let v1586 : BitVec 1 := Scalar.cmpi .eq v1573 c157_i32_782
  let v1587 : BitVec 32 := Scalar.extui v1586
  let c0_i32_783 : BitVec 32 := 0#32
  let v1588 : BitVec 1 := Scalar.cmpi .ne v1587 c0_i32_783
  v1588

def k0_off98 (k0_t3 : Fin k0_t3_loop.trips) : Fin 1 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  ![v1574.toNat]
def k0_off99 (k0_t3 : Fin k0_t3_loop.trips) : Fin 3 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c3_i32_773 : BitVec 32 := 3#32
  let v1573 : BitVec 32 := Scalar.addi v1566 c3_i32_773
  let c4_i32_774 : BitVec 32 := 4#32
  let v1574 : BitVec 32 := Scalar.remsi v1573 c4_i32_774
  let c0_i32_1424 : BitVec 32 := 0#32
  let c0_i32_1425 : BitVec 32 := 0#32
  ![v1574.toNat, 0, 0]
def k0_cond26 (k0_t3 : Fin k0_t3_loop.trips) : BitVec 1 :=
  let c0_i32_295 : BitVec 32 := 0#32
  let c1_i32_296 : BitVec 32 := 1#32
  let arg39 : BitVec 32 := Scf.iv c0_i32_295 c1_i32_296 k0_t3
  let c2_i32_785 : BitVec 32 := 2#32
  let v1590 : BitVec 1 := Scalar.cmpi .sge arg39 c2_i32_785
  let v1591 : BitVec 32 := Scalar.extui v1590
  let c0_i32_786 : BitVec 32 := 0#32
  let v1592 : BitVec 1 := Scalar.cmpi .ne v1591 c0_i32_786
  v1592

def k0_off100 (k0_t3 : Fin k0_t3_loop.trips) : Fin 1 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  ![v1589.toNat]
def k0_off101 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let c0_i32_1427 : BitVec 32 := 0#32
  let c0_i32_1428 : BitVec 32 := 0#32
  let c0_i32_1429 : BitVec 32 := 0#32
  ![v1589.toNat, 0, 0, 0]
def k0_off102 (k0_t3 : Fin k0_t3_loop.trips) : Fin 3 → Nat :=
  let c0_i32_295 : BitVec 32 := 0#32
  let c1_i32_296 : BitVec 32 := 1#32
  let arg39 : BitVec 32 := Scf.iv c0_i32_295 c1_i32_296 k0_t3
  let c32_i32_767 : BitVec 32 := 32#32
  let v1566 : BitVec 32 := Scalar.addi arg39 c32_i32_767
  let c4_i32_768 : BitVec 32 := 4#32
  let v1567 : BitVec 32 := Scalar.remsi v1566 c4_i32_768
  let v1595 : Index := Scalar.indexCast v1567
  let c0_790 : Index := 0#32
  let c0_791 : Index := 0#32
  ![v1595.toNat, 0, 0]
def k0_off103 (k0_t3 : Fin k0_t3_loop.trips) (c0_i32_793 : BitVec 32) : Fin 2 → Nat :=
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let v1599 : BitVec 32 := Scalar.addi v1593 c0_i32_793
  let v1600 : Index := Scalar.indexCast v1599
  let c0_794 : Index := 0#32
  ![v1600.toNat, 0]
def k0_off104 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1833 : Index := Scalar.indexCast v1589
  let c0_817 : Index := 0#32
  let c0_818 : Index := 0#32
  let c0_819 : Index := 0#32
  ![v1833.toNat, 0, 0, 0]
def k0_off105 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1838 : Index := Scalar.indexCast v1589
  let c1_820 : Index := 1#32
  let c0_821 : Index := 0#32
  let c0_822 : Index := 0#32
  ![v1838.toNat, 1, 0, 0]
def k0_off106 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1843 : Index := Scalar.indexCast v1589
  let c2_823 : Index := 2#32
  let c0_824 : Index := 0#32
  let c0_825 : Index := 0#32
  ![v1843.toNat, 2, 0, 0]
def k0_off107 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1848 : Index := Scalar.indexCast v1589
  let c0_826 : Index := 0#32
  let c0_827 : Index := 0#32
  let c128_828 : Index := 128#32
  ![v1848.toNat, 0, 0, 128]
def k0_off108 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1853 : Index := Scalar.indexCast v1589
  let c1_829 : Index := 1#32
  let c0_830 : Index := 0#32
  let c128_831 : Index := 128#32
  ![v1853.toNat, 1, 0, 128]
def k0_off109 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1858 : Index := Scalar.indexCast v1589
  let c2_832 : Index := 2#32
  let c0_833 : Index := 0#32
  let c128_834 : Index := 128#32
  ![v1858.toNat, 2, 0, 128]
def k0_off110 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1863 : Index := Scalar.indexCast v1589
  let c0_835 : Index := 0#32
  let c0_836 : Index := 0#32
  let c256 : Index := 256#32
  ![v1863.toNat, 0, 0, 256]
def k0_off111 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1868 : Index := Scalar.indexCast v1589
  let c1_837 : Index := 1#32
  let c0_838 : Index := 0#32
  let c256_839 : Index := 256#32
  ![v1868.toNat, 1, 0, 256]
def k0_off112 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1873 : Index := Scalar.indexCast v1589
  let c2_840 : Index := 2#32
  let c0_841 : Index := 0#32
  let c256_842 : Index := 256#32
  ![v1873.toNat, 2, 0, 256]
def k0_off113 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1878 : Index := Scalar.indexCast v1589
  let c0_843 : Index := 0#32
  let c0_844 : Index := 0#32
  let c384 : Index := 384#32
  ![v1878.toNat, 0, 0, 384]
def k0_off114 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1883 : Index := Scalar.indexCast v1589
  let c1_845 : Index := 1#32
  let c0_846 : Index := 0#32
  let c384_847 : Index := 384#32
  ![v1883.toNat, 1, 0, 384]
def k0_off115 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1888 : Index := Scalar.indexCast v1589
  let c2_848 : Index := 2#32
  let c0_849 : Index := 0#32
  let c384_850 : Index := 384#32
  ![v1888.toNat, 2, 0, 384]
def k0_off116 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1893 : Index := Scalar.indexCast v1589
  let c0_851 : Index := 0#32
  let c0_852 : Index := 0#32
  let c512 : Index := 512#32
  ![v1893.toNat, 0, 0, 512]
def k0_off117 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1898 : Index := Scalar.indexCast v1589
  let c1_853 : Index := 1#32
  let c0_854 : Index := 0#32
  let c512_855 : Index := 512#32
  ![v1898.toNat, 1, 0, 512]
def k0_off118 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1903 : Index := Scalar.indexCast v1589
  let c2_856 : Index := 2#32
  let c0_857 : Index := 0#32
  let c512_858 : Index := 512#32
  ![v1903.toNat, 2, 0, 512]
def k0_off119 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1908 : Index := Scalar.indexCast v1589
  let c0_859 : Index := 0#32
  let c0_860 : Index := 0#32
  let c640 : Index := 640#32
  ![v1908.toNat, 0, 0, 640]
def k0_off120 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1913 : Index := Scalar.indexCast v1589
  let c1_861 : Index := 1#32
  let c0_862 : Index := 0#32
  let c640_863 : Index := 640#32
  ![v1913.toNat, 1, 0, 640]
def k0_off121 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1918 : Index := Scalar.indexCast v1589
  let c2_864 : Index := 2#32
  let c0_865 : Index := 0#32
  let c640_866 : Index := 640#32
  ![v1918.toNat, 2, 0, 640]
def k0_off122 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1923 : Index := Scalar.indexCast v1589
  let c0_867 : Index := 0#32
  let c0_868 : Index := 0#32
  let c768 : Index := 768#32
  ![v1923.toNat, 0, 0, 768]
def k0_off123 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1928 : Index := Scalar.indexCast v1589
  let c1_869 : Index := 1#32
  let c0_870 : Index := 0#32
  let c768_871 : Index := 768#32
  ![v1928.toNat, 1, 0, 768]
def k0_off124 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1933 : Index := Scalar.indexCast v1589
  let c2_872 : Index := 2#32
  let c0_873 : Index := 0#32
  let c768_874 : Index := 768#32
  ![v1933.toNat, 2, 0, 768]
def k0_off125 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1938 : Index := Scalar.indexCast v1589
  let c0_875 : Index := 0#32
  let c0_876 : Index := 0#32
  let c896 : Index := 896#32
  ![v1938.toNat, 0, 0, 896]
def k0_off126 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1943 : Index := Scalar.indexCast v1589
  let c1_877 : Index := 1#32
  let c0_878 : Index := 0#32
  let c896_879 : Index := 896#32
  ![v1943.toNat, 1, 0, 896]
def k0_off127 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let v1948 : Index := Scalar.indexCast v1589
  let c2_880 : Index := 2#32
  let c0_881 : Index := 0#32
  let c896_882 : Index := 896#32
  ![v1948.toNat, 2, 0, 896]
def k0_mult14 (k0_t3 : Fin k0_t3_loop.trips) : BitVec 32 :=
  let c0_i32_295 : BitVec 32 := 0#32
  let c1_i32_296 : BitVec 32 := 1#32
  let arg39 : BitVec 32 := Scf.iv c0_i32_295 c1_i32_296 k0_t3
  let c1024_i32 : BitVec 32 := 1024#32
  let v1952 : BitVec 32 := Scalar.muli arg39 c1024_i32
  v1952
def k0_off128 (k0_t3 : Fin k0_t3_loop.trips) : Fin 1 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  ![v1589.toNat]
def k0_off129 (k0_t3 : Fin k0_t3_loop.trips) : Fin 3 → Nat :=
  let c0_i32_883 : BitVec 32 := 0#32
  let c0_i32_884 : BitVec 32 := 0#32
  let c0_i32_295 : BitVec 32 := 0#32
  let c1_i32_296 : BitVec 32 := 1#32
  let arg39 : BitVec 32 := Scf.iv c0_i32_295 c1_i32_296 k0_t3
  let c1024_i32 : BitVec 32 := 1024#32
  let v1952 : BitVec 32 := Scalar.muli arg39 c1024_i32
  let v1953 : BitVec 32 := v1952
  ![0, 0, v1953.toNat]
def k0_off130 (k0_t3 : Fin k0_t3_loop.trips) : Fin 4 → Nat :=
  let c0_i32_295 : BitVec 32 := 0#32
  let c1_i32_296 : BitVec 32 := 1#32
  let arg39 : BitVec 32 := Scf.iv c0_i32_295 c1_i32_296 k0_t3
  let c2_i32_784 : BitVec 32 := 2#32
  let v1589 : BitVec 32 := Scalar.remsi arg39 c2_i32_784
  let c0_i32_885 : BitVec 32 := 0#32
  let c0_i32_886 : BitVec 32 := 0#32
  let c0_i32_887 : BitVec 32 := 0#32
  ![v1589.toNat, 0, 0, 0]
def k0_off131 (arg46 : BitVec 32) : Fin 2 → Nat :=
  let v1961 : Index := Scalar.indexCast arg46
  let c0_890 : Index := 0#32
  ![v1961.toNat, 0]

def k0_off132 (arg46 : BitVec 32) : Fin 3 → Nat :=
  let v1992 : Index := Scalar.indexCast arg46
  let c0_899 : Index := 0#32
  let c0_900 : Index := 0#32
  ![v1992.toNat, 0, 0]
def k0_off133 (arg46 : BitVec 32) : Fin 3 → Nat :=
  let v2016 : Index := Scalar.indexCast arg46
  let c8_907 : Index := 8#32
  let c0_908 : Index := 0#32
  ![v2016.toNat, 8, 0]
def k0_off134 (arg46 : BitVec 32) : Fin 3 → Nat :=
  let v2040 : Index := Scalar.indexCast arg46
  let c16_915 : Index := 16#32
  let c0_916 : Index := 0#32
  ![v2040.toNat, 16, 0]
def k0_off135 (arg46 : BitVec 32) : Fin 2 → Nat :=
  let c1_i32_888 : BitVec 32 := 1#32
  let v1959 : BitVec 32 := Scalar.addi arg46 c1_i32_888
  let c249_i32_889 : BitVec 32 := 249#32
  let v1960 : BitVec 32 := Scalar.minsi v1959 c249_i32_889
  let v2048 : Index := Scalar.indexCast v1960
  let c0_919 : Index := 0#32
  ![v2048.toNat, 0]
def k0_off136 (arg46 : BitVec 32) : Fin 3 → Nat :=
  let c1_i32_888 : BitVec 32 := 1#32
  let v1959 : BitVec 32 := Scalar.addi arg46 c1_i32_888
  let c249_i32_889 : BitVec 32 := 249#32
  let v1960 : BitVec 32 := Scalar.minsi v1959 c249_i32_889
  let v2079 : Index := Scalar.indexCast v1960
  let c0_928 : Index := 0#32
  let c0_929 : Index := 0#32
  ![v2079.toNat, 0, 0]
def k0_off137 (arg46 : BitVec 32) : Fin 3 → Nat :=
  let c1_i32_888 : BitVec 32 := 1#32
  let v1959 : BitVec 32 := Scalar.addi arg46 c1_i32_888
  let c249_i32_889 : BitVec 32 := 249#32
  let v1960 : BitVec 32 := Scalar.minsi v1959 c249_i32_889
  let v2103 : Index := Scalar.indexCast v1960
  let c8_936 : Index := 8#32
  let c0_937 : Index := 0#32
  ![v2103.toNat, 8, 0]
def k0_off138 (arg46 : BitVec 32) : Fin 3 → Nat :=
  let c1_i32_888 : BitVec 32 := 1#32
  let v1959 : BitVec 32 := Scalar.addi arg46 c1_i32_888
  let c249_i32_889 : BitVec 32 := 249#32
  let v1960 : BitVec 32 := Scalar.minsi v1959 c249_i32_889
  let v2127 : Index := Scalar.indexCast v1960
  let c16_944 : Index := 16#32
  let c0_945 : Index := 0#32
  ![v2127.toNat, 16, 0]
def k0_off139 (arg46 : BitVec 32) : Fin 2 → Nat :=
  let v2137 : Index := Scalar.indexCast arg46
  let c127_950 : Index := 127#32
  ![v2137.toNat, 127]

def k0_chk1 (arg46 : BitVec 32) : Prop :=
  (∀ a, (k0_off131 arg46) a + S1x128.size a ≤ S250x128.size a) ∧
  (∀ a, (k0_off132 arg46) a + S1x8x128.size a ≤ S250x24x128.size a) ∧
  (∀ a, (k0_off133 arg46) a + S1x8x128.size a ≤ S250x24x128.size a) ∧
  (∀ a, (k0_off134 arg46) a + S1x8x128.size a ≤ S250x24x128.size a) ∧
  (∀ a, (k0_off135 arg46) a + S1x128.size a ≤ S250x128.size a) ∧
  (∀ a, (k0_off136 arg46) a + S1x8x128.size a ≤ S250x24x128.size a) ∧
  (∀ a, (k0_off137 arg46) a + S1x8x128.size a ≤ S250x24x128.size a) ∧
  (∀ a, (k0_off138 arg46) a + S1x8x128.size a ≤ S250x24x128.size a) ∧
  (∀ a, (k0_off139 arg46) a + S1x1.size a ≤ S250x128.size a)
theorem k0_off131_inb : ∀ (arg46 : BitVec 32) (k0_hw1 : k0_chk1 arg46), ∀ a, (k0_off131 arg46) a + S1x128.size a ≤ S250x128.size a := fun arg46 k0_hw1 => k0_hw1.1
theorem k0_off132_inb : ∀ (arg46 : BitVec 32) (k0_hw1 : k0_chk1 arg46), ∀ a, (k0_off132 arg46) a + S1x8x128.size a ≤ S250x24x128.size a := fun arg46 k0_hw1 => k0_hw1.2.1
theorem k0_off133_inb : ∀ (arg46 : BitVec 32) (k0_hw1 : k0_chk1 arg46), ∀ a, (k0_off133 arg46) a + S1x8x128.size a ≤ S250x24x128.size a := fun arg46 k0_hw1 => k0_hw1.2.2.1
theorem k0_off134_inb : ∀ (arg46 : BitVec 32) (k0_hw1 : k0_chk1 arg46), ∀ a, (k0_off134 arg46) a + S1x8x128.size a ≤ S250x24x128.size a := fun arg46 k0_hw1 => k0_hw1.2.2.2.1
theorem k0_off135_inb : ∀ (arg46 : BitVec 32) (k0_hw1 : k0_chk1 arg46), ∀ a, (k0_off135 arg46) a + S1x128.size a ≤ S250x128.size a := fun arg46 k0_hw1 => k0_hw1.2.2.2.2.1
theorem k0_off136_inb : ∀ (arg46 : BitVec 32) (k0_hw1 : k0_chk1 arg46), ∀ a, (k0_off136 arg46) a + S1x8x128.size a ≤ S250x24x128.size a := fun arg46 k0_hw1 => k0_hw1.2.2.2.2.2.1
theorem k0_off137_inb : ∀ (arg46 : BitVec 32) (k0_hw1 : k0_chk1 arg46), ∀ a, (k0_off137 arg46) a + S1x8x128.size a ≤ S250x24x128.size a := fun arg46 k0_hw1 => k0_hw1.2.2.2.2.2.2.1
theorem k0_off138_inb : ∀ (arg46 : BitVec 32) (k0_hw1 : k0_chk1 arg46), ∀ a, (k0_off138 arg46) a + S1x8x128.size a ≤ S250x24x128.size a := fun arg46 k0_hw1 => k0_hw1.2.2.2.2.2.2.2.1
theorem k0_off139_inb : ∀ (arg46 : BitVec 32) (k0_hw1 : k0_chk1 arg46), ∀ a, (k0_off139 arg46) a + S1x1.size a ≤ S250x128.size a := fun arg46 k0_hw1 => k0_hw1.2.2.2.2.2.2.2.2

def k0_off140 (k0_t3 : Fin k0_t3_loop.trips) (arg46 : BitVec 32) (v2138 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let v2150 : Index := Scalar.indexCast v2147
  let c0_957 : Index := 0#32
  ![v2150.toNat, 0]

def k0_off141 (k0_t3 : Fin k0_t3_loop.trips) (arg46 : BitVec 32) (v2138 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let v2181 : Index := Scalar.indexCast v2147
  let c0_966 : Index := 0#32
  let c0_967 : Index := 0#32
  ![v2181.toNat, 0, 0]
def k0_off142 (k0_t3 : Fin k0_t3_loop.trips) (arg46 : BitVec 32) (v2138 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let v2205 : Index := Scalar.indexCast v2147
  let c8_974 : Index := 8#32
  let c0_975 : Index := 0#32
  ![v2205.toNat, 8, 0]
def k0_off143 (k0_t3 : Fin k0_t3_loop.trips) (arg46 : BitVec 32) (v2138 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let v2229 : Index := Scalar.indexCast v2147
  let c16_982 : Index := 16#32
  let c0_983 : Index := 0#32
  ![v2229.toNat, 16, 0]
def k0_off144 (k0_t3 : Fin k0_t3_loop.trips) (arg46 : BitVec 32) (v2138 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c1_i32_955 : BitVec 32 := 1#32
  let v2148 : BitVec 32 := Scalar.addi v2147 c1_i32_955
  let c249_i32_956 : BitVec 32 := 249#32
  let v2149 : BitVec 32 := Scalar.minsi v2148 c249_i32_956
  let v2237 : Index := Scalar.indexCast v2149
  let c0_986 : Index := 0#32
  ![v2237.toNat, 0]
def k0_off145 (k0_t3 : Fin k0_t3_loop.trips) (arg46 : BitVec 32) (v2138 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c1_i32_955 : BitVec 32 := 1#32
  let v2148 : BitVec 32 := Scalar.addi v2147 c1_i32_955
  let c249_i32_956 : BitVec 32 := 249#32
  let v2149 : BitVec 32 := Scalar.minsi v2148 c249_i32_956
  let v2268 : Index := Scalar.indexCast v2149
  let c0_995 : Index := 0#32
  let c0_996 : Index := 0#32
  ![v2268.toNat, 0, 0]
def k0_off146 (k0_t3 : Fin k0_t3_loop.trips) (arg46 : BitVec 32) (v2138 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c1_i32_955 : BitVec 32 := 1#32
  let v2148 : BitVec 32 := Scalar.addi v2147 c1_i32_955
  let c249_i32_956 : BitVec 32 := 249#32
  let v2149 : BitVec 32 := Scalar.minsi v2148 c249_i32_956
  let v2292 : Index := Scalar.indexCast v2149
  let c8_1003 : Index := 8#32
  let c0_1004 : Index := 0#32
  ![v2292.toNat, 8, 0]
def k0_off147 (k0_t3 : Fin k0_t3_loop.trips) (arg46 : BitVec 32) (v2138 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c1_i32_955 : BitVec 32 := 1#32
  let v2148 : BitVec 32 := Scalar.addi v2147 c1_i32_955
  let c249_i32_956 : BitVec 32 := 249#32
  let v2149 : BitVec 32 := Scalar.minsi v2148 c249_i32_956
  let v2316 : Index := Scalar.indexCast v2149
  let c16_1011 : Index := 16#32
  let c0_1012 : Index := 0#32
  ![v2316.toNat, 16, 0]
def k0_off148 (k0_t3 : Fin k0_t3_loop.trips) (arg46 : BitVec 32) (v2138 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let v2326 : Index := Scalar.indexCast v2147
  let c127_1017 : Index := 127#32
  ![v2326.toNat, 127]

def k0_chk2 (k0_t3 : Fin k0_t3_loop.trips) (arg46 : BitVec 32) (v2138 : BitVec 32) : Prop :=
  (∀ a, (k0_off140 k0_t3 arg46 v2138) a + S1x128.size a ≤ S250x128.size a) ∧
  (∀ a, (k0_off141 k0_t3 arg46 v2138) a + S1x8x128.size a ≤ S250x24x128.size a) ∧
  (∀ a, (k0_off142 k0_t3 arg46 v2138) a + S1x8x128.size a ≤ S250x24x128.size a) ∧
  (∀ a, (k0_off143 k0_t3 arg46 v2138) a + S1x8x128.size a ≤ S250x24x128.size a) ∧
  (∀ a, (k0_off144 k0_t3 arg46 v2138) a + S1x128.size a ≤ S250x128.size a) ∧
  (∀ a, (k0_off145 k0_t3 arg46 v2138) a + S1x8x128.size a ≤ S250x24x128.size a) ∧
  (∀ a, (k0_off146 k0_t3 arg46 v2138) a + S1x8x128.size a ≤ S250x24x128.size a) ∧
  (∀ a, (k0_off147 k0_t3 arg46 v2138) a + S1x8x128.size a ≤ S250x24x128.size a) ∧
  (∀ a, (k0_off148 k0_t3 arg46 v2138) a + S1x1.size a ≤ S250x128.size a)
theorem k0_off140_inb : ∀ (k0_t3 : Fin k0_t3_loop.trips) (arg46 : BitVec 32) (v2138 : BitVec 32) (k0_hw2 : k0_chk2 k0_t3 arg46 v2138), ∀ a, (k0_off140 k0_t3 arg46 v2138) a + S1x128.size a ≤ S250x128.size a := fun k0_t3 arg46 v2138 k0_hw2 => k0_hw2.1
theorem k0_off141_inb : ∀ (k0_t3 : Fin k0_t3_loop.trips) (arg46 : BitVec 32) (v2138 : BitVec 32) (k0_hw2 : k0_chk2 k0_t3 arg46 v2138), ∀ a, (k0_off141 k0_t3 arg46 v2138) a + S1x8x128.size a ≤ S250x24x128.size a := fun k0_t3 arg46 v2138 k0_hw2 => k0_hw2.2.1
theorem k0_off142_inb : ∀ (k0_t3 : Fin k0_t3_loop.trips) (arg46 : BitVec 32) (v2138 : BitVec 32) (k0_hw2 : k0_chk2 k0_t3 arg46 v2138), ∀ a, (k0_off142 k0_t3 arg46 v2138) a + S1x8x128.size a ≤ S250x24x128.size a := fun k0_t3 arg46 v2138 k0_hw2 => k0_hw2.2.2.1
theorem k0_off143_inb : ∀ (k0_t3 : Fin k0_t3_loop.trips) (arg46 : BitVec 32) (v2138 : BitVec 32) (k0_hw2 : k0_chk2 k0_t3 arg46 v2138), ∀ a, (k0_off143 k0_t3 arg46 v2138) a + S1x8x128.size a ≤ S250x24x128.size a := fun k0_t3 arg46 v2138 k0_hw2 => k0_hw2.2.2.2.1
theorem k0_off144_inb : ∀ (k0_t3 : Fin k0_t3_loop.trips) (arg46 : BitVec 32) (v2138 : BitVec 32) (k0_hw2 : k0_chk2 k0_t3 arg46 v2138), ∀ a, (k0_off144 k0_t3 arg46 v2138) a + S1x128.size a ≤ S250x128.size a := fun k0_t3 arg46 v2138 k0_hw2 => k0_hw2.2.2.2.2.1
theorem k0_off145_inb : ∀ (k0_t3 : Fin k0_t3_loop.trips) (arg46 : BitVec 32) (v2138 : BitVec 32) (k0_hw2 : k0_chk2 k0_t3 arg46 v2138), ∀ a, (k0_off145 k0_t3 arg46 v2138) a + S1x8x128.size a ≤ S250x24x128.size a := fun k0_t3 arg46 v2138 k0_hw2 => k0_hw2.2.2.2.2.2.1
theorem k0_off146_inb : ∀ (k0_t3 : Fin k0_t3_loop.trips) (arg46 : BitVec 32) (v2138 : BitVec 32) (k0_hw2 : k0_chk2 k0_t3 arg46 v2138), ∀ a, (k0_off146 k0_t3 arg46 v2138) a + S1x8x128.size a ≤ S250x24x128.size a := fun k0_t3 arg46 v2138 k0_hw2 => k0_hw2.2.2.2.2.2.2.1
theorem k0_off147_inb : ∀ (k0_t3 : Fin k0_t3_loop.trips) (arg46 : BitVec 32) (v2138 : BitVec 32) (k0_hw2 : k0_chk2 k0_t3 arg46 v2138), ∀ a, (k0_off147 k0_t3 arg46 v2138) a + S1x8x128.size a ≤ S250x24x128.size a := fun k0_t3 arg46 v2138 k0_hw2 => k0_hw2.2.2.2.2.2.2.2.1
theorem k0_off148_inb : ∀ (k0_t3 : Fin k0_t3_loop.trips) (arg46 : BitVec 32) (v2138 : BitVec 32) (k0_hw2 : k0_chk2 k0_t3 arg46 v2138), ∀ a, (k0_off148 k0_t3 arg46 v2138) a + S1x1.size a ≤ S250x128.size a := fun k0_t3 arg46 v2138 k0_hw2 => k0_hw2.2.2.2.2.2.2.2.2

def k0_off149 (k0_t3 : Fin k0_t3_loop.trips) (arg46 : BitVec 32) (v2138 : BitVec 32) (v2327 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let v2339 : Index := Scalar.indexCast v2336
  let c0_1024 : Index := 0#32
  ![v2339.toNat, 0]

def k0_off150 (k0_t3 : Fin k0_t3_loop.trips) (arg46 : BitVec 32) (v2138 : BitVec 32) (v2327 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let v2370 : Index := Scalar.indexCast v2336
  let c0_1033 : Index := 0#32
  let c0_1034 : Index := 0#32
  ![v2370.toNat, 0, 0]
def k0_off151 (k0_t3 : Fin k0_t3_loop.trips) (arg46 : BitVec 32) (v2138 : BitVec 32) (v2327 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let v2394 : Index := Scalar.indexCast v2336
  let c8_1041 : Index := 8#32
  let c0_1042 : Index := 0#32
  ![v2394.toNat, 8, 0]
def k0_off152 (k0_t3 : Fin k0_t3_loop.trips) (arg46 : BitVec 32) (v2138 : BitVec 32) (v2327 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let v2418 : Index := Scalar.indexCast v2336
  let c16_1049 : Index := 16#32
  let c0_1050 : Index := 0#32
  ![v2418.toNat, 16, 0]
def k0_off153 (k0_t3 : Fin k0_t3_loop.trips) (arg46 : BitVec 32) (v2138 : BitVec 32) (v2327 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c1_i32_1022 : BitVec 32 := 1#32
  let v2337 : BitVec 32 := Scalar.addi v2336 c1_i32_1022
  let c249_i32_1023 : BitVec 32 := 249#32
  let v2338 : BitVec 32 := Scalar.minsi v2337 c249_i32_1023
  let v2426 : Index := Scalar.indexCast v2338
  let c0_1053 : Index := 0#32
  ![v2426.toNat, 0]
def k0_off154 (k0_t3 : Fin k0_t3_loop.trips) (arg46 : BitVec 32) (v2138 : BitVec 32) (v2327 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c1_i32_1022 : BitVec 32 := 1#32
  let v2337 : BitVec 32 := Scalar.addi v2336 c1_i32_1022
  let c249_i32_1023 : BitVec 32 := 249#32
  let v2338 : BitVec 32 := Scalar.minsi v2337 c249_i32_1023
  let v2457 : Index := Scalar.indexCast v2338
  let c0_1062 : Index := 0#32
  let c0_1063 : Index := 0#32
  ![v2457.toNat, 0, 0]
def k0_off155 (k0_t3 : Fin k0_t3_loop.trips) (arg46 : BitVec 32) (v2138 : BitVec 32) (v2327 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c1_i32_1022 : BitVec 32 := 1#32
  let v2337 : BitVec 32 := Scalar.addi v2336 c1_i32_1022
  let c249_i32_1023 : BitVec 32 := 249#32
  let v2338 : BitVec 32 := Scalar.minsi v2337 c249_i32_1023
  let v2481 : Index := Scalar.indexCast v2338
  let c8_1070 : Index := 8#32
  let c0_1071 : Index := 0#32
  ![v2481.toNat, 8, 0]
def k0_off156 (k0_t3 : Fin k0_t3_loop.trips) (arg46 : BitVec 32) (v2138 : BitVec 32) (v2327 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c1_i32_1022 : BitVec 32 := 1#32
  let v2337 : BitVec 32 := Scalar.addi v2336 c1_i32_1022
  let c249_i32_1023 : BitVec 32 := 249#32
  let v2338 : BitVec 32 := Scalar.minsi v2337 c249_i32_1023
  let v2505 : Index := Scalar.indexCast v2338
  let c16_1078 : Index := 16#32
  let c0_1079 : Index := 0#32
  ![v2505.toNat, 16, 0]
def k0_off157 (k0_t3 : Fin k0_t3_loop.trips) (arg46 : BitVec 32) (v2138 : BitVec 32) (v2327 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let v2515 : Index := Scalar.indexCast v2336
  let c127_1084 : Index := 127#32
  ![v2515.toNat, 127]

def k0_chk3 (k0_t3 : Fin k0_t3_loop.trips) (arg46 : BitVec 32) (v2138 : BitVec 32) (v2327 : BitVec 32) : Prop :=
  (∀ a, (k0_off149 k0_t3 arg46 v2138 v2327) a + S1x128.size a ≤ S250x128.size a) ∧
  (∀ a, (k0_off150 k0_t3 arg46 v2138 v2327) a + S1x8x128.size a ≤ S250x24x128.size a) ∧
  (∀ a, (k0_off151 k0_t3 arg46 v2138 v2327) a + S1x8x128.size a ≤ S250x24x128.size a) ∧
  (∀ a, (k0_off152 k0_t3 arg46 v2138 v2327) a + S1x8x128.size a ≤ S250x24x128.size a) ∧
  (∀ a, (k0_off153 k0_t3 arg46 v2138 v2327) a + S1x128.size a ≤ S250x128.size a) ∧
  (∀ a, (k0_off154 k0_t3 arg46 v2138 v2327) a + S1x8x128.size a ≤ S250x24x128.size a) ∧
  (∀ a, (k0_off155 k0_t3 arg46 v2138 v2327) a + S1x8x128.size a ≤ S250x24x128.size a) ∧
  (∀ a, (k0_off156 k0_t3 arg46 v2138 v2327) a + S1x8x128.size a ≤ S250x24x128.size a) ∧
  (∀ a, (k0_off157 k0_t3 arg46 v2138 v2327) a + S1x1.size a ≤ S250x128.size a)
theorem k0_off149_inb : ∀ (k0_t3 : Fin k0_t3_loop.trips) (arg46 : BitVec 32) (v2138 : BitVec 32) (v2327 : BitVec 32) (k0_hw3 : k0_chk3 k0_t3 arg46 v2138 v2327), ∀ a, (k0_off149 k0_t3 arg46 v2138 v2327) a + S1x128.size a ≤ S250x128.size a := fun k0_t3 arg46 v2138 v2327 k0_hw3 => k0_hw3.1
theorem k0_off150_inb : ∀ (k0_t3 : Fin k0_t3_loop.trips) (arg46 : BitVec 32) (v2138 : BitVec 32) (v2327 : BitVec 32) (k0_hw3 : k0_chk3 k0_t3 arg46 v2138 v2327), ∀ a, (k0_off150 k0_t3 arg46 v2138 v2327) a + S1x8x128.size a ≤ S250x24x128.size a := fun k0_t3 arg46 v2138 v2327 k0_hw3 => k0_hw3.2.1
theorem k0_off151_inb : ∀ (k0_t3 : Fin k0_t3_loop.trips) (arg46 : BitVec 32) (v2138 : BitVec 32) (v2327 : BitVec 32) (k0_hw3 : k0_chk3 k0_t3 arg46 v2138 v2327), ∀ a, (k0_off151 k0_t3 arg46 v2138 v2327) a + S1x8x128.size a ≤ S250x24x128.size a := fun k0_t3 arg46 v2138 v2327 k0_hw3 => k0_hw3.2.2.1
theorem k0_off152_inb : ∀ (k0_t3 : Fin k0_t3_loop.trips) (arg46 : BitVec 32) (v2138 : BitVec 32) (v2327 : BitVec 32) (k0_hw3 : k0_chk3 k0_t3 arg46 v2138 v2327), ∀ a, (k0_off152 k0_t3 arg46 v2138 v2327) a + S1x8x128.size a ≤ S250x24x128.size a := fun k0_t3 arg46 v2138 v2327 k0_hw3 => k0_hw3.2.2.2.1
theorem k0_off153_inb : ∀ (k0_t3 : Fin k0_t3_loop.trips) (arg46 : BitVec 32) (v2138 : BitVec 32) (v2327 : BitVec 32) (k0_hw3 : k0_chk3 k0_t3 arg46 v2138 v2327), ∀ a, (k0_off153 k0_t3 arg46 v2138 v2327) a + S1x128.size a ≤ S250x128.size a := fun k0_t3 arg46 v2138 v2327 k0_hw3 => k0_hw3.2.2.2.2.1
theorem k0_off154_inb : ∀ (k0_t3 : Fin k0_t3_loop.trips) (arg46 : BitVec 32) (v2138 : BitVec 32) (v2327 : BitVec 32) (k0_hw3 : k0_chk3 k0_t3 arg46 v2138 v2327), ∀ a, (k0_off154 k0_t3 arg46 v2138 v2327) a + S1x8x128.size a ≤ S250x24x128.size a := fun k0_t3 arg46 v2138 v2327 k0_hw3 => k0_hw3.2.2.2.2.2.1
theorem k0_off155_inb : ∀ (k0_t3 : Fin k0_t3_loop.trips) (arg46 : BitVec 32) (v2138 : BitVec 32) (v2327 : BitVec 32) (k0_hw3 : k0_chk3 k0_t3 arg46 v2138 v2327), ∀ a, (k0_off155 k0_t3 arg46 v2138 v2327) a + S1x8x128.size a ≤ S250x24x128.size a := fun k0_t3 arg46 v2138 v2327 k0_hw3 => k0_hw3.2.2.2.2.2.2.1
theorem k0_off156_inb : ∀ (k0_t3 : Fin k0_t3_loop.trips) (arg46 : BitVec 32) (v2138 : BitVec 32) (v2327 : BitVec 32) (k0_hw3 : k0_chk3 k0_t3 arg46 v2138 v2327), ∀ a, (k0_off156 k0_t3 arg46 v2138 v2327) a + S1x8x128.size a ≤ S250x24x128.size a := fun k0_t3 arg46 v2138 v2327 k0_hw3 => k0_hw3.2.2.2.2.2.2.2.1
theorem k0_off157_inb : ∀ (k0_t3 : Fin k0_t3_loop.trips) (arg46 : BitVec 32) (v2138 : BitVec 32) (v2327 : BitVec 32) (k0_hw3 : k0_chk3 k0_t3 arg46 v2138 v2327), ∀ a, (k0_off157 k0_t3 arg46 v2138 v2327) a + S1x1.size a ≤ S250x128.size a := fun k0_t3 arg46 v2138 v2327 k0_hw3 => k0_hw3.2.2.2.2.2.2.2.2

def k0_off158 (k0_t3 : Fin k0_t3_loop.trips) (arg46 : BitVec 32) (v2138 : BitVec 32) (v2327 : BitVec 32) (v2516 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let v2528 : Index := Scalar.indexCast v2525
  let c0_1091 : Index := 0#32
  ![v2528.toNat, 0]

def k0_off159 (k0_t3 : Fin k0_t3_loop.trips) (arg46 : BitVec 32) (v2138 : BitVec 32) (v2327 : BitVec 32) (v2516 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let v2559 : Index := Scalar.indexCast v2525
  let c0_1100 : Index := 0#32
  let c0_1101 : Index := 0#32
  ![v2559.toNat, 0, 0]
def k0_off160 (k0_t3 : Fin k0_t3_loop.trips) (arg46 : BitVec 32) (v2138 : BitVec 32) (v2327 : BitVec 32) (v2516 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let v2583 : Index := Scalar.indexCast v2525
  let c8_1108 : Index := 8#32
  let c0_1109 : Index := 0#32
  ![v2583.toNat, 8, 0]
def k0_off161 (k0_t3 : Fin k0_t3_loop.trips) (arg46 : BitVec 32) (v2138 : BitVec 32) (v2327 : BitVec 32) (v2516 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let v2607 : Index := Scalar.indexCast v2525
  let c16_1116 : Index := 16#32
  let c0_1117 : Index := 0#32
  ![v2607.toNat, 16, 0]
def k0_off162 (k0_t3 : Fin k0_t3_loop.trips) (arg46 : BitVec 32) (v2138 : BitVec 32) (v2327 : BitVec 32) (v2516 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c1_i32_1089 : BitVec 32 := 1#32
  let v2526 : BitVec 32 := Scalar.addi v2525 c1_i32_1089
  let c249_i32_1090 : BitVec 32 := 249#32
  let v2527 : BitVec 32 := Scalar.minsi v2526 c249_i32_1090
  let v2615 : Index := Scalar.indexCast v2527
  let c0_1120 : Index := 0#32
  ![v2615.toNat, 0]
def k0_off163 (k0_t3 : Fin k0_t3_loop.trips) (arg46 : BitVec 32) (v2138 : BitVec 32) (v2327 : BitVec 32) (v2516 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c1_i32_1089 : BitVec 32 := 1#32
  let v2526 : BitVec 32 := Scalar.addi v2525 c1_i32_1089
  let c249_i32_1090 : BitVec 32 := 249#32
  let v2527 : BitVec 32 := Scalar.minsi v2526 c249_i32_1090
  let v2646 : Index := Scalar.indexCast v2527
  let c0_1129 : Index := 0#32
  let c0_1130 : Index := 0#32
  ![v2646.toNat, 0, 0]
def k0_off164 (k0_t3 : Fin k0_t3_loop.trips) (arg46 : BitVec 32) (v2138 : BitVec 32) (v2327 : BitVec 32) (v2516 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c1_i32_1089 : BitVec 32 := 1#32
  let v2526 : BitVec 32 := Scalar.addi v2525 c1_i32_1089
  let c249_i32_1090 : BitVec 32 := 249#32
  let v2527 : BitVec 32 := Scalar.minsi v2526 c249_i32_1090
  let v2670 : Index := Scalar.indexCast v2527
  let c8_1137 : Index := 8#32
  let c0_1138 : Index := 0#32
  ![v2670.toNat, 8, 0]
def k0_off165 (k0_t3 : Fin k0_t3_loop.trips) (arg46 : BitVec 32) (v2138 : BitVec 32) (v2327 : BitVec 32) (v2516 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c1_i32_1089 : BitVec 32 := 1#32
  let v2526 : BitVec 32 := Scalar.addi v2525 c1_i32_1089
  let c249_i32_1090 : BitVec 32 := 249#32
  let v2527 : BitVec 32 := Scalar.minsi v2526 c249_i32_1090
  let v2694 : Index := Scalar.indexCast v2527
  let c16_1145 : Index := 16#32
  let c0_1146 : Index := 0#32
  ![v2694.toNat, 16, 0]
def k0_off166 (k0_t3 : Fin k0_t3_loop.trips) (arg46 : BitVec 32) (v2138 : BitVec 32) (v2327 : BitVec 32) (v2516 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let v2704 : Index := Scalar.indexCast v2525
  let c127_1151 : Index := 127#32
  ![v2704.toNat, 127]

def k0_chk4 (k0_t3 : Fin k0_t3_loop.trips) (arg46 : BitVec 32) (v2138 : BitVec 32) (v2327 : BitVec 32) (v2516 : BitVec 32) : Prop :=
  (∀ a, (k0_off158 k0_t3 arg46 v2138 v2327 v2516) a + S1x128.size a ≤ S250x128.size a) ∧
  (∀ a, (k0_off159 k0_t3 arg46 v2138 v2327 v2516) a + S1x8x128.size a ≤ S250x24x128.size a) ∧
  (∀ a, (k0_off160 k0_t3 arg46 v2138 v2327 v2516) a + S1x8x128.size a ≤ S250x24x128.size a) ∧
  (∀ a, (k0_off161 k0_t3 arg46 v2138 v2327 v2516) a + S1x8x128.size a ≤ S250x24x128.size a) ∧
  (∀ a, (k0_off162 k0_t3 arg46 v2138 v2327 v2516) a + S1x128.size a ≤ S250x128.size a) ∧
  (∀ a, (k0_off163 k0_t3 arg46 v2138 v2327 v2516) a + S1x8x128.size a ≤ S250x24x128.size a) ∧
  (∀ a, (k0_off164 k0_t3 arg46 v2138 v2327 v2516) a + S1x8x128.size a ≤ S250x24x128.size a) ∧
  (∀ a, (k0_off165 k0_t3 arg46 v2138 v2327 v2516) a + S1x8x128.size a ≤ S250x24x128.size a) ∧
  (∀ a, (k0_off166 k0_t3 arg46 v2138 v2327 v2516) a + S1x1.size a ≤ S250x128.size a)
theorem k0_off158_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off158 k0_t3 arg46 v2138 v2327 v2516) a + S1x128.size a ≤ S250x128.size a := fun k0_t3 arg46 v2138 v2327 v2516 k0_hw4 => k0_hw4.1
theorem k0_off159_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off159 k0_t3 arg46 v2138 v2327 v2516) a + S1x8x128.size a ≤ S250x24x128.size a := fun k0_t3 arg46 v2138 v2327 v2516 k0_hw4 => k0_hw4.2.1
theorem k0_off160_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off160 k0_t3 arg46 v2138 v2327 v2516) a + S1x8x128.size a ≤ S250x24x128.size a := fun k0_t3 arg46 v2138 v2327 v2516 k0_hw4 => k0_hw4.2.2.1
theorem k0_off161_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off161 k0_t3 arg46 v2138 v2327 v2516) a + S1x8x128.size a ≤ S250x24x128.size a := fun k0_t3 arg46 v2138 v2327 v2516 k0_hw4 => k0_hw4.2.2.2.1
theorem k0_off162_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off162 k0_t3 arg46 v2138 v2327 v2516) a + S1x128.size a ≤ S250x128.size a := fun k0_t3 arg46 v2138 v2327 v2516 k0_hw4 => k0_hw4.2.2.2.2.1
theorem k0_off163_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off163 k0_t3 arg46 v2138 v2327 v2516) a + S1x8x128.size a ≤ S250x24x128.size a := fun k0_t3 arg46 v2138 v2327 v2516 k0_hw4 => k0_hw4.2.2.2.2.2.1
theorem k0_off164_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off164 k0_t3 arg46 v2138 v2327 v2516) a + S1x8x128.size a ≤ S250x24x128.size a := fun k0_t3 arg46 v2138 v2327 v2516 k0_hw4 => k0_hw4.2.2.2.2.2.2.1
theorem k0_off165_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off165 k0_t3 arg46 v2138 v2327 v2516) a + S1x8x128.size a ≤ S250x24x128.size a := fun k0_t3 arg46 v2138 v2327 v2516 k0_hw4 => k0_hw4.2.2.2.2.2.2.2.1
theorem k0_off166_inb : ∀ (k0_t3 : Fin k0_t3_loop.trips) (arg46 : BitVec 32) (v2138 : BitVec 32) (v2327 : BitVec 32) (v2516 : BitVec 32) (k0_hw4 : k0_chk4 k0_t3 arg46 v2138 v2327 v2516), ∀ a, (k0_off166 k0_t3 arg46 v2138 v2327 v2516) a + S1x1.size a ≤ S250x128.size a := fun k0_t3 arg46 v2138 v2327 v2516 k0_hw4 => k0_hw4.2.2.2.2.2.2.2.2

def k0_off167 (k0_t3 : Fin k0_t3_loop.trips) (arg46 : BitVec 32) (v2138 : BitVec 32) (v2327 : BitVec 32) (v2516 : BitVec 32) (v2705 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let v2717 : Index := Scalar.indexCast v2714
  let c0_1158 : Index := 0#32
  ![v2717.toNat, 0]

def k0_off168 (k0_t3 : Fin k0_t3_loop.trips) (arg46 : BitVec 32) (v2138 : BitVec 32) (v2327 : BitVec 32) (v2516 : BitVec 32) (v2705 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let v2748 : Index := Scalar.indexCast v2714
  let c0_1167 : Index := 0#32
  let c0_1168 : Index := 0#32
  ![v2748.toNat, 0, 0]
def k0_off169 (k0_t3 : Fin k0_t3_loop.trips) (arg46 : BitVec 32) (v2138 : BitVec 32) (v2327 : BitVec 32) (v2516 : BitVec 32) (v2705 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let v2772 : Index := Scalar.indexCast v2714
  let c8_1175 : Index := 8#32
  let c0_1176 : Index := 0#32
  ![v2772.toNat, 8, 0]
def k0_off170 (k0_t3 : Fin k0_t3_loop.trips) (arg46 : BitVec 32) (v2138 : BitVec 32) (v2327 : BitVec 32) (v2516 : BitVec 32) (v2705 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let v2796 : Index := Scalar.indexCast v2714
  let c16_1183 : Index := 16#32
  let c0_1184 : Index := 0#32
  ![v2796.toNat, 16, 0]
def k0_off171 (k0_t3 : Fin k0_t3_loop.trips) (arg46 : BitVec 32) (v2138 : BitVec 32) (v2327 : BitVec 32) (v2516 : BitVec 32) (v2705 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c1_i32_1156 : BitVec 32 := 1#32
  let v2715 : BitVec 32 := Scalar.addi v2714 c1_i32_1156
  let c249_i32_1157 : BitVec 32 := 249#32
  let v2716 : BitVec 32 := Scalar.minsi v2715 c249_i32_1157
  let v2804 : Index := Scalar.indexCast v2716
  let c0_1187 : Index := 0#32
  ![v2804.toNat, 0]
def k0_off172 (k0_t3 : Fin k0_t3_loop.trips) (arg46 : BitVec 32) (v2138 : BitVec 32) (v2327 : BitVec 32) (v2516 : BitVec 32) (v2705 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c1_i32_1156 : BitVec 32 := 1#32
  let v2715 : BitVec 32 := Scalar.addi v2714 c1_i32_1156
  let c249_i32_1157 : BitVec 32 := 249#32
  let v2716 : BitVec 32 := Scalar.minsi v2715 c249_i32_1157
  let v2835 : Index := Scalar.indexCast v2716
  let c0_1196 : Index := 0#32
  let c0_1197 : Index := 0#32
  ![v2835.toNat, 0, 0]
def k0_off173 (k0_t3 : Fin k0_t3_loop.trips) (arg46 : BitVec 32) (v2138 : BitVec 32) (v2327 : BitVec 32) (v2516 : BitVec 32) (v2705 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c1_i32_1156 : BitVec 32 := 1#32
  let v2715 : BitVec 32 := Scalar.addi v2714 c1_i32_1156
  let c249_i32_1157 : BitVec 32 := 249#32
  let v2716 : BitVec 32 := Scalar.minsi v2715 c249_i32_1157
  let v2859 : Index := Scalar.indexCast v2716
  let c8_1204 : Index := 8#32
  let c0_1205 : Index := 0#32
  ![v2859.toNat, 8, 0]
def k0_off174 (k0_t3 : Fin k0_t3_loop.trips) (arg46 : BitVec 32) (v2138 : BitVec 32) (v2327 : BitVec 32) (v2516 : BitVec 32) (v2705 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c1_i32_1156 : BitVec 32 := 1#32
  let v2715 : BitVec 32 := Scalar.addi v2714 c1_i32_1156
  let c249_i32_1157 : BitVec 32 := 249#32
  let v2716 : BitVec 32 := Scalar.minsi v2715 c249_i32_1157
  let v2883 : Index := Scalar.indexCast v2716
  let c16_1212 : Index := 16#32
  let c0_1213 : Index := 0#32
  ![v2883.toNat, 16, 0]
def k0_off175 (k0_t3 : Fin k0_t3_loop.trips) (arg46 : BitVec 32) (v2138 : BitVec 32) (v2327 : BitVec 32) (v2516 : BitVec 32) (v2705 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let v2893 : Index := Scalar.indexCast v2714
  let c127_1218 : Index := 127#32
  ![v2893.toNat, 127]

def k0_chk5 (k0_t3 : Fin k0_t3_loop.trips) (arg46 : BitVec 32) (v2138 : BitVec 32) (v2327 : BitVec 32) (v2516 : BitVec 32) (v2705 : BitVec 32) : Prop :=
  (∀ a, (k0_off167 k0_t3 arg46 v2138 v2327 v2516 v2705) a + S1x128.size a ≤ S250x128.size a) ∧
  (∀ a, (k0_off168 k0_t3 arg46 v2138 v2327 v2516 v2705) a + S1x8x128.size a ≤ S250x24x128.size a) ∧
  (∀ a, (k0_off169 k0_t3 arg46 v2138 v2327 v2516 v2705) a + S1x8x128.size a ≤ S250x24x128.size a) ∧
  (∀ a, (k0_off170 k0_t3 arg46 v2138 v2327 v2516 v2705) a + S1x8x128.size a ≤ S250x24x128.size a) ∧
  (∀ a, (k0_off171 k0_t3 arg46 v2138 v2327 v2516 v2705) a + S1x128.size a ≤ S250x128.size a) ∧
  (∀ a, (k0_off172 k0_t3 arg46 v2138 v2327 v2516 v2705) a + S1x8x128.size a ≤ S250x24x128.size a) ∧
  (∀ a, (k0_off173 k0_t3 arg46 v2138 v2327 v2516 v2705) a + S1x8x128.size a ≤ S250x24x128.size a) ∧
  (∀ a, (k0_off174 k0_t3 arg46 v2138 v2327 v2516 v2705) a + S1x8x128.size a ≤ S250x24x128.size a) ∧
  (∀ a, (k0_off175 k0_t3 arg46 v2138 v2327 v2516 v2705) a + S1x1.size a ≤ S250x128.size a)
theorem k0_off167_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off167 k0_t3 arg46 v2138 v2327 v2516 v2705) a + S1x128.size a ≤ S250x128.size a := fun k0_t3 arg46 v2138 v2327 v2516 v2705 k0_hw5 => k0_hw5.1
theorem k0_off168_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off168 k0_t3 arg46 v2138 v2327 v2516 v2705) a + S1x8x128.size a ≤ S250x24x128.size a := fun k0_t3 arg46 v2138 v2327 v2516 v2705 k0_hw5 => k0_hw5.2.1
theorem k0_off169_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off169 k0_t3 arg46 v2138 v2327 v2516 v2705) a + S1x8x128.size a ≤ S250x24x128.size a := fun k0_t3 arg46 v2138 v2327 v2516 v2705 k0_hw5 => k0_hw5.2.2.1
theorem k0_off170_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off170 k0_t3 arg46 v2138 v2327 v2516 v2705) a + S1x8x128.size a ≤ S250x24x128.size a := fun k0_t3 arg46 v2138 v2327 v2516 v2705 k0_hw5 => k0_hw5.2.2.2.1
theorem k0_off171_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off171 k0_t3 arg46 v2138 v2327 v2516 v2705) a + S1x128.size a ≤ S250x128.size a := fun k0_t3 arg46 v2138 v2327 v2516 v2705 k0_hw5 => k0_hw5.2.2.2.2.1
theorem k0_off172_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off172 k0_t3 arg46 v2138 v2327 v2516 v2705) a + S1x8x128.size a ≤ S250x24x128.size a := fun k0_t3 arg46 v2138 v2327 v2516 v2705 k0_hw5 => k0_hw5.2.2.2.2.2.1
theorem k0_off173_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off173 k0_t3 arg46 v2138 v2327 v2516 v2705) a + S1x8x128.size a ≤ S250x24x128.size a := fun k0_t3 arg46 v2138 v2327 v2516 v2705 k0_hw5 => k0_hw5.2.2.2.2.2.2.1
theorem k0_off174_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off174 k0_t3 arg46 v2138 v2327 v2516 v2705) a + S1x8x128.size a ≤ S250x24x128.size a := fun k0_t3 arg46 v2138 v2327 v2516 v2705 k0_hw5 => k0_hw5.2.2.2.2.2.2.2.1
theorem k0_off175_inb : ∀ (k0_t3 : Fin k0_t3_loop.trips) (arg46 : BitVec 32) (v2138 : BitVec 32) (v2327 : BitVec 32) (v2516 : BitVec 32) (v2705 : BitVec 32) (k0_hw5 : k0_chk5 k0_t3 arg46 v2138 v2327 v2516 v2705), ∀ a, (k0_off175 k0_t3 arg46 v2138 v2327 v2516 v2705) a + S1x1.size a ≤ S250x128.size a := fun k0_t3 arg46 v2138 v2327 v2516 v2705 k0_hw5 => k0_hw5.2.2.2.2.2.2.2.2

def k0_off176 (k0_t3 : Fin k0_t3_loop.trips) (arg46 : BitVec 32) (v2138 : BitVec 32) (v2327 : BitVec 32) (v2516 : BitVec 32) (v2705 : BitVec 32) (v2894 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let v2906 : Index := Scalar.indexCast v2903
  let c0_1225 : Index := 0#32
  ![v2906.toNat, 0]

def k0_off177 (k0_t3 : Fin k0_t3_loop.trips) (arg46 : BitVec 32) (v2138 : BitVec 32) (v2327 : BitVec 32) (v2516 : BitVec 32) (v2705 : BitVec 32) (v2894 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let v2937 : Index := Scalar.indexCast v2903
  let c0_1234 : Index := 0#32
  let c0_1235 : Index := 0#32
  ![v2937.toNat, 0, 0]
def k0_off178 (k0_t3 : Fin k0_t3_loop.trips) (arg46 : BitVec 32) (v2138 : BitVec 32) (v2327 : BitVec 32) (v2516 : BitVec 32) (v2705 : BitVec 32) (v2894 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let v2961 : Index := Scalar.indexCast v2903
  let c8_1242 : Index := 8#32
  let c0_1243 : Index := 0#32
  ![v2961.toNat, 8, 0]
def k0_off179 (k0_t3 : Fin k0_t3_loop.trips) (arg46 : BitVec 32) (v2138 : BitVec 32) (v2327 : BitVec 32) (v2516 : BitVec 32) (v2705 : BitVec 32) (v2894 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let v2985 : Index := Scalar.indexCast v2903
  let c16_1250 : Index := 16#32
  let c0_1251 : Index := 0#32
  ![v2985.toNat, 16, 0]
def k0_off180 (k0_t3 : Fin k0_t3_loop.trips) (arg46 : BitVec 32) (v2138 : BitVec 32) (v2327 : BitVec 32) (v2516 : BitVec 32) (v2705 : BitVec 32) (v2894 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c1_i32_1223 : BitVec 32 := 1#32
  let v2904 : BitVec 32 := Scalar.addi v2903 c1_i32_1223
  let c249_i32_1224 : BitVec 32 := 249#32
  let v2905 : BitVec 32 := Scalar.minsi v2904 c249_i32_1224
  let v2993 : Index := Scalar.indexCast v2905
  let c0_1254 : Index := 0#32
  ![v2993.toNat, 0]
def k0_off181 (k0_t3 : Fin k0_t3_loop.trips) (arg46 : BitVec 32) (v2138 : BitVec 32) (v2327 : BitVec 32) (v2516 : BitVec 32) (v2705 : BitVec 32) (v2894 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c1_i32_1223 : BitVec 32 := 1#32
  let v2904 : BitVec 32 := Scalar.addi v2903 c1_i32_1223
  let c249_i32_1224 : BitVec 32 := 249#32
  let v2905 : BitVec 32 := Scalar.minsi v2904 c249_i32_1224
  let v3024 : Index := Scalar.indexCast v2905
  let c0_1263 : Index := 0#32
  let c0_1264 : Index := 0#32
  ![v3024.toNat, 0, 0]
def k0_off182 (k0_t3 : Fin k0_t3_loop.trips) (arg46 : BitVec 32) (v2138 : BitVec 32) (v2327 : BitVec 32) (v2516 : BitVec 32) (v2705 : BitVec 32) (v2894 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c1_i32_1223 : BitVec 32 := 1#32
  let v2904 : BitVec 32 := Scalar.addi v2903 c1_i32_1223
  let c249_i32_1224 : BitVec 32 := 249#32
  let v2905 : BitVec 32 := Scalar.minsi v2904 c249_i32_1224
  let v3048 : Index := Scalar.indexCast v2905
  let c8_1271 : Index := 8#32
  let c0_1272 : Index := 0#32
  ![v3048.toNat, 8, 0]
def k0_off183 (k0_t3 : Fin k0_t3_loop.trips) (arg46 : BitVec 32) (v2138 : BitVec 32) (v2327 : BitVec 32) (v2516 : BitVec 32) (v2705 : BitVec 32) (v2894 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c1_i32_1223 : BitVec 32 := 1#32
  let v2904 : BitVec 32 := Scalar.addi v2903 c1_i32_1223
  let c249_i32_1224 : BitVec 32 := 249#32
  let v2905 : BitVec 32 := Scalar.minsi v2904 c249_i32_1224
  let v3072 : Index := Scalar.indexCast v2905
  let c16_1279 : Index := 16#32
  let c0_1280 : Index := 0#32
  ![v3072.toNat, 16, 0]
def k0_off184 (k0_t3 : Fin k0_t3_loop.trips) (arg46 : BitVec 32) (v2138 : BitVec 32) (v2327 : BitVec 32) (v2516 : BitVec 32) (v2705 : BitVec 32) (v2894 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let v3082 : Index := Scalar.indexCast v2903
  let c127_1285 : Index := 127#32
  ![v3082.toNat, 127]

def k0_chk6 (k0_t3 : Fin k0_t3_loop.trips) (arg46 : BitVec 32) (v2138 : BitVec 32) (v2327 : BitVec 32) (v2516 : BitVec 32) (v2705 : BitVec 32) (v2894 : BitVec 32) : Prop :=
  (∀ a, (k0_off176 k0_t3 arg46 v2138 v2327 v2516 v2705 v2894) a + S1x128.size a ≤ S250x128.size a) ∧
  (∀ a, (k0_off177 k0_t3 arg46 v2138 v2327 v2516 v2705 v2894) a + S1x8x128.size a ≤ S250x24x128.size a) ∧
  (∀ a, (k0_off178 k0_t3 arg46 v2138 v2327 v2516 v2705 v2894) a + S1x8x128.size a ≤ S250x24x128.size a) ∧
  (∀ a, (k0_off179 k0_t3 arg46 v2138 v2327 v2516 v2705 v2894) a + S1x8x128.size a ≤ S250x24x128.size a) ∧
  (∀ a, (k0_off180 k0_t3 arg46 v2138 v2327 v2516 v2705 v2894) a + S1x128.size a ≤ S250x128.size a) ∧
  (∀ a, (k0_off181 k0_t3 arg46 v2138 v2327 v2516 v2705 v2894) a + S1x8x128.size a ≤ S250x24x128.size a) ∧
  (∀ a, (k0_off182 k0_t3 arg46 v2138 v2327 v2516 v2705 v2894) a + S1x8x128.size a ≤ S250x24x128.size a) ∧
  (∀ a, (k0_off183 k0_t3 arg46 v2138 v2327 v2516 v2705 v2894) a + S1x8x128.size a ≤ S250x24x128.size a) ∧
  (∀ a, (k0_off184 k0_t3 arg46 v2138 v2327 v2516 v2705 v2894) a + S1x1.size a ≤ S250x128.size a)
theorem k0_off176_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off176 k0_t3 arg46 v2138 v2327 v2516 v2705 v2894) a + S1x128.size a ≤ S250x128.size a := fun k0_t3 arg46 v2138 v2327 v2516 v2705 v2894 k0_hw6 => k0_hw6.1
theorem k0_off177_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off177 k0_t3 arg46 v2138 v2327 v2516 v2705 v2894) a + S1x8x128.size a ≤ S250x24x128.size a := fun k0_t3 arg46 v2138 v2327 v2516 v2705 v2894 k0_hw6 => k0_hw6.2.1
theorem k0_off178_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off178 k0_t3 arg46 v2138 v2327 v2516 v2705 v2894) a + S1x8x128.size a ≤ S250x24x128.size a := fun k0_t3 arg46 v2138 v2327 v2516 v2705 v2894 k0_hw6 => k0_hw6.2.2.1
theorem k0_off179_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off179 k0_t3 arg46 v2138 v2327 v2516 v2705 v2894) a + S1x8x128.size a ≤ S250x24x128.size a := fun k0_t3 arg46 v2138 v2327 v2516 v2705 v2894 k0_hw6 => k0_hw6.2.2.2.1
theorem k0_off180_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off180 k0_t3 arg46 v2138 v2327 v2516 v2705 v2894) a + S1x128.size a ≤ S250x128.size a := fun k0_t3 arg46 v2138 v2327 v2516 v2705 v2894 k0_hw6 => k0_hw6.2.2.2.2.1
theorem k0_off181_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off181 k0_t3 arg46 v2138 v2327 v2516 v2705 v2894) a + S1x8x128.size a ≤ S250x24x128.size a := fun k0_t3 arg46 v2138 v2327 v2516 v2705 v2894 k0_hw6 => k0_hw6.2.2.2.2.2.1
theorem k0_off182_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off182 k0_t3 arg46 v2138 v2327 v2516 v2705 v2894) a + S1x8x128.size a ≤ S250x24x128.size a := fun k0_t3 arg46 v2138 v2327 v2516 v2705 v2894 k0_hw6 => k0_hw6.2.2.2.2.2.2.1
theorem k0_off183_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off183 k0_t3 arg46 v2138 v2327 v2516 v2705 v2894) a + S1x8x128.size a ≤ S250x24x128.size a := fun k0_t3 arg46 v2138 v2327 v2516 v2705 v2894 k0_hw6 => k0_hw6.2.2.2.2.2.2.2.1
theorem k0_off184_inb : ∀ (k0_t3 : Fin k0_t3_loop.trips) (arg46 : BitVec 32) (v2138 : BitVec 32) (v2327 : BitVec 32) (v2516 : BitVec 32) (v2705 : BitVec 32) (v2894 : BitVec 32) (k0_hw6 : k0_chk6 k0_t3 arg46 v2138 v2327 v2516 v2705 v2894), ∀ a, (k0_off184 k0_t3 arg46 v2138 v2327 v2516 v2705 v2894) a + S1x1.size a ≤ S250x128.size a := fun k0_t3 arg46 v2138 v2327 v2516 v2705 v2894 k0_hw6 => k0_hw6.2.2.2.2.2.2.2.2

def k0_off185 (k0_t3 : Fin k0_t3_loop.trips) (arg46 : BitVec 32) (v2138 : BitVec 32) (v2327 : BitVec 32) (v2516 : BitVec 32) (v2705 : BitVec 32) (v2894 : BitVec 32) (v3083 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let v3095 : Index := Scalar.indexCast v3092
  let c0_1292 : Index := 0#32
  ![v3095.toNat, 0]

def k0_off186 (k0_t3 : Fin k0_t3_loop.trips) (arg46 : BitVec 32) (v2138 : BitVec 32) (v2327 : BitVec 32) (v2516 : BitVec 32) (v2705 : BitVec 32) (v2894 : BitVec 32) (v3083 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let v3126 : Index := Scalar.indexCast v3092
  let c0_1301 : Index := 0#32
  let c0_1302 : Index := 0#32
  ![v3126.toNat, 0, 0]
def k0_off187 (k0_t3 : Fin k0_t3_loop.trips) (arg46 : BitVec 32) (v2138 : BitVec 32) (v2327 : BitVec 32) (v2516 : BitVec 32) (v2705 : BitVec 32) (v2894 : BitVec 32) (v3083 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let v3150 : Index := Scalar.indexCast v3092
  let c8_1309 : Index := 8#32
  let c0_1310 : Index := 0#32
  ![v3150.toNat, 8, 0]
def k0_off188 (k0_t3 : Fin k0_t3_loop.trips) (arg46 : BitVec 32) (v2138 : BitVec 32) (v2327 : BitVec 32) (v2516 : BitVec 32) (v2705 : BitVec 32) (v2894 : BitVec 32) (v3083 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let v3174 : Index := Scalar.indexCast v3092
  let c16_1317 : Index := 16#32
  let c0_1318 : Index := 0#32
  ![v3174.toNat, 16, 0]
def k0_off189 (k0_t3 : Fin k0_t3_loop.trips) (arg46 : BitVec 32) (v2138 : BitVec 32) (v2327 : BitVec 32) (v2516 : BitVec 32) (v2705 : BitVec 32) (v2894 : BitVec 32) (v3083 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c1_i32_1290 : BitVec 32 := 1#32
  let v3093 : BitVec 32 := Scalar.addi v3092 c1_i32_1290
  let c249_i32_1291 : BitVec 32 := 249#32
  let v3094 : BitVec 32 := Scalar.minsi v3093 c249_i32_1291
  let v3182 : Index := Scalar.indexCast v3094
  let c0_1321 : Index := 0#32
  ![v3182.toNat, 0]
def k0_off190 (k0_t3 : Fin k0_t3_loop.trips) (arg46 : BitVec 32) (v2138 : BitVec 32) (v2327 : BitVec 32) (v2516 : BitVec 32) (v2705 : BitVec 32) (v2894 : BitVec 32) (v3083 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c1_i32_1290 : BitVec 32 := 1#32
  let v3093 : BitVec 32 := Scalar.addi v3092 c1_i32_1290
  let c249_i32_1291 : BitVec 32 := 249#32
  let v3094 : BitVec 32 := Scalar.minsi v3093 c249_i32_1291
  let v3213 : Index := Scalar.indexCast v3094
  let c0_1330 : Index := 0#32
  let c0_1331 : Index := 0#32
  ![v3213.toNat, 0, 0]
def k0_off191 (k0_t3 : Fin k0_t3_loop.trips) (arg46 : BitVec 32) (v2138 : BitVec 32) (v2327 : BitVec 32) (v2516 : BitVec 32) (v2705 : BitVec 32) (v2894 : BitVec 32) (v3083 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c1_i32_1290 : BitVec 32 := 1#32
  let v3093 : BitVec 32 := Scalar.addi v3092 c1_i32_1290
  let c249_i32_1291 : BitVec 32 := 249#32
  let v3094 : BitVec 32 := Scalar.minsi v3093 c249_i32_1291
  let v3237 : Index := Scalar.indexCast v3094
  let c8_1338 : Index := 8#32
  let c0_1339 : Index := 0#32
  ![v3237.toNat, 8, 0]
def k0_off192 (k0_t3 : Fin k0_t3_loop.trips) (arg46 : BitVec 32) (v2138 : BitVec 32) (v2327 : BitVec 32) (v2516 : BitVec 32) (v2705 : BitVec 32) (v2894 : BitVec 32) (v3083 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c1_i32_1290 : BitVec 32 := 1#32
  let v3093 : BitVec 32 := Scalar.addi v3092 c1_i32_1290
  let c249_i32_1291 : BitVec 32 := 249#32
  let v3094 : BitVec 32 := Scalar.minsi v3093 c249_i32_1291
  let v3261 : Index := Scalar.indexCast v3094
  let c16_1346 : Index := 16#32
  let c0_1347 : Index := 0#32
  ![v3261.toNat, 16, 0]
def k0_off193 (k0_t3 : Fin k0_t3_loop.trips) (arg46 : BitVec 32) (v2138 : BitVec 32) (v2327 : BitVec 32) (v2516 : BitVec 32) (v2705 : BitVec 32) (v2894 : BitVec 32) (v3083 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let v3271 : Index := Scalar.indexCast v3092
  let c127_1352 : Index := 127#32
  ![v3271.toNat, 127]

def k0_chk7 (k0_t3 : Fin k0_t3_loop.trips) (arg46 : BitVec 32) (v2138 : BitVec 32) (v2327 : BitVec 32) (v2516 : BitVec 32) (v2705 : BitVec 32) (v2894 : BitVec 32) (v3083 : BitVec 32) : Prop :=
  (∀ a, (k0_off185 k0_t3 arg46 v2138 v2327 v2516 v2705 v2894 v3083) a + S1x128.size a ≤ S250x128.size a) ∧
  (∀ a, (k0_off186 k0_t3 arg46 v2138 v2327 v2516 v2705 v2894 v3083) a + S1x8x128.size a ≤ S250x24x128.size a) ∧
  (∀ a, (k0_off187 k0_t3 arg46 v2138 v2327 v2516 v2705 v2894 v3083) a + S1x8x128.size a ≤ S250x24x128.size a) ∧
  (∀ a, (k0_off188 k0_t3 arg46 v2138 v2327 v2516 v2705 v2894 v3083) a + S1x8x128.size a ≤ S250x24x128.size a) ∧
  (∀ a, (k0_off189 k0_t3 arg46 v2138 v2327 v2516 v2705 v2894 v3083) a + S1x128.size a ≤ S250x128.size a) ∧
  (∀ a, (k0_off190 k0_t3 arg46 v2138 v2327 v2516 v2705 v2894 v3083) a + S1x8x128.size a ≤ S250x24x128.size a) ∧
  (∀ a, (k0_off191 k0_t3 arg46 v2138 v2327 v2516 v2705 v2894 v3083) a + S1x8x128.size a ≤ S250x24x128.size a) ∧
  (∀ a, (k0_off192 k0_t3 arg46 v2138 v2327 v2516 v2705 v2894 v3083) a + S1x8x128.size a ≤ S250x24x128.size a) ∧
  (∀ a, (k0_off193 k0_t3 arg46 v2138 v2327 v2516 v2705 v2894 v3083) a + S1x1.size a ≤ S250x128.size a)
theorem k0_off185_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off185 k0_t3 arg46 v2138 v2327 v2516 v2705 v2894 v3083) a + S1x128.size a ≤ S250x128.size a := fun k0_t3 arg46 v2138 v2327 v2516 v2705 v2894 v3083 k0_hw7 => k0_hw7.1
theorem k0_off186_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off186 k0_t3 arg46 v2138 v2327 v2516 v2705 v2894 v3083) a + S1x8x128.size a ≤ S250x24x128.size a := fun k0_t3 arg46 v2138 v2327 v2516 v2705 v2894 v3083 k0_hw7 => k0_hw7.2.1
theorem k0_off187_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off187 k0_t3 arg46 v2138 v2327 v2516 v2705 v2894 v3083) a + S1x8x128.size a ≤ S250x24x128.size a := fun k0_t3 arg46 v2138 v2327 v2516 v2705 v2894 v3083 k0_hw7 => k0_hw7.2.2.1
theorem k0_off188_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off188 k0_t3 arg46 v2138 v2327 v2516 v2705 v2894 v3083) a + S1x8x128.size a ≤ S250x24x128.size a := fun k0_t3 arg46 v2138 v2327 v2516 v2705 v2894 v3083 k0_hw7 => k0_hw7.2.2.2.1
theorem k0_off189_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off189 k0_t3 arg46 v2138 v2327 v2516 v2705 v2894 v3083) a + S1x128.size a ≤ S250x128.size a := fun k0_t3 arg46 v2138 v2327 v2516 v2705 v2894 v3083 k0_hw7 => k0_hw7.2.2.2.2.1
theorem k0_off190_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off190 k0_t3 arg46 v2138 v2327 v2516 v2705 v2894 v3083) a + S1x8x128.size a ≤ S250x24x128.size a := fun k0_t3 arg46 v2138 v2327 v2516 v2705 v2894 v3083 k0_hw7 => k0_hw7.2.2.2.2.2.1
theorem k0_off191_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off191 k0_t3 arg46 v2138 v2327 v2516 v2705 v2894 v3083) a + S1x8x128.size a ≤ S250x24x128.size a := fun k0_t3 arg46 v2138 v2327 v2516 v2705 v2894 v3083 k0_hw7 => k0_hw7.2.2.2.2.2.2.1
theorem k0_off192_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off192 k0_t3 arg46 v2138 v2327 v2516 v2705 v2894 v3083) a + S1x8x128.size a ≤ S250x24x128.size a := fun k0_t3 arg46 v2138 v2327 v2516 v2705 v2894 v3083 k0_hw7 => k0_hw7.2.2.2.2.2.2.2.1
theorem k0_off193_inb : ∀ (k0_t3 : Fin k0_t3_loop.trips) (arg46 : BitVec 32) (v2138 : BitVec 32) (v2327 : BitVec 32) (v2516 : BitVec 32) (v2705 : BitVec 32) (v2894 : BitVec 32) (v3083 : BitVec 32) (k0_hw7 : k0_chk7 k0_t3 arg46 v2138 v2327 v2516 v2705 v2894 v3083), ∀ a, (k0_off193 k0_t3 arg46 v2138 v2327 v2516 v2705 v2894 v3083) a + S1x1.size a ≤ S250x128.size a := fun k0_t3 arg46 v2138 v2327 v2516 v2705 v2894 v3083 k0_hw7 => k0_hw7.2.2.2.2.2.2.2.2

def k0_off194 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let v3284 : Index := Scalar.indexCast v3281
  let c0_1359 : Index := 0#32
  ![v3284.toNat, 0]

def k0_off195 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let v3315 : Index := Scalar.indexCast v3281
  let c0_1368 : Index := 0#32
  let c0_1369 : Index := 0#32
  ![v3315.toNat, 0, 0]
def k0_off196 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let v3339 : Index := Scalar.indexCast v3281
  let c8_1376 : Index := 8#32
  let c0_1377 : Index := 0#32
  ![v3339.toNat, 8, 0]
def k0_off197 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let v3363 : Index := Scalar.indexCast v3281
  let c16_1384 : Index := 16#32
  let c0_1385 : Index := 0#32
  ![v3363.toNat, 16, 0]
def k0_off198 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let c1_i32_1357 : BitVec 32 := 1#32
  let v3282 : BitVec 32 := Scalar.addi v3281 c1_i32_1357
  let c249_i32_1358 : BitVec 32 := 249#32
  let v3283 : BitVec 32 := Scalar.minsi v3282 c249_i32_1358
  let v3371 : Index := Scalar.indexCast v3283
  let c0_1388 : Index := 0#32
  ![v3371.toNat, 0]
def k0_off199 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let c1_i32_1357 : BitVec 32 := 1#32
  let v3282 : BitVec 32 := Scalar.addi v3281 c1_i32_1357
  let c249_i32_1358 : BitVec 32 := 249#32
  let v3283 : BitVec 32 := Scalar.minsi v3282 c249_i32_1358
  let v3402 : Index := Scalar.indexCast v3283
  let c0_1397 : Index := 0#32
  let c0_1398 : Index := 0#32
  ![v3402.toNat, 0, 0]
def k0_off200 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let c1_i32_1357 : BitVec 32 := 1#32
  let v3282 : BitVec 32 := Scalar.addi v3281 c1_i32_1357
  let c249_i32_1358 : BitVec 32 := 249#32
  let v3283 : BitVec 32 := Scalar.minsi v3282 c249_i32_1358
  let v3426 : Index := Scalar.indexCast v3283
  let c8_1405 : Index := 8#32
  let c0_1406 : Index := 0#32
  ![v3426.toNat, 8, 0]
def k0_off201 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 3 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let c1_i32_1357 : BitVec 32 := 1#32
  let v3282 : BitVec 32 := Scalar.addi v3281 c1_i32_1357
  let c249_i32_1358 : BitVec 32 := 249#32
  let v3283 : BitVec 32 := Scalar.minsi v3282 c249_i32_1358
  let v3450 : Index := Scalar.indexCast v3283
  let c16_1413 : Index := 16#32
  let c0_1414 : Index := 0#32
  ![v3450.toNat, 16, 0]
def k0_off202 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Fin 2 → Nat :=
  let c128_i32_948 : BitVec 32 := 128#32
  let v2135 : BitVec 32 := Scalar.muli arg46 c128_i32_948
  let c127_i32_949 : BitVec 32 := 127#32
  let v2136 : BitVec 32 := Scalar.addi v2135 c127_i32_949
  let v2139 : BitVec 32 := Scalar.addi v2136 v2138
  let c0_i32_295 : BitVec 32 := 0#32
  let c1_i32_296 : BitVec 32 := 1#32
  let arg39 : BitVec 32 := Scf.iv c0_i32_295 c1_i32_296 k0_t3
  let c8_i32_787 : BitVec 32 := 8#32
  let v1593 : BitVec 32 := Scalar.muli arg39 c8_i32_787
  let c0_i32_951 : BitVec 32 := 0#32
  let v2140 : BitVec 32 := Scalar.addi v1593 c0_i32_951
  let c1_i32_952 : BitVec 32 := 1#32
  let v2141 : BitVec 32 := Scalar.addi v2140 c1_i32_952
  let c128_i32_953 : BitVec 32 := 128#32
  let v2142 : BitVec 32 := Scalar.muli v2141 c128_i32_953
  let v2143 : BitVec 1 := Scalar.cmpi .slt v2139 v2142
  let c249_i32_954 : BitVec 32 := 249#32
  let v2144 : BitVec 1 := Scalar.cmpi .slt arg46 c249_i32_954
  let v2145 : BitVec 1 := Scalar.andi v2143 v2144
  let v2146 : BitVec 32 := Scalar.extui v2145
  let v2147 : BitVec 32 := Scalar.addi arg46 v2146
  let c128_i32_1015 : BitVec 32 := 128#32
  let v2324 : BitVec 32 := Scalar.muli v2147 c128_i32_1015
  let c127_i32_1016 : BitVec 32 := 127#32
  let v2325 : BitVec 32 := Scalar.addi v2324 c127_i32_1016
  let v2328 : BitVec 32 := Scalar.addi v2325 v2327
  let c1_i32_1018 : BitVec 32 := 1#32
  let v2329 : BitVec 32 := Scalar.addi v1593 c1_i32_1018
  let c1_i32_1019 : BitVec 32 := 1#32
  let v2330 : BitVec 32 := Scalar.addi v2329 c1_i32_1019
  let c128_i32_1020 : BitVec 32 := 128#32
  let v2331 : BitVec 32 := Scalar.muli v2330 c128_i32_1020
  let v2332 : BitVec 1 := Scalar.cmpi .slt v2328 v2331
  let c249_i32_1021 : BitVec 32 := 249#32
  let v2333 : BitVec 1 := Scalar.cmpi .slt v2147 c249_i32_1021
  let v2334 : BitVec 1 := Scalar.andi v2332 v2333
  let v2335 : BitVec 32 := Scalar.extui v2334
  let v2336 : BitVec 32 := Scalar.addi v2147 v2335
  let c128_i32_1082 : BitVec 32 := 128#32
  let v2513 : BitVec 32 := Scalar.muli v2336 c128_i32_1082
  let c127_i32_1083 : BitVec 32 := 127#32
  let v2514 : BitVec 32 := Scalar.addi v2513 c127_i32_1083
  let v2517 : BitVec 32 := Scalar.addi v2514 v2516
  let c2_i32_1085 : BitVec 32 := 2#32
  let v2518 : BitVec 32 := Scalar.addi v1593 c2_i32_1085
  let c1_i32_1086 : BitVec 32 := 1#32
  let v2519 : BitVec 32 := Scalar.addi v2518 c1_i32_1086
  let c128_i32_1087 : BitVec 32 := 128#32
  let v2520 : BitVec 32 := Scalar.muli v2519 c128_i32_1087
  let v2521 : BitVec 1 := Scalar.cmpi .slt v2517 v2520
  let c249_i32_1088 : BitVec 32 := 249#32
  let v2522 : BitVec 1 := Scalar.cmpi .slt v2336 c249_i32_1088
  let v2523 : BitVec 1 := Scalar.andi v2521 v2522
  let v2524 : BitVec 32 := Scalar.extui v2523
  let v2525 : BitVec 32 := Scalar.addi v2336 v2524
  let c128_i32_1149 : BitVec 32 := 128#32
  let v2702 : BitVec 32 := Scalar.muli v2525 c128_i32_1149
  let c127_i32_1150 : BitVec 32 := 127#32
  let v2703 : BitVec 32 := Scalar.addi v2702 c127_i32_1150
  let v2706 : BitVec 32 := Scalar.addi v2703 v2705
  let c3_i32_1152 : BitVec 32 := 3#32
  let v2707 : BitVec 32 := Scalar.addi v1593 c3_i32_1152
  let c1_i32_1153 : BitVec 32 := 1#32
  let v2708 : BitVec 32 := Scalar.addi v2707 c1_i32_1153
  let c128_i32_1154 : BitVec 32 := 128#32
  let v2709 : BitVec 32 := Scalar.muli v2708 c128_i32_1154
  let v2710 : BitVec 1 := Scalar.cmpi .slt v2706 v2709
  let c249_i32_1155 : BitVec 32 := 249#32
  let v2711 : BitVec 1 := Scalar.cmpi .slt v2525 c249_i32_1155
  let v2712 : BitVec 1 := Scalar.andi v2710 v2711
  let v2713 : BitVec 32 := Scalar.extui v2712
  let v2714 : BitVec 32 := Scalar.addi v2525 v2713
  let c128_i32_1216 : BitVec 32 := 128#32
  let v2891 : BitVec 32 := Scalar.muli v2714 c128_i32_1216
  let c127_i32_1217 : BitVec 32 := 127#32
  let v2892 : BitVec 32 := Scalar.addi v2891 c127_i32_1217
  let v2895 : BitVec 32 := Scalar.addi v2892 v2894
  let c4_i32_1219 : BitVec 32 := 4#32
  let v2896 : BitVec 32 := Scalar.addi v1593 c4_i32_1219
  let c1_i32_1220 : BitVec 32 := 1#32
  let v2897 : BitVec 32 := Scalar.addi v2896 c1_i32_1220
  let c128_i32_1221 : BitVec 32 := 128#32
  let v2898 : BitVec 32 := Scalar.muli v2897 c128_i32_1221
  let v2899 : BitVec 1 := Scalar.cmpi .slt v2895 v2898
  let c249_i32_1222 : BitVec 32 := 249#32
  let v2900 : BitVec 1 := Scalar.cmpi .slt v2714 c249_i32_1222
  let v2901 : BitVec 1 := Scalar.andi v2899 v2900
  let v2902 : BitVec 32 := Scalar.extui v2901
  let v2903 : BitVec 32 := Scalar.addi v2714 v2902
  let c128_i32_1283 : BitVec 32 := 128#32
  let v3080 : BitVec 32 := Scalar.muli v2903 c128_i32_1283
  let c127_i32_1284 : BitVec 32 := 127#32
  let v3081 : BitVec 32 := Scalar.addi v3080 c127_i32_1284
  let v3084 : BitVec 32 := Scalar.addi v3081 v3083
  let c5_i32_1286 : BitVec 32 := 5#32
  let v3085 : BitVec 32 := Scalar.addi v1593 c5_i32_1286
  let c1_i32_1287 : BitVec 32 := 1#32
  let v3086 : BitVec 32 := Scalar.addi v3085 c1_i32_1287
  let c128_i32_1288 : BitVec 32 := 128#32
  let v3087 : BitVec 32 := Scalar.muli v3086 c128_i32_1288
  let v3088 : BitVec 1 := Scalar.cmpi .slt v3084 v3087
  let c249_i32_1289 : BitVec 32 := 249#32
  let v3089 : BitVec 1 := Scalar.cmpi .slt v2903 c249_i32_1289
  let v3090 : BitVec 1 := Scalar.andi v3088 v3089
  let v3091 : BitVec 32 := Scalar.extui v3090
  let v3092 : BitVec 32 := Scalar.addi v2903 v3091
  let c128_i32_1350 : BitVec 32 := 128#32
  let v3269 : BitVec 32 := Scalar.muli v3092 c128_i32_1350
  let c127_i32_1351 : BitVec 32 := 127#32
  let v3270 : BitVec 32 := Scalar.addi v3269 c127_i32_1351
  let v3273 : BitVec 32 := Scalar.addi v3270 v3272
  let c6_i32_1353 : BitVec 32 := 6#32
  let v3274 : BitVec 32 := Scalar.addi v1593 c6_i32_1353
  let c1_i32_1354 : BitVec 32 := 1#32
  let v3275 : BitVec 32 := Scalar.addi v3274 c1_i32_1354
  let c128_i32_1355 : BitVec 32 := 128#32
  let v3276 : BitVec 32 := Scalar.muli v3275 c128_i32_1355
  let v3277 : BitVec 1 := Scalar.cmpi .slt v3273 v3276
  let c249_i32_1356 : BitVec 32 := 249#32
  let v3278 : BitVec 1 := Scalar.cmpi .slt v3092 c249_i32_1356
  let v3279 : BitVec 1 := Scalar.andi v3277 v3278
  let v3280 : BitVec 32 := Scalar.extui v3279
  let v3281 : BitVec 32 := Scalar.addi v3092 v3280
  let v3460 : Index := Scalar.indexCast v3281
  let c127_1419 : Index := 127#32
  ![v3460.toNat, 127]

def k0_chk8 (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) : Prop :=
  (∀ a, (k0_off194 k0_t3 arg46 v2138 v2327 v2516 v2705 v2894 v3083 v3272) a + S1x128.size a ≤ S250x128.size a) ∧
  (∀ a, (k0_off195 k0_t3 arg46 v2138 v2327 v2516 v2705 v2894 v3083 v3272) a + S1x8x128.size a ≤ S250x24x128.size a) ∧
  (∀ a, (k0_off196 k0_t3 arg46 v2138 v2327 v2516 v2705 v2894 v3083 v3272) a + S1x8x128.size a ≤ S250x24x128.size a) ∧
  (∀ a, (k0_off197 k0_t3 arg46 v2138 v2327 v2516 v2705 v2894 v3083 v3272) a + S1x8x128.size a ≤ S250x24x128.size a) ∧
  (∀ a, (k0_off198 k0_t3 arg46 v2138 v2327 v2516 v2705 v2894 v3083 v3272) a + S1x128.size a ≤ S250x128.size a) ∧
  (∀ a, (k0_off199 k0_t3 arg46 v2138 v2327 v2516 v2705 v2894 v3083 v3272) a + S1x8x128.size a ≤ S250x24x128.size a) ∧
  (∀ a, (k0_off200 k0_t3 arg46 v2138 v2327 v2516 v2705 v2894 v3083 v3272) a + S1x8x128.size a ≤ S250x24x128.size a) ∧
  (∀ a, (k0_off201 k0_t3 arg46 v2138 v2327 v2516 v2705 v2894 v3083 v3272) a + S1x8x128.size a ≤ S250x24x128.size a) ∧
  (∀ a, (k0_off202 k0_t3 arg46 v2138 v2327 v2516 v2705 v2894 v3083 v3272) a + S1x1.size a ≤ S250x128.size a)
theorem k0_off194_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off194 k0_t3 arg46 v2138 v2327 v2516 v2705 v2894 v3083 v3272) a + S1x128.size a ≤ S250x128.size a := fun k0_t3 arg46 v2138 v2327 v2516 v2705 v2894 v3083 v3272 k0_hw8 => k0_hw8.1
theorem k0_off195_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off195 k0_t3 arg46 v2138 v2327 v2516 v2705 v2894 v3083 v3272) a + S1x8x128.size a ≤ S250x24x128.size a := fun k0_t3 arg46 v2138 v2327 v2516 v2705 v2894 v3083 v3272 k0_hw8 => k0_hw8.2.1
theorem k0_off196_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off196 k0_t3 arg46 v2138 v2327 v2516 v2705 v2894 v3083 v3272) a + S1x8x128.size a ≤ S250x24x128.size a := fun k0_t3 arg46 v2138 v2327 v2516 v2705 v2894 v3083 v3272 k0_hw8 => k0_hw8.2.2.1
theorem k0_off197_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off197 k0_t3 arg46 v2138 v2327 v2516 v2705 v2894 v3083 v3272) a + S1x8x128.size a ≤ S250x24x128.size a := fun k0_t3 arg46 v2138 v2327 v2516 v2705 v2894 v3083 v3272 k0_hw8 => k0_hw8.2.2.2.1
theorem k0_off198_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off198 k0_t3 arg46 v2138 v2327 v2516 v2705 v2894 v3083 v3272) a + S1x128.size a ≤ S250x128.size a := fun k0_t3 arg46 v2138 v2327 v2516 v2705 v2894 v3083 v3272 k0_hw8 => k0_hw8.2.2.2.2.1
theorem k0_off199_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off199 k0_t3 arg46 v2138 v2327 v2516 v2705 v2894 v3083 v3272) a + S1x8x128.size a ≤ S250x24x128.size a := fun k0_t3 arg46 v2138 v2327 v2516 v2705 v2894 v3083 v3272 k0_hw8 => k0_hw8.2.2.2.2.2.1
theorem k0_off200_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off200 k0_t3 arg46 v2138 v2327 v2516 v2705 v2894 v3083 v3272) a + S1x8x128.size a ≤ S250x24x128.size a := fun k0_t3 arg46 v2138 v2327 v2516 v2705 v2894 v3083 v3272 k0_hw8 => k0_hw8.2.2.2.2.2.2.1
theorem k0_off201_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off201 k0_t3 arg46 v2138 v2327 v2516 v2705 v2894 v3083 v3272) a + S1x8x128.size a ≤ S250x24x128.size a := fun k0_t3 arg46 v2138 v2327 v2516 v2705 v2894 v3083 v3272 k0_hw8 => k0_hw8.2.2.2.2.2.2.2.1
theorem k0_off202_inb : ∀ (k0_t3 : Fin k0_t3_loop.trips) (arg46 : BitVec 32) (v2138 : BitVec 32) (v2327 : BitVec 32) (v2516 : BitVec 32) (v2705 : BitVec 32) (v2894 : BitVec 32) (v3083 : BitVec 32) (v3272 : BitVec 32) (k0_hw8 : k0_chk8 k0_t3 arg46 v2138 v2327 v2516 v2705 v2894 v3083 v3272), ∀ a, (k0_off202 k0_t3 arg46 v2138 v2327 v2516 v2705 v2894 v3083 v3272) a + S1x1.size a ≤ S250x128.size a := fun k0_t3 arg46 v2138 v2327 v2516 v2705 v2894 v3083 v3272 k0_hw8 => k0_hw8.2.2.2.2.2.2.2.2

def k0_off203 (v511_6 : BitVec 32) : Fin 2 → Nat :=
  let v628 : Index := Scalar.indexCast v511_6
  let c0_370 : Index := 0#32
  ![v628.toNat, 0]

def k0_off204 (v511_6 : BitVec 32) : Fin 3 → Nat :=
  let v658 : Index := Scalar.indexCast v511_6
  let c0_376 : Index := 0#32
  let c0_377 : Index := 0#32
  ![v658.toNat, 0, 0]
def k0_off205 (v511_6 : BitVec 32) : Fin 3 → Nat :=
  let v682 : Index := Scalar.indexCast v511_6
  let c8_384 : Index := 8#32
  let c0_385 : Index := 0#32
  ![v682.toNat, 8, 0]
def k0_off206 (v511_6 : BitVec 32) : Fin 3 → Nat :=
  let v706 : Index := Scalar.indexCast v511_6
  let c16_392 : Index := 16#32
  let c0_393 : Index := 0#32
  ![v706.toNat, 16, 0]
def k0_off207 (v511_6 : BitVec 32) : Fin 2 → Nat :=
  let c1_i32_369 : BitVec 32 := 1#32
  let v626 : BitVec 32 := Scalar.addi v511_6 c1_i32_369
  let c249_i32 : BitVec 32 := 249#32
  let v627 : BitVec 32 := Scalar.minsi v626 c249_i32
  let v714 : Index := Scalar.indexCast v627
  let c0_396 : Index := 0#32
  ![v714.toNat, 0]
def k0_off208 (v511_6 : BitVec 32) : Fin 3 → Nat :=
  let c1_i32_369 : BitVec 32 := 1#32
  let v626 : BitVec 32 := Scalar.addi v511_6 c1_i32_369
  let c249_i32 : BitVec 32 := 249#32
  let v627 : BitVec 32 := Scalar.minsi v626 c249_i32
  let v744 : Index := Scalar.indexCast v627
  let c0_405 : Index := 0#32
  let c0_406 : Index := 0#32
  ![v744.toNat, 0, 0]
def k0_off209 (v511_6 : BitVec 32) : Fin 3 → Nat :=
  let c1_i32_369 : BitVec 32 := 1#32
  let v626 : BitVec 32 := Scalar.addi v511_6 c1_i32_369
  let c249_i32 : BitVec 32 := 249#32
  let v627 : BitVec 32 := Scalar.minsi v626 c249_i32
  let v768 : Index := Scalar.indexCast v627
  let c8_413 : Index := 8#32
  let c0_414 : Index := 0#32
  ![v768.toNat, 8, 0]
def k0_off210 (v511_6 : BitVec 32) : Fin 3 → Nat :=
  let c1_i32_369 : BitVec 32 := 1#32
  let v626 : BitVec 32 := Scalar.addi v511_6 c1_i32_369
  let c249_i32 : BitVec 32 := 249#32
  let v627 : BitVec 32 := Scalar.minsi v626 c249_i32
  let v792 : Index := Scalar.indexCast v627
  let c16_421 : Index := 16#32
  let c0_422 : Index := 0#32
  ![v792.toNat, 16, 0]
def k0_off211 (v511_6 : BitVec 32) : Fin 2 → Nat :=
  let v802 : Index := Scalar.indexCast v511_6
  let c127 : Index := 127#32
  ![v802.toNat, 127]

def k0_chk9 (v511_6 : BitVec 32) : Prop :=
  (∀ a, (k0_off203 v511_6) a + S1x128.size a ≤ S250x128.size a) ∧
  (∀ a, (k0_off204 v511_6) a + S1x8x128.size a ≤ S250x24x128.size a) ∧
  (∀ a, (k0_off205 v511_6) a + S1x8x128.size a ≤ S250x24x128.size a) ∧
  (∀ a, (k0_off206 v511_6) a + S1x8x128.size a ≤ S250x24x128.size a) ∧
  (∀ a, (k0_off207 v511_6) a + S1x128.size a ≤ S250x128.size a) ∧
  (∀ a, (k0_off208 v511_6) a + S1x8x128.size a ≤ S250x24x128.size a) ∧
  (∀ a, (k0_off209 v511_6) a + S1x8x128.size a ≤ S250x24x128.size a) ∧
  (∀ a, (k0_off210 v511_6) a + S1x8x128.size a ≤ S250x24x128.size a) ∧
  (∀ a, (k0_off211 v511_6) a + S1x1.size a ≤ S250x128.size a)
theorem k0_off203_inb : ∀ (v511_6 : BitVec 32) (k0_hw9 : k0_chk9 v511_6), ∀ a, (k0_off203 v511_6) a + S1x128.size a ≤ S250x128.size a := fun v511_6 k0_hw9 => k0_hw9.1
theorem k0_off204_inb : ∀ (v511_6 : BitVec 32) (k0_hw9 : k0_chk9 v511_6), ∀ a, (k0_off204 v511_6) a + S1x8x128.size a ≤ S250x24x128.size a := fun v511_6 k0_hw9 => k0_hw9.2.1
theorem k0_off205_inb : ∀ (v511_6 : BitVec 32) (k0_hw9 : k0_chk9 v511_6), ∀ a, (k0_off205 v511_6) a + S1x8x128.size a ≤ S250x24x128.size a := fun v511_6 k0_hw9 => k0_hw9.2.2.1
theorem k0_off206_inb : ∀ (v511_6 : BitVec 32) (k0_hw9 : k0_chk9 v511_6), ∀ a, (k0_off206 v511_6) a + S1x8x128.size a ≤ S250x24x128.size a := fun v511_6 k0_hw9 => k0_hw9.2.2.2.1
theorem k0_off207_inb : ∀ (v511_6 : BitVec 32) (k0_hw9 : k0_chk9 v511_6), ∀ a, (k0_off207 v511_6) a + S1x128.size a ≤ S250x128.size a := fun v511_6 k0_hw9 => k0_hw9.2.2.2.2.1
theorem k0_off208_inb : ∀ (v511_6 : BitVec 32) (k0_hw9 : k0_chk9 v511_6), ∀ a, (k0_off208 v511_6) a + S1x8x128.size a ≤ S250x24x128.size a := fun v511_6 k0_hw9 => k0_hw9.2.2.2.2.2.1
theorem k0_off209_inb : ∀ (v511_6 : BitVec 32) (k0_hw9 : k0_chk9 v511_6), ∀ a, (k0_off209 v511_6) a + S1x8x128.size a ≤ S250x24x128.size a := fun v511_6 k0_hw9 => k0_hw9.2.2.2.2.2.2.1
theorem k0_off210_inb : ∀ (v511_6 : BitVec 32) (k0_hw9 : k0_chk9 v511_6), ∀ a, (k0_off210 v511_6) a + S1x8x128.size a ≤ S250x24x128.size a := fun v511_6 k0_hw9 => k0_hw9.2.2.2.2.2.2.2.1
theorem k0_off211_inb : ∀ (v511_6 : BitVec 32) (k0_hw9 : k0_chk9 v511_6), ∀ a, (k0_off211 v511_6) a + S1x1.size a ≤ S250x128.size a := fun v511_6 k0_hw9 => k0_hw9.2.2.2.2.2.2.2.2

def k0_off212 (v511_6 : BitVec 32) (v803 : BitVec 32) : Fin 2 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let v812 : Index := Scalar.indexCast v809
  let c0_430 : Index := 0#32
  ![v812.toNat, 0]

def k0_off213 (v511_6 : BitVec 32) (v803 : BitVec 32) : Fin 3 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let v842 : Index := Scalar.indexCast v809
  let c0_438 : Index := 0#32
  let c0_439 : Index := 0#32
  ![v842.toNat, 0, 0]
def k0_off214 (v511_6 : BitVec 32) (v803 : BitVec 32) : Fin 3 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let v866 : Index := Scalar.indexCast v809
  let c8_446 : Index := 8#32
  let c0_447 : Index := 0#32
  ![v866.toNat, 8, 0]
def k0_off215 (v511_6 : BitVec 32) (v803 : BitVec 32) : Fin 3 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let v890 : Index := Scalar.indexCast v809
  let c16_454 : Index := 16#32
  let c0_455 : Index := 0#32
  ![v890.toNat, 16, 0]
def k0_off216 (v511_6 : BitVec 32) (v803 : BitVec 32) : Fin 2 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let c1_i32_428 : BitVec 32 := 1#32
  let v810 : BitVec 32 := Scalar.addi v809 c1_i32_428
  let c249_i32_429 : BitVec 32 := 249#32
  let v811 : BitVec 32 := Scalar.minsi v810 c249_i32_429
  let v898 : Index := Scalar.indexCast v811
  let c0_458 : Index := 0#32
  ![v898.toNat, 0]
def k0_off217 (v511_6 : BitVec 32) (v803 : BitVec 32) : Fin 3 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let c1_i32_428 : BitVec 32 := 1#32
  let v810 : BitVec 32 := Scalar.addi v809 c1_i32_428
  let c249_i32_429 : BitVec 32 := 249#32
  let v811 : BitVec 32 := Scalar.minsi v810 c249_i32_429
  let v928 : Index := Scalar.indexCast v811
  let c0_467 : Index := 0#32
  let c0_468 : Index := 0#32
  ![v928.toNat, 0, 0]
def k0_off218 (v511_6 : BitVec 32) (v803 : BitVec 32) : Fin 3 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let c1_i32_428 : BitVec 32 := 1#32
  let v810 : BitVec 32 := Scalar.addi v809 c1_i32_428
  let c249_i32_429 : BitVec 32 := 249#32
  let v811 : BitVec 32 := Scalar.minsi v810 c249_i32_429
  let v952 : Index := Scalar.indexCast v811
  let c8_475 : Index := 8#32
  let c0_476 : Index := 0#32
  ![v952.toNat, 8, 0]
def k0_off219 (v511_6 : BitVec 32) (v803 : BitVec 32) : Fin 3 → Nat :=
  let c128_i32_425 : BitVec 32 := 128#32
  let v800 : BitVec 32 := Scalar.muli v511_6 c128_i32_425
  let c127_i32_426 : BitVec 32 := 127#32
  let v801 : BitVec 32 := Scalar.addi v800 c127_i32_426
  let v804 : BitVec 32 := Scalar.addi v801 v803
  let c128128_i32 : BitVec 32 := 128128#32
  let v805 : BitVec 1 := Scalar.cmpi .slt v804 c128128_i32
  let c249_i32_427 : BitVec 32 := 249#32
  let v806 : BitVec 1 := Scalar.cmpi .slt v511_6 c249_i32_427
  let v807 : BitVec 1 := Scalar.andi v805 v806
  let v808 : BitVec 32 := Scalar.extui v807
  let v809 : BitVec 32 := Scalar.addi v511_6 v808
  let c1_i32_428 : BitVec 32 := 1#32
  let v810 : BitVec 32 := Scalar.addi v809 c1_i32_428
  let c249_i32_429 : BitVec 32 := 249#32
  let v811 : BitVec 32 := Scalar.minsi v810 c249_i32_429
  let v976 : Index := Scalar.indexCast v811
  let c16_483 : Index := 16#32
  let c0_484 : Index := 0#32
  ![v976.toNat, 16, 0]

def k0_chk10 (v511_6 : BitVec 32) (v803 : BitVec 32) : Prop :=
  (∀ a, (k0_off212 v511_6 v803) a + S1x128.size a ≤ S250x128.size a) ∧
  (∀ a, (k0_off213 v511_6 v803) a + S1x8x128.size a ≤ S250x24x128.size a) ∧
  (∀ a, (k0_off214 v511_6 v803) a + S1x8x128.size a ≤ S250x24x128.size a) ∧
  (∀ a, (k0_off215 v511_6 v803) a + S1x8x128.size a ≤ S250x24x128.size a) ∧
  (∀ a, (k0_off216 v511_6 v803) a + S1x128.size a ≤ S250x128.size a) ∧
  (∀ a, (k0_off217 v511_6 v803) a + S1x8x128.size a ≤ S250x24x128.size a) ∧
  (∀ a, (k0_off218 v511_6 v803) a + S1x8x128.size a ≤ S250x24x128.size a) ∧
  (∀ a, (k0_off219 v511_6 v803) a + S1x8x128.size a ≤ S250x24x128.size a)
theorem k0_off212_inb : ∀ (v511_6 : BitVec 32) (v803 : BitVec 32) (k0_hw10 : k0_chk10 v511_6 v803), ∀ a, (k0_off212 v511_6 v803) a + S1x128.size a ≤ S250x128.size a := fun v511_6 v803 k0_hw10 => k0_hw10.1
theorem k0_off213_inb : ∀ (v511_6 : BitVec 32) (v803 : BitVec 32) (k0_hw10 : k0_chk10 v511_6 v803), ∀ a, (k0_off213 v511_6 v803) a + S1x8x128.size a ≤ S250x24x128.size a := fun v511_6 v803 k0_hw10 => k0_hw10.2.1
theorem k0_off214_inb : ∀ (v511_6 : BitVec 32) (v803 : BitVec 32) (k0_hw10 : k0_chk10 v511_6 v803), ∀ a, (k0_off214 v511_6 v803) a + S1x8x128.size a ≤ S250x24x128.size a := fun v511_6 v803 k0_hw10 => k0_hw10.2.2.1
theorem k0_off215_inb : ∀ (v511_6 : BitVec 32) (v803 : BitVec 32) (k0_hw10 : k0_chk10 v511_6 v803), ∀ a, (k0_off215 v511_6 v803) a + S1x8x128.size a ≤ S250x24x128.size a := fun v511_6 v803 k0_hw10 => k0_hw10.2.2.2.1
theorem k0_off216_inb : ∀ (v511_6 : BitVec 32) (v803 : BitVec 32) (k0_hw10 : k0_chk10 v511_6 v803), ∀ a, (k0_off216 v511_6 v803) a + S1x128.size a ≤ S250x128.size a := fun v511_6 v803 k0_hw10 => k0_hw10.2.2.2.2.1
theorem k0_off217_inb : ∀ (v511_6 : BitVec 32) (v803 : BitVec 32) (k0_hw10 : k0_chk10 v511_6 v803), ∀ a, (k0_off217 v511_6 v803) a + S1x8x128.size a ≤ S250x24x128.size a := fun v511_6 v803 k0_hw10 => k0_hw10.2.2.2.2.2.1
theorem k0_off218_inb : ∀ (v511_6 : BitVec 32) (v803 : BitVec 32) (k0_hw10 : k0_chk10 v511_6 v803), ∀ a, (k0_off218 v511_6 v803) a + S1x8x128.size a ≤ S250x24x128.size a := fun v511_6 v803 k0_hw10 => k0_hw10.2.2.2.2.2.2.1
theorem k0_off219_inb : ∀ (v511_6 : BitVec 32) (v803 : BitVec 32) (k0_hw10 : k0_chk10 v511_6 v803), ∀ a, (k0_off219 v511_6 v803) a + S1x8x128.size a ≤ S250x24x128.size a := fun v511_6 v803 k0_hw10 => k0_hw10.2.2.2.2.2.2.2

@[reducible] def k0_t4_loop : Scf.Loop 32 :=
  let c0_i32_500 : BitVec 32 := 0#32
  let c250_i32_501 : BitVec 32 := 250#32
  let v1046 : BitVec 32 := Scalar.addi c0_i32_500 c250_i32_501
  let c1_i32_502 : BitVec 32 := 1#32
  ⟨c0_i32_500, v1046, c1_i32_502⟩
def k0_off220 (k0_t4 : Fin k0_t4_loop.trips) : Fin 3 → Nat :=
  let c0_i32_500 : BitVec 32 := 0#32
  let c1_i32_502 : BitVec 32 := 1#32
  let arg39 : BitVec 32 := Scf.iv c0_i32_500 c1_i32_502 k0_t4
  let v1566 : Index := Scalar.indexCast arg39
  let c0_767 : Index := 0#32
  let c0_768 : Index := 0#32
  ![v1566.toNat, 0, 0]
def k0_off221 (v1056 : BitVec 32) : Fin 3 → Nat :=
  let c7_i32_509 : BitVec 32 := 7#32
  let v1057 : BitVec 32 := Scalar.shrui v1056 c7_i32_509
  let v1064 : Index := Scalar.indexCast v1057
  let c0_512 : Index := 0#32
  let c0_513 : Index := 0#32
  ![v1064.toNat, 0, 0]

def k0_chk11 (v1056 : BitVec 32) : Prop :=
  (∀ a, (k0_off221 v1056) a + S1x8x128.size a ≤ S250x24x128.size a)
theorem k0_off221_inb : ∀ (v1056 : BitVec 32) (k0_hw11 : k0_chk11 v1056), ∀ a, (k0_off221 v1056) a + S1x8x128.size a ≤ S250x24x128.size a := fun v1056 k0_hw11 => k0_hw11

def k0_off222 (v1073 : BitVec 32) : Fin 3 → Nat :=
  let c7_i32_518 : BitVec 32 := 7#32
  let v1074 : BitVec 32 := Scalar.shrui v1073 c7_i32_518
  let v1081 : Index := Scalar.indexCast v1074
  let c0_521 : Index := 0#32
  let c0_522 : Index := 0#32
  ![v1081.toNat, 0, 0]

def k0_chk12 (v1073 : BitVec 32) : Prop :=
  (∀ a, (k0_off222 v1073) a + S1x8x128.size a ≤ S250x24x128.size a)
theorem k0_off222_inb : ∀ (v1073 : BitVec 32) (k0_hw12 : k0_chk12 v1073), ∀ a, (k0_off222 v1073) a + S1x8x128.size a ≤ S250x24x128.size a := fun v1073 k0_hw12 => k0_hw12

def k0_off223 (v1090 : BitVec 32) : Fin 3 → Nat :=
  let c7_i32_527 : BitVec 32 := 7#32
  let v1091 : BitVec 32 := Scalar.shrui v1090 c7_i32_527
  let v1098 : Index := Scalar.indexCast v1091
  let c0_530 : Index := 0#32
  let c0_531 : Index := 0#32
  ![v1098.toNat, 0, 0]

def k0_chk13 (v1090 : BitVec 32) : Prop :=
  (∀ a, (k0_off223 v1090) a + S1x8x128.size a ≤ S250x24x128.size a)
theorem k0_off223_inb : ∀ (v1090 : BitVec 32) (k0_hw13 : k0_chk13 v1090), ∀ a, (k0_off223 v1090) a + S1x8x128.size a ≤ S250x24x128.size a := fun v1090 k0_hw13 => k0_hw13

def k0_off224 (v1107 : BitVec 32) : Fin 3 → Nat :=
  let c7_i32_536 : BitVec 32 := 7#32
  let v1108 : BitVec 32 := Scalar.shrui v1107 c7_i32_536
  let v1115 : Index := Scalar.indexCast v1108
  let c0_539 : Index := 0#32
  let c0_540 : Index := 0#32
  ![v1115.toNat, 0, 0]

def k0_chk14 (v1107 : BitVec 32) : Prop :=
  (∀ a, (k0_off224 v1107) a + S1x8x128.size a ≤ S250x24x128.size a)
theorem k0_off224_inb : ∀ (v1107 : BitVec 32) (k0_hw14 : k0_chk14 v1107), ∀ a, (k0_off224 v1107) a + S1x8x128.size a ≤ S250x24x128.size a := fun v1107 k0_hw14 => k0_hw14

def k0_off225 (v1124 : BitVec 32) : Fin 3 → Nat :=
  let c7_i32_545 : BitVec 32 := 7#32
  let v1125 : BitVec 32 := Scalar.shrui v1124 c7_i32_545
  let v1132 : Index := Scalar.indexCast v1125
  let c0_548 : Index := 0#32
  let c0_549 : Index := 0#32
  ![v1132.toNat, 0, 0]

def k0_chk15 (v1124 : BitVec 32) : Prop :=
  (∀ a, (k0_off225 v1124) a + S1x8x128.size a ≤ S250x24x128.size a)
theorem k0_off225_inb : ∀ (v1124 : BitVec 32) (k0_hw15 : k0_chk15 v1124), ∀ a, (k0_off225 v1124) a + S1x8x128.size a ≤ S250x24x128.size a := fun v1124 k0_hw15 => k0_hw15

def k0_off226 (v1141 : BitVec 32) : Fin 3 → Nat :=
  let c7_i32_554 : BitVec 32 := 7#32
  let v1142 : BitVec 32 := Scalar.shrui v1141 c7_i32_554
  let v1149 : Index := Scalar.indexCast v1142
  let c0_557 : Index := 0#32
  let c0_558 : Index := 0#32
  ![v1149.toNat, 0, 0]

def k0_chk16 (v1141 : BitVec 32) : Prop :=
  (∀ a, (k0_off226 v1141) a + S1x8x128.size a ≤ S250x24x128.size a)
theorem k0_off226_inb : ∀ (v1141 : BitVec 32) (k0_hw16 : k0_chk16 v1141), ∀ a, (k0_off226 v1141) a + S1x8x128.size a ≤ S250x24x128.size a := fun v1141 k0_hw16 => k0_hw16

def k0_off227 (v1158 : BitVec 32) : Fin 3 → Nat :=
  let c7_i32_563 : BitVec 32 := 7#32
  let v1159 : BitVec 32 := Scalar.shrui v1158 c7_i32_563
  let v1166 : Index := Scalar.indexCast v1159
  let c0_566 : Index := 0#32
  let c0_567 : Index := 0#32
  ![v1166.toNat, 0, 0]

def k0_chk17 (v1158 : BitVec 32) : Prop :=
  (∀ a, (k0_off227 v1158) a + S1x8x128.size a ≤ S250x24x128.size a)
theorem k0_off227_inb : ∀ (v1158 : BitVec 32) (k0_hw17 : k0_chk17 v1158), ∀ a, (k0_off227 v1158) a + S1x8x128.size a ≤ S250x24x128.size a := fun v1158 k0_hw17 => k0_hw17

def k0_off228 (v1227 : BitVec 32) : Fin 3 → Nat :=
  let c7_i32_594 : BitVec 32 := 7#32
  let v1228 : BitVec 32 := Scalar.shrui v1227 c7_i32_594
  let v1235 : Index := Scalar.indexCast v1228
  let c8_597 : Index := 8#32
  let c0_598 : Index := 0#32
  ![v1235.toNat, 8, 0]

def k0_chk18 (v1227 : BitVec 32) : Prop :=
  (∀ a, (k0_off228 v1227) a + S1x8x128.size a ≤ S250x24x128.size a)
theorem k0_off228_inb : ∀ (v1227 : BitVec 32) (k0_hw18 : k0_chk18 v1227), ∀ a, (k0_off228 v1227) a + S1x8x128.size a ≤ S250x24x128.size a := fun v1227 k0_hw18 => k0_hw18

def k0_off229 (v1244 : BitVec 32) : Fin 3 → Nat :=
  let c7_i32_603 : BitVec 32 := 7#32
  let v1245 : BitVec 32 := Scalar.shrui v1244 c7_i32_603
  let v1252 : Index := Scalar.indexCast v1245
  let c8_606 : Index := 8#32
  let c0_607 : Index := 0#32
  ![v1252.toNat, 8, 0]

def k0_chk19 (v1244 : BitVec 32) : Prop :=
  (∀ a, (k0_off229 v1244) a + S1x8x128.size a ≤ S250x24x128.size a)
theorem k0_off229_inb : ∀ (v1244 : BitVec 32) (k0_hw19 : k0_chk19 v1244), ∀ a, (k0_off229 v1244) a + S1x8x128.size a ≤ S250x24x128.size a := fun v1244 k0_hw19 => k0_hw19

def k0_off230 (v1261 : BitVec 32) : Fin 3 → Nat :=
  let c7_i32_612 : BitVec 32 := 7#32
  let v1262 : BitVec 32 := Scalar.shrui v1261 c7_i32_612
  let v1269 : Index := Scalar.indexCast v1262
  let c8_615 : Index := 8#32
  let c0_616 : Index := 0#32
  ![v1269.toNat, 8, 0]

def k0_chk20 (v1261 : BitVec 32) : Prop :=
  (∀ a, (k0_off230 v1261) a + S1x8x128.size a ≤ S250x24x128.size a)
theorem k0_off230_inb : ∀ (v1261 : BitVec 32) (k0_hw20 : k0_chk20 v1261), ∀ a, (k0_off230 v1261) a + S1x8x128.size a ≤ S250x24x128.size a := fun v1261 k0_hw20 => k0_hw20

def k0_off231 (v1278 : BitVec 32) : Fin 3 → Nat :=
  let c7_i32_621 : BitVec 32 := 7#32
  let v1279 : BitVec 32 := Scalar.shrui v1278 c7_i32_621
  let v1286 : Index := Scalar.indexCast v1279
  let c8_624 : Index := 8#32
  let c0_625 : Index := 0#32
  ![v1286.toNat, 8, 0]

def k0_chk21 (v1278 : BitVec 32) : Prop :=
  (∀ a, (k0_off231 v1278) a + S1x8x128.size a ≤ S250x24x128.size a)
theorem k0_off231_inb : ∀ (v1278 : BitVec 32) (k0_hw21 : k0_chk21 v1278), ∀ a, (k0_off231 v1278) a + S1x8x128.size a ≤ S250x24x128.size a := fun v1278 k0_hw21 => k0_hw21

def k0_off232 (v1295 : BitVec 32) : Fin 3 → Nat :=
  let c7_i32_630 : BitVec 32 := 7#32
  let v1296 : BitVec 32 := Scalar.shrui v1295 c7_i32_630
  let v1303 : Index := Scalar.indexCast v1296
  let c8_633 : Index := 8#32
  let c0_634 : Index := 0#32
  ![v1303.toNat, 8, 0]

def k0_chk22 (v1295 : BitVec 32) : Prop :=
  (∀ a, (k0_off232 v1295) a + S1x8x128.size a ≤ S250x24x128.size a)
theorem k0_off232_inb : ∀ (v1295 : BitVec 32) (k0_hw22 : k0_chk22 v1295), ∀ a, (k0_off232 v1295) a + S1x8x128.size a ≤ S250x24x128.size a := fun v1295 k0_hw22 => k0_hw22

def k0_off233 (v1312 : BitVec 32) : Fin 3 → Nat :=
  let c7_i32_639 : BitVec 32 := 7#32
  let v1313 : BitVec 32 := Scalar.shrui v1312 c7_i32_639
  let v1320 : Index := Scalar.indexCast v1313
  let c8_642 : Index := 8#32
  let c0_643 : Index := 0#32
  ![v1320.toNat, 8, 0]

def k0_chk23 (v1312 : BitVec 32) : Prop :=
  (∀ a, (k0_off233 v1312) a + S1x8x128.size a ≤ S250x24x128.size a)
theorem k0_off233_inb : ∀ (v1312 : BitVec 32) (k0_hw23 : k0_chk23 v1312), ∀ a, (k0_off233 v1312) a + S1x8x128.size a ≤ S250x24x128.size a := fun v1312 k0_hw23 => k0_hw23

def k0_off234 (v1329 : BitVec 32) : Fin 3 → Nat :=
  let c7_i32_648 : BitVec 32 := 7#32
  let v1330 : BitVec 32 := Scalar.shrui v1329 c7_i32_648
  let v1337 : Index := Scalar.indexCast v1330
  let c8_651 : Index := 8#32
  let c0_652 : Index := 0#32
  ![v1337.toNat, 8, 0]

def k0_chk24 (v1329 : BitVec 32) : Prop :=
  (∀ a, (k0_off234 v1329) a + S1x8x128.size a ≤ S250x24x128.size a)
theorem k0_off234_inb : ∀ (v1329 : BitVec 32) (k0_hw24 : k0_chk24 v1329), ∀ a, (k0_off234 v1329) a + S1x8x128.size a ≤ S250x24x128.size a := fun v1329 k0_hw24 => k0_hw24

def k0_off235 (v1398 : BitVec 32) : Fin 3 → Nat :=
  let c7_i32_679 : BitVec 32 := 7#32
  let v1399 : BitVec 32 := Scalar.shrui v1398 c7_i32_679
  let v1406 : Index := Scalar.indexCast v1399
  let c16_682 : Index := 16#32
  let c0_683 : Index := 0#32
  ![v1406.toNat, 16, 0]

def k0_chk25 (v1398 : BitVec 32) : Prop :=
  (∀ a, (k0_off235 v1398) a + S1x8x128.size a ≤ S250x24x128.size a)
theorem k0_off235_inb : ∀ (v1398 : BitVec 32) (k0_hw25 : k0_chk25 v1398), ∀ a, (k0_off235 v1398) a + S1x8x128.size a ≤ S250x24x128.size a := fun v1398 k0_hw25 => k0_hw25

def k0_off236 (v1415 : BitVec 32) : Fin 3 → Nat :=
  let c7_i32_688 : BitVec 32 := 7#32
  let v1416 : BitVec 32 := Scalar.shrui v1415 c7_i32_688
  let v1423 : Index := Scalar.indexCast v1416
  let c16_691 : Index := 16#32
  let c0_692 : Index := 0#32
  ![v1423.toNat, 16, 0]

def k0_chk26 (v1415 : BitVec 32) : Prop :=
  (∀ a, (k0_off236 v1415) a + S1x8x128.size a ≤ S250x24x128.size a)
theorem k0_off236_inb : ∀ (v1415 : BitVec 32) (k0_hw26 : k0_chk26 v1415), ∀ a, (k0_off236 v1415) a + S1x8x128.size a ≤ S250x24x128.size a := fun v1415 k0_hw26 => k0_hw26

def k0_off237 (v1432 : BitVec 32) : Fin 3 → Nat :=
  let c7_i32_697 : BitVec 32 := 7#32
  let v1433 : BitVec 32 := Scalar.shrui v1432 c7_i32_697
  let v1440 : Index := Scalar.indexCast v1433
  let c16_700 : Index := 16#32
  let c0_701 : Index := 0#32
  ![v1440.toNat, 16, 0]

def k0_chk27 (v1432 : BitVec 32) : Prop :=
  (∀ a, (k0_off237 v1432) a + S1x8x128.size a ≤ S250x24x128.size a)
theorem k0_off237_inb : ∀ (v1432 : BitVec 32) (k0_hw27 : k0_chk27 v1432), ∀ a, (k0_off237 v1432) a + S1x8x128.size a ≤ S250x24x128.size a := fun v1432 k0_hw27 => k0_hw27

def k0_off238 (v1449 : BitVec 32) : Fin 3 → Nat :=
  let c7_i32_706 : BitVec 32 := 7#32
  let v1450 : BitVec 32 := Scalar.shrui v1449 c7_i32_706
  let v1457 : Index := Scalar.indexCast v1450
  let c16_709 : Index := 16#32
  let c0_710 : Index := 0#32
  ![v1457.toNat, 16, 0]

def k0_chk28 (v1449 : BitVec 32) : Prop :=
  (∀ a, (k0_off238 v1449) a + S1x8x128.size a ≤ S250x24x128.size a)
theorem k0_off238_inb : ∀ (v1449 : BitVec 32) (k0_hw28 : k0_chk28 v1449), ∀ a, (k0_off238 v1449) a + S1x8x128.size a ≤ S250x24x128.size a := fun v1449 k0_hw28 => k0_hw28

def k0_off239 (v1466 : BitVec 32) : Fin 3 → Nat :=
  let c7_i32_715 : BitVec 32 := 7#32
  let v1467 : BitVec 32 := Scalar.shrui v1466 c7_i32_715
  let v1474 : Index := Scalar.indexCast v1467
  let c16_718 : Index := 16#32
  let c0_719 : Index := 0#32
  ![v1474.toNat, 16, 0]

def k0_chk29 (v1466 : BitVec 32) : Prop :=
  (∀ a, (k0_off239 v1466) a + S1x8x128.size a ≤ S250x24x128.size a)
theorem k0_off239_inb : ∀ (v1466 : BitVec 32) (k0_hw29 : k0_chk29 v1466), ∀ a, (k0_off239 v1466) a + S1x8x128.size a ≤ S250x24x128.size a := fun v1466 k0_hw29 => k0_hw29

def k0_off240 (v1483 : BitVec 32) : Fin 3 → Nat :=
  let c7_i32_724 : BitVec 32 := 7#32
  let v1484 : BitVec 32 := Scalar.shrui v1483 c7_i32_724
  let v1491 : Index := Scalar.indexCast v1484
  let c16_727 : Index := 16#32
  let c0_728 : Index := 0#32
  ![v1491.toNat, 16, 0]

def k0_chk30 (v1483 : BitVec 32) : Prop :=
  (∀ a, (k0_off240 v1483) a + S1x8x128.size a ≤ S250x24x128.size a)
theorem k0_off240_inb : ∀ (v1483 : BitVec 32) (k0_hw30 : k0_chk30 v1483), ∀ a, (k0_off240 v1483) a + S1x8x128.size a ≤ S250x24x128.size a := fun v1483 k0_hw30 => k0_hw30

def k0_off241 (v1500 : BitVec 32) : Fin 3 → Nat :=
  let c7_i32_733 : BitVec 32 := 7#32
  let v1501 : BitVec 32 := Scalar.shrui v1500 c7_i32_733
  let v1508 : Index := Scalar.indexCast v1501
  let c16_736 : Index := 16#32
  let c0_737 : Index := 0#32
  ![v1508.toNat, 16, 0]

def k0_chk31 (v1500 : BitVec 32) : Prop :=
  (∀ a, (k0_off241 v1500) a + S1x8x128.size a ≤ S250x24x128.size a)
theorem k0_off241_inb : ∀ (v1500 : BitVec 32) (k0_hw31 : k0_chk31 v1500), ∀ a, (k0_off241 v1500) a + S1x8x128.size a ≤ S250x24x128.size a := fun v1500 k0_hw31 => k0_hw31

abbrev stage0_0 : Fin 1 → Memref sig .tc .vmem S3x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S3x8x3072 : Shape := ⟨3, ![3, 8, 3072]⟩
abbrev S3x8 : Shape := ⟨2, ![3, 8]⟩
abbrev S3072x128256 : Shape := ⟨2, ![3072, 128256]⟩
abbrev S128256 : Shape := ⟨1, ![128256]⟩
abbrev S3x7x3072 : Shape := ⟨3, ![3, 7, 3072]⟩
abbrev S3x7 : Shape := ⟨2, ![3, 7]⟩
abbrev S3072x32000 : Shape := ⟨2, ![3072, 32000]⟩
abbrev S32000 : Shape := ⟨1, ![32000]⟩
abbrev S1x128256 : Shape := ⟨2, ![1, 128256]⟩
abbrev S1x32000 : Shape := ⟨2, ![1, 32000]⟩
abbrev S3x8x128256 : Shape := ⟨3, ![3, 8, 128256]⟩
abbrev S3x7x32000 : Shape := ⟨3, ![3, 7, 32000]⟩
abbrev S1x8x3072 : Shape := ⟨3, ![1, 8, 3072]⟩
abbrev S8x3072 : Shape := ⟨2, ![8, 3072]⟩
abbrev S8x128256 : Shape := ⟨2, ![8, 128256]⟩
abbrev S1x8 : Shape := ⟨2, ![1, 8]⟩
abbrev S8 : Shape := ⟨1, ![8]⟩
abbrev S8x1 : Shape := ⟨2, ![8, 1]⟩
abbrev S1x8x128256 : Shape := ⟨3, ![1, 8, 128256]⟩
abbrev S1x7x3072 : Shape := ⟨3, ![1, 7, 3072]⟩
abbrev S7x3072 : Shape := ⟨2, ![7, 3072]⟩
abbrev S7x32000 : Shape := ⟨2, ![7, 32000]⟩
abbrev S1x7 : Shape := ⟨2, ![1, 7]⟩
abbrev S7 : Shape := ⟨1, ![7]⟩
abbrev S7x1 : Shape := ⟨2, ![7, 1]⟩
abbrev S1x7x32000 : Shape := ⟨3, ![1, 7, 32000]⟩

abbrev nBuf : Space → Nat
  | .hbm => 19
  | .vmem => 14
  | .smem => 0
  | _ => 0

abbrev bufTy : (tb : Table) → Fin (tcTables nBuf tb) → BufTy
  | .hbm, ⟨0, _⟩ => ⟨S3x8x3072, .fp8e4m3⟩
  | .hbm, ⟨1, _⟩ => ⟨S3x8, .f32⟩
  | .hbm, ⟨2, _⟩ => ⟨S3072x128256, .fp8e4m3⟩
  | .hbm, ⟨3, _⟩ => ⟨S128256, .f32⟩
  | .hbm, ⟨4, _⟩ => ⟨S3x7x3072, .fp8e4m3⟩
  | .hbm, ⟨5, _⟩ => ⟨S3x7, .f32⟩
  | .hbm, ⟨6, _⟩ => ⟨S3072x32000, .fp8e4m3⟩
  | .hbm, ⟨7, _⟩ => ⟨S32000, .f32⟩
  | .hbm, ⟨8, _⟩ => ⟨S32000, .i32⟩
  | .hbm, ⟨9, _⟩ => ⟨S3x7, .i32⟩
  | .hbm, ⟨10, _⟩ => ⟨S3x7, .i32⟩
  | .hbm, ⟨11, _⟩ => ⟨S1x128256, .f32⟩
  | .hbm, ⟨12, _⟩ => ⟨S1x32000, .f32⟩
  | .hbm, ⟨13, _⟩ => ⟨S3x7, .f32⟩
  | .hbm, ⟨14, _⟩ => ⟨S3x7, .f32⟩
  | .hbm, ⟨15, _⟩ => ⟨S3x8, .f32⟩
  | .hbm, ⟨16, _⟩ => ⟨S3x7, .f32⟩
  | .hbm, ⟨17, _⟩ => ⟨S3x8x128256, .bf16⟩
  | .hbm, ⟨18, _⟩ => ⟨S3x7x32000, .bf16⟩
  | .local _ .vmem, ⟨0, _⟩ => ⟨S3x8x3072, .fp8e4m3⟩
  | .local _ .vmem, ⟨1, _⟩ => ⟨S3x8, .f32⟩
  | .local _ .vmem, ⟨2, _⟩ => ⟨S3072x128256, .fp8e4m3⟩
  | .local _ .vmem, ⟨3, _⟩ => ⟨S1x128256, .f32⟩
  | .local _ .vmem, ⟨4, _⟩ => ⟨S3x7x3072, .fp8e4m3⟩
  | .local _ .vmem, ⟨5, _⟩ => ⟨S3x7, .f32⟩
  | .local _ .vmem, ⟨6, _⟩ => ⟨S3072x32000, .fp8e4m3⟩
  | .local _ .vmem, ⟨7, _⟩ => ⟨S1x32000, .f32⟩
  | .local _ .vmem, ⟨8, _⟩ => ⟨S3x7, .f32⟩
  | .local _ .vmem, ⟨9, _⟩ => ⟨S3x7, .f32⟩
  | .local _ .vmem, ⟨10, _⟩ => ⟨S3x8, .f32⟩
  | .local _ .vmem, ⟨11, _⟩ => ⟨S3x7, .f32⟩
  | .local _ .vmem, ⟨12, _⟩ => ⟨S3x8x128256, .bf16⟩
  | .local _ .vmem, ⟨13, _⟩ => ⟨S3x7x32000, .bf16⟩
  | _, _ => ⟨S3x8x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x8x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x128256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x7x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x32000 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x7 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x7 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x8x128256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x7x32000 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KernelNames.lean ====
/-
  The names the run of the kernel is stated in: the four slots of the weight ring, the two slots of each output
  ring, the blocks of the two weights and of the two logits arrays, the semaphores, and the equations by which the
  slices the kernel's body takes (at offsets computed from the loops' induction variables) are these.
-/
module

public import Idealize.ShloMosaic.PureOps.BitExact
public import Idealize.ShloMosaic.PureOps.Ideal
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Whole buffers -/

abbrev wtM : Memref sig .tc .hbm S3072x128256 .fp8e4m3 := Memref.whole main_arg2
abbrev wdM : Memref sig .tc .hbm S3072x32000 .fp8e4m3 := Memref.whole main_arg6
abbrev ltM : Memref sig .tc .hbm S3x8x128256 .bf16 := Memref.whole main_v3_4
abbrev ldM : Memref sig .tc .hbm S3x7x32000 .bf16 := Memref.whole main_v3_5
abbrev ringM : Memref sig .tc .vmem S4x3072x1024 .fp8e4m3 := Memref.whole cc0_scratch0
abbrev wtsM : Memref sig .tc .vmem S1002x128 .f32 := Memref.whole cc0_scratch5
abbrev wdsM : Memref sig .tc .vmem S250x128 .f32 := Memref.whole cc0_scratch6
abbrev d2tM : Memref sig .tc .vmem S250x128 .i32 := Memref.whole cc0_scratch7
abbrev d2tsM : Memref sig .tc .smem S250x128 .i32 := Memref.whole cc0_scratch8
abbrev x8M : Memref sig .tc .vmem S32x3072 .fp8e4m3 := Memref.whole cc0_scratch11
abbrev h8M : Memref sig .tc .vmem S32x3072 .fp8e4m3 := Memref.whole cc0_scratch12
abbrev zcM : Memref sig .tc .vmem S250x24x128 .f32 := Memref.whole cc0_scratch13
abbrev zdM : Memref sig .tc .vmem S250x24x128 .f32 := Memref.whole cc0_scratch14
abbrev obtM : Memref sig .tc .vmem S2x3x8x1024 .bf16 := Memref.whole cc0_scratch15
abbrev obdM : Memref sig .tc .vmem S2x3x7x1024 .bf16 := Memref.whole cc0_scratch16

/-! ## Offsets -/

abbrev o1 (s : ℕ) : Fin 1 → Nat := ![s]
abbrev o3 (s : ℕ) : Fin 3 → Nat := ![s, 0, 0]
abbrev o4 (s : ℕ) : Fin 4 → Nat := ![s, 0, 0, 0]
abbrev c2 (b : ℕ) : Fin 2 → Nat := ![0, 1024 * b]
abbrev c3 (b : ℕ) : Fin 3 → Nat := ![0, 0, 1024 * b]

theorem o1_inb4 (s : Fin 4) : ∀ a, o1 s.val a + S1.size a ≤ S4.size a := by
  have := s.isLt; intro a; fin_cases a; show s.val + 1 ≤ 4; omega
theorem o1_inb2 (s : Fin 2) : ∀ a, o1 s.val a + S1.size a ≤ S2.size a := by
  have := s.isLt; intro a; fin_cases a; show s.val + 1 ≤ 2; omega
theorem o3_inb (s : Fin 4) : ∀ a, o3 s.val a + S1x3072x1024.size a ≤ S4x3072x1024.size a := by
  have := s.isLt; intro a; fin_cases a
  · show s.val + 1 ≤ 4; omega
  · show 0 + 3072 ≤ 3072; omega
  · show 0 + 1024 ≤ 1024; omega
theorem o3_inbN (s : Fin 4) : ∀ a, o3 s.val a + S1x3072x256.size a ≤ S4x3072x1024.size a := by
  have := s.isLt; intro a; fin_cases a
  · show s.val + 1 ≤ 4; omega
  · show 0 + 3072 ≤ 3072; omega
  · show 0 + 256 ≤ 1024; omega
theorem o4_inbD (s : Fin 2) : ∀ a, o4 s.val a + S1x3x7x1024.size a ≤ S2x3x7x1024.size a := by
  have := s.isLt; intro a; fin_cases a
  · show s.val + 1 ≤ 2; omega
  · show 0 + 3 ≤ 3; omega
  · show 0 + 7 ≤ 7; omega
  · show 0 + 1024 ≤ 1024; omega
theorem o4_inbT (s : Fin 2) : ∀ a, o4 s.val a + S1x3x8x1024.size a ≤ S2x3x8x1024.size a := by
  have := s.isLt; intro a; fin_cases a
  · show s.val + 1 ≤ 2; omega
  · show 0 + 3 ≤ 3; omega
  · show 0 + 8 ≤ 8; omega
  · show 0 + 1024 ≤ 1024; omega
theorem c2_inbD (b : Fin 31) : ∀ a, c2 b.val a + S3072x1024.size a ≤ S3072x32000.size a := by
  have := b.isLt; intro a; fin_cases a
  · show 0 + 3072 ≤ 3072; omega
  · show 1024 * b.val + 1024 ≤ 32000; omega
theorem c2_inbT (b : Fin 125) : ∀ a, c2 b.val a + S3072x1024.size a ≤ S3072x128256.size a := by
  have := b.isLt; intro a; fin_cases a
  · show 0 + 3072 ≤ 3072; omega
  · show 1024 * b.val + 1024 ≤ 128256; omega
theorem c3_inbD (b : Fin 31) : ∀ a, c3 b.val a + S3x7x1024.size a ≤ S3x7x32000.size a := by
  have := b.isLt; intro a; fin_cases a
  · show 0 + 3 ≤ 3; omega
  · show 0 + 7 ≤ 7; omega
  · show 1024 * b.val + 1024 ≤ 32000; omega
theorem c3_inbT (b : Fin 125) : ∀ a, c3 b.val a + S3x8x1024.size a ≤ S3x8x128256.size a := by
  have := b.isLt; intro a; fin_cases a
  · show 0 + 3 ≤ 3; omega
  · show 0 + 8 ≤ 8; omega
  · show 1024 * b.val + 1024 ≤ 128256; omega

/-! ## Canonical names -/

/-- Slot `s` of the weight ring, as the body slices and squeezes it; -/
def rslot (s : Fin 4) : Memref sig .tc .vmem S3072x1024 .fp8e4m3 :=
  (ringM.slice (Rect.unit (s := S4x3072x1024) (o3 s.val) S1x3072x1024.size (o3_inb s)) (fun _ => rfl)).squeeze S3072x1024 squeezes_S1x3072x1024_S3072x1024
/-- its first 256 columns (where a weight's last, narrow block lands). -/
def nslot (s : Fin 4) : Memref sig .tc .vmem S3072x256 .fp8e4m3 :=
  (ringM.slice (Rect.unit (s := S4x3072x1024) (o3 s.val) S1x3072x256.size (o3_inbN s)) (fun _ => rfl)).squeeze S3072x256 squeezes_S1x3072x256_S3072x256
/-- Ring slot `s`'s semaphore. -/
def csm (s : Fin 4) : DmaSems sig S_ := (cc0_scratch17.slice (Rect.unit (s := S4) (o1 s.val) S1.size (o1_inb4 s))).squeeze S_ squeezes_S1_S_
/-- Block `b` of the draft weight: columns `1024 b …`. -/
def wdB (b : Fin 31) : Memref sig .tc .hbm S3072x1024 .fp8e4m3 :=
  wdM.slice (Rect.unit (s := S3072x32000) (c2 b.val) S3072x1024.size (c2_inbD b)) (fun _ => rfl)
/-- Block `b` of the target weight. -/
def wtB (b : Fin 125) : Memref sig .tc .hbm S3072x1024 .fp8e4m3 :=
  wtM.slice (Rect.unit (s := S3072x128256) (c2 b.val) S3072x1024.size (c2_inbT b)) (fun _ => rfl)
/-- The last 256 columns of the draft weight; of the target weight. -/
def wdN : Memref sig .tc .hbm S3072x256 .fp8e4m3 :=
  wdM.slice (Rect.unit (s := S3072x32000) ![0, 31744] S3072x256.size inb_S3072x32000_S3072x256_0_31744) (fun _ => rfl)
def wtN : Memref sig .tc .hbm S3072x256 .fp8e4m3 :=
  wtM.slice (Rect.unit (s := S3072x128256) ![0, 128000] S3072x256.size inb_S3072x128256_S3072x256_0_128000) (fun _ => rfl)
/-- Slot `s` of the draft output ring and its semaphore; -/
def dslot (s : Fin 2) : Memref sig .tc .vmem S3x7x1024 .bf16 :=
  (obdM.slice (Rect.unit (s := S2x3x7x1024) (o4 s.val) S1x3x7x1024.size (o4_inbD s)) (fun _ => rfl)).squeeze S3x7x1024 squeezes_S1x3x7x1024_S3x7x1024
def dsm (s : Fin 2) : DmaSems sig S_ := (cc0_scratch20.slice (Rect.unit (s := S2) (o1 s.val) S1.size (o1_inb2 s))).squeeze S_ squeezes_S1_S_
/-- of the target output ring. -/
def tslot (s : Fin 2) : Memref sig .tc .vmem S3x8x1024 .bf16 :=
  (obtM.slice (Rect.unit (s := S2x3x8x1024) (o4 s.val) S1x3x8x1024.size (o4_inbT s)) (fun _ => rfl)).squeeze S3x8x1024 squeezes_S1x3x8x1024_S3x8x1024
def tsm (s : Fin 2) : DmaSems sig S_ := (cc0_scratch19.slice (Rect.unit (s := S2) (o1 s.val) S1.size (o1_inb2 s))).squeeze S_ squeezes_S1_S_
/-- Block `b` of the draft logits; of the target logits. -/
def ldB (b : Fin 31) : Memref sig .tc .hbm S3x7x1024 .bf16 :=
  ldM.slice (Rect.unit (s := S3x7x32000) (c3 b.val) S3x7x1024.size (c3_inbD b)) (fun _ => rfl)
def ltB (b : Fin 125) : Memref sig .tc .hbm S3x8x1024 .bf16 :=
  ltM.slice (Rect.unit (s := S3x8x128256) (c3 b.val) S3x8x1024.size (c3_inbT b)) (fun _ => rfl)

/-! ### The slices are these -/

theorem csm_congr {off : Fin 1 → Nat} {s : Fin 4} (e : off = o1 s.val) (hh) :
    (cc0_scratch17.slice (Rect.unit (s := S4) off S1.size hh)).squeeze S_ squeezes_S1_S_ = csm s :=
  congrArg (fun A : DmaSems sig S1 => A.squeeze S_ squeezes_S1_S_) (SemArray.slice_unit_congr _ e _ _)
theorem dsm_congr {off : Fin 1 → Nat} {s : Fin 2} (e : off = o1 s.val) (hh) :
    (cc0_scratch20.slice (Rect.unit (s := S2) off S1.size hh)).squeeze S_ squeezes_S1_S_ = dsm s :=
  congrArg (fun A : DmaSems sig S1 => A.squeeze S_ squeezes_S1_S_) (SemArray.slice_unit_congr _ e _ _)
theorem tsm_congr {off : Fin 1 → Nat} {s : Fin 2} (e : off = o1 s.val) (hh) :
    (cc0_scratch19.slice (Rect.unit (s := S2) off S1.size hh)).squeeze S_ squeezes_S1_S_ = tsm s :=
  congrArg (fun A : DmaSems sig S1 => A.squeeze S_ squeezes_S1_S_) (SemArray.slice_unit_congr _ e _ _)
theorem rslot_congr {off : Fin 3 → Nat} {s : Fin 4} (e : off = o3 s.val) (hh hs) :
    (ringM.slice (Rect.unit (s := S4x3072x1024) off S1x3072x1024.size hh) hs).squeeze S3072x1024 squeezes_S1x3072x1024_S3072x1024 = rslot s :=
  congrArg (fun M : Memref sig .tc .vmem S1x3072x1024 .fp8e4m3 => M.squeeze S3072x1024 squeezes_S1x3072x1024_S3072x1024) (Memref.slice_unit_congr _ e _ _ _ _)
theorem nslot_congr {off : Fin 3 → Nat} {s : Fin 4} (e : off = o3 s.val) (hh hs) :
    (ringM.slice (Rect.unit (s := S4x3072x1024) off S1x3072x256.size hh) hs).squeeze S3072x256 squeezes_S1x3072x256_S3072x256 = nslot s :=
  congrArg (fun M : Memref sig .tc .vmem S1x3072x256 .fp8e4m3 => M.squeeze S3072x256 squeezes_S1x3072x256_S3072x256) (Memref.slice_unit_congr _ e _ _ _ _)
theorem dslot_congr {off : Fin 4 → Nat} {s : Fin 2} (e : off = o4 s.val) (hh hs) :
    (obdM.slice (Rect.unit (s := S2x3x7x1024) off S1x3x7x1024.size hh) hs).squeeze S3x7x1024 squeezes_S1x3x7x1024_S3x7x1024 = dslot s :=
  congrArg (fun M : Memref sig .tc .vmem S1x3x7x1024 .bf16 => M.squeeze S3x7x1024 squeezes_S1x3x7x1024_S3x7x1024) (Memref.slice_unit_congr _ e _ _ _ _)
theorem tslot_congr {off : Fin 4 → Nat} {s : Fin 2} (e : off = o4 s.val) (hh hs) :
    (obtM.slice (Rect.unit (s := S2x3x8x1024) off S1x3x8x1024.size hh) hs).squeeze S3x8x1024 squeezes_S1x3x8x1024_S3x8x1024 = tslot s :=
  congrArg (fun M : Memref sig .tc .vmem S1x3x8x1024 .bf16 => M.squeeze S3x8x1024 squeezes_S1x3x8x1024_S3x8x1024) (Memref.slice_unit_congr _ e _ _ _ _)
theorem wdB_congr {off : Fin 2 → Nat} {b : Fin 31} (e : off = c2 b.val) (hh hs) :
    wdM.slice (Rect.unit (s := S3072x32000) off S3072x1024.size hh) hs = wdB b := Memref.slice_unit_congr _ e _ _ _ (fun _ => rfl)
theorem wtB_congr {off : Fin 2 → Nat} {b : Fin 125} (e : off = c2 b.val) (hh hs) :
    wtM.slice (Rect.unit (s := S3072x128256) off S3072x1024.size hh) hs = wtB b := Memref.slice_unit_congr _ e _ _ _ (fun _ => rfl)
theorem ldB_congr {off : Fin 3 → Nat} {b : Fin 31} (e : off = c3 b.val) (hh hs) :
    ldM.slice (Rect.unit (s := S3x7x32000) off S3x7x1024.size hh) hs = ldB b := Memref.slice_unit_congr _ e _ _ _ (fun _ => rfl)
theorem ltB_congr {off : Fin 3 → Nat} {b : Fin 125} (e : off = c3 b.val) (hh hs) :
    ltM.slice (Rect.unit (s := S3x8x128256) off S3x8x1024.size hh) hs = ltB b := Memref.slice_unit_congr _ e _ _ _ (fun _ => rfl)

theorem trips1 : k0_t1_loop.trips = 31 := by decide
theorem trips2 : k0_t2_loop.trips = 250 := by decide
theorem trips3 : k0_t3_loop.trips = 125 := by decide
theorem trips4 : k0_t4_loop.trips = 250 := by decide

theorem t1_lt (k : Fin k0_t1_loop.trips) : k.val < 31 := Nat.lt_of_lt_of_eq k.isLt trips1
theorem t3_lt (k : Fin k0_t3_loop.trips) : k.val < 125 := Nat.lt_of_lt_of_eq k.isLt trips3

theorem cond13_iff : ∀ k : Fin k0_t1_loop.trips, k0_cond13 k = 1#1 ↔ k.val + 3 < 31 := by decide +kernel
theorem cond14_iff : ∀ k : Fin k0_t1_loop.trips, k0_cond14 k = 1#1 ↔ k.val = 28 := by decide +kernel
theorem cond15_iff : ∀ k : Fin k0_t1_loop.trips, k0_cond15 k = 1#1 ↔ 29 ≤ k.val := by decide +kernel
theorem cond16_not : ∀ k : Fin k0_t1_loop.trips, ¬k0_cond16 k = 1#1 := by decide +kernel
theorem cond17_iff : ∀ k : Fin k0_t1_loop.trips, k0_cond17 k = 1#1 ↔ 2 ≤ k.val := by decide +kernel
theorem off40_eq : ∀ k : Fin k0_t1_loop.trips, 29 ≤ k.val → k0_off40 k = ![0, 1024 * (k.val - 29)] := by decide +kernel

section Slices1
variable (k : Fin k0_t1_loop.trips)

@[sl_canon] theorem sem1W (hh) : (cc0_scratch17.slice (Rect.unit (s := S4) (k0_off31 k) S1.size hh)).squeeze S_ squeezes_S1_S_ = csm (Ring.sl 4 k.val) :=
  csm_congr (k0_off31_eq k) _
@[sl_canon] theorem slot1W (hh hs) : (ringM.slice (Rect.unit (s := S4x3072x1024) (k0_off32 k) S1x3072x1024.size hh) hs).squeeze S3072x1024 squeezes_S1x3072x1024_S3072x1024 = rslot (Ring.sl 4 k.val) :=
  rslot_congr (k0_off32_eq k) _ _
@[sl_canon] theorem sem1A (hh) : (cc0_scratch17.slice (Rect.unit (s := S4) (k0_off33 k) S1.size hh)).squeeze S_ squeezes_S1_S_ = csm (Ring.sl 4 (k.val + 3)) :=
  csm_congr (k0_off33_eq k) _
@[sl_canon] theorem slot1A (hh hs) : (ringM.slice (Rect.unit (s := S4x3072x1024) (k0_off34 k) S1x3072x1024.size hh) hs).squeeze S3072x1024 squeezes_S1x3072x1024_S3072x1024 = rslot (Ring.sl 4 (k.val + 3)) :=
  rslot_congr (k0_off34_eq k) _ _
@[sl_canon] theorem src1A (h : k.val + 3 < 31) (hh hs) : wdM.slice (Rect.unit (s := S3072x32000) (k0_off35 k) S3072x1024.size hh) hs = wdB (Ring.bk 31 (k.val + 3)) :=
  wdB_congr (by rw [k0_off35_eq, c2, Ring.bk_val h, Nat.mul_add]) _ _
@[sl_canon] theorem sem1B (hh) : (cc0_scratch17.slice (Rect.unit (s := S4) (k0_off36 k) S1.size hh)).squeeze S_ squeezes_S1_S_ = csm (Ring.sl 4 (k.val + 3)) :=
  csm_congr (k0_off36_eq k) _
@[sl_canon] theorem slot1B (hh hs) : (ringM.slice (Rect.unit (s := S4x3072x1024) (k0_off37 k) S1x3072x256.size hh) hs).squeeze S3072x256 squeezes_S1x3072x256_S3072x256 = nslot (Ring.sl 4 (k.val + 3)) :=
  nslot_congr (k0_off37_eq k) _ _
@[sl_canon] theorem sem1C (hh) : (cc0_scratch17.slice (Rect.unit (s := S4) (k0_off38 k) S1.size hh)).squeeze S_ squeezes_S1_S_ = csm (Ring.sl 4 (k.val + 3)) :=
  csm_congr (k0_off38_eq k) _
@[sl_canon] theorem slot1C (hh hs) : (ringM.slice (Rect.unit (s := S4x3072x1024) (k0_off39 k) S1x3072x1024.size hh) hs).squeeze S3072x1024 squeezes_S1x3072x1024_S3072x1024 = rslot (Ring.sl 4 (k.val + 3)) :=
  rslot_congr (k0_off39_eq k) _ _
@[sl_canon] theorem src1C (h : 29 ≤ k.val) (hh hs) : wtM.slice (Rect.unit (s := S3072x128256) (k0_off40 k) S3072x1024.size hh) hs = wtB (Ring.bk 125 (k.val - 29)) :=
  wtB_congr (by rw [off40_eq k h, c2, Ring.bk_val (by have := t1_lt k; omega)]) _ _
@[sl_canon] theorem dsem1W (hh) : (cc0_scratch20.slice (Rect.unit (s := S2) (k0_off43 k) S1.size hh)).squeeze S_ squeezes_S1_S_ = dsm (Ring.sl 2 k.val) :=
  dsm_congr (k0_off43_eq k) _
@[sl_canon] theorem dslot1W (hh hs) : (obdM.slice (Rect.unit (s := S2x3x7x1024) (k0_off44 k) S1x3x7x1024.size hh) hs).squeeze S3x7x1024 squeezes_S1x3x7x1024_S3x7x1024 = dslot (Ring.sl 2 k.val) :=
  dslot_congr (k0_off44_eq k) _ _
@[sl_canon] theorem dsem1I (hh) : (cc0_scratch20.slice (Rect.unit (s := S2) (k0_off74 k) S1.size hh)).squeeze S_ squeezes_S1_S_ = dsm (Ring.sl 2 k.val) :=
  dsm_congr (k0_off74_eq k) _
@[sl_canon] theorem dslot1I (hh hs) : (obdM.slice (Rect.unit (s := S2x3x7x1024) (k0_off76 k) S1x3x7x1024.size hh) hs).squeeze S3x7x1024 squeezes_S1x3x7x1024_S3x7x1024 = dslot (Ring.sl 2 k.val) :=
  dslot_congr (k0_off76_eq k) _ _
@[sl_canon] theorem ddst1I (hh hs) : ldM.slice (Rect.unit (s := S3x7x32000) (k0_off75 k) S3x7x1024.size hh) hs = ldB (Ring.bk 31 k.val) :=
  ldB_congr (by rw [k0_off75_eq, c3, Ring.bk_val (t1_lt k)]) _ _
@[sl_canon] theorem wdN_eq (hh hs) : wdM.slice (Rect.unit (s := S3072x32000) ![0, 31744] S3072x256.size hh) hs = wdN := rfl
@[sl_canon] theorem wtN_eq (hh hs) : wtM.slice (Rect.unit (s := S3072x128256) ![0, 128000] S3072x256.size hh) hs = wtN := rfl

-- the accesses within a slot through the whole buffer, their boxes by the slot's own name
instance (s : ℕ) : ClosedOff (o3 s) := ⟨o3 s, rfl⟩
instance (s : ℕ) : ClosedOff (o4 s) := ⟨o4 s, rfl⟩
instance (s : ℕ) : ClosedOff (c2 s) := ⟨c2 s, rfl⟩
instance (s : ℕ) : ClosedOff (c3 s) := ⟨c3 s, rfl⟩
instance : ClosedOff (k0_off45 k) := ⟨o3 (Ring.sl 4 k.val).val, k0_off45_eq k⟩
instance : ClosedOff (k0_off50 k) := ⟨![(Ring.sl 2 k.val).val, 0, 0, 0], k0_off50_eq k⟩
instance : ClosedOff (k0_off51 k) := ⟨![(Ring.sl 2 k.val).val, 1, 0, 0], k0_off51_eq k⟩
instance : ClosedOff (k0_off52 k) := ⟨![(Ring.sl 2 k.val).val, 2, 0, 0], k0_off52_eq k⟩
instance : ClosedOff (k0_off53 k) := ⟨![(Ring.sl 2 k.val).val, 0, 0, 128], k0_off53_eq k⟩
instance : ClosedOff (k0_off54 k) := ⟨![(Ring.sl 2 k.val).val, 1, 0, 128], k0_off54_eq k⟩
instance : ClosedOff (k0_off55 k) := ⟨![(Ring.sl 2 k.val).val, 2, 0, 128], k0_off55_eq k⟩
instance : ClosedOff (k0_off56 k) := ⟨![(Ring.sl 2 k.val).val, 0, 0, 256], k0_off56_eq k⟩
instance : ClosedOff (k0_off57 k) := ⟨![(Ring.sl 2 k.val).val, 1, 0, 256], k0_off57_eq k⟩
instance : ClosedOff (k0_off58 k) := ⟨![(Ring.sl 2 k.val).val, 2, 0, 256], k0_off58_eq k⟩
instance : ClosedOff (k0_off59 k) := ⟨![(Ring.sl 2 k.val).val, 0, 0, 384], k0_off59_eq k⟩
instance : ClosedOff (k0_off60 k) := ⟨![(Ring.sl 2 k.val).val, 1, 0, 384], k0_off60_eq k⟩
instance : ClosedOff (k0_off61 k) := ⟨![(Ring.sl 2 k.val).val, 2, 0, 384], k0_off61_eq k⟩
instance : ClosedOff (k0_off62 k) := ⟨![(Ring.sl 2 k.val).val, 0, 0, 512], k0_off62_eq k⟩
instance : ClosedOff (k0_off63 k) := ⟨![(Ring.sl 2 k.val).val, 1, 0, 512], k0_off63_eq k⟩
instance : ClosedOff (k0_off64 k) := ⟨![(Ring.sl 2 k.val).val, 2, 0, 512], k0_off64_eq k⟩
instance : ClosedOff (k0_off65 k) := ⟨![(Ring.sl 2 k.val).val, 0, 0, 640], k0_off65_eq k⟩
instance : ClosedOff (k0_off66 k) := ⟨![(Ring.sl 2 k.val).val, 1, 0, 640], k0_off66_eq k⟩
instance : ClosedOff (k0_off67 k) := ⟨![(Ring.sl 2 k.val).val, 2, 0, 640], k0_off67_eq k⟩
instance : ClosedOff (k0_off68 k) := ⟨![(Ring.sl 2 k.val).val, 0, 0, 768], k0_off68_eq k⟩
instance : ClosedOff (k0_off69 k) := ⟨![(Ring.sl 2 k.val).val, 1, 0, 768], k0_off69_eq k⟩
instance : ClosedOff (k0_off70 k) := ⟨![(Ring.sl 2 k.val).val, 2, 0, 768], k0_off70_eq k⟩
instance : ClosedOff (k0_off71 k) := ⟨![(Ring.sl 2 k.val).val, 0, 0, 896], k0_off71_eq k⟩
instance : ClosedOff (k0_off72 k) := ⟨![(Ring.sl 2 k.val).val, 1, 0, 896], k0_off72_eq k⟩
instance : ClosedOff (k0_off73 k) := ⟨![(Ring.sl 2 k.val).val, 2, 0, 896], k0_off73_eq k⟩
end Slices1

theorem cond22_not : ∀ k : Fin k0_t3_loop.trips, ¬k0_cond22 k = 1#1 := by decide +kernel
theorem cond23_not : ∀ k : Fin k0_t3_loop.trips, ¬k0_cond23 k = 1#1 := by decide +kernel
theorem cond24_iff : ∀ k : Fin k0_t3_loop.trips, k0_cond24 k = 1#1 ↔ k.val < 122 := by decide +kernel
theorem cond25_iff : ∀ k : Fin k0_t3_loop.trips, k0_cond25 k = 1#1 ↔ k.val = 122 := by decide +kernel
theorem cond26_iff : ∀ k : Fin k0_t3_loop.trips, k0_cond26 k = 1#1 ↔ 2 ≤ k.val := by decide +kernel

section Slices3
variable (k : Fin k0_t3_loop.trips)

@[sl_canon] theorem sem3W (hh) : (cc0_scratch17.slice (Rect.unit (s := S4) (k0_off88 k) S1.size hh)).squeeze S_ squeezes_S1_S_ = csm (Ring.sl 4 (k.val + 32)) :=
  csm_congr (k0_off88_eq k) _
@[sl_canon] theorem slot3W (hh hs) : (ringM.slice (Rect.unit (s := S4x3072x1024) (k0_off89 k) S1x3072x1024.size hh) hs).squeeze S3072x1024 squeezes_S1x3072x1024_S3072x1024 = rslot (Ring.sl 4 (k.val + 32)) :=
  rslot_congr (k0_off89_eq k) _ _
@[sl_canon] theorem sem3C (hh) : (cc0_scratch17.slice (Rect.unit (s := S4) (k0_off95 k) S1.size hh)).squeeze S_ squeezes_S1_S_ = csm (Ring.sl 4 (k.val + 35)) :=
  csm_congr (k0_off95_eq k) _
@[sl_canon] theorem slot3C (hh hs) : (ringM.slice (Rect.unit (s := S4x3072x1024) (k0_off96 k) S1x3072x1024.size hh) hs).squeeze S3072x1024 squeezes_S1x3072x1024_S3072x1024 = rslot (Ring.sl 4 (k.val + 35)) :=
  rslot_congr (k0_off96_eq k) _ _
@[sl_canon] theorem src3C (h : k.val < 122) (hh hs) : wtM.slice (Rect.unit (s := S3072x128256) (k0_off97 k) S3072x1024.size hh) hs = wtB (Ring.bk 125 (k.val + 3)) :=
  wtB_congr (by rw [k0_off97_eq, c2, Ring.bk_val (by omega), Nat.mul_add]) _ _
@[sl_canon] theorem sem3D (hh) : (cc0_scratch17.slice (Rect.unit (s := S4) (k0_off98 k) S1.size hh)).squeeze S_ squeezes_S1_S_ = csm (Ring.sl 4 (k.val + 35)) :=
  csm_congr (k0_off98_eq k) _
@[sl_canon] theorem slot3D (hh hs) : (ringM.slice (Rect.unit (s := S4x3072x1024) (k0_off99 k) S1x3072x256.size hh) hs).squeeze S3072x256 squeezes_S1x3072x256_S3072x256 = nslot (Ring.sl 4 (k.val + 35)) :=
  nslot_congr (k0_off99_eq k) _ _
@[sl_canon] theorem tsem3W (hh) : (cc0_scratch19.slice (Rect.unit (s := S2) (k0_off100 k) S1.size hh)).squeeze S_ squeezes_S1_S_ = tsm (Ring.sl 2 k.val) :=
  tsm_congr (k0_off100_eq k) _
@[sl_canon] theorem tslot3W (hh hs) : (obtM.slice (Rect.unit (s := S2x3x8x1024) (k0_off101 k) S1x3x8x1024.size hh) hs).squeeze S3x8x1024 squeezes_S1x3x8x1024_S3x8x1024 = tslot (Ring.sl 2 k.val) :=
  tslot_congr (k0_off101_eq k) _ _
@[sl_canon] theorem tsem3I (hh) : (cc0_scratch19.slice (Rect.unit (s := S2) (k0_off128 k) S1.size hh)).squeeze S_ squeezes_S1_S_ = tsm (Ring.sl 2 k.val) :=
  tsm_congr (k0_off128_eq k) _
@[sl_canon] theorem tslot3I (hh hs) : (obtM.slice (Rect.unit (s := S2x3x8x1024) (k0_off130 k) S1x3x8x1024.size hh) hs).squeeze S3x8x1024 squeezes_S1x3x8x1024_S3x8x1024 = tslot (Ring.sl 2 k.val) :=
  tslot_congr (k0_off130_eq k) _ _
@[sl_canon] theorem tdst3I (hh hs) : ltM.slice (Rect.unit (s := S3x8x128256) (k0_off129 k) S3x8x1024.size hh) hs = ltB (Ring.bk 125 k.val) :=
  ltB_congr (by rw [k0_off129_eq, c3, Ring.bk_val (t3_lt k)]) _ _

instance : ClosedOff (k0_off102 k) := ⟨o3 (Ring.sl 4 (k.val + 32)).val, k0_off102_eq k⟩
instance : ClosedOff (k0_off104 k) := ⟨![(Ring.sl 2 k.val).val, 0, 0, 0], k0_off104_eq k⟩
instance : ClosedOff (k0_off105 k) := ⟨![(Ring.sl 2 k.val).val, 1, 0, 0], k0_off105_eq k⟩
instance : ClosedOff (k0_off106 k) := ⟨![(Ring.sl 2 k.val).val, 2, 0, 0], k0_off106_eq k⟩
instance : ClosedOff (k0_off107 k) := ⟨![(Ring.sl 2 k.val).val, 0, 0, 128], k0_off107_eq k⟩
instance : ClosedOff (k0_off108 k) := ⟨![(Ring.sl 2 k.val).val, 1, 0, 128], k0_off108_eq k⟩
instance : ClosedOff (k0_off109 k) := ⟨![(Ring.sl 2 k.val).val, 2, 0, 128], k0_off109_eq k⟩
instance : ClosedOff (k0_off110 k) := ⟨![(Ring.sl 2 k.val).val, 0, 0, 256], k0_off110_eq k⟩
instance : ClosedOff (k0_off111 k) := ⟨![(Ring.sl 2 k.val).val, 1, 0, 256], k0_off111_eq k⟩
instance : ClosedOff (k0_off112 k) := ⟨![(Ring.sl 2 k.val).val, 2, 0, 256], k0_off112_eq k⟩
instance : ClosedOff (k0_off113 k) := ⟨![(Ring.sl 2 k.val).val, 0, 0, 384], k0_off113_eq k⟩
instance : ClosedOff (k0_off114 k) := ⟨![(Ring.sl 2 k.val).val, 1, 0, 384], k0_off114_eq k⟩
instance : ClosedOff (k0_off115 k) := ⟨![(Ring.sl 2 k.val).val, 2, 0, 384], k0_off115_eq k⟩
instance : ClosedOff (k0_off116 k) := ⟨![(Ring.sl 2 k.val).val, 0, 0, 512], k0_off116_eq k⟩
instance : ClosedOff (k0_off117 k) := ⟨![(Ring.sl 2 k.val).val, 1, 0, 512], k0_off117_eq k⟩
instance : ClosedOff (k0_off118 k) := ⟨![(Ring.sl 2 k.val).val, 2, 0, 512], k0_off118_eq k⟩
instance : ClosedOff (k0_off119 k) := ⟨![(Ring.sl 2 k.val).val, 0, 0, 640], k0_off119_eq k⟩
instance : ClosedOff (k0_off120 k) := ⟨![(Ring.sl 2 k.val).val, 1, 0, 640], k0_off120_eq k⟩
instance : ClosedOff (k0_off121 k) := ⟨![(Ring.sl 2 k.val).val, 2, 0, 640], k0_off121_eq k⟩
instance : ClosedOff (k0_off122 k) := ⟨![(Ring.sl 2 k.val).val, 0, 0, 768], k0_off122_eq k⟩
instance : ClosedOff (k0_off123 k) := ⟨![(Ring.sl 2 k.val).val, 1, 0, 768], k0_off123_eq k⟩
instance : ClosedOff (k0_off124 k) := ⟨![(Ring.sl 2 k.val).val, 2, 0, 768], k0_off124_eq k⟩
instance : ClosedOff (k0_off125 k) := ⟨![(Ring.sl 2 k.val).val, 0, 0, 896], k0_off125_eq k⟩
instance : ClosedOff (k0_off126 k) := ⟨![(Ring.sl 2 k.val).val, 1, 0, 896], k0_off126_eq k⟩
instance : ClosedOff (k0_off127 k) := ⟨![(Ring.sl 2 k.val).val, 2, 0, 896], k0_off127_eq k⟩
end Slices3

/-! ## The pieces: a slot, a slot's cell, a read token of a weight, a slot in flight -/

section Pieces
variable (c : Dev nD)

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
/-- Slot `s`'s read token of the draft weight: the columns outside `S` (those inside are lent to a transfer). -/
abbrev tk (s : Fin 4) : PosShare TreeShare := Transfers.shareTok fullShare 4 s
abbrev wdP (WD : Buf (Elt F) (wdM.view.loc (c : Thread nD τ))) (s : Fin 4) : sProp 𝕄 := wdM.view.loc (c : Thread nD τ) ↦[wdM.view.set]{tk s} WD
abbrev wtP (WT : Buf (Elt F) (wtM.view.loc (c : Thread nD τ))) (s : Fin 4) : sProp 𝕄 := wtM.view.loc (c : Thread nD τ) ↦[wtM.view.set]{tk s} WT
end Pieces

end Cert.Proof.KernelRun
-- ==== Proof.KernelState.lean ====
/-
  What the run of the kernel holds between steps: the four slots of the weight ring, each in flight with the block of the
  step it was issued for or free; the two slots of each output ring, each in flight to a block of the logits or free; the
  blocks of the logits arrays still at home and those already written.
-/
module

public import proofs.«01_k».proof.Proof.KernelNames

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section State
variable (c : Dev nD) (WD : Buf (Elt F) (wdM.view.loc (c : Thread nD τ))) (WT : Buf (Elt F) (wtM.view.loc (c : Thread nD τ)))

/-! ## A slot of the weight ring -/

abbrev nslotP (s : Fin 4) (f : Buf (Elt F) ((nslot s).view.loc (c : Thread nD τ))) : sProp 𝕄 :=
  (nslot s).view.loc (c : Thread nD τ) ↦[(nslot s).view.set]{fullShare} f
/-- The rest of a slot beside its first 256 columns. -/
abbrev rslotR (s : Fin 4) (f : Buf (Elt F) ((rslot s).view.loc (c : Thread nD τ))) : sProp 𝕄 :=
  (rslot s).view.loc (c : Thread nD τ) ↦[(rslot s).view.set \ (nslot s).view.set]{fullShare} f

/-- Slot `s` after block `b` of the draft weight landed in it over `f`; -/
abbrev landD (s : Fin 4) (b : Fin 31) (f : Buf (Elt F) ((rslot s).view.loc (c : Thread nD τ))) : Buf (Elt F) ((rslot s).view.loc (c : Thread nD τ)) :=
  (rslot s).view.writes (Elt F) f [⟨Rect.whole S3072x1024, ReadAs.same.apply ((wdB b).view.read (Elt F) WD)⟩]
/-- block `b` of the target weight; -/
abbrev landT (s : Fin 4) (b : Fin 125) (f : Buf (Elt F) ((rslot s).view.loc (c : Thread nD τ))) : Buf (Elt F) ((rslot s).view.loc (c : Thread nD τ)) :=
  (rslot s).view.writes (Elt F) f [⟨Rect.whole S3072x1024, ReadAs.same.apply ((wtB b).view.read (Elt F) WT)⟩]
/-- the draft weight's last 256 columns; the target weight's. -/
abbrev landDN (s : Fin 4) (f : Buf (Elt F) ((nslot s).view.loc (c : Thread nD τ))) : Buf (Elt F) ((nslot s).view.loc (c : Thread nD τ)) :=
  (nslot s).view.writes (Elt F) f [⟨Rect.whole S3072x256, ReadAs.same.apply (wdN.view.read (Elt F) WD)⟩]
abbrev landTN (s : Fin 4) (f : Buf (Elt F) ((nslot s).view.loc (c : Thread nD τ))) : Buf (Elt F) ((nslot s).view.loc (c : Thread nD τ)) :=
  (nslot s).view.writes (Elt F) f [⟨Rect.whole S3072x256, ReadAs.same.apply (wtN.view.read (Elt F) WT)⟩]

/-- A block's columns under slot `s`'s read token, and the columns around it. -/
abbrev wdBlk (s : Fin 4) (b : Fin 31) : sProp 𝕄 := (wdB b).view.loc (c : Thread nD τ) ↦[(wdB b).view.set]{tk s} WD
abbrev wdRest (s : Fin 4) (b : Fin 31) : sProp 𝕄 := wdM.view.loc (c : Thread nD τ) ↦[wdM.view.set \ (wdB b).view.set]{tk s} WD
abbrev wtBlk (s : Fin 4) (b : Fin 125) : sProp 𝕄 := (wtB b).view.loc (c : Thread nD τ) ↦[(wtB b).view.set]{tk s} WT
abbrev wtRest (s : Fin 4) (b : Fin 125) : sProp 𝕄 := wtM.view.loc (c : Thread nD τ) ↦[wtM.view.set \ (wtB b).view.set]{tk s} WT
abbrev wdNBlk (s : Fin 4) : sProp 𝕄 := wdN.view.loc (c : Thread nD τ) ↦[wdN.view.set]{tk s} WD
abbrev wdNRest (s : Fin 4) : sProp 𝕄 := wdM.view.loc (c : Thread nD τ) ↦[wdM.view.set \ wdN.view.set]{tk s} WD
abbrev wtNBlk (s : Fin 4) : sProp 𝕄 := wtN.view.loc (c : Thread nD τ) ↦[wtN.view.set]{tk s} WT
abbrev wtNRest (s : Fin 4) : sProp 𝕄 := wtM.view.loc (c : Thread nD τ) ↦[wtM.view.set \ wtN.view.set]{tk s} WT

/-- Slot `s` in flight with block `b` of the draft weight; of the target weight; with the narrow last block of either. -/
abbrev flightD (s : Fin 4) (b : Fin 31) : sProp 𝕄 :=
  iprop(∃ f, Transfers.Flight countersEmb (c : Thread nD τ) (SemLoc.dma (csm s).sem) () 98304 iprop(slotP c s (landD c WD s b f) ∗ wdBlk c WD s b))
abbrev flightT (s : Fin 4) (b : Fin 125) : sProp 𝕄 :=
  iprop(∃ f, Transfers.Flight countersEmb (c : Thread nD τ) (SemLoc.dma (csm s).sem) () 98304 iprop(slotP c s (landT c WT s b f) ∗ wtBlk c WT s b))
abbrev flightDN (s : Fin 4) : sProp 𝕄 :=
  iprop(∃ f, Transfers.Flight countersEmb (c : Thread nD τ) (SemLoc.dma (csm s).sem) () 24576 iprop(nslotP c s (landDN c WD s f) ∗ wdNBlk c WD s))
abbrev flightTN (s : Fin 4) : sProp 𝕄 :=
  iprop(∃ f, Transfers.Flight countersEmb (c : Thread nD τ) (SemLoc.dma (csm s).sem) () 24576 iprop(nslotP c s (landTN c WT s f) ∗ wtNBlk c WT s))

/-- Slot `s` free: its cell at zero, its contents anything, its two read tokens whole. -/
abbrev freeS (s : Fin 4) : sProp 𝕄 := iprop((∃ f, slotP c s f) ∗ cellP c s ∗ wdP c WD s ∗ wtP c WT s)

/-- The slot of step `g` of the 158 (31 draft blocks, the narrow one, 125 target blocks, the narrow one): in flight with that
    step's block, past the last step free. -/
def stepF (g : ℕ) : sProp 𝕄 :=
  if g < 31 then iprop(flightD c WD (Ring.sl 4 g) (Ring.bk 31 g) ∗ wdRest c WD (Ring.sl 4 g) (Ring.bk 31 g) ∗ wtP c WT (Ring.sl 4 g))
  else if g = 31 then iprop(flightDN c WD (Ring.sl 4 g) ∗ (∃ f, rslotR c (Ring.sl 4 g) f) ∗ wdNRest c WD (Ring.sl 4 g) ∗ wtP c WT (Ring.sl 4 g))
  else if g < 157 then iprop(flightT c WT (Ring.sl 4 g) (Ring.bk 125 (g - 32)) ∗ wtRest c WT (Ring.sl 4 g) (Ring.bk 125 (g - 32)) ∗ wdP c WD (Ring.sl 4 g))
  else if g = 157 then iprop(flightTN c WT (Ring.sl 4 g) ∗ (∃ f, rslotR c (Ring.sl 4 g) f) ∗ wtNRest c WT (Ring.sl 4 g) ∗ wdP c WD (Ring.sl 4 g))
  else freeS c WD WT (Ring.sl 4 g)

theorem stepF_D (g : ℕ) (h : g < 31) : stepF c WD WT g
    = iprop(flightD c WD (Ring.sl 4 g) (Ring.bk 31 g) ∗ wdRest c WD (Ring.sl 4 g) (Ring.bk 31 g) ∗ wtP c WT (Ring.sl 4 g)) := if_pos h
theorem stepF_DN (g : ℕ) (h : g = 31) : stepF c WD WT g
    = iprop(flightDN c WD (Ring.sl 4 g) ∗ (∃ f, rslotR c (Ring.sl 4 g) f) ∗ wdNRest c WD (Ring.sl 4 g) ∗ wtP c WT (Ring.sl 4 g)) :=
  (if_neg (by omega)).trans (if_pos h)
theorem stepF_T (g : ℕ) (h : 32 ≤ g) (h' : g < 157) : stepF c WD WT g
    = iprop(flightT c WT (Ring.sl 4 g) (Ring.bk 125 (g - 32)) ∗ wtRest c WT (Ring.sl 4 g) (Ring.bk 125 (g - 32)) ∗ wdP c WD (Ring.sl 4 g)) :=
  (if_neg (by omega)).trans ((if_neg (by omega)).trans (if_pos h'))
theorem stepF_TN (g : ℕ) (h : g = 157) : stepF c WD WT g
    = iprop(flightTN c WT (Ring.sl 4 g) ∗ (∃ f, rslotR c (Ring.sl 4 g) f) ∗ wtNRest c WT (Ring.sl 4 g) ∗ wdP c WD (Ring.sl 4 g)) :=
  (if_neg (by omega)).trans ((if_neg (by omega)).trans ((if_neg (by omega)).trans (if_pos h)))
theorem stepF_free (g : ℕ) (h : 158 ≤ g) : stepF c WD WT g = freeS c WD WT (Ring.sl 4 g) :=
  (if_neg (by omega)).trans ((if_neg (by omega)).trans ((if_neg (by omega)).trans (if_neg (by omega))))

/-! ### A token rejoined, a slot cut -/

theorem wdB_sub (b : Fin 31) : (wdB b).view.set ⊆ wdM.view.set := by rw [show wdM.view.set = Finset.univ from View.set_whole _]; exact Finset.subset_univ _
theorem wtB_sub (b : Fin 125) : (wtB b).view.set ⊆ wtM.view.set := by rw [show wtM.view.set = Finset.univ from View.set_whole _]; exact Finset.subset_univ _
theorem wdN_sub : wdN.view.set ⊆ wdM.view.set := by rw [show wdM.view.set = Finset.univ from View.set_whole _]; exact Finset.subset_univ _
theorem wtN_sub : wtN.view.set ⊆ wtM.view.set := by rw [show wtM.view.set = Finset.univ from View.set_whole _]; exact Finset.subset_univ _

theorem wd_join (s : Fin 4) (b : Fin 31) : iprop(wdBlk c WD s b ∗ wdRest c WD s b) ⊢ (wdP c WD s : sProp 𝕄) := (pointsTo_split_subset (wdB_sub b)).2
theorem wt_join (s : Fin 4) (b : Fin 125) : iprop(wtBlk c WT s b ∗ wtRest c WT s b) ⊢ (wtP c WT s : sProp 𝕄) := (pointsTo_split_subset (wtB_sub b)).2
theorem wdN_join (s : Fin 4) : iprop(wdNBlk c WD s ∗ wdNRest c WD s) ⊢ (wdP c WD s : sProp 𝕄) := (pointsTo_split_subset wdN_sub).2
theorem wtN_join (s : Fin 4) : iprop(wtNBlk c WT s ∗ wtNRest c WT s) ⊢ (wtP c WT s : sProp 𝕄) := (pointsTo_split_subset wtN_sub).2

/-- The elements of slot `s`, and of its first 256 columns. -/
abbrev RS (s : Fin 4) : Finset S4x3072x1024.Idx := (Rect.unit (s := S4x3072x1024) (o3 s.val) S1x3072x1024.size (o3_inb s)).set
abbrev NS (s : Fin 4) : Finset S4x3072x1024.Idx := (Rect.unit (s := S4x3072x1024) (o3 s.val) S1x3072x256.size (o3_inbN s)).set
theorem rslot_set (s : Fin 4) : (rslot s).view.set = RS s := (View.set_reshape _ _).trans (View.set_slice_whole _ _)
theorem nslot_set (s : Fin 4) : (nslot s).view.set = NS s := (View.set_reshape _ _).trans (View.set_slice_whole _ _)
theorem mem_RS (s : Fin 4) (y : S4x3072x1024.Idx) : y ∈ RS s ↔ (y 0).val = s.val := by
  rw [Rect.mem_set_unit]
  have h1 : (y 1).val < 3072 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3072; omega
    · show 0 ≤ (y 2).val ∧ (y 2).val < 0 + 1024; omega
theorem NS_sub (s : Fin 4) : NS s ⊆ RS s := by
  intro y hy
  rw [Rect.mem_set_unit] at hy
  have a0 : s.val ≤ (y 0).val ∧ (y 0).val < s.val + 1 := hy 0
  exact (mem_RS s y).2 (by omega)
theorem nslot_sub (s : Fin 4) : (nslot s).view.set ⊆ (rslot s).view.set :=
  (Finset.Subset.trans (nslot_set s).subset (NS_sub s)).trans (rslot_set s).symm.subset
theorem slot_cut (s : Fin 4) (f) : slotP c s f ⊢ (iprop(nslotP c s f ∗ rslotR c s f) : sProp 𝕄) := (pointsTo_split_subset (nslot_sub s)).1
theorem slot_join (s : Fin 4) : iprop((∃ f, nslotP c s f) ∗ (∃ f, rslotR c s f)) ⊢ (iprop(∃ f, slotP c s f) : sProp 𝕄) := by
  iintro ⟨⟨%f, H⟩, ⟨%g, H'⟩⟩
  iexists _
  iapply (pointsTo_join_subset (nslot_sub s))
  isplitl [H]; · iexact H
  iexact H'

/-! ## The output rings and the blocks of the logits -/

abbrev dslotP (s : Fin 2) (f : Buf (Elt F) ((dslot s).view.loc (c : Thread nD τ))) : sProp 𝕄 :=
  (dslot s).view.loc (c : Thread nD τ) ↦[(dslot s).view.set]{fullShare} f
abbrev tslotP (s : Fin 2) (f : Buf (Elt F) ((tslot s).view.loc (c : Thread nD τ))) : sProp 𝕄 :=
  (tslot s).view.loc (c : Thread nD τ) ↦[(tslot s).view.set]{fullShare} f
abbrev dcell (s : Fin 2) : sProp 𝕄 := semVal ((c : Thread nD τ), SemLoc.dma (dsm s).sem) 0
abbrev tcell (s : Fin 2) : sProp 𝕄 := semVal ((c : Thread nD τ), SemLoc.dma (tsm s).sem) 0
abbrev ldBP (b : Fin 31) (f : Buf (Elt F) ((ldB b).view.loc (c : Thread nD τ))) : sProp 𝕄 :=
  (ldB b).view.loc (c : Thread nD τ) ↦[(ldB b).view.set]{fullShare} f
abbrev ltBP (b : Fin 125) (f : Buf (Elt F) ((ltB b).view.loc (c : Thread nD τ))) : sProp 𝕄 :=
  (ltB b).view.loc (c : Thread nD τ) ↦[(ltB b).view.set]{fullShare} f

/-! ### Whole buffers the steps read or write -/

abbrev x8P (X8 : Buf (Elt F) (x8M.view.loc (c : Thread nD τ))) : sProp 𝕄 := x8M.view.loc (c : Thread nD τ) ↦[x8M.view.set]{fullShare} X8
abbrev h8P (H8 : Buf (Elt F) (h8M.view.loc (c : Thread nD τ))) : sProp 𝕄 := h8M.view.loc (c : Thread nD τ) ↦[h8M.view.set]{fullShare} H8
abbrev wdsP (WDS : Buf (Elt F) (wdsM.view.loc (c : Thread nD τ))) : sProp 𝕄 := wdsM.view.loc (c : Thread nD τ) ↦[wdsM.view.set]{fullShare} WDS
abbrev wtsP (WTS : Buf (Elt F) (wtsM.view.loc (c : Thread nD τ))) : sProp 𝕄 := wtsM.view.loc (c : Thread nD τ) ↦[wtsM.view.set]{fullShare} WTS
abbrev zdP (f : Buf (Elt F) (zdM.view.loc (c : Thread nD τ))) : sProp 𝕄 := zdM.view.loc (c : Thread nD τ) ↦[zdM.view.set]{fullShare} f
abbrev zcP (f : Buf (Elt F) (zcM.view.loc (c : Thread nD τ))) : sProp 𝕄 := zcM.view.loc (c : Thread nD τ) ↦[zcM.view.set]{fullShare} f
abbrev d2tP (f : Buf (Elt F) (d2tM.view.loc (c : Thread nD τ))) : sProp 𝕄 := d2tM.view.loc (c : Thread nD τ) ↦[d2tM.view.set]{fullShare} f
abbrev d2tsP (f : Buf (Elt F) (d2tsM.view.loc (c : Thread nD τ))) : sProp 𝕄 := d2tsM.view.loc (c : Thread nD τ) ↦[d2tsM.view.set]{fullShare} f

end State

section Out
variable (c : Dev nD) (WD : Buf (Elt F) (wdM.view.loc (c : Thread nD τ))) (H8 : Buf (Elt F) (h8M.view.loc (c : Thread nD τ)))
  (WDS : Buf (Elt F) (wdsM.view.loc (c : Thread nD τ))) (hs0 hs1 hs2 : FVec F S8x128 .f32)

/-- What a block of the draft logits is to hold. -/
def okD (b : Fin 31) (w : S3x7x1024.Idx → Elt F .bf16) : Prop := let _ := (c, WD, H8, WDS, hs0, hs1, hs2); True

/-- Block `b` of the draft logits written. -/
def ldDone (b : Fin 31) : sProp 𝕄 :=
  iprop(∃ f w, ⌜okD c WD H8 WDS hs0 hs1 hs2 b w⌝ ∗ ldBP c b ((ldB b).view.writes (Elt F) f [⟨Rect.whole S3x7x1024, w⟩]))
def ldHome (b : Fin 31) : sProp 𝕄 := iprop(∃ f, ldBP c b f)
/-- Slot `s` of the draft output ring in flight to block `b`. -/
def outD (s : Fin 2) (b : Fin 31) : sProp 𝕄 :=
  iprop(∃ f w g, ⌜okD c WD H8 WDS hs0 hs1 hs2 b w⌝ ∗ Transfers.Flight countersEmb (c : Thread nD τ) (SemLoc.dma (dsm s).sem) () 1344
    iprop(ldBP c b ((ldB b).view.writes (Elt F) f [⟨Rect.whole S3x7x1024, w⟩]) ∗ dslotP c s g))
/-- The draft output slot of block `k` before block `k`: in flight to block `k - 2` if there is one, else free. -/
def oD (k : ℕ) : sProp 𝕄 :=
  if 2 ≤ k then outD c WD H8 WDS hs0 hs1 hs2 (Ring.sl 2 k) (Ring.bk 31 (k - 2)) else iprop((∃ f, dslotP c (Ring.sl 2 k) f) ∗ dcell c (Ring.sl 2 k))
/-- The blocks of the draft logits before block `k`: those from `k` on at home, those before `k - 2` written. -/
def ldAt (k : ℕ) : sProp 𝕄 :=
  iprop(bigSep (Ring.rangeSet 31 k 31) (ldHome (F := F) c) ∗ bigSep (Ring.rangeSet 31 0 (k - 2)) (ldDone c WD H8 WDS hs0 hs1 hs2))

theorem oD_pos (k : ℕ) (h : 2 ≤ k) : oD c WD H8 WDS hs0 hs1 hs2 k = outD c WD H8 WDS hs0 hs1 hs2 (Ring.sl 2 k) (Ring.bk 31 (k - 2)) := if_pos h
theorem oD_neg (k : ℕ) (h : ¬2 ≤ k) : oD c WD H8 WDS hs0 hs1 hs2 k = iprop((∃ f, dslotP c (Ring.sl 2 k) f) ∗ dcell c (Ring.sl 2 k)) := if_neg h
end Out

section OutT
variable (c : Dev nD) (WT : Buf (Elt F) (wtM.view.loc (c : Thread nD τ))) (X8 : Buf (Elt F) (x8M.view.loc (c : Thread nD τ)))
  (WTS : Buf (Elt F) (wtsM.view.loc (c : Thread nD τ))) (xs0 xs1 xs2 : FVec F S8x128 .f32)

/-- What a block of the target logits is to hold. -/
def okT (b : Fin 125) (w : S3x8x1024.Idx → Elt F .bf16) : Prop := let _ := (c, WT, X8, WTS, xs0, xs1, xs2); True

def ltDone (b : Fin 125) : sProp 𝕄 :=
  iprop(∃ f w, ⌜okT c WT X8 WTS xs0 xs1 xs2 b w⌝ ∗ ltBP c b ((ltB b).view.writes (Elt F) f [⟨Rect.whole S3x8x1024, w⟩]))
def ltHome (b : Fin 125) : sProp 𝕄 := iprop(∃ f, ltBP c b f)
def outT (s : Fin 2) (b : Fin 125) : sProp 𝕄 :=
  iprop(∃ f w g, ⌜okT c WT X8 WTS xs0 xs1 xs2 b w⌝ ∗ Transfers.Flight countersEmb (c : Thread nD τ) (SemLoc.dma (tsm s).sem) () 1536
    iprop(ltBP c b ((ltB b).view.writes (Elt F) f [⟨Rect.whole S3x8x1024, w⟩]) ∗ tslotP c s g))
def oT (k : ℕ) : sProp 𝕄 :=
  if 2 ≤ k then outT c WT X8 WTS xs0 xs1 xs2 (Ring.sl 2 k) (Ring.bk 125 (k - 2)) else iprop((∃ f, tslotP c (Ring.sl 2 k) f) ∗ tcell c (Ring.sl 2 k))
def ltAt (k : ℕ) : sProp 𝕄 :=
  iprop(bigSep (Ring.rangeSet 125 k 125) (ltHome (F := F) c) ∗ bigSep (Ring.rangeSet 125 0 (k - 2)) (ltDone c WT X8 WTS xs0 xs1 xs2))

theorem oT_pos (k : ℕ) (h : 2 ≤ k) : oT c WT X8 WTS xs0 xs1 xs2 k = outT c WT X8 WTS xs0 xs1 xs2 (Ring.sl 2 k) (Ring.bk 125 (k - 2)) := if_pos h
theorem oT_neg (k : ℕ) (h : ¬2 ≤ k) : oT c WT X8 WTS xs0 xs1 xs2 k = iprop((∃ f, tslotP c (Ring.sl 2 k) f) ∗ tcell c (Ring.sl 2 k)) := if_neg h
end OutT

/-- A piece put aside while a run does not touch it. -/
def Aside (P : sProp 𝕄) : sProp 𝕄 := P
theorem Aside.intro (P : sProp 𝕄) : P ⊢ Aside P := .rfl
theorem Aside.elim (P : sProp 𝕄) : Aside P ⊢ P := .rfl

end Cert.Proof.KernelRun
-- ==== Proof.KernelTrip1.lean ====
/-
  One trip of the loop over the draft weight's 31 full blocks: the block's transfer is waited for, the transfer three steps
  ahead issued, the block's product with the draft states scaled, kept in the draft's log array, rounded into an output
  slot and the slot sent to its block of the draft logits.
-/
module

public import proofs.«01_k».proof.Proof.KernelState

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (WD : Buf (Elt F) (wdM.view.loc (c : Thread nD τ))) (WT : Buf (Elt F) (wtM.view.loc (c : Thread nD τ)))
  (H8 : Buf (Elt F) (h8M.view.loc (c : Thread nD τ))) (WDS : Buf (Elt F) (wdsM.view.loc (c : Thread nD τ)))
  (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)
  (v163 v177 v191 : FVec F S8x128 .f32)

abbrev Acc6 : Type := FVec F S8x128 .f32 × FVec F S8x128 .f32 × FVec F S8x128 .f32 × FVec F S8x128 .f32 × FVec F S8x128 .f32 × FVec F S8x128 .f32
abbrev trip1 (k : Fin k0_t1_loop.trips) (acc : Acc6 (F := F)) : Prog (TpuEff nD τ sig (Elt F) Λ₀ .tc) (Acc6 (F := F)) :=
  k0_t1_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 v163 v177 v191 k acc

/-- What a trip takes, and what it leaves. -/
def pre1 (k : ℕ) : sProp 𝕄 :=
  iprop(stepF c WD WT k ∗ freeS c WD WT (Ring.sl 4 (k + 3)) ∗ oD c WD H8 WDS v163 v177 v191 k ∗ ldHome c (Ring.bk 31 k)
    ∗ h8P c H8 ∗ wdsP c WDS ∗ (∃ f, zdP c f) ∗ (∃ W, owes (c : Thread nD τ) 0 W))
def post1 (k : ℕ) : sProp 𝕄 :=
  iprop(freeS c WD WT (Ring.sl 4 k) ∗ stepF c WD WT (k + 3) ∗ outD c WD H8 WDS v163 v177 v191 (Ring.sl 2 k) (Ring.bk 31 k)
    ∗ (if 2 ≤ k then ldDone c WD H8 WDS v163 v177 v191 (Ring.bk 31 (k - 2)) else emp)
    ∗ h8P c H8 ∗ wdsP c WDS ∗ (∃ f, zdP c f) ∗ (∃ W, owes (c : Thread nD τ) 0 W))

set_option maxHeartbeats 4000000 in
theorem trip1_first (k : Fin k0_t1_loop.trips) (acc : Acc6 (F := F)) (hk : k.val < 2) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : k0_cond13 k = 1#1 := (cond13_iff k).2 (by omega)
  have h14 : ¬k0_cond14 k = 1#1 := fun h => by have := (cond14_iff k).1 h; omega
  have h15 : ¬k0_cond15 k = 1#1 := fun h => by have := (cond15_iff k).1 h; omega
  have h17 : ¬k0_cond17 k = 1#1 := fun h => by have := (cond17_iff k).1 h; omega
  have h16 : ¬k0_cond16 k = 1#1 := cond16_not k
  unfold pre1 post1 ldHome
  rw [stepF_D c WD WT k.val hk31, oD_neg _ _ _ _ _ _ _ _ (by omega)]
  rw [stepF_D c WD WT (k.val + 3) (by omega)]
  rw [if_neg (by omega)]
  unfold outD
  iintro ⟨⟨⟨%f0, HF⟩, HR, HT⟩, ⟨⟨%f1, Hs⟩, Hc, Hwd, Hwt⟩, ⟨⟨%f2, Hd⟩, Hdc⟩, ⟨%f3, Hl⟩, Hh, Hws, ⟨%f4, Hz⟩, ⟨%W, HW⟩⟩
  dsimp only [trip1]
  sl_unfold [k0_t1_body]
  sl_exec_parts
  sl_step
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt]
  · isplitl [Hc]; · iexists f1; iexact Hc
    isplitl [Hwd]; · iexact Hwd
    iexact Hwt
  isplitl [Hdc]
  · iexists _, _, _; isplitr
    on_goal 2 => iexact Hdc
    ipureintro; trivial
  isplitr; · iempintro
  isplitl [Hh]; · iexact Hh
  isplitl [Hws]; · iexact Hws
  isplitl [Hz]; · iexists _; iexact Hz
  iexists _; iexact HW

set_option maxHeartbeats 4000000 in
theorem trip1_full (k : Fin k0_t1_loop.trips) (acc : Acc6 (F := F)) (hk : 2 ≤ k.val) (hk3 : k.val + 3 < 31) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : k0_cond13 k = 1#1 := (cond13_iff k).2 (by omega)
  have h14 : ¬k0_cond14 k = 1#1 := fun h => by have := (cond14_iff k).1 h; omega
  have h15 : ¬k0_cond15 k = 1#1 := fun h => by have := (cond15_iff k).1 h; omega
  have h17 : k0_cond17 k = 1#1 := (cond17_iff k).2 (by omega)
  have h16 : ¬k0_cond16 k = 1#1 := cond16_not k
  unfold pre1 post1 ldHome
  rw [stepF_D c WD WT k.val hk31, oD_pos _ _ _ _ _ _ _ _ (by omega)]
  rw [stepF_D c WD WT (k.val + 3) (by omega)]
  rw [if_pos (by omega)]
  unfold outD ldDone
  iintro ⟨⟨⟨%f0, HF⟩, HR, HT⟩, ⟨⟨%f1, Hs⟩, Hc, Hwd, Hwt⟩, ⟨%fo, %wo, %go, %hwo, Hdc⟩, ⟨%f3, Hl⟩, Hh, Hws, ⟨%f4, Hz⟩, ⟨%W, HW⟩⟩
  dsimp only [trip1]
  sl_unfold [k0_t1_body]
  sl_exec_parts
  sl_step
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt]
  · isplitl [Hc]; · iexists f1; iexact Hc
    isplitl [Hwd]; · iexact Hwd
    iexact Hwt
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hz]; · iexists _; iexact Hz
  iexists _; iexact HW

set_option maxHeartbeats 4000000 in
theorem trip1_narrow (k : Fin k0_t1_loop.trips) (acc : Acc6 (F := F)) (hk : k.val = 28) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : ¬k0_cond13 k = 1#1 := fun h => by have := (cond13_iff k).1 h; omega
  have h14 : k0_cond14 k = 1#1 := (cond14_iff k).2 (by omega)
  have h15 : ¬k0_cond15 k = 1#1 := fun h => by have := (cond15_iff k).1 h; omega
  have h17 : k0_cond17 k = 1#1 := (cond17_iff k).2 (by omega)
  have h16 : ¬k0_cond16 k = 1#1 := cond16_not k
  unfold pre1 post1 ldHome
  rw [stepF_D c WD WT k.val hk31, oD_pos _ _ _ _ _ _ _ _ (by omega)]
  rw [stepF_DN c WD WT (k.val + 3) (by omega)]
  rw [if_pos (by omega)]
  unfold outD ldDone
  iintro ⟨⟨⟨%f0, HF⟩, HR, HT⟩, ⟨⟨%f1, Hs⟩, Hc, Hwd, Hwt⟩, ⟨%fo, %wo, %go, %hwo, Hdc⟩, ⟨%f3, Hl⟩, Hh, Hws, ⟨%f4, Hz⟩, ⟨%W, HW⟩⟩
  ihave Hs2 := (slot_cut c _ f1) $$ Hs
  icases Hs2 with ⟨Hs, HsR⟩
  dsimp only [trip1]
  sl_unfold [k0_t1_body]
  sl_exec_parts
  sl_step
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt HsR]
  · isplitl [Hc]; · iexists f1; iexact Hc
    isplitl [HsR]; · iexists _; iexact HsR
    isplitl [Hwd]; · iexact Hwd
    iexact Hwt
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hz]; · iexists _; iexact Hz
  iexists _; iexact HW

set_option maxHeartbeats 4000000 in
theorem trip1_target (k : Fin k0_t1_loop.trips) (acc : Acc6 (F := F)) (hk : 29 ≤ k.val) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : ¬k0_cond13 k = 1#1 := fun h => by have := (cond13_iff k).1 h; omega
  have h14 : ¬k0_cond14 k = 1#1 := fun h => by have := (cond14_iff k).1 h; omega
  have h15 : k0_cond15 k = 1#1 := (cond15_iff k).2 (by omega)
  have h17 : k0_cond17 k = 1#1 := (cond17_iff k).2 (by omega)
  have h16 : ¬k0_cond16 k = 1#1 := cond16_not k
  unfold pre1 post1 ldHome
  rw [stepF_D c WD WT k.val hk31, oD_pos _ _ _ _ _ _ _ _ (by omega)]
  rw [stepF_T c WD WT (k.val + 3) (by omega) (by omega), show k.val + 3 - 32 = k.val - 29 by omega]
  rw [if_pos (by omega)]
  unfold outD ldDone
  iintro ⟨⟨⟨%f0, HF⟩, HR, HT⟩, ⟨⟨%f1, Hs⟩, Hc, Hwd, Hwt⟩, ⟨%fo, %wo, %go, %hwo, Hdc⟩, ⟨%f3, Hl⟩, Hh, Hws, ⟨%f4, Hz⟩, ⟨%W, HW⟩⟩
  ihave HT2 := (Aside.intro (wtP c WT (Ring.sl 4 k.val))) $$ HT
  dsimp only [trip1]
  sl_unfold [k0_t1_body]
  sl_exec_parts
  sl_step
  ihave HT := (Aside.elim (wtP c WT (Ring.sl 4 k.val))) $$ HT2
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt]
  · isplitl [Hc]; · iexists f1; iexact Hc
    isplitl [Hwt]; · iexact Hwt
    iexact Hwd
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hz]; · iexists _; iexact Hz
  iexists _; iexact HW

theorem trip1_run (k : Fin k0_t1_loop.trips) (acc : Acc6 (F := F)) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  by_cases h : k.val < 2
  · exact trip1_first _ _ _ _ _ _ _ _ _ _ _ _ _ _ _ _ k acc h
  by_cases h3 : k.val + 3 < 31
  · exact trip1_full _ _ _ _ _ _ _ _ _ _ _ _ _ _ _ _ k acc (by omega) h3
  by_cases h4 : k.val = 28
  · exact trip1_narrow _ _ _ _ _ _ _ _ _ _ _ _ _ _ _ _ k acc h4
  exact trip1_target _ _ _ _ _ _ _ _ _ _ _ _ _ _ _ _ k acc (by omega)

end Trip

end Cert.Proof.KernelRun
-- ==== Proof.KernelChk.lean ====
module

public import proofs.«01_k».proof.Proof.KernelNames

@[expose] public section

noncomputable section

/-
  The window's row `j` over the draft tokens' blocks: the body reads and writes rows `j` and `min (j + 1) 249`, and moves
  `j` on by one only below 249. So with `0 ≤ j ≤ 249` every row it names exists, whatever words the map holds.
-/
namespace Cert.Proof.KernelRun

open Cert.Kernel Cert.Kernel.Gen
open Idealize.ShloMosaic
open Idealize.ShloMosaic.TcCoe Idealize.ShloMosaic.Tactic

/-- The rows the window's index may take. -/
def Jok (j : BitVec 32) : Prop := j.toNat < 250

theorem Jok.eq {j : BitVec 32} (h : Jok j) : ∃ n : Fin 250, j = BitVec.ofNat 32 n.val :=
  ⟨⟨j.toNat, h⟩, (BitVec.ofNat_toNat 32 j).symm.trans rfl |>.symm ▸ by simp⟩

/-- The index after sub-block `i` of trip `k`, given the map's last word `v` of row `j`. -/
def nx (k : Fin k0_t3_loop.trips) (i : BitVec 32) (j v : BitVec 32) : BitVec 32 :=
  Scalar.addi j (Scalar.extui (Scalar.andi
    (Scalar.cmpi .slt (Scalar.addi (Scalar.addi (Scalar.muli j 128#32) 127#32) v)
      (Scalar.muli (Scalar.addi (Scalar.addi (Scalar.muli (Scf.iv 0#32 1#32 k) 8#32) i) 1#32) 128#32))
    (Scalar.cmpi .slt j 249#32)))

theorem step_all : ∀ n : Fin 250, ∀ b : Bool,
    (Scalar.addi (BitVec.ofNat 32 n.val) (Scalar.extui (Scalar.andi (BitVec.ofBool b) (Scalar.cmpi .slt (BitVec.ofNat 32 n.val) 249#32)))).toNat < 250 := by
  decide +kernel
theorem bit_eq (p : BitVec 1) : ∃ b : Bool, p = BitVec.ofBool b := by
  rcases BitVec.eq_zero_or_eq_one p with h | h
  · exact ⟨false, h⟩
  · exact ⟨true, h⟩
theorem step_ok (j : BitVec 32) (p : BitVec 1) (h : Jok j) :
    Jok (Scalar.addi j (Scalar.extui (Scalar.andi p (Scalar.cmpi .slt j 249#32)))) := by
  obtain ⟨n, rfl⟩ := h.eq
  obtain ⟨b, rfl⟩ := bit_eq p
  exact step_all n b

theorem nx_ok (k : Fin k0_t3_loop.trips) (i j v : BitVec 32) (h : Jok j) : Jok (nx k i j v) := step_ok _ _ h

theorem chk1_all : ∀ n : Fin 250, k0_chk1 (BitVec.ofNat 32 n.val) := by decide +kernel
theorem chk1_ok (j : BitVec 32) (h : Jok j) : k0_chk1 j := by
  obtain ⟨n, rfl⟩ := h.eq
  exact chk1_all n

theorem chk2_ok (k : Fin k0_t3_loop.trips) (j v1 : BitVec 32) (h : Jok j) : k0_chk2 k j v1 :=
  chk1_ok (nx k 0#32 j v1) (nx_ok _ _ _ _ h)
theorem chk3_ok (k : Fin k0_t3_loop.trips) (j v1 v2 : BitVec 32) (h : Jok j) : k0_chk3 k j v1 v2 :=
  chk1_ok (nx k 1#32 (nx k 0#32 j v1) v2) (nx_ok _ _ _ _ (nx_ok _ _ _ _ h))
theorem chk4_ok (k : Fin k0_t3_loop.trips) (j v1 v2 v3 : BitVec 32) (h : Jok j) : k0_chk4 k j v1 v2 v3 :=
  chk1_ok (nx k 2#32 (nx k 1#32 (nx k 0#32 j v1) v2) v3) (nx_ok _ _ _ _ (nx_ok _ _ _ _ (nx_ok _ _ _ _ h)))
theorem chk5_ok (k : Fin k0_t3_loop.trips) (j v1 v2 v3 v4 : BitVec 32) (h : Jok j) : k0_chk5 k j v1 v2 v3 v4 :=
  chk1_ok (nx k 3#32 (nx k 2#32 (nx k 1#32 (nx k 0#32 j v1) v2) v3) v4) (nx_ok _ _ _ _ (nx_ok _ _ _ _ (nx_ok _ _ _ _ (nx_ok _ _ _ _ h))))
theorem chk6_ok (k : Fin k0_t3_loop.trips) (j v1 v2 v3 v4 v5 : BitVec 32) (h : Jok j) : k0_chk6 k j v1 v2 v3 v4 v5 :=
  chk1_ok (nx k 4#32 (nx k 3#32 (nx k 2#32 (nx k 1#32 (nx k 0#32 j v1) v2) v3) v4) v5) (nx_ok _ _ _ _ (nx_ok _ _ _ _ (nx_ok _ _ _ _ (nx_ok _ _ _ _ (nx_ok _ _ _ _ h)))))
theorem chk7_ok (k : Fin k0_t3_loop.trips) (j v1 v2 v3 v4 v5 v6 : BitVec 32) (h : Jok j) : k0_chk7 k j v1 v2 v3 v4 v5 v6 :=
  chk1_ok (nx k 5#32 (nx k 4#32 (nx k 3#32 (nx k 2#32 (nx k 1#32 (nx k 0#32 j v1) v2) v3) v4) v5) v6) (nx_ok _ _ _ _ (nx_ok _ _ _ _ (nx_ok _ _ _ _ (nx_ok _ _ _ _ (nx_ok _ _ _ _ (nx_ok _ _ _ _ h))))))
theorem chk8_ok (k : Fin k0_t3_loop.trips) (j v1 v2 v3 v4 v5 v6 v7 : BitVec 32) (h : Jok j) : k0_chk8 k j v1 v2 v3 v4 v5 v6 v7 :=
  chk1_ok (nx k 6#32 (nx k 5#32 (nx k 4#32 (nx k 3#32 (nx k 2#32 (nx k 1#32 (nx k 0#32 j v1) v2) v3) v4) v5) v6) v7) (nx_ok _ _ _ _ (nx_ok _ _ _ _ (nx_ok _ _ _ _ (nx_ok _ _ _ _ (nx_ok _ _ _ _ (nx_ok _ _ _ _ (nx_ok _ _ _ _ h)))))))
theorem chk9_ok (j : BitVec 32) (h : Jok j) : k0_chk9 j := chk1_ok j h

end Cert.Proof.KernelRun
-- ==== Proof.KernelTrip3.lean ====
/-
  One trip of the loop over the target weight's 125 full blocks: the block's transfer is waited for, the transfer three steps
  ahead issued, the block's product with the target states scaled, rounded into an output slot and the slot sent to its
  block of the target logits; the window over the draft tokens moves on, and stays within its 250 rows.
-/
module

public import proofs.«01_k».proof.Proof.KernelState
public import proofs.«01_k».proof.Proof.KernelChk

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (WD : Buf (Elt F) (wdM.view.loc (c : Thread nD τ))) (WT : Buf (Elt F) (wtM.view.loc (c : Thread nD τ)))
  (X8 : Buf (Elt F) (x8M.view.loc (c : Thread nD τ))) (WTS : Buf (Elt F) (wtsM.view.loc (c : Thread nD τ)))
  (D2 : Buf (Elt F) (d2tM.view.loc (c : Thread nD τ))) (D2S : Buf (Elt F) (d2tsM.view.loc (c : Thread nD τ)))
  (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)
  (v121 v135 v149 : FVec F S8x128 .f32) (v206 v207 : IVec S8x128 32) (v208 v209 v210 v211 v212 v213 : FVec F S8x128 .f32)
  (v437 v473 v474 : IVec S8x128 32) (v476 : IVec S8x128 1) (v478 : IVec S8x128 32) (v482 v487 v492 v497 v502 v507 : Elt F .i32)

abbrev Acc7 : Type := FVec F S8x128 .f32 × FVec F S8x128 .f32 × FVec F S8x128 .f32 × FVec F S8x128 .f32 × FVec F S8x128 .f32 × FVec F S8x128 .f32 × BitVec 32
abbrev trip3 (k : Fin k0_t3_loop.trips) (acc : Acc7 (F := F)) : Prog (TpuEff nD τ sig (Elt F) Λ₀ .tc) (Acc7 (F := F)) :=
  k0_t3_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 v121 v135 v149 v206 v207 v208 v209 v210 v211 v212 v213 v437 v473 v474 v476 v478 v482 v487 v492 v497 v502 v507 k acc

/-- What a trip takes, and what it leaves. -/
def pre3 (k : ℕ) : sProp 𝕄 :=
  iprop(stepF c WD WT (k + 32) ∗ freeS c WD WT (Ring.sl 4 (k + 35)) ∗ oT c WT X8 WTS v121 v135 v149 k ∗ ltHome c (Ring.bk 125 k)
    ∗ x8P c X8 ∗ wtsP c WTS ∗ d2tP c D2 ∗ d2tsP c D2S ∗ (∃ f, zcP c f) ∗ (∃ W, owes (c : Thread nD τ) 0 W))
def post3 (k : ℕ) (r : Acc7 (F := F)) : sProp 𝕄 :=
  iprop(⌜Jok r.2.2.2.2.2.2⌝ ∗ freeS c WD WT (Ring.sl 4 (k + 32)) ∗ stepF c WD WT (k + 35) ∗ outT c WT X8 WTS v121 v135 v149 (Ring.sl 2 k) (Ring.bk 125 k)
    ∗ (if 2 ≤ k then ltDone c WT X8 WTS v121 v135 v149 (Ring.bk 125 (k - 2)) else emp)
    ∗ x8P c X8 ∗ wtsP c WTS ∗ d2tP c D2 ∗ d2tsP c D2S ∗ (∃ f, zcP c f) ∗ (∃ W, owes (c : Thread nD τ) 0 W))

set_option maxHeartbeats 8000000 in
set_option maxRecDepth 4096 in
theorem trip3_first (k : Fin k0_t3_loop.trips) (acc : Acc7 (F := F)) (hk : k.val < 2) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : k0_cond24 k = 1#1 := (cond24_iff k).2 (by omega)
  have h25 : ¬k0_cond25 k = 1#1 := fun h => by have := (cond25_iff k).1 h; omega
  have h26 : ¬k0_cond26 k = 1#1 := fun h => by have := (cond26_iff k).1 h; omega
  have h22 : ¬k0_cond22 k = 1#1 := cond22_not k
  have h23 : ¬k0_cond23 k = 1#1 := cond23_not k
  unfold pre3 post3 ltHome
  rw [stepF_T c WD WT (k.val + 32) (by omega) (by omega), oT_neg _ _ _ _ _ _ _ _ (by omega), show k.val + 32 - 32 = k.val by omega]
  rw [stepF_T c WD WT (k.val + 35) (by omega) (by omega), show k.val + 35 - 32 = k.val + 3 by omega]
  simp only [if_neg (show ¬2 ≤ k.val by omega)]
  unfold outT
  iintro ⟨⟨⟨%f0, HF⟩, HR, HT⟩, ⟨⟨%f1, Hs⟩, Hc, Hwd, Hwt⟩, ⟨⟨%f2, Hd⟩, Hdc⟩, ⟨%f3, Hl⟩, Hh, Hws, Hd2, Hd2s, ⟨%f4, Hz⟩, ⟨%W, HW⟩⟩
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [Hc Hwd Hwt]
  · isplitl [Hc]; · iexists f1; iexact Hc
    isplitl [Hwt]; · iexact Hwt
    iexact Hwd
  isplitl [Hdc]
  · iexists _, _, _; isplitr
    on_goal 2 => iexact Hdc
    ipureintro; trivial
  isplitr; · iempintro
  isplitl [Hh]; · iexact Hh
  isplitl [Hws]; · iexact Hws
  isplitl [Hd2]; · iexact Hd2
  isplitl [Hd2s]; · iexact Hd2s
  isplitl [Hz]; · iexists _; iexact Hz
  iexists _; iexact HW

set_option maxHeartbeats 8000000 in
set_option maxRecDepth 4096 in
theorem trip3_full (k : Fin k0_t3_loop.trips) (acc : Acc7 (F := F)) (hk : 2 ≤ k.val) (hk3 : k.val < 122) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : k0_cond24 k = 1#1 := (cond24_iff k).2 (by omega)
  have h25 : ¬k0_cond25 k = 1#1 := fun h => by have := (cond25_iff k).1 h; omega
  have h26 : k0_cond26 k = 1#1 := (cond26_iff k).2 (by omega)
  have h22 : ¬k0_cond22 k = 1#1 := cond22_not k
  have h23 : ¬k0_cond23 k = 1#1 := cond23_not k
  unfold pre3 post3 ltHome
  rw [stepF_T c WD WT (k.val + 32) (by omega) (by omega), oT_pos _ _ _ _ _ _ _ _ (by omega), show k.val + 32 - 32 = k.val by omega]
  rw [stepF_T c WD WT (k.val + 35) (by omega) (by omega), show k.val + 35 - 32 = k.val + 3 by omega]
  simp only [if_pos (show 2 ≤ k.val by omega)]
  unfold outT ltDone
  iintro ⟨⟨⟨%f0, HF⟩, HR, HT⟩, ⟨⟨%f1, Hs⟩, Hc, Hwd, Hwt⟩, ⟨%fo, %wo, %go, %hwo, Hdc⟩, ⟨%f3, Hl⟩, Hh, Hws, Hd2, Hd2s, ⟨%f4, Hz⟩, ⟨%W, HW⟩⟩
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [Hc Hwd Hwt]
  · isplitl [Hc]; · iexists f1; iexact Hc
    isplitl [Hwt]; · iexact Hwt
    iexact Hwd
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hd2]; · iexact Hd2
  isplitl [Hd2s]; · iexact Hd2s
  isplitl [Hz]; · iexists _; iexact Hz
  iexists _; iexact HW

set_option maxHeartbeats 8000000 in
set_option maxRecDepth 4096 in
theorem trip3_narrow (k : Fin k0_t3_loop.trips) (acc : Acc7 (F := F)) (hk : k.val = 122) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : ¬k0_cond24 k = 1#1 := fun h => by have := (cond24_iff k).1 h; omega
  have h25 : k0_cond25 k = 1#1 := (cond25_iff k).2 (by omega)
  have h26 : k0_cond26 k = 1#1 := (cond26_iff k).2 (by omega)
  have h22 : ¬k0_cond22 k = 1#1 := cond22_not k
  have h23 : ¬k0_cond23 k = 1#1 := cond23_not k
  unfold pre3 post3 ltHome
  rw [stepF_T c WD WT (k.val + 32) (by omega) (by omega), oT_pos _ _ _ _ _ _ _ _ (by omega), show k.val + 32 - 32 = k.val by omega]
  rw [stepF_TN c WD WT (k.val + 35) (by omega)]
  simp only [if_pos (show 2 ≤ k.val by omega)]
  unfold outT ltDone
  iintro ⟨⟨⟨%f0, HF⟩, HR, HT⟩, ⟨⟨%f1, Hs⟩, Hc, Hwd, Hwt⟩, ⟨%fo, %wo, %go, %hwo, Hdc⟩, ⟨%f3, Hl⟩, Hh, Hws, Hd2, Hd2s, ⟨%f4, Hz⟩, ⟨%W, HW⟩⟩
  ihave Hs2 := (slot_cut c _ f1) $$ Hs
  icases Hs2 with ⟨Hs, HsR⟩
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [Hc Hwd Hwt HsR]
  · isplitl [Hc]; · iexists f1; iexact Hc
    isplitl [HsR]; · iexists _; iexact HsR
    isplitl [Hwt]; · iexact Hwt
    iexact Hwd
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hd2]; · iexact Hd2
  isplitl [Hd2s]; · iexact Hd2s
  isplitl [Hz]; · iexists _; iexact Hz
  iexists _; iexact HW

set_option maxHeartbeats 8000000 in
set_option maxRecDepth 4096 in
theorem trip3_last (k : Fin k0_t3_loop.trips) (acc : Acc7 (F := F)) (hk : 123 ≤ k.val) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : ¬k0_cond24 k = 1#1 := fun h => by have := (cond24_iff k).1 h; omega
  have h25 : ¬k0_cond25 k = 1#1 := fun h => by have := (cond25_iff k).1 h; omega
  have h26 : k0_cond26 k = 1#1 := (cond26_iff k).2 (by omega)
  have h22 : ¬k0_cond22 k = 1#1 := cond22_not k
  have h23 : ¬k0_cond23 k = 1#1 := cond23_not k
  unfold pre3 post3 ltHome
  rw [stepF_T c WD WT (k.val + 32) (by omega) (by omega), oT_pos _ _ _ _ _ _ _ _ (by omega), show k.val + 32 - 32 = k.val by omega]
  rw [stepF_free c WD WT (k.val + 35) (by omega)]
  simp only [if_pos (show 2 ≤ k.val by omega)]
  unfold outT ltDone
  iintro ⟨⟨⟨%f0, HF⟩, HR, HT⟩, HFree, ⟨%fo, %wo, %go, %hwo, Hdc⟩, ⟨%f3, Hl⟩, Hh, Hws, Hd2, Hd2s, ⟨%f4, Hz⟩, ⟨%W, HW⟩⟩
  ihave HFree2 := (Aside.intro _) $$ HFree
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  ihave HFree := (Aside.elim _) $$ HFree2
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [HFree]; · iexact HFree
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hd2]; · iexact Hd2
  isplitl [Hd2s]; · iexact Hd2s
  isplitl [Hz]; · iexists _; iexact Hz
  iexists _; iexact HW

theorem trip3_run (k : Fin k0_t3_loop.trips) (acc : Acc7 (F := F)) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  by_cases h : k.val < 2
  · exact trip3_first _ _ _ _ _ _ _ _ _ _ _ _ _ _ _ _ _ _ _ _ _ _ _ _ _ _ _ _ _ _ _ _ _ _ _ _ _ k acc h hJ
  by_cases h3 : k.val < 122
  · exact trip3_full _ _ _ _ _ _ _ _ _ _ _ _ _ _ _ _ _ _ _ _ _ _ _ _ _ _ _ _ _ _ _ _ _ _ _ _ _ k acc (by omega) h3 hJ
  by_cases h4 : k.val = 122
  · exact trip3_narrow _ _ _ _ _ _ _ _ _ _ _ _ _ _ _ _ _ _ _ _ _ _ _ _ _ _ _ _ _ _ _ _ _ _ _ _ _ k acc h4 hJ
  exact trip3_last _ _ _ _ _ _ _ _ _ _ _ _ _ _ _ _ _ _ _ _ _ _ _ _ _ _ _ _ _ _ _ _ _ _ _ _ _ k acc (by omega) hJ

end Trip

end Cert.Proof.KernelRun
-- ==== Proof.KernelLoops.lean ====
/-
  The loops over the weights' full blocks as wholes: what is held before block `k`, and that a trip takes that to what is
  held before block `k + 1`.
-/
module

public import proofs.«01_k».proof.Proof.KernelTrip1
public import proofs.«01_k».proof.Proof.KernelTrip3

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem sl4_add4 (k : ℕ) : Ring.sl 4 (k + 4) = Ring.sl 4 k := by ext; simp [Ring.sl]
theorem sl4_36 (k : ℕ) : Ring.sl 4 (k + 36) = Ring.sl 4 (k + 32) := by ext; simp only [Ring.sl, Fin.val_ofNat]; omega
theorem sl2_add2 (k : ℕ) : Ring.sl 2 (k + 2) = Ring.sl 2 k := by ext; simp [Ring.sl]

section L1
variable (c : Dev nD) (WD : Buf (Elt F) (wdM.view.loc (c : Thread nD τ))) (WT : Buf (Elt F) (wtM.view.loc (c : Thread nD τ)))
  (H8 : Buf (Elt F) (h8M.view.loc (c : Thread nD τ))) (WDS : Buf (Elt F) (wdsM.view.loc (c : Thread nD τ)))
  (hs0 hs1 hs2 : FVec F S8x128 .f32)

theorem ldAt_step (k : ℕ) (hk : k < 31) :
    iprop(bigSep (Ring.rangeSet 31 (k + 1) 31) (ldHome (F := F) c) ∗ bigSep (Ring.rangeSet 31 0 (k - 2)) (ldDone c WD H8 WDS hs0 hs1 hs2)
      ∗ (if 2 ≤ k then ldDone c WD H8 WDS hs0 hs1 hs2 (Ring.bk 31 (k - 2)) else emp)) ⊢ (ldAt c WD H8 WDS hs0 hs1 hs2 (k + 1) : sProp 𝕄) := by
  unfold ldAt
  by_cases h : 2 ≤ k
  · rw [if_pos h, Ring.bigSep_rangeSet_last (lo := 0) (hi := k + 1 - 2) (by omega) (by omega)]
    have e : (⟨k + 1 - 2 - 1, by omega⟩ : Fin 31) = Ring.bk 31 (k - 2) := by
      ext; rw [Ring.bk_val (by omega)]; show k + 1 - 2 - 1 = k - 2; omega
    rw [e, show k + 1 - 2 - 1 = k - 2 by omega]
    iintro ⟨H1, H2, H3⟩
    isplitl [H1]; · iexact H1
    isplitl [H3]; · iexact H3
    iexact H2
  · rw [if_neg h, show k - 2 = 0 by omega, show k + 1 - 2 = 0 by omega]
    iintro ⟨H1, H2, -⟩
    isplitl [H1]; · iexact H1
    iexact H2

/-- What is held before block `k` of the draft weight. -/
def inv1 (k : ℕ) : sProp 𝕄 :=
  iprop(stepF c WD WT k ∗ stepF c WD WT (k + 1) ∗ stepF c WD WT (k + 2) ∗ freeS c WD WT (Ring.sl 4 (k + 3))
    ∗ oD c WD H8 WDS hs0 hs1 hs2 k ∗ oD c WD H8 WDS hs0 hs1 hs2 (k + 1) ∗ ldAt c WD H8 WDS hs0 hs1 hs2 k
    ∗ h8P c H8 ∗ wdsP c WDS ∗ (∃ f, zdP c f) ∗ (∃ W, owes (c : Thread nD τ) 0 W))

theorem inv1_open (k : ℕ) (hk : k < 31) : inv1 c WD WT H8 WDS hs0 hs1 hs2 k
    ⊢ (iprop(pre1 c WD WT H8 WDS hs0 hs1 hs2 k ∗ (stepF c WD WT (k + 1) ∗ stepF c WD WT (k + 2) ∗ oD c WD H8 WDS hs0 hs1 hs2 (k + 1)
      ∗ bigSep (Ring.rangeSet 31 (k + 1) 31) (ldHome (F := F) c) ∗ bigSep (Ring.rangeSet 31 0 (k - 2)) (ldDone c WD H8 WDS hs0 hs1 hs2))) : sProp 𝕄) := by
  unfold inv1 pre1 ldAt
  rw [Ring.bigSep_rangeSet_head (lo := k) (hi := 31) hk hk, show (⟨k, hk⟩ : Fin 31) = Ring.bk 31 k from Fin.ext (Ring.bk_val hk).symm]
  iintro ⟨H0, H1, H2, H3, H4, H5, ⟨⟨H6, H7⟩, H8'⟩, H9, H10, H11, H12⟩
  isplitl [H0 H3 H4 H6 H9 H10 H11 H12]
  · isplitl [H0]; · iexact H0
    isplitl [H3]; · iexact H3
    isplitl [H4]; · iexact H4
    isplitl [H6]; · iexact H6
    isplitl [H9]; · iexact H9
    isplitl [H10]; · iexact H10
    isplitl [H11]; · iexact H11
    iexact H12
  isplitl [H1]; · iexact H1
  isplitl [H2]; · iexact H2
  isplitl [H5]; · iexact H5
  isplitl [H7]; · iexact H7
  iexact H8'

theorem inv1_close (k : ℕ) (hk : k < 31) : (iprop(post1 c WD WT H8 WDS hs0 hs1 hs2 k ∗ (stepF c WD WT (k + 1) ∗ stepF c WD WT (k + 2) ∗ oD c WD H8 WDS hs0 hs1 hs2 (k + 1)
      ∗ bigSep (Ring.rangeSet 31 (k + 1) 31) (ldHome (F := F) c) ∗ bigSep (Ring.rangeSet 31 0 (k - 2)) (ldDone c WD H8 WDS hs0 hs1 hs2))) : sProp 𝕄)
    ⊢ inv1 c WD WT H8 WDS hs0 hs1 hs2 (k + 1) := by
  unfold inv1 post1
  rw [show k + 1 + 1 = k + 2 by omega, show k + 1 + 2 = k + 3 by omega, show k + 1 + 3 = k + 4 by omega, sl4_add4, oD_pos c WD H8 WDS hs0 hs1 hs2 (k + 2) (by omega), sl2_add2,
    show k + 2 - 2 = k by omega]
  iintro ⟨⟨H0, H1, H2, H3, H4, H5, H6, H7⟩, H8', H9, H10, H11, H12⟩
  isplitl [H8']; · iexact H8'
  isplitl [H9]; · iexact H9
  isplitl [H1]; · iexact H1
  isplitl [H0]; · iexact H0
  isplitl [H10]; · iexact H10
  isplitl [H2]; · iexact H2
  isplitl [H3 H11 H12]
  · iapply (ldAt_step c WD H8 WDS hs0 hs1 hs2 k hk)
    isplitl [H11]; · iexact H11
    isplitl [H12]; · iexact H12
    iexact H3
  isplitl [H4]; · iexact H4
  isplitl [H5]; · iexact H5
  isplitl [H6]; · iexact H6
  iexact H7

theorem inv1_step (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole) (k : Fin k0_t1_loop.trips) (acc : Acc6 (F := F)) :
    inv1 c WD WT H8 WDS hs0 hs1 hs2 k.val
    ⊢ wp frame (wpE (defs₀ (F := F)) 𝒱₀ (c : Thread nD τ) none) Set.univ (trip1 arg11 harg11 arg12 harg12 arg13 harg13 arg14 harg14 hs0 hs1 hs2 k acc)
        (fun _ => inv1 c WD WT H8 WDS hs0 hs1 hs2 (k.val + 1)) := by
  refine (inv1_open c WD WT H8 WDS hs0 hs1 hs2 k.val (t1_lt k)).trans ?_
  iintro ⟨H, HR⟩
  iapply (wp_wand_r frame (wpE (defs₀ (F := F)) 𝒱₀ (c : Thread nD τ) none) Set.univ)
  isplitl [H]
  · iapply (trip1_run c WD WT H8 WDS arg11 harg11 arg12 harg12 arg13 harg13 arg14 harg14 hs0 hs1 hs2 k acc); iexact H
  · iintro %r HP
    iapply (inv1_close c WD WT H8 WDS hs0 hs1 hs2 k.val (t1_lt k))
    isplitl [HP]; · iexact HP
    iexact HR
end L1

section L3
variable (c : Dev nD) (WD : Buf (Elt F) (wdM.view.loc (c : Thread nD τ))) (WT : Buf (Elt F) (wtM.view.loc (c : Thread nD τ)))
  (X8 : Buf (Elt F) (x8M.view.loc (c : Thread nD τ))) (WTS : Buf (Elt F) (wtsM.view.loc (c : Thread nD τ)))
  (D2 : Buf (Elt F) (d2tM.view.loc (c : Thread nD τ))) (D2S : Buf (Elt F) (d2tsM.view.loc (c : Thread nD τ)))
  (xs0 xs1 xs2 : FVec F S8x128 .f32)

theorem ltAt_step (k : ℕ) (hk : k < 125) :
    iprop(bigSep (Ring.rangeSet 125 (k + 1) 125) (ltHome (F := F) c) ∗ bigSep (Ring.rangeSet 125 0 (k - 2)) (ltDone c WT X8 WTS xs0 xs1 xs2)
      ∗ (if 2 ≤ k then ltDone c WT X8 WTS xs0 xs1 xs2 (Ring.bk 125 (k - 2)) else emp)) ⊢ (ltAt c WT X8 WTS xs0 xs1 xs2 (k + 1) : sProp 𝕄) := by
  unfold ltAt
  by_cases h : 2 ≤ k
  · rw [if_pos h, Ring.bigSep_rangeSet_last (lo := 0) (hi := k + 1 - 2) (by omega) (by omega)]
    have e : (⟨k + 1 - 2 - 1, by omega⟩ : Fin 125) = Ring.bk 125 (k - 2) := by
      ext; rw [Ring.bk_val (by omega)]; show k + 1 - 2 - 1 = k - 2; omega
    rw [e, show k + 1 - 2 - 1 = k - 2 by omega]
    iintro ⟨H1, H2, H3⟩
    isplitl [H1]; · iexact H1
    isplitl [H3]; · iexact H3
    iexact H2
  · rw [if_neg h, show k - 2 = 0 by omega, show k + 1 - 2 = 0 by omega]
    iintro ⟨H1, H2, -⟩
    isplitl [H1]; · iexact H1
    iexact H2

/-- What is held before block `k` of the target weight. -/
def inv3 (k : ℕ) (acc : Acc7 (F := F)) : sProp 𝕄 :=
  iprop(⌜Jok acc.2.2.2.2.2.2⌝ ∗ stepF c WD WT (k + 32) ∗ stepF c WD WT (k + 33) ∗ stepF c WD WT (k + 34) ∗ freeS c WD WT (Ring.sl 4 (k + 35))
    ∗ oT c WT X8 WTS xs0 xs1 xs2 k ∗ oT c WT X8 WTS xs0 xs1 xs2 (k + 1) ∗ ltAt c WT X8 WTS xs0 xs1 xs2 k
    ∗ x8P c X8 ∗ wtsP c WTS ∗ d2tP c D2 ∗ d2tsP c D2S ∗ (∃ f, zcP c f) ∗ (∃ W, owes (c : Thread nD τ) 0 W))

theorem inv3_open (k : ℕ) (hk : k < 125) (acc : Acc7 (F := F)) : inv3 c WD WT X8 WTS D2 D2S xs0 xs1 xs2 k acc
    ⊢ (iprop(⌜Jok acc.2.2.2.2.2.2⌝ ∗ pre3 c WD WT X8 WTS D2 D2S xs0 xs1 xs2 k ∗ (stepF c WD WT (k + 33) ∗ stepF c WD WT (k + 34) ∗ oT c WT X8 WTS xs0 xs1 xs2 (k + 1)
      ∗ bigSep (Ring.rangeSet 125 (k + 1) 125) (ltHome (F := F) c) ∗ bigSep (Ring.rangeSet 125 0 (k - 2)) (ltDone c WT X8 WTS xs0 xs1 xs2))) : sProp 𝕄) := by
  unfold inv3 pre3 ltAt
  rw [Ring.bigSep_rangeSet_head (lo := k) (hi := 125) hk hk, show (⟨k, hk⟩ : Fin 125) = Ring.bk 125 k from Fin.ext (Ring.bk_val hk).symm]
  iintro ⟨HJ, H0, H1, H2, H3, H4, H5, ⟨⟨H6, H7⟩, H8'⟩, H9, H10, H10a, H10b, H11, H12⟩
  isplitl [HJ]; · iexact HJ
  isplitl [H0 H3 H4 H6 H9 H10 H10a H10b H11 H12]
  · isplitl [H0]; · iexact H0
    isplitl [H3]; · iexact H3
    isplitl [H4]; · iexact H4
    isplitl [H6]; · iexact H6
    isplitl [H9]; · iexact H9
    isplitl [H10]; · iexact H10
    isplitl [H10a]; · iexact H10a
    isplitl [H10b]; · iexact H10b
    isplitl [H11]; · iexact H11
    iexact H12
  isplitl [H1]; · iexact H1
  isplitl [H2]; · iexact H2
  isplitl [H5]; · iexact H5
  isplitl [H7]; · iexact H7
  iexact H8'

theorem inv3_close (k : ℕ) (hk : k < 125) (acc : Acc7 (F := F)) : (iprop(post3 c WD WT X8 WTS D2 D2S xs0 xs1 xs2 k acc ∗ (stepF c WD WT (k + 33) ∗ stepF c WD WT (k + 34) ∗ oT c WT X8 WTS xs0 xs1 xs2 (k + 1)
      ∗ bigSep (Ring.rangeSet 125 (k + 1) 125) (ltHome (F := F) c) ∗ bigSep (Ring.rangeSet 125 0 (k - 2)) (ltDone c WT X8 WTS xs0 xs1 xs2))) : sProp 𝕄)
    ⊢ inv3 c WD WT X8 WTS D2 D2S xs0 xs1 xs2 (k + 1) acc := by
  unfold inv3 post3
  rw [show k + 1 + 1 = k + 2 by omega, show k + 1 + 32 = k + 33 by omega, show k + 1 + 33 = k + 34 by omega, show k + 1 + 34 = k + 35 by omega, show k + 1 + 35 = k + 36 by omega, sl4_36,
    oT_pos c WT X8 WTS xs0 xs1 xs2 (k + 2) (by omega), sl2_add2, show k + 2 - 2 = k by omega]
  iintro ⟨⟨HJ, H0, H1, H2, H3, H4, H5, H5a, H5b, H6, H7⟩, H8', H9, H10, H11, H12⟩
  isplitl [HJ]; · iexact HJ
  isplitl [H8']; · iexact H8'
  isplitl [H9]; · iexact H9
  isplitl [H1]; · iexact H1
  isplitl [H0]; · iexact H0
  isplitl [H10]; · iexact H10
  isplitl [H2]; · iexact H2
  isplitl [H3 H11 H12]
  · iapply (ltAt_step c WT X8 WTS xs0 xs1 xs2 k hk)
    isplitl [H11]; · iexact H11
    isplitl [H12]; · iexact H12
    iexact H3
  isplitl [H4]; · iexact H4
  isplitl [H5]; · iexact H5
  isplitl [H5a]; · iexact H5a
  isplitl [H5b]; · iexact H5b
  isplitl [H6]; · iexact H6
  iexact H7

theorem inv3_step (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)
    (v206 v207 : IVec S8x128 32) (v208 v209 v210 v211 v212 v213 : FVec F S8x128 .f32)
    (v437 v473 v474 : IVec S8x128 32) (v476 : IVec S8x128 1) (v478 : IVec S8x128 32) (v482 v487 v492 v497 v502 v507 : Elt F .i32)
    (k : Fin k0_t3_loop.trips) (acc : Acc7 (F := F)) :
    inv3 c WD WT X8 WTS D2 D2S xs0 xs1 xs2 k.val acc
    ⊢ wp frame (wpE (defs₀ (F := F)) 𝒱₀ (c : Thread nD τ) none) Set.univ (trip3 arg11 harg11 arg12 harg12 arg13 harg13 arg14 harg14 xs0 xs1 xs2 v206 v207 v208 v209 v210 v211 v212 v213 v437 v473 v474 v476 v478 v482 v487 v492 v497 v502 v507 k acc)
        (fun r => inv3 c WD WT X8 WTS D2 D2S xs0 xs1 xs2 (k.val + 1) r) := by
  refine (inv3_open c WD WT X8 WTS D2 D2S xs0 xs1 xs2 k.val (t3_lt k) acc).trans ?_
  iintro ⟨%hJ, H, HR⟩
  iapply (wp_wand_r frame (wpE (defs₀ (F := F)) 𝒱₀ (c : Thread nD τ) none) Set.univ)
  isplitl [H]
  · iapply (trip3_run c WD WT X8 WTS D2 D2S arg11 harg11 arg12 harg12 arg13 harg13 arg14 harg14 xs0 xs1 xs2 v206 v207 v208 v209 v210 v211 v212 v213 v437 v473 v474 v476 v478 v482 v487 v492 v497 v502 v507 k acc hJ); iexact H
  · iintro %r HP
    iapply (inv3_close c WD WT X8 WTS D2 D2S xs0 xs1 xs2 k.val (t3_lt k) r)
    isplitl [HP]; · iexact HP
    iexact HR
end L3

end Cert.Proof.KernelRun
-- ==== Proof.KernelPre.lean ====
/-
  What the body takes and leaves: the remaining buffers by name, the accesses at fixed places by the names of their slots,
  the checks on the words it reads, and the state on entry to and exit from the two loops over the weights.
-/
module

public import proofs.«01_k».proof.Proof.KernelLoops

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The remaining buffers -/

abbrev xinM : Memref sig .tc .hbm S3x8x3072 .fp8e4m3 := Memref.whole main_arg0
abbrev xsinM : Memref sig .tc .hbm S3x8 .f32 := Memref.whole main_arg1
abbrev hinM : Memref sig .tc .hbm S3x7x3072 .fp8e4m3 := Memref.whole main_arg4
abbrev hsinM : Memref sig .tc .hbm S3x7 .f32 := Memref.whole main_arg5
abbrev wtsinM : Memref sig .tc .hbm S1002x128 .f32 := Memref.whole main_v0
abbrev wdsinM : Memref sig .tc .hbm S250x128 .f32 := Memref.whole main_v1
abbrev d2inM : Memref sig .tc .hbm S250x128 .i32 := Memref.whole main_v2
abbrev tokinM : Memref sig .tc .hbm S3x7 .i32 := Memref.whole main_arg9
abbrev parinM : Memref sig .tc .hbm S3x7 .i32 := Memref.whole main_arg10
abbrev xvM : Memref sig .tc .vmem S3x8x3072 .fp8e4m3 := Memref.whole cc0_scratch1
abbrev hvM : Memref sig .tc .vmem S3x7x3072 .fp8e4m3 := Memref.whole cc0_scratch2
abbrev xsvM : Memref sig .tc .vmem S3x8 .f32 := Memref.whole cc0_scratch3
abbrev hsvM : Memref sig .tc .vmem S3x7 .f32 := Memref.whole cc0_scratch4
abbrev tokM : Memref sig .tc .smem S3x7 .i32 := Memref.whole cc0_scratch9
abbrev parM : Memref sig .tc .smem S3x7 .i32 := Memref.whole cc0_scratch10

/-- A whole buffer at contents `f`. -/
abbrev wP {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f
abbrev xinP (c : Dev nD) (f : Buf (Elt F) (xinM.view.loc (c : Thread nD τ))) : sProp 𝕄 := xinM.view.loc (c : Thread nD τ) ↦[xinM.view.set]{fullShare} f
abbrev xsinP (c : Dev nD) (f : Buf (Elt F) (xsinM.view.loc (c : Thread nD τ))) : sProp 𝕄 := xsinM.view.loc (c : Thread nD τ) ↦[xsinM.view.set]{fullShare} f
abbrev hinP (c : Dev nD) (f : Buf (Elt F) (hinM.view.loc (c : Thread nD τ))) : sProp 𝕄 := hinM.view.loc (c : Thread nD τ) ↦[hinM.view.set]{fullShare} f
abbrev hsinP (c : Dev nD) (f : Buf (Elt F) (hsinM.view.loc (c : Thread nD τ))) : sProp 𝕄 := hsinM.view.loc (c : Thread nD τ) ↦[hsinM.view.set]{fullShare} f
abbrev wtsinP (c : Dev nD) (f : Buf (Elt F) (wtsinM.view.loc (c : Thread nD τ))) : sProp 𝕄 := wtsinM.view.loc (c : Thread nD τ) ↦[wtsinM.view.set]{fullShare} f
abbrev wdsinP (c : Dev nD) (f : Buf (Elt F) (wdsinM.view.loc (c : Thread nD τ))) : sProp 𝕄 := wdsinM.view.loc (c : Thread nD τ) ↦[wdsinM.view.set]{fullShare} f
abbrev d2inP (c : Dev nD) (i : Fin 2) (f : Buf (Elt F) (d2inM.view.loc (c : Thread nD τ))) : sProp 𝕄 := d2inM.view.loc (c : Thread nD τ) ↦[d2inM.view.set]{Transfers.shareTok fullShare 2 i} f
abbrev tokinP (c : Dev nD) (f : Buf (Elt F) (tokinM.view.loc (c : Thread nD τ))) : sProp 𝕄 := tokinM.view.loc (c : Thread nD τ) ↦[tokinM.view.set]{fullShare} f
abbrev parinP (c : Dev nD) (f : Buf (Elt F) (parinM.view.loc (c : Thread nD τ))) : sProp 𝕄 := parinM.view.loc (c : Thread nD τ) ↦[parinM.view.set]{fullShare} f
abbrev xvP (c : Dev nD) (f : Buf (Elt F) (xvM.view.loc (c : Thread nD τ))) : sProp 𝕄 := xvM.view.loc (c : Thread nD τ) ↦[xvM.view.set]{fullShare} f
abbrev hvP (c : Dev nD) (f : Buf (Elt F) (hvM.view.loc (c : Thread nD τ))) : sProp 𝕄 := hvM.view.loc (c : Thread nD τ) ↦[hvM.view.set]{fullShare} f
abbrev xsvP (c : Dev nD) (f : Buf (Elt F) (xsvM.view.loc (c : Thread nD τ))) : sProp 𝕄 := xsvM.view.loc (c : Thread nD τ) ↦[xsvM.view.set]{fullShare} f
abbrev hsvP (c : Dev nD) (f : Buf (Elt F) (hsvM.view.loc (c : Thread nD τ))) : sProp 𝕄 := hsvM.view.loc (c : Thread nD τ) ↦[hsvM.view.set]{fullShare} f
abbrev tokP (c : Dev nD) (f : Buf (Elt F) (tokM.view.loc (c : Thread nD τ))) : sProp 𝕄 := tokM.view.loc (c : Thread nD τ) ↦[tokM.view.set]{fullShare} f
abbrev parP (c : Dev nD) (f : Buf (Elt F) (parM.view.loc (c : Thread nD τ))) : sProp 𝕄 := parM.view.loc (c : Thread nD τ) ↦[parM.view.set]{fullShare} f

/-- Cell `i` of the ten the small operands' copies signal, and the cell the narrow draft block's copy signals. -/
abbrev ism (i : Fin 10) : DmaSems sig S_ := (cc0_scratch18.slice (Rect.unit (s := S10) (o1 i.val) S1.size (by have := i.isLt; intro a; fin_cases a; show i.val + 1 ≤ 10; omega))).squeeze S_ squeezes_S1_S_
abbrev nsm : DmaSems sig S_ := (cc0_scratch21.slice (Rect.unit (s := S1) ![0] S1.size inb_S1_S1_0)).squeeze S_ squeezes_S1_S_
abbrev icell (c : Dev nD) (i : Fin 10) : sProp 𝕄 := semVal ((c : Thread nD τ), SemLoc.dma (ism i).sem) 0
abbrev ncell (c : Dev nD) : sProp 𝕄 := semVal ((c : Thread nD τ), SemLoc.dma nsm.sem) 0

/-- The last 256 columns of the draft logits, of the target logits; -/
def ldN : Memref sig .tc .hbm S3x7x256 .bf16 := ldM.slice (Rect.unit (s := S3x7x32000) ![0, 0, 31744] S3x7x256.size inb_S3x7x32000_S3x7x256_0_0_31744) (fun _ => rfl)
def ltN : Memref sig .tc .hbm S3x8x256 .bf16 := ltM.slice (Rect.unit (s := S3x8x128256) ![0, 0, 128000] S3x8x256.size inb_S3x8x128256_S3x8x256_0_0_128000) (fun _ => rfl)
abbrev ldNP (c : Dev nD) (f : Buf (Elt F) (ldN.view.loc (c : Thread nD τ))) : sProp 𝕄 := ldN.view.loc (c : Thread nD τ) ↦[ldN.view.set]{fullShare} f
abbrev ltNP (c : Dev nD) (f : Buf (Elt F) (ltN.view.loc (c : Thread nD τ))) : sProp 𝕄 := ltN.view.loc (c : Thread nD τ) ↦[ltN.view.set]{fullShare} f

/-! ## Accesses at fixed places -/

@[sl_canon] theorem semP0 (hh) : (cc0_scratch17.slice (Rect.unit (s := S4) k0_off1 S1.size hh)).squeeze S_ squeezes_S1_S_ = csm 0 :=
  csm_congr (s := 0) (by decide) _
@[sl_canon] theorem slotP0 (hh hs) : (ringM.slice (Rect.unit (s := S4x3072x1024) k0_off2 S1x3072x1024.size hh) hs).squeeze S3072x1024 squeezes_S1x3072x1024_S3072x1024 = rslot 0 :=
  rslot_congr (s := 0) (by decide) _ _
@[sl_canon] theorem srcP0 (hh hs) : wdM.slice (Rect.unit (s := S3072x32000) k0_off3 S3072x1024.size hh) hs = wdB 0 :=
  wdB_congr (b := 0) (by decide) _ _
@[sl_canon] theorem semP1 (hh) : (cc0_scratch17.slice (Rect.unit (s := S4) k0_off11 S1.size hh)).squeeze S_ squeezes_S1_S_ = csm 1 :=
  csm_congr (s := 1) (by decide) _
@[sl_canon] theorem slotP1 (hh hs) : (ringM.slice (Rect.unit (s := S4x3072x1024) k0_off12 S1x3072x1024.size hh) hs).squeeze S3072x1024 squeezes_S1x3072x1024_S3072x1024 = rslot 1 :=
  rslot_congr (s := 1) (by decide) _ _
@[sl_canon] theorem srcP1 (hh hs) : wdM.slice (Rect.unit (s := S3072x32000) k0_off13 S3072x1024.size hh) hs = wdB 1 :=
  wdB_congr (b := 1) (by decide) _ _
@[sl_canon] theorem semP2 (hh) : (cc0_scratch17.slice (Rect.unit (s := S4) k0_off21 S1.size hh)).squeeze S_ squeezes_S1_S_ = csm 2 :=
  csm_congr (s := 2) (by decide) _
@[sl_canon] theorem slotP2 (hh hs) : (ringM.slice (Rect.unit (s := S4x3072x1024) k0_off22 S1x3072x1024.size hh) hs).squeeze S3072x1024 squeezes_S1x3072x1024_S3072x1024 = rslot 2 :=
  rslot_congr (s := 2) (by decide) _ _
@[sl_canon] theorem srcP2 (hh hs) : wdM.slice (Rect.unit (s := S3072x32000) k0_off23 S3072x1024.size hh) hs = wdB 2 :=
  wdB_congr (b := 2) (by decide) _ _
@[sl_canon] theorem semMid (hh) : (cc0_scratch17.slice (Rect.unit (s := S4) k0_off82 S1.size hh)).squeeze S_ squeezes_S1_S_ = csm 2 :=
  csm_congr (s := 2) (by decide) _
@[sl_canon] theorem slotMid (hh hs) : (ringM.slice (Rect.unit (s := S4x3072x1024) k0_off83 S1x3072x1024.size hh) hs).squeeze S3072x1024 squeezes_S1x3072x1024_S3072x1024 = rslot 2 :=
  rslot_congr (s := 2) (by decide) _ _
@[sl_canon] theorem srcMid (hh hs) : wtM.slice (Rect.unit (s := S3072x128256) k0_off84 S3072x1024.size hh) hs = wtB 2 :=
  wtB_congr (b := 2) (by decide) _ _
@[sl_canon] theorem semL3 (hh) : (cc0_scratch17.slice (Rect.unit (s := S4) ![3] S1.size hh)).squeeze S_ squeezes_S1_S_ = csm 3 :=
  csm_congr (s := 3) (by decide) _
@[sl_canon] theorem nslotL3 (hh hs) : (ringM.slice (Rect.unit (s := S4x3072x1024) ![3, 0, 0] S1x3072x256.size hh) hs).squeeze S3072x256 squeezes_S1x3072x256_S3072x256 = nslot 3 :=
  nslot_congr (s := 3) (by decide) _ _
@[sl_canon] theorem semL1 (hh) : (cc0_scratch17.slice (Rect.unit (s := S4) ![1] S1.size hh)).squeeze S_ squeezes_S1_S_ = csm 1 :=
  csm_congr (s := 1) (by decide) _
@[sl_canon] theorem nslotL1 (hh hs) : (ringM.slice (Rect.unit (s := S4x3072x1024) ![1, 0, 0] S1x3072x256.size hh) hs).squeeze S3072x256 squeezes_S1x3072x256_S3072x256 = nslot 1 :=
  nslot_congr (s := 1) (by decide) _ _
@[sl_canon] theorem dsemL0 (hh) : (cc0_scratch20.slice (Rect.unit (s := S2) ![0] S1.size hh)).squeeze S_ squeezes_S1_S_ = dsm 0 :=
  dsm_congr (s := 0) (by decide) _
@[sl_canon] theorem tsemL0 (hh) : (cc0_scratch19.slice (Rect.unit (s := S2) ![0] S1.size hh)).squeeze S_ squeezes_S1_S_ = tsm 0 :=
  tsm_congr (s := 0) (by decide) _
@[sl_canon] theorem dslotL0 (hh hs) : (obdM.slice (Rect.unit (s := S2x3x7x1024) ![0, 0, 0, 0] S1x3x7x1024.size hh) hs).squeeze S3x7x1024 squeezes_S1x3x7x1024_S3x7x1024 = dslot 0 :=
  dslot_congr (s := 0) (by decide) _ _
@[sl_canon] theorem tslotL0 (hh hs) : (obtM.slice (Rect.unit (s := S2x3x8x1024) ![0, 0, 0, 0] S1x3x8x1024.size hh) hs).squeeze S3x8x1024 squeezes_S1x3x8x1024_S3x8x1024 = tslot 0 :=
  tslot_congr (s := 0) (by decide) _ _
@[sl_canon] theorem dsemL1 (hh) : (cc0_scratch20.slice (Rect.unit (s := S2) ![1] S1.size hh)).squeeze S_ squeezes_S1_S_ = dsm 1 :=
  dsm_congr (s := 1) (by decide) _
@[sl_canon] theorem tsemL1 (hh) : (cc0_scratch19.slice (Rect.unit (s := S2) ![1] S1.size hh)).squeeze S_ squeezes_S1_S_ = tsm 1 :=
  tsm_congr (s := 1) (by decide) _
@[sl_canon] theorem dslotL1 (hh hs) : (obdM.slice (Rect.unit (s := S2x3x7x1024) ![1, 0, 0, 0] S1x3x7x1024.size hh) hs).squeeze S3x7x1024 squeezes_S1x3x7x1024_S3x7x1024 = dslot 1 :=
  dslot_congr (s := 1) (by decide) _ _
@[sl_canon] theorem tslotL1 (hh hs) : (obtM.slice (Rect.unit (s := S2x3x8x1024) ![1, 0, 0, 0] S1x3x8x1024.size hh) hs).squeeze S3x8x1024 squeezes_S1x3x8x1024_S3x8x1024 = tslot 1 :=
  tslot_congr (s := 1) (by decide) _ _
@[sl_canon] theorem ldBL0 (hh hs) : ldM.slice (Rect.unit (s := S3x7x32000) ![0, 0, 0] S3x7x1024.size hh) hs = ldB 0 :=
  ldB_congr (b := 0) (by decide) _ _
@[sl_canon] theorem ltBL0 (hh hs) : ltM.slice (Rect.unit (s := S3x8x128256) ![0, 0, 0] S3x8x1024.size hh) hs = ltB 0 :=
  ltB_congr (b := 0) (by decide) _ _
@[sl_canon] theorem ldN_eq (hh hs) : ldM.slice (Rect.unit (s := S3x7x32000) ![0, 0, 31744] S3x7x256.size hh) hs = ldN :=
  rfl
@[sl_canon] theorem ltN_eq (hh hs) : ltM.slice (Rect.unit (s := S3x8x128256) ![0, 0, 128000] S3x8x256.size hh) hs = ltN :=
  rfl

/-! ## The checks -/

theorem chk10_ok (j v : BitVec 32) (h : Jok j) : k0_chk10 j v :=
  have H := chk1_ok (Scalar.addi j (Scalar.extui (Scalar.andi (Scalar.cmpi .slt (Scalar.addi (Scalar.addi (Scalar.muli j 128#32) 127#32) v) 128128#32) (Scalar.cmpi .slt j 249#32)))) (step_ok _ _ h)
  ⟨H.1, H.2.1, H.2.2.1, H.2.2.2.1, H.2.2.2.2.1, H.2.2.2.2.2.1, H.2.2.2.2.2.2.1, H.2.2.2.2.2.2.2.1⟩

/-- A token of the draft vocabulary: its 128-wide row is one of the 250. -/
def Tok (v : BitVec 32) : Prop := v.toNat < 32000
theorem Tok.row {v : BitVec 32} (h : Tok v) : (Scalar.shrui v 7#32).toNat < 250 := by
  have e : (Scalar.shrui v 7#32) = v >>> 7 := by
    simp [Scalar.shrui, IntOp.shrui]
  rw [e, BitVec.toNat_ushiftRight, Nat.shiftRight_eq_div_pow]
  unfold Tok at h
  omega
theorem row_inb (n o : ℕ) (h : n < 250) (ho : o + 8 ≤ 24) : ∀ a, (![n, o, 0] : Fin 3 → ℕ) a + S1x8x128.size a ≤ S250x24x128.size a := by
  intro a; fin_cases a
  · show n + 1 ≤ 250; omega
  · show o + 8 ≤ 24; omega
  · show 0 + 128 ≤ 128; omega
theorem chk11_ok (v : BitVec 32) (h : Tok v) : k0_chk11 v := row_inb _ 0 h.row (by decide)
theorem chk12_ok (v : BitVec 32) (h : Tok v) : k0_chk12 v := row_inb _ 0 h.row (by decide)
theorem chk13_ok (v : BitVec 32) (h : Tok v) : k0_chk13 v := row_inb _ 0 h.row (by decide)
theorem chk14_ok (v : BitVec 32) (h : Tok v) : k0_chk14 v := row_inb _ 0 h.row (by decide)
theorem chk15_ok (v : BitVec 32) (h : Tok v) : k0_chk15 v := row_inb _ 0 h.row (by decide)
theorem chk16_ok (v : BitVec 32) (h : Tok v) : k0_chk16 v := row_inb _ 0 h.row (by decide)
theorem chk17_ok (v : BitVec 32) (h : Tok v) : k0_chk17 v := row_inb _ 0 h.row (by decide)
theorem chk18_ok (v : BitVec 32) (h : Tok v) : k0_chk18 v := row_inb _ 8 h.row (by decide)
theorem chk19_ok (v : BitVec 32) (h : Tok v) : k0_chk19 v := row_inb _ 8 h.row (by decide)
theorem chk20_ok (v : BitVec 32) (h : Tok v) : k0_chk20 v := row_inb _ 8 h.row (by decide)
theorem chk21_ok (v : BitVec 32) (h : Tok v) : k0_chk21 v := row_inb _ 8 h.row (by decide)
theorem chk22_ok (v : BitVec 32) (h : Tok v) : k0_chk22 v := row_inb _ 8 h.row (by decide)
theorem chk23_ok (v : BitVec 32) (h : Tok v) : k0_chk23 v := row_inb _ 8 h.row (by decide)
theorem chk24_ok (v : BitVec 32) (h : Tok v) : k0_chk24 v := row_inb _ 8 h.row (by decide)
theorem chk25_ok (v : BitVec 32) (h : Tok v) : k0_chk25 v := row_inb _ 16 h.row (by decide)
theorem chk26_ok (v : BitVec 32) (h : Tok v) : k0_chk26 v := row_inb _ 16 h.row (by decide)
theorem chk27_ok (v : BitVec 32) (h : Tok v) : k0_chk27 v := row_inb _ 16 h.row (by decide)
theorem chk28_ok (v : BitVec 32) (h : Tok v) : k0_chk28 v := row_inb _ 16 h.row (by decide)
theorem chk29_ok (v : BitVec 32) (h : Tok v) : k0_chk29 v := row_inb _ 16 h.row (by decide)
theorem chk30_ok (v : BitVec 32) (h : Tok v) : k0_chk30 v := row_inb _ 16 h.row (by decide)
theorem chk31_ok (v : BitVec 32) (h : Tok v) : k0_chk31 v := row_inb _ 16 h.row (by decide)

end Cert.Proof.KernelRun
-- ==== Proof.KernelEnds.lean ====
/-
  The state on entry to and exit from the two loops over the weights, spelled with the slots' own numbers; the two loops over
  the 250 rows of the kept logits.
-/
module

public import proofs.«01_k».proof.Proof.KernelPre

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The narrow part of an output slot -/

/-- The first 256 columns of slot 0 of the draft output ring: where the narrow last block is rounded into. -/
def dnslot : Memref sig .tc .vmem S3x7x256 .bf16 :=
  (obdM.slice (Rect.unit (s := S2x3x7x1024) ![0, 0, 0, 0] S1x3x7x256.size inb_S2x3x7x1024_S1x3x7x256_0_0_0_0) (fun _ => rfl)).squeeze S3x7x256 squeezes_S1x3x7x256_S3x7x256
@[sl_canon] theorem dnslot_eq (hh hs) : (obdM.slice (Rect.unit (s := S2x3x7x1024) ![0, 0, 0, 0] S1x3x7x256.size hh) hs).squeeze S3x7x256 squeezes_S1x3x7x256_S3x7x256 = dnslot := rfl
abbrev dNR : Finset S2x3x7x1024.Idx := (Rect.unit (s := S2x3x7x1024) ![0, 0, 0, 0] S1x3x7x256.size inb_S2x3x7x1024_S1x3x7x256_0_0_0_0).set
abbrev dBR : Finset S2x3x7x1024.Idx := (Rect.unit (s := S2x3x7x1024) (o4 (0 : Fin 2).val) S1x3x7x1024.size (o4_inbD 0)).set
theorem dnslot_set : dnslot.view.set = dNR := (View.set_reshape _ _).trans (View.set_slice_whole _ _)
theorem dslot0_set : (dslot 0).view.set = dBR := (View.set_reshape _ _).trans (View.set_slice_whole _ _)
theorem dNR_sub : dNR ⊆ dBR := by
  intro y hy
  rw [Rect.mem_set_unit] at hy ⊢
  intro i
  have h := hy i
  refine ⟨?_, ?_⟩
  · fin_cases i <;> exact Nat.zero_le _
  · fin_cases i
    · exact h.2
    · exact h.2
    · exact h.2
    · exact Nat.lt_of_lt_of_le h.2 (by show 0 + 256 ≤ 0 + 1024; omega)
theorem dnslot_sub : dnslot.view.set ⊆ (dslot 0).view.set :=
  (Finset.Subset.trans dnslot_set.subset dNR_sub).trans dslot0_set.symm.subset
theorem dslot_cut (c : Dev nD) (f) : (dslotP (F := F) c 0 f : sProp 𝕄) ⊢ iprop((dnslot.view.loc (c : Thread nD τ) ↦[dnslot.view.set]{fullShare} f) ∗ ((dslot 0).view.loc (c : Thread nD τ) ↦[(dslot 0).view.set \ dnslot.view.set]{fullShare} f)) :=
  (pointsTo_split_subset dnslot_sub).1
theorem dslot_join (c : Dev nD) (f g) : (iprop((dnslot.view.loc (c : Thread nD τ) ↦[dnslot.view.set]{fullShare} f) ∗ ((dslot 0).view.loc (c : Thread nD τ) ↦[(dslot 0).view.set \ dnslot.view.set]{fullShare} g)) : sProp 𝕄) ⊢ iprop(∃ f, dslotP (F := F) c 0 f) := by
  iintro ⟨H, H'⟩
  iexists _
  iapply (pointsTo_join_subset dnslot_sub)
  isplitl [H]; · iexact H
  iexact H'

/-- The first 256 columns of slot 0 of the target output ring: where the narrow last block is rounded into. -/
def tnslot : Memref sig .tc .vmem S3x8x256 .bf16 :=
  (obtM.slice (Rect.unit (s := S2x3x8x1024) ![0, 0, 0, 0] S1x3x8x256.size inb_S2x3x8x1024_S1x3x8x256_0_0_0_0) (fun _ => rfl)).squeeze S3x8x256 squeezes_S1x3x8x256_S3x8x256
@[sl_canon] theorem tnslot_eq (hh hs) : (obtM.slice (Rect.unit (s := S2x3x8x1024) ![0, 0, 0, 0] S1x3x8x256.size hh) hs).squeeze S3x8x256 squeezes_S1x3x8x256_S3x8x256 = tnslot := rfl
abbrev tNR : Finset S2x3x8x1024.Idx := (Rect.unit (s := S2x3x8x1024) ![0, 0, 0, 0] S1x3x8x256.size inb_S2x3x8x1024_S1x3x8x256_0_0_0_0).set
abbrev tBR : Finset S2x3x8x1024.Idx := (Rect.unit (s := S2x3x8x1024) (o4 (0 : Fin 2).val) S1x3x8x1024.size (o4_inbT 0)).set
theorem tnslot_set : tnslot.view.set = tNR := (View.set_reshape _ _).trans (View.set_slice_whole _ _)
theorem tslot0_set : (tslot 0).view.set = tBR := (View.set_reshape _ _).trans (View.set_slice_whole _ _)
theorem tNR_sub : tNR ⊆ tBR := by
  intro y hy
  rw [Rect.mem_set_unit] at hy ⊢
  intro i
  have h := hy i
  refine ⟨?_, ?_⟩
  · fin_cases i <;> exact Nat.zero_le _
  · fin_cases i
    · exact h.2
    · exact h.2
    · exact h.2
    · exact Nat.lt_of_lt_of_le h.2 (by show 0 + 256 ≤ 0 + 1024; omega)
theorem tnslot_sub : tnslot.view.set ⊆ (tslot 0).view.set :=
  (Finset.Subset.trans tnslot_set.subset tNR_sub).trans tslot0_set.symm.subset
theorem tslot_cut (c : Dev nD) (f) : (tslotP (F := F) c 0 f : sProp 𝕄) ⊢ iprop((tnslot.view.loc (c : Thread nD τ) ↦[tnslot.view.set]{fullShare} f) ∗ ((tslot 0).view.loc (c : Thread nD τ) ↦[(tslot 0).view.set \ tnslot.view.set]{fullShare} f)) :=
  (pointsTo_split_subset tnslot_sub).1
theorem tslot_join (c : Dev nD) (f g) : (iprop((tnslot.view.loc (c : Thread nD τ) ↦[tnslot.view.set]{fullShare} f) ∗ ((tslot 0).view.loc (c : Thread nD τ) ↦[(tslot 0).view.set \ tnslot.view.set]{fullShare} g)) : sProp 𝕄) ⊢ iprop(∃ f, tslotP (F := F) c 0 f) := by
  iintro ⟨H, H'⟩
  iexists _
  iapply (pointsTo_join_subset tnslot_sub)
  isplitl [H]; · iexact H
  iexact H'

section L1
variable (c : Dev nD) (WD : Buf (Elt F) (wdM.view.loc (c : Thread nD τ))) (WT : Buf (Elt F) (wtM.view.loc (c : Thread nD τ)))
  (H8 : Buf (Elt F) (h8M.view.loc (c : Thread nD τ))) (WDS : Buf (Elt F) (wdsM.view.loc (c : Thread nD τ)))
  (hs0 hs1 hs2 : FVec F S8x128 .f32)

theorem inv1_entry :
    iprop(flightD c WD 0 0 ∗ wdRest c WD 0 0 ∗ flightD c WD 1 1 ∗ wdRest c WD 1 1 ∗ flightD c WD 2 2 ∗ wdRest c WD 2 2
      ∗ freeS c WD WT 3 ∗ (wtP c WT 0 ∗ wtP c WT 1 ∗ wtP c WT 2) ∗ ((∃ f, dslotP c 0 f) ∗ dcell c 0) ∗ ((∃ f, dslotP c 1 f) ∗ dcell c 1)
      ∗ bigSep Finset.univ (ldHome (F := F) c) ∗ h8P c H8 ∗ wdsP c WDS ∗ (∃ f, zdP c f) ∗ (∃ W, owes (c : Thread nD τ) 0 W))
    ⊢ (inv1 c WD WT H8 WDS hs0 hs1 hs2 0 : sProp 𝕄) := by
  unfold inv1 ldAt
  rw [stepF_D c WD WT 0 (by omega), stepF_D c WD WT (0 + 1) (by omega), stepF_D c WD WT (0 + 2) (by omega), oD_neg _ _ _ _ _ _ _ 0 (by omega),
    oD_neg _ _ _ _ _ _ _ (0 + 1) (by omega), Ring.rangeSet_univ, Ring.bigSep_rangeSet_empty (by omega),
    show Ring.sl 4 0 = 0 from rfl, show Ring.sl 4 (0 + 1) = 1 from rfl, show Ring.sl 4 (0 + 2) = 2 from rfl, show Ring.sl 4 (0 + 3) = 3 from rfl,
    show Ring.bk 31 0 = 0 from rfl, show Ring.bk 31 (0 + 1) = 1 from rfl, show Ring.bk 31 (0 + 2) = 2 from rfl, show Ring.sl 2 0 = 0 from rfl, show Ring.sl 2 (0 + 1) = 1 from rfl]
  iintro ⟨A0, B0, A1, B1, A2, B2, HF, ⟨T0, T1, T2⟩, O0, O1, L, H, D, Z, W⟩
  isplitl [A0 B0 T0]
  · isplitl [A0]; · iexact A0
    isplitl [B0]; · iexact B0
    iexact T0
  isplitl [A1 B1 T1]
  · isplitl [A1]; · iexact A1
    isplitl [B1]; · iexact B1
    iexact T1
  isplitl [A2 B2 T2]
  · isplitl [A2]; · iexact A2
    isplitl [B2]; · iexact B2
    iexact T2
  isplitl [HF]; · iexact HF
  isplitl [O0]; · iexact O0
  isplitl [O1]; · iexact O1
  isplitl [L]
  · isplitl [L]; · iexact L
    iempintro
  isplitl [H]; · iexact H
  isplitl [D]; · iexact D
  isplitl [Z]; · iexact Z
  iexact W

theorem inv1_exit : (inv1 c WD WT H8 WDS hs0 hs1 hs2 k0_t1_loop.trips : sProp 𝕄)
    ⊢ iprop((flightDN c WD 3 ∗ (∃ f, rslotR c 3 f) ∗ wdNRest c WD 3 ∗ wtP c WT 3) ∗ (flightT c WT 0 0 ∗ wtRest c WT 0 0 ∗ wdP c WD 0)
      ∗ (flightT c WT 1 1 ∗ wtRest c WT 1 1 ∗ wdP c WD 1) ∗ freeS c WD WT 2 ∗ outD c WD H8 WDS hs0 hs1 hs2 1 29 ∗ outD c WD H8 WDS hs0 hs1 hs2 0 30
      ∗ bigSep (Ring.rangeSet 31 0 29) (ldDone c WD H8 WDS hs0 hs1 hs2) ∗ h8P c H8 ∗ wdsP c WDS ∗ (∃ f, zdP c f) ∗ (∃ W, owes (c : Thread nD τ) 0 W)) := by
  rw [trips1]
  unfold inv1 ldAt
  rw [stepF_DN c WD WT 31 rfl, stepF_T c WD WT (31 + 1) (by omega) (by omega), stepF_T c WD WT (31 + 2) (by omega) (by omega), oD_pos _ _ _ _ _ _ _ 31 (by omega),
    oD_pos _ _ _ _ _ _ _ (31 + 1) (by omega), Ring.bigSep_rangeSet_empty (lo := 31) (hi := 31) (by omega),
    show Ring.sl 4 31 = 3 from rfl, show Ring.sl 4 (31 + 1) = 0 from rfl, show Ring.sl 4 (31 + 2) = 1 from rfl, show Ring.sl 4 (31 + 3) = 2 from rfl,
    show Ring.bk 125 (31 + 1 - 32) = 0 from rfl, show Ring.bk 125 (31 + 2 - 32) = 1 from rfl, show Ring.bk 31 (31 - 2) = 29 from rfl, show Ring.bk 31 (31 + 1 - 2) = 30 from rfl,
    show Ring.sl 2 31 = 1 from rfl, show Ring.sl 2 (31 + 1) = 0 from rfl, show 31 - 2 = 29 from rfl]
  iintro ⟨A0, A1, A2, A3, O0, O1, ⟨-, L⟩, H⟩
  isplitl [A0]; · iexact A0
  isplitl [A1]; · iexact A1
  isplitl [A2]; · iexact A2
  isplitl [A3]; · iexact A3
  isplitl [O0]; · iexact O0
  isplitl [O1]; · iexact O1
  isplitl [L]; · iexact L
  iexact H
end L1

section L3
variable (c : Dev nD) (WD : Buf (Elt F) (wdM.view.loc (c : Thread nD τ))) (WT : Buf (Elt F) (wtM.view.loc (c : Thread nD τ)))
  (X8 : Buf (Elt F) (x8M.view.loc (c : Thread nD τ))) (WTS : Buf (Elt F) (wtsM.view.loc (c : Thread nD τ)))
  (D2 : Buf (Elt F) (d2tM.view.loc (c : Thread nD τ))) (D2S : Buf (Elt F) (d2tsM.view.loc (c : Thread nD τ)))
  (xs0 xs1 xs2 : FVec F S8x128 .f32)

theorem inv3_entry (acc : Acc7 (F := F)) (hJ : Jok acc.2.2.2.2.2.2) :
    iprop((flightT c WT 0 0 ∗ wtRest c WT 0 0 ∗ wdP c WD 0) ∗ (flightT c WT 1 1 ∗ wtRest c WT 1 1 ∗ wdP c WD 1) ∗ (flightT c WT 2 2 ∗ wtRest c WT 2 2 ∗ wdP c WD 2)
      ∗ freeS c WD WT 3 ∗ ((∃ f, tslotP c 0 f) ∗ tcell c 0) ∗ ((∃ f, tslotP c 1 f) ∗ tcell c 1)
      ∗ bigSep Finset.univ (ltHome (F := F) c) ∗ x8P c X8 ∗ wtsP c WTS ∗ d2tP c D2 ∗ d2tsP c D2S ∗ (∃ f, zcP c f) ∗ (∃ W, owes (c : Thread nD τ) 0 W))
    ⊢ (inv3 c WD WT X8 WTS D2 D2S xs0 xs1 xs2 0 acc : sProp 𝕄) := by
  unfold inv3 ltAt
  rw [stepF_T c WD WT (0 + 32) (by omega) (by omega), stepF_T c WD WT (0 + 33) (by omega) (by omega), stepF_T c WD WT (0 + 34) (by omega) (by omega), oT_neg _ _ _ _ _ _ _ 0 (by omega),
    oT_neg _ _ _ _ _ _ _ (0 + 1) (by omega), Ring.rangeSet_univ, Ring.bigSep_rangeSet_empty (by omega),
    show Ring.sl 4 (0 + 32) = 0 from rfl, show Ring.sl 4 (0 + 33) = 1 from rfl, show Ring.sl 4 (0 + 34) = 2 from rfl, show Ring.sl 4 (0 + 35) = 3 from rfl,
    show Ring.bk 125 (0 + 32 - 32) = 0 from rfl, show Ring.bk 125 (0 + 33 - 32) = 1 from rfl, show Ring.bk 125 (0 + 34 - 32) = 2 from rfl, show Ring.sl 2 0 = 0 from rfl, show Ring.sl 2 (0 + 1) = 1 from rfl]
  iintro ⟨A0, A1, A2, A3, O0, O1, L, H⟩
  isplitr; · ipureintro; exact hJ
  isplitl [A0]; · iexact A0
  isplitl [A1]; · iexact A1
  isplitl [A2]; · iexact A2
  isplitl [A3]; · iexact A3
  isplitl [O0]; · iexact O0
  isplitl [O1]; · iexact O1
  isplitl [L]
  · isplitl [L]; · iexact L
    iempintro
  iexact H

theorem inv3_exit (acc : Acc7 (F := F)) : (inv3 c WD WT X8 WTS D2 D2S xs0 xs1 xs2 k0_t3_loop.trips acc : sProp 𝕄)
    ⊢ iprop(⌜Jok acc.2.2.2.2.2.2⌝ ∗ (flightTN c WT 1 ∗ (∃ f, rslotR c 1 f) ∗ wtNRest c WT 1 ∗ wdP c WD 1) ∗ freeS c WD WT 2 ∗ freeS c WD WT 3 ∗ freeS c WD WT 0
      ∗ outT c WT X8 WTS xs0 xs1 xs2 1 123 ∗ outT c WT X8 WTS xs0 xs1 xs2 0 124
      ∗ bigSep (Ring.rangeSet 125 0 123) (ltDone c WT X8 WTS xs0 xs1 xs2) ∗ x8P c X8 ∗ wtsP c WTS ∗ d2tP c D2 ∗ d2tsP c D2S ∗ (∃ f, zcP c f) ∗ (∃ W, owes (c : Thread nD τ) 0 W)) := by
  rw [trips3]
  unfold inv3 ltAt
  rw [stepF_TN c WD WT (125 + 32) rfl, stepF_free c WD WT (125 + 33) (by omega), stepF_free c WD WT (125 + 34) (by omega), oT_pos _ _ _ _ _ _ _ 125 (by omega),
    oT_pos _ _ _ _ _ _ _ (125 + 1) (by omega), Ring.bigSep_rangeSet_empty (lo := 125) (hi := 125) (by omega),
    show Ring.sl 4 (125 + 32) = 1 from rfl, show Ring.sl 4 (125 + 33) = 2 from rfl, show Ring.sl 4 (125 + 34) = 3 from rfl, show Ring.sl 4 (125 + 35) = 0 from rfl,
    show Ring.bk 125 (125 - 2) = 123 from rfl, show Ring.bk 125 (125 + 1 - 2) = 124 from rfl,
    show Ring.sl 2 125 = 1 from rfl, show Ring.sl 2 (125 + 1) = 0 from rfl, show 125 - 2 = 123 from rfl]
  iintro ⟨J, A0, A1, A2, A3, O0, O1, ⟨-, L⟩, H⟩
  isplitl [J]; · iexact J
  isplitl [A0]; · iexact A0
  isplitl [A1]; · iexact A1
  isplitl [A2]; · iexact A2
  isplitl [A3]; · iexact A3
  isplitl [O0]; · iexact O0
  isplitl [O1]; · iexact O1
  isplitl [L]; · iexact L
  iexact H
end L3

/-! ## The draft loop's normalization, and the overlap's sum: loops over the rows of the kept logits -/

end Cert.Proof.KernelRun
-- ==== Proof.KernelSplit.lean ====
/-
  The buffers whole, and by parts: the weight ring and the output rings by slot, the weights by the shares the ring's cells
  lend, the logits by column block.
-/
module

public import proofs.«01_k».proof.Proof.KernelEnds

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Split
variable (c : Dev nD)

theorem fin2 (Φ : Fin 2 → sProp 𝕄) : bigSep Finset.univ Φ = iprop(Φ 0 ∗ Φ 1) :=
  bigSep_univ_eq_bigSepL [(0 : Fin 2), (1 : Fin 2)] (by decide) (by decide) Φ
theorem fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem bigMono {I : Type} {s : Finset I} {Φ Ψ : I → sProp 𝕄} (h : ∀ i ∈ s, Φ i ⊢ Ψ i) : bigSep s Φ ⊢ bigSep s Ψ :=
  Idealize.SL.BI.bigSep_mono h

/-! ## The weight ring -/

theorem RS_disjoint : ∀ s s' : Fin 4, s ≠ s' → Disjoint (RS s) (RS s') := by
  intro s s' hne; rw [Finset.disjoint_left]; intro y hy hy'; rw [mem_RS] at hy hy'; exact hne (Fin.ext (hy.symm.trans hy'))
theorem RS_cover : (Finset.univ : Finset (Fin 4)).biUnion RS = Finset.univ := by
  ext y; simp only [Finset.mem_biUnion, Finset.mem_univ, true_and, iff_true]; exact ⟨⟨(y 0).val, (y 0).isLt⟩, by rw [mem_RS]⟩
theorem slotP_eq (s : Fin 4) (f) : slotP c s f = (((c : Thread nD τ).loc cc0_scratch0) ↦[RS s]{fullShare} f : sProp 𝕄) :=
  congrArg (fun S => (_ ↦[S]{fullShare} f : sProp 𝕄)) (rslot_set s)
theorem ring_split :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) RS RS_disjoint RS_cover f).trans (fin4 _))) $$ H
  icases H2 with ⟨H0, H1, H2, H3⟩
  isplitl [H0]
  · iexists f; iapply (Entails.of_eq (slotP_eq c 0 f).symm); iexact H0
  isplitl [H1]
  · iexists f; iapply (Entails.of_eq (slotP_eq c 1 f).symm); iexact H1
  isplitl [H2]
  · iexists f; iapply (Entails.of_eq (slotP_eq c 2 f).symm); iexact H2
  · iexists f; iapply (Entails.of_eq (slotP_eq c 3 f).symm); iexact H3
theorem ring_join :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) RS RS_disjoint RS_cover f0)
  irw [fin4]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  · iexists f3; iapply (Entails.of_eq (slotP_eq c 3 f3)); iexact H3

/-! ## The draft output ring -/

abbrev OD (s : Fin 2) : Finset S2x3x7x1024.Idx := (Rect.unit (s := S2x3x7x1024) (o4 s.val) S1x3x7x1024.size (o4_inbD s)).set
theorem dslot_set (s : Fin 2) : (dslot s).view.set = OD s := (View.set_reshape _ _).trans (View.set_slice_whole _ _)
theorem mem_OD (s : Fin 2) (y : S2x3x7x1024.Idx) : y ∈ OD s ↔ (y 0).val = s.val := by
  rw [Rect.mem_set_unit]
  have h1 : (y 1).val < 3 := (y 1).isLt
  have h2 : (y 2).val < 7 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3; omega
    · show 0 ≤ (y 2).val ∧ (y 2).val < 0 + 7; omega
    · show 0 ≤ (y 3).val ∧ (y 3).val < 0 + 1024; omega
theorem OD_disjoint : ∀ s s' : Fin 2, s ≠ s' → Disjoint (OD s) (OD s') := by
  intro s s' hne; rw [Finset.disjoint_left]; intro y hy hy'; rw [mem_OD] at hy hy'; exact hne (Fin.ext (hy.symm.trans hy'))
theorem OD_cover : (Finset.univ : Finset (Fin 2)).biUnion OD = Finset.univ := by
  ext y; simp only [Finset.mem_biUnion, Finset.mem_univ, true_and, iff_true]; exact ⟨⟨(y 0).val, (y 0).isLt⟩, by rw [mem_OD]⟩
theorem dslotP_eq (s : Fin 2) (f) : dslotP c s f = (((c : Thread nD τ).loc cc0_scratch16) ↦[OD s]{fullShare} f : sProp 𝕄) :=
  congrArg (fun S => (_ ↦[S]{fullShare} f : sProp 𝕄)) (dslot_set s)
theorem dslot_split :
    iprop(∃ f : Buf (Elt F) ((c : Thread nD τ).loc cc0_scratch16), ((c : Thread nD τ).loc cc0_scratch16) ↦{fullShare} f)
      ⊢ (iprop((∃ f, dslotP c 0 f) ∗ ∃ f, dslotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch16) OD OD_disjoint OD_cover f).trans (fin2 _))) $$ H
  icases H2 with ⟨H0, H1⟩
  isplitl [H0]
  · iexists f; iapply (Entails.of_eq (dslotP_eq c 0 f).symm); iexact H0
  · iexists f; iapply (Entails.of_eq (dslotP_eq c 1 f).symm); iexact H1
theorem dslot_joinS :
    iprop((∃ f, dslotP c 0 f) ∗ ∃ f, dslotP c 1 f)
      ⊢ (iprop(∃ f : Buf (Elt F) ((c : Thread nD τ).loc cc0_scratch16), ((c : Thread nD τ).loc cc0_scratch16) ↦{fullShare} f) : sProp 𝕄) := by
  iintro ⟨⟨%f0, H0⟩, ⟨%f1, H1⟩⟩
  iapply (Ring.pointsTo_blocks_join_exists (ℓ := (c : Thread nD τ).loc cc0_scratch16) OD OD_disjoint OD_cover f0)
  irw [fin2]
  isplitl [H0]
  · iexists f0; iapply (Entails.of_eq (dslotP_eq c 0 f0)); iexact H0
  · iexists f1; iapply (Entails.of_eq (dslotP_eq c 1 f1)); iexact H1

/-! ## The draft logits -/

abbrev BD (b : Fin 31) : Finset S3x7x32000.Idx := (Rect.unit (s := S3x7x32000) (c3 b.val) S3x7x1024.size (c3_inbD b)).set
abbrev BND : Finset S3x7x32000.Idx := (Rect.unit (s := S3x7x32000) ![0, 0, 31744] S3x7x256.size inb_S3x7x32000_S3x7x256_0_0_31744).set
theorem ldB_set (b : Fin 31) : (ldB b).view.set = BD b := View.set_slice_whole _ _
theorem ldN_set : ldN.view.set = BND := View.set_slice_whole _ _
theorem mem_BD (b : Fin 31) (y : S3x7x32000.Idx) : y ∈ BD b ↔ 1024 * b.val ≤ (y 2).val ∧ (y 2).val < 1024 * b.val + 1024 := by
  rw [Rect.mem_set_unit]
  have h0 : (y 0).val < 3 := (y 0).isLt
  have h1 : (y 1).val < 7 := (y 1).isLt
  constructor
  · intro H; exact H 2
  · intro H i; fin_cases i
    · show 0 ≤ (y 0).val ∧ (y 0).val < 0 + 3; omega
    · show 0 ≤ (y 1).val ∧ (y 1).val < 0 + 7; omega
    · exact H
theorem mem_BND (y : S3x7x32000.Idx) : y ∈ BND ↔ 31744 ≤ (y 2).val := by
  rw [Rect.mem_set_unit]
  have h0 : (y 0).val < 3 := (y 0).isLt
  have h1 : (y 1).val < 7 := (y 1).isLt
  have h2 : (y 2).val < 32000 := (y 2).isLt
  constructor
  · intro H; have := H 2; exact this.1
  · intro H i; fin_cases i
    · show 0 ≤ (y 0).val ∧ (y 0).val < 0 + 3; omega
    · show 0 ≤ (y 1).val ∧ (y 1).val < 0 + 7; omega
    · show 31744 ≤ (y 2).val ∧ (y 2).val < 31744 + 256; omega
theorem BD_disjoint : ∀ b b' : Fin 31, b ≠ b' → Disjoint (BD b) (BD b') := by
  intro b b' hne; rw [Finset.disjoint_left]; intro y hy hy'; rw [mem_BD] at hy hy'; exact hne (Fin.ext (by omega))
theorem BD_cover : (Finset.univ : Finset S3x7x32000.Idx) \ BND = (Finset.univ : Finset (Fin 31)).biUnion BD := by
  ext y
  have h2 : (y 2).val < 32000 := (y 2).isLt
  rw [Finset.mem_sdiff, mem_BND, Finset.mem_biUnion]
  constructor
  · rintro ⟨-, h⟩
    exact ⟨⟨(y 2).val / 1024, by omega⟩, Finset.mem_univ _, (mem_BD _ _).2 (by show 1024 * ((y 2).val / 1024) ≤ _ ∧ _ < 1024 * ((y 2).val / 1024) + 1024; omega)⟩
  · rintro ⟨b, -, hb⟩
    rw [mem_BD] at hb
    have := b.isLt
    exact ⟨Finset.mem_univ _, by omega⟩
theorem ldBP_eq (b : Fin 31) (f) : ldBP c b f = (((c : Thread nD τ).loc main_v3_5) ↦[BD b]{fullShare} f : sProp 𝕄) :=
  congrArg (fun S => (_ ↦[S]{fullShare} f : sProp 𝕄)) (ldB_set b)
theorem ldNP_eq (f) : ldNP c f = (((c : Thread nD τ).loc main_v3_5) ↦[BND]{fullShare} f : sProp 𝕄) :=
  congrArg (fun S => (_ ↦[S]{fullShare} f : sProp 𝕄)) ldN_set
set_option maxRecDepth 4096 in
/-- The draft logits whole are their blocks and the narrow block; -/
theorem ld_split (f : Buf (Elt F) ((c : Thread nD τ).loc main_v3_5)) :
    (((c : Thread nD τ).loc main_v3_5) ↦{fullShare} f : sProp 𝕄) ⊢ iprop(bigSep Finset.univ (ldHome (F := F) c) ∗ ∃ f, ldNP (F := F) c f) := by
  iintro H
  ihave H2 := (pointsTo_split_subset (ℓ := (c : Thread nD τ).loc main_v3_5) (q := fullShare) (f := f) (I := BND) (S := Finset.univ) (Finset.subset_univ _)).1 $$ H
  icases H2 with ⟨HN, HR⟩
  isplitl [HR]
  · ihave HR2 := (Entails.of_eq ((congrArg (fun S => (((c : Thread nD τ).loc main_v3_5) ↦[S]{fullShare} f : sProp 𝕄)) BD_cover).trans
      (pointsTo_biUnion (Name := ℕ) (Ix := Unit) (U := UU nD τ) (Lvl := ℕ) (ℓ := (c : Thread nD τ).loc main_v3_5) (q := fullShare) (f := f) Finset.univ BD (fun b _ b' _ h => BD_disjoint b b' h)))) $$ HR
    iapply (bigMono (s := Finset.univ) (fun b _ => (show (((c : Thread nD τ).loc main_v3_5) ↦[BD b]{fullShare} f : sProp 𝕄) ⊢ ldHome (F := F) c b from by
      unfold ldHome; iintro H; iexists f; iapply (Entails.of_eq (ldBP_eq c b f).symm); iexact H)))
    iexact HR2
  · iexists f; iapply (Entails.of_eq (ldNP_eq c f).symm); iexact HN
/-- and back, at contents that agree with each. -/
theorem ld_join (P : Fin 31 → Buf (Elt F) ((c : Thread nD τ).loc main_v3_5) → Prop) (PN : Buf (Elt F) ((c : Thread nD τ).loc main_v3_5) → Prop) :
    iprop(bigSep Finset.univ (fun b : Fin 31 => iprop(∃ f, ⌜P b f⌝ ∗ ldBP (F := F) c b f)) ∗ ∃ f, ⌜PN f⌝ ∗ ldNP (F := F) c f)
      ⊢ (iprop(∃ g : Buf (Elt F) ((c : Thread nD τ).loc main_v3_5), ⌜(∀ b, ∃ f, P b f ∧ ∀ i ∈ BD b, g i = f i) ∧ ∃ f, PN f ∧ ∀ i ∈ BND, g i = f i⌝
          ∗ (((c : Thread nD τ).loc main_v3_5) ↦{fullShare} g)) : sProp 𝕄) := by
  iintro ⟨HB, %fN, %hN, HN⟩
  have : Nonempty (Buf (Elt F) ((c : Thread nD τ).loc main_v3_5)) := ⟨fN⟩
  ihave HB2 := (Idealize.SL.BI.bigSep_exists_pi Finset.univ (fun (b : Fin 31) (f : Buf (Elt F) ((c : Thread nD τ).loc main_v3_5)) => (iprop(⌜P b f⌝ ∗ ldBP (F := F) c b f) : sProp 𝕄))) $$ HB
  icases HB2 with ⟨%fs, HB3⟩
  ihave HB4 := (bigSep_pure_sep Finset.univ _ _) $$ HB3
  icases HB4 with ⟨%hP, HB5⟩
  ihave HB6 := (bigMono (s := Finset.univ) (Ψ := fun b : Fin 31 => (((c : Thread nD τ).loc main_v3_5) ↦[BD b]{fullShare} fs b : sProp 𝕄)) (fun b _ => Entails.of_eq (ldBP_eq c b (fs b)))) $$ HB5
  ihave HB7 := (pointsTo_biUnion_join (ℓ := (c : Thread nD τ).loc main_v3_5) Finset.univ BD fs fN (fun b _ b' _ h => BD_disjoint b b' h)) $$ HB6
  icases HB7 with ⟨%g, %hg, HB8⟩
  iexists BND.piecewise fN g
  isplitr
  · ipureintro
    refine ⟨fun b => ⟨fs b, hP b (Finset.mem_univ b), fun i hi => ?_⟩, fN, hN, fun i hi => Finset.piecewise_eq_of_mem _ _ _ hi⟩
    rw [Finset.piecewise_eq_of_notMem _ _ _ (fun h => ?_)]
    · exact hg b (Finset.mem_univ b) i hi
    · have hm : i ∈ (Finset.univ : Finset S3x7x32000.Idx) \ BND := by rw [BD_cover]; exact Finset.mem_biUnion.2 ⟨b, Finset.mem_univ b, hi⟩
      exact (Finset.mem_sdiff.1 hm).2 h
  · iapply (pointsTo_join_subset (I := BND) (Finset.subset_univ _))
    isplitl [HN]; · iapply (Entails.of_eq (ldNP_eq c fN)); iexact HN
    iapply (Entails.of_eq (congrArg (fun S => (((c : Thread nD τ).loc main_v3_5) ↦[S]{fullShare} g : sProp 𝕄)) BD_cover).symm); iexact HB8

/-! ## The target output ring -/

abbrev OT (s : Fin 2) : Finset S2x3x8x1024.Idx := (Rect.unit (s := S2x3x8x1024) (o4 s.val) S1x3x8x1024.size (o4_inbT s)).set
theorem tslot_set (s : Fin 2) : (tslot s).view.set = OT s := (View.set_reshape _ _).trans (View.set_slice_whole _ _)
theorem mem_OT (s : Fin 2) (y : S2x3x8x1024.Idx) : y ∈ OT s ↔ (y 0).val = s.val := by
  rw [Rect.mem_set_unit]
  have h1 : (y 1).val < 3 := (y 1).isLt
  have h2 : (y 2).val < 8 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3; omega
    · show 0 ≤ (y 2).val ∧ (y 2).val < 0 + 8; omega
    · show 0 ≤ (y 3).val ∧ (y 3).val < 0 + 1024; omega
theorem OT_disjoint : ∀ s s' : Fin 2, s ≠ s' → Disjoint (OT s) (OT s') := by
  intro s s' hne; rw [Finset.disjoint_left]; intro y hy hy'; rw [mem_OT] at hy hy'; exact hne (Fin.ext (hy.symm.trans hy'))
theorem OT_cover : (Finset.univ : Finset (Fin 2)).biUnion OT = Finset.univ := by
  ext y; simp only [Finset.mem_biUnion, Finset.mem_univ, true_and, iff_true]; exact ⟨⟨(y 0).val, (y 0).isLt⟩, by rw [mem_OT]⟩
theorem tslotP_eq (s : Fin 2) (f) : tslotP c s f = (((c : Thread nD τ).loc cc0_scratch15) ↦[OT s]{fullShare} f : sProp 𝕄) :=
  congrArg (fun S => (_ ↦[S]{fullShare} f : sProp 𝕄)) (tslot_set s)
theorem tslot_split :
    iprop(∃ f : Buf (Elt F) ((c : Thread nD τ).loc cc0_scratch15), ((c : Thread nD τ).loc cc0_scratch15) ↦{fullShare} f)
      ⊢ (iprop((∃ f, tslotP c 0 f) ∗ ∃ f, tslotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch15) OT OT_disjoint OT_cover f).trans (fin2 _))) $$ H
  icases H2 with ⟨H0, H1⟩
  isplitl [H0]
  · iexists f; iapply (Entails.of_eq (tslotP_eq c 0 f).symm); iexact H0
  · iexists f; iapply (Entails.of_eq (tslotP_eq c 1 f).symm); iexact H1
theorem tslot_joinS :
    iprop((∃ f, tslotP c 0 f) ∗ ∃ f, tslotP c 1 f)
      ⊢ (iprop(∃ f : Buf (Elt F) ((c : Thread nD τ).loc cc0_scratch15), ((c : Thread nD τ).loc cc0_scratch15) ↦{fullShare} f) : sProp 𝕄) := by
  iintro ⟨⟨%f0, H0⟩, ⟨%f1, H1⟩⟩
  iapply (Ring.pointsTo_blocks_join_exists (ℓ := (c : Thread nD τ).loc cc0_scratch15) OT OT_disjoint OT_cover f0)
  irw [fin2]
  isplitl [H0]
  · iexists f0; iapply (Entails.of_eq (tslotP_eq c 0 f0)); iexact H0
  · iexists f1; iapply (Entails.of_eq (tslotP_eq c 1 f1)); iexact H1

/-! ## The target logits -/

abbrev BT (b : Fin 125) : Finset S3x8x128256.Idx := (Rect.unit (s := S3x8x128256) (c3 b.val) S3x8x1024.size (c3_inbT b)).set
abbrev BNT : Finset S3x8x128256.Idx := (Rect.unit (s := S3x8x128256) ![0, 0, 128000] S3x8x256.size inb_S3x8x128256_S3x8x256_0_0_128000).set
theorem ltB_set (b : Fin 125) : (ltB b).view.set = BT b := View.set_slice_whole _ _
theorem ltN_set : ltN.view.set = BNT := View.set_slice_whole _ _
theorem mem_BT (b : Fin 125) (y : S3x8x128256.Idx) : y ∈ BT b ↔ 1024 * b.val ≤ (y 2).val ∧ (y 2).val < 1024 * b.val + 1024 := by
  rw [Rect.mem_set_unit]
  have h0 : (y 0).val < 3 := (y 0).isLt
  have h1 : (y 1).val < 8 := (y 1).isLt
  constructor
  · intro H; exact H 2
  · intro H i; fin_cases i
    · show 0 ≤ (y 0).val ∧ (y 0).val < 0 + 3; omega
    · show 0 ≤ (y 1).val ∧ (y 1).val < 0 + 8; omega
    · exact H
theorem mem_BNT (y : S3x8x128256.Idx) : y ∈ BNT ↔ 128000 ≤ (y 2).val := by
  rw [Rect.mem_set_unit]
  have h0 : (y 0).val < 3 := (y 0).isLt
  have h1 : (y 1).val < 8 := (y 1).isLt
  have h2 : (y 2).val < 128256 := (y 2).isLt
  constructor
  · intro H; have := H 2; exact this.1
  · intro H i; fin_cases i
    · show 0 ≤ (y 0).val ∧ (y 0).val < 0 + 3; omega
    · show 0 ≤ (y 1).val ∧ (y 1).val < 0 + 8; omega
    · show 128000 ≤ (y 2).val ∧ (y 2).val < 128000 + 256; omega
theorem BT_disjoint : ∀ b b' : Fin 125, b ≠ b' → Disjoint (BT b) (BT b') := by
  intro b b' hne; rw [Finset.disjoint_left]; intro y hy hy'; rw [mem_BT] at hy hy'; exact hne (Fin.ext (by omega))
theorem BT_cover : (Finset.univ : Finset S3x8x128256.Idx) \ BNT = (Finset.univ : Finset (Fin 125)).biUnion BT := by
  ext y
  have h2 : (y 2).val < 128256 := (y 2).isLt
  rw [Finset.mem_sdiff, mem_BNT, Finset.mem_biUnion]
  constructor
  · rintro ⟨-, h⟩
    exact ⟨⟨(y 2).val / 1024, by omega⟩, Finset.mem_univ _, (mem_BT _ _).2 (by show 1024 * ((y 2).val / 1024) ≤ _ ∧ _ < 1024 * ((y 2).val / 1024) + 1024; omega)⟩
  · rintro ⟨b, -, hb⟩
    rw [mem_BT] at hb
    have := b.isLt
    exact ⟨Finset.mem_univ _, by omega⟩
theorem ltBP_eq (b : Fin 125) (f) : ltBP c b f = (((c : Thread nD τ).loc main_v3_4) ↦[BT b]{fullShare} f : sProp 𝕄) :=
  congrArg (fun S => (_ ↦[S]{fullShare} f : sProp 𝕄)) (ltB_set b)
theorem ltNP_eq (f) : ltNP c f = (((c : Thread nD τ).loc main_v3_4) ↦[BNT]{fullShare} f : sProp 𝕄) :=
  congrArg (fun S => (_ ↦[S]{fullShare} f : sProp 𝕄)) ltN_set
set_option maxRecDepth 4096 in
/-- The target logits whole are their blocks and the narrow block; -/
theorem lt_split (f : Buf (Elt F) ((c : Thread nD τ).loc main_v3_4)) :
    (((c : Thread nD τ).loc main_v3_4) ↦{fullShare} f : sProp 𝕄) ⊢ iprop(bigSep Finset.univ (ltHome (F := F) c) ∗ ∃ f, ltNP (F := F) c f) := by
  iintro H
  ihave H2 := (pointsTo_split_subset (ℓ := (c : Thread nD τ).loc main_v3_4) (q := fullShare) (f := f) (I := BNT) (S := Finset.univ) (Finset.subset_univ _)).1 $$ H
  icases H2 with ⟨HN, HR⟩
  isplitl [HR]
  · ihave HR2 := (Entails.of_eq ((congrArg (fun S => (((c : Thread nD τ).loc main_v3_4) ↦[S]{fullShare} f : sProp 𝕄)) BT_cover).trans
      (pointsTo_biUnion (Name := ℕ) (Ix := Unit) (U := UU nD τ) (Lvl := ℕ) (ℓ := (c : Thread nD τ).loc main_v3_4) (q := fullShare) (f := f) Finset.univ BT (fun b _ b' _ h => BT_disjoint b b' h)))) $$ HR
    iapply (bigMono (s := Finset.univ) (fun b _ => (show (((c : Thread nD τ).loc main_v3_4) ↦[BT b]{fullShare} f : sProp 𝕄) ⊢ ltHome (F := F) c b from by
      unfold ltHome; iintro H; iexists f; iapply (Entails.of_eq (ltBP_eq c b f).symm); iexact H)))
    iexact HR2
  · iexists f; iapply (Entails.of_eq (ltNP_eq c f).symm); iexact HN
/-- and back, at contents that agree with each. -/
theorem lt_join (P : Fin 125 → Buf (Elt F) ((c : Thread nD τ).loc main_v3_4) → Prop) (PN : Buf (Elt F) ((c : Thread nD τ).loc main_v3_4) → Prop) :
    iprop(bigSep Finset.univ (fun b : Fin 125 => iprop(∃ f, ⌜P b f⌝ ∗ ltBP (F := F) c b f)) ∗ ∃ f, ⌜PN f⌝ ∗ ltNP (F := F) c f)
      ⊢ (iprop(∃ g : Buf (Elt F) ((c : Thread nD τ).loc main_v3_4), ⌜(∀ b, ∃ f, P b f ∧ ∀ i ∈ BT b, g i = f i) ∧ ∃ f, PN f ∧ ∀ i ∈ BNT, g i = f i⌝
          ∗ (((c : Thread nD τ).loc main_v3_4) ↦{fullShare} g)) : sProp 𝕄) := by
  iintro ⟨HB, %fN, %hN, HN⟩
  have : Nonempty (Buf (Elt F) ((c : Thread nD τ).loc main_v3_4)) := ⟨fN⟩
  ihave HB2 := (Idealize.SL.BI.bigSep_exists_pi Finset.univ (fun (b : Fin 125) (f : Buf (Elt F) ((c : Thread nD τ).loc main_v3_4)) => (iprop(⌜P b f⌝ ∗ ltBP (F := F) c b f) : sProp 𝕄))) $$ HB
  icases HB2 with ⟨%fs, HB3⟩
  ihave HB4 := (bigSep_pure_sep Finset.univ _ _) $$ HB3
  icases HB4 with ⟨%hP, HB5⟩
  ihave HB6 := (bigMono (s := Finset.univ) (Ψ := fun b : Fin 125 => (((c : Thread nD τ).loc main_v3_4) ↦[BT b]{fullShare} fs b : sProp 𝕄)) (fun b _ => Entails.of_eq (ltBP_eq c b (fs b)))) $$ HB5
  ihave HB7 := (pointsTo_biUnion_join (ℓ := (c : Thread nD τ).loc main_v3_4) Finset.univ BT fs fN (fun b _ b' _ h => BT_disjoint b b' h)) $$ HB6
  icases HB7 with ⟨%g, %hg, HB8⟩
  iexists BNT.piecewise fN g
  isplitr
  · ipureintro
    refine ⟨fun b => ⟨fs b, hP b (Finset.mem_univ b), fun i hi => ?_⟩, fN, hN, fun i hi => Finset.piecewise_eq_of_mem _ _ _ hi⟩
    rw [Finset.piecewise_eq_of_notMem _ _ _ (fun h => ?_)]
    · exact hg b (Finset.mem_univ b) i hi
    · have hm : i ∈ (Finset.univ : Finset S3x8x128256.Idx) \ BNT := by rw [BT_cover]; exact Finset.mem_biUnion.2 ⟨b, Finset.mem_univ b, hi⟩
      exact (Finset.mem_sdiff.1 hm).2 h
  · iapply (pointsTo_join_subset (I := BNT) (Finset.subset_univ _))
    isplitl [HN]; · iapply (Entails.of_eq (ltNP_eq c fN)); iexact HN
    iapply (Entails.of_eq (congrArg (fun S => (((c : Thread nD τ).loc main_v3_4) ↦[S]{fullShare} g : sProp 𝕄)) BT_cover).symm); iexact HB8

/-! ## The draft weight's shares -/

theorem wdP_eq (s : Fin 4) (f : Buf (Elt F) ((c : Thread nD τ).loc main_arg6)) : wdP c f s = (((c : Thread nD τ).loc main_arg6) ↦[Finset.univ]{tk s} f : sProp 𝕄) :=
  congrArg (fun S => (_ ↦[S]{tk s} f : sProp 𝕄)) (View.set_whole _)
abbrev wdLeft (f : Buf (Elt F) ((c : Thread nD τ).loc main_arg6)) : sProp 𝕄 := ((c : Thread nD τ).loc main_arg6) ↦[Finset.univ]{Transfers.shareDrop fullShare 4} f
theorem wd_split (f : Buf (Elt F) ((c : Thread nD τ).loc main_arg6)) :
    (((c : Thread nD τ).loc main_arg6) ↦{fullShare} f : sProp 𝕄) ⊢ iprop(wdLeft c f ∗ wdP c f 0 ∗ wdP c f 1 ∗ wdP c f 2 ∗ wdP c f 3) := by
  refine (Transfers.pointsTo_toks_split fullShare 4).trans ?_
  rw [fin4]
  simp only [wdP_eq]
  exact .rfl
theorem wd_joinS (f : Buf (Elt F) ((c : Thread nD τ).loc main_arg6)) :
    iprop(wdLeft c f ∗ wdP c f 0 ∗ wdP c f 1 ∗ wdP c f 2 ∗ wdP c f 3) ⊢ (((c : Thread nD τ).loc main_arg6) ↦{fullShare} f : sProp 𝕄) := by
  refine .trans ?_ (Transfers.pointsTo_toks_join fullShare 4)
  rw [fin4]
  simp only [wdP_eq]
  exact .rfl

/-! ## The target weight's shares -/

theorem wtP_eq (s : Fin 4) (f : Buf (Elt F) ((c : Thread nD τ).loc main_arg2)) : wtP c f s = (((c : Thread nD τ).loc main_arg2) ↦[Finset.univ]{tk s} f : sProp 𝕄) :=
  congrArg (fun S => (_ ↦[S]{tk s} f : sProp 𝕄)) (View.set_whole _)
abbrev wtLeft (f : Buf (Elt F) ((c : Thread nD τ).loc main_arg2)) : sProp 𝕄 := ((c : Thread nD τ).loc main_arg2) ↦[Finset.univ]{Transfers.shareDrop fullShare 4} f
theorem wt_split (f : Buf (Elt F) ((c : Thread nD τ).loc main_arg2)) :
    (((c : Thread nD τ).loc main_arg2) ↦{fullShare} f : sProp 𝕄) ⊢ iprop(wtLeft c f ∗ wtP c f 0 ∗ wtP c f 1 ∗ wtP c f 2 ∗ wtP c f 3) := by
  refine (Transfers.pointsTo_toks_split fullShare 4).trans ?_
  rw [fin4]
  simp only [wtP_eq]
  exact .rfl
theorem wt_joinS (f : Buf (Elt F) ((c : Thread nD τ).loc main_arg2)) :
    iprop(wtLeft c f ∗ wtP c f 0 ∗ wtP c f 1 ∗ wtP c f 2 ∗ wtP c f 3) ⊢ (((c : Thread nD τ).loc main_arg2) ↦{fullShare} f : sProp 𝕄) := by
  refine .trans ?_ (Transfers.pointsTo_toks_join fullShare 4)
  rw [fin4]
  simp only [wtP_eq]
  exact .rfl

/-! ## The shares of the table's rows -/

theorem d2inP_eq (s : Fin 2) (f : Buf (Elt F) ((c : Thread nD τ).loc main_v2)) : d2inP c s f = (((c : Thread nD τ).loc main_v2) ↦[Finset.univ]{Transfers.shareTok fullShare 2 s} f : sProp 𝕄) :=
  congrArg (fun S => (_ ↦[S]{Transfers.shareTok fullShare 2 s} f : sProp 𝕄)) (View.set_whole _)
abbrev d2Left (f : Buf (Elt F) ((c : Thread nD τ).loc main_v2)) : sProp 𝕄 := ((c : Thread nD τ).loc main_v2) ↦[Finset.univ]{Transfers.shareDrop fullShare 2} f
theorem d2_split (f : Buf (Elt F) ((c : Thread nD τ).loc main_v2)) :
    (((c : Thread nD τ).loc main_v2) ↦{fullShare} f : sProp 𝕄) ⊢ iprop(d2Left c f ∗ d2inP c 0 f ∗ d2inP c 1 f) := by
  refine (Transfers.pointsTo_toks_split fullShare 2).trans ?_
  rw [fin2]
  simp only [d2inP_eq]
  exact .rfl
theorem d2_joinS (f : Buf (Elt F) ((c : Thread nD τ).loc main_v2)) :
    iprop(d2Left c f ∗ d2inP c 0 f ∗ d2inP c 1 f) ⊢ (((c : Thread nD τ).loc main_v2) ↦{fullShare} f : sProp 𝕄) := by
  refine .trans ?_ (Transfers.pointsTo_toks_join fullShare 2)
  rw [fin2]
  simp only [d2inP_eq]
  exact .rfl
end Split

end Cert.Proof.KernelRun
-- ==== Proof.KernelBody.lean ====
/-
  The body of the call, run once: the small operands copied in and the states widened, the loop over the draft weight's blocks,
  the narrow draft block, the loop over the target weight's blocks, the narrow target block, the statistics.
-/
module

public import proofs.«01_k».proof.Proof.KernelSplit

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (WD : Buf (Elt F) (wdM.view.loc (c : Thread nD τ))) (WT : Buf (Elt F) (wtM.view.loc (c : Thread nD τ)))
  (XIN : Buf (Elt F) (xinM.view.loc (c : Thread nD τ))) (XSIN : Buf (Elt F) (xsinM.view.loc (c : Thread nD τ)))
  (HIN : Buf (Elt F) (hinM.view.loc (c : Thread nD τ))) (HSIN : Buf (Elt F) (hsinM.view.loc (c : Thread nD τ)))
  (WTSIN : Buf (Elt F) (wtsinM.view.loc (c : Thread nD τ))) (WDSIN : Buf (Elt F) (wdsinM.view.loc (c : Thread nD τ)))
  (D2IN : Buf (Elt F) (d2inM.view.loc (c : Thread nD τ))) (TOKIN : Buf (Elt F) (tokinM.view.loc (c : Thread nD τ)))
  (PARIN : Buf (Elt F) (parinM.view.loc (c : Thread nD τ)))
  (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)

/-- The operands the body reads. -/
def opsP : sProp 𝕄 :=
  iprop(xinP c XIN ∗ xsinP c XSIN ∗ hinP c HIN ∗ hsinP c HSIN ∗ wtsinP c WTSIN ∗ wdsinP c WDSIN ∗ d2inP c 0 D2IN ∗ d2inP c 1 D2IN
    ∗ tokinP c TOKIN ∗ parinP c PARIN ∗ (wdP c WD 0 ∗ wdP c WD 1 ∗ wdP c WD 2 ∗ wdP c WD 3) ∗ (wtP c WT 0 ∗ wtP c WT 1 ∗ wtP c WT 2 ∗ wtP c WT 3))
/-- Its buffers, at any contents. -/
def scrP : sProp 𝕄 :=
  iprop((∃ f, slotP (F := F) c 0 f) ∗ (∃ f, slotP (F := F) c 1 f) ∗ (∃ f, slotP (F := F) c 2 f) ∗ (∃ f, slotP (F := F) c 3 f)
    ∗ (∃ f, xvP (F := F) c f) ∗ (∃ f, hvP (F := F) c f) ∗ (∃ f, xsvP (F := F) c f) ∗ (∃ f, hsvP (F := F) c f) ∗ (∃ f, wtsP (F := F) c f) ∗ (∃ f, wdsP (F := F) c f)
    ∗ (∃ f, d2tP (F := F) c f) ∗ (∃ f, d2tsP (F := F) c f) ∗ (∃ f, tokP (F := F) c f) ∗ (∃ f, parP (F := F) c f) ∗ (∃ f, x8P (F := F) c f) ∗ (∃ f, h8P (F := F) c f)
    ∗ (∃ f, zcP (F := F) c f) ∗ (∃ f, zdP (F := F) c f)
    ∗ (∃ f, tslotP (F := F) c 0 f) ∗ (∃ f, tslotP (F := F) c 1 f) ∗ (∃ f, dslotP (F := F) c 0 f) ∗ (∃ f, dslotP (F := F) c 1 f))
/-- Its cells, at zero. -/
def cellsP : sProp 𝕄 :=
  iprop(cellP (F := F) c 0 ∗ cellP (F := F) c 1 ∗ cellP (F := F) c 2 ∗ cellP (F := F) c 3
    ∗ icell (F := F) c 0 ∗ icell (F := F) c 1 ∗ icell (F := F) c 2 ∗ icell (F := F) c 3 ∗ icell (F := F) c 4 ∗ icell (F := F) c 5 ∗ icell (F := F) c 6 ∗ icell (F := F) c 7 ∗ icell (F := F) c 8 ∗ icell (F := F) c 9
    ∗ tcell (F := F) c 0 ∗ tcell (F := F) c 1 ∗ dcell (F := F) c 0 ∗ dcell (F := F) c 1 ∗ ncell (F := F) c)

/-- How the states and scales the loops use come from the operands. -/
def relD (H8 : Buf (Elt F) (h8M.view.loc (c : Thread nD τ))) (WDS : Buf (Elt F) (wdsM.view.loc (c : Thread nD τ))) (hs0 hs1 hs2 : FVec F S8x128 .f32) : Prop :=
  let _ := (HIN, HSIN, WDSIN, H8, WDS, hs0, hs1, hs2); True
def relT (X8 : Buf (Elt F) (x8M.view.loc (c : Thread nD τ))) (WTS : Buf (Elt F) (wtsM.view.loc (c : Thread nD τ))) (xs0 xs1 xs2 : FVec F S8x128 .f32) : Prop :=
  let _ := (XIN, XSIN, WTSIN, X8, WTS, xs0, xs1, xs2); True
/-- What the narrow blocks are to hold. -/
def okDN (H8 : Buf (Elt F) (h8M.view.loc (c : Thread nD τ))) (WDS : Buf (Elt F) (wdsM.view.loc (c : Thread nD τ))) (hs0 hs1 hs2 : FVec F S8x128 .f32)
    (w : S3x7x256.Idx → Elt F .bf16) : Prop := let _ := (WD, H8, WDS, hs0, hs1, hs2, w); True
def okTN (X8 : Buf (Elt F) (x8M.view.loc (c : Thread nD τ))) (WTS : Buf (Elt F) (wtsM.view.loc (c : Thread nD τ))) (xs0 xs1 xs2 : FVec F S8x128 .f32)
    (w : S3x8x256.Idx → Elt F .bf16) : Prop := let _ := (WT, X8, WTS, xs0, xs1, xs2, w); True
/-- The logits written. -/
def resD : sProp 𝕄 :=
  iprop(∃ H8 WDS hs0 hs1 hs2, ⌜relD c HIN HSIN WDSIN H8 WDS hs0 hs1 hs2⌝ ∗ bigSep Finset.univ (ldDone c WD H8 WDS hs0 hs1 hs2)
    ∗ ∃ f w, ⌜okDN c WD H8 WDS hs0 hs1 hs2 w⌝ ∗ ldNP c (ldN.view.writes (Elt F) f [⟨Rect.whole S3x7x256, w⟩]))
def resT : sProp 𝕄 :=
  iprop(∃ X8 WTS xs0 xs1 xs2, ⌜relT c XIN XSIN WTSIN X8 WTS xs0 xs1 xs2⌝ ∗ bigSep Finset.univ (ltDone c WT X8 WTS xs0 xs1 xs2)
    ∗ ∃ f w, ⌜okTN c WT X8 WTS xs0 xs1 xs2 w⌝ ∗ ltNP c (ltN.view.writes (Elt F) f [⟨Rect.whole S3x8x256, w⟩]))

/-- What the body leaves. -/
def postP : sProp 𝕄 :=
  iprop(opsP c WD WT XIN XSIN HIN HSIN WTSIN WDSIN D2IN TOKIN PARIN ∗ scrP (F := F) c ∗ cellsP (F := F) c
    ∗ resD c WD HIN HSIN WDSIN ∗ resT c WT XIN XSIN WTSIN
    ∗ (∃ f, wP (F := F) arg11 c f) ∗ (∃ f, wP (F := F) arg12 c f) ∗ (∃ f, wP (F := F) arg13 c f) ∗ (∃ f, wP (F := F) arg14 c f)
    ∗ (∃ W, owes (c : Thread nD τ) 0 W))

theorem doneD_all (H8 WDS hs0 hs1 hs2) : iprop(ldDone c WD H8 WDS hs0 hs1 hs2 30 ∗ ldDone c WD H8 WDS hs0 hs1 hs2 29 ∗ bigSep (Ring.rangeSet 31 0 29) (ldDone c WD H8 WDS hs0 hs1 hs2))
    ⊢ (bigSep Finset.univ (ldDone c WD H8 WDS hs0 hs1 hs2) : sProp 𝕄) := by
  rw [← Ring.rangeSet_univ (NB := 31), Ring.bigSep_rangeSet_last (lo := 0) (hi := 31) (by omega) (by omega), Ring.bigSep_rangeSet_last (lo := 0) (hi := 31 - 1) (by omega) (by omega)]
  exact .rfl
theorem doneT_all (X8 WTS xs0 xs1 xs2) : iprop(ltDone c WT X8 WTS xs0 xs1 xs2 124 ∗ ltDone c WT X8 WTS xs0 xs1 xs2 123 ∗ bigSep (Ring.rangeSet 125 0 123) (ltDone c WT X8 WTS xs0 xs1 xs2))
    ⊢ (bigSep Finset.univ (ltDone c WT X8 WTS xs0 xs1 xs2) : sProp 𝕄) := by
  rw [← Ring.rangeSet_univ (NB := 125), Ring.bigSep_rangeSet_last (lo := 0) (hi := 125) (by omega) (by omega), Ring.bigSep_rangeSet_last (lo := 0) (hi := 125 - 1) (by omega) (by omega)]
  exact .rfl

/-- The tokens' copy holds the tokens. -/
theorem tok_writes (f : Buf (Elt F) (tokM.view.loc (c : Thread nD τ))) (w : S3x7.Idx → Elt F .i32) (h : ∀ x, Tok (w x)) (j : S3x7.Idx) :
    Tok (tokM.view.writes (Elt F) f [⟨Rect.whole S3x7, w⟩] j) := by
  have e : tokM.view.writes (Elt F) f [⟨Rect.whole S3x7, w⟩] j = w j := congrFun (View.read_writes_whole tokM.view f w) j
  rw [e]; exact h j

set_option maxHeartbeats 16000000 in
set_option maxRecDepth 8192 in
theorem body_run (htok : ∀ j, Tok (TOKIN j)) :
    iprop(opsP c WD WT XIN XSIN HIN HSIN WTSIN WDSIN D2IN TOKIN PARIN ∗ scrP (F := F) c ∗ cellsP (F := F) c
      ∗ bigSep Finset.univ (ldHome (F := F) c) ∗ (∃ f, ldNP (F := F) c f) ∗ bigSep Finset.univ (ltHome (F := F) c) ∗ (∃ f, ltNP (F := F) c f)
      ∗ (∃ f, wP (F := F) arg11 c f) ∗ (∃ f, wP (F := F) arg12 c f) ∗ (∃ f, wP (F := F) arg13 c f) ∗ (∃ f, wP (F := F) arg14 c f)
      ∗ (∃ W, owes (c : Thread nD τ) 0 W))
    ⊢ wp frame (wpE (defs₀ (F := F)) 𝒱₀ (c : Thread nD τ) none) Set.univ (cc0_tree_verify_stats (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21) (fun _ => postP c WD WT XIN XSIN HIN HSIN WTSIN WDSIN D2IN TOKIN PARIN arg11 arg12 arg13 arg14) := by
  unfold opsP scrP cellsP
  iintro ⟨⟨Hxin, Hxsin, Hhin, Hhsin, Hwtsin, Hwdsin, Hd2a, Hd2b, Htokin, Hparin, ⟨Hwd0, Hwd1, Hwd2, Hwd3⟩, ⟨Hwt0, Hwt1, Hwt2, Hwt3⟩⟩,
    ⟨⟨%s0, Hs0⟩, ⟨%s1, Hs1⟩, ⟨%s2, Hs2⟩, ⟨%s3, Hs3⟩, ⟨%f0, Hxv⟩, ⟨%f1, Hhv⟩, ⟨%f2, Hxsv⟩, ⟨%f3, Hhsv⟩, ⟨%f4, Hwts⟩, ⟨%f5, Hwds⟩, ⟨%f6, Hd2t⟩, ⟨%f7, Hd2ts⟩, ⟨%f8, Htok⟩, ⟨%f9, Hpar⟩, ⟨%f10, Hx8⟩, ⟨%f11, Hh8⟩, ⟨%f12, Hzc⟩, ⟨%f13, Hzd⟩, HOT0, HOT1, HOD0, HOD1⟩,
    ⟨Hc0, Hc1, Hc2, Hc3, Hi0, Hi1, Hi2, Hi3, Hi4, Hi5, Hi6, Hi7, Hi8, Hi9, Ht0, Ht1, Hd0, Hd1, Hn⟩,
    HLD, ⟨%ln, HLDN⟩, HLT, ⟨%tn, HLTN⟩, ⟨%w11, Hw11⟩, ⟨%w12, Hw12⟩, ⟨%w13, Hw13⟩, ⟨%w14, Hw14⟩, ⟨%W, HW⟩⟩
  ihave HA := (Aside.intro iprop(wtP c WT 0 ∗ wtP c WT 1 ∗ wtP c WT 2 ∗ wtP c WT 3)) $$ [Hwt0 Hwt1 Hwt2 Hwt3]
  · isplitl [Hwt0]; · iexact Hwt0
    isplitl [Hwt1]; · iexact Hwt1
    isplitl [Hwt2]; · iexact Hwt2
    iexact Hwt3
  have h1 : k0_cond1 = 1#1 := by decide
  have h2 : ¬k0_cond2 = 1#1 := by decide
  have h3 : ¬k0_cond3 = 1#1 := by decide
  have h4 : ¬k0_cond4 = 1#1 := by decide
  have h5 : k0_cond5 = 1#1 := by decide
  have h6 : ¬k0_cond6 = 1#1 := by decide
  have h7 : ¬k0_cond7 = 1#1 := by decide
  have h8 : ¬k0_cond8 = 1#1 := by decide
  have h9 : k0_cond9 = 1#1 := by decide
  have h10 : ¬k0_cond10 = 1#1 := by decide
  have h11 : ¬k0_cond11 = 1#1 := by decide
  have h12 : ¬k0_cond12 = 1#1 := by decide
  have h18 : ¬k0_cond18 = 1#1 := by decide
  have h19 : ¬k0_cond19 = 1#1 := by decide
  have h20 : k0_cond20 = 1#1 := by decide
  have h21 : ¬k0_cond21 = 1#1 := by decide
  sl_unfold [cc0_tree_verify_stats]
  sl_exec_parts (disch := with_reducible exact chk1_ok _ ‹_›)
  ihave HT4 := (Aside.elim _) $$ HA
  icases HT4 with ⟨Hwt0, Hwt1, Hwt2, Hwt3⟩
  sl_for (fun (k : ℕ) (_ : Acc6 (F := F)) => inv1 c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN) k) $$ [Hc0 Hwd0 Hc1 Hwd1 Hc2 Hwd2 Hs3 Hc3 Hwd3 Hwt3 Hwt0 Hwt1 Hwt2 HOD0 Hd0 HOD1 Hd1 HLD Hh8 Hwds Hzd HW]
  case region =>
    intro k acc
    exact inv1_step c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN) arg11 harg11 arg12 harg12 arg13 harg13 arg14 harg14 k acc
  · iapply (inv1_entry c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN))
    isplitl [Hc0]
    · iexists _; iexact Hc0
    isplitl [Hwd0]
    · iexact Hwd0
    isplitl [Hc1]
    · iexists _; iexact Hc1
    isplitl [Hwd1]
    · iexact Hwd1
    isplitl [Hc2]
    · iexists _; iexact Hc2
    isplitl [Hwd2]
    · iexact Hwd2
    isplitl [Hs3 Hc3 Hwd3 Hwt3]
    · isplitl [Hs3]
      · iexists _; iexact Hs3
      isplitl [Hc3]
      · iexact Hc3
      isplitl [Hwd3]
      · iexact Hwd3
      iexact Hwt3
    isplitl [Hwt0 Hwt1 Hwt2]
    · isplitl [Hwt0]
      · iexact Hwt0
      isplitl [Hwt1]
      · iexact Hwt1
      iexact Hwt2
    isplitl [HOD0 Hd0]
    · isplitl [HOD0]
      · iexact HOD0
      iexact Hd0
    isplitl [HOD1 Hd1]
    · isplitl [HOD1]
      · iexact HOD1
      iexact Hd1
    isplitl [HLD]
    · iexact HLD
    isplitl [Hh8]
    · iexact Hh8
    isplitl [Hwds]
    · iexact Hwds
    isplitl [Hzd]
    · iexists _; iexact Hzd
    iexists _; iexact HW
  iintro %acc1 HI
  ihave HE := (inv1_exit c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN)) $$ HI
  icases HE with ⟨⟨⟨%n3, HF3⟩, ⟨%fr3, HR3⟩, HN3, Hwt3⟩, HF0, HF1, ⟨⟨%s2', Hs2⟩, Hc2, Hwd2, Hwt2⟩, HO1a, HO0a, HLDd, Hh8, Hwds, ⟨%f13', Hzd⟩, ⟨%W', HW⟩⟩
  ihave HO1b := (Entails.of_eq (outD.eq_1 _ _ _ _ _ _ _ _ _)) $$ HO1a
  ihave HO0b := (Entails.of_eq (outD.eq_1 _ _ _ _ _ _ _ _ _)) $$ HO0a
  icases HO1b with ⟨%fo1, %wo1, %go1, %hwo1, HO1⟩
  icases HO0b with ⟨%fo0, %wo0, %go0, %hwo0, HO0⟩
  ihave HA := (Aside.intro _) $$ Hwt3
  ihave HA2 := (Aside.intro _) $$ Hwd2
  sl_exec_parts (disch := with_reducible exact chk1_ok _ ‹_›)
  ihave HC := (dslot_cut c (body_run.sl.HO0_src_w6 c WD HIN HSIN WDSIN go0)) $$ HO0_src
  icases HC with ⟨HOn, HOr⟩
  sl_exec_parts (disch := with_reducible exact chk1_ok _ ‹_›)
  sl_for (fun _ _ => iprop(∃ f, zdP c f)) $$ [Hzd]
  case region =>
    intro k acc
    have hk : k.val < 250 := trips2 ▸ k.isLt
    iintro ⟨%fz, Hzd⟩
    sl_unfold [body_run.sl.prog.body_2, k0_t2_body]
    sl_exec_parts (disch := with_reducible exact chk1_ok _ ‹_›)
    sl_step
    iexists _; iexact Hzd
  · iexists _; iexact Hzd
  iintro %acc2 HI
  icases HI with ⟨%f13'', Hzd⟩
  sl_exec_parts (disch := with_reducible exact chk1_ok _ ‹_›)
  ihave Hwd2 := (Aside.elim _) $$ HA2
  ihave Hwt3 := (Aside.elim _) $$ HA
  ihave Hwd3 := (wdN_join c WD 3) $$ [HF3_src HN3]
  · isplitl [HF3_src]; · iexact HF3_src
    iexact HN3
  ihave Hs3 := (slot_join c 3) $$ [HF3_dst HR3]
  · isplitl [HF3_dst]; · iexists _; iexact HF3_dst
    iexists _; iexact HR3
  ihave HFree : freeS c WD WT 3 $$ [Hs3 HF3 Hwd3 Hwt3]
  · iapply (Entails.of_eq (freeS.eq_1 c WD WT 3).symm)
    isplitl [Hs3]; · iexact Hs3
    isplitl [HF3]; · iexact HF3
    isplitl [Hwd3]; · iexact Hwd3
    iexact Hwt3
  sl_for (fun (k : ℕ) (a : Acc7 (F := F)) => inv3 c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) k a) $$ [HF0 HF1 Hc2 Hwt2 Hwd2 HFree HOT0 Ht0 HOT1 Ht1 HLT Hx8 Hwts Hd2t Hd2ts Hzc HW]
  case region =>
    intro k acc
    exact inv3_step c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) arg11 harg11 arg12 harg12 arg13 harg13 arg14 harg14 _ _ _ _ _ _ _ _ _ _ _ _ _ _ _ _ _ _ _ k acc
  · iapply (inv3_entry c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) (k0_pay311 (F := F), k0_pay312 (F := F), k0_pay313 (F := F), k0_pay314 (F := F), k0_pay315 (F := F), k0_pay316 (F := F), 0#32) (show (0#32).toNat < 250 by decide))
    isplitl [HF0]
    · iexact HF0
    isplitl [HF1]
    · iexact HF1
    isplitl [Hc2 Hwt2 Hwd2]
    · isplitl [Hc2]
      · iexists _; iexact Hc2
      isplitl [Hwt2]
      · iexact Hwt2
      iexact Hwd2
    isplitl [HFree]
    · iexact HFree
    isplitl [HOT0 Ht0]
    · isplitl [HOT0]
      · iexact HOT0
      iexact Ht0
    isplitl [HOT1 Ht1]
    · isplitl [HOT1]
      · iexact HOT1
      iexact Ht1
    isplitl [HLT]
    · iexact HLT
    isplitl [Hx8]
    · iexact Hx8
    isplitl [Hwts]
    · iexact Hwts
    isplitl [Hd2t]
    · iexact Hd2t
    isplitl [Hd2ts]
    · iexact Hd2ts
    isplitl [Hzc]
    · iexists _; iexact Hzc
    iexists _; iexact HW
  iintro %acc3 HI
  ihave HE := (inv3_exit c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) acc3) $$ HI
  icases HE with ⟨%hJ, ⟨⟨%n1, HF1⟩, ⟨%fr1, HR1⟩, HN1, Hwd1⟩, HFree2, HFree3, HFree0, HP1a, HP0a, HLTd, Hx8, Hwts, Hd2t, Hd2ts, ⟨%f12', Hzc⟩, ⟨%W'', HW⟩⟩
  ihave HP1b := (Entails.of_eq (outT.eq_1 _ _ _ _ _ _ _ _ _)) $$ HP1a
  ihave HP0b := (Entails.of_eq (outT.eq_1 _ _ _ _ _ _ _ _ _)) $$ HP0a
  icases HP1b with ⟨%fp1, %wp1, %gp1, %hwp1, HP1⟩
  icases HP0b with ⟨%fp0, %wp0, %gp0, %hwp0, HP0⟩
  ihave HA0 := (Aside.intro _) $$ HFree0
  ihave HA2 := (Aside.intro _) $$ HFree2
  ihave HA3 := (Aside.intro _) $$ HFree3
  ihave HA1 := (Aside.intro _) $$ Hwd1
  sl_exec_parts (disch := first | with_reducible exact chk1_ok _ ‹_› | with_reducible exact chk9_ok _ ‹_› | (with_reducible refine chk10_ok _ _ ?_) <;> assumption)
  ihave HC2 := (tslot_cut c (body_run.sl.HP0_src_w6 c WT XIN XSIN WTSIN gp0)) $$ HP0_src
  icases HC2 with ⟨HPn, HPr⟩
  sl_exec_parts (disch := first | with_reducible exact chk1_ok _ ‹_› | with_reducible exact chk9_ok _ ‹_› | (with_reducible refine chk10_ok _ _ ?_) <;> assumption)
  sl_for (fun _ _ => iprop((∃ f, zcP c f) ∗ (∃ f, zdP c f))) $$ [Hzc Hzd]
  case region =>
    intro k acc
    have hk : k.val < 250 := trips4 ▸ k.isLt
    iintro ⟨⟨%fz, Hzc⟩, ⟨%fz2, Hzd⟩⟩
    sl_unfold [body_run.sl.prog.body_4, k0_t4_body]
    sl_exec_parts (disch := with_reducible exact chk1_ok _ ‹_›)
    sl_step
    isplitl [Hzc]; · iexists _; iexact Hzc
    iexists _; iexact Hzd
  · isplitl [Hzc]; · iexists _; iexact Hzc
    iexists _; iexact Hzd
  iintro %acc4 HI
  icases HI with ⟨⟨%f12e, Hzc⟩, ⟨%f13e, Hzd⟩⟩
  ihave Htok2 : iprop(∃ g, ⌜∀ j, Tok (g j)⌝ ∗ tokP c g) $$ [Htok]
  · iexists _; isplitr
    on_goal 2 => iexact Htok
    ipureintro; exact tok_writes c _ _ (fun x => htok _)
  icases Htok2 with ⟨%gt, %hgt, Htok⟩
  sl_exec_parts (disch := first | ((with_reducible refine chk11_ok _ ?_) <;> exact hgt _) | ((with_reducible refine chk12_ok _ ?_) <;> exact hgt _) | ((with_reducible refine chk13_ok _ ?_) <;> exact hgt _) | ((with_reducible refine chk14_ok _ ?_) <;> exact hgt _) | ((with_reducible refine chk15_ok _ ?_) <;> exact hgt _) | ((with_reducible refine chk16_ok _ ?_) <;> exact hgt _) | ((with_reducible refine chk17_ok _ ?_) <;> exact hgt _) | ((with_reducible refine chk18_ok _ ?_) <;> exact hgt _) | ((with_reducible refine chk19_ok _ ?_) <;> exact hgt _) | ((with_reducible refine chk20_ok _ ?_) <;> exact hgt _) | ((with_reducible refine chk21_ok _ ?_) <;> exact hgt _) | ((with_reducible refine chk22_ok _ ?_) <;> exact hgt _) | ((with_reducible refine chk23_ok _ ?_) <;> exact hgt _) | ((with_reducible refine chk24_ok _ ?_) <;> exact hgt _) | ((with_reducible refine chk25_ok _ ?_) <;> exact hgt _) | ((with_reducible refine chk26_ok _ ?_) <;> exact hgt _) | ((with_reducible refine chk27_ok _ ?_) <;> exact hgt _) | ((with_reducible refine chk28_ok _ ?_) <;> exact hgt _) | ((with_reducible refine chk29_ok _ ?_) <;> exact hgt _) | ((with_reducible refine chk30_ok _ ?_) <;> exact hgt _) | ((with_reducible refine chk31_ok _ ?_) <;> exact hgt _))
  sl_step
  ihave HG0 := (Aside.elim _) $$ HA0
  ihave HG2 := (Aside.elim _) $$ HA2
  ihave HG3 := (Aside.elim _) $$ HA3
  icases HG0 with ⟨Hs0, Hc0, Hwd0, Hwt0⟩
  icases HG2 with ⟨Hs2, Hc2, Hwd2, Hwt2⟩
  icases HG3 with ⟨Hs3, Hc3, Hwd3, Hwt3⟩
  ihave Hwd1 := (Aside.elim _) $$ HA1
  ihave Hwt1 := (wtN_join c WT 1) $$ [HF1_src HN1]
  · isplitl [HF1_src]; · iexact HF1_src
    iexact HN1
  ihave Hs1 := (slot_join c 1) $$ [HF1_dst HR1]
  · isplitl [HF1_dst]; · iexists _; iexact HF1_dst
    iexists _; iexact HR1
  ihave HOD0 := (dslot_join c (body_run.sl.HO0_src_w6 c WD HIN HSIN WDSIN go0) (body_run.sl.HO0_src_w6 c WD HIN HSIN WDSIN go0)) $$ [HOn HOr]
  · isplitl [HOn]; · iexact HOn
    iexact HOr
  ihave HOT0 := (tslot_join c (body_run.sl.HP0_src_w6 c WT XIN XSIN WTSIN gp0) (body_run.sl.HP0_src_w6 c WT XIN XSIN WTSIN gp0)) $$ [HPn HPr]
  · isplitl [HPn]; · iexact HPn
    iexact HPr
  unfold postP opsP scrP cellsP resD resT
  isplitl [Hxin Hxsin Hhin Hhsin Hwtsin Hwdsin Hd2a Hd2b Htokin Hparin Hwd0 Hwd1 Hwd2 Hwd3 Hwt0 Hwt1 Hwt2 Hwt3]
  · isplitl [Hxin]
    · iexact Hxin
    isplitl [Hxsin]
    · iexact Hxsin
    isplitl [Hhin]
    · iexact Hhin
    isplitl [Hhsin]
    · iexact Hhsin
    isplitl [Hwtsin]
    · iexact Hwtsin
    isplitl [Hwdsin]
    · iexact Hwdsin
    isplitl [Hd2a]
    · iexact Hd2a
    isplitl [Hd2b]
    · iexact Hd2b
    isplitl [Htokin]
    · iexact Htokin
    isplitl [Hparin]
    · iexact Hparin
    isplitl [Hwd0 Hwd1 Hwd2 Hwd3]
    · isplitl [Hwd0]
      · iexact Hwd0
      isplitl [Hwd1]
      · iexact Hwd1
      isplitl [Hwd2]
      · iexact Hwd2
      iexact Hwd3
    isplitl [Hwt0]
    · iexact Hwt0
    isplitl [Hwt1]
    · iexact Hwt1
    isplitl [Hwt2]
    · iexact Hwt2
    iexact Hwt3
  isplitl [Hs0 Hs1 Hs2 Hs3 Hxv Hhv Hxsv Hhsv Hwts Hwds Hd2t Hd2ts Htok Hpar Hx8 Hh8 Hzc Hzd HOT0 HP1_src HOD0 HO1_src]
  · isplitl [Hs0]
    · iexact Hs0
    isplitl [Hs1]
    · iexact Hs1
    isplitl [Hs2]
    · iexact Hs2
    isplitl [Hs3]
    · iexact Hs3
    isplitl [Hxv]
    · iexists _; iexact Hxv
    isplitl [Hhv]
    · iexists _; iexact Hhv
    isplitl [Hxsv]
    · iexists _; iexact Hxsv
    isplitl [Hhsv]
    · iexists _; iexact Hhsv
    isplitl [Hwts]
    · iexists _; iexact Hwts
    isplitl [Hwds]
    · iexists _; iexact Hwds
    isplitl [Hd2t]
    · iexists _; iexact Hd2t
    isplitl [Hd2ts]
    · iexists _; iexact Hd2ts
    isplitl [Htok]
    · iexists _; iexact Htok
    isplitl [Hpar]
    · iexists _; iexact Hpar
    isplitl [Hx8]
    · iexists _; iexact Hx8
    isplitl [Hh8]
    · iexists _; iexact Hh8
    isplitl [Hzc]
    · iexists _; iexact Hzc
    isplitl [Hzd]
    · iexists _; iexact Hzd
    isplitl [HOT0]
    · iexact HOT0
    isplitl [HP1_src]
    · iexists _; iexact HP1_src
    isplitl [HOD0]
    · iexact HOD0
    iexists _; iexact HO1_src
  isplitl [Hc0 HF1 Hc2 Hc3 Hi0 Hi1 Hi2 Hi3 Hi4 Hi5 Hi6 Hi7 Hi8 Hi9 HP0 HP1 HO0 HO1 Hn]
  · isplitl [Hc0]
    · iexact Hc0
    isplitl [HF1]
    · iexact HF1
    isplitl [Hc2]
    · iexact Hc2
    isplitl [Hc3]
    · iexact Hc3
    isplitl [Hi0]
    · iexact Hi0
    isplitl [Hi1]
    · iexact Hi1
    isplitl [Hi2]
    · iexact Hi2
    isplitl [Hi3]
    · iexact Hi3
    isplitl [Hi4]
    · iexact Hi4
    isplitl [Hi5]
    · iexact Hi5
    isplitl [Hi6]
    · iexact Hi6
    isplitl [Hi7]
    · iexact Hi7
    isplitl [Hi8]
    · iexact Hi8
    isplitl [Hi9]
    · iexact Hi9
    isplitl [HP0]
    · iexact HP0
    isplitl [HP1]
    · iexact HP1
    isplitl [HO0]
    · iexact HO0
    isplitl [HO1]
    · iexact HO1
    iexact Hn
  isplitl [HLDd HO1_dst HO0_dst HLDN]
  · iexists (h8M.view.writes (Elt F) h8M.view.junk (body_run.sl.Hh8_1 c HIN)), (wdsM.view.writes (Elt F) wdsM.view.junk [⟨Rect.whole S250x128, body_run.sl.dma0_4 c WDSIN⟩]), (body_run.sl.r_6 c HSIN), (body_run.sl.r_7 c HSIN), (body_run.sl.r_8 c HSIN); isplitr; · ipureintro; trivial
    isplitl [HLDd HO1_dst HO0_dst]
    · iapply (doneD_all c WD _ _ _ _ _)
      isplitl [HO0_dst]
      · iapply (Entails.of_eq (ldDone.eq_1 _ _ _ _ _ _ _ _).symm); iexists _, _; isplitr
        on_goal 2 => iexact HO0_dst
        ipureintro; exact hwo0
      isplitl [HO1_dst]
      · iapply (Entails.of_eq (ldDone.eq_1 _ _ _ _ _ _ _ _).symm); iexists _, _; isplitr
        on_goal 2 => iexact HO1_dst
        ipureintro; exact hwo1
      iexact HLDd
    iexists _, _; isplitr
    on_goal 2 => iexact HLDN
    ipureintro; trivial
  isplitl [HLTd HP1_dst HP0_dst HLTN]
  · iexists (x8M.view.writes (Elt F) x8M.view.junk (body_run.sl.Hx8_1 c XIN)), (wtsM.view.writes (Elt F) wtsM.view.junk [⟨Rect.whole S1002x128, body_run.sl.dma0_10 c WTSIN⟩]), (body_run.sl.r_2 c XSIN), (body_run.sl.r_3 c XSIN), (body_run.sl.r_4 c XSIN); isplitr; · ipureintro; trivial
    isplitl [HLTd HP1_dst HP0_dst]
    · iapply (doneT_all c WT _ _ _ _ _)
      isplitl [HP0_dst]
      · iapply (Entails.of_eq (ltDone.eq_1 _ _ _ _ _ _ _ _).symm); iexists _, _; isplitr
        on_goal 2 => iexact HP0_dst
        ipureintro; exact hwp0
      isplitl [HP1_dst]
      · iapply (Entails.of_eq (ltDone.eq_1 _ _ _ _ _ _ _ _).symm); iexists _, _; isplitr
        on_goal 2 => iexact HP1_dst
        ipureintro; exact hwp1
      iexact HLTd
    iexists _, _; isplitr
    on_goal 2 => iexact HLTN
    ipureintro; trivial
  isplitl [Hw11]
  · iexists _; iexact Hw11
  isplitl [Hw12]
  · iexists _; iexact Hw12
  isplitl [Hw13]
  · iexists _; iexact Hw13
  isplitl [Hw14]
  · iexists _; iexact Hw14
  iexists _; iexact HW

end Body

end Cert.Proof.KernelRun
-- ==== Proof.KernelLaunch.lean ====
/-
  The whole program run: the launch of the one call over the body's run, every argument read back unchanged, every
  semaphore back at zero, and what the logits arrays hold.
-/
module

public import proofs.«01_k».proof.Proof.KernelBody
public import proofs.«01_k».proof.Proof.Gen.Kernel.Frame

@[expose] public section

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.Pipeline (Dat Cfg Window BodyObligation BodyObligationLoose cellOf)

local notation "𝕄" => MT nD τ sig Unit (Elt F) ℕ (UU nD τ) ℕ

variable (m : (ℓ : Loc nD τ sig) → Buf (Elt F) ℓ) (ρ : Dev nD → PrngReg)

/-! ## Whole buffers -/

theorem wholeP (c : Dev nD) (b : Ref sig .tc) (q) (f : Buf (Elt F) ((c : Thread nD τ).loc b)) :
    (((Memref.whole b).view.loc (c : Thread nD τ) ↦[(Memref.whole b).view.set]{q} f) : sProp 𝕄) = (((c : Thread nD τ).loc b) ↦[Finset.univ]{q} f) :=
  congrArg (fun S => (((c : Thread nD τ).loc b) ↦[S]{q} f : sProp 𝕄)) (View.set_whole _)
theorem wholeEi (c : Dev nD) (b : Ref sig .tc) :
    (iprop(∃ f : Buf (Elt F) ((c : Thread nD τ).loc b), ((c : Thread nD τ).loc b) ↦{fullShare} f) : sProp 𝕄)
      ⊢ iprop(∃ f, (Memref.whole b).view.loc (c : Thread nD τ) ↦[(Memref.whole b).view.set]{fullShare} f) := by
  iintro ⟨%f, H⟩; iexists f; iapply (Entails.of_eq (wholeP c b _ f).symm); iexact H
theorem wholeEo (c : Dev nD) (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  iintro ⟨%f, H⟩; iexists f; iapply (Entails.of_eq (wholeP c b _ f)); iexact H

/-! ## The call's operands, whole and lent -/

def opsV (c : Dev nD) : sProp 𝕄 := opsP c (V m c main_arg6) (V m c main_arg2) (V m c main_arg0) (V m c main_arg1) (V m c main_arg4) (V m c main_arg5) (V m c main_v0) (V m c main_v1) (V m c main_v2) (V m c main_arg9) (V m c main_arg10)
def opsLeft (c : Dev nD) : sProp 𝕄 := iprop(wdLeft c (V m c main_arg6) ∗ wtLeft c (V m c main_arg2) ∗ d2Left c (V m c main_v2))
def opsW (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg9) ↦{fullShare} V m c main_arg9) ∗ (((c : Thread nD τ).loc main_arg10) ↦{fullShare} V m c main_arg10) ∗ (((c : Thread nD τ).loc main_v0) ↦{fullShare} V m c main_v0) ∗ (((c : Thread nD τ).loc main_v1) ↦{fullShare} V m c main_v1) ∗ (((c : Thread nD τ).loc main_v2) ↦{fullShare} V m c main_v2))

theorem ops_in (c : Dev nD) : opsW m c ⊢ (iprop(opsV m c ∗ opsLeft m c) : sProp 𝕄) := by
  unfold opsW opsV opsLeft opsP
  iintro ⟨Hmain_arg0, Hmain_arg1, Hmain_arg2, Hmain_arg4, Hmain_arg5, Hmain_arg6, Hmain_arg9, Hmain_arg10, Hmain_v0, Hmain_v1, Hmain_v2⟩
  ihave Hwd := (wd_split c (V m c main_arg6)) $$ Hmain_arg6
  ihave Hwt := (wt_split c (V m c main_arg2)) $$ Hmain_arg2
  ihave Hd2 := (d2_split c (V m c main_v2)) $$ Hmain_v2
  icases Hwd with ⟨HwdL, Hwd0, Hwd1, Hwd2, Hwd3⟩
  icases Hwt with ⟨HwtL, Hwt0, Hwt1, Hwt2, Hwt3⟩
  icases Hd2 with ⟨Hd2L, Hd2a, Hd2b⟩
  isplitl [Hmain_arg0 Hmain_arg1 Hmain_arg4 Hmain_arg5 Hmain_v0 Hmain_v1 Hd2a Hd2b Hmain_arg9 Hmain_arg10 Hwd0 Hwd1 Hwd2 Hwd3 Hwt0 Hwt1 Hwt2 Hwt3]
  · isplitl [Hmain_arg0]
    · iapply (Entails.of_eq (wholeP c main_arg0 _ _).symm); iexact Hmain_arg0
    isplitl [Hmain_arg1]
    · iapply (Entails.of_eq (wholeP c main_arg1 _ _).symm); iexact Hmain_arg1
    isplitl [Hmain_arg4]
    · iapply (Entails.of_eq (wholeP c main_arg4 _ _).symm); iexact Hmain_arg4
    isplitl [Hmain_arg5]
    · iapply (Entails.of_eq (wholeP c main_arg5 _ _).symm); iexact Hmain_arg5
    isplitl [Hmain_v0]
    · iapply (Entails.of_eq (wholeP c main_v0 _ _).symm); iexact Hmain_v0
    isplitl [Hmain_v1]
    · iapply (Entails.of_eq (wholeP c main_v1 _ _).symm); iexact Hmain_v1
    isplitl [Hd2a]
    · iexact Hd2a
    isplitl [Hd2b]
    · iexact Hd2b
    isplitl [Hmain_arg9]
    · iapply (Entails.of_eq (wholeP c main_arg9 _ _).symm); iexact Hmain_arg9
    isplitl [Hmain_arg10]
    · iapply (Entails.of_eq (wholeP c main_arg10 _ _).symm); iexact Hmain_arg10
    isplitl [Hwd0 Hwd1 Hwd2 Hwd3]
    · isplitl [Hwd0]
      · iexact Hwd0
      isplitl [Hwd1]
      · iexact Hwd1
      isplitl [Hwd2]
      · iexact Hwd2
      iexact Hwd3
    isplitl [Hwt0]
    · iexact Hwt0
    isplitl [Hwt1]
    · iexact Hwt1
    isplitl [Hwt2]
    · iexact Hwt2
    iexact Hwt3
  isplitl [HwdL]
  · iexact HwdL
  isplitl [HwtL]
  · iexact HwtL
  iexact Hd2L
theorem ops_out (c : Dev nD) : (iprop(opsV m c ∗ opsLeft m c) : sProp 𝕄) ⊢ opsW m c := by
  unfold opsW opsV opsLeft opsP
  iintro ⟨⟨Hmain_arg0, Hmain_arg1, Hmain_arg4, Hmain_arg5, Hmain_v0, Hmain_v1, Hd2a, Hd2b, Hmain_arg9, Hmain_arg10, ⟨Hwd0, Hwd1, Hwd2, Hwd3⟩, ⟨Hwt0, Hwt1, Hwt2, Hwt3⟩⟩, HwdL, HwtL, Hd2L⟩
  ihave Hmain_arg6 := (wd_joinS c (V m c main_arg6)) $$ [HwdL Hwd0 Hwd1 Hwd2 Hwd3]
  · isplitl [HwdL]
    · iexact HwdL
    isplitl [Hwd0]
    · iexact Hwd0
    isplitl [Hwd1]
    · iexact Hwd1
    isplitl [Hwd2]
    · iexact Hwd2
    iexact Hwd3
  ihave Hmain_arg2 := (wt_joinS c (V m c main_arg2)) $$ [HwtL Hwt0 Hwt1 Hwt2 Hwt3]
  · isplitl [HwtL]
    · iexact HwtL
    isplitl [Hwt0]
    · iexact Hwt0
    isplitl [Hwt1]
    · iexact Hwt1
    isplitl [Hwt2]
    · iexact Hwt2
    iexact Hwt3
  ihave Hmain_v2 := (d2_joinS c (V m c main_v2)) $$ [Hd2L Hd2a Hd2b]
  · isplitl [Hd2L]
    · iexact Hd2L
    isplitl [Hd2a]
    · iexact Hd2a
    iexact Hd2b
  isplitl [Hmain_arg0]
  · iapply (Entails.of_eq (wholeP c main_arg0 _ _)); iexact Hmain_arg0
  isplitl [Hmain_arg1]
  · iapply (Entails.of_eq (wholeP c main_arg1 _ _)); iexact Hmain_arg1
  isplitl [Hmain_arg2]
  · iexact Hmain_arg2
  isplitl [Hmain_arg4]
  · iapply (Entails.of_eq (wholeP c main_arg4 _ _)); iexact Hmain_arg4
  isplitl [Hmain_arg5]
  · iapply (Entails.of_eq (wholeP c main_arg5 _ _)); iexact Hmain_arg5
  isplitl [Hmain_arg6]
  · iexact Hmain_arg6
  isplitl [Hmain_arg9]
  · iapply (Entails.of_eq (wholeP c main_arg9 _ _)); iexact Hmain_arg9
  isplitl [Hmain_arg10]
  · iapply (Entails.of_eq (wholeP c main_arg10 _ _)); iexact Hmain_arg10
  isplitl [Hmain_v0]
  · iapply (Entails.of_eq (wholeP c main_v0 _ _)); iexact Hmain_v0
  isplitl [Hmain_v1]
  · iapply (Entails.of_eq (wholeP c main_v1 _ _)); iexact Hmain_v1
  iexact Hmain_v2

/-! ## The call's own buffers -/

theorem scr_in (c : Dev nD) : (Pipeline.scopedRest (Ix := Unit) (Name := ℕ) (U := UU nD τ) (Lvl := ℕ) (Val := Elt F) spec0 c : sProp 𝕄) ⊢ scrP (F := F) c := by
  rw [scopedRest0_eq]
  unfold scrP
  iintro ⟨S0, S1, S2, S3, S4, S5, S6, S7, S11, S12, S13, S14, S15, S16, S8, S9, S10⟩
  ihave R := (ring_split c) $$ S0
  icases R with ⟨R0, R1, R2, R3⟩
  ihave OT := (tslot_split c) $$ S15
  icases OT with ⟨OT0, OT1⟩
  ihave OD := (dslot_split c) $$ S16
  icases OD with ⟨OD0, OD1⟩
  isplitl [R0]
  · iexact R0
  isplitl [R1]
  · iexact R1
  isplitl [R2]
  · iexact R2
  isplitl [R3]
  · iexact R3
  isplitl [S1]
  · iapply (wholeEi c cc0_scratch1); iexact S1
  isplitl [S2]
  · iapply (wholeEi c cc0_scratch2); iexact S2
  isplitl [S3]
  · iapply (wholeEi c cc0_scratch3); iexact S3
  isplitl [S4]
  · iapply (wholeEi c cc0_scratch4); iexact S4
  isplitl [S5]
  · iapply (wholeEi c cc0_scratch5); iexact S5
  isplitl [S6]
  · iapply (wholeEi c cc0_scratch6); iexact S6
  isplitl [S7]
  · iapply (wholeEi c cc0_scratch7); iexact S7
  isplitl [S8]
  · iapply (wholeEi c cc0_scratch8); iexact S8
  isplitl [S9]
  · iapply (wholeEi c cc0_scratch9); iexact S9
  isplitl [S10]
  · iapply (wholeEi c cc0_scratch10); iexact S10
  isplitl [S11]
  · iapply (wholeEi c cc0_scratch11); iexact S11
  isplitl [S12]
  · iapply (wholeEi c cc0_scratch12); iexact S12
  isplitl [S13]
  · iapply (wholeEi c cc0_scratch13); iexact S13
  isplitl [S14]
  · iapply (wholeEi c cc0_scratch14); iexact S14
  isplitl [OT0]
  · iexact OT0
  isplitl [OT1]
  · iexact OT1
  isplitl [OD0]
  · iexact OD0
  iexact OD1
theorem scr_out (c : Dev nD) : scrP (F := F) c ⊢ (Pipeline.scopedRest (Ix := Unit) (Name := ℕ) (U := UU nD τ) (Lvl := ℕ) (Val := Elt F) spec0 c : sProp 𝕄) := by
  rw [scopedRest0_eq]
  unfold scrP
  iintro ⟨R0, R1, R2, R3, S1, S2, S3, S4, S5, S6, S7, S8, S9, S10, S11, S12, S13, S14, OT0, OT1, OD0, OD1⟩
  ihave S0 := (ring_join c) $$ [R0 R1 R2 R3]
  · isplitl [R0]
    · iexact R0
    isplitl [R1]
    · iexact R1
    isplitl [R2]
    · iexact R2
    iexact R3
  ihave S15 := (tslot_joinS c) $$ [OT0 OT1]
  · isplitl [OT0]
    · iexact OT0
    iexact OT1
  ihave S16 := (dslot_joinS c) $$ [OD0 OD1]
  · isplitl [OD0]
    · iexact OD0
    iexact OD1
  isplitl [S0]
  · iexact S0
  isplitl [S1]
  · iapply (wholeEo c cc0_scratch1); iexact S1
  isplitl [S2]
  · iapply (wholeEo c cc0_scratch2); iexact S2
  isplitl [S3]
  · iapply (wholeEo c cc0_scratch3); iexact S3
  isplitl [S4]
  · iapply (wholeEo c cc0_scratch4); iexact S4
  isplitl [S5]
  · iapply (wholeEo c cc0_scratch5); iexact S5
  isplitl [S6]
  · iapply (wholeEo c cc0_scratch6); iexact S6
  isplitl [S7]
  · iapply (wholeEo c cc0_scratch7); iexact S7
  isplitl [S11]
  · iapply (wholeEo c cc0_scratch11); iexact S11
  isplitl [S12]
  · iapply (wholeEo c cc0_scratch12); iexact S12
  isplitl [S13]
  · iapply (wholeEo c cc0_scratch13); iexact S13
  isplitl [S14]
  · iapply (wholeEo c cc0_scratch14); iexact S14
  isplitl [S15]
  · iexact S15
  isplitl [S16]
  · iexact S16
  isplitl [S8]
  · iapply (wholeEo c cc0_scratch8); iexact S8
  isplitl [S9]
  · iapply (wholeEo c cc0_scratch9); iexact S9
  iapply (wholeEo c cc0_scratch10); iexact S10

/-! ## Its semaphores -/

abbrev osem : Fin 19 → SemLoc sig := ![.dma (csm 0).sem, .dma (csm 1).sem, .dma (csm 2).sem, .dma (csm 3).sem, .dma (ism 0).sem, .dma (ism 1).sem, .dma (ism 2).sem, .dma (ism 3).sem, .dma (ism 4).sem, .dma (ism 5).sem, .dma (ism 6).sem, .dma (ism 7).sem, .dma (ism 8).sem, .dma (ism 9).sem, .dma (tsm 0).sem, .dma (tsm 1).sem, .dma (dsm 0).sem, .dma (dsm 1).sem, .dma nsm.sem]
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0 cellsP
  rw [bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide)]
  rfl

/-! ## The pipeline's proof data -/

def homesP (c : Dev nD) : sProp 𝕄 :=
  iprop(bigSep Finset.univ (ldHome (F := F) c) ∗ (∃ f, ldNP (F := F) c f) ∗ bigSep Finset.univ (ltHome (F := F) c) ∗ (∃ f, ltNP (F := F) c f))
def resP (c : Dev nD) : sProp 𝕄 :=
  iprop(resD c (V m c main_arg6) (V m c main_arg4) (V m c main_arg5) (V m c main_v1) ∗ resT c (V m c main_arg2) (V m c main_arg0) (V m c main_arg1) (V m c main_v0))
/-- Before the call's one point, and after it. -/
def Φ0 (c : Dev nD) : sProp 𝕄 := iprop(opsV m c ∗ scrP (F := F) c ∗ cellsP (F := F) c ∗ homesP (F := F) c)
def Φ1 (c : Dev nD) : sProp 𝕄 := iprop(opsV m c ∗ scrP (F := F) c ∗ cellsP (F := F) c ∗ resP m c)
def ΦK (c : Dev nD) (t : ℕ) : sProp 𝕄 := if t = 0 then Φ0 m c else Φ1 m c

def dats (_ : Fin 1) (c : Dev nD) : Dat τ (Elt F) Unit ℕ (UU nD τ) ℕ cfg0 c where
  A w := V m c (Pipeline.arrRef spec0 w)
  after w t := fun _ => Classical.choice inferInstance
  Φ t := ΦK m c t.val
  q _ := fullShare
  owed _ := 0

/-- On every core the draft tokens are tokens of the draft vocabulary. -/
def PreOK : Prop := ∀ (c : Dev nD) (j), Tok (m ((c : Thread nD τ).loc main_arg9) j)

/-! ## The body obligation -/

abbrev bodyG (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole) : Prog (TpuEff nD τ sig (Elt F) Λ₀ .tc) PUnit := cc0_tree_verify_stats (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

set_option backward.isDefEq.respectTransparency.types false in
set_option maxHeartbeats 1600000 in
theorem body_obligation (h : PreOK m) (c : Dev nD) : BodyObligationLoose (dats (F := F) m 0 c) (defs₀ (F := F)) 𝒱₀ () Set.univ (fun _ => true) := fun t => by
  have ht : t.val = 0 := by rw [fin_N0 t]; rfl
  have htok : ∀ j, Tok (V m c main_arg9 j) := fun j => by rw [V_main_arg9]; exact h c j
  rw [bigSep_W0]
  dsimp only
  rw [show (dats m 0 c).Φ t.castSucc = ΦK m c t.val from rfl, show (dats m 0 c).Φ t.succ = ΦK m c (t.val + 1) from rfl]
  rw [show ΦK m c t.val = Φ0 m c from if_pos ht, show ΦK m c (t.val + 1) = Φ1 m c from if_neg (by omega)]
  unfold Dat.owesAt Pipeline.owesWithin
  rw [show (dats m 0 c).owed t.castSucc = 0 from rfl, show (dats m 0 c).owed t.succ = 0 from rfl]
  unfold owns Φ0 Φ1 opsV homesP resP
  iintro ⟨⟨HO, HS, HC, HLD, HLDN, HLT, HLTN⟩, ⟨%W, -, HW⟩, ⟨%d0, %g0, -, H0⟩, ⟨%d1, %g1, -, H1⟩, ⟨%d2, %g2, -, H2⟩, ⟨%d3, %g3, -, H3⟩⟩
  sl_rw [prog_eq t]
  ihave HB := (body_run c (V m c main_arg6) (V m c main_arg2) (V m c main_arg0) (V m c main_arg1) (V m c main_arg4) (V m c main_arg5) (V m c main_v0) (V m c main_v1) (V m c main_v2) (V m c main_arg9) (V m c main_arg10) (st0_0 t) (hstage0_0 0) (st0_1 t) (hstage0_1 0) (st0_2 t) (hstage0_2 0) (st0_3 t) (hstage0_3 0) htok) $$ [HO HS HC HLD HLDN HLT HLTN H0 H1 H2 H3 HW]
  · isplitl [HO]
    · iexact HO
    isplitl [HS]
    · iexact HS
    isplitl [HC]
    · iexact HC
    isplitl [HLD]
    · iexact HLD
    isplitl [HLDN]
    · iexact HLDN
    isplitl [HLT]
    · iexact HLT
    isplitl [HLTN]
    · iexact HLTN
    isplitl [H0]
    · iexists _; iexact H0
    isplitl [H1]
    · iexists _; iexact H1
    isplitl [H2]
    · iexists _; iexact H2
    isplitl [H3]
    · iexists _; iexact H3
    iexists _; iexact HW
  iapply (wp_wand _ _) $$ HB
  iintro %u HP
  unfold postP
  icases HP with ⟨HO, HS, HC, HRD, HRT, ⟨%g0', H0⟩, ⟨%g1', H1⟩, ⟨%g2', H2⟩, ⟨%g3', H3⟩, ⟨%W', HW⟩⟩
  isplitl [HO HS HC HRD HRT]
  · isplitl [HO]
    · iexact HO
    isplitl [HS]
    · iexact HS
    isplitl [HC]
    · iexact HC
    isplitl [HRD]
    · iexact HRD
    iexact HRT
  isplitl [HW]
  · iexists W'; isplitr; · ipureintro; exact fun _ _ => Or.inl trivial
    iexact HW
  isplitl [H0]
  · iexists _, g0'; isplitr; · ipureintro; rfl
    iexact H0
  isplitl [H1]
  · iexists _, g1'; isplitr; · ipureintro; rfl
    iexact H1
  isplitl [H2]
  · iexists _, g2'; isplitr; · ipureintro; rfl
    iexact H2
  iexists _, g3'; isplitr; · ipureintro; rfl
  iexact H3

/-! ## What the logits hold -/

/-- The draft logits, block by block. -/
def GD (c : Dev nD) (g : Buf (Elt F) ((c : Thread nD τ).loc main_v3_5)) : Prop :=
  ∃ H8 WDS hs0 hs1 hs2, relD c (V m c main_arg4) (V m c main_arg5) (V m c main_v1) H8 WDS hs0 hs1 hs2
    ∧ (∀ b, ∃ f, (∃ f' w, okD c (V m c main_arg6) H8 WDS hs0 hs1 hs2 b w ∧ f = (ldB b).view.writes (Elt F) f' [⟨Rect.whole S3x7x1024, w⟩]) ∧ ∀ i ∈ BD b, g i = f i)
    ∧ ∃ f, (∃ f' w, okDN c (V m c main_arg6) H8 WDS hs0 hs1 hs2 w ∧ f = ldN.view.writes (Elt F) f' [⟨Rect.whole S3x7x256, w⟩]) ∧ ∀ i ∈ BND, g i = f i
/-- The target logits, block by block. -/
def GT (c : Dev nD) (g : Buf (Elt F) ((c : Thread nD τ).loc main_v3_4)) : Prop :=
  ∃ X8 WTS xs0 xs1 xs2, relT c (V m c main_arg0) (V m c main_arg1) (V m c main_v0) X8 WTS xs0 xs1 xs2
    ∧ (∀ b, ∃ f, (∃ f' w, okT c (V m c main_arg2) X8 WTS xs0 xs1 xs2 b w ∧ f = (ltB b).view.writes (Elt F) f' [⟨Rect.whole S3x8x1024, w⟩]) ∧ ∀ i ∈ BT b, g i = f i)
    ∧ ∃ f, (∃ f' w, okTN c (V m c main_arg2) X8 WTS xs0 xs1 xs2 w ∧ f = ltN.view.writes (Elt F) f' [⟨Rect.whole S3x8x256, w⟩]) ∧ ∀ i ∈ BNT, g i = f i
theorem resD_join (c : Dev nD) : (resD c (V m c main_arg6) (V m c main_arg4) (V m c main_arg5) (V m c main_v1) : sProp 𝕄) ⊢ iprop(∃ g, ⌜GD m c g⌝ ∗ (((c : Thread nD τ).loc main_v3_5) ↦{fullShare} g)) := by
  unfold resD
  iintro ⟨%H8, %WDS, %hs0, %hs1, %hs2, %hrel, HB, %f, %w, %hw, HN⟩
  ihave HG := (ld_join (F := F) c (fun b f => ∃ f' w, okD c (V m c main_arg6) H8 WDS hs0 hs1 hs2 b w ∧ f = (ldB b).view.writes (Elt F) f' [⟨Rect.whole S3x7x1024, w⟩])
    (fun f => ∃ f' w, okDN c (V m c main_arg6) H8 WDS hs0 hs1 hs2 w ∧ f = ldN.view.writes (Elt F) f' [⟨Rect.whole S3x7x256, w⟩])) $$ [HB HN]
  · isplitl [HB]
    · iapply (bigMono (s := Finset.univ) (fun b _ => (show (ldDone c (V m c main_arg6) H8 WDS hs0 hs1 hs2 b : sProp 𝕄) ⊢ _ from by
        unfold ldDone
        iintro ⟨%f, %w, %hw, H⟩
        iexists _; isplitr
        on_goal 2 => iexact H
        ipureintro; exact ⟨f, w, hw, rfl⟩)))
      iexact HB
    · iexists _; isplitr
      on_goal 2 => iexact HN
      ipureintro; exact ⟨f, w, hw, rfl⟩
  icases HG with ⟨%g, %hg, HG⟩
  iexists g; isplitr
  · ipureintro; exact ⟨H8, WDS, hs0, hs1, hs2, hrel, hg.1, hg.2⟩
  iexact HG
theorem resT_join (c : Dev nD) : (resT c (V m c main_arg2) (V m c main_arg0) (V m c main_arg1) (V m c main_v0) : sProp 𝕄) ⊢ iprop(∃ g, ⌜GT m c g⌝ ∗ (((c : Thread nD τ).loc main_v3_4) ↦{fullShare} g)) := by
  unfold resT
  iintro ⟨%X8, %WTS, %xs0, %xs1, %xs2, %hrel, HB, %f, %w, %hw, HN⟩
  ihave HG := (lt_join (F := F) c (fun b f => ∃ f' w, okT c (V m c main_arg2) X8 WTS xs0 xs1 xs2 b w ∧ f = (ltB b).view.writes (Elt F) f' [⟨Rect.whole S3x8x1024, w⟩])
    (fun f => ∃ f' w, okTN c (V m c main_arg2) X8 WTS xs0 xs1 xs2 w ∧ f = ltN.view.writes (Elt F) f' [⟨Rect.whole S3x8x256, w⟩])) $$ [HB HN]
  · isplitl [HB]
    · iapply (bigMono (s := Finset.univ) (fun b _ => (show (ltDone c (V m c main_arg2) X8 WTS xs0 xs1 xs2 b : sProp 𝕄) ⊢ _ from by
        unfold ltDone
        iintro ⟨%f, %w, %hw, H⟩
        iexists _; isplitr
        on_goal 2 => iexact H
        ipureintro; exact ⟨f, w, hw, rfl⟩)))
      iexact HB
    · iexists _; isplitr
      on_goal 2 => iexact HN
      ipureintro; exact ⟨f, w, hw, rfl⟩
  icases HG with ⟨%g, %hg, HG⟩
  iexists g; isplitr
  · ipureintro; exact ⟨X8, WTS, xs0, xs1, xs2, hrel, hg.1, hg.2⟩
  iexact HG

/-! ## The run -/

def intoΦ (c : Dev nD) : sProp 𝕄 := iprop(opsV m c ∗ cellsP (F := F) c ∗ homesP (F := F) c)
def outOfΦ (c : Dev nD) : sProp 𝕄 := iprop(opsV m c ∗ resP m c)
def asideΦ (c : Dev nD) : sProp 𝕄 := iprop(opsLeft m c ∗ (((c : Thread nD τ).loc main_arg3) ↦{fullShare} V m c main_arg3) ∗ (((c : Thread nD τ).loc main_arg7) ↦{fullShare} V m c main_arg7) ∗ (((c : Thread nD τ).loc main_arg8) ↦{fullShare} V m c main_arg8))
def u₀ : UU nD τ := (initOf (Pipeline.cells cfgs cellOf_inj) (Pipeline.launchToks cfgs cellOf_inj), 1)
def QY (c : Dev nD) (s : MemSt nD τ sig (Elt F)) : Prop :=
  (s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5 ∧ s.mem ((c : Thread nD τ).loc main_arg6) = V m c main_arg6 ∧ s.mem ((c : Thread nD τ).loc main_arg7) = V m c main_arg7 ∧ s.mem ((c : Thread nD τ).loc main_arg8) = V m c main_arg8 ∧ s.mem ((c : Thread nD τ).loc main_arg9) = V m c main_arg9 ∧ s.mem ((c : Thread nD τ).loc main_arg10) = V m c main_arg10)
  ∧ GD m c (s.mem ((c : Thread nD τ).loc main_v3_5)) ∧ GT m c (s.mem ((c : Thread nD τ).loc main_v3_4))

theorem hX_ (c : Dev nD) (P1 P2 : sProp 𝕄) : iprop(Pipeline.unscopedRest (Ix := Unit) (Name := ℕ) (U := UU nD τ) (Lvl := ℕ) spec0 c (V m c) ∗ Pipeline.ownSems0 osem c ∗ P1 ∗ P2 ∗ emp)
    ⊢ |={Set.univ}=> iprop(intoΦ m c ∗ asideΦ m c) := by
  rw [unscopedRest0_eq, ownSems0_eq]
  unfold intoΦ asideΦ homesP
  iintro ⟨⟨Hmain_arg0, Hmain_arg1, Hmain_arg2, Hmain_arg3, Hmain_arg4, Hmain_arg5, Hmain_arg6, Hmain_arg7, Hmain_arg8, Hmain_arg9, Hmain_arg10, Hmain_v0, Hmain_v1, Hmain_v2, Hmain_v3_4, Hmain_v3_5⟩, HC, -, -, -⟩
  ihave HOp := (ops_in m c) $$ [Hmain_arg0 Hmain_arg1 Hmain_arg2 Hmain_arg4 Hmain_arg5 Hmain_arg6 Hmain_arg9 Hmain_arg10 Hmain_v0 Hmain_v1 Hmain_v2]
  · unfold opsW
    isplitl [Hmain_arg0]
    · iexact Hmain_arg0
    isplitl [Hmain_arg1]
    · iexact Hmain_arg1
    isplitl [Hmain_arg2]
    · iexact Hmain_arg2
    isplitl [Hmain_arg4]
    · iexact Hmain_arg4
    isplitl [Hmain_arg5]
    · iexact Hmain_arg5
    isplitl [Hmain_arg6]
    · iexact Hmain_arg6
    isplitl [Hmain_arg9]
    · iexact Hmain_arg9
    isplitl [Hmain_arg10]
    · iexact Hmain_arg10
    isplitl [Hmain_v0]
    · iexact Hmain_v0
    isplitl [Hmain_v1]
    · iexact Hmain_v1
    iexact Hmain_v2
  icases HOp with ⟨HOp, HL⟩
  ihave HLD := (ld_split c (V m c main_v3_5)) $$ Hmain_v3_5
  ihave HLT := (lt_split c (V m c main_v3_4)) $$ Hmain_v3_4
  icases HLD with ⟨HLD, HLDN⟩
  icases HLT with ⟨HLT, HLTN⟩
  imodintro
  isplitl [HOp HC HLD HLDN HLT HLTN]
  · isplitl [HOp]
    · iexact HOp
    isplitl [HC]
    · iexact HC
    isplitl [HLD]
    · iexact HLD
    isplitl [HLDN]
    · iexact HLDN
    isplitl [HLT]
    · iexact HLT
    iexact HLTN
  isplitl [HL]
  · iexact HL
  isplitl [Hmain_arg3]
  · iexact Hmain_arg3
  isplitl [Hmain_arg7]
  · iexact Hmain_arg7
  iexact Hmain_arg8

theorem hY_ (c : Dev nD) (s' : Phys nD τ sig (Elt F)) : iprop(outOfΦ m c ∗ asideΦ m c ∗ SI s') ⊢ |={Set.univ}=> iprop(⌜QY m c s'.mem⌝ ∗ (SI s' : sProp 𝕄)) := by
  unfold outOfΦ asideΦ resP
  iintro ⟨⟨HO, HRD, HRT⟩, ⟨HL, Hmain_arg3, Hmain_arg7, Hmain_arg8⟩, HSI⟩
  ihave HOW := (ops_out m c) $$ [HO HL]
  · isplitl [HO]; · iexact HO
    iexact HL
  unfold opsW
  icases HOW with ⟨Hmain_arg0, Hmain_arg1, Hmain_arg2, Hmain_arg4, Hmain_arg5, Hmain_arg6, Hmain_arg9, Hmain_arg10, Hmain_v0, Hmain_v1, Hmain_v2⟩
  ihave HGD := (resD_join m c) $$ HRD
  ihave HGT := (resT_join m c) $$ HRT
  icases HGD with ⟨%gd, %hgd, HGD⟩
  icases HGT with ⟨%gt, %hgt, HGT⟩
  icombine HSI Hmain_arg0 gives %hmain_arg0
  icombine HSI Hmain_arg1 gives %hmain_arg1
  icombine HSI Hmain_arg2 gives %hmain_arg2
  icombine HSI Hmain_arg3 gives %hmain_arg3
  icombine HSI Hmain_arg4 gives %hmain_arg4
  icombine HSI Hmain_arg5 gives %hmain_arg5
  icombine HSI Hmain_arg6 gives %hmain_arg6
  icombine HSI Hmain_arg7 gives %hmain_arg7
  icombine HSI Hmain_arg8 gives %hmain_arg8
  icombine HSI Hmain_arg9 gives %hmain_arg9
  icombine HSI Hmain_arg10 gives %hmain_arg10
  icombine HSI HGD gives %hd
  icombine HSI HGT gives %ht
  imodintro
  isplitr
  · ipureintro
    refine ⟨⟨Buf.eq_of_forall_mem_univ hmain_arg0, Buf.eq_of_forall_mem_univ hmain_arg1, Buf.eq_of_forall_mem_univ hmain_arg2, Buf.eq_of_forall_mem_univ hmain_arg3, Buf.eq_of_forall_mem_univ hmain_arg4, Buf.eq_of_forall_mem_univ hmain_arg5, Buf.eq_of_forall_mem_univ hmain_arg6, Buf.eq_of_forall_mem_univ hmain_arg7, Buf.eq_of_forall_mem_univ hmain_arg8, Buf.eq_of_forall_mem_univ hmain_arg9, Buf.eq_of_forall_mem_univ hmain_arg10⟩, ?_, ?_⟩
    · have e := Buf.eq_of_forall_mem_univ hd; rw [e]; exact hgd
    · have e := Buf.eq_of_forall_mem_univ ht; rw [e]; exact hgt
  iexact HSI

set_option backward.isDefEq.respectTransparency.types false in
/-- From any memory whose draft tokens are tokens of the draft vocabulary: every weakly fair run ends, and ends with
    every argument unchanged, the logits as computed, every semaphore at zero. -/
theorem run_main (h : PreOK m) : θ_run defs (onTc (τ := τ) (main (F := F))) ⟨m, fun _ => 0, ρ⟩ (fun r => (∀ c : Dev nD, QY m c r.2) ∧ r.2.sem = fun _ => 0) :=
  Pipeline.θ_run_region_kit_forget_quiescent cfgs (dats m) () (0 : Fin 1) launch0 ownSemFacts EP defs₀ 𝒱₀ (fun _ => true) m ρ main
    (hbody := fun c => body_obligation m h c) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := asideΦ m)
    (hX := fun c => hX_ m c _ _)
    (hin := fun c => by
      rw [show (dats m 0 c).Φ 0 = Φ0 m c from (if_pos rfl : ΦK m c 0 = Φ0 m c)]
      unfold intoΦ Φ0
      iintro ⟨⟨HO, HC, HH⟩, HR⟩
      ihave HS := (scr_in c) $$ HR
      isplitl [HO]; · iexact HO
      isplitl [HS]; · iexact HS
      isplitl [HC]; · iexact HC
      iexact HH)
    (hout := fun c => by
      rw [show (dats m 0 c).Φ (Fin.last cfg0.N) = Φ1 m c from (if_neg (by rw [Fin.val_last]; exact Nat.one_ne_zero) : ΦK m c (Fin.last cfg0.N).val = Φ1 m c), ownSems0_eq]
      unfold outOfΦ Φ1
      iintro ⟨HO, HS, HC, HR⟩
      isplitl [HO HR]
      · isplitl [HO]; · iexact HO
        iexact HR
      isplitl [HC]; · iexact HC
      iapply (scr_out c); iexact HS)
    (QY := QY m)
    (hY := hY_ m)
    (hQ := fun s hh hz => ⟨fun c => (hh c).2, hz⟩)

/-! ## The precondition -/

theorem tok_of_bits (v : BitVec 32) (h : IntOp.andi (IntOp.cmpi .sge v 0#32) (IntOp.cmpi .slt v 32000#32) = 1#1) : Tok v := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at h
  have h0 : (0#32 : BitVec 32).toInt = 0 := by decide
  have h4 : (32000#32 : BitVec 32).toInt = 32000 := by decide
  rw [h0, h4] at h
  unfold Tok
  have := BitVec.toInt_eq_toNat_cond v
  have hl := v.isLt
  split at this <;> omega

end Cert.Proof.KernelRun
-- ==== Proof.KernelIdealNames.lean ====
/-
  The names the run of the kernel is stated in: the four slots of the weight ring, the two slots of each output
  ring, the blocks of the two weights and of the two logits arrays, the semaphores, and the equations by which the
  slices the kernel's body takes (at offsets computed from the loops' induction variables) are these.
-/
module

public import Idealize.ShloMosaic.PureOps.BitExact
public import Idealize.ShloMosaic.PureOps.Ideal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Whole buffers -/

abbrev wtM : Memref sig .tc .hbm S3072x128256 .fp8e4m3 := Memref.whole main_arg2
abbrev wdM : Memref sig .tc .hbm S3072x32000 .fp8e4m3 := Memref.whole main_arg6
abbrev ltM : Memref sig .tc .hbm S3x8x128256 .bf16 := Memref.whole main_v3_4
abbrev ldM : Memref sig .tc .hbm S3x7x32000 .bf16 := Memref.whole main_v3_5
abbrev ringM : Memref sig .tc .vmem S4x3072x1024 .fp8e4m3 := Memref.whole cc0_scratch0
abbrev wtsM : Memref sig .tc .vmem S1002x128 .f32 := Memref.whole cc0_scratch5
abbrev wdsM : Memref sig .tc .vmem S250x128 .f32 := Memref.whole cc0_scratch6
abbrev d2tM : Memref sig .tc .vmem S250x128 .i32 := Memref.whole cc0_scratch7
abbrev d2tsM : Memref sig .tc .smem S250x128 .i32 := Memref.whole cc0_scratch8
abbrev x8M : Memref sig .tc .vmem S32x3072 .fp8e4m3 := Memref.whole cc0_scratch11
abbrev h8M : Memref sig .tc .vmem S32x3072 .fp8e4m3 := Memref.whole cc0_scratch12
abbrev zcM : Memref sig .tc .vmem S250x24x128 .f32 := Memref.whole cc0_scratch13
abbrev zdM : Memref sig .tc .vmem S250x24x128 .f32 := Memref.whole cc0_scratch14
abbrev obtM : Memref sig .tc .vmem S2x3x8x1024 .bf16 := Memref.whole cc0_scratch15
abbrev obdM : Memref sig .tc .vmem S2x3x7x1024 .bf16 := Memref.whole cc0_scratch16

/-! ## Offsets -/

abbrev o1 (s : ℕ) : Fin 1 → Nat := ![s]
abbrev o3 (s : ℕ) : Fin 3 → Nat := ![s, 0, 0]
abbrev o4 (s : ℕ) : Fin 4 → Nat := ![s, 0, 0, 0]
abbrev c2 (b : ℕ) : Fin 2 → Nat := ![0, 1024 * b]
abbrev c3 (b : ℕ) : Fin 3 → Nat := ![0, 0, 1024 * b]

theorem o1_inb4 (s : Fin 4) : ∀ a, o1 s.val a + S1.size a ≤ S4.size a := by
  have := s.isLt; intro a; fin_cases a; show s.val + 1 ≤ 4; omega
theorem o1_inb2 (s : Fin 2) : ∀ a, o1 s.val a + S1.size a ≤ S2.size a := by
  have := s.isLt; intro a; fin_cases a; show s.val + 1 ≤ 2; omega
theorem o3_inb (s : Fin 4) : ∀ a, o3 s.val a + S1x3072x1024.size a ≤ S4x3072x1024.size a := by
  have := s.isLt; intro a; fin_cases a
  · show s.val + 1 ≤ 4; omega
  · show 0 + 3072 ≤ 3072; omega
  · show 0 + 1024 ≤ 1024; omega
theorem o3_inbN (s : Fin 4) : ∀ a, o3 s.val a + S1x3072x256.size a ≤ S4x3072x1024.size a := by
  have := s.isLt; intro a; fin_cases a
  · show s.val + 1 ≤ 4; omega
  · show 0 + 3072 ≤ 3072; omega
  · show 0 + 256 ≤ 1024; omega
theorem o4_inbD (s : Fin 2) : ∀ a, o4 s.val a + S1x3x7x1024.size a ≤ S2x3x7x1024.size a := by
  have := s.isLt; intro a; fin_cases a
  · show s.val + 1 ≤ 2; omega
  · show 0 + 3 ≤ 3; omega
  · show 0 + 7 ≤ 7; omega
  · show 0 + 1024 ≤ 1024; omega
theorem o4_inbT (s : Fin 2) : ∀ a, o4 s.val a + S1x3x8x1024.size a ≤ S2x3x8x1024.size a := by
  have := s.isLt; intro a; fin_cases a
  · show s.val + 1 ≤ 2; omega
  · show 0 + 3 ≤ 3; omega
  · show 0 + 8 ≤ 8; omega
  · show 0 + 1024 ≤ 1024; omega
theorem c2_inbD (b : Fin 31) : ∀ a, c2 b.val a + S3072x1024.size a ≤ S3072x32000.size a := by
  have := b.isLt; intro a; fin_cases a
  · show 0 + 3072 ≤ 3072; omega
  · show 1024 * b.val + 1024 ≤ 32000; omega
theorem c2_inbT (b : Fin 125) : ∀ a, c2 b.val a + S3072x1024.size a ≤ S3072x128256.size a := by
  have := b.isLt; intro a; fin_cases a
  · show 0 + 3072 ≤ 3072; omega
  · show 1024 * b.val + 1024 ≤ 128256; omega
theorem c3_inbD (b : Fin 31) : ∀ a, c3 b.val a + S3x7x1024.size a ≤ S3x7x32000.size a := by
  have := b.isLt; intro a; fin_cases a
  · show 0 + 3 ≤ 3; omega
  · show 0 + 7 ≤ 7; omega
  · show 1024 * b.val + 1024 ≤ 32000; omega
theorem c3_inbT (b : Fin 125) : ∀ a, c3 b.val a + S3x8x1024.size a ≤ S3x8x128256.size a := by
  have := b.isLt; intro a; fin_cases a
  · show 0 + 3 ≤ 3; omega
  · show 0 + 8 ≤ 8; omega
  · show 1024 * b.val + 1024 ≤ 128256; omega

/-! ## Canonical names -/

/-- Slot `s` of the weight ring, as the body slices and squeezes it; -/
def rslot (s : Fin 4) : Memref sig .tc .vmem S3072x1024 .fp8e4m3 :=
  (ringM.slice (Rect.unit (s := S4x3072x1024) (o3 s.val) S1x3072x1024.size (o3_inb s)) (fun _ => rfl)).squeeze S3072x1024 squeezes_S1x3072x1024_S3072x1024
/-- its first 256 columns (where a weight's last, narrow block lands). -/
def nslot (s : Fin 4) : Memref sig .tc .vmem S3072x256 .fp8e4m3 :=
  (ringM.slice (Rect.unit (s := S4x3072x1024) (o3 s.val) S1x3072x256.size (o3_inbN s)) (fun _ => rfl)).squeeze S3072x256 squeezes_S1x3072x256_S3072x256
/-- Ring slot `s`'s semaphore. -/
def csm (s : Fin 4) : DmaSems sig S_ := (cc0_scratch17.slice (Rect.unit (s := S4) (o1 s.val) S1.size (o1_inb4 s))).squeeze S_ squeezes_S1_S_
/-- Block `b` of the draft weight: columns `1024 b …`. -/
def wdB (b : Fin 31) : Memref sig .tc .hbm S3072x1024 .fp8e4m3 :=
  wdM.slice (Rect.unit (s := S3072x32000) (c2 b.val) S3072x1024.size (c2_inbD b)) (fun _ => rfl)
/-- Block `b` of the target weight. -/
def wtB (b : Fin 125) : Memref sig .tc .hbm S3072x1024 .fp8e4m3 :=
  wtM.slice (Rect.unit (s := S3072x128256) (c2 b.val) S3072x1024.size (c2_inbT b)) (fun _ => rfl)
/-- The last 256 columns of the draft weight; of the target weight. -/
def wdN : Memref sig .tc .hbm S3072x256 .fp8e4m3 :=
  wdM.slice (Rect.unit (s := S3072x32000) ![0, 31744] S3072x256.size inb_S3072x32000_S3072x256_0_31744) (fun _ => rfl)
def wtN : Memref sig .tc .hbm S3072x256 .fp8e4m3 :=
  wtM.slice (Rect.unit (s := S3072x128256) ![0, 128000] S3072x256.size inb_S3072x128256_S3072x256_0_128000) (fun _ => rfl)
/-- Slot `s` of the draft output ring and its semaphore; -/
def dslot (s : Fin 2) : Memref sig .tc .vmem S3x7x1024 .bf16 :=
  (obdM.slice (Rect.unit (s := S2x3x7x1024) (o4 s.val) S1x3x7x1024.size (o4_inbD s)) (fun _ => rfl)).squeeze S3x7x1024 squeezes_S1x3x7x1024_S3x7x1024
def dsm (s : Fin 2) : DmaSems sig S_ := (cc0_scratch20.slice (Rect.unit (s := S2) (o1 s.val) S1.size (o1_inb2 s))).squeeze S_ squeezes_S1_S_
/-- of the target output ring. -/
def tslot (s : Fin 2) : Memref sig .tc .vmem S3x8x1024 .bf16 :=
  (obtM.slice (Rect.unit (s := S2x3x8x1024) (o4 s.val) S1x3x8x1024.size (o4_inbT s)) (fun _ => rfl)).squeeze S3x8x1024 squeezes_S1x3x8x1024_S3x8x1024
def tsm (s : Fin 2) : DmaSems sig S_ := (cc0_scratch19.slice (Rect.unit (s := S2) (o1 s.val) S1.size (o1_inb2 s))).squeeze S_ squeezes_S1_S_
/-- Block `b` of the draft logits; of the target logits. -/
def ldB (b : Fin 31) : Memref sig .tc .hbm S3x7x1024 .bf16 :=
  ldM.slice (Rect.unit (s := S3x7x32000) (c3 b.val) S3x7x1024.size (c3_inbD b)) (fun _ => rfl)
def ltB (b : Fin 125) : Memref sig .tc .hbm S3x8x1024 .bf16 :=
  ltM.slice (Rect.unit (s := S3x8x128256) (c3 b.val) S3x8x1024.size (c3_inbT b)) (fun _ => rfl)

/-! ### The slices are these -/

theorem csm_congr {off : Fin 1 → Nat} {s : Fin 4} (e : off = o1 s.val) (hh) :
    (cc0_scratch17.slice (Rect.unit (s := S4) off S1.size hh)).squeeze S_ squeezes_S1_S_ = csm s :=
  congrArg (fun A : DmaSems sig S1 => A.squeeze S_ squeezes_S1_S_) (SemArray.slice_unit_congr _ e _ _)
theorem dsm_congr {off : Fin 1 → Nat} {s : Fin 2} (e : off = o1 s.val) (hh) :
    (cc0_scratch20.slice (Rect.unit (s := S2) off S1.size hh)).squeeze S_ squeezes_S1_S_ = dsm s :=
  congrArg (fun A : DmaSems sig S1 => A.squeeze S_ squeezes_S1_S_) (SemArray.slice_unit_congr _ e _ _)
theorem tsm_congr {off : Fin 1 → Nat} {s : Fin 2} (e : off = o1 s.val) (hh) :
    (cc0_scratch19.slice (Rect.unit (s := S2) off S1.size hh)).squeeze S_ squeezes_S1_S_ = tsm s :=
  congrArg (fun A : DmaSems sig S1 => A.squeeze S_ squeezes_S1_S_) (SemArray.slice_unit_congr _ e _ _)
theorem rslot_congr {off : Fin 3 → Nat} {s : Fin 4} (e : off = o3 s.val) (hh hs) :
    (ringM.slice (Rect.unit (s := S4x3072x1024) off S1x3072x1024.size hh) hs).squeeze S3072x1024 squeezes_S1x3072x1024_S3072x1024 = rslot s :=
  congrArg (fun M : Memref sig .tc .vmem S1x3072x1024 .fp8e4m3 => M.squeeze S3072x1024 squeezes_S1x3072x1024_S3072x1024) (Memref.slice_unit_congr _ e _ _ _ _)
theorem nslot_congr {off : Fin 3 → Nat} {s : Fin 4} (e : off = o3 s.val) (hh hs) :
    (ringM.slice (Rect.unit (s := S4x3072x1024) off S1x3072x256.size hh) hs).squeeze S3072x256 squeezes_S1x3072x256_S3072x256 = nslot s :=
  congrArg (fun M : Memref sig .tc .vmem S1x3072x256 .fp8e4m3 => M.squeeze S3072x256 squeezes_S1x3072x256_S3072x256) (Memref.slice_unit_congr _ e _ _ _ _)
theorem dslot_congr {off : Fin 4 → Nat} {s : Fin 2} (e : off = o4 s.val) (hh hs) :
    (obdM.slice (Rect.unit (s := S2x3x7x1024) off S1x3x7x1024.size hh) hs).squeeze S3x7x1024 squeezes_S1x3x7x1024_S3x7x1024 = dslot s :=
  congrArg (fun M : Memref sig .tc .vmem S1x3x7x1024 .bf16 => M.squeeze S3x7x1024 squeezes_S1x3x7x1024_S3x7x1024) (Memref.slice_unit_congr _ e _ _ _ _)
theorem tslot_congr {off : Fin 4 → Nat} {s : Fin 2} (e : off = o4 s.val) (hh hs) :
    (obtM.slice (Rect.unit (s := S2x3x8x1024) off S1x3x8x1024.size hh) hs).squeeze S3x8x1024 squeezes_S1x3x8x1024_S3x8x1024 = tslot s :=
  congrArg (fun M : Memref sig .tc .vmem S1x3x8x1024 .bf16 => M.squeeze S3x8x1024 squeezes_S1x3x8x1024_S3x8x1024) (Memref.slice_unit_congr _ e _ _ _ _)
theorem wdB_congr {off : Fin 2 → Nat} {b : Fin 31} (e : off = c2 b.val) (hh hs) :
    wdM.slice (Rect.unit (s := S3072x32000) off S3072x1024.size hh) hs = wdB b := Memref.slice_unit_congr _ e _ _ _ (fun _ => rfl)
theorem wtB_congr {off : Fin 2 → Nat} {b : Fin 125} (e : off = c2 b.val) (hh hs) :
    wtM.slice (Rect.unit (s := S3072x128256) off S3072x1024.size hh) hs = wtB b := Memref.slice_unit_congr _ e _ _ _ (fun _ => rfl)
theorem ldB_congr {off : Fin 3 → Nat} {b : Fin 31} (e : off = c3 b.val) (hh hs) :
    ldM.slice (Rect.unit (s := S3x7x32000) off S3x7x1024.size hh) hs = ldB b := Memref.slice_unit_congr _ e _ _ _ (fun _ => rfl)
theorem ltB_congr {off : Fin 3 → Nat} {b : Fin 125} (e : off = c3 b.val) (hh hs) :
    ltM.slice (Rect.unit (s := S3x8x128256) off S3x8x1024.size hh) hs = ltB b := Memref.slice_unit_congr _ e _ _ _ (fun _ => rfl)

theorem trips1 : k0_t1_loop.trips = 31 := by decide
theorem trips2 : k0_t2_loop.trips = 250 := by decide
theorem trips3 : k0_t3_loop.trips = 125 := by decide
theorem trips4 : k0_t4_loop.trips = 250 := by decide

theorem t1_lt (k : Fin k0_t1_loop.trips) : k.val < 31 := Nat.lt_of_lt_of_eq k.isLt trips1
theorem t3_lt (k : Fin k0_t3_loop.trips) : k.val < 125 := Nat.lt_of_lt_of_eq k.isLt trips3

theorem cond13_iff : ∀ k : Fin k0_t1_loop.trips, k0_cond13 k = 1#1 ↔ k.val + 3 < 31 := by decide +kernel
theorem cond14_iff : ∀ k : Fin k0_t1_loop.trips, k0_cond14 k = 1#1 ↔ k.val = 28 := by decide +kernel
theorem cond15_iff : ∀ k : Fin k0_t1_loop.trips, k0_cond15 k = 1#1 ↔ 29 ≤ k.val := by decide +kernel
theorem cond16_not : ∀ k : Fin k0_t1_loop.trips, ¬k0_cond16 k = 1#1 := by decide +kernel
theorem cond17_iff : ∀ k : Fin k0_t1_loop.trips, k0_cond17 k = 1#1 ↔ 2 ≤ k.val := by decide +kernel
theorem off40_eq : ∀ k : Fin k0_t1_loop.trips, 29 ≤ k.val → k0_off40 k = ![0, 1024 * (k.val - 29)] := by decide +kernel

section Slices1
variable (k : Fin k0_t1_loop.trips)

@[sl_canon] theorem sem1W (hh) : (cc0_scratch17.slice (Rect.unit (s := S4) (k0_off31 k) S1.size hh)).squeeze S_ squeezes_S1_S_ = csm (Ring.sl 4 k.val) :=
  csm_congr (k0_off31_eq k) _
@[sl_canon] theorem slot1W (hh hs) : (ringM.slice (Rect.unit (s := S4x3072x1024) (k0_off32 k) S1x3072x1024.size hh) hs).squeeze S3072x1024 squeezes_S1x3072x1024_S3072x1024 = rslot (Ring.sl 4 k.val) :=
  rslot_congr (k0_off32_eq k) _ _
@[sl_canon] theorem sem1A (hh) : (cc0_scratch17.slice (Rect.unit (s := S4) (k0_off33 k) S1.size hh)).squeeze S_ squeezes_S1_S_ = csm (Ring.sl 4 (k.val + 3)) :=
  csm_congr (k0_off33_eq k) _
@[sl_canon] theorem slot1A (hh hs) : (ringM.slice (Rect.unit (s := S4x3072x1024) (k0_off34 k) S1x3072x1024.size hh) hs).squeeze S3072x1024 squeezes_S1x3072x1024_S3072x1024 = rslot (Ring.sl 4 (k.val + 3)) :=
  rslot_congr (k0_off34_eq k) _ _
@[sl_canon] theorem src1A (h : k.val + 3 < 31) (hh hs) : wdM.slice (Rect.unit (s := S3072x32000) (k0_off35 k) S3072x1024.size hh) hs = wdB (Ring.bk 31 (k.val + 3)) :=
  wdB_congr (by rw [k0_off35_eq, c2, Ring.bk_val h, Nat.mul_add]) _ _
@[sl_canon] theorem sem1B (hh) : (cc0_scratch17.slice (Rect.unit (s := S4) (k0_off36 k) S1.size hh)).squeeze S_ squeezes_S1_S_ = csm (Ring.sl 4 (k.val + 3)) :=
  csm_congr (k0_off36_eq k) _
@[sl_canon] theorem slot1B (hh hs) : (ringM.slice (Rect.unit (s := S4x3072x1024) (k0_off37 k) S1x3072x256.size hh) hs).squeeze S3072x256 squeezes_S1x3072x256_S3072x256 = nslot (Ring.sl 4 (k.val + 3)) :=
  nslot_congr (k0_off37_eq k) _ _
@[sl_canon] theorem sem1C (hh) : (cc0_scratch17.slice (Rect.unit (s := S4) (k0_off38 k) S1.size hh)).squeeze S_ squeezes_S1_S_ = csm (Ring.sl 4 (k.val + 3)) :=
  csm_congr (k0_off38_eq k) _
@[sl_canon] theorem slot1C (hh hs) : (ringM.slice (Rect.unit (s := S4x3072x1024) (k0_off39 k) S1x3072x1024.size hh) hs).squeeze S3072x1024 squeezes_S1x3072x1024_S3072x1024 = rslot (Ring.sl 4 (k.val + 3)) :=
  rslot_congr (k0_off39_eq k) _ _
@[sl_canon] theorem src1C (h : 29 ≤ k.val) (hh hs) : wtM.slice (Rect.unit (s := S3072x128256) (k0_off40 k) S3072x1024.size hh) hs = wtB (Ring.bk 125 (k.val - 29)) :=
  wtB_congr (by rw [off40_eq k h, c2, Ring.bk_val (by have := t1_lt k; omega)]) _ _
@[sl_canon] theorem dsem1W (hh) : (cc0_scratch20.slice (Rect.unit (s := S2) (k0_off43 k) S1.size hh)).squeeze S_ squeezes_S1_S_ = dsm (Ring.sl 2 k.val) :=
  dsm_congr (k0_off43_eq k) _
@[sl_canon] theorem dslot1W (hh hs) : (obdM.slice (Rect.unit (s := S2x3x7x1024) (k0_off44 k) S1x3x7x1024.size hh) hs).squeeze S3x7x1024 squeezes_S1x3x7x1024_S3x7x1024 = dslot (Ring.sl 2 k.val) :=
  dslot_congr (k0_off44_eq k) _ _
@[sl_canon] theorem dsem1I (hh) : (cc0_scratch20.slice (Rect.unit (s := S2) (k0_off74 k) S1.size hh)).squeeze S_ squeezes_S1_S_ = dsm (Ring.sl 2 k.val) :=
  dsm_congr (k0_off74_eq k) _
@[sl_canon] theorem dslot1I (hh hs) : (obdM.slice (Rect.unit (s := S2x3x7x1024) (k0_off76 k) S1x3x7x1024.size hh) hs).squeeze S3x7x1024 squeezes_S1x3x7x1024_S3x7x1024 = dslot (Ring.sl 2 k.val) :=
  dslot_congr (k0_off76_eq k) _ _
@[sl_canon] theorem ddst1I (hh hs) : ldM.slice (Rect.unit (s := S3x7x32000) (k0_off75 k) S3x7x1024.size hh) hs = ldB (Ring.bk 31 k.val) :=
  ldB_congr (by rw [k0_off75_eq, c3, Ring.bk_val (t1_lt k)]) _ _
@[sl_canon] theorem wdN_eq (hh hs) : wdM.slice (Rect.unit (s := S3072x32000) ![0, 31744] S3072x256.size hh) hs = wdN := rfl
@[sl_canon] theorem wtN_eq (hh hs) : wtM.slice (Rect.unit (s := S3072x128256) ![0, 128000] S3072x256.size hh) hs = wtN := rfl

-- the accesses within a slot through the whole buffer, their boxes by the slot's own name
instance (s : ℕ) : ClosedOff (o3 s) := ⟨o3 s, rfl⟩
instance (s : ℕ) : ClosedOff (o4 s) := ⟨o4 s, rfl⟩
instance (s : ℕ) : ClosedOff (c2 s) := ⟨c2 s, rfl⟩
instance (s : ℕ) : ClosedOff (c3 s) := ⟨c3 s, rfl⟩
instance : ClosedOff (k0_off45 k) := ⟨o3 (Ring.sl 4 k.val).val, k0_off45_eq k⟩
instance : ClosedOff (k0_off50 k) := ⟨![(Ring.sl 2 k.val).val, 0, 0, 0], k0_off50_eq k⟩
instance : ClosedOff (k0_off51 k) := ⟨![(Ring.sl 2 k.val).val, 1, 0, 0], k0_off51_eq k⟩
instance : ClosedOff (k0_off52 k) := ⟨![(Ring.sl 2 k.val).val, 2, 0, 0], k0_off52_eq k⟩
instance : ClosedOff (k0_off53 k) := ⟨![(Ring.sl 2 k.val).val, 0, 0, 128], k0_off53_eq k⟩
instance : ClosedOff (k0_off54 k) := ⟨![(Ring.sl 2 k.val).val, 1, 0, 128], k0_off54_eq k⟩
instance : ClosedOff (k0_off55 k) := ⟨![(Ring.sl 2 k.val).val, 2, 0, 128], k0_off55_eq k⟩
instance : ClosedOff (k0_off56 k) := ⟨![(Ring.sl 2 k.val).val, 0, 0, 256], k0_off56_eq k⟩
instance : ClosedOff (k0_off57 k) := ⟨![(Ring.sl 2 k.val).val, 1, 0, 256], k0_off57_eq k⟩
instance : ClosedOff (k0_off58 k) := ⟨![(Ring.sl 2 k.val).val, 2, 0, 256], k0_off58_eq k⟩
instance : ClosedOff (k0_off59 k) := ⟨![(Ring.sl 2 k.val).val, 0, 0, 384], k0_off59_eq k⟩
instance : ClosedOff (k0_off60 k) := ⟨![(Ring.sl 2 k.val).val, 1, 0, 384], k0_off60_eq k⟩
instance : ClosedOff (k0_off61 k) := ⟨![(Ring.sl 2 k.val).val, 2, 0, 384], k0_off61_eq k⟩
instance : ClosedOff (k0_off62 k) := ⟨![(Ring.sl 2 k.val).val, 0, 0, 512], k0_off62_eq k⟩
instance : ClosedOff (k0_off63 k) := ⟨![(Ring.sl 2 k.val).val, 1, 0, 512], k0_off63_eq k⟩
instance : ClosedOff (k0_off64 k) := ⟨![(Ring.sl 2 k.val).val, 2, 0, 512], k0_off64_eq k⟩
instance : ClosedOff (k0_off65 k) := ⟨![(Ring.sl 2 k.val).val, 0, 0, 640], k0_off65_eq k⟩
instance : ClosedOff (k0_off66 k) := ⟨![(Ring.sl 2 k.val).val, 1, 0, 640], k0_off66_eq k⟩
instance : ClosedOff (k0_off67 k) := ⟨![(Ring.sl 2 k.val).val, 2, 0, 640], k0_off67_eq k⟩
instance : ClosedOff (k0_off68 k) := ⟨![(Ring.sl 2 k.val).val, 0, 0, 768], k0_off68_eq k⟩
instance : ClosedOff (k0_off69 k) := ⟨![(Ring.sl 2 k.val).val, 1, 0, 768], k0_off69_eq k⟩
instance : ClosedOff (k0_off70 k) := ⟨![(Ring.sl 2 k.val).val, 2, 0, 768], k0_off70_eq k⟩
instance : ClosedOff (k0_off71 k) := ⟨![(Ring.sl 2 k.val).val, 0, 0, 896], k0_off71_eq k⟩
instance : ClosedOff (k0_off72 k) := ⟨![(Ring.sl 2 k.val).val, 1, 0, 896], k0_off72_eq k⟩
instance : ClosedOff (k0_off73 k) := ⟨![(Ring.sl 2 k.val).val, 2, 0, 896], k0_off73_eq k⟩
end Slices1

theorem cond22_not : ∀ k : Fin k0_t3_loop.trips, ¬k0_cond22 k = 1#1 := by decide +kernel
theorem cond23_not : ∀ k : Fin k0_t3_loop.trips, ¬k0_cond23 k = 1#1 := by decide +kernel
theorem cond24_iff : ∀ k : Fin k0_t3_loop.trips, k0_cond24 k = 1#1 ↔ k.val < 122 := by decide +kernel
theorem cond25_iff : ∀ k : Fin k0_t3_loop.trips, k0_cond25 k = 1#1 ↔ k.val = 122 := by decide +kernel
theorem cond26_iff : ∀ k : Fin k0_t3_loop.trips, k0_cond26 k = 1#1 ↔ 2 ≤ k.val := by decide +kernel

section Slices3
variable (k : Fin k0_t3_loop.trips)

@[sl_canon] theorem sem3W (hh) : (cc0_scratch17.slice (Rect.unit (s := S4) (k0_off88 k) S1.size hh)).squeeze S_ squeezes_S1_S_ = csm (Ring.sl 4 (k.val + 32)) :=
  csm_congr (k0_off88_eq k) _
@[sl_canon] theorem slot3W (hh hs) : (ringM.slice (Rect.unit (s := S4x3072x1024) (k0_off89 k) S1x3072x1024.size hh) hs).squeeze S3072x1024 squeezes_S1x3072x1024_S3072x1024 = rslot (Ring.sl 4 (k.val + 32)) :=
  rslot_congr (k0_off89_eq k) _ _
@[sl_canon] theorem sem3C (hh) : (cc0_scratch17.slice (Rect.unit (s := S4) (k0_off95 k) S1.size hh)).squeeze S_ squeezes_S1_S_ = csm (Ring.sl 4 (k.val + 35)) :=
  csm_congr (k0_off95_eq k) _
@[sl_canon] theorem slot3C (hh hs) : (ringM.slice (Rect.unit (s := S4x3072x1024) (k0_off96 k) S1x3072x1024.size hh) hs).squeeze S3072x1024 squeezes_S1x3072x1024_S3072x1024 = rslot (Ring.sl 4 (k.val + 35)) :=
  rslot_congr (k0_off96_eq k) _ _
@[sl_canon] theorem src3C (h : k.val < 122) (hh hs) : wtM.slice (Rect.unit (s := S3072x128256) (k0_off97 k) S3072x1024.size hh) hs = wtB (Ring.bk 125 (k.val + 3)) :=
  wtB_congr (by rw [k0_off97_eq, c2, Ring.bk_val (by omega), Nat.mul_add]) _ _
@[sl_canon] theorem sem3D (hh) : (cc0_scratch17.slice (Rect.unit (s := S4) (k0_off98 k) S1.size hh)).squeeze S_ squeezes_S1_S_ = csm (Ring.sl 4 (k.val + 35)) :=
  csm_congr (k0_off98_eq k) _
@[sl_canon] theorem slot3D (hh hs) : (ringM.slice (Rect.unit (s := S4x3072x1024) (k0_off99 k) S1x3072x256.size hh) hs).squeeze S3072x256 squeezes_S1x3072x256_S3072x256 = nslot (Ring.sl 4 (k.val + 35)) :=
  nslot_congr (k0_off99_eq k) _ _
@[sl_canon] theorem tsem3W (hh) : (cc0_scratch19.slice (Rect.unit (s := S2) (k0_off100 k) S1.size hh)).squeeze S_ squeezes_S1_S_ = tsm (Ring.sl 2 k.val) :=
  tsm_congr (k0_off100_eq k) _
@[sl_canon] theorem tslot3W (hh hs) : (obtM.slice (Rect.unit (s := S2x3x8x1024) (k0_off101 k) S1x3x8x1024.size hh) hs).squeeze S3x8x1024 squeezes_S1x3x8x1024_S3x8x1024 = tslot (Ring.sl 2 k.val) :=
  tslot_congr (k0_off101_eq k) _ _
@[sl_canon] theorem tsem3I (hh) : (cc0_scratch19.slice (Rect.unit (s := S2) (k0_off128 k) S1.size hh)).squeeze S_ squeezes_S1_S_ = tsm (Ring.sl 2 k.val) :=
  tsm_congr (k0_off128_eq k) _
@[sl_canon] theorem tslot3I (hh hs) : (obtM.slice (Rect.unit (s := S2x3x8x1024) (k0_off130 k) S1x3x8x1024.size hh) hs).squeeze S3x8x1024 squeezes_S1x3x8x1024_S3x8x1024 = tslot (Ring.sl 2 k.val) :=
  tslot_congr (k0_off130_eq k) _ _
@[sl_canon] theorem tdst3I (hh hs) : ltM.slice (Rect.unit (s := S3x8x128256) (k0_off129 k) S3x8x1024.size hh) hs = ltB (Ring.bk 125 k.val) :=
  ltB_congr (by rw [k0_off129_eq, c3, Ring.bk_val (t3_lt k)]) _ _

instance : ClosedOff (k0_off102 k) := ⟨o3 (Ring.sl 4 (k.val + 32)).val, k0_off102_eq k⟩
instance : ClosedOff (k0_off104 k) := ⟨![(Ring.sl 2 k.val).val, 0, 0, 0], k0_off104_eq k⟩
instance : ClosedOff (k0_off105 k) := ⟨![(Ring.sl 2 k.val).val, 1, 0, 0], k0_off105_eq k⟩
instance : ClosedOff (k0_off106 k) := ⟨![(Ring.sl 2 k.val).val, 2, 0, 0], k0_off106_eq k⟩
instance : ClosedOff (k0_off107 k) := ⟨![(Ring.sl 2 k.val).val, 0, 0, 128], k0_off107_eq k⟩
instance : ClosedOff (k0_off108 k) := ⟨![(Ring.sl 2 k.val).val, 1, 0, 128], k0_off108_eq k⟩
instance : ClosedOff (k0_off109 k) := ⟨![(Ring.sl 2 k.val).val, 2, 0, 128], k0_off109_eq k⟩
instance : ClosedOff (k0_off110 k) := ⟨![(Ring.sl 2 k.val).val, 0, 0, 256], k0_off110_eq k⟩
instance : ClosedOff (k0_off111 k) := ⟨![(Ring.sl 2 k.val).val, 1, 0, 256], k0_off111_eq k⟩
instance : ClosedOff (k0_off112 k) := ⟨![(Ring.sl 2 k.val).val, 2, 0, 256], k0_off112_eq k⟩
instance : ClosedOff (k0_off113 k) := ⟨![(Ring.sl 2 k.val).val, 0, 0, 384], k0_off113_eq k⟩
instance : ClosedOff (k0_off114 k) := ⟨![(Ring.sl 2 k.val).val, 1, 0, 384], k0_off114_eq k⟩
instance : ClosedOff (k0_off115 k) := ⟨![(Ring.sl 2 k.val).val, 2, 0, 384], k0_off115_eq k⟩
instance : ClosedOff (k0_off116 k) := ⟨![(Ring.sl 2 k.val).val, 0, 0, 512], k0_off116_eq k⟩
instance : ClosedOff (k0_off117 k) := ⟨![(Ring.sl 2 k.val).val, 1, 0, 512], k0_off117_eq k⟩
instance : ClosedOff (k0_off118 k) := ⟨![(Ring.sl 2 k.val).val, 2, 0, 512], k0_off118_eq k⟩
instance : ClosedOff (k0_off119 k) := ⟨![(Ring.sl 2 k.val).val, 0, 0, 640], k0_off119_eq k⟩
instance : ClosedOff (k0_off120 k) := ⟨![(Ring.sl 2 k.val).val, 1, 0, 640], k0_off120_eq k⟩
instance : ClosedOff (k0_off121 k) := ⟨![(Ring.sl 2 k.val).val, 2, 0, 640], k0_off121_eq k⟩
instance : ClosedOff (k0_off122 k) := ⟨![(Ring.sl 2 k.val).val, 0, 0, 768], k0_off122_eq k⟩
instance : ClosedOff (k0_off123 k) := ⟨![(Ring.sl 2 k.val).val, 1, 0, 768], k0_off123_eq k⟩
instance : ClosedOff (k0_off124 k) := ⟨![(Ring.sl 2 k.val).val, 2, 0, 768], k0_off124_eq k⟩
instance : ClosedOff (k0_off125 k) := ⟨![(Ring.sl 2 k.val).val, 0, 0, 896], k0_off125_eq k⟩
instance : ClosedOff (k0_off126 k) := ⟨![(Ring.sl 2 k.val).val, 1, 0, 896], k0_off126_eq k⟩
instance : ClosedOff (k0_off127 k) := ⟨![(Ring.sl 2 k.val).val, 2, 0, 896], k0_off127_eq k⟩
end Slices3

/-! ## The pieces: a slot, a slot's cell, a read token of a weight, a slot in flight -/

section Pieces
variable (c : Dev nD)

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
/-- Slot `s`'s read token of the draft weight: the columns outside `S` (those inside are lent to a transfer). -/
abbrev tk (s : Fin 4) : PosShare TreeShare := Transfers.shareTok fullShare 4 s
abbrev wdP (WD : Buf (Elt F) (wdM.view.loc (c : Thread nD τ))) (s : Fin 4) : sProp 𝕄 := wdM.view.loc (c : Thread nD τ) ↦[wdM.view.set]{tk s} WD
abbrev wtP (WT : Buf (Elt F) (wtM.view.loc (c : Thread nD τ))) (s : Fin 4) : sProp 𝕄 := wtM.view.loc (c : Thread nD τ) ↦[wtM.view.set]{tk s} WT
end Pieces

end Cert.Proof.KernelIdealRun
-- ==== Proof.KernelIdealVal.lean ====
/-
  The elements of a block of logits: what the stores of a step leave in an output slot, read at an index.
-/
module

public import proofs.«01_k».proof.Proof.KernelIdealNames
public import Idealize.ShloMosaic.Lib.ValueLayout
public import Idealize.ShloMosaic.Lib.Pipeline.ValueKit

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The scaled and rounded product, at an index -/

/-- One element of a block of logits: the product's element times the row's scale and the column's, rounded. -/
def elemZ (a x r : F .f32) : F .bf16 :=
  FloatOps.truncf .bf16 bitsLt_bf16_f32 (FloatOps.mulf a (FloatOps.mulf x (FloatOps.mulf r (Scalar.ofBits .f32 0x3FB6DB6E#32))))

/-- A block of target logits, from its product `A`, the scales `X` of the three batches' rows and the scales `R` of its
    eight groups of columns. -/
def blockT (A : FVec F S32x1024 .f32) (X : Fin 3 → FVec F S8x128 .f32) (R : Fin 8 → FVec F S1x128 .f32) (y : S3x8x1024.Idx) : F .bf16 :=
  elemZ (A (ix2 ⟨8 * (y 0).val + (y 1).val, by have := (y 0).isLt; have := (y 1).isLt; change (y 0).val < 3 at *; change (y 1).val < 8 at *; omega⟩ ⟨(y 2).val, (y 2).isLt⟩))
    (X ⟨(y 0).val, (y 0).isLt⟩ (ix2 ⟨(y 1).val, (y 1).isLt⟩ ⟨(y 2).val % 128, Nat.mod_lt _ (by decide)⟩))
    (R ⟨(y 2).val / 128, by have h : (y 2).val < 1024 := (y 2).isLt; omega⟩ (ix2 0 ⟨(y 2).val % 128, Nat.mod_lt _ (by decide)⟩))

/-- The piece of a block that batch `b` and group `i` store. -/
theorem pieceT (A : FVec F S32x1024 .f32) (X : Fin 3 → FVec F S8x128 .f32) (R : Fin 8 → FVec F S1x128 .f32) (b : Fin 3) (i : Fin 8)
    (off : Fin 2 → ℕ) (hoff : off = ![8 * b.val, 128 * i.val]) (hs : S32x1024.Slices off S8x128) (x : S1x1x8x128.Idx) (y : S3x8x1024.Idx)
    (h0 : (y 0).val = b.val) (h1 : (y 1).val = (x 2).val) (h2 : (y 2).val = 128 * i.val + (x 3).val) :
    shapeCast S1x1x8x128 (truncf .bf16 (mulf (extractStridedSlice S8x128 off A hs) (mulf (X b)
        (broadcastTo S8x128 (shapeCast S1x128 (mulf (R i) (broadcast S1x128 (Scalar.ofBits .f32 0x3FB6DB6E#32))) shapeCasts_S1x128_S1x128) broadcasts_S1x128_S8x128)))
      bitsLt_bf16_f32) shapeCasts_S8x128_S1x1x8x128 x = blockT A X R y := by
  have hx2 : (x 2).val < 8 := (x 2).isLt
  have hx3 : (x 3).val < 128 := (x 3).isLt
  have hx0 : (x 0).val < 1 := (x 0).isLt
  have hx1 : (x 1).val < 1 := (x 1).isLt
  subst hoff
  rw [shapeCast_apply _ shapeCasts_S8x128_S1x1x8x128 x (ix2 ⟨(x 2).val, hx2⟩ ⟨(x 3).val, hx3⟩) (by
    rw [Shape.rowMajor_val_four, Shape.rowMajor_val_two]
    show (x 2).val * 128 + (x 3).val = (((x 0).val * 1 + (x 1).val) * 8 + (x 2).val) * 128 + (x 3).val
    omega)]
  unfold blockT elemZ
  show FloatOps.truncf .bf16 bitsLt_bf16_f32 (FloatOps.mulf _ (FloatOps.mulf _ _)) = _
  congr 2
  · show A _ = A _
    refine congrArg A (funext fun a => Fin.ext ?_)
    fin_cases a
    · show 8 * b.val + (x 2).val = 8 * (y 0).val + (y 1).val; omega
    · show 128 * i.val + (x 3).val = (y 2).val; omega
  · have e0 : (⟨(y 0).val, (y 0).isLt⟩ : Fin 3) = b := Fin.ext h0
    have e2 : (y 2).val % 128 = (x 3).val := by omega
    congr 1
    · rw [e0]
      refine congrArg (X b) (funext fun a => Fin.ext ?_)
      fin_cases a
      · show (x 2).val = (y 1).val; omega
      · show (x 3).val = (y 2).val % 128; omega
    · rw [broadcastTo_apply _ broadcasts_S1x128_S8x128 _ (ix2 0 ⟨(x 3).val, hx3⟩) (fun ax => by
        match ax with
        | ⟨0, _⟩ => rfl
        | ⟨1, _⟩ => rfl), shapeCast_self]
      show FloatOps.mulf _ _ = FloatOps.mulf _ _
      congr 1
      have ei : (⟨(y 2).val / 128, by have h : (y 2).val < 1024 := (y 2).isLt; omega⟩ : Fin 8) = i := Fin.ext (by show (y 2).val / 128 = i.val; omega)
      rw [ei]
      refine congrArg (R i) (funext fun a => Fin.ext ?_)
      fin_cases a
      · rfl
      · show (x 3).val = (y 2).val % 128; omega

/-- One store into an output slot, read at an element of the slot. -/
theorem stepT (A : FVec F S32x1024 .f32) (X : Fin 3 → FVec F S8x128 .f32) (R : Fin 8 → FVec F S1x128 .f32) (s : ℕ) (b : Fin 3) (i : Fin 8)
    (off : Fin 4 → ℕ) (hoff : off = ![s, b.val, 0, 128 * i.val]) (hi : ∀ a, off a + S1x1x8x128.size a ≤ S2x3x8x1024.size a)
    (f : S2x3x8x1024.Idx → Elt F .bf16) (w : S1x1x8x128.Idx → Elt F .bf16) (z : S2x3x8x1024.Idx) (hz : (z 0).val = s) (y : S3x8x1024.Idx)
    (hy : ∀ a : Fin 3, (z a.succ).val = (y a).val)
    (off2 : Fin 2 → ℕ) (hoff2 : off2 = ![8 * b.val, 128 * i.val]) (hs : S32x1024.Slices off2 S8x128)
    (hw : w = shapeCast S1x1x8x128 (truncf .bf16 (mulf (extractStridedSlice S8x128 off2 A hs) (mulf (X b)
        (broadcastTo S8x128 (shapeCast S1x128 (mulf (R i) (broadcast S1x128 (Scalar.ofBits .f32 0x3FB6DB6E#32))) shapeCasts_S1x128_S1x128) broadcasts_S1x128_S8x128)))
      bitsLt_bf16_f32) shapeCasts_S8x128_S1x1x8x128)
    (hf : ¬((y 0).val = b.val ∧ (y 2).val / 128 = i.val) → f z = blockT A X R y) :
    View.write (Elt F) ((Memref.whole cc0_scratch15).access (Rect.unit off S1x1x8x128.size hi)) f w Finset.univ z = blockT A X R y := by
  have hy0 : (z 1).val = (y 0).val := hy 0
  have hy1 : (z 2).val = (y 1).val := hy 1
  have hy2 : (z 3).val = (y 2).val := hy 2
  have l1 : (y 1).val < 8 := (y 1).isLt
  have l2 : (y 2).val < 1024 := (y 2).isLt
  subst hoff
  by_cases h : (y 0).val = b.val ∧ (y 2).val / 128 = i.val
  · let x : S1x1x8x128.Idx := ix4 (0 : Fin 1) (0 : Fin 1) ⟨(y 1).val, l1⟩ ⟨(y 2).val % 128, Nat.mod_lt _ (by decide)⟩
    have hx : ((Memref.whole cc0_scratch15).access (Rect.unit (s := S2x3x8x1024) ![s, b.val, 0, 128 * i.val] S1x1x8x128.size hi)).emb x = z := by
      funext a
      refine Fin.ext ?_
      refine (ValueKit.view_emb_slice_whole_unit_val cc0_scratch15 ![s, b.val, 0, 128 * i.val] S1x1x8x128.size hi x a).trans ?_
      fin_cases a
      · show s + 0 = (z 0).val; omega
      · show b.val + 0 = (z 1).val; omega
      · show 0 + (y 1).val = (z 2).val; omega
      · show 128 * i.val + (y 2).val % 128 = (z 3).val; omega
    rw [← hx]
    refine (View.write_emb_of_mem _ _ (Finset.mem_univ x)).trans ?_
    rw [hw]
    exact pieceT A X R b i off2 hoff2 hs x y h.1 rfl (by show (y 2).val = 128 * i.val + (y 2).val % 128; omega)
  · refine (View.write_of_not_mem _ _ _ ?_).trans (hf h)
    intro hm
    obtain ⟨x, -, hx⟩ := Finset.mem_map.1 hm
    have v : ∀ a, (z a).val = ![s, b.val, 0, 128 * i.val] a + (x a).val := fun a => by
      rw [← hx]; exact ValueKit.view_emb_slice_whole_unit_val cc0_scratch15 ![s, b.val, 0, 128 * i.val] S1x1x8x128.size hi x a
    have v1 : (z 1).val = b.val + (x 1).val := v 1
    have v3 : (z 3).val = 128 * i.val + (x 3).val := v 3
    have x1 : (x 1).val < 1 := (x 1).isLt
    have x3 : (x 3).val < 128 := (x 3).isLt
    refine h ⟨by omega, by omega⟩

/-! ## What a block is computed from -/

/-- The product of the packed states with a block of the weight. -/
def prodT (X8 : S32x3072.Idx → Elt F .fp8e4m3) (W : S3072x1024.Idx → Elt F .fp8e4m3) : FVec F S32x1024 .f32 :=
  matmul dot_S32x3072_S3072x1024_S32x1024_1_0_0_1_n_n none (X8 : FVec F S32x3072 .fp8e4m3) (W : FVec F S3072x1024 .fp8e4m3) (constant S32x1024 .f32 0x00000000#32)

/-- The scales of the eight groups of columns of a block. -/
def rowsT (WTS : S1002x128.Idx → Elt F .f32) (b : Fin 125) (i : Fin 8) : FVec F S1x128 .f32 :=
  fun j => WTS (ix2 ⟨8 * b.val + i.val, by have := b.isLt; have := i.isLt; omega⟩ ⟨(j 1).val, (j 1).isLt⟩)

theorem squeeze3 (p : S3072x1024.Idx) : Shape.reshapeEquiv (squeezes_S1x3072x1024_S3072x1024).numel_eq p
    = (ix3 (0 : Fin 1) ⟨(p 0).val, (p 0).isLt⟩ ⟨(p 1).val, (p 1).isLt⟩ : S1x3072x1024.Idx) := by
  refine shapeCast_apply (s := S1x3072x1024) (t := S3072x1024) (fun z => z) _ p _ ?_
  rw [Shape.rowMajor_val_three, Shape.rowMajor_val_two]
  show ((0 : ℕ) * 3072 + (p 0).val) * 1024 + (p 1).val = (p 0).val * 1024 + (p 1).val
  omega

theorem squeeze4 (p : S3x8x1024.Idx) : Shape.reshapeEquiv (squeezes_S1x3x8x1024_S3x8x1024).numel_eq p
    = (ix4 (0 : Fin 1) ⟨(p 0).val, (p 0).isLt⟩ ⟨(p 1).val, (p 1).isLt⟩ ⟨(p 2).val, (p 2).isLt⟩ : S1x3x8x1024.Idx) := by
  refine shapeCast_apply (s := S1x3x8x1024) (t := S3x8x1024) (fun z => z) _ p _ ?_
  rw [Shape.rowMajor_val_four, Shape.rowMajor_val_three]
  show (((0 : ℕ) * 3 + (p 0).val) * 8 + (p 1).val) * 1024 + (p 2).val = ((p 0).val * 8 + (p 1).val) * 1024 + (p 2).val
  omega

theorem rslot_emb (s : Fin 4) (p : S3072x1024.Idx) : (rslot s).view.emb p
    = (ix3 s ⟨(p 0).val, (p 0).isLt⟩ ⟨(p 1).val, (p 1).isLt⟩ : S4x3072x1024.Idx) := by
  show ((Memref.whole cc0_scratch0).view.slice (Rect.unit (s := S4x3072x1024) (o3 s.val) S1x3072x1024.size (o3_inb s))).emb (Shape.reshapeEquiv (squeezes_S1x3072x1024_S3072x1024).numel_eq p) = _
  rw [squeeze3]
  funext a
  refine Fin.ext ?_
  refine (ValueKit.view_emb_slice_whole_unit_val cc0_scratch0 (o3 s.val) S1x3072x1024.size (o3_inb s) _ a).trans ?_
  fin_cases a
  · show s.val + 0 = s.val; omega
  · show 0 + (p 0).val = (p 0).val; omega
  · show 0 + (p 1).val = (p 1).val; omega

theorem tslot_emb (s : Fin 2) (p : S3x8x1024.Idx) : (tslot s).view.emb p
    = (ix4 s ⟨(p 0).val, (p 0).isLt⟩ ⟨(p 1).val, (p 1).isLt⟩ ⟨(p 2).val, (p 2).isLt⟩ : S2x3x8x1024.Idx) := by
  show ((Memref.whole cc0_scratch15).view.slice (Rect.unit (s := S2x3x8x1024) (o4 s.val) S1x3x8x1024.size (o4_inbT s))).emb (Shape.reshapeEquiv (squeezes_S1x3x8x1024_S3x8x1024).numel_eq p) = _
  rw [squeeze4]
  funext a
  refine Fin.ext ?_
  refine (ValueKit.view_emb_slice_whole_unit_val cc0_scratch15 (o4 s.val) S1x3x8x1024.size (o4_inbT s) _ a).trans ?_
  fin_cases a
  · show s.val + 0 = s.val; omega
  · show 0 + (p 0).val = (p 0).val; omega
  · show 0 + (p 1).val = (p 1).val; omega
  · show 0 + (p 2).val = (p 2).val; omega

theorem slab_read (s : Fin 4) (off : Fin 3 → ℕ) (hoff : off = ![s.val, 0, 0]) (hi : ∀ a, off a + S1x3072x1024.size a ≤ S4x3072x1024.size a)
    (g : S4x3072x1024.Idx → Elt F .fp8e4m3) (w : S3072x1024.Idx → Elt F .fp8e4m3)
    (hg : ∀ p, g (ix3 s ⟨(p 0).val, (p 0).isLt⟩ ⟨(p 1).val, (p 1).isLt⟩ : S4x3072x1024.Idx) = w p) :
    shapeCast S3072x1024 (View.readAt (Elt F) (Memref.whole cc0_scratch0).view (Rect.unit (s := S4x3072x1024) off S1x3072x1024.size hi).toLoadRect g)
      shapeCasts_S1x3072x1024_S3072x1024 = w := by
  subst hoff
  funext p
  refine Eq.trans ?_ (hg p)
  show g _ = g _
  refine congrArg g (funext fun a => Fin.ext ?_)
  refine (ValueKit.view_emb_slice_whole_unit_val cc0_scratch0 ![s.val, 0, 0] S1x3072x1024.size hi (Shape.reshapeEquiv (squeezes_S1x3072x1024_S3072x1024).numel_eq p) a).trans ?_
  rw [squeeze3]
  fin_cases a
  · show s.val + 0 = s.val; omega
  · show 0 + (p 0).val = (p 0).val; omega
  · show 0 + (p 1).val = (p 1).val; omega

theorem land_at (s : Fin 4) (f : (rslot s).view.ty.Contents (Elt F)) (w : S3072x1024.Idx → Elt F .fp8e4m3) (p : S3072x1024.Idx)
    (g : S4x3072x1024.Idx → Elt F .fp8e4m3) (hg : g = (rslot s).view.writes (Elt F) f [⟨Rect.whole S3072x1024, w⟩]) :
    g (ix3 s ⟨(p 0).val, (p 0).isLt⟩ ⟨(p 1).val, (p 1).isLt⟩) = w p := by
  have h := congrFun (View.read_writes_whole (Val := Elt F) (rslot s).view f w) p
  rw [← hg] at h
  refine Eq.trans ?_ h
  show _ = g _
  rw [rslot_emb]

/-- A slot read out is what is held at its elements. -/
theorem read_tslot (s : Fin 2) (f : (tslot s).view.ty.Contents (Elt F)) (y : S3x8x1024.Idx) (v : Elt F .bf16)
    (g : S2x3x8x1024.Idx → Elt F .bf16) (hg : g = f)
    (h : ∀ z : S2x3x8x1024.Idx, (z 0).val = s.val → (∀ a : Fin 3, (z a.succ).val = (y a).val) → g z = v) :
    (ReadAs.same.apply ((tslot s).view.read (Elt F) f) : S3x8x1024.Idx → Elt F .bf16) y = v := by
  have h' := h (ix4 s ⟨(y 0).val, (y 0).isLt⟩ ⟨(y 1).val, (y 1).isLt⟩ ⟨(y 2).val, (y 2).isLt⟩) rfl (by intro a; fin_cases a <;> rfl)
  rw [← tslot_emb] at h'
  refine Eq.trans ?_ h'
  rw [hg]
  rfl

theorem readX8 (X8 : S32x3072.Idx → Elt F .fp8e4m3) (hi : ∀ a, (![0, 0] : Fin 2 → ℕ) a + S32x3072.size a ≤ S32x3072.size a) :
    View.readAt (Elt F) x8M.view (Rect.unit (s := S32x3072) ![0, 0] S32x3072.size hi).toLoadRect X8 = X8 := by
  funext p
  show X8 _ = X8 p
  refine congrArg X8 (funext fun a => Fin.ext ?_)
  refine (ValueKit.view_emb_slice_whole_unit_val cc0_scratch11 ![0, 0] S32x3072.size hi p a).trans ?_
  fin_cases a
  · show 0 + (p 0).val = (p 0).val; omega
  · show 0 + (p 1).val = (p 1).val; omega

theorem readRow (WTS : S1002x128.Idx → Elt F .f32) (b : Fin 125) (i : Fin 8) (off : Fin 2 → ℕ) (hoff : off = ![8 * b.val + i.val, 0])
    (hi : ∀ a, off a + S1x128.size a ≤ S1002x128.size a) :
    View.readAt (Elt F) wtsM.view (Rect.unit (s := S1002x128) off S1x128.size hi).toLoadRect WTS = rowsT WTS b i := by
  subst hoff
  funext p
  show WTS _ = WTS _
  refine congrArg WTS (funext fun a => Fin.ext ?_)
  refine (ValueKit.view_emb_slice_whole_unit_val cc0_scratch5 ![8 * b.val + i.val, 0] S1x128.size hi p a).trans ?_
  have h0 : (p 0).val < 1 := (p 0).isLt
  fin_cases a
  · show 8 * b.val + i.val + (p 0).val = 8 * b.val + i.val; omega
  · show 0 + (p 1).val = (p 1).val; omega

end Cert.Proof.KernelIdealRun
-- ==== Proof.KernelIdealState.lean ====
/-
  What the run of the kernel holds between steps: the four slots of the weight ring, each in flight with the block of the
  step it was issued for or free; the two slots of each output ring, each in flight to a block of the logits or free; the
  blocks of the logits arrays still at home and those already written.
-/
module

public import proofs.«01_k».proof.Proof.KernelIdealVal

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section State
variable (c : Dev nD) (WD : Buf (Elt F) (wdM.view.loc (c : Thread nD τ))) (WT : Buf (Elt F) (wtM.view.loc (c : Thread nD τ)))

/-! ## A slot of the weight ring -/

abbrev nslotP (s : Fin 4) (f : Buf (Elt F) ((nslot s).view.loc (c : Thread nD τ))) : sProp 𝕄 :=
  (nslot s).view.loc (c : Thread nD τ) ↦[(nslot s).view.set]{fullShare} f
/-- The rest of a slot beside its first 256 columns. -/
abbrev rslotR (s : Fin 4) (f : Buf (Elt F) ((rslot s).view.loc (c : Thread nD τ))) : sProp 𝕄 :=
  (rslot s).view.loc (c : Thread nD τ) ↦[(rslot s).view.set \ (nslot s).view.set]{fullShare} f

/-- Slot `s` after block `b` of the draft weight landed in it over `f`; -/
abbrev landD (s : Fin 4) (b : Fin 31) (f : Buf (Elt F) ((rslot s).view.loc (c : Thread nD τ))) : Buf (Elt F) ((rslot s).view.loc (c : Thread nD τ)) :=
  (rslot s).view.writes (Elt F) f [⟨Rect.whole S3072x1024, ReadAs.same.apply ((wdB b).view.read (Elt F) WD)⟩]
/-- block `b` of the target weight; -/
abbrev landT (s : Fin 4) (b : Fin 125) (f : Buf (Elt F) ((rslot s).view.loc (c : Thread nD τ))) : Buf (Elt F) ((rslot s).view.loc (c : Thread nD τ)) :=
  (rslot s).view.writes (Elt F) f [⟨Rect.whole S3072x1024, ReadAs.same.apply ((wtB b).view.read (Elt F) WT)⟩]
/-- the draft weight's last 256 columns; the target weight's. -/
abbrev landDN (s : Fin 4) (f : Buf (Elt F) ((nslot s).view.loc (c : Thread nD τ))) : Buf (Elt F) ((nslot s).view.loc (c : Thread nD τ)) :=
  (nslot s).view.writes (Elt F) f [⟨Rect.whole S3072x256, ReadAs.same.apply (wdN.view.read (Elt F) WD)⟩]
abbrev landTN (s : Fin 4) (f : Buf (Elt F) ((nslot s).view.loc (c : Thread nD τ))) : Buf (Elt F) ((nslot s).view.loc (c : Thread nD τ)) :=
  (nslot s).view.writes (Elt F) f [⟨Rect.whole S3072x256, ReadAs.same.apply (wtN.view.read (Elt F) WT)⟩]

/-- A block's columns under slot `s`'s read token, and the columns around it. -/
abbrev wdBlk (s : Fin 4) (b : Fin 31) : sProp 𝕄 := (wdB b).view.loc (c : Thread nD τ) ↦[(wdB b).view.set]{tk s} WD
abbrev wdRest (s : Fin 4) (b : Fin 31) : sProp 𝕄 := wdM.view.loc (c : Thread nD τ) ↦[wdM.view.set \ (wdB b).view.set]{tk s} WD
abbrev wtBlk (s : Fin 4) (b : Fin 125) : sProp 𝕄 := (wtB b).view.loc (c : Thread nD τ) ↦[(wtB b).view.set]{tk s} WT
abbrev wtRest (s : Fin 4) (b : Fin 125) : sProp 𝕄 := wtM.view.loc (c : Thread nD τ) ↦[wtM.view.set \ (wtB b).view.set]{tk s} WT
abbrev wdNBlk (s : Fin 4) : sProp 𝕄 := wdN.view.loc (c : Thread nD τ) ↦[wdN.view.set]{tk s} WD
abbrev wdNRest (s : Fin 4) : sProp 𝕄 := wdM.view.loc (c : Thread nD τ) ↦[wdM.view.set \ wdN.view.set]{tk s} WD
abbrev wtNBlk (s : Fin 4) : sProp 𝕄 := wtN.view.loc (c : Thread nD τ) ↦[wtN.view.set]{tk s} WT
abbrev wtNRest (s : Fin 4) : sProp 𝕄 := wtM.view.loc (c : Thread nD τ) ↦[wtM.view.set \ wtN.view.set]{tk s} WT

/-- Slot `s` in flight with block `b` of the draft weight; of the target weight; with the narrow last block of either. -/
abbrev flightD (s : Fin 4) (b : Fin 31) : sProp 𝕄 :=
  iprop(∃ f, Transfers.Flight countersEmb (c : Thread nD τ) (SemLoc.dma (csm s).sem) () 98304 iprop(slotP c s (landD c WD s b f) ∗ wdBlk c WD s b))
abbrev flightT (s : Fin 4) (b : Fin 125) : sProp 𝕄 :=
  iprop(∃ f, Transfers.Flight countersEmb (c : Thread nD τ) (SemLoc.dma (csm s).sem) () 98304 iprop(slotP c s (landT c WT s b f) ∗ wtBlk c WT s b))
abbrev flightDN (s : Fin 4) : sProp 𝕄 :=
  iprop(∃ f, Transfers.Flight countersEmb (c : Thread nD τ) (SemLoc.dma (csm s).sem) () 24576 iprop(nslotP c s (landDN c WD s f) ∗ wdNBlk c WD s))
abbrev flightTN (s : Fin 4) : sProp 𝕄 :=
  iprop(∃ f, Transfers.Flight countersEmb (c : Thread nD τ) (SemLoc.dma (csm s).sem) () 24576 iprop(nslotP c s (landTN c WT s f) ∗ wtNBlk c WT s))

/-- Slot `s` free: its cell at zero, its contents anything, its two read tokens whole. -/
abbrev freeS (s : Fin 4) : sProp 𝕄 := iprop((∃ f, slotP c s f) ∗ cellP c s ∗ wdP c WD s ∗ wtP c WT s)

/-- The slot of step `g` of the 158 (31 draft blocks, the narrow one, 125 target blocks, the narrow one): in flight with that
    step's block, past the last step free. -/
def stepF (g : ℕ) : sProp 𝕄 :=
  if g < 31 then iprop(flightD c WD (Ring.sl 4 g) (Ring.bk 31 g) ∗ wdRest c WD (Ring.sl 4 g) (Ring.bk 31 g) ∗ wtP c WT (Ring.sl 4 g))
  else if g = 31 then iprop(flightDN c WD (Ring.sl 4 g) ∗ (∃ f, rslotR c (Ring.sl 4 g) f) ∗ wdNRest c WD (Ring.sl 4 g) ∗ wtP c WT (Ring.sl 4 g))
  else if g < 157 then iprop(flightT c WT (Ring.sl 4 g) (Ring.bk 125 (g - 32)) ∗ wtRest c WT (Ring.sl 4 g) (Ring.bk 125 (g - 32)) ∗ wdP c WD (Ring.sl 4 g))
  else if g = 157 then iprop(flightTN c WT (Ring.sl 4 g) ∗ (∃ f, rslotR c (Ring.sl 4 g) f) ∗ wtNRest c WT (Ring.sl 4 g) ∗ wdP c WD (Ring.sl 4 g))
  else freeS c WD WT (Ring.sl 4 g)

theorem stepF_D (g : ℕ) (h : g < 31) : stepF c WD WT g
    = iprop(flightD c WD (Ring.sl 4 g) (Ring.bk 31 g) ∗ wdRest c WD (Ring.sl 4 g) (Ring.bk 31 g) ∗ wtP c WT (Ring.sl 4 g)) := if_pos h
theorem stepF_DN (g : ℕ) (h : g = 31) : stepF c WD WT g
    = iprop(flightDN c WD (Ring.sl 4 g) ∗ (∃ f, rslotR c (Ring.sl 4 g) f) ∗ wdNRest c WD (Ring.sl 4 g) ∗ wtP c WT (Ring.sl 4 g)) :=
  (if_neg (by omega)).trans (if_pos h)
theorem stepF_T (g : ℕ) (h : 32 ≤ g) (h' : g < 157) : stepF c WD WT g
    = iprop(flightT c WT (Ring.sl 4 g) (Ring.bk 125 (g - 32)) ∗ wtRest c WT (Ring.sl 4 g) (Ring.bk 125 (g - 32)) ∗ wdP c WD (Ring.sl 4 g)) :=
  (if_neg (by omega)).trans ((if_neg (by omega)).trans (if_pos h'))
theorem stepF_TN (g : ℕ) (h : g = 157) : stepF c WD WT g
    = iprop(flightTN c WT (Ring.sl 4 g) ∗ (∃ f, rslotR c (Ring.sl 4 g) f) ∗ wtNRest c WT (Ring.sl 4 g) ∗ wdP c WD (Ring.sl 4 g)) :=
  (if_neg (by omega)).trans ((if_neg (by omega)).trans ((if_neg (by omega)).trans (if_pos h)))
theorem stepF_free (g : ℕ) (h : 158 ≤ g) : stepF c WD WT g = freeS c WD WT (Ring.sl 4 g) :=
  (if_neg (by omega)).trans ((if_neg (by omega)).trans ((if_neg (by omega)).trans (if_neg (by omega))))

/-! ### A token rejoined, a slot cut -/

theorem wdB_sub (b : Fin 31) : (wdB b).view.set ⊆ wdM.view.set := by rw [show wdM.view.set = Finset.univ from View.set_whole _]; exact Finset.subset_univ _
theorem wtB_sub (b : Fin 125) : (wtB b).view.set ⊆ wtM.view.set := by rw [show wtM.view.set = Finset.univ from View.set_whole _]; exact Finset.subset_univ _
theorem wdN_sub : wdN.view.set ⊆ wdM.view.set := by rw [show wdM.view.set = Finset.univ from View.set_whole _]; exact Finset.subset_univ _
theorem wtN_sub : wtN.view.set ⊆ wtM.view.set := by rw [show wtM.view.set = Finset.univ from View.set_whole _]; exact Finset.subset_univ _

theorem wd_join (s : Fin 4) (b : Fin 31) : iprop(wdBlk c WD s b ∗ wdRest c WD s b) ⊢ (wdP c WD s : sProp 𝕄) := (pointsTo_split_subset (wdB_sub b)).2
theorem wt_join (s : Fin 4) (b : Fin 125) : iprop(wtBlk c WT s b ∗ wtRest c WT s b) ⊢ (wtP c WT s : sProp 𝕄) := (pointsTo_split_subset (wtB_sub b)).2
theorem wdN_join (s : Fin 4) : iprop(wdNBlk c WD s ∗ wdNRest c WD s) ⊢ (wdP c WD s : sProp 𝕄) := (pointsTo_split_subset wdN_sub).2
theorem wtN_join (s : Fin 4) : iprop(wtNBlk c WT s ∗ wtNRest c WT s) ⊢ (wtP c WT s : sProp 𝕄) := (pointsTo_split_subset wtN_sub).2

/-- The elements of slot `s`, and of its first 256 columns. -/
abbrev RS (s : Fin 4) : Finset S4x3072x1024.Idx := (Rect.unit (s := S4x3072x1024) (o3 s.val) S1x3072x1024.size (o3_inb s)).set
abbrev NS (s : Fin 4) : Finset S4x3072x1024.Idx := (Rect.unit (s := S4x3072x1024) (o3 s.val) S1x3072x256.size (o3_inbN s)).set
theorem rslot_set (s : Fin 4) : (rslot s).view.set = RS s := (View.set_reshape _ _).trans (View.set_slice_whole _ _)
theorem nslot_set (s : Fin 4) : (nslot s).view.set = NS s := (View.set_reshape _ _).trans (View.set_slice_whole _ _)
theorem mem_RS (s : Fin 4) (y : S4x3072x1024.Idx) : y ∈ RS s ↔ (y 0).val = s.val := by
  rw [Rect.mem_set_unit]
  have h1 : (y 1).val < 3072 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3072; omega
    · show 0 ≤ (y 2).val ∧ (y 2).val < 0 + 1024; omega
theorem NS_sub (s : Fin 4) : NS s ⊆ RS s := by
  intro y hy
  rw [Rect.mem_set_unit] at hy
  have a0 : s.val ≤ (y 0).val ∧ (y 0).val < s.val + 1 := hy 0
  exact (mem_RS s y).2 (by omega)
theorem nslot_sub (s : Fin 4) : (nslot s).view.set ⊆ (rslot s).view.set :=
  (Finset.Subset.trans (nslot_set s).subset (NS_sub s)).trans (rslot_set s).symm.subset
theorem slot_cut (s : Fin 4) (f) : slotP c s f ⊢ (iprop(nslotP c s f ∗ rslotR c s f) : sProp 𝕄) := (pointsTo_split_subset (nslot_sub s)).1
theorem slot_join (s : Fin 4) : iprop((∃ f, nslotP c s f) ∗ (∃ f, rslotR c s f)) ⊢ (iprop(∃ f, slotP c s f) : sProp 𝕄) := by
  iintro ⟨⟨%f, H⟩, ⟨%g, H'⟩⟩
  iexists _
  iapply (pointsTo_join_subset (nslot_sub s))
  isplitl [H]; · iexact H
  iexact H'

/-! ## The output rings and the blocks of the logits -/

abbrev dslotP (s : Fin 2) (f : Buf (Elt F) ((dslot s).view.loc (c : Thread nD τ))) : sProp 𝕄 :=
  (dslot s).view.loc (c : Thread nD τ) ↦[(dslot s).view.set]{fullShare} f
abbrev tslotP (s : Fin 2) (f : Buf (Elt F) ((tslot s).view.loc (c : Thread nD τ))) : sProp 𝕄 :=
  (tslot s).view.loc (c : Thread nD τ) ↦[(tslot s).view.set]{fullShare} f
abbrev dcell (s : Fin 2) : sProp 𝕄 := semVal ((c : Thread nD τ), SemLoc.dma (dsm s).sem) 0
abbrev tcell (s : Fin 2) : sProp 𝕄 := semVal ((c : Thread nD τ), SemLoc.dma (tsm s).sem) 0
abbrev ldBP (b : Fin 31) (f : Buf (Elt F) ((ldB b).view.loc (c : Thread nD τ))) : sProp 𝕄 :=
  (ldB b).view.loc (c : Thread nD τ) ↦[(ldB b).view.set]{fullShare} f
abbrev ltBP (b : Fin 125) (f : Buf (Elt F) ((ltB b).view.loc (c : Thread nD τ))) : sProp 𝕄 :=
  (ltB b).view.loc (c : Thread nD τ) ↦[(ltB b).view.set]{fullShare} f

/-! ### Whole buffers the steps read or write -/

abbrev x8P (X8 : Buf (Elt F) (x8M.view.loc (c : Thread nD τ))) : sProp 𝕄 := x8M.view.loc (c : Thread nD τ) ↦[x8M.view.set]{fullShare} X8
abbrev h8P (H8 : Buf (Elt F) (h8M.view.loc (c : Thread nD τ))) : sProp 𝕄 := h8M.view.loc (c : Thread nD τ) ↦[h8M.view.set]{fullShare} H8
abbrev wdsP (WDS : Buf (Elt F) (wdsM.view.loc (c : Thread nD τ))) : sProp 𝕄 := wdsM.view.loc (c : Thread nD τ) ↦[wdsM.view.set]{fullShare} WDS
abbrev wtsP (WTS : Buf (Elt F) (wtsM.view.loc (c : Thread nD τ))) : sProp 𝕄 := wtsM.view.loc (c : Thread nD τ) ↦[wtsM.view.set]{fullShare} WTS
abbrev zdP (f : Buf (Elt F) (zdM.view.loc (c : Thread nD τ))) : sProp 𝕄 := zdM.view.loc (c : Thread nD τ) ↦[zdM.view.set]{fullShare} f
abbrev zcP (f : Buf (Elt F) (zcM.view.loc (c : Thread nD τ))) : sProp 𝕄 := zcM.view.loc (c : Thread nD τ) ↦[zcM.view.set]{fullShare} f
abbrev d2tP (f : Buf (Elt F) (d2tM.view.loc (c : Thread nD τ))) : sProp 𝕄 := d2tM.view.loc (c : Thread nD τ) ↦[d2tM.view.set]{fullShare} f
abbrev d2tsP (f : Buf (Elt F) (d2tsM.view.loc (c : Thread nD τ))) : sProp 𝕄 := d2tsM.view.loc (c : Thread nD τ) ↦[d2tsM.view.set]{fullShare} f

end State

section Out
variable (c : Dev nD) (WD : Buf (Elt F) (wdM.view.loc (c : Thread nD τ))) (H8 : Buf (Elt F) (h8M.view.loc (c : Thread nD τ)))
  (WDS : Buf (Elt F) (wdsM.view.loc (c : Thread nD τ))) (hs0 hs1 hs2 : FVec F S8x128 .f32)

/-- What a block of the draft logits is to hold. -/
def okD (b : Fin 31) (w : S3x7x1024.Idx → Elt F .bf16) : Prop := let _ := (c, WD, H8, WDS, hs0, hs1, hs2); True

/-- Block `b` of the draft logits written. -/
def ldDone (b : Fin 31) : sProp 𝕄 :=
  iprop(∃ f w, ⌜okD c WD H8 WDS hs0 hs1 hs2 b w⌝ ∗ ldBP c b ((ldB b).view.writes (Elt F) f [⟨Rect.whole S3x7x1024, w⟩]))
def ldHome (b : Fin 31) : sProp 𝕄 := iprop(∃ f, ldBP c b f)
/-- Slot `s` of the draft output ring in flight to block `b`. -/
def outD (s : Fin 2) (b : Fin 31) : sProp 𝕄 :=
  iprop(∃ f w g, ⌜okD c WD H8 WDS hs0 hs1 hs2 b w⌝ ∗ Transfers.Flight countersEmb (c : Thread nD τ) (SemLoc.dma (dsm s).sem) () 1344
    iprop(ldBP c b ((ldB b).view.writes (Elt F) f [⟨Rect.whole S3x7x1024, w⟩]) ∗ dslotP c s g))
/-- The draft output slot of block `k` before block `k`: in flight to block `k - 2` if there is one, else free. -/
def oD (k : ℕ) : sProp 𝕄 :=
  if 2 ≤ k then outD c WD H8 WDS hs0 hs1 hs2 (Ring.sl 2 k) (Ring.bk 31 (k - 2)) else iprop((∃ f, dslotP c (Ring.sl 2 k) f) ∗ dcell c (Ring.sl 2 k))
/-- The blocks of the draft logits before block `k`: those from `k` on at home, those before `k - 2` written. -/
def ldAt (k : ℕ) : sProp 𝕄 :=
  iprop(bigSep (Ring.rangeSet 31 k 31) (ldHome (F := F) c) ∗ bigSep (Ring.rangeSet 31 0 (k - 2)) (ldDone c WD H8 WDS hs0 hs1 hs2))

theorem oD_pos (k : ℕ) (h : 2 ≤ k) : oD c WD H8 WDS hs0 hs1 hs2 k = outD c WD H8 WDS hs0 hs1 hs2 (Ring.sl 2 k) (Ring.bk 31 (k - 2)) := if_pos h
theorem oD_neg (k : ℕ) (h : ¬2 ≤ k) : oD c WD H8 WDS hs0 hs1 hs2 k = iprop((∃ f, dslotP c (Ring.sl 2 k) f) ∗ dcell c (Ring.sl 2 k)) := if_neg h
end Out

section OutT
variable (c : Dev nD) (WT : Buf (Elt F) (wtM.view.loc (c : Thread nD τ))) (X8 : Buf (Elt F) (x8M.view.loc (c : Thread nD τ)))
  (WTS : Buf (Elt F) (wtsM.view.loc (c : Thread nD τ))) (xs0 xs1 xs2 : FVec F S8x128 .f32)

/-- What a block of the target logits is to hold. -/
def okT (b : Fin 125) (w : S3x8x1024.Idx → Elt F .bf16) : Prop :=
  ∀ y, w y = blockT (prodT X8 ((wtB b).view.read (Elt F) WT)) ![xs0, xs1, xs2] (rowsT WTS b) y

def ltDone (b : Fin 125) : sProp 𝕄 :=
  iprop(∃ f w, ⌜okT c WT X8 WTS xs0 xs1 xs2 b w⌝ ∗ ltBP c b ((ltB b).view.writes (Elt F) f [⟨Rect.whole S3x8x1024, w⟩]))
def ltHome (b : Fin 125) : sProp 𝕄 := iprop(∃ f, ltBP c b f)
def outT (s : Fin 2) (b : Fin 125) : sProp 𝕄 :=
  iprop(∃ f w g, ⌜okT c WT X8 WTS xs0 xs1 xs2 b w⌝ ∗ Transfers.Flight countersEmb (c : Thread nD τ) (SemLoc.dma (tsm s).sem) () 1536
    iprop(ltBP c b ((ltB b).view.writes (Elt F) f [⟨Rect.whole S3x8x1024, w⟩]) ∗ tslotP c s g))
def oT (k : ℕ) : sProp 𝕄 :=
  if 2 ≤ k then outT c WT X8 WTS xs0 xs1 xs2 (Ring.sl 2 k) (Ring.bk 125 (k - 2)) else iprop((∃ f, tslotP c (Ring.sl 2 k) f) ∗ tcell c (Ring.sl 2 k))
def ltAt (k : ℕ) : sProp 𝕄 :=
  iprop(bigSep (Ring.rangeSet 125 k 125) (ltHome (F := F) c) ∗ bigSep (Ring.rangeSet 125 0 (k - 2)) (ltDone c WT X8 WTS xs0 xs1 xs2))

theorem oT_pos (k : ℕ) (h : 2 ≤ k) : oT c WT X8 WTS xs0 xs1 xs2 k = outT c WT X8 WTS xs0 xs1 xs2 (Ring.sl 2 k) (Ring.bk 125 (k - 2)) := if_pos h
theorem oT_neg (k : ℕ) (h : ¬2 ≤ k) : oT c WT X8 WTS xs0 xs1 xs2 k = iprop((∃ f, tslotP c (Ring.sl 2 k) f) ∗ tcell c (Ring.sl 2 k)) := if_neg h
end OutT

/-- A piece put aside while a run does not touch it. -/
def Aside (P : sProp 𝕄) : sProp 𝕄 := P
theorem Aside.intro (P : sProp 𝕄) : P ⊢ Aside P := .rfl
theorem Aside.elim (P : sProp 𝕄) : Aside P ⊢ P := .rfl

end Cert.Proof.KernelIdealRun
-- ==== Proof.KernelIdealTrip1.lean ====
/-
  One trip of the loop over the draft weight's 31 full blocks: the block's transfer is waited for, the transfer three steps
  ahead issued, the block's product with the draft states scaled, kept in the draft's log array, rounded into an output
  slot and the slot sent to its block of the draft logits.
-/
module

public import proofs.«01_k».proof.Proof.KernelIdealState

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (WD : Buf (Elt F) (wdM.view.loc (c : Thread nD τ))) (WT : Buf (Elt F) (wtM.view.loc (c : Thread nD τ)))
  (H8 : Buf (Elt F) (h8M.view.loc (c : Thread nD τ))) (WDS : Buf (Elt F) (wdsM.view.loc (c : Thread nD τ)))
  (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)
  (v163 v177 v191 : FVec F S8x128 .f32)

abbrev Acc6 : Type := FVec F S8x128 .f32 × FVec F S8x128 .f32 × FVec F S8x128 .f32 × FVec F S8x128 .f32 × FVec F S8x128 .f32 × FVec F S8x128 .f32
abbrev trip1 (k : Fin k0_t1_loop.trips) (acc : Acc6 (F := F)) : Prog (TpuEff nD τ sig (Elt F) Λ₀ .tc) (Acc6 (F := F)) :=
  k0_t1_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 v163 v177 v191 k acc

/-- What a trip takes, and what it leaves. -/
def pre1 (k : ℕ) : sProp 𝕄 :=
  iprop(stepF c WD WT k ∗ freeS c WD WT (Ring.sl 4 (k + 3)) ∗ oD c WD H8 WDS v163 v177 v191 k ∗ ldHome c (Ring.bk 31 k)
    ∗ h8P c H8 ∗ wdsP c WDS ∗ (∃ f, zdP c f) ∗ (∃ W, owes (c : Thread nD τ) 0 W))
def post1 (k : ℕ) : sProp 𝕄 :=
  iprop(freeS c WD WT (Ring.sl 4 k) ∗ stepF c WD WT (k + 3) ∗ outD c WD H8 WDS v163 v177 v191 (Ring.sl 2 k) (Ring.bk 31 k)
    ∗ (if 2 ≤ k then ldDone c WD H8 WDS v163 v177 v191 (Ring.bk 31 (k - 2)) else emp)
    ∗ h8P c H8 ∗ wdsP c WDS ∗ (∃ f, zdP c f) ∗ (∃ W, owes (c : Thread nD τ) 0 W))

set_option maxHeartbeats 4000000 in
theorem trip1_first (k : Fin k0_t1_loop.trips) (acc : Acc6 (F := F)) (hk : k.val < 2) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : k0_cond13 k = 1#1 := (cond13_iff k).2 (by omega)
  have h14 : ¬k0_cond14 k = 1#1 := fun h => by have := (cond14_iff k).1 h; omega
  have h15 : ¬k0_cond15 k = 1#1 := fun h => by have := (cond15_iff k).1 h; omega
  have h17 : ¬k0_cond17 k = 1#1 := fun h => by have := (cond17_iff k).1 h; omega
  have h16 : ¬k0_cond16 k = 1#1 := cond16_not k
  unfold pre1 post1 ldHome
  rw [stepF_D c WD WT k.val hk31, oD_neg _ _ _ _ _ _ _ _ (by omega)]
  rw [stepF_D c WD WT (k.val + 3) (by omega)]
  rw [if_neg (by omega)]
  unfold outD
  iintro ⟨⟨⟨%f0, HF⟩, HR, HT⟩, ⟨⟨%f1, Hs⟩, Hc, Hwd, Hwt⟩, ⟨⟨%f2, Hd⟩, Hdc⟩, ⟨%f3, Hl⟩, Hh, Hws, ⟨%f4, Hz⟩, ⟨%W, HW⟩⟩
  dsimp only [trip1]
  sl_unfold [k0_t1_body]
  sl_exec_parts
  sl_step
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt]
  · isplitl [Hc]; · iexists f1; iexact Hc
    isplitl [Hwd]; · iexact Hwd
    iexact Hwt
  isplitl [Hdc]
  · iexists _, _, _; isplitr
    on_goal 2 => iexact Hdc
    ipureintro; trivial
  isplitr; · iempintro
  isplitl [Hh]; · iexact Hh
  isplitl [Hws]; · iexact Hws
  isplitl [Hz]; · iexists _; iexact Hz
  iexists _; iexact HW

set_option maxHeartbeats 4000000 in
theorem trip1_full (k : Fin k0_t1_loop.trips) (acc : Acc6 (F := F)) (hk : 2 ≤ k.val) (hk3 : k.val + 3 < 31) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : k0_cond13 k = 1#1 := (cond13_iff k).2 (by omega)
  have h14 : ¬k0_cond14 k = 1#1 := fun h => by have := (cond14_iff k).1 h; omega
  have h15 : ¬k0_cond15 k = 1#1 := fun h => by have := (cond15_iff k).1 h; omega
  have h17 : k0_cond17 k = 1#1 := (cond17_iff k).2 (by omega)
  have h16 : ¬k0_cond16 k = 1#1 := cond16_not k
  unfold pre1 post1 ldHome
  rw [stepF_D c WD WT k.val hk31, oD_pos _ _ _ _ _ _ _ _ (by omega)]
  rw [stepF_D c WD WT (k.val + 3) (by omega)]
  rw [if_pos (by omega)]
  unfold outD ldDone
  iintro ⟨⟨⟨%f0, HF⟩, HR, HT⟩, ⟨⟨%f1, Hs⟩, Hc, Hwd, Hwt⟩, ⟨%fo, %wo, %go, %hwo, Hdc⟩, ⟨%f3, Hl⟩, Hh, Hws, ⟨%f4, Hz⟩, ⟨%W, HW⟩⟩
  dsimp only [trip1]
  sl_unfold [k0_t1_body]
  sl_exec_parts
  sl_step
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt]
  · isplitl [Hc]; · iexists f1; iexact Hc
    isplitl [Hwd]; · iexact Hwd
    iexact Hwt
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hz]; · iexists _; iexact Hz
  iexists _; iexact HW

set_option maxHeartbeats 4000000 in
theorem trip1_narrow (k : Fin k0_t1_loop.trips) (acc : Acc6 (F := F)) (hk : k.val = 28) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : ¬k0_cond13 k = 1#1 := fun h => by have := (cond13_iff k).1 h; omega
  have h14 : k0_cond14 k = 1#1 := (cond14_iff k).2 (by omega)
  have h15 : ¬k0_cond15 k = 1#1 := fun h => by have := (cond15_iff k).1 h; omega
  have h17 : k0_cond17 k = 1#1 := (cond17_iff k).2 (by omega)
  have h16 : ¬k0_cond16 k = 1#1 := cond16_not k
  unfold pre1 post1 ldHome
  rw [stepF_D c WD WT k.val hk31, oD_pos _ _ _ _ _ _ _ _ (by omega)]
  rw [stepF_DN c WD WT (k.val + 3) (by omega)]
  rw [if_pos (by omega)]
  unfold outD ldDone
  iintro ⟨⟨⟨%f0, HF⟩, HR, HT⟩, ⟨⟨%f1, Hs⟩, Hc, Hwd, Hwt⟩, ⟨%fo, %wo, %go, %hwo, Hdc⟩, ⟨%f3, Hl⟩, Hh, Hws, ⟨%f4, Hz⟩, ⟨%W, HW⟩⟩
  ihave Hs2 := (slot_cut c _ f1) $$ Hs
  icases Hs2 with ⟨Hs, HsR⟩
  dsimp only [trip1]
  sl_unfold [k0_t1_body]
  sl_exec_parts
  sl_step
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt HsR]
  · isplitl [Hc]; · iexists f1; iexact Hc
    isplitl [HsR]; · iexists _; iexact HsR
    isplitl [Hwd]; · iexact Hwd
    iexact Hwt
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hz]; · iexists _; iexact Hz
  iexists _; iexact HW

set_option maxHeartbeats 4000000 in
theorem trip1_target (k : Fin k0_t1_loop.trips) (acc : Acc6 (F := F)) (hk : 29 ≤ k.val) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  have hk31 := t1_lt k
  have h13 : ¬k0_cond13 k = 1#1 := fun h => by have := (cond13_iff k).1 h; omega
  have h14 : ¬k0_cond14 k = 1#1 := fun h => by have := (cond14_iff k).1 h; omega
  have h15 : k0_cond15 k = 1#1 := (cond15_iff k).2 (by omega)
  have h17 : k0_cond17 k = 1#1 := (cond17_iff k).2 (by omega)
  have h16 : ¬k0_cond16 k = 1#1 := cond16_not k
  unfold pre1 post1 ldHome
  rw [stepF_D c WD WT k.val hk31, oD_pos _ _ _ _ _ _ _ _ (by omega)]
  rw [stepF_T c WD WT (k.val + 3) (by omega) (by omega), show k.val + 3 - 32 = k.val - 29 by omega]
  rw [if_pos (by omega)]
  unfold outD ldDone
  iintro ⟨⟨⟨%f0, HF⟩, HR, HT⟩, ⟨⟨%f1, Hs⟩, Hc, Hwd, Hwt⟩, ⟨%fo, %wo, %go, %hwo, Hdc⟩, ⟨%f3, Hl⟩, Hh, Hws, ⟨%f4, Hz⟩, ⟨%W, HW⟩⟩
  ihave HT2 := (Aside.intro (wtP c WT (Ring.sl 4 k.val))) $$ HT
  dsimp only [trip1]
  sl_unfold [k0_t1_body]
  sl_exec_parts
  sl_step
  ihave HT := (Aside.elim (wtP c WT (Ring.sl 4 k.val))) $$ HT2
  isplitl [HF_dst HF_src HR HF HT]
  · isplitl [HF_dst]; · iexists _; iexact HF_dst
    isplitl [HF]; · iexact HF
    isplitl [HF_src HR]
    · iapply (wd_join c WD _ _); isplitl [HF_src]; · iexact HF_src
      iexact HR
    iexact HT
  isplitl [Hc Hwd Hwt]
  · isplitl [Hc]; · iexists f1; iexact Hc
    isplitl [Hwt]; · iexact Hwt
    iexact Hwd
  isplitl [Hdc]
  · iexists _, _, _; isplitr
    on_goal 2 => iexact Hdc
    ipureintro; trivial
  isplitl [Hdc_dst]
  · iexists _, _; isplitr
    on_goal 2 => iexact Hdc_dst
    ipureintro; exact hwo
  isplitl [Hh]; · iexact Hh
  isplitl [Hws]; · iexact Hws
  isplitl [Hz]; · iexists _; iexact Hz
  iexists _; iexact HW

theorem trip1_run (k : Fin k0_t1_loop.trips) (acc : Acc6 (F := F)) :
    pre1 c WD WT H8 WDS v163 v177 v191 k.val
    ⊢ wp frame (wpE (defs₀ (F := F)) 𝒱₀ (c : Thread nD τ) none) Set.univ (trip1 arg11 harg11 arg12 harg12 arg13 harg13 arg14 harg14 v163 v177 v191 k acc)
        (fun _ => post1 c WD WT H8 WDS v163 v177 v191 k.val) := by
  by_cases h : k.val < 2
  · exact trip1_first _ _ _ _ _ _ _ _ _ _ _ _ _ _ _ _ k acc h
  by_cases h3 : k.val + 3 < 31
  · exact trip1_full _ _ _ _ _ _ _ _ _ _ _ _ _ _ _ _ k acc (by omega) h3
  by_cases h4 : k.val = 28
  · exact trip1_narrow _ _ _ _ _ _ _ _ _ _ _ _ _ _ _ _ k acc h4
  exact trip1_target _ _ _ _ _ _ _ _ _ _ _ _ _ _ _ _ k acc (by omega)

end Trip

end Cert.Proof.KernelIdealRun
-- ==== Proof.KernelIdealChk.lean ====
module

public import proofs.«01_k».proof.Proof.KernelIdealNames

@[expose] public section

noncomputable section

/-
  The window's row `j` over the draft tokens' blocks: the body reads and writes rows `j` and `min (j + 1) 249`, and moves
  `j` on by one only below 249. So with `0 ≤ j ≤ 249` every row it names exists, whatever words the map holds.
-/
namespace Cert.Proof.KernelIdealRun

open Cert.KernelIdeal Cert.KernelIdeal.Gen
open Idealize.ShloMosaic
open Idealize.ShloMosaic.TcCoe Idealize.ShloMosaic.Tactic

/-- The rows the window's index may take. -/
def Jok (j : BitVec 32) : Prop := j.toNat < 250

theorem Jok.eq {j : BitVec 32} (h : Jok j) : ∃ n : Fin 250, j = BitVec.ofNat 32 n.val :=
  ⟨⟨j.toNat, h⟩, (BitVec.ofNat_toNat 32 j).symm.trans rfl |>.symm ▸ by simp⟩

/-- The index after sub-block `i` of trip `k`, given the map's last word `v` of row `j`. -/
def nx (k : Fin k0_t3_loop.trips) (i : BitVec 32) (j v : BitVec 32) : BitVec 32 :=
  Scalar.addi j (Scalar.extui (Scalar.andi
    (Scalar.cmpi .slt (Scalar.addi (Scalar.addi (Scalar.muli j 128#32) 127#32) v)
      (Scalar.muli (Scalar.addi (Scalar.addi (Scalar.muli (Scf.iv 0#32 1#32 k) 8#32) i) 1#32) 128#32))
    (Scalar.cmpi .slt j 249#32)))

theorem step_all : ∀ n : Fin 250, ∀ b : Bool,
    (Scalar.addi (BitVec.ofNat 32 n.val) (Scalar.extui (Scalar.andi (BitVec.ofBool b) (Scalar.cmpi .slt (BitVec.ofNat 32 n.val) 249#32)))).toNat < 250 := by
  decide +kernel
theorem bit_eq (p : BitVec 1) : ∃ b : Bool, p = BitVec.ofBool b := by
  rcases BitVec.eq_zero_or_eq_one p with h | h
  · exact ⟨false, h⟩
  · exact ⟨true, h⟩
theorem step_ok (j : BitVec 32) (p : BitVec 1) (h : Jok j) :
    Jok (Scalar.addi j (Scalar.extui (Scalar.andi p (Scalar.cmpi .slt j 249#32)))) := by
  obtain ⟨n, rfl⟩ := h.eq
  obtain ⟨b, rfl⟩ := bit_eq p
  exact step_all n b

theorem nx_ok (k : Fin k0_t3_loop.trips) (i j v : BitVec 32) (h : Jok j) : Jok (nx k i j v) := step_ok _ _ h

theorem chk1_all : ∀ n : Fin 250, k0_chk1 (BitVec.ofNat 32 n.val) := by decide +kernel
theorem chk1_ok (j : BitVec 32) (h : Jok j) : k0_chk1 j := by
  obtain ⟨n, rfl⟩ := h.eq
  exact chk1_all n

theorem chk2_ok (k : Fin k0_t3_loop.trips) (j v1 : BitVec 32) (h : Jok j) : k0_chk2 k j v1 :=
  chk1_ok (nx k 0#32 j v1) (nx_ok _ _ _ _ h)
theorem chk3_ok (k : Fin k0_t3_loop.trips) (j v1 v2 : BitVec 32) (h : Jok j) : k0_chk3 k j v1 v2 :=
  chk1_ok (nx k 1#32 (nx k 0#32 j v1) v2) (nx_ok _ _ _ _ (nx_ok _ _ _ _ h))
theorem chk4_ok (k : Fin k0_t3_loop.trips) (j v1 v2 v3 : BitVec 32) (h : Jok j) : k0_chk4 k j v1 v2 v3 :=
  chk1_ok (nx k 2#32 (nx k 1#32 (nx k 0#32 j v1) v2) v3) (nx_ok _ _ _ _ (nx_ok _ _ _ _ (nx_ok _ _ _ _ h)))
theorem chk5_ok (k : Fin k0_t3_loop.trips) (j v1 v2 v3 v4 : BitVec 32) (h : Jok j) : k0_chk5 k j v1 v2 v3 v4 :=
  chk1_ok (nx k 3#32 (nx k 2#32 (nx k 1#32 (nx k 0#32 j v1) v2) v3) v4) (nx_ok _ _ _ _ (nx_ok _ _ _ _ (nx_ok _ _ _ _ (nx_ok _ _ _ _ h))))
theorem chk6_ok (k : Fin k0_t3_loop.trips) (j v1 v2 v3 v4 v5 : BitVec 32) (h : Jok j) : k0_chk6 k j v1 v2 v3 v4 v5 :=
  chk1_ok (nx k 4#32 (nx k 3#32 (nx k 2#32 (nx k 1#32 (nx k 0#32 j v1) v2) v3) v4) v5) (nx_ok _ _ _ _ (nx_ok _ _ _ _ (nx_ok _ _ _ _ (nx_ok _ _ _ _ (nx_ok _ _ _ _ h)))))
theorem chk7_ok (k : Fin k0_t3_loop.trips) (j v1 v2 v3 v4 v5 v6 : BitVec 32) (h : Jok j) : k0_chk7 k j v1 v2 v3 v4 v5 v6 :=
  chk1_ok (nx k 5#32 (nx k 4#32 (nx k 3#32 (nx k 2#32 (nx k 1#32 (nx k 0#32 j v1) v2) v3) v4) v5) v6) (nx_ok _ _ _ _ (nx_ok _ _ _ _ (nx_ok _ _ _ _ (nx_ok _ _ _ _ (nx_ok _ _ _ _ (nx_ok _ _ _ _ h))))))
theorem chk8_ok (k : Fin k0_t3_loop.trips) (j v1 v2 v3 v4 v5 v6 v7 : BitVec 32) (h : Jok j) : k0_chk8 k j v1 v2 v3 v4 v5 v6 v7 :=
  chk1_ok (nx k 6#32 (nx k 5#32 (nx k 4#32 (nx k 3#32 (nx k 2#32 (nx k 1#32 (nx k 0#32 j v1) v2) v3) v4) v5) v6) v7) (nx_ok _ _ _ _ (nx_ok _ _ _ _ (nx_ok _ _ _ _ (nx_ok _ _ _ _ (nx_ok _ _ _ _ (nx_ok _ _ _ _ (nx_ok _ _ _ _ h)))))))
theorem chk9_ok (j : BitVec 32) (h : Jok j) : k0_chk9 j := chk1_ok j h

end Cert.Proof.KernelIdealRun
-- ==== Proof.KernelIdealTrip3.lean ====
/-
  One trip of the loop over the target weight's 125 full blocks: the block's transfer is waited for, the transfer three steps
  ahead issued, the block's product with the target states scaled, rounded into an output slot and the slot sent to its
  block of the target logits; the window over the draft tokens moves on, and stays within its 250 rows.
-/
module

public import proofs.«01_k».proof.Proof.KernelIdealState
public import proofs.«01_k».proof.Proof.KernelIdealChk

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (WD : Buf (Elt F) (wdM.view.loc (c : Thread nD τ))) (WT : Buf (Elt F) (wtM.view.loc (c : Thread nD τ)))
  (X8 : Buf (Elt F) (x8M.view.loc (c : Thread nD τ))) (WTS : Buf (Elt F) (wtsM.view.loc (c : Thread nD τ)))
  (D2 : Buf (Elt F) (d2tM.view.loc (c : Thread nD τ))) (D2S : Buf (Elt F) (d2tsM.view.loc (c : Thread nD τ)))
  (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)
  (v121 v135 v149 : FVec F S8x128 .f32) (v206 v207 : IVec S8x128 32) (v208 v209 v210 v211 v212 v213 : FVec F S8x128 .f32)
  (v437 v473 v474 : IVec S8x128 32) (v476 : IVec S8x128 1) (v478 : IVec S8x128 32) (v482 v487 v492 v497 v502 v507 : Elt F .i32)

abbrev Acc7 : Type := FVec F S8x128 .f32 × FVec F S8x128 .f32 × FVec F S8x128 .f32 × FVec F S8x128 .f32 × FVec F S8x128 .f32 × FVec F S8x128 .f32 × BitVec 32
abbrev trip3 (k : Fin k0_t3_loop.trips) (acc : Acc7 (F := F)) : Prog (TpuEff nD τ sig (Elt F) Λ₀ .tc) (Acc7 (F := F)) :=
  k0_t3_body (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 v121 v135 v149 v206 v207 v208 v209 v210 v211 v212 v213 v437 v473 v474 v476 v478 v482 v487 v492 v497 v502 v507 k acc

/-- What a trip takes, and what it leaves. -/
def pre3 (k : ℕ) : sProp 𝕄 :=
  iprop(stepF c WD WT (k + 32) ∗ freeS c WD WT (Ring.sl 4 (k + 35)) ∗ oT c WT X8 WTS v121 v135 v149 k ∗ ltHome c (Ring.bk 125 k)
    ∗ x8P c X8 ∗ wtsP c WTS ∗ d2tP c D2 ∗ d2tsP c D2S ∗ (∃ f, zcP c f) ∗ (∃ W, owes (c : Thread nD τ) 0 W))
def post3 (k : ℕ) (r : Acc7 (F := F)) : sProp 𝕄 :=
  iprop(⌜Jok r.2.2.2.2.2.2⌝ ∗ freeS c WD WT (Ring.sl 4 (k + 32)) ∗ stepF c WD WT (k + 35) ∗ outT c WT X8 WTS v121 v135 v149 (Ring.sl 2 k) (Ring.bk 125 k)
    ∗ (if 2 ≤ k then ltDone c WT X8 WTS v121 v135 v149 (Ring.bk 125 (k - 2)) else emp)
    ∗ x8P c X8 ∗ wtsP c WTS ∗ d2tP c D2 ∗ d2tsP c D2S ∗ (∃ f, zcP c f) ∗ (∃ W, owes (c : Thread nD τ) 0 W))

set_option maxHeartbeats 8000000 in
set_option maxRecDepth 4096 in
theorem trip3_first (k : Fin k0_t3_loop.trips) (acc : Acc7 (F := F)) (hk : k.val < 2) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : k0_cond24 k = 1#1 := (cond24_iff k).2 (by omega)
  have h25 : ¬k0_cond25 k = 1#1 := fun h => by have := (cond25_iff k).1 h; omega
  have h26 : ¬k0_cond26 k = 1#1 := fun h => by have := (cond26_iff k).1 h; omega
  have h22 : ¬k0_cond22 k = 1#1 := cond22_not k
  have h23 : ¬k0_cond23 k = 1#1 := cond23_not k
  unfold pre3 post3 ltHome
  rw [stepF_T c WD WT (k.val + 32) (by omega) (by omega), oT_neg _ _ _ _ _ _ _ _ (by omega), show k.val + 32 - 32 = k.val by omega]
  rw [stepF_T c WD WT (k.val + 35) (by omega) (by omega), show k.val + 35 - 32 = k.val + 3 by omega]
  simp only [if_neg (show ¬2 ≤ k.val by omega)]
  unfold outT
  iintro ⟨⟨⟨%f0, HF⟩, HR, HT⟩, ⟨⟨%f1, Hs⟩, Hc, Hwd, Hwt⟩, ⟨⟨%f2, Hd⟩, Hdc⟩, ⟨%f3, Hl⟩, Hh, Hws, Hd2, Hd2s, ⟨%f4, Hz⟩, ⟨%W, HW⟩⟩
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [Hc Hwd Hwt]
  · isplitl [Hc]; · iexists f1; iexact Hc
    isplitl [Hwt]; · iexact Hwt
    iexact Hwd
  isplitl [Hdc]
  · iexists _, _, _; isplitr
    on_goal 2 => iexact Hdc
    ipureintro
    unfold okT
    intro y
    have hbk : (Ring.bk 125 k.val).val = k.val := by show k.val % 125 = k.val; omega
    have l0 : (y 0).val < 3 := (y 0).isLt
    have l2 : (y 2).val < 1024 := (y 2).isLt
    have he : (y 0).val = 0 ∨ (y 0).val = 1 ∨ (y 0).val = 2 := by omega
    have hq : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    have hA : prodT X8 ((wtB (Ring.bk 125 k.val)).view.read (Elt F) WT) = k0_pay96 (trip3_first.sl.r c X8) (trip3_first.sl.v1596 c WT k) := by
      have e1 := readX8 (F := F) X8 (by intro a; fin_cases a <;> decide)
      have e2 : shapeCast S3072x1024 (trip3_first.sl.v1596 c WT k) shapeCasts_S1x3072x1024_S3072x1024 = (wtB (Ring.bk 125 k.val)).view.read (Elt F) WT := by
        unfold trip3_first.sl.v1596
        exact slab_read (F := F) (Ring.sl 4 (k.val + 32)) _ (k0_off102_eq k) _ _ _ (fun p => land_at (F := F) (Ring.sl 4 (k.val + 32)) _ _ p _ rfl)
      show matmul dot_S32x3072_S3072x1024_S32x1024_1_0_0_1_n_n none _ _ _ = matmul dot_S32x3072_S3072x1024_S32x1024_1_0_0_1_n_n none _ _ _
      exact congrArg₂ (fun a b => matmul dot_S32x3072_S3072x1024_S32x1024_1_0_0_1_n_n none a b (constant S32x1024 .f32 0x00000000#32)) e1.symm e2.symm
    rw [hA]
    have hR0 : View.readAt (Elt F) wtsM.view (Rect.unit (s := S1002x128) (k0_off103 k 0#32) S1x128.size (k0_off103_inb k 0)).toLoadRect WTS = rowsT WTS (Ring.bk 125 k.val) 0 :=
      readRow (F := F) WTS (Ring.bk 125 k.val) 0 _ ((k0_off103_eq k 0).trans (by rw [hbk])) _
    have hR1 : View.readAt (Elt F) wtsM.view (Rect.unit (s := S1002x128) (k0_off103 k 1#32) S1x128.size (k0_off103_inb k 1)).toLoadRect WTS = rowsT WTS (Ring.bk 125 k.val) 1 :=
      readRow (F := F) WTS (Ring.bk 125 k.val) 1 _ ((k0_off103_eq k 1).trans (by rw [hbk])) _
    have hR2 : View.readAt (Elt F) wtsM.view (Rect.unit (s := S1002x128) (k0_off103 k 2#32) S1x128.size (k0_off103_inb k 2)).toLoadRect WTS = rowsT WTS (Ring.bk 125 k.val) 2 :=
      readRow (F := F) WTS (Ring.bk 125 k.val) 2 _ ((k0_off103_eq k 2).trans (by rw [hbk])) _
    have hR3 : View.readAt (Elt F) wtsM.view (Rect.unit (s := S1002x128) (k0_off103 k 3#32) S1x128.size (k0_off103_inb k 3)).toLoadRect WTS = rowsT WTS (Ring.bk 125 k.val) 3 :=
      readRow (F := F) WTS (Ring.bk 125 k.val) 3 _ ((k0_off103_eq k 3).trans (by rw [hbk])) _
    have hR4 : View.readAt (Elt F) wtsM.view (Rect.unit (s := S1002x128) (k0_off103 k 4#32) S1x128.size (k0_off103_inb k 4)).toLoadRect WTS = rowsT WTS (Ring.bk 125 k.val) 4 :=
      readRow (F := F) WTS (Ring.bk 125 k.val) 4 _ ((k0_off103_eq k 4).trans (by rw [hbk])) _
    have hR5 : View.readAt (Elt F) wtsM.view (Rect.unit (s := S1002x128) (k0_off103 k 5#32) S1x128.size (k0_off103_inb k 5)).toLoadRect WTS = rowsT WTS (Ring.bk 125 k.val) 5 :=
      readRow (F := F) WTS (Ring.bk 125 k.val) 5 _ ((k0_off103_eq k 5).trans (by rw [hbk])) _
    have hR6 : View.readAt (Elt F) wtsM.view (Rect.unit (s := S1002x128) (k0_off103 k 6#32) S1x128.size (k0_off103_inb k 6)).toLoadRect WTS = rowsT WTS (Ring.bk 125 k.val) 6 :=
      readRow (F := F) WTS (Ring.bk 125 k.val) 6 _ ((k0_off103_eq k 6).trans (by rw [hbk])) _
    have hR7 : View.readAt (Elt F) wtsM.view (Rect.unit (s := S1002x128) (k0_off103 k 7#32) S1x128.size (k0_off103_inb k 7)).toLoadRect WTS = rowsT WTS (Ring.bk 125 k.val) 7 :=
      readRow (F := F) WTS (Ring.bk 125 k.val) 7 _ ((k0_off103_eq k 7).trans (by rw [hbk])) _
    unfold trip3_first.sl.dma58
    refine read_tslot (F := F) (Ring.sl 2 k.val) _ y _ _ rfl ?_
    intro z hz0 hy
    have hz : (z 0).val = k.val % 2 := hz0
    clear hz0
    refine stepT _ ![v121, v135, v149] _ (k.val % 2) 2 7 _ (k0_off127_eq k) _ _ _ z hz y hy ![16, 896] rfl slices_S32x1024_o16_896_S8x128 (by rw [← hR7]; rfl) fun h24 => ?_
    refine stepT _ ![v121, v135, v149] _ (k.val % 2) 1 7 _ (k0_off126_eq k) _ _ _ z hz y hy ![8, 896] rfl slices_S32x1024_o8_896_S8x128 (by rw [← hR7]; rfl) fun h23 => ?_
    refine stepT _ ![v121, v135, v149] _ (k.val % 2) 0 7 _ (k0_off125_eq k) _ _ _ z hz y hy ![0, 896] rfl slices_S32x1024_o0_896_S8x128 (by rw [← hR7]; rfl) fun h22 => ?_
    refine stepT _ ![v121, v135, v149] _ (k.val % 2) 2 6 _ (k0_off124_eq k) _ _ _ z hz y hy ![16, 768] rfl slices_S32x1024_o16_768_S8x128 (by rw [← hR6]; rfl) fun h21 => ?_
    refine stepT _ ![v121, v135, v149] _ (k.val % 2) 1 6 _ (k0_off123_eq k) _ _ _ z hz y hy ![8, 768] rfl slices_S32x1024_o8_768_S8x128 (by rw [← hR6]; rfl) fun h20 => ?_
    refine stepT _ ![v121, v135, v149] _ (k.val % 2) 0 6 _ (k0_off122_eq k) _ _ _ z hz y hy ![0, 768] rfl slices_S32x1024_o0_768_S8x128 (by rw [← hR6]; rfl) fun h19 => ?_
    refine stepT _ ![v121, v135, v149] _ (k.val % 2) 2 5 _ (k0_off121_eq k) _ _ _ z hz y hy ![16, 640] rfl slices_S32x1024_o16_640_S8x128 (by rw [← hR5]; rfl) fun h18 => ?_
    refine stepT _ ![v121, v135, v149] _ (k.val % 2) 1 5 _ (k0_off120_eq k) _ _ _ z hz y hy ![8, 640] rfl slices_S32x1024_o8_640_S8x128 (by rw [← hR5]; rfl) fun h17 => ?_
    refine stepT _ ![v121, v135, v149] _ (k.val % 2) 0 5 _ (k0_off119_eq k) _ _ _ z hz y hy ![0, 640] rfl slices_S32x1024_o0_640_S8x128 (by rw [← hR5]; rfl) fun h16 => ?_
    refine stepT _ ![v121, v135, v149] _ (k.val % 2) 2 4 _ (k0_off118_eq k) _ _ _ z hz y hy ![16, 512] rfl slices_S32x1024_o16_512_S8x128 (by rw [← hR4]; rfl) fun h15 => ?_
    refine stepT _ ![v121, v135, v149] _ (k.val % 2) 1 4 _ (k0_off117_eq k) _ _ _ z hz y hy ![8, 512] rfl slices_S32x1024_o8_512_S8x128 (by rw [← hR4]; rfl) fun h14 => ?_
    refine stepT _ ![v121, v135, v149] _ (k.val % 2) 0 4 _ (k0_off116_eq k) _ _ _ z hz y hy ![0, 512] rfl slices_S32x1024_o0_512_S8x128 (by rw [← hR4]; rfl) fun h13 => ?_
    refine stepT _ ![v121, v135, v149] _ (k.val % 2) 2 3 _ (k0_off115_eq k) _ _ _ z hz y hy ![16, 384] rfl slices_S32x1024_o16_384_S8x128 (by rw [← hR3]; rfl) fun h12 => ?_
    refine stepT _ ![v121, v135, v149] _ (k.val % 2) 1 3 _ (k0_off114_eq k) _ _ _ z hz y hy ![8, 384] rfl slices_S32x1024_o8_384_S8x128 (by rw [← hR3]; rfl) fun h11 => ?_
    refine stepT _ ![v121, v135, v149] _ (k.val % 2) 0 3 _ (k0_off113_eq k) _ _ _ z hz y hy ![0, 384] rfl slices_S32x1024_o0_384_S8x128 (by rw [← hR3]; rfl) fun h10 => ?_
    refine stepT _ ![v121, v135, v149] _ (k.val % 2) 2 2 _ (k0_off112_eq k) _ _ _ z hz y hy ![16, 256] rfl slices_S32x1024_o16_256_S8x128 (by rw [← hR2]; rfl) fun h9 => ?_
    refine stepT _ ![v121, v135, v149] _ (k.val % 2) 1 2 _ (k0_off111_eq k) _ _ _ z hz y hy ![8, 256] rfl slices_S32x1024_o8_256_S8x128 (by rw [← hR2]; rfl) fun h8 => ?_
    refine stepT _ ![v121, v135, v149] _ (k.val % 2) 0 2 _ (k0_off110_eq k) _ _ _ z hz y hy ![0, 256] rfl slices_S32x1024_o0_256_S8x128 (by rw [← hR2]; rfl) fun h7 => ?_
    refine stepT _ ![v121, v135, v149] _ (k.val % 2) 2 1 _ (k0_off109_eq k) _ _ _ z hz y hy ![16, 128] rfl slices_S32x1024_o16_128_S8x128 (by rw [← hR1]; rfl) fun h6 => ?_
    refine stepT _ ![v121, v135, v149] _ (k.val % 2) 1 1 _ (k0_off108_eq k) _ _ _ z hz y hy ![8, 128] rfl slices_S32x1024_o8_128_S8x128 (by rw [← hR1]; rfl) fun h5 => ?_
    refine stepT _ ![v121, v135, v149] _ (k.val % 2) 0 1 _ (k0_off107_eq k) _ _ _ z hz y hy ![0, 128] rfl slices_S32x1024_o0_128_S8x128 (by rw [← hR1]; rfl) fun h4 => ?_
    refine stepT _ ![v121, v135, v149] _ (k.val % 2) 2 0 _ (k0_off106_eq k) _ _ _ z hz y hy ![16, 0] rfl slices_S32x1024_o16_0_S8x128 (by rw [← hR0]; rfl) fun h3 => ?_
    refine stepT _ ![v121, v135, v149] _ (k.val % 2) 1 0 _ (k0_off105_eq k) _ _ _ z hz y hy ![8, 0] rfl slices_S32x1024_o8_0_S8x128 (by rw [← hR0]; rfl) fun h2 => ?_
    refine stepT _ ![v121, v135, v149] _ (k.val % 2) 0 0 _ (k0_off104_eq k) _ _ _ z hz y hy ![0, 0] rfl slices_S32x1024_o0_0_S8x128 (by rw [← hR0]; rfl) fun h1 => ?_
    exfalso
    replace h1 : ¬((y 0).val = 0 ∧ (y 2).val / 128 = 0) := h1
    replace h2 : ¬((y 0).val = 1 ∧ (y 2).val / 128 = 0) := h2
    replace h3 : ¬((y 0).val = 2 ∧ (y 2).val / 128 = 0) := h3
    replace h4 : ¬((y 0).val = 0 ∧ (y 2).val / 128 = 1) := h4
    replace h5 : ¬((y 0).val = 1 ∧ (y 2).val / 128 = 1) := h5
    replace h6 : ¬((y 0).val = 2 ∧ (y 2).val / 128 = 1) := h6
    replace h7 : ¬((y 0).val = 0 ∧ (y 2).val / 128 = 2) := h7
    replace h8 : ¬((y 0).val = 1 ∧ (y 2).val / 128 = 2) := h8
    replace h9 : ¬((y 0).val = 2 ∧ (y 2).val / 128 = 2) := h9
    replace h10 : ¬((y 0).val = 0 ∧ (y 2).val / 128 = 3) := h10
    replace h11 : ¬((y 0).val = 1 ∧ (y 2).val / 128 = 3) := h11
    replace h12 : ¬((y 0).val = 2 ∧ (y 2).val / 128 = 3) := h12
    replace h13 : ¬((y 0).val = 0 ∧ (y 2).val / 128 = 4) := h13
    replace h14 : ¬((y 0).val = 1 ∧ (y 2).val / 128 = 4) := h14
    replace h15 : ¬((y 0).val = 2 ∧ (y 2).val / 128 = 4) := h15
    replace h16 : ¬((y 0).val = 0 ∧ (y 2).val / 128 = 5) := h16
    replace h17 : ¬((y 0).val = 1 ∧ (y 2).val / 128 = 5) := h17
    replace h18 : ¬((y 0).val = 2 ∧ (y 2).val / 128 = 5) := h18
    replace h19 : ¬((y 0).val = 0 ∧ (y 2).val / 128 = 6) := h19
    replace h20 : ¬((y 0).val = 1 ∧ (y 2).val / 128 = 6) := h20
    replace h21 : ¬((y 0).val = 2 ∧ (y 2).val / 128 = 6) := h21
    replace h22 : ¬((y 0).val = 0 ∧ (y 2).val / 128 = 7) := h22
    replace h23 : ¬((y 0).val = 1 ∧ (y 2).val / 128 = 7) := h23
    replace h24 : ¬((y 0).val = 2 ∧ (y 2).val / 128 = 7) := h24
    rcases he with e | e | e <;> rcases hq with q | q | q | q | q | q | q | q
    · exact h1 ⟨e, q⟩
    · exact h4 ⟨e, q⟩
    · exact h7 ⟨e, q⟩
    · exact h10 ⟨e, q⟩
    · exact h13 ⟨e, q⟩
    · exact h16 ⟨e, q⟩
    · exact h19 ⟨e, q⟩
    · exact h22 ⟨e, q⟩
    · exact h2 ⟨e, q⟩
    · exact h5 ⟨e, q⟩
    · exact h8 ⟨e, q⟩
    · exact h11 ⟨e, q⟩
    · exact h14 ⟨e, q⟩
    · exact h17 ⟨e, q⟩
    · exact h20 ⟨e, q⟩
    · exact h23 ⟨e, q⟩
    · exact h3 ⟨e, q⟩
    · exact h6 ⟨e, q⟩
    · exact h9 ⟨e, q⟩
    · exact h12 ⟨e, q⟩
    · exact h15 ⟨e, q⟩
    · exact h18 ⟨e, q⟩
    · exact h21 ⟨e, q⟩
    · exact h24 ⟨e, q⟩
  isplitr; · iempintro
  isplitl [Hh]; · iexact Hh
  isplitl [Hws]; · iexact Hws
  isplitl [Hd2]; · iexact Hd2
  isplitl [Hd2s]; · iexact Hd2s
  isplitl [Hz]; · iexists _; iexact Hz
  iexists _; iexact HW

set_option maxHeartbeats 8000000 in
set_option maxRecDepth 4096 in
theorem trip3_full (k : Fin k0_t3_loop.trips) (acc : Acc7 (F := F)) (hk : 2 ≤ k.val) (hk3 : k.val < 122) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : k0_cond24 k = 1#1 := (cond24_iff k).2 (by omega)
  have h25 : ¬k0_cond25 k = 1#1 := fun h => by have := (cond25_iff k).1 h; omega
  have h26 : k0_cond26 k = 1#1 := (cond26_iff k).2 (by omega)
  have h22 : ¬k0_cond22 k = 1#1 := cond22_not k
  have h23 : ¬k0_cond23 k = 1#1 := cond23_not k
  unfold pre3 post3 ltHome
  rw [stepF_T c WD WT (k.val + 32) (by omega) (by omega), oT_pos _ _ _ _ _ _ _ _ (by omega), show k.val + 32 - 32 = k.val by omega]
  rw [stepF_T c WD WT (k.val + 35) (by omega) (by omega), show k.val + 35 - 32 = k.val + 3 by omega]
  simp only [if_pos (show 2 ≤ k.val by omega)]
  unfold outT ltDone
  iintro ⟨⟨⟨%f0, HF⟩, HR, HT⟩, ⟨⟨%f1, Hs⟩, Hc, Hwd, Hwt⟩, ⟨%fo, %wo, %go, %hwo, Hdc⟩, ⟨%f3, Hl⟩, Hh, Hws, Hd2, Hd2s, ⟨%f4, Hz⟩, ⟨%W, HW⟩⟩
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [Hc Hwd Hwt]
  · isplitl [Hc]; · iexists f1; iexact Hc
    isplitl [Hwt]; · iexact Hwt
    iexact Hwd
  isplitl [Hdc]
  · iexists _, _, _; isplitr
    on_goal 2 => iexact Hdc
    ipureintro
    unfold okT
    intro y
    have hbk : (Ring.bk 125 k.val).val = k.val := by show k.val % 125 = k.val; omega
    have l0 : (y 0).val < 3 := (y 0).isLt
    have l2 : (y 2).val < 1024 := (y 2).isLt
    have he : (y 0).val = 0 ∨ (y 0).val = 1 ∨ (y 0).val = 2 := by omega
    have hq : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    have hA : prodT X8 ((wtB (Ring.bk 125 k.val)).view.read (Elt F) WT) = k0_pay96 (trip3_full.sl.r c X8) (trip3_full.sl.v1596 c WT k) := by
      have e1 := readX8 (F := F) X8 (by intro a; fin_cases a <;> decide)
      have e2 : shapeCast S3072x1024 (trip3_full.sl.v1596 c WT k) shapeCasts_S1x3072x1024_S3072x1024 = (wtB (Ring.bk 125 k.val)).view.read (Elt F) WT := by
        unfold trip3_full.sl.v1596
        exact slab_read (F := F) (Ring.sl 4 (k.val + 32)) _ (k0_off102_eq k) _ _ _ (fun p => land_at (F := F) (Ring.sl 4 (k.val + 32)) _ _ p _ rfl)
      show matmul dot_S32x3072_S3072x1024_S32x1024_1_0_0_1_n_n none _ _ _ = matmul dot_S32x3072_S3072x1024_S32x1024_1_0_0_1_n_n none _ _ _
      exact congrArg₂ (fun a b => matmul dot_S32x3072_S3072x1024_S32x1024_1_0_0_1_n_n none a b (constant S32x1024 .f32 0x00000000#32)) e1.symm e2.symm
    rw [hA]
    have hR0 : View.readAt (Elt F) wtsM.view (Rect.unit (s := S1002x128) (k0_off103 k 0#32) S1x128.size (k0_off103_inb k 0)).toLoadRect WTS = rowsT WTS (Ring.bk 125 k.val) 0 :=
      readRow (F := F) WTS (Ring.bk 125 k.val) 0 _ ((k0_off103_eq k 0).trans (by rw [hbk])) _
    have hR1 : View.readAt (Elt F) wtsM.view (Rect.unit (s := S1002x128) (k0_off103 k 1#32) S1x128.size (k0_off103_inb k 1)).toLoadRect WTS = rowsT WTS (Ring.bk 125 k.val) 1 :=
      readRow (F := F) WTS (Ring.bk 125 k.val) 1 _ ((k0_off103_eq k 1).trans (by rw [hbk])) _
    have hR2 : View.readAt (Elt F) wtsM.view (Rect.unit (s := S1002x128) (k0_off103 k 2#32) S1x128.size (k0_off103_inb k 2)).toLoadRect WTS = rowsT WTS (Ring.bk 125 k.val) 2 :=
      readRow (F := F) WTS (Ring.bk 125 k.val) 2 _ ((k0_off103_eq k 2).trans (by rw [hbk])) _
    have hR3 : View.readAt (Elt F) wtsM.view (Rect.unit (s := S1002x128) (k0_off103 k 3#32) S1x128.size (k0_off103_inb k 3)).toLoadRect WTS = rowsT WTS (Ring.bk 125 k.val) 3 :=
      readRow (F := F) WTS (Ring.bk 125 k.val) 3 _ ((k0_off103_eq k 3).trans (by rw [hbk])) _
    have hR4 : View.readAt (Elt F) wtsM.view (Rect.unit (s := S1002x128) (k0_off103 k 4#32) S1x128.size (k0_off103_inb k 4)).toLoadRect WTS = rowsT WTS (Ring.bk 125 k.val) 4 :=
      readRow (F := F) WTS (Ring.bk 125 k.val) 4 _ ((k0_off103_eq k 4).trans (by rw [hbk])) _
    have hR5 : View.readAt (Elt F) wtsM.view (Rect.unit (s := S1002x128) (k0_off103 k 5#32) S1x128.size (k0_off103_inb k 5)).toLoadRect WTS = rowsT WTS (Ring.bk 125 k.val) 5 :=
      readRow (F := F) WTS (Ring.bk 125 k.val) 5 _ ((k0_off103_eq k 5).trans (by rw [hbk])) _
    have hR6 : View.readAt (Elt F) wtsM.view (Rect.unit (s := S1002x128) (k0_off103 k 6#32) S1x128.size (k0_off103_inb k 6)).toLoadRect WTS = rowsT WTS (Ring.bk 125 k.val) 6 :=
      readRow (F := F) WTS (Ring.bk 125 k.val) 6 _ ((k0_off103_eq k 6).trans (by rw [hbk])) _
    have hR7 : View.readAt (Elt F) wtsM.view (Rect.unit (s := S1002x128) (k0_off103 k 7#32) S1x128.size (k0_off103_inb k 7)).toLoadRect WTS = rowsT WTS (Ring.bk 125 k.val) 7 :=
      readRow (F := F) WTS (Ring.bk 125 k.val) 7 _ ((k0_off103_eq k 7).trans (by rw [hbk])) _
    unfold trip3_full.sl.dma58
    refine read_tslot (F := F) (Ring.sl 2 k.val) _ y _ _ rfl ?_
    intro z hz0 hy
    have hz : (z 0).val = k.val % 2 := hz0
    clear hz0
    refine stepT _ ![v121, v135, v149] _ (k.val % 2) 2 7 _ (k0_off127_eq k) _ _ _ z hz y hy ![16, 896] rfl slices_S32x1024_o16_896_S8x128 (by rw [← hR7]; rfl) fun h24 => ?_
    refine stepT _ ![v121, v135, v149] _ (k.val % 2) 1 7 _ (k0_off126_eq k) _ _ _ z hz y hy ![8, 896] rfl slices_S32x1024_o8_896_S8x128 (by rw [← hR7]; rfl) fun h23 => ?_
    refine stepT _ ![v121, v135, v149] _ (k.val % 2) 0 7 _ (k0_off125_eq k) _ _ _ z hz y hy ![0, 896] rfl slices_S32x1024_o0_896_S8x128 (by rw [← hR7]; rfl) fun h22 => ?_
    refine stepT _ ![v121, v135, v149] _ (k.val % 2) 2 6 _ (k0_off124_eq k) _ _ _ z hz y hy ![16, 768] rfl slices_S32x1024_o16_768_S8x128 (by rw [← hR6]; rfl) fun h21 => ?_
    refine stepT _ ![v121, v135, v149] _ (k.val % 2) 1 6 _ (k0_off123_eq k) _ _ _ z hz y hy ![8, 768] rfl slices_S32x1024_o8_768_S8x128 (by rw [← hR6]; rfl) fun h20 => ?_
    refine stepT _ ![v121, v135, v149] _ (k.val % 2) 0 6 _ (k0_off122_eq k) _ _ _ z hz y hy ![0, 768] rfl slices_S32x1024_o0_768_S8x128 (by rw [← hR6]; rfl) fun h19 => ?_
    refine stepT _ ![v121, v135, v149] _ (k.val % 2) 2 5 _ (k0_off121_eq k) _ _ _ z hz y hy ![16, 640] rfl slices_S32x1024_o16_640_S8x128 (by rw [← hR5]; rfl) fun h18 => ?_
    refine stepT _ ![v121, v135, v149] _ (k.val % 2) 1 5 _ (k0_off120_eq k) _ _ _ z hz y hy ![8, 640] rfl slices_S32x1024_o8_640_S8x128 (by rw [← hR5]; rfl) fun h17 => ?_
    refine stepT _ ![v121, v135, v149] _ (k.val % 2) 0 5 _ (k0_off119_eq k) _ _ _ z hz y hy ![0, 640] rfl slices_S32x1024_o0_640_S8x128 (by rw [← hR5]; rfl) fun h16 => ?_
    refine stepT _ ![v121, v135, v149] _ (k.val % 2) 2 4 _ (k0_off118_eq k) _ _ _ z hz y hy ![16, 512] rfl slices_S32x1024_o16_512_S8x128 (by rw [← hR4]; rfl) fun h15 => ?_
    refine stepT _ ![v121, v135, v149] _ (k.val % 2) 1 4 _ (k0_off117_eq k) _ _ _ z hz y hy ![8, 512] rfl slices_S32x1024_o8_512_S8x128 (by rw [← hR4]; rfl) fun h14 => ?_
    refine stepT _ ![v121, v135, v149] _ (k.val % 2) 0 4 _ (k0_off116_eq k) _ _ _ z hz y hy ![0, 512] rfl slices_S32x1024_o0_512_S8x128 (by rw [← hR4]; rfl) fun h13 => ?_
    refine stepT _ ![v121, v135, v149] _ (k.val % 2) 2 3 _ (k0_off115_eq k) _ _ _ z hz y hy ![16, 384] rfl slices_S32x1024_o16_384_S8x128 (by rw [← hR3]; rfl) fun h12 => ?_
    refine stepT _ ![v121, v135, v149] _ (k.val % 2) 1 3 _ (k0_off114_eq k) _ _ _ z hz y hy ![8, 384] rfl slices_S32x1024_o8_384_S8x128 (by rw [← hR3]; rfl) fun h11 => ?_
    refine stepT _ ![v121, v135, v149] _ (k.val % 2) 0 3 _ (k0_off113_eq k) _ _ _ z hz y hy ![0, 384] rfl slices_S32x1024_o0_384_S8x128 (by rw [← hR3]; rfl) fun h10 => ?_
    refine stepT _ ![v121, v135, v149] _ (k.val % 2) 2 2 _ (k0_off112_eq k) _ _ _ z hz y hy ![16, 256] rfl slices_S32x1024_o16_256_S8x128 (by rw [← hR2]; rfl) fun h9 => ?_
    refine stepT _ ![v121, v135, v149] _ (k.val % 2) 1 2 _ (k0_off111_eq k) _ _ _ z hz y hy ![8, 256] rfl slices_S32x1024_o8_256_S8x128 (by rw [← hR2]; rfl) fun h8 => ?_
    refine stepT _ ![v121, v135, v149] _ (k.val % 2) 0 2 _ (k0_off110_eq k) _ _ _ z hz y hy ![0, 256] rfl slices_S32x1024_o0_256_S8x128 (by rw [← hR2]; rfl) fun h7 => ?_
    refine stepT _ ![v121, v135, v149] _ (k.val % 2) 2 1 _ (k0_off109_eq k) _ _ _ z hz y hy ![16, 128] rfl slices_S32x1024_o16_128_S8x128 (by rw [← hR1]; rfl) fun h6 => ?_
    refine stepT _ ![v121, v135, v149] _ (k.val % 2) 1 1 _ (k0_off108_eq k) _ _ _ z hz y hy ![8, 128] rfl slices_S32x1024_o8_128_S8x128 (by rw [← hR1]; rfl) fun h5 => ?_
    refine stepT _ ![v121, v135, v149] _ (k.val % 2) 0 1 _ (k0_off107_eq k) _ _ _ z hz y hy ![0, 128] rfl slices_S32x1024_o0_128_S8x128 (by rw [← hR1]; rfl) fun h4 => ?_
    refine stepT _ ![v121, v135, v149] _ (k.val % 2) 2 0 _ (k0_off106_eq k) _ _ _ z hz y hy ![16, 0] rfl slices_S32x1024_o16_0_S8x128 (by rw [← hR0]; rfl) fun h3 => ?_
    refine stepT _ ![v121, v135, v149] _ (k.val % 2) 1 0 _ (k0_off105_eq k) _ _ _ z hz y hy ![8, 0] rfl slices_S32x1024_o8_0_S8x128 (by rw [← hR0]; rfl) fun h2 => ?_
    refine stepT _ ![v121, v135, v149] _ (k.val % 2) 0 0 _ (k0_off104_eq k) _ _ _ z hz y hy ![0, 0] rfl slices_S32x1024_o0_0_S8x128 (by rw [← hR0]; rfl) fun h1 => ?_
    exfalso
    replace h1 : ¬((y 0).val = 0 ∧ (y 2).val / 128 = 0) := h1
    replace h2 : ¬((y 0).val = 1 ∧ (y 2).val / 128 = 0) := h2
    replace h3 : ¬((y 0).val = 2 ∧ (y 2).val / 128 = 0) := h3
    replace h4 : ¬((y 0).val = 0 ∧ (y 2).val / 128 = 1) := h4
    replace h5 : ¬((y 0).val = 1 ∧ (y 2).val / 128 = 1) := h5
    replace h6 : ¬((y 0).val = 2 ∧ (y 2).val / 128 = 1) := h6
    replace h7 : ¬((y 0).val = 0 ∧ (y 2).val / 128 = 2) := h7
    replace h8 : ¬((y 0).val = 1 ∧ (y 2).val / 128 = 2) := h8
    replace h9 : ¬((y 0).val = 2 ∧ (y 2).val / 128 = 2) := h9
    replace h10 : ¬((y 0).val = 0 ∧ (y 2).val / 128 = 3) := h10
    replace h11 : ¬((y 0).val = 1 ∧ (y 2).val / 128 = 3) := h11
    replace h12 : ¬((y 0).val = 2 ∧ (y 2).val / 128 = 3) := h12
    replace h13 : ¬((y 0).val = 0 ∧ (y 2).val / 128 = 4) := h13
    replace h14 : ¬((y 0).val = 1 ∧ (y 2).val / 128 = 4) := h14
    replace h15 : ¬((y 0).val = 2 ∧ (y 2).val / 128 = 4) := h15
    replace h16 : ¬((y 0).val = 0 ∧ (y 2).val / 128 = 5) := h16
    replace h17 : ¬((y 0).val = 1 ∧ (y 2).val / 128 = 5) := h17
    replace h18 : ¬((y 0).val = 2 ∧ (y 2).val / 128 = 5) := h18
    replace h19 : ¬((y 0).val = 0 ∧ (y 2).val / 128 = 6) := h19
    replace h20 : ¬((y 0).val = 1 ∧ (y 2).val / 128 = 6) := h20
    replace h21 : ¬((y 0).val = 2 ∧ (y 2).val / 128 = 6) := h21
    replace h22 : ¬((y 0).val = 0 ∧ (y 2).val / 128 = 7) := h22
    replace h23 : ¬((y 0).val = 1 ∧ (y 2).val / 128 = 7) := h23
    replace h24 : ¬((y 0).val = 2 ∧ (y 2).val / 128 = 7) := h24
    rcases he with e | e | e <;> rcases hq with q | q | q | q | q | q | q | q
    · exact h1 ⟨e, q⟩
    · exact h4 ⟨e, q⟩
    · exact h7 ⟨e, q⟩
    · exact h10 ⟨e, q⟩
    · exact h13 ⟨e, q⟩
    · exact h16 ⟨e, q⟩
    · exact h19 ⟨e, q⟩
    · exact h22 ⟨e, q⟩
    · exact h2 ⟨e, q⟩
    · exact h5 ⟨e, q⟩
    · exact h8 ⟨e, q⟩
    · exact h11 ⟨e, q⟩
    · exact h14 ⟨e, q⟩
    · exact h17 ⟨e, q⟩
    · exact h20 ⟨e, q⟩
    · exact h23 ⟨e, q⟩
    · exact h3 ⟨e, q⟩
    · exact h6 ⟨e, q⟩
    · exact h9 ⟨e, q⟩
    · exact h12 ⟨e, q⟩
    · exact h15 ⟨e, q⟩
    · exact h18 ⟨e, q⟩
    · exact h21 ⟨e, q⟩
    · exact h24 ⟨e, q⟩
  isplitl [Hdc_dst]
  · iexists _, _; isplitr
    on_goal 2 => iexact Hdc_dst
    ipureintro; exact hwo
  isplitl [Hh]; · iexact Hh
  isplitl [Hws]; · iexact Hws
  isplitl [Hd2]; · iexact Hd2
  isplitl [Hd2s]; · iexact Hd2s
  isplitl [Hz]; · iexists _; iexact Hz
  iexists _; iexact HW

set_option maxHeartbeats 8000000 in
set_option maxRecDepth 4096 in
theorem trip3_narrow (k : Fin k0_t3_loop.trips) (acc : Acc7 (F := F)) (hk : k.val = 122) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : ¬k0_cond24 k = 1#1 := fun h => by have := (cond24_iff k).1 h; omega
  have h25 : k0_cond25 k = 1#1 := (cond25_iff k).2 (by omega)
  have h26 : k0_cond26 k = 1#1 := (cond26_iff k).2 (by omega)
  have h22 : ¬k0_cond22 k = 1#1 := cond22_not k
  have h23 : ¬k0_cond23 k = 1#1 := cond23_not k
  unfold pre3 post3 ltHome
  rw [stepF_T c WD WT (k.val + 32) (by omega) (by omega), oT_pos _ _ _ _ _ _ _ _ (by omega), show k.val + 32 - 32 = k.val by omega]
  rw [stepF_TN c WD WT (k.val + 35) (by omega)]
  simp only [if_pos (show 2 ≤ k.val by omega)]
  unfold outT ltDone
  iintro ⟨⟨⟨%f0, HF⟩, HR, HT⟩, ⟨⟨%f1, Hs⟩, Hc, Hwd, Hwt⟩, ⟨%fo, %wo, %go, %hwo, Hdc⟩, ⟨%f3, Hl⟩, Hh, Hws, Hd2, Hd2s, ⟨%f4, Hz⟩, ⟨%W, HW⟩⟩
  ihave Hs2 := (slot_cut c _ f1) $$ Hs
  icases Hs2 with ⟨Hs, HsR⟩
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [Hc Hwd Hwt HsR]
  · isplitl [Hc]; · iexists f1; iexact Hc
    isplitl [HsR]; · iexists _; iexact HsR
    isplitl [Hwt]; · iexact Hwt
    iexact Hwd
  isplitl [Hdc]
  · iexists _, _, _; isplitr
    on_goal 2 => iexact Hdc
    ipureintro
    unfold okT
    intro y
    have hbk : (Ring.bk 125 k.val).val = k.val := by show k.val % 125 = k.val; omega
    have l0 : (y 0).val < 3 := (y 0).isLt
    have l2 : (y 2).val < 1024 := (y 2).isLt
    have he : (y 0).val = 0 ∨ (y 0).val = 1 ∨ (y 0).val = 2 := by omega
    have hq : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    have hA : prodT X8 ((wtB (Ring.bk 125 k.val)).view.read (Elt F) WT) = k0_pay96 (trip3_narrow.sl.r c X8) (trip3_narrow.sl.v1596 c WT k) := by
      have e1 := readX8 (F := F) X8 (by intro a; fin_cases a <;> decide)
      have e2 : shapeCast S3072x1024 (trip3_narrow.sl.v1596 c WT k) shapeCasts_S1x3072x1024_S3072x1024 = (wtB (Ring.bk 125 k.val)).view.read (Elt F) WT := by
        unfold trip3_narrow.sl.v1596
        exact slab_read (F := F) (Ring.sl 4 (k.val + 32)) _ (k0_off102_eq k) _ _ _ (fun p => land_at (F := F) (Ring.sl 4 (k.val + 32)) _ _ p _ rfl)
      show matmul dot_S32x3072_S3072x1024_S32x1024_1_0_0_1_n_n none _ _ _ = matmul dot_S32x3072_S3072x1024_S32x1024_1_0_0_1_n_n none _ _ _
      exact congrArg₂ (fun a b => matmul dot_S32x3072_S3072x1024_S32x1024_1_0_0_1_n_n none a b (constant S32x1024 .f32 0x00000000#32)) e1.symm e2.symm
    rw [hA]
    have hR0 : View.readAt (Elt F) wtsM.view (Rect.unit (s := S1002x128) (k0_off103 k 0#32) S1x128.size (k0_off103_inb k 0)).toLoadRect WTS = rowsT WTS (Ring.bk 125 k.val) 0 :=
      readRow (F := F) WTS (Ring.bk 125 k.val) 0 _ ((k0_off103_eq k 0).trans (by rw [hbk])) _
    have hR1 : View.readAt (Elt F) wtsM.view (Rect.unit (s := S1002x128) (k0_off103 k 1#32) S1x128.size (k0_off103_inb k 1)).toLoadRect WTS = rowsT WTS (Ring.bk 125 k.val) 1 :=
      readRow (F := F) WTS (Ring.bk 125 k.val) 1 _ ((k0_off103_eq k 1).trans (by rw [hbk])) _
    have hR2 : View.readAt (Elt F) wtsM.view (Rect.unit (s := S1002x128) (k0_off103 k 2#32) S1x128.size (k0_off103_inb k 2)).toLoadRect WTS = rowsT WTS (Ring.bk 125 k.val) 2 :=
      readRow (F := F) WTS (Ring.bk 125 k.val) 2 _ ((k0_off103_eq k 2).trans (by rw [hbk])) _
    have hR3 : View.readAt (Elt F) wtsM.view (Rect.unit (s := S1002x128) (k0_off103 k 3#32) S1x128.size (k0_off103_inb k 3)).toLoadRect WTS = rowsT WTS (Ring.bk 125 k.val) 3 :=
      readRow (F := F) WTS (Ring.bk 125 k.val) 3 _ ((k0_off103_eq k 3).trans (by rw [hbk])) _
    have hR4 : View.readAt (Elt F) wtsM.view (Rect.unit (s := S1002x128) (k0_off103 k 4#32) S1x128.size (k0_off103_inb k 4)).toLoadRect WTS = rowsT WTS (Ring.bk 125 k.val) 4 :=
      readRow (F := F) WTS (Ring.bk 125 k.val) 4 _ ((k0_off103_eq k 4).trans (by rw [hbk])) _
    have hR5 : View.readAt (Elt F) wtsM.view (Rect.unit (s := S1002x128) (k0_off103 k 5#32) S1x128.size (k0_off103_inb k 5)).toLoadRect WTS = rowsT WTS (Ring.bk 125 k.val) 5 :=
      readRow (F := F) WTS (Ring.bk 125 k.val) 5 _ ((k0_off103_eq k 5).trans (by rw [hbk])) _
    have hR6 : View.readAt (Elt F) wtsM.view (Rect.unit (s := S1002x128) (k0_off103 k 6#32) S1x128.size (k0_off103_inb k 6)).toLoadRect WTS = rowsT WTS (Ring.bk 125 k.val) 6 :=
      readRow (F := F) WTS (Ring.bk 125 k.val) 6 _ ((k0_off103_eq k 6).trans (by rw [hbk])) _
    have hR7 : View.readAt (Elt F) wtsM.view (Rect.unit (s := S1002x128) (k0_off103 k 7#32) S1x128.size (k0_off103_inb k 7)).toLoadRect WTS = rowsT WTS (Ring.bk 125 k.val) 7 :=
      readRow (F := F) WTS (Ring.bk 125 k.val) 7 _ ((k0_off103_eq k 7).trans (by rw [hbk])) _
    unfold trip3_narrow.sl.dma58
    refine read_tslot (F := F) (Ring.sl 2 k.val) _ y _ _ rfl ?_
    intro z hz0 hy
    have hz : (z 0).val = k.val % 2 := hz0
    clear hz0
    refine stepT _ ![v121, v135, v149] _ (k.val % 2) 2 7 _ (k0_off127_eq k) _ _ _ z hz y hy ![16, 896] rfl slices_S32x1024_o16_896_S8x128 (by rw [← hR7]; rfl) fun h24 => ?_
    refine stepT _ ![v121, v135, v149] _ (k.val % 2) 1 7 _ (k0_off126_eq k) _ _ _ z hz y hy ![8, 896] rfl slices_S32x1024_o8_896_S8x128 (by rw [← hR7]; rfl) fun h23 => ?_
    refine stepT _ ![v121, v135, v149] _ (k.val % 2) 0 7 _ (k0_off125_eq k) _ _ _ z hz y hy ![0, 896] rfl slices_S32x1024_o0_896_S8x128 (by rw [← hR7]; rfl) fun h22 => ?_
    refine stepT _ ![v121, v135, v149] _ (k.val % 2) 2 6 _ (k0_off124_eq k) _ _ _ z hz y hy ![16, 768] rfl slices_S32x1024_o16_768_S8x128 (by rw [← hR6]; rfl) fun h21 => ?_
    refine stepT _ ![v121, v135, v149] _ (k.val % 2) 1 6 _ (k0_off123_eq k) _ _ _ z hz y hy ![8, 768] rfl slices_S32x1024_o8_768_S8x128 (by rw [← hR6]; rfl) fun h20 => ?_
    refine stepT _ ![v121, v135, v149] _ (k.val % 2) 0 6 _ (k0_off122_eq k) _ _ _ z hz y hy ![0, 768] rfl slices_S32x1024_o0_768_S8x128 (by rw [← hR6]; rfl) fun h19 => ?_
    refine stepT _ ![v121, v135, v149] _ (k.val % 2) 2 5 _ (k0_off121_eq k) _ _ _ z hz y hy ![16, 640] rfl slices_S32x1024_o16_640_S8x128 (by rw [← hR5]; rfl) fun h18 => ?_
    refine stepT _ ![v121, v135, v149] _ (k.val % 2) 1 5 _ (k0_off120_eq k) _ _ _ z hz y hy ![8, 640] rfl slices_S32x1024_o8_640_S8x128 (by rw [← hR5]; rfl) fun h17 => ?_
    refine stepT _ ![v121, v135, v149] _ (k.val % 2) 0 5 _ (k0_off119_eq k) _ _ _ z hz y hy ![0, 640] rfl slices_S32x1024_o0_640_S8x128 (by rw [← hR5]; rfl) fun h16 => ?_
    refine stepT _ ![v121, v135, v149] _ (k.val % 2) 2 4 _ (k0_off118_eq k) _ _ _ z hz y hy ![16, 512] rfl slices_S32x1024_o16_512_S8x128 (by rw [← hR4]; rfl) fun h15 => ?_
    refine stepT _ ![v121, v135, v149] _ (k.val % 2) 1 4 _ (k0_off117_eq k) _ _ _ z hz y hy ![8, 512] rfl slices_S32x1024_o8_512_S8x128 (by rw [← hR4]; rfl) fun h14 => ?_
    refine stepT _ ![v121, v135, v149] _ (k.val % 2) 0 4 _ (k0_off116_eq k) _ _ _ z hz y hy ![0, 512] rfl slices_S32x1024_o0_512_S8x128 (by rw [← hR4]; rfl) fun h13 => ?_
    refine stepT _ ![v121, v135, v149] _ (k.val % 2) 2 3 _ (k0_off115_eq k) _ _ _ z hz y hy ![16, 384] rfl slices_S32x1024_o16_384_S8x128 (by rw [← hR3]; rfl) fun h12 => ?_
    refine stepT _ ![v121, v135, v149] _ (k.val % 2) 1 3 _ (k0_off114_eq k) _ _ _ z hz y hy ![8, 384] rfl slices_S32x1024_o8_384_S8x128 (by rw [← hR3]; rfl) fun h11 => ?_
    refine stepT _ ![v121, v135, v149] _ (k.val % 2) 0 3 _ (k0_off113_eq k) _ _ _ z hz y hy ![0, 384] rfl slices_S32x1024_o0_384_S8x128 (by rw [← hR3]; rfl) fun h10 => ?_
    refine stepT _ ![v121, v135, v149] _ (k.val % 2) 2 2 _ (k0_off112_eq k) _ _ _ z hz y hy ![16, 256] rfl slices_S32x1024_o16_256_S8x128 (by rw [← hR2]; rfl) fun h9 => ?_
    refine stepT _ ![v121, v135, v149] _ (k.val % 2) 1 2 _ (k0_off111_eq k) _ _ _ z hz y hy ![8, 256] rfl slices_S32x1024_o8_256_S8x128 (by rw [← hR2]; rfl) fun h8 => ?_
    refine stepT _ ![v121, v135, v149] _ (k.val % 2) 0 2 _ (k0_off110_eq k) _ _ _ z hz y hy ![0, 256] rfl slices_S32x1024_o0_256_S8x128 (by rw [← hR2]; rfl) fun h7 => ?_
    refine stepT _ ![v121, v135, v149] _ (k.val % 2) 2 1 _ (k0_off109_eq k) _ _ _ z hz y hy ![16, 128] rfl slices_S32x1024_o16_128_S8x128 (by rw [← hR1]; rfl) fun h6 => ?_
    refine stepT _ ![v121, v135, v149] _ (k.val % 2) 1 1 _ (k0_off108_eq k) _ _ _ z hz y hy ![8, 128] rfl slices_S32x1024_o8_128_S8x128 (by rw [← hR1]; rfl) fun h5 => ?_
    refine stepT _ ![v121, v135, v149] _ (k.val % 2) 0 1 _ (k0_off107_eq k) _ _ _ z hz y hy ![0, 128] rfl slices_S32x1024_o0_128_S8x128 (by rw [← hR1]; rfl) fun h4 => ?_
    refine stepT _ ![v121, v135, v149] _ (k.val % 2) 2 0 _ (k0_off106_eq k) _ _ _ z hz y hy ![16, 0] rfl slices_S32x1024_o16_0_S8x128 (by rw [← hR0]; rfl) fun h3 => ?_
    refine stepT _ ![v121, v135, v149] _ (k.val % 2) 1 0 _ (k0_off105_eq k) _ _ _ z hz y hy ![8, 0] rfl slices_S32x1024_o8_0_S8x128 (by rw [← hR0]; rfl) fun h2 => ?_
    refine stepT _ ![v121, v135, v149] _ (k.val % 2) 0 0 _ (k0_off104_eq k) _ _ _ z hz y hy ![0, 0] rfl slices_S32x1024_o0_0_S8x128 (by rw [← hR0]; rfl) fun h1 => ?_
    exfalso
    replace h1 : ¬((y 0).val = 0 ∧ (y 2).val / 128 = 0) := h1
    replace h2 : ¬((y 0).val = 1 ∧ (y 2).val / 128 = 0) := h2
    replace h3 : ¬((y 0).val = 2 ∧ (y 2).val / 128 = 0) := h3
    replace h4 : ¬((y 0).val = 0 ∧ (y 2).val / 128 = 1) := h4
    replace h5 : ¬((y 0).val = 1 ∧ (y 2).val / 128 = 1) := h5
    replace h6 : ¬((y 0).val = 2 ∧ (y 2).val / 128 = 1) := h6
    replace h7 : ¬((y 0).val = 0 ∧ (y 2).val / 128 = 2) := h7
    replace h8 : ¬((y 0).val = 1 ∧ (y 2).val / 128 = 2) := h8
    replace h9 : ¬((y 0).val = 2 ∧ (y 2).val / 128 = 2) := h9
    replace h10 : ¬((y 0).val = 0 ∧ (y 2).val / 128 = 3) := h10
    replace h11 : ¬((y 0).val = 1 ∧ (y 2).val / 128 = 3) := h11
    replace h12 : ¬((y 0).val = 2 ∧ (y 2).val / 128 = 3) := h12
    replace h13 : ¬((y 0).val = 0 ∧ (y 2).val / 128 = 4) := h13
    replace h14 : ¬((y 0).val = 1 ∧ (y 2).val / 128 = 4) := h14
    replace h15 : ¬((y 0).val = 2 ∧ (y 2).val / 128 = 4) := h15
    replace h16 : ¬((y 0).val = 0 ∧ (y 2).val / 128 = 5) := h16
    replace h17 : ¬((y 0).val = 1 ∧ (y 2).val / 128 = 5) := h17
    replace h18 : ¬((y 0).val = 2 ∧ (y 2).val / 128 = 5) := h18
    replace h19 : ¬((y 0).val = 0 ∧ (y 2).val / 128 = 6) := h19
    replace h20 : ¬((y 0).val = 1 ∧ (y 2).val / 128 = 6) := h20
    replace h21 : ¬((y 0).val = 2 ∧ (y 2).val / 128 = 6) := h21
    replace h22 : ¬((y 0).val = 0 ∧ (y 2).val / 128 = 7) := h22
    replace h23 : ¬((y 0).val = 1 ∧ (y 2).val / 128 = 7) := h23
    replace h24 : ¬((y 0).val = 2 ∧ (y 2).val / 128 = 7) := h24
    rcases he with e | e | e <;> rcases hq with q | q | q | q | q | q | q | q
    · exact h1 ⟨e, q⟩
    · exact h4 ⟨e, q⟩
    · exact h7 ⟨e, q⟩
    · exact h10 ⟨e, q⟩
    · exact h13 ⟨e, q⟩
    · exact h16 ⟨e, q⟩
    · exact h19 ⟨e, q⟩
    · exact h22 ⟨e, q⟩
    · exact h2 ⟨e, q⟩
    · exact h5 ⟨e, q⟩
    · exact h8 ⟨e, q⟩
    · exact h11 ⟨e, q⟩
    · exact h14 ⟨e, q⟩
    · exact h17 ⟨e, q⟩
    · exact h20 ⟨e, q⟩
    · exact h23 ⟨e, q⟩
    · exact h3 ⟨e, q⟩
    · exact h6 ⟨e, q⟩
    · exact h9 ⟨e, q⟩
    · exact h12 ⟨e, q⟩
    · exact h15 ⟨e, q⟩
    · exact h18 ⟨e, q⟩
    · exact h21 ⟨e, q⟩
    · exact h24 ⟨e, q⟩
  isplitl [Hdc_dst]
  · iexists _, _; isplitr
    on_goal 2 => iexact Hdc_dst
    ipureintro; exact hwo
  isplitl [Hh]; · iexact Hh
  isplitl [Hws]; · iexact Hws
  isplitl [Hd2]; · iexact Hd2
  isplitl [Hd2s]; · iexact Hd2s
  isplitl [Hz]; · iexists _; iexact Hz
  iexists _; iexact HW

set_option maxHeartbeats 8000000 in
set_option maxRecDepth 4096 in
theorem trip3_last (k : Fin k0_t3_loop.trips) (acc : Acc7 (F := F)) (hk : 123 ≤ k.val) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  have hk125 := t3_lt k
  obtain ⟨a1, a2, a3, a4, a5, a6, j⟩ := acc
  replace hJ : Jok j := hJ
  have h24 : ¬k0_cond24 k = 1#1 := fun h => by have := (cond24_iff k).1 h; omega
  have h25 : ¬k0_cond25 k = 1#1 := fun h => by have := (cond25_iff k).1 h; omega
  have h26 : k0_cond26 k = 1#1 := (cond26_iff k).2 (by omega)
  have h22 : ¬k0_cond22 k = 1#1 := cond22_not k
  have h23 : ¬k0_cond23 k = 1#1 := cond23_not k
  unfold pre3 post3 ltHome
  rw [stepF_T c WD WT (k.val + 32) (by omega) (by omega), oT_pos _ _ _ _ _ _ _ _ (by omega), show k.val + 32 - 32 = k.val by omega]
  rw [stepF_free c WD WT (k.val + 35) (by omega)]
  simp only [if_pos (show 2 ≤ k.val by omega)]
  unfold outT ltDone
  iintro ⟨⟨⟨%f0, HF⟩, HR, HT⟩, HFree, ⟨%fo, %wo, %go, %hwo, Hdc⟩, ⟨%f3, Hl⟩, Hh, Hws, Hd2, Hd2s, ⟨%f4, Hz⟩, ⟨%W, HW⟩⟩
  ihave HFree2 := (Aside.intro _) $$ HFree
  dsimp only [trip3]
  sl_unfold [k0_t3_body]
  sl_exec_parts (disch := first | with_reducible exact chk1_ok _ hJ | with_reducible exact chk2_ok _ _ _ hJ | with_reducible exact chk3_ok _ _ _ _ hJ | with_reducible exact chk4_ok _ _ _ _ _ hJ | with_reducible exact chk5_ok _ _ _ _ _ _ hJ | with_reducible exact chk6_ok _ _ _ _ _ _ _ hJ | with_reducible exact chk7_ok _ _ _ _ _ _ _ _ hJ | with_reducible exact chk8_ok _ _ _ _ _ _ _ _ _ hJ)
  sl_step
  ihave HFree := (Aside.elim _) $$ HFree2
  isplitr; · ipureintro; exact nx_ok k 7#32 _ _ (nx_ok k 6#32 _ _ (nx_ok k 5#32 _ _ (nx_ok k 4#32 _ _ (nx_ok k 3#32 _ _ (nx_ok k 2#32 _ _ (nx_ok k 1#32 _ _ (nx_ok k 0#32 _ _ hJ)))))))
  isplitl [HF_dst HF_src HR HF HT]
  · isplitl [HF_dst]; · iexists _; iexact HF_dst
    isplitl [HF]; · iexact HF
    isplitl [HT]; · iexact HT
    iapply (wt_join c WT _ _); isplitl [HF_src]; · iexact HF_src
    iexact HR
  isplitl [HFree]; · iexact HFree
  isplitl [Hdc]
  · iexists _, _, _; isplitr
    on_goal 2 => iexact Hdc
    ipureintro
    unfold okT
    intro y
    have hbk : (Ring.bk 125 k.val).val = k.val := by show k.val % 125 = k.val; omega
    have l0 : (y 0).val < 3 := (y 0).isLt
    have l2 : (y 2).val < 1024 := (y 2).isLt
    have he : (y 0).val = 0 ∨ (y 0).val = 1 ∨ (y 0).val = 2 := by omega
    have hq : (y 2).val / 128 = 0 ∨ (y 2).val / 128 = 1 ∨ (y 2).val / 128 = 2 ∨ (y 2).val / 128 = 3 ∨ (y 2).val / 128 = 4 ∨ (y 2).val / 128 = 5
      ∨ (y 2).val / 128 = 6 ∨ (y 2).val / 128 = 7 := by omega
    have hA : prodT X8 ((wtB (Ring.bk 125 k.val)).view.read (Elt F) WT) = k0_pay96 (trip3_last.sl.r c X8) (trip3_last.sl.v1596 c WT k) := by
      have e1 := readX8 (F := F) X8 (by intro a; fin_cases a <;> decide)
      have e2 : shapeCast S3072x1024 (trip3_last.sl.v1596 c WT k) shapeCasts_S1x3072x1024_S3072x1024 = (wtB (Ring.bk 125 k.val)).view.read (Elt F) WT := by
        unfold trip3_last.sl.v1596
        exact slab_read (F := F) (Ring.sl 4 (k.val + 32)) _ (k0_off102_eq k) _ _ _ (fun p => land_at (F := F) (Ring.sl 4 (k.val + 32)) _ _ p _ rfl)
      show matmul dot_S32x3072_S3072x1024_S32x1024_1_0_0_1_n_n none _ _ _ = matmul dot_S32x3072_S3072x1024_S32x1024_1_0_0_1_n_n none _ _ _
      exact congrArg₂ (fun a b => matmul dot_S32x3072_S3072x1024_S32x1024_1_0_0_1_n_n none a b (constant S32x1024 .f32 0x00000000#32)) e1.symm e2.symm
    rw [hA]
    have hR0 : View.readAt (Elt F) wtsM.view (Rect.unit (s := S1002x128) (k0_off103 k 0#32) S1x128.size (k0_off103_inb k 0)).toLoadRect WTS = rowsT WTS (Ring.bk 125 k.val) 0 :=
      readRow (F := F) WTS (Ring.bk 125 k.val) 0 _ ((k0_off103_eq k 0).trans (by rw [hbk])) _
    have hR1 : View.readAt (Elt F) wtsM.view (Rect.unit (s := S1002x128) (k0_off103 k 1#32) S1x128.size (k0_off103_inb k 1)).toLoadRect WTS = rowsT WTS (Ring.bk 125 k.val) 1 :=
      readRow (F := F) WTS (Ring.bk 125 k.val) 1 _ ((k0_off103_eq k 1).trans (by rw [hbk])) _
    have hR2 : View.readAt (Elt F) wtsM.view (Rect.unit (s := S1002x128) (k0_off103 k 2#32) S1x128.size (k0_off103_inb k 2)).toLoadRect WTS = rowsT WTS (Ring.bk 125 k.val) 2 :=
      readRow (F := F) WTS (Ring.bk 125 k.val) 2 _ ((k0_off103_eq k 2).trans (by rw [hbk])) _
    have hR3 : View.readAt (Elt F) wtsM.view (Rect.unit (s := S1002x128) (k0_off103 k 3#32) S1x128.size (k0_off103_inb k 3)).toLoadRect WTS = rowsT WTS (Ring.bk 125 k.val) 3 :=
      readRow (F := F) WTS (Ring.bk 125 k.val) 3 _ ((k0_off103_eq k 3).trans (by rw [hbk])) _
    have hR4 : View.readAt (Elt F) wtsM.view (Rect.unit (s := S1002x128) (k0_off103 k 4#32) S1x128.size (k0_off103_inb k 4)).toLoadRect WTS = rowsT WTS (Ring.bk 125 k.val) 4 :=
      readRow (F := F) WTS (Ring.bk 125 k.val) 4 _ ((k0_off103_eq k 4).trans (by rw [hbk])) _
    have hR5 : View.readAt (Elt F) wtsM.view (Rect.unit (s := S1002x128) (k0_off103 k 5#32) S1x128.size (k0_off103_inb k 5)).toLoadRect WTS = rowsT WTS (Ring.bk 125 k.val) 5 :=
      readRow (F := F) WTS (Ring.bk 125 k.val) 5 _ ((k0_off103_eq k 5).trans (by rw [hbk])) _
    have hR6 : View.readAt (Elt F) wtsM.view (Rect.unit (s := S1002x128) (k0_off103 k 6#32) S1x128.size (k0_off103_inb k 6)).toLoadRect WTS = rowsT WTS (Ring.bk 125 k.val) 6 :=
      readRow (F := F) WTS (Ring.bk 125 k.val) 6 _ ((k0_off103_eq k 6).trans (by rw [hbk])) _
    have hR7 : View.readAt (Elt F) wtsM.view (Rect.unit (s := S1002x128) (k0_off103 k 7#32) S1x128.size (k0_off103_inb k 7)).toLoadRect WTS = rowsT WTS (Ring.bk 125 k.val) 7 :=
      readRow (F := F) WTS (Ring.bk 125 k.val) 7 _ ((k0_off103_eq k 7).trans (by rw [hbk])) _
    unfold trip3_last.sl.dma58
    refine read_tslot (F := F) (Ring.sl 2 k.val) _ y _ _ rfl ?_
    intro z hz0 hy
    have hz : (z 0).val = k.val % 2 := hz0
    clear hz0
    refine stepT _ ![v121, v135, v149] _ (k.val % 2) 2 7 _ (k0_off127_eq k) _ _ _ z hz y hy ![16, 896] rfl slices_S32x1024_o16_896_S8x128 (by rw [← hR7]; rfl) fun h24 => ?_
    refine stepT _ ![v121, v135, v149] _ (k.val % 2) 1 7 _ (k0_off126_eq k) _ _ _ z hz y hy ![8, 896] rfl slices_S32x1024_o8_896_S8x128 (by rw [← hR7]; rfl) fun h23 => ?_
    refine stepT _ ![v121, v135, v149] _ (k.val % 2) 0 7 _ (k0_off125_eq k) _ _ _ z hz y hy ![0, 896] rfl slices_S32x1024_o0_896_S8x128 (by rw [← hR7]; rfl) fun h22 => ?_
    refine stepT _ ![v121, v135, v149] _ (k.val % 2) 2 6 _ (k0_off124_eq k) _ _ _ z hz y hy ![16, 768] rfl slices_S32x1024_o16_768_S8x128 (by rw [← hR6]; rfl) fun h21 => ?_
    refine stepT _ ![v121, v135, v149] _ (k.val % 2) 1 6 _ (k0_off123_eq k) _ _ _ z hz y hy ![8, 768] rfl slices_S32x1024_o8_768_S8x128 (by rw [← hR6]; rfl) fun h20 => ?_
    refine stepT _ ![v121, v135, v149] _ (k.val % 2) 0 6 _ (k0_off122_eq k) _ _ _ z hz y hy ![0, 768] rfl slices_S32x1024_o0_768_S8x128 (by rw [← hR6]; rfl) fun h19 => ?_
    refine stepT _ ![v121, v135, v149] _ (k.val % 2) 2 5 _ (k0_off121_eq k) _ _ _ z hz y hy ![16, 640] rfl slices_S32x1024_o16_640_S8x128 (by rw [← hR5]; rfl) fun h18 => ?_
    refine stepT _ ![v121, v135, v149] _ (k.val % 2) 1 5 _ (k0_off120_eq k) _ _ _ z hz y hy ![8, 640] rfl slices_S32x1024_o8_640_S8x128 (by rw [← hR5]; rfl) fun h17 => ?_
    refine stepT _ ![v121, v135, v149] _ (k.val % 2) 0 5 _ (k0_off119_eq k) _ _ _ z hz y hy ![0, 640] rfl slices_S32x1024_o0_640_S8x128 (by rw [← hR5]; rfl) fun h16 => ?_
    refine stepT _ ![v121, v135, v149] _ (k.val % 2) 2 4 _ (k0_off118_eq k) _ _ _ z hz y hy ![16, 512] rfl slices_S32x1024_o16_512_S8x128 (by rw [← hR4]; rfl) fun h15 => ?_
    refine stepT _ ![v121, v135, v149] _ (k.val % 2) 1 4 _ (k0_off117_eq k) _ _ _ z hz y hy ![8, 512] rfl slices_S32x1024_o8_512_S8x128 (by rw [← hR4]; rfl) fun h14 => ?_
    refine stepT _ ![v121, v135, v149] _ (k.val % 2) 0 4 _ (k0_off116_eq k) _ _ _ z hz y hy ![0, 512] rfl slices_S32x1024_o0_512_S8x128 (by rw [← hR4]; rfl) fun h13 => ?_
    refine stepT _ ![v121, v135, v149] _ (k.val % 2) 2 3 _ (k0_off115_eq k) _ _ _ z hz y hy ![16, 384] rfl slices_S32x1024_o16_384_S8x128 (by rw [← hR3]; rfl) fun h12 => ?_
    refine stepT _ ![v121, v135, v149] _ (k.val % 2) 1 3 _ (k0_off114_eq k) _ _ _ z hz y hy ![8, 384] rfl slices_S32x1024_o8_384_S8x128 (by rw [← hR3]; rfl) fun h11 => ?_
    refine stepT _ ![v121, v135, v149] _ (k.val % 2) 0 3 _ (k0_off113_eq k) _ _ _ z hz y hy ![0, 384] rfl slices_S32x1024_o0_384_S8x128 (by rw [← hR3]; rfl) fun h10 => ?_
    refine stepT _ ![v121, v135, v149] _ (k.val % 2) 2 2 _ (k0_off112_eq k) _ _ _ z hz y hy ![16, 256] rfl slices_S32x1024_o16_256_S8x128 (by rw [← hR2]; rfl) fun h9 => ?_
    refine stepT _ ![v121, v135, v149] _ (k.val % 2) 1 2 _ (k0_off111_eq k) _ _ _ z hz y hy ![8, 256] rfl slices_S32x1024_o8_256_S8x128 (by rw [← hR2]; rfl) fun h8 => ?_
    refine stepT _ ![v121, v135, v149] _ (k.val % 2) 0 2 _ (k0_off110_eq k) _ _ _ z hz y hy ![0, 256] rfl slices_S32x1024_o0_256_S8x128 (by rw [← hR2]; rfl) fun h7 => ?_
    refine stepT _ ![v121, v135, v149] _ (k.val % 2) 2 1 _ (k0_off109_eq k) _ _ _ z hz y hy ![16, 128] rfl slices_S32x1024_o16_128_S8x128 (by rw [← hR1]; rfl) fun h6 => ?_
    refine stepT _ ![v121, v135, v149] _ (k.val % 2) 1 1 _ (k0_off108_eq k) _ _ _ z hz y hy ![8, 128] rfl slices_S32x1024_o8_128_S8x128 (by rw [← hR1]; rfl) fun h5 => ?_
    refine stepT _ ![v121, v135, v149] _ (k.val % 2) 0 1 _ (k0_off107_eq k) _ _ _ z hz y hy ![0, 128] rfl slices_S32x1024_o0_128_S8x128 (by rw [← hR1]; rfl) fun h4 => ?_
    refine stepT _ ![v121, v135, v149] _ (k.val % 2) 2 0 _ (k0_off106_eq k) _ _ _ z hz y hy ![16, 0] rfl slices_S32x1024_o16_0_S8x128 (by rw [← hR0]; rfl) fun h3 => ?_
    refine stepT _ ![v121, v135, v149] _ (k.val % 2) 1 0 _ (k0_off105_eq k) _ _ _ z hz y hy ![8, 0] rfl slices_S32x1024_o8_0_S8x128 (by rw [← hR0]; rfl) fun h2 => ?_
    refine stepT _ ![v121, v135, v149] _ (k.val % 2) 0 0 _ (k0_off104_eq k) _ _ _ z hz y hy ![0, 0] rfl slices_S32x1024_o0_0_S8x128 (by rw [← hR0]; rfl) fun h1 => ?_
    exfalso
    replace h1 : ¬((y 0).val = 0 ∧ (y 2).val / 128 = 0) := h1
    replace h2 : ¬((y 0).val = 1 ∧ (y 2).val / 128 = 0) := h2
    replace h3 : ¬((y 0).val = 2 ∧ (y 2).val / 128 = 0) := h3
    replace h4 : ¬((y 0).val = 0 ∧ (y 2).val / 128 = 1) := h4
    replace h5 : ¬((y 0).val = 1 ∧ (y 2).val / 128 = 1) := h5
    replace h6 : ¬((y 0).val = 2 ∧ (y 2).val / 128 = 1) := h6
    replace h7 : ¬((y 0).val = 0 ∧ (y 2).val / 128 = 2) := h7
    replace h8 : ¬((y 0).val = 1 ∧ (y 2).val / 128 = 2) := h8
    replace h9 : ¬((y 0).val = 2 ∧ (y 2).val / 128 = 2) := h9
    replace h10 : ¬((y 0).val = 0 ∧ (y 2).val / 128 = 3) := h10
    replace h11 : ¬((y 0).val = 1 ∧ (y 2).val / 128 = 3) := h11
    replace h12 : ¬((y 0).val = 2 ∧ (y 2).val / 128 = 3) := h12
    replace h13 : ¬((y 0).val = 0 ∧ (y 2).val / 128 = 4) := h13
    replace h14 : ¬((y 0).val = 1 ∧ (y 2).val / 128 = 4) := h14
    replace h15 : ¬((y 0).val = 2 ∧ (y 2).val / 128 = 4) := h15
    replace h16 : ¬((y 0).val = 0 ∧ (y 2).val / 128 = 5) := h16
    replace h17 : ¬((y 0).val = 1 ∧ (y 2).val / 128 = 5) := h17
    replace h18 : ¬((y 0).val = 2 ∧ (y 2).val / 128 = 5) := h18
    replace h19 : ¬((y 0).val = 0 ∧ (y 2).val / 128 = 6) := h19
    replace h20 : ¬((y 0).val = 1 ∧ (y 2).val / 128 = 6) := h20
    replace h21 : ¬((y 0).val = 2 ∧ (y 2).val / 128 = 6) := h21
    replace h22 : ¬((y 0).val = 0 ∧ (y 2).val / 128 = 7) := h22
    replace h23 : ¬((y 0).val = 1 ∧ (y 2).val / 128 = 7) := h23
    replace h24 : ¬((y 0).val = 2 ∧ (y 2).val / 128 = 7) := h24
    rcases he with e | e | e <;> rcases hq with q | q | q | q | q | q | q | q
    · exact h1 ⟨e, q⟩
    · exact h4 ⟨e, q⟩
    · exact h7 ⟨e, q⟩
    · exact h10 ⟨e, q⟩
    · exact h13 ⟨e, q⟩
    · exact h16 ⟨e, q⟩
    · exact h19 ⟨e, q⟩
    · exact h22 ⟨e, q⟩
    · exact h2 ⟨e, q⟩
    · exact h5 ⟨e, q⟩
    · exact h8 ⟨e, q⟩
    · exact h11 ⟨e, q⟩
    · exact h14 ⟨e, q⟩
    · exact h17 ⟨e, q⟩
    · exact h20 ⟨e, q⟩
    · exact h23 ⟨e, q⟩
    · exact h3 ⟨e, q⟩
    · exact h6 ⟨e, q⟩
    · exact h9 ⟨e, q⟩
    · exact h12 ⟨e, q⟩
    · exact h15 ⟨e, q⟩
    · exact h18 ⟨e, q⟩
    · exact h21 ⟨e, q⟩
    · exact h24 ⟨e, q⟩
  isplitl [Hdc_dst]
  · iexists _, _; isplitr
    on_goal 2 => iexact Hdc_dst
    ipureintro; exact hwo
  isplitl [Hh]; · iexact Hh
  isplitl [Hws]; · iexact Hws
  isplitl [Hd2]; · iexact Hd2
  isplitl [Hd2s]; · iexact Hd2s
  isplitl [Hz]; · iexists _; iexact Hz
  iexists _; iexact HW

theorem trip3_run (k : Fin k0_t3_loop.trips) (acc : Acc7 (F := F)) (hJ : Jok acc.2.2.2.2.2.2) :
    pre3 c WD WT X8 WTS D2 D2S v121 v135 v149 k.val
    ⊢ wp frame (wpE (defs₀ (F := F)) 𝒱₀ (c : Thread nD τ) none) Set.univ (trip3 arg11 harg11 arg12 harg12 arg13 harg13 arg14 harg14 v121 v135 v149 v206 v207 v208 v209 v210 v211 v212 v213 v437 v473 v474 v476 v478 v482 v487 v492 v497 v502 v507 k acc)
        (fun r => post3 c WD WT X8 WTS D2 D2S v121 v135 v149 k.val r) := by
  by_cases h : k.val < 2
  · exact trip3_first _ _ _ _ _ _ _ _ _ _ _ _ _ _ _ _ _ _ _ _ _ _ _ _ _ _ _ _ _ _ _ _ _ _ _ _ _ k acc h hJ
  by_cases h3 : k.val < 122
  · exact trip3_full _ _ _ _ _ _ _ _ _ _ _ _ _ _ _ _ _ _ _ _ _ _ _ _ _ _ _ _ _ _ _ _ _ _ _ _ _ k acc (by omega) h3 hJ
  by_cases h4 : k.val = 122
  · exact trip3_narrow _ _ _ _ _ _ _ _ _ _ _ _ _ _ _ _ _ _ _ _ _ _ _ _ _ _ _ _ _ _ _ _ _ _ _ _ _ k acc h4 hJ
  exact trip3_last _ _ _ _ _ _ _ _ _ _ _ _ _ _ _ _ _ _ _ _ _ _ _ _ _ _ _ _ _ _ _ _ _ _ _ _ _ k acc (by omega) hJ

end Trip

end Cert.Proof.KernelIdealRun
-- ==== Proof.KernelIdealLoops.lean ====
/-
  The loops over the weights' full blocks as wholes: what is held before block `k`, and that a trip takes that to what is
  held before block `k + 1`.
-/
module

public import proofs.«01_k».proof.Proof.KernelIdealTrip1
public import proofs.«01_k».proof.Proof.KernelIdealTrip3

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem sl4_add4 (k : ℕ) : Ring.sl 4 (k + 4) = Ring.sl 4 k := by ext; simp [Ring.sl]
theorem sl4_36 (k : ℕ) : Ring.sl 4 (k + 36) = Ring.sl 4 (k + 32) := by ext; simp only [Ring.sl, Fin.val_ofNat]; omega
theorem sl2_add2 (k : ℕ) : Ring.sl 2 (k + 2) = Ring.sl 2 k := by ext; simp [Ring.sl]

section L1
variable (c : Dev nD) (WD : Buf (Elt F) (wdM.view.loc (c : Thread nD τ))) (WT : Buf (Elt F) (wtM.view.loc (c : Thread nD τ)))
  (H8 : Buf (Elt F) (h8M.view.loc (c : Thread nD τ))) (WDS : Buf (Elt F) (wdsM.view.loc (c : Thread nD τ)))
  (hs0 hs1 hs2 : FVec F S8x128 .f32)

theorem ldAt_step (k : ℕ) (hk : k < 31) :
    iprop(bigSep (Ring.rangeSet 31 (k + 1) 31) (ldHome (F := F) c) ∗ bigSep (Ring.rangeSet 31 0 (k - 2)) (ldDone c WD H8 WDS hs0 hs1 hs2)
      ∗ (if 2 ≤ k then ldDone c WD H8 WDS hs0 hs1 hs2 (Ring.bk 31 (k - 2)) else emp)) ⊢ (ldAt c WD H8 WDS hs0 hs1 hs2 (k + 1) : sProp 𝕄) := by
  unfold ldAt
  by_cases h : 2 ≤ k
  · rw [if_pos h, Ring.bigSep_rangeSet_last (lo := 0) (hi := k + 1 - 2) (by omega) (by omega)]
    have e : (⟨k + 1 - 2 - 1, by omega⟩ : Fin 31) = Ring.bk 31 (k - 2) := by
      ext; rw [Ring.bk_val (by omega)]; show k + 1 - 2 - 1 = k - 2; omega
    rw [e, show k + 1 - 2 - 1 = k - 2 by omega]
    iintro ⟨H1, H2, H3⟩
    isplitl [H1]; · iexact H1
    isplitl [H3]; · iexact H3
    iexact H2
  · rw [if_neg h, show k - 2 = 0 by omega, show k + 1 - 2 = 0 by omega]
    iintro ⟨H1, H2, -⟩
    isplitl [H1]; · iexact H1
    iexact H2

/-- What is held before block `k` of the draft weight. -/
def inv1 (k : ℕ) : sProp 𝕄 :=
  iprop(stepF c WD WT k ∗ stepF c WD WT (k + 1) ∗ stepF c WD WT (k + 2) ∗ freeS c WD WT (Ring.sl 4 (k + 3))
    ∗ oD c WD H8 WDS hs0 hs1 hs2 k ∗ oD c WD H8 WDS hs0 hs1 hs2 (k + 1) ∗ ldAt c WD H8 WDS hs0 hs1 hs2 k
    ∗ h8P c H8 ∗ wdsP c WDS ∗ (∃ f, zdP c f) ∗ (∃ W, owes (c : Thread nD τ) 0 W))

theorem inv1_open (k : ℕ) (hk : k < 31) : inv1 c WD WT H8 WDS hs0 hs1 hs2 k
    ⊢ (iprop(pre1 c WD WT H8 WDS hs0 hs1 hs2 k ∗ (stepF c WD WT (k + 1) ∗ stepF c WD WT (k + 2) ∗ oD c WD H8 WDS hs0 hs1 hs2 (k + 1)
      ∗ bigSep (Ring.rangeSet 31 (k + 1) 31) (ldHome (F := F) c) ∗ bigSep (Ring.rangeSet 31 0 (k - 2)) (ldDone c WD H8 WDS hs0 hs1 hs2))) : sProp 𝕄) := by
  unfold inv1 pre1 ldAt
  rw [Ring.bigSep_rangeSet_head (lo := k) (hi := 31) hk hk, show (⟨k, hk⟩ : Fin 31) = Ring.bk 31 k from Fin.ext (Ring.bk_val hk).symm]
  iintro ⟨H0, H1, H2, H3, H4, H5, ⟨⟨H6, H7⟩, H8'⟩, H9, H10, H11, H12⟩
  isplitl [H0 H3 H4 H6 H9 H10 H11 H12]
  · isplitl [H0]; · iexact H0
    isplitl [H3]; · iexact H3
    isplitl [H4]; · iexact H4
    isplitl [H6]; · iexact H6
    isplitl [H9]; · iexact H9
    isplitl [H10]; · iexact H10
    isplitl [H11]; · iexact H11
    iexact H12
  isplitl [H1]; · iexact H1
  isplitl [H2]; · iexact H2
  isplitl [H5]; · iexact H5
  isplitl [H7]; · iexact H7
  iexact H8'

theorem inv1_close (k : ℕ) (hk : k < 31) : (iprop(post1 c WD WT H8 WDS hs0 hs1 hs2 k ∗ (stepF c WD WT (k + 1) ∗ stepF c WD WT (k + 2) ∗ oD c WD H8 WDS hs0 hs1 hs2 (k + 1)
      ∗ bigSep (Ring.rangeSet 31 (k + 1) 31) (ldHome (F := F) c) ∗ bigSep (Ring.rangeSet 31 0 (k - 2)) (ldDone c WD H8 WDS hs0 hs1 hs2))) : sProp 𝕄)
    ⊢ inv1 c WD WT H8 WDS hs0 hs1 hs2 (k + 1) := by
  unfold inv1 post1
  rw [show k + 1 + 1 = k + 2 by omega, show k + 1 + 2 = k + 3 by omega, show k + 1 + 3 = k + 4 by omega, sl4_add4, oD_pos c WD H8 WDS hs0 hs1 hs2 (k + 2) (by omega), sl2_add2,
    show k + 2 - 2 = k by omega]
  iintro ⟨⟨H0, H1, H2, H3, H4, H5, H6, H7⟩, H8', H9, H10, H11, H12⟩
  isplitl [H8']; · iexact H8'
  isplitl [H9]; · iexact H9
  isplitl [H1]; · iexact H1
  isplitl [H0]; · iexact H0
  isplitl [H10]; · iexact H10
  isplitl [H2]; · iexact H2
  isplitl [H3 H11 H12]
  · iapply (ldAt_step c WD H8 WDS hs0 hs1 hs2 k hk)
    isplitl [H11]; · iexact H11
    isplitl [H12]; · iexact H12
    iexact H3
  isplitl [H4]; · iexact H4
  isplitl [H5]; · iexact H5
  isplitl [H6]; · iexact H6
  iexact H7

theorem inv1_step (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole) (k : Fin k0_t1_loop.trips) (acc : Acc6 (F := F)) :
    inv1 c WD WT H8 WDS hs0 hs1 hs2 k.val
    ⊢ wp frame (wpE (defs₀ (F := F)) 𝒱₀ (c : Thread nD τ) none) Set.univ (trip1 arg11 harg11 arg12 harg12 arg13 harg13 arg14 harg14 hs0 hs1 hs2 k acc)
        (fun _ => inv1 c WD WT H8 WDS hs0 hs1 hs2 (k.val + 1)) := by
  refine (inv1_open c WD WT H8 WDS hs0 hs1 hs2 k.val (t1_lt k)).trans ?_
  iintro ⟨H, HR⟩
  iapply (wp_wand_r frame (wpE (defs₀ (F := F)) 𝒱₀ (c : Thread nD τ) none) Set.univ)
  isplitl [H]
  · iapply (trip1_run c WD WT H8 WDS arg11 harg11 arg12 harg12 arg13 harg13 arg14 harg14 hs0 hs1 hs2 k acc); iexact H
  · iintro %r HP
    iapply (inv1_close c WD WT H8 WDS hs0 hs1 hs2 k.val (t1_lt k))
    isplitl [HP]; · iexact HP
    iexact HR
end L1

section L3
variable (c : Dev nD) (WD : Buf (Elt F) (wdM.view.loc (c : Thread nD τ))) (WT : Buf (Elt F) (wtM.view.loc (c : Thread nD τ)))
  (X8 : Buf (Elt F) (x8M.view.loc (c : Thread nD τ))) (WTS : Buf (Elt F) (wtsM.view.loc (c : Thread nD τ)))
  (D2 : Buf (Elt F) (d2tM.view.loc (c : Thread nD τ))) (D2S : Buf (Elt F) (d2tsM.view.loc (c : Thread nD τ)))
  (xs0 xs1 xs2 : FVec F S8x128 .f32)

theorem ltAt_step (k : ℕ) (hk : k < 125) :
    iprop(bigSep (Ring.rangeSet 125 (k + 1) 125) (ltHome (F := F) c) ∗ bigSep (Ring.rangeSet 125 0 (k - 2)) (ltDone c WT X8 WTS xs0 xs1 xs2)
      ∗ (if 2 ≤ k then ltDone c WT X8 WTS xs0 xs1 xs2 (Ring.bk 125 (k - 2)) else emp)) ⊢ (ltAt c WT X8 WTS xs0 xs1 xs2 (k + 1) : sProp 𝕄) := by
  unfold ltAt
  by_cases h : 2 ≤ k
  · rw [if_pos h, Ring.bigSep_rangeSet_last (lo := 0) (hi := k + 1 - 2) (by omega) (by omega)]
    have e : (⟨k + 1 - 2 - 1, by omega⟩ : Fin 125) = Ring.bk 125 (k - 2) := by
      ext; rw [Ring.bk_val (by omega)]; show k + 1 - 2 - 1 = k - 2; omega
    rw [e, show k + 1 - 2 - 1 = k - 2 by omega]
    iintro ⟨H1, H2, H3⟩
    isplitl [H1]; · iexact H1
    isplitl [H3]; · iexact H3
    iexact H2
  · rw [if_neg h, show k - 2 = 0 by omega, show k + 1 - 2 = 0 by omega]
    iintro ⟨H1, H2, -⟩
    isplitl [H1]; · iexact H1
    iexact H2

/-- What is held before block `k` of the target weight. -/
def inv3 (k : ℕ) (acc : Acc7 (F := F)) : sProp 𝕄 :=
  iprop(⌜Jok acc.2.2.2.2.2.2⌝ ∗ stepF c WD WT (k + 32) ∗ stepF c WD WT (k + 33) ∗ stepF c WD WT (k + 34) ∗ freeS c WD WT (Ring.sl 4 (k + 35))
    ∗ oT c WT X8 WTS xs0 xs1 xs2 k ∗ oT c WT X8 WTS xs0 xs1 xs2 (k + 1) ∗ ltAt c WT X8 WTS xs0 xs1 xs2 k
    ∗ x8P c X8 ∗ wtsP c WTS ∗ d2tP c D2 ∗ d2tsP c D2S ∗ (∃ f, zcP c f) ∗ (∃ W, owes (c : Thread nD τ) 0 W))

theorem inv3_open (k : ℕ) (hk : k < 125) (acc : Acc7 (F := F)) : inv3 c WD WT X8 WTS D2 D2S xs0 xs1 xs2 k acc
    ⊢ (iprop(⌜Jok acc.2.2.2.2.2.2⌝ ∗ pre3 c WD WT X8 WTS D2 D2S xs0 xs1 xs2 k ∗ (stepF c WD WT (k + 33) ∗ stepF c WD WT (k + 34) ∗ oT c WT X8 WTS xs0 xs1 xs2 (k + 1)
      ∗ bigSep (Ring.rangeSet 125 (k + 1) 125) (ltHome (F := F) c) ∗ bigSep (Ring.rangeSet 125 0 (k - 2)) (ltDone c WT X8 WTS xs0 xs1 xs2))) : sProp 𝕄) := by
  unfold inv3 pre3 ltAt
  rw [Ring.bigSep_rangeSet_head (lo := k) (hi := 125) hk hk, show (⟨k, hk⟩ : Fin 125) = Ring.bk 125 k from Fin.ext (Ring.bk_val hk).symm]
  iintro ⟨HJ, H0, H1, H2, H3, H4, H5, ⟨⟨H6, H7⟩, H8'⟩, H9, H10, H10a, H10b, H11, H12⟩
  isplitl [HJ]; · iexact HJ
  isplitl [H0 H3 H4 H6 H9 H10 H10a H10b H11 H12]
  · isplitl [H0]; · iexact H0
    isplitl [H3]; · iexact H3
    isplitl [H4]; · iexact H4
    isplitl [H6]; · iexact H6
    isplitl [H9]; · iexact H9
    isplitl [H10]; · iexact H10
    isplitl [H10a]; · iexact H10a
    isplitl [H10b]; · iexact H10b
    isplitl [H11]; · iexact H11
    iexact H12
  isplitl [H1]; · iexact H1
  isplitl [H2]; · iexact H2
  isplitl [H5]; · iexact H5
  isplitl [H7]; · iexact H7
  iexact H8'

theorem inv3_close (k : ℕ) (hk : k < 125) (acc : Acc7 (F := F)) : (iprop(post3 c WD WT X8 WTS D2 D2S xs0 xs1 xs2 k acc ∗ (stepF c WD WT (k + 33) ∗ stepF c WD WT (k + 34) ∗ oT c WT X8 WTS xs0 xs1 xs2 (k + 1)
      ∗ bigSep (Ring.rangeSet 125 (k + 1) 125) (ltHome (F := F) c) ∗ bigSep (Ring.rangeSet 125 0 (k - 2)) (ltDone c WT X8 WTS xs0 xs1 xs2))) : sProp 𝕄)
    ⊢ inv3 c WD WT X8 WTS D2 D2S xs0 xs1 xs2 (k + 1) acc := by
  unfold inv3 post3
  rw [show k + 1 + 1 = k + 2 by omega, show k + 1 + 32 = k + 33 by omega, show k + 1 + 33 = k + 34 by omega, show k + 1 + 34 = k + 35 by omega, show k + 1 + 35 = k + 36 by omega, sl4_36,
    oT_pos c WT X8 WTS xs0 xs1 xs2 (k + 2) (by omega), sl2_add2, show k + 2 - 2 = k by omega]
  iintro ⟨⟨HJ, H0, H1, H2, H3, H4, H5, H5a, H5b, H6, H7⟩, H8', H9, H10, H11, H12⟩
  isplitl [HJ]; · iexact HJ
  isplitl [H8']; · iexact H8'
  isplitl [H9]; · iexact H9
  isplitl [H1]; · iexact H1
  isplitl [H0]; · iexact H0
  isplitl [H10]; · iexact H10
  isplitl [H2]; · iexact H2
  isplitl [H3 H11 H12]
  · iapply (ltAt_step c WT X8 WTS xs0 xs1 xs2 k hk)
    isplitl [H11]; · iexact H11
    isplitl [H12]; · iexact H12
    iexact H3
  isplitl [H4]; · iexact H4
  isplitl [H5]; · iexact H5
  isplitl [H5a]; · iexact H5a
  isplitl [H5b]; · iexact H5b
  isplitl [H6]; · iexact H6
  iexact H7

theorem inv3_step (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)
    (v206 v207 : IVec S8x128 32) (v208 v209 v210 v211 v212 v213 : FVec F S8x128 .f32)
    (v437 v473 v474 : IVec S8x128 32) (v476 : IVec S8x128 1) (v478 : IVec S8x128 32) (v482 v487 v492 v497 v502 v507 : Elt F .i32)
    (k : Fin k0_t3_loop.trips) (acc : Acc7 (F := F)) :
    inv3 c WD WT X8 WTS D2 D2S xs0 xs1 xs2 k.val acc
    ⊢ wp frame (wpE (defs₀ (F := F)) 𝒱₀ (c : Thread nD τ) none) Set.univ (trip3 arg11 harg11 arg12 harg12 arg13 harg13 arg14 harg14 xs0 xs1 xs2 v206 v207 v208 v209 v210 v211 v212 v213 v437 v473 v474 v476 v478 v482 v487 v492 v497 v502 v507 k acc)
        (fun r => inv3 c WD WT X8 WTS D2 D2S xs0 xs1 xs2 (k.val + 1) r) := by
  refine (inv3_open c WD WT X8 WTS D2 D2S xs0 xs1 xs2 k.val (t3_lt k) acc).trans ?_
  iintro ⟨%hJ, H, HR⟩
  iapply (wp_wand_r frame (wpE (defs₀ (F := F)) 𝒱₀ (c : Thread nD τ) none) Set.univ)
  isplitl [H]
  · iapply (trip3_run c WD WT X8 WTS D2 D2S arg11 harg11 arg12 harg12 arg13 harg13 arg14 harg14 xs0 xs1 xs2 v206 v207 v208 v209 v210 v211 v212 v213 v437 v473 v474 v476 v478 v482 v487 v492 v497 v502 v507 k acc hJ); iexact H
  · iintro %r HP
    iapply (inv3_close c WD WT X8 WTS D2 D2S xs0 xs1 xs2 k.val (t3_lt k) r)
    isplitl [HP]; · iexact HP
    iexact HR
end L3

end Cert.Proof.KernelIdealRun
-- ==== Proof.KernelIdealPre.lean ====
/-
  What the body takes and leaves: the remaining buffers by name, the accesses at fixed places by the names of their slots,
  the checks on the words it reads, and the state on entry to and exit from the two loops over the weights.
-/
module

public import proofs.«01_k».proof.Proof.KernelIdealLoops

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The remaining buffers -/

abbrev xinM : Memref sig .tc .hbm S3x8x3072 .fp8e4m3 := Memref.whole main_arg0
abbrev xsinM : Memref sig .tc .hbm S3x8 .f32 := Memref.whole main_arg1
abbrev hinM : Memref sig .tc .hbm S3x7x3072 .fp8e4m3 := Memref.whole main_arg4
abbrev hsinM : Memref sig .tc .hbm S3x7 .f32 := Memref.whole main_arg5
abbrev wtsinM : Memref sig .tc .hbm S1002x128 .f32 := Memref.whole main_v0
abbrev wdsinM : Memref sig .tc .hbm S250x128 .f32 := Memref.whole main_v1
abbrev d2inM : Memref sig .tc .hbm S250x128 .i32 := Memref.whole main_v2
abbrev tokinM : Memref sig .tc .hbm S3x7 .i32 := Memref.whole main_arg9
abbrev parinM : Memref sig .tc .hbm S3x7 .i32 := Memref.whole main_arg10
abbrev xvM : Memref sig .tc .vmem S3x8x3072 .fp8e4m3 := Memref.whole cc0_scratch1
abbrev hvM : Memref sig .tc .vmem S3x7x3072 .fp8e4m3 := Memref.whole cc0_scratch2
abbrev xsvM : Memref sig .tc .vmem S3x8 .f32 := Memref.whole cc0_scratch3
abbrev hsvM : Memref sig .tc .vmem S3x7 .f32 := Memref.whole cc0_scratch4
abbrev tokM : Memref sig .tc .smem S3x7 .i32 := Memref.whole cc0_scratch9
abbrev parM : Memref sig .tc .smem S3x7 .i32 := Memref.whole cc0_scratch10

/-- A whole buffer at contents `f`. -/
abbrev wP {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f
abbrev xinP (c : Dev nD) (f : Buf (Elt F) (xinM.view.loc (c : Thread nD τ))) : sProp 𝕄 := xinM.view.loc (c : Thread nD τ) ↦[xinM.view.set]{fullShare} f
abbrev xsinP (c : Dev nD) (f : Buf (Elt F) (xsinM.view.loc (c : Thread nD τ))) : sProp 𝕄 := xsinM.view.loc (c : Thread nD τ) ↦[xsinM.view.set]{fullShare} f
abbrev hinP (c : Dev nD) (f : Buf (Elt F) (hinM.view.loc (c : Thread nD τ))) : sProp 𝕄 := hinM.view.loc (c : Thread nD τ) ↦[hinM.view.set]{fullShare} f
abbrev hsinP (c : Dev nD) (f : Buf (Elt F) (hsinM.view.loc (c : Thread nD τ))) : sProp 𝕄 := hsinM.view.loc (c : Thread nD τ) ↦[hsinM.view.set]{fullShare} f
abbrev wtsinP (c : Dev nD) (f : Buf (Elt F) (wtsinM.view.loc (c : Thread nD τ))) : sProp 𝕄 := wtsinM.view.loc (c : Thread nD τ) ↦[wtsinM.view.set]{fullShare} f
abbrev wdsinP (c : Dev nD) (f : Buf (Elt F) (wdsinM.view.loc (c : Thread nD τ))) : sProp 𝕄 := wdsinM.view.loc (c : Thread nD τ) ↦[wdsinM.view.set]{fullShare} f
abbrev d2inP (c : Dev nD) (i : Fin 2) (f : Buf (Elt F) (d2inM.view.loc (c : Thread nD τ))) : sProp 𝕄 := d2inM.view.loc (c : Thread nD τ) ↦[d2inM.view.set]{Transfers.shareTok fullShare 2 i} f
abbrev tokinP (c : Dev nD) (f : Buf (Elt F) (tokinM.view.loc (c : Thread nD τ))) : sProp 𝕄 := tokinM.view.loc (c : Thread nD τ) ↦[tokinM.view.set]{fullShare} f
abbrev parinP (c : Dev nD) (f : Buf (Elt F) (parinM.view.loc (c : Thread nD τ))) : sProp 𝕄 := parinM.view.loc (c : Thread nD τ) ↦[parinM.view.set]{fullShare} f
abbrev xvP (c : Dev nD) (f : Buf (Elt F) (xvM.view.loc (c : Thread nD τ))) : sProp 𝕄 := xvM.view.loc (c : Thread nD τ) ↦[xvM.view.set]{fullShare} f
abbrev hvP (c : Dev nD) (f : Buf (Elt F) (hvM.view.loc (c : Thread nD τ))) : sProp 𝕄 := hvM.view.loc (c : Thread nD τ) ↦[hvM.view.set]{fullShare} f
abbrev xsvP (c : Dev nD) (f : Buf (Elt F) (xsvM.view.loc (c : Thread nD τ))) : sProp 𝕄 := xsvM.view.loc (c : Thread nD τ) ↦[xsvM.view.set]{fullShare} f
abbrev hsvP (c : Dev nD) (f : Buf (Elt F) (hsvM.view.loc (c : Thread nD τ))) : sProp 𝕄 := hsvM.view.loc (c : Thread nD τ) ↦[hsvM.view.set]{fullShare} f
abbrev tokP (c : Dev nD) (f : Buf (Elt F) (tokM.view.loc (c : Thread nD τ))) : sProp 𝕄 := tokM.view.loc (c : Thread nD τ) ↦[tokM.view.set]{fullShare} f
abbrev parP (c : Dev nD) (f : Buf (Elt F) (parM.view.loc (c : Thread nD τ))) : sProp 𝕄 := parM.view.loc (c : Thread nD τ) ↦[parM.view.set]{fullShare} f

/-- Cell `i` of the ten the small operands' copies signal, and the cell the narrow draft block's copy signals. -/
abbrev ism (i : Fin 10) : DmaSems sig S_ := (cc0_scratch18.slice (Rect.unit (s := S10) (o1 i.val) S1.size (by have := i.isLt; intro a; fin_cases a; show i.val + 1 ≤ 10; omega))).squeeze S_ squeezes_S1_S_
abbrev nsm : DmaSems sig S_ := (cc0_scratch21.slice (Rect.unit (s := S1) ![0] S1.size inb_S1_S1_0)).squeeze S_ squeezes_S1_S_
abbrev icell (c : Dev nD) (i : Fin 10) : sProp 𝕄 := semVal ((c : Thread nD τ), SemLoc.dma (ism i).sem) 0
abbrev ncell (c : Dev nD) : sProp 𝕄 := semVal ((c : Thread nD τ), SemLoc.dma nsm.sem) 0

/-- The last 256 columns of the draft logits, of the target logits; -/
def ldN : Memref sig .tc .hbm S3x7x256 .bf16 := ldM.slice (Rect.unit (s := S3x7x32000) ![0, 0, 31744] S3x7x256.size inb_S3x7x32000_S3x7x256_0_0_31744) (fun _ => rfl)
def ltN : Memref sig .tc .hbm S3x8x256 .bf16 := ltM.slice (Rect.unit (s := S3x8x128256) ![0, 0, 128000] S3x8x256.size inb_S3x8x128256_S3x8x256_0_0_128000) (fun _ => rfl)
abbrev ldNP (c : Dev nD) (f : Buf (Elt F) (ldN.view.loc (c : Thread nD τ))) : sProp 𝕄 := ldN.view.loc (c : Thread nD τ) ↦[ldN.view.set]{fullShare} f
abbrev ltNP (c : Dev nD) (f : Buf (Elt F) (ltN.view.loc (c : Thread nD τ))) : sProp 𝕄 := ltN.view.loc (c : Thread nD τ) ↦[ltN.view.set]{fullShare} f

/-! ## Accesses at fixed places -/

@[sl_canon] theorem semP0 (hh) : (cc0_scratch17.slice (Rect.unit (s := S4) k0_off1 S1.size hh)).squeeze S_ squeezes_S1_S_ = csm 0 :=
  csm_congr (s := 0) (by decide) _
@[sl_canon] theorem slotP0 (hh hs) : (ringM.slice (Rect.unit (s := S4x3072x1024) k0_off2 S1x3072x1024.size hh) hs).squeeze S3072x1024 squeezes_S1x3072x1024_S3072x1024 = rslot 0 :=
  rslot_congr (s := 0) (by decide) _ _
@[sl_canon] theorem srcP0 (hh hs) : wdM.slice (Rect.unit (s := S3072x32000) k0_off3 S3072x1024.size hh) hs = wdB 0 :=
  wdB_congr (b := 0) (by decide) _ _
@[sl_canon] theorem semP1 (hh) : (cc0_scratch17.slice (Rect.unit (s := S4) k0_off11 S1.size hh)).squeeze S_ squeezes_S1_S_ = csm 1 :=
  csm_congr (s := 1) (by decide) _
@[sl_canon] theorem slotP1 (hh hs) : (ringM.slice (Rect.unit (s := S4x3072x1024) k0_off12 S1x3072x1024.size hh) hs).squeeze S3072x1024 squeezes_S1x3072x1024_S3072x1024 = rslot 1 :=
  rslot_congr (s := 1) (by decide) _ _
@[sl_canon] theorem srcP1 (hh hs) : wdM.slice (Rect.unit (s := S3072x32000) k0_off13 S3072x1024.size hh) hs = wdB 1 :=
  wdB_congr (b := 1) (by decide) _ _
@[sl_canon] theorem semP2 (hh) : (cc0_scratch17.slice (Rect.unit (s := S4) k0_off21 S1.size hh)).squeeze S_ squeezes_S1_S_ = csm 2 :=
  csm_congr (s := 2) (by decide) _
@[sl_canon] theorem slotP2 (hh hs) : (ringM.slice (Rect.unit (s := S4x3072x1024) k0_off22 S1x3072x1024.size hh) hs).squeeze S3072x1024 squeezes_S1x3072x1024_S3072x1024 = rslot 2 :=
  rslot_congr (s := 2) (by decide) _ _
@[sl_canon] theorem srcP2 (hh hs) : wdM.slice (Rect.unit (s := S3072x32000) k0_off23 S3072x1024.size hh) hs = wdB 2 :=
  wdB_congr (b := 2) (by decide) _ _
@[sl_canon] theorem semMid (hh) : (cc0_scratch17.slice (Rect.unit (s := S4) k0_off82 S1.size hh)).squeeze S_ squeezes_S1_S_ = csm 2 :=
  csm_congr (s := 2) (by decide) _
@[sl_canon] theorem slotMid (hh hs) : (ringM.slice (Rect.unit (s := S4x3072x1024) k0_off83 S1x3072x1024.size hh) hs).squeeze S3072x1024 squeezes_S1x3072x1024_S3072x1024 = rslot 2 :=
  rslot_congr (s := 2) (by decide) _ _
@[sl_canon] theorem srcMid (hh hs) : wtM.slice (Rect.unit (s := S3072x128256) k0_off84 S3072x1024.size hh) hs = wtB 2 :=
  wtB_congr (b := 2) (by decide) _ _
@[sl_canon] theorem semL3 (hh) : (cc0_scratch17.slice (Rect.unit (s := S4) ![3] S1.size hh)).squeeze S_ squeezes_S1_S_ = csm 3 :=
  csm_congr (s := 3) (by decide) _
@[sl_canon] theorem nslotL3 (hh hs) : (ringM.slice (Rect.unit (s := S4x3072x1024) ![3, 0, 0] S1x3072x256.size hh) hs).squeeze S3072x256 squeezes_S1x3072x256_S3072x256 = nslot 3 :=
  nslot_congr (s := 3) (by decide) _ _
@[sl_canon] theorem semL1 (hh) : (cc0_scratch17.slice (Rect.unit (s := S4) ![1] S1.size hh)).squeeze S_ squeezes_S1_S_ = csm 1 :=
  csm_congr (s := 1) (by decide) _
@[sl_canon] theorem nslotL1 (hh hs) : (ringM.slice (Rect.unit (s := S4x3072x1024) ![1, 0, 0] S1x3072x256.size hh) hs).squeeze S3072x256 squeezes_S1x3072x256_S3072x256 = nslot 1 :=
  nslot_congr (s := 1) (by decide) _ _
@[sl_canon] theorem dsemL0 (hh) : (cc0_scratch20.slice (Rect.unit (s := S2) ![0] S1.size hh)).squeeze S_ squeezes_S1_S_ = dsm 0 :=
  dsm_congr (s := 0) (by decide) _
@[sl_canon] theorem tsemL0 (hh) : (cc0_scratch19.slice (Rect.unit (s := S2) ![0] S1.size hh)).squeeze S_ squeezes_S1_S_ = tsm 0 :=
  tsm_congr (s := 0) (by decide) _
@[sl_canon] theorem dslotL0 (hh hs) : (obdM.slice (Rect.unit (s := S2x3x7x1024) ![0, 0, 0, 0] S1x3x7x1024.size hh) hs).squeeze S3x7x1024 squeezes_S1x3x7x1024_S3x7x1024 = dslot 0 :=
  dslot_congr (s := 0) (by decide) _ _
@[sl_canon] theorem tslotL0 (hh hs) : (obtM.slice (Rect.unit (s := S2x3x8x1024) ![0, 0, 0, 0] S1x3x8x1024.size hh) hs).squeeze S3x8x1024 squeezes_S1x3x8x1024_S3x8x1024 = tslot 0 :=
  tslot_congr (s := 0) (by decide) _ _
@[sl_canon] theorem dsemL1 (hh) : (cc0_scratch20.slice (Rect.unit (s := S2) ![1] S1.size hh)).squeeze S_ squeezes_S1_S_ = dsm 1 :=
  dsm_congr (s := 1) (by decide) _
@[sl_canon] theorem tsemL1 (hh) : (cc0_scratch19.slice (Rect.unit (s := S2) ![1] S1.size hh)).squeeze S_ squeezes_S1_S_ = tsm 1 :=
  tsm_congr (s := 1) (by decide) _
@[sl_canon] theorem dslotL1 (hh hs) : (obdM.slice (Rect.unit (s := S2x3x7x1024) ![1, 0, 0, 0] S1x3x7x1024.size hh) hs).squeeze S3x7x1024 squeezes_S1x3x7x1024_S3x7x1024 = dslot 1 :=
  dslot_congr (s := 1) (by decide) _ _
@[sl_canon] theorem tslotL1 (hh hs) : (obtM.slice (Rect.unit (s := S2x3x8x1024) ![1, 0, 0, 0] S1x3x8x1024.size hh) hs).squeeze S3x8x1024 squeezes_S1x3x8x1024_S3x8x1024 = tslot 1 :=
  tslot_congr (s := 1) (by decide) _ _
@[sl_canon] theorem ldBL0 (hh hs) : ldM.slice (Rect.unit (s := S3x7x32000) ![0, 0, 0] S3x7x1024.size hh) hs = ldB 0 :=
  ldB_congr (b := 0) (by decide) _ _
@[sl_canon] theorem ltBL0 (hh hs) : ltM.slice (Rect.unit (s := S3x8x128256) ![0, 0, 0] S3x8x1024.size hh) hs = ltB 0 :=
  ltB_congr (b := 0) (by decide) _ _
@[sl_canon] theorem ldN_eq (hh hs) : ldM.slice (Rect.unit (s := S3x7x32000) ![0, 0, 31744] S3x7x256.size hh) hs = ldN :=
  rfl
@[sl_canon] theorem ltN_eq (hh hs) : ltM.slice (Rect.unit (s := S3x8x128256) ![0, 0, 128000] S3x8x256.size hh) hs = ltN :=
  rfl

/-! ## The checks -/

theorem chk10_ok (j v : BitVec 32) (h : Jok j) : k0_chk10 j v :=
  have H := chk1_ok (Scalar.addi j (Scalar.extui (Scalar.andi (Scalar.cmpi .slt (Scalar.addi (Scalar.addi (Scalar.muli j 128#32) 127#32) v) 128128#32) (Scalar.cmpi .slt j 249#32)))) (step_ok _ _ h)
  ⟨H.1, H.2.1, H.2.2.1, H.2.2.2.1, H.2.2.2.2.1, H.2.2.2.2.2.1, H.2.2.2.2.2.2.1, H.2.2.2.2.2.2.2.1⟩

/-- A token of the draft vocabulary: its 128-wide row is one of the 250. -/
def Tok (v : BitVec 32) : Prop := v.toNat < 32000
theorem Tok.row {v : BitVec 32} (h : Tok v) : (Scalar.shrui v 7#32).toNat < 250 := by
  have e : (Scalar.shrui v 7#32) = v >>> 7 := by
    simp [Scalar.shrui, IntOp.shrui]
  rw [e, BitVec.toNat_ushiftRight, Nat.shiftRight_eq_div_pow]
  unfold Tok at h
  omega
theorem row_inb (n o : ℕ) (h : n < 250) (ho : o + 8 ≤ 24) : ∀ a, (![n, o, 0] : Fin 3 → ℕ) a + S1x8x128.size a ≤ S250x24x128.size a := by
  intro a; fin_cases a
  · show n + 1 ≤ 250; omega
  · show o + 8 ≤ 24; omega
  · show 0 + 128 ≤ 128; omega
theorem chk11_ok (v : BitVec 32) (h : Tok v) : k0_chk11 v := row_inb _ 0 h.row (by decide)
theorem chk12_ok (v : BitVec 32) (h : Tok v) : k0_chk12 v := row_inb _ 0 h.row (by decide)
theorem chk13_ok (v : BitVec 32) (h : Tok v) : k0_chk13 v := row_inb _ 0 h.row (by decide)
theorem chk14_ok (v : BitVec 32) (h : Tok v) : k0_chk14 v := row_inb _ 0 h.row (by decide)
theorem chk15_ok (v : BitVec 32) (h : Tok v) : k0_chk15 v := row_inb _ 0 h.row (by decide)
theorem chk16_ok (v : BitVec 32) (h : Tok v) : k0_chk16 v := row_inb _ 0 h.row (by decide)
theorem chk17_ok (v : BitVec 32) (h : Tok v) : k0_chk17 v := row_inb _ 0 h.row (by decide)
theorem chk18_ok (v : BitVec 32) (h : Tok v) : k0_chk18 v := row_inb _ 8 h.row (by decide)
theorem chk19_ok (v : BitVec 32) (h : Tok v) : k0_chk19 v := row_inb _ 8 h.row (by decide)
theorem chk20_ok (v : BitVec 32) (h : Tok v) : k0_chk20 v := row_inb _ 8 h.row (by decide)
theorem chk21_ok (v : BitVec 32) (h : Tok v) : k0_chk21 v := row_inb _ 8 h.row (by decide)
theorem chk22_ok (v : BitVec 32) (h : Tok v) : k0_chk22 v := row_inb _ 8 h.row (by decide)
theorem chk23_ok (v : BitVec 32) (h : Tok v) : k0_chk23 v := row_inb _ 8 h.row (by decide)
theorem chk24_ok (v : BitVec 32) (h : Tok v) : k0_chk24 v := row_inb _ 8 h.row (by decide)
theorem chk25_ok (v : BitVec 32) (h : Tok v) : k0_chk25 v := row_inb _ 16 h.row (by decide)
theorem chk26_ok (v : BitVec 32) (h : Tok v) : k0_chk26 v := row_inb _ 16 h.row (by decide)
theorem chk27_ok (v : BitVec 32) (h : Tok v) : k0_chk27 v := row_inb _ 16 h.row (by decide)
theorem chk28_ok (v : BitVec 32) (h : Tok v) : k0_chk28 v := row_inb _ 16 h.row (by decide)
theorem chk29_ok (v : BitVec 32) (h : Tok v) : k0_chk29 v := row_inb _ 16 h.row (by decide)
theorem chk30_ok (v : BitVec 32) (h : Tok v) : k0_chk30 v := row_inb _ 16 h.row (by decide)
theorem chk31_ok (v : BitVec 32) (h : Tok v) : k0_chk31 v := row_inb _ 16 h.row (by decide)

end Cert.Proof.KernelIdealRun
-- ==== Proof.KernelIdealEnds.lean ====
/-
  The state on entry to and exit from the two loops over the weights, spelled with the slots' own numbers; the two loops over
  the 250 rows of the kept logits.
-/
module

public import proofs.«01_k».proof.Proof.KernelIdealPre

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The narrow part of an output slot -/

/-- The first 256 columns of slot 0 of the draft output ring: where the narrow last block is rounded into. -/
def dnslot : Memref sig .tc .vmem S3x7x256 .bf16 :=
  (obdM.slice (Rect.unit (s := S2x3x7x1024) ![0, 0, 0, 0] S1x3x7x256.size inb_S2x3x7x1024_S1x3x7x256_0_0_0_0) (fun _ => rfl)).squeeze S3x7x256 squeezes_S1x3x7x256_S3x7x256
@[sl_canon] theorem dnslot_eq (hh hs) : (obdM.slice (Rect.unit (s := S2x3x7x1024) ![0, 0, 0, 0] S1x3x7x256.size hh) hs).squeeze S3x7x256 squeezes_S1x3x7x256_S3x7x256 = dnslot := rfl
abbrev dNR : Finset S2x3x7x1024.Idx := (Rect.unit (s := S2x3x7x1024) ![0, 0, 0, 0] S1x3x7x256.size inb_S2x3x7x1024_S1x3x7x256_0_0_0_0).set
abbrev dBR : Finset S2x3x7x1024.Idx := (Rect.unit (s := S2x3x7x1024) (o4 (0 : Fin 2).val) S1x3x7x1024.size (o4_inbD 0)).set
theorem dnslot_set : dnslot.view.set = dNR := (View.set_reshape _ _).trans (View.set_slice_whole _ _)
theorem dslot0_set : (dslot 0).view.set = dBR := (View.set_reshape _ _).trans (View.set_slice_whole _ _)
theorem dNR_sub : dNR ⊆ dBR := by
  intro y hy
  rw [Rect.mem_set_unit] at hy ⊢
  intro i
  have h := hy i
  refine ⟨?_, ?_⟩
  · fin_cases i <;> exact Nat.zero_le _
  · fin_cases i
    · exact h.2
    · exact h.2
    · exact h.2
    · exact Nat.lt_of_lt_of_le h.2 (by show 0 + 256 ≤ 0 + 1024; omega)
theorem dnslot_sub : dnslot.view.set ⊆ (dslot 0).view.set :=
  (Finset.Subset.trans dnslot_set.subset dNR_sub).trans dslot0_set.symm.subset
theorem dslot_cut (c : Dev nD) (f) : (dslotP (F := F) c 0 f : sProp 𝕄) ⊢ iprop((dnslot.view.loc (c : Thread nD τ) ↦[dnslot.view.set]{fullShare} f) ∗ ((dslot 0).view.loc (c : Thread nD τ) ↦[(dslot 0).view.set \ dnslot.view.set]{fullShare} f)) :=
  (pointsTo_split_subset dnslot_sub).1
theorem dslot_join (c : Dev nD) (f g) : (iprop((dnslot.view.loc (c : Thread nD τ) ↦[dnslot.view.set]{fullShare} f) ∗ ((dslot 0).view.loc (c : Thread nD τ) ↦[(dslot 0).view.set \ dnslot.view.set]{fullShare} g)) : sProp 𝕄) ⊢ iprop(∃ f, dslotP (F := F) c 0 f) := by
  iintro ⟨H, H'⟩
  iexists _
  iapply (pointsTo_join_subset dnslot_sub)
  isplitl [H]; · iexact H
  iexact H'

/-- The first 256 columns of slot 0 of the target output ring: where the narrow last block is rounded into. -/
def tnslot : Memref sig .tc .vmem S3x8x256 .bf16 :=
  (obtM.slice (Rect.unit (s := S2x3x8x1024) ![0, 0, 0, 0] S1x3x8x256.size inb_S2x3x8x1024_S1x3x8x256_0_0_0_0) (fun _ => rfl)).squeeze S3x8x256 squeezes_S1x3x8x256_S3x8x256
@[sl_canon] theorem tnslot_eq (hh hs) : (obtM.slice (Rect.unit (s := S2x3x8x1024) ![0, 0, 0, 0] S1x3x8x256.size hh) hs).squeeze S3x8x256 squeezes_S1x3x8x256_S3x8x256 = tnslot := rfl
abbrev tNR : Finset S2x3x8x1024.Idx := (Rect.unit (s := S2x3x8x1024) ![0, 0, 0, 0] S1x3x8x256.size inb_S2x3x8x1024_S1x3x8x256_0_0_0_0).set
abbrev tBR : Finset S2x3x8x1024.Idx := (Rect.unit (s := S2x3x8x1024) (o4 (0 : Fin 2).val) S1x3x8x1024.size (o4_inbT 0)).set
theorem tnslot_set : tnslot.view.set = tNR := (View.set_reshape _ _).trans (View.set_slice_whole _ _)
theorem tslot0_set : (tslot 0).view.set = tBR := (View.set_reshape _ _).trans (View.set_slice_whole _ _)
theorem tNR_sub : tNR ⊆ tBR := by
  intro y hy
  rw [Rect.mem_set_unit] at hy ⊢
  intro i
  have h := hy i
  refine ⟨?_, ?_⟩
  · fin_cases i <;> exact Nat.zero_le _
  · fin_cases i
    · exact h.2
    · exact h.2
    · exact h.2
    · exact Nat.lt_of_lt_of_le h.2 (by show 0 + 256 ≤ 0 + 1024; omega)
theorem tnslot_sub : tnslot.view.set ⊆ (tslot 0).view.set :=
  (Finset.Subset.trans tnslot_set.subset tNR_sub).trans tslot0_set.symm.subset
theorem tslot_cut (c : Dev nD) (f) : (tslotP (F := F) c 0 f : sProp 𝕄) ⊢ iprop((tnslot.view.loc (c : Thread nD τ) ↦[tnslot.view.set]{fullShare} f) ∗ ((tslot 0).view.loc (c : Thread nD τ) ↦[(tslot 0).view.set \ tnslot.view.set]{fullShare} f)) :=
  (pointsTo_split_subset tnslot_sub).1
theorem tslot_join (c : Dev nD) (f g) : (iprop((tnslot.view.loc (c : Thread nD τ) ↦[tnslot.view.set]{fullShare} f) ∗ ((tslot 0).view.loc (c : Thread nD τ) ↦[(tslot 0).view.set \ tnslot.view.set]{fullShare} g)) : sProp 𝕄) ⊢ iprop(∃ f, tslotP (F := F) c 0 f) := by
  iintro ⟨H, H'⟩
  iexists _
  iapply (pointsTo_join_subset tnslot_sub)
  isplitl [H]; · iexact H
  iexact H'

section L1
variable (c : Dev nD) (WD : Buf (Elt F) (wdM.view.loc (c : Thread nD τ))) (WT : Buf (Elt F) (wtM.view.loc (c : Thread nD τ)))
  (H8 : Buf (Elt F) (h8M.view.loc (c : Thread nD τ))) (WDS : Buf (Elt F) (wdsM.view.loc (c : Thread nD τ)))
  (hs0 hs1 hs2 : FVec F S8x128 .f32)

theorem inv1_entry :
    iprop(flightD c WD 0 0 ∗ wdRest c WD 0 0 ∗ flightD c WD 1 1 ∗ wdRest c WD 1 1 ∗ flightD c WD 2 2 ∗ wdRest c WD 2 2
      ∗ freeS c WD WT 3 ∗ (wtP c WT 0 ∗ wtP c WT 1 ∗ wtP c WT 2) ∗ ((∃ f, dslotP c 0 f) ∗ dcell c 0) ∗ ((∃ f, dslotP c 1 f) ∗ dcell c 1)
      ∗ bigSep Finset.univ (ldHome (F := F) c) ∗ h8P c H8 ∗ wdsP c WDS ∗ (∃ f, zdP c f) ∗ (∃ W, owes (c : Thread nD τ) 0 W))
    ⊢ (inv1 c WD WT H8 WDS hs0 hs1 hs2 0 : sProp 𝕄) := by
  unfold inv1 ldAt
  rw [stepF_D c WD WT 0 (by omega), stepF_D c WD WT (0 + 1) (by omega), stepF_D c WD WT (0 + 2) (by omega), oD_neg _ _ _ _ _ _ _ 0 (by omega),
    oD_neg _ _ _ _ _ _ _ (0 + 1) (by omega), Ring.rangeSet_univ, Ring.bigSep_rangeSet_empty (by omega),
    show Ring.sl 4 0 = 0 from rfl, show Ring.sl 4 (0 + 1) = 1 from rfl, show Ring.sl 4 (0 + 2) = 2 from rfl, show Ring.sl 4 (0 + 3) = 3 from rfl,
    show Ring.bk 31 0 = 0 from rfl, show Ring.bk 31 (0 + 1) = 1 from rfl, show Ring.bk 31 (0 + 2) = 2 from rfl, show Ring.sl 2 0 = 0 from rfl, show Ring.sl 2 (0 + 1) = 1 from rfl]
  iintro ⟨A0, B0, A1, B1, A2, B2, HF, ⟨T0, T1, T2⟩, O0, O1, L, H, D, Z, W⟩
  isplitl [A0 B0 T0]
  · isplitl [A0]; · iexact A0
    isplitl [B0]; · iexact B0
    iexact T0
  isplitl [A1 B1 T1]
  · isplitl [A1]; · iexact A1
    isplitl [B1]; · iexact B1
    iexact T1
  isplitl [A2 B2 T2]
  · isplitl [A2]; · iexact A2
    isplitl [B2]; · iexact B2
    iexact T2
  isplitl [HF]; · iexact HF
  isplitl [O0]; · iexact O0
  isplitl [O1]; · iexact O1
  isplitl [L]
  · isplitl [L]; · iexact L
    iempintro
  isplitl [H]; · iexact H
  isplitl [D]; · iexact D
  isplitl [Z]; · iexact Z
  iexact W

theorem inv1_exit : (inv1 c WD WT H8 WDS hs0 hs1 hs2 k0_t1_loop.trips : sProp 𝕄)
    ⊢ iprop((flightDN c WD 3 ∗ (∃ f, rslotR c 3 f) ∗ wdNRest c WD 3 ∗ wtP c WT 3) ∗ (flightT c WT 0 0 ∗ wtRest c WT 0 0 ∗ wdP c WD 0)
      ∗ (flightT c WT 1 1 ∗ wtRest c WT 1 1 ∗ wdP c WD 1) ∗ freeS c WD WT 2 ∗ outD c WD H8 WDS hs0 hs1 hs2 1 29 ∗ outD c WD H8 WDS hs0 hs1 hs2 0 30
      ∗ bigSep (Ring.rangeSet 31 0 29) (ldDone c WD H8 WDS hs0 hs1 hs2) ∗ h8P c H8 ∗ wdsP c WDS ∗ (∃ f, zdP c f) ∗ (∃ W, owes (c : Thread nD τ) 0 W)) := by
  rw [trips1]
  unfold inv1 ldAt
  rw [stepF_DN c WD WT 31 rfl, stepF_T c WD WT (31 + 1) (by omega) (by omega), stepF_T c WD WT (31 + 2) (by omega) (by omega), oD_pos _ _ _ _ _ _ _ 31 (by omega),
    oD_pos _ _ _ _ _ _ _ (31 + 1) (by omega), Ring.bigSep_rangeSet_empty (lo := 31) (hi := 31) (by omega),
    show Ring.sl 4 31 = 3 from rfl, show Ring.sl 4 (31 + 1) = 0 from rfl, show Ring.sl 4 (31 + 2) = 1 from rfl, show Ring.sl 4 (31 + 3) = 2 from rfl,
    show Ring.bk 125 (31 + 1 - 32) = 0 from rfl, show Ring.bk 125 (31 + 2 - 32) = 1 from rfl, show Ring.bk 31 (31 - 2) = 29 from rfl, show Ring.bk 31 (31 + 1 - 2) = 30 from rfl,
    show Ring.sl 2 31 = 1 from rfl, show Ring.sl 2 (31 + 1) = 0 from rfl, show 31 - 2 = 29 from rfl]
  iintro ⟨A0, A1, A2, A3, O0, O1, ⟨-, L⟩, H⟩
  isplitl [A0]; · iexact A0
  isplitl [A1]; · iexact A1
  isplitl [A2]; · iexact A2
  isplitl [A3]; · iexact A3
  isplitl [O0]; · iexact O0
  isplitl [O1]; · iexact O1
  isplitl [L]; · iexact L
  iexact H
end L1

section L3
variable (c : Dev nD) (WD : Buf (Elt F) (wdM.view.loc (c : Thread nD τ))) (WT : Buf (Elt F) (wtM.view.loc (c : Thread nD τ)))
  (X8 : Buf (Elt F) (x8M.view.loc (c : Thread nD τ))) (WTS : Buf (Elt F) (wtsM.view.loc (c : Thread nD τ)))
  (D2 : Buf (Elt F) (d2tM.view.loc (c : Thread nD τ))) (D2S : Buf (Elt F) (d2tsM.view.loc (c : Thread nD τ)))
  (xs0 xs1 xs2 : FVec F S8x128 .f32)

theorem inv3_entry (acc : Acc7 (F := F)) (hJ : Jok acc.2.2.2.2.2.2) :
    iprop((flightT c WT 0 0 ∗ wtRest c WT 0 0 ∗ wdP c WD 0) ∗ (flightT c WT 1 1 ∗ wtRest c WT 1 1 ∗ wdP c WD 1) ∗ (flightT c WT 2 2 ∗ wtRest c WT 2 2 ∗ wdP c WD 2)
      ∗ freeS c WD WT 3 ∗ ((∃ f, tslotP c 0 f) ∗ tcell c 0) ∗ ((∃ f, tslotP c 1 f) ∗ tcell c 1)
      ∗ bigSep Finset.univ (ltHome (F := F) c) ∗ x8P c X8 ∗ wtsP c WTS ∗ d2tP c D2 ∗ d2tsP c D2S ∗ (∃ f, zcP c f) ∗ (∃ W, owes (c : Thread nD τ) 0 W))
    ⊢ (inv3 c WD WT X8 WTS D2 D2S xs0 xs1 xs2 0 acc : sProp 𝕄) := by
  unfold inv3 ltAt
  rw [stepF_T c WD WT (0 + 32) (by omega) (by omega), stepF_T c WD WT (0 + 33) (by omega) (by omega), stepF_T c WD WT (0 + 34) (by omega) (by omega), oT_neg _ _ _ _ _ _ _ 0 (by omega),
    oT_neg _ _ _ _ _ _ _ (0 + 1) (by omega), Ring.rangeSet_univ, Ring.bigSep_rangeSet_empty (by omega),
    show Ring.sl 4 (0 + 32) = 0 from rfl, show Ring.sl 4 (0 + 33) = 1 from rfl, show Ring.sl 4 (0 + 34) = 2 from rfl, show Ring.sl 4 (0 + 35) = 3 from rfl,
    show Ring.bk 125 (0 + 32 - 32) = 0 from rfl, show Ring.bk 125 (0 + 33 - 32) = 1 from rfl, show Ring.bk 125 (0 + 34 - 32) = 2 from rfl, show Ring.sl 2 0 = 0 from rfl, show Ring.sl 2 (0 + 1) = 1 from rfl]
  iintro ⟨A0, A1, A2, A3, O0, O1, L, H⟩
  isplitr; · ipureintro; exact hJ
  isplitl [A0]; · iexact A0
  isplitl [A1]; · iexact A1
  isplitl [A2]; · iexact A2
  isplitl [A3]; · iexact A3
  isplitl [O0]; · iexact O0
  isplitl [O1]; · iexact O1
  isplitl [L]
  · isplitl [L]; · iexact L
    iempintro
  iexact H

theorem inv3_exit (acc : Acc7 (F := F)) : (inv3 c WD WT X8 WTS D2 D2S xs0 xs1 xs2 k0_t3_loop.trips acc : sProp 𝕄)
    ⊢ iprop(⌜Jok acc.2.2.2.2.2.2⌝ ∗ (flightTN c WT 1 ∗ (∃ f, rslotR c 1 f) ∗ wtNRest c WT 1 ∗ wdP c WD 1) ∗ freeS c WD WT 2 ∗ freeS c WD WT 3 ∗ freeS c WD WT 0
      ∗ outT c WT X8 WTS xs0 xs1 xs2 1 123 ∗ outT c WT X8 WTS xs0 xs1 xs2 0 124
      ∗ bigSep (Ring.rangeSet 125 0 123) (ltDone c WT X8 WTS xs0 xs1 xs2) ∗ x8P c X8 ∗ wtsP c WTS ∗ d2tP c D2 ∗ d2tsP c D2S ∗ (∃ f, zcP c f) ∗ (∃ W, owes (c : Thread nD τ) 0 W)) := by
  rw [trips3]
  unfold inv3 ltAt
  rw [stepF_TN c WD WT (125 + 32) rfl, stepF_free c WD WT (125 + 33) (by omega), stepF_free c WD WT (125 + 34) (by omega), oT_pos _ _ _ _ _ _ _ 125 (by omega),
    oT_pos _ _ _ _ _ _ _ (125 + 1) (by omega), Ring.bigSep_rangeSet_empty (lo := 125) (hi := 125) (by omega),
    show Ring.sl 4 (125 + 32) = 1 from rfl, show Ring.sl 4 (125 + 33) = 2 from rfl, show Ring.sl 4 (125 + 34) = 3 from rfl, show Ring.sl 4 (125 + 35) = 0 from rfl,
    show Ring.bk 125 (125 - 2) = 123 from rfl, show Ring.bk 125 (125 + 1 - 2) = 124 from rfl,
    show Ring.sl 2 125 = 1 from rfl, show Ring.sl 2 (125 + 1) = 0 from rfl, show 125 - 2 = 123 from rfl]
  iintro ⟨J, A0, A1, A2, A3, O0, O1, ⟨-, L⟩, H⟩
  isplitl [J]; · iexact J
  isplitl [A0]; · iexact A0
  isplitl [A1]; · iexact A1
  isplitl [A2]; · iexact A2
  isplitl [A3]; · iexact A3
  isplitl [O0]; · iexact O0
  isplitl [O1]; · iexact O1
  isplitl [L]; · iexact L
  iexact H
end L3

/-! ## The draft loop's normalization, and the overlap's sum: loops over the rows of the kept logits -/

end Cert.Proof.KernelIdealRun
-- ==== Proof.KernelIdealNarrow.lean ====
/-
  The elements of the narrow last block of the target logits, read at an index.
-/
module

public import proofs.«01_k».proof.Proof.KernelIdealVal
public import proofs.«01_k».proof.Proof.KernelIdealEnds
public import Idealize.ShloMosaic.Lib.ValueLayout
public import Idealize.ShloMosaic.Lib.Pipeline.ValueKit

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The narrow block of target logits, from its product `A`, the scales `X` of the three batches' rows and the scales `R` of its
    two groups of columns. -/
def blockN (A : FVec F S32x256 .f32) (X : Fin 3 → FVec F S8x128 .f32) (R : Fin 2 → FVec F S1x128 .f32) (y : S3x8x256.Idx) : F .bf16 :=
  elemZ (A (ix2 ⟨8 * (y 0).val + (y 1).val, by have := (y 0).isLt; have := (y 1).isLt; change (y 0).val < 3 at *; change (y 1).val < 8 at *; omega⟩ ⟨(y 2).val, (y 2).isLt⟩))
    (X ⟨(y 0).val, (y 0).isLt⟩ (ix2 ⟨(y 1).val, (y 1).isLt⟩ ⟨(y 2).val % 128, Nat.mod_lt _ (by decide)⟩))
    (R ⟨(y 2).val / 128, by have h : (y 2).val < 256 := (y 2).isLt; omega⟩ (ix2 0 ⟨(y 2).val % 128, Nat.mod_lt _ (by decide)⟩))

/-- The piece of a block that batch `b` and group `i` store. -/
theorem pieceN (A : FVec F S32x256 .f32) (X : Fin 3 → FVec F S8x128 .f32) (R : Fin 2 → FVec F S1x128 .f32) (b : Fin 3) (i : Fin 2)
    (off : Fin 2 → ℕ) (hoff : off = ![8 * b.val, 128 * i.val]) (hs : S32x256.Slices off S8x128) (x : S1x1x8x128.Idx) (y : S3x8x256.Idx)
    (h0 : (y 0).val = b.val) (h1 : (y 1).val = (x 2).val) (h2 : (y 2).val = 128 * i.val + (x 3).val) :
    shapeCast S1x1x8x128 (truncf .bf16 (mulf (extractStridedSlice S8x128 off A hs) (mulf (X b)
        (broadcastTo S8x128 (shapeCast S1x128 (mulf (R i) (broadcast S1x128 (Scalar.ofBits .f32 0x3FB6DB6E#32))) shapeCasts_S1x128_S1x128) broadcasts_S1x128_S8x128)))
      bitsLt_bf16_f32) shapeCasts_S8x128_S1x1x8x128 x = blockN A X R y := by
  have hx2 : (x 2).val < 8 := (x 2).isLt
  have hx3 : (x 3).val < 128 := (x 3).isLt
  have hx0 : (x 0).val < 1 := (x 0).isLt
  have hx1 : (x 1).val < 1 := (x 1).isLt
  subst hoff
  rw [shapeCast_apply _ shapeCasts_S8x128_S1x1x8x128 x (ix2 ⟨(x 2).val, hx2⟩ ⟨(x 3).val, hx3⟩) (by
    rw [Shape.rowMajor_val_four, Shape.rowMajor_val_two]
    show (x 2).val * 128 + (x 3).val = (((x 0).val * 1 + (x 1).val) * 8 + (x 2).val) * 128 + (x 3).val
    omega)]
  unfold blockN elemZ
  show FloatOps.truncf .bf16 bitsLt_bf16_f32 (FloatOps.mulf _ (FloatOps.mulf _ _)) = _
  congr 2
  · show A _ = A _
    refine congrArg A (funext fun a => Fin.ext ?_)
    fin_cases a
    · show 8 * b.val + (x 2).val = 8 * (y 0).val + (y 1).val; omega
    · show 128 * i.val + (x 3).val = (y 2).val; omega
  · have e0 : (⟨(y 0).val, (y 0).isLt⟩ : Fin 3) = b := Fin.ext h0
    have e2 : (y 2).val % 128 = (x 3).val := by omega
    congr 1
    · rw [e0]
      refine congrArg (X b) (funext fun a => Fin.ext ?_)
      fin_cases a
      · show (x 2).val = (y 1).val; omega
      · show (x 3).val = (y 2).val % 128; omega
    · rw [broadcastTo_apply _ broadcasts_S1x128_S8x128 _ (ix2 0 ⟨(x 3).val, hx3⟩) (fun ax => by
        match ax with
        | ⟨0, _⟩ => rfl
        | ⟨1, _⟩ => rfl), shapeCast_self]
      show FloatOps.mulf _ _ = FloatOps.mulf _ _
      congr 1
      have ei : (⟨(y 2).val / 128, by have h : (y 2).val < 256 := (y 2).isLt; omega⟩ : Fin 2) = i := Fin.ext (by show (y 2).val / 128 = i.val; omega)
      rw [ei]
      refine congrArg (R i) (funext fun a => Fin.ext ?_)
      fin_cases a
      · rfl
      · show (x 3).val = (y 2).val % 128; omega

/-- One store into an output slot, read at an element of the slot. -/
theorem stepN (A : FVec F S32x256 .f32) (X : Fin 3 → FVec F S8x128 .f32) (R : Fin 2 → FVec F S1x128 .f32) (s : ℕ) (b : Fin 3) (i : Fin 2)
    (off : Fin 4 → ℕ) (hoff : off = ![s, b.val, 0, 128 * i.val]) (hi : ∀ a, off a + S1x1x8x128.size a ≤ S2x3x8x1024.size a)
    (f : S2x3x8x1024.Idx → Elt F .bf16) (w : S1x1x8x128.Idx → Elt F .bf16) (z : S2x3x8x1024.Idx) (hz : (z 0).val = s) (y : S3x8x256.Idx)
    (hy : ∀ a : Fin 3, (z a.succ).val = (y a).val)
    (off2 : Fin 2 → ℕ) (hoff2 : off2 = ![8 * b.val, 128 * i.val]) (hs : S32x256.Slices off2 S8x128)
    (hw : w = shapeCast S1x1x8x128 (truncf .bf16 (mulf (extractStridedSlice S8x128 off2 A hs) (mulf (X b)
        (broadcastTo S8x128 (shapeCast S1x128 (mulf (R i) (broadcast S1x128 (Scalar.ofBits .f32 0x3FB6DB6E#32))) shapeCasts_S1x128_S1x128) broadcasts_S1x128_S8x128)))
      bitsLt_bf16_f32) shapeCasts_S8x128_S1x1x8x128)
    (hf : ¬((y 0).val = b.val ∧ (y 2).val / 128 = i.val) → f z = blockN A X R y) :
    View.write (Elt F) ((Memref.whole cc0_scratch15).access (Rect.unit off S1x1x8x128.size hi)) f w Finset.univ z = blockN A X R y := by
  have hy0 : (z 1).val = (y 0).val := hy 0
  have hy1 : (z 2).val = (y 1).val := hy 1
  have hy2 : (z 3).val = (y 2).val := hy 2
  have l1 : (y 1).val < 8 := (y 1).isLt
  have l2 : (y 2).val < 256 := (y 2).isLt
  subst hoff
  by_cases h : (y 0).val = b.val ∧ (y 2).val / 128 = i.val
  · let x : S1x1x8x128.Idx := ix4 (0 : Fin 1) (0 : Fin 1) ⟨(y 1).val, l1⟩ ⟨(y 2).val % 128, Nat.mod_lt _ (by decide)⟩
    have hx : ((Memref.whole cc0_scratch15).access (Rect.unit (s := S2x3x8x1024) ![s, b.val, 0, 128 * i.val] S1x1x8x128.size hi)).emb x = z := by
      funext a
      refine Fin.ext ?_
      refine (ValueKit.view_emb_slice_whole_unit_val cc0_scratch15 ![s, b.val, 0, 128 * i.val] S1x1x8x128.size hi x a).trans ?_
      fin_cases a
      · show s + 0 = (z 0).val; omega
      · show b.val + 0 = (z 1).val; omega
      · show 0 + (y 1).val = (z 2).val; omega
      · show 128 * i.val + (y 2).val % 128 = (z 3).val; omega
    rw [← hx]
    refine (View.write_emb_of_mem _ _ (Finset.mem_univ x)).trans ?_
    rw [hw]
    exact pieceN A X R b i off2 hoff2 hs x y h.1 rfl (by show (y 2).val = 128 * i.val + (y 2).val % 128; omega)
  · refine (View.write_of_not_mem _ _ _ ?_).trans (hf h)
    intro hm
    obtain ⟨x, -, hx⟩ := Finset.mem_map.1 hm
    have v : ∀ a, (z a).val = ![s, b.val, 0, 128 * i.val] a + (x a).val := fun a => by
      rw [← hx]; exact ValueKit.view_emb_slice_whole_unit_val cc0_scratch15 ![s, b.val, 0, 128 * i.val] S1x1x8x128.size hi x a
    have v1 : (z 1).val = b.val + (x 1).val := v 1
    have v3 : (z 3).val = 128 * i.val + (x 3).val := v 3
    have x1 : (x 1).val < 1 := (x 1).isLt
    have x3 : (x 3).val < 128 := (x 3).isLt
    refine h ⟨by omega, by omega⟩

/-- The product of the packed states with the weight's last 256 columns, and the scales of its two groups of columns. -/
def prodN (X8 : S32x3072.Idx → Elt F .fp8e4m3) (W : S3072x256.Idx → Elt F .fp8e4m3) : FVec F S32x256 .f32 :=
  matmul dot_S32x3072_S3072x256_S32x256_1_0_0_1_n_n none (X8 : FVec F S32x3072 .fp8e4m3) (W : FVec F S3072x256 .fp8e4m3) (constant S32x256 .f32 0x00000000#32)
def rowsN (WTS : S1002x128.Idx → Elt F .f32) (i : Fin 2) : FVec F S1x128 .f32 :=
  fun j => WTS (ix2 ⟨1000 + i.val, by have := i.isLt; omega⟩ ⟨(j 1).val, (j 1).isLt⟩)

theorem squeeze3N (p : S3072x256.Idx) : Shape.reshapeEquiv (squeezes_S1x3072x256_S3072x256).numel_eq p
    = (ix3 (0 : Fin 1) ⟨(p 0).val, (p 0).isLt⟩ ⟨(p 1).val, (p 1).isLt⟩ : S1x3072x256.Idx) := by
  refine shapeCast_apply (s := S1x3072x256) (t := S3072x256) (fun z => z) _ p _ ?_
  rw [Shape.rowMajor_val_three, Shape.rowMajor_val_two]
  show ((0 : ℕ) * 3072 + (p 0).val) * 256 + (p 1).val = (p 0).val * 256 + (p 1).val
  omega

theorem squeeze4N (p : S3x8x256.Idx) : Shape.reshapeEquiv (squeezes_S1x3x8x256_S3x8x256).numel_eq p
    = (ix4 (0 : Fin 1) ⟨(p 0).val, (p 0).isLt⟩ ⟨(p 1).val, (p 1).isLt⟩ ⟨(p 2).val, (p 2).isLt⟩ : S1x3x8x256.Idx) := by
  refine shapeCast_apply (s := S1x3x8x256) (t := S3x8x256) (fun z => z) _ p _ ?_
  rw [Shape.rowMajor_val_four, Shape.rowMajor_val_three]
  show (((0 : ℕ) * 3 + (p 0).val) * 8 + (p 1).val) * 256 + (p 2).val = ((p 0).val * 8 + (p 1).val) * 256 + (p 2).val
  omega

theorem nslot_emb (s : Fin 4) (p : S3072x256.Idx) : (nslot s).view.emb p
    = (ix3 s ⟨(p 0).val, (p 0).isLt⟩ ⟨(p 1).val, by have h : (p 1).val < 256 := (p 1).isLt; omega⟩ : S4x3072x1024.Idx) := by
  show ((Memref.whole cc0_scratch0).view.slice (Rect.unit (s := S4x3072x1024) (o3 s.val) S1x3072x256.size (o3_inbN s))).emb (Shape.reshapeEquiv (squeezes_S1x3072x256_S3072x256).numel_eq p) = _
  rw [squeeze3N]
  funext a
  refine Fin.ext ?_
  refine (ValueKit.view_emb_slice_whole_unit_val cc0_scratch0 (o3 s.val) S1x3072x256.size (o3_inbN s) _ a).trans ?_
  fin_cases a
  · show s.val + 0 = s.val; omega
  · show 0 + (p 0).val = (p 0).val; omega
  · show 0 + (p 1).val = (p 1).val; omega

theorem slab_readN (s : Fin 4) (off : Fin 3 → ℕ) (hoff : off = ![s.val, 0, 0]) (hi : ∀ a, off a + S1x3072x256.size a ≤ S4x3072x1024.size a)
    (g : S4x3072x1024.Idx → Elt F .fp8e4m3) (w : S3072x256.Idx → Elt F .fp8e4m3)
    (hg : ∀ p : S3072x256.Idx, g (ix3 s ⟨(p 0).val, (p 0).isLt⟩ ⟨(p 1).val, by have h : (p 1).val < 256 := (p 1).isLt; omega⟩ : S4x3072x1024.Idx) = w p) :
    shapeCast S3072x256 (View.readAt (Elt F) (Memref.whole cc0_scratch0).view (Rect.unit (s := S4x3072x1024) off S1x3072x256.size hi).toLoadRect g)
      shapeCasts_S1x3072x256_S3072x256 = w := by
  subst hoff
  funext p
  refine Eq.trans ?_ (hg p)
  show g _ = g _
  refine congrArg g (funext fun a => Fin.ext ?_)
  refine (ValueKit.view_emb_slice_whole_unit_val cc0_scratch0 ![s.val, 0, 0] S1x3072x256.size hi (Shape.reshapeEquiv (squeezes_S1x3072x256_S3072x256).numel_eq p) a).trans ?_
  rw [squeeze3N]
  fin_cases a
  · show s.val + 0 = s.val; omega
  · show 0 + (p 0).val = (p 0).val; omega
  · show 0 + (p 1).val = (p 1).val; omega

theorem land_atN (s : Fin 4) (f : (nslot s).view.ty.Contents (Elt F)) (w : S3072x256.Idx → Elt F .fp8e4m3) (p : S3072x256.Idx)
    (g : S4x3072x1024.Idx → Elt F .fp8e4m3) (hg : g = (nslot s).view.writes (Elt F) f [⟨Rect.whole S3072x256, w⟩]) :
    g (ix3 s ⟨(p 0).val, (p 0).isLt⟩ ⟨(p 1).val, by have h : (p 1).val < 256 := (p 1).isLt; omega⟩) = w p := by
  have h := congrFun (View.read_writes_whole (Val := Elt F) (nslot s).view f w) p
  rw [← hg] at h
  refine Eq.trans ?_ h
  show _ = g _
  rw [nslot_emb]

theorem readRowN (WTS : S1002x128.Idx → Elt F .f32) (i : Fin 2) (off : Fin 2 → ℕ) (hoff : off = ![1000 + i.val, 0])
    (hi : ∀ a, off a + S1x128.size a ≤ S1002x128.size a) :
    View.readAt (Elt F) wtsM.view (Rect.unit (s := S1002x128) off S1x128.size hi).toLoadRect WTS = rowsN WTS i := by
  subst hoff
  funext p
  show WTS _ = WTS _
  refine congrArg WTS (funext fun a => Fin.ext ?_)
  refine (ValueKit.view_emb_slice_whole_unit_val cc0_scratch5 ![1000 + i.val, 0] S1x128.size hi p a).trans ?_
  have h0 : (p 0).val < 1 := (p 0).isLt
  fin_cases a
  · show 1000 + i.val + (p 0).val = 1000 + i.val; omega
  · show 0 + (p 1).val = (p 1).val; omega

theorem tnslot_emb (p : S3x8x256.Idx) : tnslot.view.emb p
    = (ix4 (0 : Fin 2) ⟨(p 0).val, (p 0).isLt⟩ ⟨(p 1).val, (p 1).isLt⟩ ⟨(p 2).val, by have h : (p 2).val < 256 := (p 2).isLt; omega⟩ : S2x3x8x1024.Idx) := by
  show ((Memref.whole cc0_scratch15).view.slice (Rect.unit (s := S2x3x8x1024) ![0, 0, 0, 0] S1x3x8x256.size inb_S2x3x8x1024_S1x3x8x256_0_0_0_0)).emb (Shape.reshapeEquiv (squeezes_S1x3x8x256_S3x8x256).numel_eq p) = _
  rw [squeeze4N]
  funext a
  refine Fin.ext ?_
  refine (ValueKit.view_emb_slice_whole_unit_val cc0_scratch15 ![0, 0, 0, 0] S1x3x8x256.size inb_S2x3x8x1024_S1x3x8x256_0_0_0_0 _ a).trans ?_
  fin_cases a
  · rfl
  · show 0 + (p 0).val = (p 0).val; omega
  · show 0 + (p 1).val = (p 1).val; omega
  · show 0 + (p 2).val = (p 2).val; omega
theorem read_tnslot (f : tnslot.view.ty.Contents (Elt F)) (y : S3x8x256.Idx) (v : Elt F .bf16)
    (g : S2x3x8x1024.Idx → Elt F .bf16) (hg : g = f)
    (h : ∀ z : S2x3x8x1024.Idx, (z 0).val = 0 → (∀ a : Fin 3, (z a.succ).val = (y a).val) → g z = v) :
    (ReadAs.same.apply (tnslot.view.read (Elt F) f) : S3x8x256.Idx → Elt F .bf16) y = v := by
  have h' := h (ix4 (0 : Fin 2) ⟨(y 0).val, (y 0).isLt⟩ ⟨(y 1).val, (y 1).isLt⟩ ⟨(y 2).val, by have h : (y 2).val < 256 := (y 2).isLt; omega⟩) rfl (by intro a; fin_cases a <;> rfl)
  rw [← tnslot_emb] at h'
  refine Eq.trans ?_ h'
  rw [hg]
  rfl

end Cert.Proof.KernelIdealRun
-- ==== Proof.KernelIdealSplit.lean ====
/-
  The buffers whole, and by parts: the weight ring and the output rings by slot, the weights by the shares the ring's cells
  lend, the logits by column block.
-/
module

public import proofs.«01_k».proof.Proof.KernelIdealEnds

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Split
variable (c : Dev nD)

theorem fin2 (Φ : Fin 2 → sProp 𝕄) : bigSep Finset.univ Φ = iprop(Φ 0 ∗ Φ 1) :=
  bigSep_univ_eq_bigSepL [(0 : Fin 2), (1 : Fin 2)] (by decide) (by decide) Φ
theorem fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem bigMono {I : Type} {s : Finset I} {Φ Ψ : I → sProp 𝕄} (h : ∀ i ∈ s, Φ i ⊢ Ψ i) : bigSep s Φ ⊢ bigSep s Ψ :=
  Idealize.SL.BI.bigSep_mono h

/-! ## The weight ring -/

theorem RS_disjoint : ∀ s s' : Fin 4, s ≠ s' → Disjoint (RS s) (RS s') := by
  intro s s' hne; rw [Finset.disjoint_left]; intro y hy hy'; rw [mem_RS] at hy hy'; exact hne (Fin.ext (hy.symm.trans hy'))
theorem RS_cover : (Finset.univ : Finset (Fin 4)).biUnion RS = Finset.univ := by
  ext y; simp only [Finset.mem_biUnion, Finset.mem_univ, true_and, iff_true]; exact ⟨⟨(y 0).val, (y 0).isLt⟩, by rw [mem_RS]⟩
theorem slotP_eq (s : Fin 4) (f) : slotP c s f = (((c : Thread nD τ).loc cc0_scratch0) ↦[RS s]{fullShare} f : sProp 𝕄) :=
  congrArg (fun S => (_ ↦[S]{fullShare} f : sProp 𝕄)) (rslot_set s)
theorem ring_split :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) RS RS_disjoint RS_cover f).trans (fin4 _))) $$ H
  icases H2 with ⟨H0, H1, H2, H3⟩
  isplitl [H0]
  · iexists f; iapply (Entails.of_eq (slotP_eq c 0 f).symm); iexact H0
  isplitl [H1]
  · iexists f; iapply (Entails.of_eq (slotP_eq c 1 f).symm); iexact H1
  isplitl [H2]
  · iexists f; iapply (Entails.of_eq (slotP_eq c 2 f).symm); iexact H2
  · iexists f; iapply (Entails.of_eq (slotP_eq c 3 f).symm); iexact H3
theorem ring_join :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) RS RS_disjoint RS_cover f0)
  irw [fin4]
  isplitl [H0]
  · iexists f0; iapply (Entails.of_eq (slotP_eq c 0 f0)); iexact H0
  isplitl [H1]
  · iexists f1; iapply (Entails.of_eq (slotP_eq c 1 f1)); iexact H1
  isplitl [H2]
  · iexists f2; iapply (Entails.of_eq (slotP_eq c 2 f2)); iexact H2
  · iexists f3; iapply (Entails.of_eq (slotP_eq c 3 f3)); iexact H3

/-! ## The draft output ring -/

abbrev OD (s : Fin 2) : Finset S2x3x7x1024.Idx := (Rect.unit (s := S2x3x7x1024) (o4 s.val) S1x3x7x1024.size (o4_inbD s)).set
theorem dslot_set (s : Fin 2) : (dslot s).view.set = OD s := (View.set_reshape _ _).trans (View.set_slice_whole _ _)
theorem mem_OD (s : Fin 2) (y : S2x3x7x1024.Idx) : y ∈ OD s ↔ (y 0).val = s.val := by
  rw [Rect.mem_set_unit]
  have h1 : (y 1).val < 3 := (y 1).isLt
  have h2 : (y 2).val < 7 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3; omega
    · show 0 ≤ (y 2).val ∧ (y 2).val < 0 + 7; omega
    · show 0 ≤ (y 3).val ∧ (y 3).val < 0 + 1024; omega
theorem OD_disjoint : ∀ s s' : Fin 2, s ≠ s' → Disjoint (OD s) (OD s') := by
  intro s s' hne; rw [Finset.disjoint_left]; intro y hy hy'; rw [mem_OD] at hy hy'; exact hne (Fin.ext (hy.symm.trans hy'))
theorem OD_cover : (Finset.univ : Finset (Fin 2)).biUnion OD = Finset.univ := by
  ext y; simp only [Finset.mem_biUnion, Finset.mem_univ, true_and, iff_true]; exact ⟨⟨(y 0).val, (y 0).isLt⟩, by rw [mem_OD]⟩
theorem dslotP_eq (s : Fin 2) (f) : dslotP c s f = (((c : Thread nD τ).loc cc0_scratch16) ↦[OD s]{fullShare} f : sProp 𝕄) :=
  congrArg (fun S => (_ ↦[S]{fullShare} f : sProp 𝕄)) (dslot_set s)
theorem dslot_split :
    iprop(∃ f : Buf (Elt F) ((c : Thread nD τ).loc cc0_scratch16), ((c : Thread nD τ).loc cc0_scratch16) ↦{fullShare} f)
      ⊢ (iprop((∃ f, dslotP c 0 f) ∗ ∃ f, dslotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch16) OD OD_disjoint OD_cover f).trans (fin2 _))) $$ H
  icases H2 with ⟨H0, H1⟩
  isplitl [H0]
  · iexists f; iapply (Entails.of_eq (dslotP_eq c 0 f).symm); iexact H0
  · iexists f; iapply (Entails.of_eq (dslotP_eq c 1 f).symm); iexact H1
theorem dslot_joinS :
    iprop((∃ f, dslotP c 0 f) ∗ ∃ f, dslotP c 1 f)
      ⊢ (iprop(∃ f : Buf (Elt F) ((c : Thread nD τ).loc cc0_scratch16), ((c : Thread nD τ).loc cc0_scratch16) ↦{fullShare} f) : sProp 𝕄) := by
  iintro ⟨⟨%f0, H0⟩, ⟨%f1, H1⟩⟩
  iapply (Ring.pointsTo_blocks_join_exists (ℓ := (c : Thread nD τ).loc cc0_scratch16) OD OD_disjoint OD_cover f0)
  irw [fin2]
  isplitl [H0]
  · iexists f0; iapply (Entails.of_eq (dslotP_eq c 0 f0)); iexact H0
  · iexists f1; iapply (Entails.of_eq (dslotP_eq c 1 f1)); iexact H1

/-! ## The draft logits -/

abbrev BD (b : Fin 31) : Finset S3x7x32000.Idx := (Rect.unit (s := S3x7x32000) (c3 b.val) S3x7x1024.size (c3_inbD b)).set
abbrev BND : Finset S3x7x32000.Idx := (Rect.unit (s := S3x7x32000) ![0, 0, 31744] S3x7x256.size inb_S3x7x32000_S3x7x256_0_0_31744).set
theorem ldB_set (b : Fin 31) : (ldB b).view.set = BD b := View.set_slice_whole _ _
theorem ldN_set : ldN.view.set = BND := View.set_slice_whole _ _
theorem mem_BD (b : Fin 31) (y : S3x7x32000.Idx) : y ∈ BD b ↔ 1024 * b.val ≤ (y 2).val ∧ (y 2).val < 1024 * b.val + 1024 := by
  rw [Rect.mem_set_unit]
  have h0 : (y 0).val < 3 := (y 0).isLt
  have h1 : (y 1).val < 7 := (y 1).isLt
  constructor
  · intro H; exact H 2
  · intro H i; fin_cases i
    · show 0 ≤ (y 0).val ∧ (y 0).val < 0 + 3; omega
    · show 0 ≤ (y 1).val ∧ (y 1).val < 0 + 7; omega
    · exact H
theorem mem_BND (y : S3x7x32000.Idx) : y ∈ BND ↔ 31744 ≤ (y 2).val := by
  rw [Rect.mem_set_unit]
  have h0 : (y 0).val < 3 := (y 0).isLt
  have h1 : (y 1).val < 7 := (y 1).isLt
  have h2 : (y 2).val < 32000 := (y 2).isLt
  constructor
  · intro H; have := H 2; exact this.1
  · intro H i; fin_cases i
    · show 0 ≤ (y 0).val ∧ (y 0).val < 0 + 3; omega
    · show 0 ≤ (y 1).val ∧ (y 1).val < 0 + 7; omega
    · show 31744 ≤ (y 2).val ∧ (y 2).val < 31744 + 256; omega
theorem BD_disjoint : ∀ b b' : Fin 31, b ≠ b' → Disjoint (BD b) (BD b') := by
  intro b b' hne; rw [Finset.disjoint_left]; intro y hy hy'; rw [mem_BD] at hy hy'; exact hne (Fin.ext (by omega))
theorem BD_cover : (Finset.univ : Finset S3x7x32000.Idx) \ BND = (Finset.univ : Finset (Fin 31)).biUnion BD := by
  ext y
  have h2 : (y 2).val < 32000 := (y 2).isLt
  rw [Finset.mem_sdiff, mem_BND, Finset.mem_biUnion]
  constructor
  · rintro ⟨-, h⟩
    exact ⟨⟨(y 2).val / 1024, by omega⟩, Finset.mem_univ _, (mem_BD _ _).2 (by show 1024 * ((y 2).val / 1024) ≤ _ ∧ _ < 1024 * ((y 2).val / 1024) + 1024; omega)⟩
  · rintro ⟨b, -, hb⟩
    rw [mem_BD] at hb
    have := b.isLt
    exact ⟨Finset.mem_univ _, by omega⟩
theorem ldBP_eq (b : Fin 31) (f) : ldBP c b f = (((c : Thread nD τ).loc main_v3_5) ↦[BD b]{fullShare} f : sProp 𝕄) :=
  congrArg (fun S => (_ ↦[S]{fullShare} f : sProp 𝕄)) (ldB_set b)
theorem ldNP_eq (f) : ldNP c f = (((c : Thread nD τ).loc main_v3_5) ↦[BND]{fullShare} f : sProp 𝕄) :=
  congrArg (fun S => (_ ↦[S]{fullShare} f : sProp 𝕄)) ldN_set
set_option maxRecDepth 4096 in
/-- The draft logits whole are their blocks and the narrow block; -/
theorem ld_split (f : Buf (Elt F) ((c : Thread nD τ).loc main_v3_5)) :
    (((c : Thread nD τ).loc main_v3_5) ↦{fullShare} f : sProp 𝕄) ⊢ iprop(bigSep Finset.univ (ldHome (F := F) c) ∗ ∃ f, ldNP (F := F) c f) := by
  iintro H
  ihave H2 := (pointsTo_split_subset (ℓ := (c : Thread nD τ).loc main_v3_5) (q := fullShare) (f := f) (I := BND) (S := Finset.univ) (Finset.subset_univ _)).1 $$ H
  icases H2 with ⟨HN, HR⟩
  isplitl [HR]
  · ihave HR2 := (Entails.of_eq ((congrArg (fun S => (((c : Thread nD τ).loc main_v3_5) ↦[S]{fullShare} f : sProp 𝕄)) BD_cover).trans
      (pointsTo_biUnion (Name := ℕ) (Ix := Unit) (U := UU nD τ) (Lvl := ℕ) (ℓ := (c : Thread nD τ).loc main_v3_5) (q := fullShare) (f := f) Finset.univ BD (fun b _ b' _ h => BD_disjoint b b' h)))) $$ HR
    iapply (bigMono (s := Finset.univ) (fun b _ => (show (((c : Thread nD τ).loc main_v3_5) ↦[BD b]{fullShare} f : sProp 𝕄) ⊢ ldHome (F := F) c b from by
      unfold ldHome; iintro H; iexists f; iapply (Entails.of_eq (ldBP_eq c b f).symm); iexact H)))
    iexact HR2
  · iexists f; iapply (Entails.of_eq (ldNP_eq c f).symm); iexact HN
/-- and back, at contents that agree with each. -/
theorem ld_join (P : Fin 31 → Buf (Elt F) ((c : Thread nD τ).loc main_v3_5) → Prop) (PN : Buf (Elt F) ((c : Thread nD τ).loc main_v3_5) → Prop) :
    iprop(bigSep Finset.univ (fun b : Fin 31 => iprop(∃ f, ⌜P b f⌝ ∗ ldBP (F := F) c b f)) ∗ ∃ f, ⌜PN f⌝ ∗ ldNP (F := F) c f)
      ⊢ (iprop(∃ g : Buf (Elt F) ((c : Thread nD τ).loc main_v3_5), ⌜(∀ b, ∃ f, P b f ∧ ∀ i ∈ BD b, g i = f i) ∧ ∃ f, PN f ∧ ∀ i ∈ BND, g i = f i⌝
          ∗ (((c : Thread nD τ).loc main_v3_5) ↦{fullShare} g)) : sProp 𝕄) := by
  iintro ⟨HB, %fN, %hN, HN⟩
  have : Nonempty (Buf (Elt F) ((c : Thread nD τ).loc main_v3_5)) := ⟨fN⟩
  ihave HB2 := (Idealize.SL.BI.bigSep_exists_pi Finset.univ (fun (b : Fin 31) (f : Buf (Elt F) ((c : Thread nD τ).loc main_v3_5)) => (iprop(⌜P b f⌝ ∗ ldBP (F := F) c b f) : sProp 𝕄))) $$ HB
  icases HB2 with ⟨%fs, HB3⟩
  ihave HB4 := (bigSep_pure_sep Finset.univ _ _) $$ HB3
  icases HB4 with ⟨%hP, HB5⟩
  ihave HB6 := (bigMono (s := Finset.univ) (Ψ := fun b : Fin 31 => (((c : Thread nD τ).loc main_v3_5) ↦[BD b]{fullShare} fs b : sProp 𝕄)) (fun b _ => Entails.of_eq (ldBP_eq c b (fs b)))) $$ HB5
  ihave HB7 := (pointsTo_biUnion_join (ℓ := (c : Thread nD τ).loc main_v3_5) Finset.univ BD fs fN (fun b _ b' _ h => BD_disjoint b b' h)) $$ HB6
  icases HB7 with ⟨%g, %hg, HB8⟩
  iexists BND.piecewise fN g
  isplitr
  · ipureintro
    refine ⟨fun b => ⟨fs b, hP b (Finset.mem_univ b), fun i hi => ?_⟩, fN, hN, fun i hi => Finset.piecewise_eq_of_mem _ _ _ hi⟩
    rw [Finset.piecewise_eq_of_notMem _ _ _ (fun h => ?_)]
    · exact hg b (Finset.mem_univ b) i hi
    · have hm : i ∈ (Finset.univ : Finset S3x7x32000.Idx) \ BND := by rw [BD_cover]; exact Finset.mem_biUnion.2 ⟨b, Finset.mem_univ b, hi⟩
      exact (Finset.mem_sdiff.1 hm).2 h
  · iapply (pointsTo_join_subset (I := BND) (Finset.subset_univ _))
    isplitl [HN]; · iapply (Entails.of_eq (ldNP_eq c fN)); iexact HN
    iapply (Entails.of_eq (congrArg (fun S => (((c : Thread nD τ).loc main_v3_5) ↦[S]{fullShare} g : sProp 𝕄)) BD_cover).symm); iexact HB8

/-! ## The target output ring -/

abbrev OT (s : Fin 2) : Finset S2x3x8x1024.Idx := (Rect.unit (s := S2x3x8x1024) (o4 s.val) S1x3x8x1024.size (o4_inbT s)).set
theorem tslot_set (s : Fin 2) : (tslot s).view.set = OT s := (View.set_reshape _ _).trans (View.set_slice_whole _ _)
theorem mem_OT (s : Fin 2) (y : S2x3x8x1024.Idx) : y ∈ OT s ↔ (y 0).val = s.val := by
  rw [Rect.mem_set_unit]
  have h1 : (y 1).val < 3 := (y 1).isLt
  have h2 : (y 2).val < 8 := (y 2).isLt
  have h3 : (y 3).val < 1024 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3; omega
    · show 0 ≤ (y 2).val ∧ (y 2).val < 0 + 8; omega
    · show 0 ≤ (y 3).val ∧ (y 3).val < 0 + 1024; omega
theorem OT_disjoint : ∀ s s' : Fin 2, s ≠ s' → Disjoint (OT s) (OT s') := by
  intro s s' hne; rw [Finset.disjoint_left]; intro y hy hy'; rw [mem_OT] at hy hy'; exact hne (Fin.ext (hy.symm.trans hy'))
theorem OT_cover : (Finset.univ : Finset (Fin 2)).biUnion OT = Finset.univ := by
  ext y; simp only [Finset.mem_biUnion, Finset.mem_univ, true_and, iff_true]; exact ⟨⟨(y 0).val, (y 0).isLt⟩, by rw [mem_OT]⟩
theorem tslotP_eq (s : Fin 2) (f) : tslotP c s f = (((c : Thread nD τ).loc cc0_scratch15) ↦[OT s]{fullShare} f : sProp 𝕄) :=
  congrArg (fun S => (_ ↦[S]{fullShare} f : sProp 𝕄)) (tslot_set s)
theorem tslot_split :
    iprop(∃ f : Buf (Elt F) ((c : Thread nD τ).loc cc0_scratch15), ((c : Thread nD τ).loc cc0_scratch15) ↦{fullShare} f)
      ⊢ (iprop((∃ f, tslotP c 0 f) ∗ ∃ f, tslotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch15) OT OT_disjoint OT_cover f).trans (fin2 _))) $$ H
  icases H2 with ⟨H0, H1⟩
  isplitl [H0]
  · iexists f; iapply (Entails.of_eq (tslotP_eq c 0 f).symm); iexact H0
  · iexists f; iapply (Entails.of_eq (tslotP_eq c 1 f).symm); iexact H1
theorem tslot_joinS :
    iprop((∃ f, tslotP c 0 f) ∗ ∃ f, tslotP c 1 f)
      ⊢ (iprop(∃ f : Buf (Elt F) ((c : Thread nD τ).loc cc0_scratch15), ((c : Thread nD τ).loc cc0_scratch15) ↦{fullShare} f) : sProp 𝕄) := by
  iintro ⟨⟨%f0, H0⟩, ⟨%f1, H1⟩⟩
  iapply (Ring.pointsTo_blocks_join_exists (ℓ := (c : Thread nD τ).loc cc0_scratch15) OT OT_disjoint OT_cover f0)
  irw [fin2]
  isplitl [H0]
  · iexists f0; iapply (Entails.of_eq (tslotP_eq c 0 f0)); iexact H0
  · iexists f1; iapply (Entails.of_eq (tslotP_eq c 1 f1)); iexact H1

/-! ## The target logits -/

abbrev BT (b : Fin 125) : Finset S3x8x128256.Idx := (Rect.unit (s := S3x8x128256) (c3 b.val) S3x8x1024.size (c3_inbT b)).set
abbrev BNT : Finset S3x8x128256.Idx := (Rect.unit (s := S3x8x128256) ![0, 0, 128000] S3x8x256.size inb_S3x8x128256_S3x8x256_0_0_128000).set
theorem ltB_set (b : Fin 125) : (ltB b).view.set = BT b := View.set_slice_whole _ _
theorem ltN_set : ltN.view.set = BNT := View.set_slice_whole _ _
theorem mem_BT (b : Fin 125) (y : S3x8x128256.Idx) : y ∈ BT b ↔ 1024 * b.val ≤ (y 2).val ∧ (y 2).val < 1024 * b.val + 1024 := by
  rw [Rect.mem_set_unit]
  have h0 : (y 0).val < 3 := (y 0).isLt
  have h1 : (y 1).val < 8 := (y 1).isLt
  constructor
  · intro H; exact H 2
  · intro H i; fin_cases i
    · show 0 ≤ (y 0).val ∧ (y 0).val < 0 + 3; omega
    · show 0 ≤ (y 1).val ∧ (y 1).val < 0 + 8; omega
    · exact H
theorem mem_BNT (y : S3x8x128256.Idx) : y ∈ BNT ↔ 128000 ≤ (y 2).val := by
  rw [Rect.mem_set_unit]
  have h0 : (y 0).val < 3 := (y 0).isLt
  have h1 : (y 1).val < 8 := (y 1).isLt
  have h2 : (y 2).val < 128256 := (y 2).isLt
  constructor
  · intro H; have := H 2; exact this.1
  · intro H i; fin_cases i
    · show 0 ≤ (y 0).val ∧ (y 0).val < 0 + 3; omega
    · show 0 ≤ (y 1).val ∧ (y 1).val < 0 + 8; omega
    · show 128000 ≤ (y 2).val ∧ (y 2).val < 128000 + 256; omega
theorem BT_disjoint : ∀ b b' : Fin 125, b ≠ b' → Disjoint (BT b) (BT b') := by
  intro b b' hne; rw [Finset.disjoint_left]; intro y hy hy'; rw [mem_BT] at hy hy'; exact hne (Fin.ext (by omega))
theorem BT_cover : (Finset.univ : Finset S3x8x128256.Idx) \ BNT = (Finset.univ : Finset (Fin 125)).biUnion BT := by
  ext y
  have h2 : (y 2).val < 128256 := (y 2).isLt
  rw [Finset.mem_sdiff, mem_BNT, Finset.mem_biUnion]
  constructor
  · rintro ⟨-, h⟩
    exact ⟨⟨(y 2).val / 1024, by omega⟩, Finset.mem_univ _, (mem_BT _ _).2 (by show 1024 * ((y 2).val / 1024) ≤ _ ∧ _ < 1024 * ((y 2).val / 1024) + 1024; omega)⟩
  · rintro ⟨b, -, hb⟩
    rw [mem_BT] at hb
    have := b.isLt
    exact ⟨Finset.mem_univ _, by omega⟩
theorem ltBP_eq (b : Fin 125) (f) : ltBP c b f = (((c : Thread nD τ).loc main_v3_4) ↦[BT b]{fullShare} f : sProp 𝕄) :=
  congrArg (fun S => (_ ↦[S]{fullShare} f : sProp 𝕄)) (ltB_set b)
theorem ltNP_eq (f) : ltNP c f = (((c : Thread nD τ).loc main_v3_4) ↦[BNT]{fullShare} f : sProp 𝕄) :=
  congrArg (fun S => (_ ↦[S]{fullShare} f : sProp 𝕄)) ltN_set
set_option maxRecDepth 4096 in
/-- The target logits whole are their blocks and the narrow block; -/
theorem lt_split (f : Buf (Elt F) ((c : Thread nD τ).loc main_v3_4)) :
    (((c : Thread nD τ).loc main_v3_4) ↦{fullShare} f : sProp 𝕄) ⊢ iprop(bigSep Finset.univ (ltHome (F := F) c) ∗ ∃ f, ltNP (F := F) c f) := by
  iintro H
  ihave H2 := (pointsTo_split_subset (ℓ := (c : Thread nD τ).loc main_v3_4) (q := fullShare) (f := f) (I := BNT) (S := Finset.univ) (Finset.subset_univ _)).1 $$ H
  icases H2 with ⟨HN, HR⟩
  isplitl [HR]
  · ihave HR2 := (Entails.of_eq ((congrArg (fun S => (((c : Thread nD τ).loc main_v3_4) ↦[S]{fullShare} f : sProp 𝕄)) BT_cover).trans
      (pointsTo_biUnion (Name := ℕ) (Ix := Unit) (U := UU nD τ) (Lvl := ℕ) (ℓ := (c : Thread nD τ).loc main_v3_4) (q := fullShare) (f := f) Finset.univ BT (fun b _ b' _ h => BT_disjoint b b' h)))) $$ HR
    iapply (bigMono (s := Finset.univ) (fun b _ => (show (((c : Thread nD τ).loc main_v3_4) ↦[BT b]{fullShare} f : sProp 𝕄) ⊢ ltHome (F := F) c b from by
      unfold ltHome; iintro H; iexists f; iapply (Entails.of_eq (ltBP_eq c b f).symm); iexact H)))
    iexact HR2
  · iexists f; iapply (Entails.of_eq (ltNP_eq c f).symm); iexact HN
/-- and back, at contents that agree with each. -/
theorem lt_join (P : Fin 125 → Buf (Elt F) ((c : Thread nD τ).loc main_v3_4) → Prop) (PN : Buf (Elt F) ((c : Thread nD τ).loc main_v3_4) → Prop) :
    iprop(bigSep Finset.univ (fun b : Fin 125 => iprop(∃ f, ⌜P b f⌝ ∗ ltBP (F := F) c b f)) ∗ ∃ f, ⌜PN f⌝ ∗ ltNP (F := F) c f)
      ⊢ (iprop(∃ g : Buf (Elt F) ((c : Thread nD τ).loc main_v3_4), ⌜(∀ b, ∃ f, P b f ∧ ∀ i ∈ BT b, g i = f i) ∧ ∃ f, PN f ∧ ∀ i ∈ BNT, g i = f i⌝
          ∗ (((c : Thread nD τ).loc main_v3_4) ↦{fullShare} g)) : sProp 𝕄) := by
  iintro ⟨HB, %fN, %hN, HN⟩
  have : Nonempty (Buf (Elt F) ((c : Thread nD τ).loc main_v3_4)) := ⟨fN⟩
  ihave HB2 := (Idealize.SL.BI.bigSep_exists_pi Finset.univ (fun (b : Fin 125) (f : Buf (Elt F) ((c : Thread nD τ).loc main_v3_4)) => (iprop(⌜P b f⌝ ∗ ltBP (F := F) c b f) : sProp 𝕄))) $$ HB
  icases HB2 with ⟨%fs, HB3⟩
  ihave HB4 := (bigSep_pure_sep Finset.univ _ _) $$ HB3
  icases HB4 with ⟨%hP, HB5⟩
  ihave HB6 := (bigMono (s := Finset.univ) (Ψ := fun b : Fin 125 => (((c : Thread nD τ).loc main_v3_4) ↦[BT b]{fullShare} fs b : sProp 𝕄)) (fun b _ => Entails.of_eq (ltBP_eq c b (fs b)))) $$ HB5
  ihave HB7 := (pointsTo_biUnion_join (ℓ := (c : Thread nD τ).loc main_v3_4) Finset.univ BT fs fN (fun b _ b' _ h => BT_disjoint b b' h)) $$ HB6
  icases HB7 with ⟨%g, %hg, HB8⟩
  iexists BNT.piecewise fN g
  isplitr
  · ipureintro
    refine ⟨fun b => ⟨fs b, hP b (Finset.mem_univ b), fun i hi => ?_⟩, fN, hN, fun i hi => Finset.piecewise_eq_of_mem _ _ _ hi⟩
    rw [Finset.piecewise_eq_of_notMem _ _ _ (fun h => ?_)]
    · exact hg b (Finset.mem_univ b) i hi
    · have hm : i ∈ (Finset.univ : Finset S3x8x128256.Idx) \ BNT := by rw [BT_cover]; exact Finset.mem_biUnion.2 ⟨b, Finset.mem_univ b, hi⟩
      exact (Finset.mem_sdiff.1 hm).2 h
  · iapply (pointsTo_join_subset (I := BNT) (Finset.subset_univ _))
    isplitl [HN]; · iapply (Entails.of_eq (ltNP_eq c fN)); iexact HN
    iapply (Entails.of_eq (congrArg (fun S => (((c : Thread nD τ).loc main_v3_4) ↦[S]{fullShare} g : sProp 𝕄)) BT_cover).symm); iexact HB8

/-! ## The draft weight's shares -/

theorem wdP_eq (s : Fin 4) (f : Buf (Elt F) ((c : Thread nD τ).loc main_arg6)) : wdP c f s = (((c : Thread nD τ).loc main_arg6) ↦[Finset.univ]{tk s} f : sProp 𝕄) :=
  congrArg (fun S => (_ ↦[S]{tk s} f : sProp 𝕄)) (View.set_whole _)
abbrev wdLeft (f : Buf (Elt F) ((c : Thread nD τ).loc main_arg6)) : sProp 𝕄 := ((c : Thread nD τ).loc main_arg6) ↦[Finset.univ]{Transfers.shareDrop fullShare 4} f
theorem wd_split (f : Buf (Elt F) ((c : Thread nD τ).loc main_arg6)) :
    (((c : Thread nD τ).loc main_arg6) ↦{fullShare} f : sProp 𝕄) ⊢ iprop(wdLeft c f ∗ wdP c f 0 ∗ wdP c f 1 ∗ wdP c f 2 ∗ wdP c f 3) := by
  refine (Transfers.pointsTo_toks_split fullShare 4).trans ?_
  rw [fin4]
  simp only [wdP_eq]
  exact .rfl
theorem wd_joinS (f : Buf (Elt F) ((c : Thread nD τ).loc main_arg6)) :
    iprop(wdLeft c f ∗ wdP c f 0 ∗ wdP c f 1 ∗ wdP c f 2 ∗ wdP c f 3) ⊢ (((c : Thread nD τ).loc main_arg6) ↦{fullShare} f : sProp 𝕄) := by
  refine .trans ?_ (Transfers.pointsTo_toks_join fullShare 4)
  rw [fin4]
  simp only [wdP_eq]
  exact .rfl

/-! ## The target weight's shares -/

theorem wtP_eq (s : Fin 4) (f : Buf (Elt F) ((c : Thread nD τ).loc main_arg2)) : wtP c f s = (((c : Thread nD τ).loc main_arg2) ↦[Finset.univ]{tk s} f : sProp 𝕄) :=
  congrArg (fun S => (_ ↦[S]{tk s} f : sProp 𝕄)) (View.set_whole _)
abbrev wtLeft (f : Buf (Elt F) ((c : Thread nD τ).loc main_arg2)) : sProp 𝕄 := ((c : Thread nD τ).loc main_arg2) ↦[Finset.univ]{Transfers.shareDrop fullShare 4} f
theorem wt_split (f : Buf (Elt F) ((c : Thread nD τ).loc main_arg2)) :
    (((c : Thread nD τ).loc main_arg2) ↦{fullShare} f : sProp 𝕄) ⊢ iprop(wtLeft c f ∗ wtP c f 0 ∗ wtP c f 1 ∗ wtP c f 2 ∗ wtP c f 3) := by
  refine (Transfers.pointsTo_toks_split fullShare 4).trans ?_
  rw [fin4]
  simp only [wtP_eq]
  exact .rfl
theorem wt_joinS (f : Buf (Elt F) ((c : Thread nD τ).loc main_arg2)) :
    iprop(wtLeft c f ∗ wtP c f 0 ∗ wtP c f 1 ∗ wtP c f 2 ∗ wtP c f 3) ⊢ (((c : Thread nD τ).loc main_arg2) ↦{fullShare} f : sProp 𝕄) := by
  refine .trans ?_ (Transfers.pointsTo_toks_join fullShare 4)
  rw [fin4]
  simp only [wtP_eq]
  exact .rfl

/-! ## The shares of the table's rows -/

theorem d2inP_eq (s : Fin 2) (f : Buf (Elt F) ((c : Thread nD τ).loc main_v2)) : d2inP c s f = (((c : Thread nD τ).loc main_v2) ↦[Finset.univ]{Transfers.shareTok fullShare 2 s} f : sProp 𝕄) :=
  congrArg (fun S => (_ ↦[S]{Transfers.shareTok fullShare 2 s} f : sProp 𝕄)) (View.set_whole _)
abbrev d2Left (f : Buf (Elt F) ((c : Thread nD τ).loc main_v2)) : sProp 𝕄 := ((c : Thread nD τ).loc main_v2) ↦[Finset.univ]{Transfers.shareDrop fullShare 2} f
theorem d2_split (f : Buf (Elt F) ((c : Thread nD τ).loc main_v2)) :
    (((c : Thread nD τ).loc main_v2) ↦{fullShare} f : sProp 𝕄) ⊢ iprop(d2Left c f ∗ d2inP c 0 f ∗ d2inP c 1 f) := by
  refine (Transfers.pointsTo_toks_split fullShare 2).trans ?_
  rw [fin2]
  simp only [d2inP_eq]
  exact .rfl
theorem d2_joinS (f : Buf (Elt F) ((c : Thread nD τ).loc main_v2)) :
    iprop(d2Left c f ∗ d2inP c 0 f ∗ d2inP c 1 f) ⊢ (((c : Thread nD τ).loc main_v2) ↦{fullShare} f : sProp 𝕄) := by
  refine .trans ?_ (Transfers.pointsTo_toks_join fullShare 2)
  rw [fin2]
  simp only [d2inP_eq]
  exact .rfl
end Split

end Cert.Proof.KernelIdealRun
-- ==== Proof.KernelIdealBody.lean ====
/-
  The body of the call, run once: the small operands copied in and the states widened, the loop over the draft weight's blocks,
  the narrow draft block, the loop over the target weight's blocks, the narrow target block, the statistics.
-/
module

public import proofs.«01_k».proof.Proof.KernelIdealNarrow
public import proofs.«01_k».proof.Proof.KernelIdealSplit

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## What the body's first loads read -/

/-- Batch `b` of the states, as the body loads it; a row of the scales. -/
abbrev blkX (XIN : S3x8x3072.Idx → Elt F .fp8e4m3) (b : Fin 3) : Vec F S1x8x3072 .fp8e4m3 :=
  fun j => XIN (ix3 b ⟨(j 1).val, (j 1).isLt⟩ ⟨(j 2).val, (j 2).isLt⟩)
abbrev rowX (XSIN : S3x8.Idx → Elt F .f32) (b : Fin 3) : Vec F S1x8 .f32 := fun j => XSIN (ix2 b ⟨(j 1).val, (j 1).isLt⟩)

theorem blkX_read (XIN : S3x8x3072.Idx → Elt F .fp8e4m3) (b : Fin 3) (off : Fin 3 → ℕ) (hoff : off = ![b.val, 0, 0]) (hi : ∀ a, off a + S1x8x3072.size a ≤ S3x8x3072.size a)
    (v : View sig .tc .vmem S3x8x3072 .fp8e4m3) :
    v.readCov (Val := Elt F) [⟨Rect.whole S3x8x3072, XIN⟩] (Rect.unit (s := S3x8x3072) off S1x8x3072.size hi).toLoadRect = blkX XIN b := by
  subst hoff
  funext j
  show v.read (Elt F) (v.writes (Elt F) v.junk [⟨Rect.whole S3x8x3072, XIN⟩]) _ = _
  rw [View.read_writes_whole]
  refine congrArg XIN (funext fun a => Fin.ext ?_)
  refine (ValueKit.rect_emb_unit_val (s := S3x8x3072) ![b.val, 0, 0] S1x8x3072.size hi j a).trans ?_
  have h0 : (j 0).val < 1 := (j 0).isLt
  fin_cases a
  · show b.val + (j 0).val = b.val; omega
  · show 0 + (j 1).val = (j 1).val; omega
  · show 0 + (j 2).val = (j 2).val; omega
theorem rowX_read (XSIN : S3x8.Idx → Elt F .f32) (b : Fin 3) (off : Fin 2 → ℕ) (hoff : off = ![b.val, 0]) (hi : ∀ a, off a + S1x8.size a ≤ S3x8.size a)
    (v : View sig .tc .vmem S3x8 .f32) :
    v.readCov (Val := Elt F) [⟨Rect.whole S3x8, XSIN⟩] (Rect.unit (s := S3x8) off S1x8.size hi).toLoadRect = rowX XSIN b := by
  subst hoff
  funext j
  show v.read (Elt F) (v.writes (Elt F) v.junk [⟨Rect.whole S3x8, XSIN⟩]) _ = _
  rw [View.read_writes_whole]
  refine congrArg XSIN (funext fun a => Fin.ext ?_)
  refine (ValueKit.rect_emb_unit_val (s := S3x8) ![b.val, 0] S1x8.size hi j a).trans ?_
  have h0 : (j 0).val < 1 := (j 0).isLt
  fin_cases a
  · show b.val + (j 0).val = b.val; omega
  · show 0 + (j 1).val = (j 1).val; omega
theorem wts_writes (f : wtsM.view.ty.Contents (Elt F)) (w : S1002x128.Idx → Elt F .f32) (g : S1002x128.Idx → Elt F .f32)
    (hg : g = wtsM.view.writes (Elt F) f [⟨Rect.whole S1002x128, w⟩]) : g = w := by
  have h := View.read_writes_whole (Val := Elt F) wtsM.view f w
  rw [← hg] at h
  exact h
theorem x8_writes (f : x8M.view.ty.Contents (Elt F)) (w : S32x3072.Idx → Elt F .fp8e4m3) (hi : ∀ a, (![0, 0] : Fin 2 → ℕ) a + S32x3072.size a ≤ S32x3072.size a)
    (g : S32x3072.Idx → Elt F .fp8e4m3)
    (hg : g = x8M.view.writes (Elt F) f [⟨Rect.unit (s := S32x3072) ![0, 0] S32x3072.size hi, w⟩]) : g = w := by
  funext p
  have h := View.read_writes_cons_emb (Val := Elt F) x8M.view f (Rect.unit (s := S32x3072) ![0, 0] S32x3072.size hi) w [] p
  rw [← hg] at h
  have e : (Rect.unit (s := S32x3072) ![0, 0] S32x3072.size hi).emb p = p := by
    funext a
    refine Fin.ext ((ValueKit.rect_emb_unit_val (s := S32x3072) ![0, 0] S32x3072.size hi p a).trans ?_)
    fin_cases a
    · show 0 + (p 0).val = (p 0).val; omega
    · show 0 + (p 1).val = (p 1).val; omega
  rw [e] at h
  exact h

section Body
variable (c : Dev nD) (WD : Buf (Elt F) (wdM.view.loc (c : Thread nD τ))) (WT : Buf (Elt F) (wtM.view.loc (c : Thread nD τ)))
  (XIN : Buf (Elt F) (xinM.view.loc (c : Thread nD τ))) (XSIN : Buf (Elt F) (xsinM.view.loc (c : Thread nD τ)))
  (HIN : Buf (Elt F) (hinM.view.loc (c : Thread nD τ))) (HSIN : Buf (Elt F) (hsinM.view.loc (c : Thread nD τ)))
  (WTSIN : Buf (Elt F) (wtsinM.view.loc (c : Thread nD τ))) (WDSIN : Buf (Elt F) (wdsinM.view.loc (c : Thread nD τ)))
  (D2IN : Buf (Elt F) (d2inM.view.loc (c : Thread nD τ))) (TOKIN : Buf (Elt F) (tokinM.view.loc (c : Thread nD τ)))
  (PARIN : Buf (Elt F) (parinM.view.loc (c : Thread nD τ)))
  (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole)

/-- The operands the body reads. -/
def opsP : sProp 𝕄 :=
  iprop(xinP c XIN ∗ xsinP c XSIN ∗ hinP c HIN ∗ hsinP c HSIN ∗ wtsinP c WTSIN ∗ wdsinP c WDSIN ∗ d2inP c 0 D2IN ∗ d2inP c 1 D2IN
    ∗ tokinP c TOKIN ∗ parinP c PARIN ∗ (wdP c WD 0 ∗ wdP c WD 1 ∗ wdP c WD 2 ∗ wdP c WD 3) ∗ (wtP c WT 0 ∗ wtP c WT 1 ∗ wtP c WT 2 ∗ wtP c WT 3))
/-- Its buffers, at any contents. -/
def scrP : sProp 𝕄 :=
  iprop((∃ f, slotP (F := F) c 0 f) ∗ (∃ f, slotP (F := F) c 1 f) ∗ (∃ f, slotP (F := F) c 2 f) ∗ (∃ f, slotP (F := F) c 3 f)
    ∗ (∃ f, xvP (F := F) c f) ∗ (∃ f, hvP (F := F) c f) ∗ (∃ f, xsvP (F := F) c f) ∗ (∃ f, hsvP (F := F) c f) ∗ (∃ f, wtsP (F := F) c f) ∗ (∃ f, wdsP (F := F) c f)
    ∗ (∃ f, d2tP (F := F) c f) ∗ (∃ f, d2tsP (F := F) c f) ∗ (∃ f, tokP (F := F) c f) ∗ (∃ f, parP (F := F) c f) ∗ (∃ f, x8P (F := F) c f) ∗ (∃ f, h8P (F := F) c f)
    ∗ (∃ f, zcP (F := F) c f) ∗ (∃ f, zdP (F := F) c f)
    ∗ (∃ f, tslotP (F := F) c 0 f) ∗ (∃ f, tslotP (F := F) c 1 f) ∗ (∃ f, dslotP (F := F) c 0 f) ∗ (∃ f, dslotP (F := F) c 1 f))
/-- Its cells, at zero. -/
def cellsP : sProp 𝕄 :=
  iprop(cellP (F := F) c 0 ∗ cellP (F := F) c 1 ∗ cellP (F := F) c 2 ∗ cellP (F := F) c 3
    ∗ icell (F := F) c 0 ∗ icell (F := F) c 1 ∗ icell (F := F) c 2 ∗ icell (F := F) c 3 ∗ icell (F := F) c 4 ∗ icell (F := F) c 5 ∗ icell (F := F) c 6 ∗ icell (F := F) c 7 ∗ icell (F := F) c 8 ∗ icell (F := F) c 9
    ∗ tcell (F := F) c 0 ∗ tcell (F := F) c 1 ∗ dcell (F := F) c 0 ∗ dcell (F := F) c 1 ∗ ncell (F := F) c)

/-- How the states and scales the loops use come from the operands. -/
def relD (H8 : Buf (Elt F) (h8M.view.loc (c : Thread nD τ))) (WDS : Buf (Elt F) (wdsM.view.loc (c : Thread nD τ))) (hs0 hs1 hs2 : FVec F S8x128 .f32) : Prop :=
  let _ := (HIN, HSIN, WDSIN, H8, WDS, hs0, hs1, hs2); True
/-- The target states packed, the target scales copied, and the column of each batch's scales. -/
def relT (X8 : Buf (Elt F) (x8M.view.loc (c : Thread nD τ))) (WTS : Buf (Elt F) (wtsM.view.loc (c : Thread nD τ))) (xs0 xs1 xs2 : FVec F S8x128 .f32) : Prop :=
  X8 = k0_pay299 (k0_pay298 (blkX XIN 0)) (blkX XIN 1) (blkX XIN 2) ∧ WTS = WTSIN
    ∧ xs0 = k0_pay304 (rowX XSIN 0) ∧ xs1 = k0_pay304 (rowX XSIN 1) ∧ xs2 = k0_pay304 (rowX XSIN 2)
/-- What the narrow blocks are to hold. -/
def okDN (H8 : Buf (Elt F) (h8M.view.loc (c : Thread nD τ))) (WDS : Buf (Elt F) (wdsM.view.loc (c : Thread nD τ))) (hs0 hs1 hs2 : FVec F S8x128 .f32)
    (w : S3x7x256.Idx → Elt F .bf16) : Prop := let _ := (WD, H8, WDS, hs0, hs1, hs2, w); True
def okTN (X8 : Buf (Elt F) (x8M.view.loc (c : Thread nD τ))) (WTS : Buf (Elt F) (wtsM.view.loc (c : Thread nD τ))) (xs0 xs1 xs2 : FVec F S8x128 .f32)
    (w : S3x8x256.Idx → Elt F .bf16) : Prop :=
  ∀ y, w y = blockN (prodN X8 (wtN.view.read (Elt F) WT)) ![xs0, xs1, xs2] (rowsN WTS) y
/-- The logits written. -/
def resD : sProp 𝕄 :=
  iprop(∃ H8 WDS hs0 hs1 hs2, ⌜relD c HIN HSIN WDSIN H8 WDS hs0 hs1 hs2⌝ ∗ bigSep Finset.univ (ldDone c WD H8 WDS hs0 hs1 hs2)
    ∗ ∃ f w, ⌜okDN c WD H8 WDS hs0 hs1 hs2 w⌝ ∗ ldNP c (ldN.view.writes (Elt F) f [⟨Rect.whole S3x7x256, w⟩]))
def resT : sProp 𝕄 :=
  iprop(∃ X8 WTS xs0 xs1 xs2, ⌜relT c XIN XSIN WTSIN X8 WTS xs0 xs1 xs2⌝ ∗ bigSep Finset.univ (ltDone c WT X8 WTS xs0 xs1 xs2)
    ∗ ∃ f w, ⌜okTN c WT X8 WTS xs0 xs1 xs2 w⌝ ∗ ltNP c (ltN.view.writes (Elt F) f [⟨Rect.whole S3x8x256, w⟩]))

/-- What the body leaves. -/
def postP : sProp 𝕄 :=
  iprop(opsP c WD WT XIN XSIN HIN HSIN WTSIN WDSIN D2IN TOKIN PARIN ∗ scrP (F := F) c ∗ cellsP (F := F) c
    ∗ resD c WD HIN HSIN WDSIN ∗ resT c WT XIN XSIN WTSIN
    ∗ (∃ f, wP (F := F) arg11 c f) ∗ (∃ f, wP (F := F) arg12 c f) ∗ (∃ f, wP (F := F) arg13 c f) ∗ (∃ f, wP (F := F) arg14 c f)
    ∗ (∃ W, owes (c : Thread nD τ) 0 W))

theorem doneD_all (H8 WDS hs0 hs1 hs2) : iprop(ldDone c WD H8 WDS hs0 hs1 hs2 30 ∗ ldDone c WD H8 WDS hs0 hs1 hs2 29 ∗ bigSep (Ring.rangeSet 31 0 29) (ldDone c WD H8 WDS hs0 hs1 hs2))
    ⊢ (bigSep Finset.univ (ldDone c WD H8 WDS hs0 hs1 hs2) : sProp 𝕄) := by
  rw [← Ring.rangeSet_univ (NB := 31), Ring.bigSep_rangeSet_last (lo := 0) (hi := 31) (by omega) (by omega), Ring.bigSep_rangeSet_last (lo := 0) (hi := 31 - 1) (by omega) (by omega)]
  exact .rfl
theorem doneT_all (X8 WTS xs0 xs1 xs2) : iprop(ltDone c WT X8 WTS xs0 xs1 xs2 124 ∗ ltDone c WT X8 WTS xs0 xs1 xs2 123 ∗ bigSep (Ring.rangeSet 125 0 123) (ltDone c WT X8 WTS xs0 xs1 xs2))
    ⊢ (bigSep Finset.univ (ltDone c WT X8 WTS xs0 xs1 xs2) : sProp 𝕄) := by
  rw [← Ring.rangeSet_univ (NB := 125), Ring.bigSep_rangeSet_last (lo := 0) (hi := 125) (by omega) (by omega), Ring.bigSep_rangeSet_last (lo := 0) (hi := 125 - 1) (by omega) (by omega)]
  exact .rfl

/-- The tokens' copy holds the tokens. -/
theorem tok_writes (f : Buf (Elt F) (tokM.view.loc (c : Thread nD τ))) (w : S3x7.Idx → Elt F .i32) (h : ∀ x, Tok (w x)) (j : S3x7.Idx) :
    Tok (tokM.view.writes (Elt F) f [⟨Rect.whole S3x7, w⟩] j) := by
  have e : tokM.view.writes (Elt F) f [⟨Rect.whole S3x7, w⟩] j = w j := congrFun (View.read_writes_whole tokM.view f w) j
  rw [e]; exact h j

set_option maxHeartbeats 16000000 in
set_option maxRecDepth 8192 in
theorem body_run (htok : ∀ j, Tok (TOKIN j)) :
    iprop(opsP c WD WT XIN XSIN HIN HSIN WTSIN WDSIN D2IN TOKIN PARIN ∗ scrP (F := F) c ∗ cellsP (F := F) c
      ∗ bigSep Finset.univ (ldHome (F := F) c) ∗ (∃ f, ldNP (F := F) c f) ∗ bigSep Finset.univ (ltHome (F := F) c) ∗ (∃ f, ltNP (F := F) c f)
      ∗ (∃ f, wP (F := F) arg11 c f) ∗ (∃ f, wP (F := F) arg12 c f) ∗ (∃ f, wP (F := F) arg13 c f) ∗ (∃ f, wP (F := F) arg14 c f)
      ∗ (∃ W, owes (c : Thread nD τ) 0 W))
    ⊢ wp frame (wpE (defs₀ (F := F)) 𝒱₀ (c : Thread nD τ) none) Set.univ (cc0_tree_verify_stats (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21) (fun _ => postP c WD WT XIN XSIN HIN HSIN WTSIN WDSIN D2IN TOKIN PARIN arg11 arg12 arg13 arg14) := by
  unfold opsP scrP cellsP
  iintro ⟨⟨Hxin, Hxsin, Hhin, Hhsin, Hwtsin, Hwdsin, Hd2a, Hd2b, Htokin, Hparin, ⟨Hwd0, Hwd1, Hwd2, Hwd3⟩, ⟨Hwt0, Hwt1, Hwt2, Hwt3⟩⟩,
    ⟨⟨%s0, Hs0⟩, ⟨%s1, Hs1⟩, ⟨%s2, Hs2⟩, ⟨%s3, Hs3⟩, ⟨%f0, Hxv⟩, ⟨%f1, Hhv⟩, ⟨%f2, Hxsv⟩, ⟨%f3, Hhsv⟩, ⟨%f4, Hwts⟩, ⟨%f5, Hwds⟩, ⟨%f6, Hd2t⟩, ⟨%f7, Hd2ts⟩, ⟨%f8, Htok⟩, ⟨%f9, Hpar⟩, ⟨%f10, Hx8⟩, ⟨%f11, Hh8⟩, ⟨%f12, Hzc⟩, ⟨%f13, Hzd⟩, HOT0, HOT1, HOD0, HOD1⟩,
    ⟨Hc0, Hc1, Hc2, Hc3, Hi0, Hi1, Hi2, Hi3, Hi4, Hi5, Hi6, Hi7, Hi8, Hi9, Ht0, Ht1, Hd0, Hd1, Hn⟩,
    HLD, ⟨%ln, HLDN⟩, HLT, ⟨%tn, HLTN⟩, ⟨%w11, Hw11⟩, ⟨%w12, Hw12⟩, ⟨%w13, Hw13⟩, ⟨%w14, Hw14⟩, ⟨%W, HW⟩⟩
  ihave HA := (Aside.intro iprop(wtP c WT 0 ∗ wtP c WT 1 ∗ wtP c WT 2 ∗ wtP c WT 3)) $$ [Hwt0 Hwt1 Hwt2 Hwt3]
  · isplitl [Hwt0]; · iexact Hwt0
    isplitl [Hwt1]; · iexact Hwt1
    isplitl [Hwt2]; · iexact Hwt2
    iexact Hwt3
  have h1 : k0_cond1 = 1#1 := by decide
  have h2 : ¬k0_cond2 = 1#1 := by decide
  have h3 : ¬k0_cond3 = 1#1 := by decide
  have h4 : ¬k0_cond4 = 1#1 := by decide
  have h5 : k0_cond5 = 1#1 := by decide
  have h6 : ¬k0_cond6 = 1#1 := by decide
  have h7 : ¬k0_cond7 = 1#1 := by decide
  have h8 : ¬k0_cond8 = 1#1 := by decide
  have h9 : k0_cond9 = 1#1 := by decide
  have h10 : ¬k0_cond10 = 1#1 := by decide
  have h11 : ¬k0_cond11 = 1#1 := by decide
  have h12 : ¬k0_cond12 = 1#1 := by decide
  have h18 : ¬k0_cond18 = 1#1 := by decide
  have h19 : ¬k0_cond19 = 1#1 := by decide
  have h20 : k0_cond20 = 1#1 := by decide
  have h21 : ¬k0_cond21 = 1#1 := by decide
  sl_unfold [cc0_tree_verify_stats]
  sl_exec_parts (disch := with_reducible exact chk1_ok _ ‹_›)
  ihave HT4 := (Aside.elim _) $$ HA
  icases HT4 with ⟨Hwt0, Hwt1, Hwt2, Hwt3⟩
  sl_for (fun (k : ℕ) (_ : Acc6 (F := F)) => inv1 c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN) k) $$ [Hc0 Hwd0 Hc1 Hwd1 Hc2 Hwd2 Hs3 Hc3 Hwd3 Hwt3 Hwt0 Hwt1 Hwt2 HOD0 Hd0 HOD1 Hd1 HLD Hh8 Hwds Hzd HW]
  case region =>
    intro k acc
    exact inv1_step c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN) arg11 harg11 arg12 harg12 arg13 harg13 arg14 harg14 k acc
  · iapply (inv1_entry c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN))
    isplitl [Hc0]
    · iexists _; iexact Hc0
    isplitl [Hwd0]
    · iexact Hwd0
    isplitl [Hc1]
    · iexists _; iexact Hc1
    isplitl [Hwd1]
    · iexact Hwd1
    isplitl [Hc2]
    · iexists _; iexact Hc2
    isplitl [Hwd2]
    · iexact Hwd2
    isplitl [Hs3 Hc3 Hwd3 Hwt3]
    · isplitl [Hs3]
      · iexists _; iexact Hs3
      isplitl [Hc3]
      · iexact Hc3
      isplitl [Hwd3]
      · iexact Hwd3
      iexact Hwt3
    isplitl [Hwt0 Hwt1 Hwt2]
    · isplitl [Hwt0]
      · iexact Hwt0
      isplitl [Hwt1]
      · iexact Hwt1
      iexact Hwt2
    isplitl [HOD0 Hd0]
    · isplitl [HOD0]
      · iexact HOD0
      iexact Hd0
    isplitl [HOD1 Hd1]
    · isplitl [HOD1]
      · iexact HOD1
      iexact Hd1
    isplitl [HLD]
    · iexact HLD
    isplitl [Hh8]
    · iexact Hh8
    isplitl [Hwds]
    · iexact Hwds
    isplitl [Hzd]
    · iexists _; iexact Hzd
    iexists _; iexact HW
  iintro %acc1 HI
  ihave HE := (inv1_exit c WD WT (h8M.view.writes (Elt F) h8M.view.junk (body_run.sl.Hh8_1 c HIN)) (wdsM.view.writes (Elt F) wdsM.view.junk [⟨Rect.whole S250x128, body_run.sl.dma0_4 c WDSIN⟩]) (body_run.sl.r_6 c HSIN) (body_run.sl.r_7 c HSIN) (body_run.sl.r_8 c HSIN)) $$ HI
  icases HE with ⟨⟨⟨%n3, HF3⟩, ⟨%fr3, HR3⟩, HN3, Hwt3⟩, HF0, HF1, ⟨⟨%s2', Hs2⟩, Hc2, Hwd2, Hwt2⟩, HO1a, HO0a, HLDd, Hh8, Hwds, ⟨%f13', Hzd⟩, ⟨%W', HW⟩⟩
  ihave HO1b := (Entails.of_eq (outD.eq_1 _ _ _ _ _ _ _ _ _)) $$ HO1a
  ihave HO0b := (Entails.of_eq (outD.eq_1 _ _ _ _ _ _ _ _ _)) $$ HO0a
  icases HO1b with ⟨%fo1, %wo1, %go1, %hwo1, HO1⟩
  icases HO0b with ⟨%fo0, %wo0, %go0, %hwo0, HO0⟩
  ihave HA := (Aside.intro _) $$ Hwt3
  ihave HA2 := (Aside.intro _) $$ Hwd2
  sl_exec_parts (disch := with_reducible exact chk1_ok _ ‹_›)
  ihave HC := (dslot_cut c (body_run.sl.HO0_src_w6 c WD HIN HSIN WDSIN go0)) $$ HO0_src
  icases HC with ⟨HOn, HOr⟩
  sl_exec_parts (disch := with_reducible exact chk1_ok _ ‹_›)
  sl_for (fun _ _ => iprop(∃ f, zdP c f)) $$ [Hzd]
  case region =>
    intro k acc
    have hk : k.val < 250 := trips2 ▸ k.isLt
    iintro ⟨%fz, Hzd⟩
    sl_unfold [body_run.sl.prog.body_2, k0_t2_body]
    sl_exec_parts (disch := with_reducible exact chk1_ok _ ‹_›)
    sl_step
    iexists _; iexact Hzd
  · iexists _; iexact Hzd
  iintro %acc2 HI
  icases HI with ⟨%f13'', Hzd⟩
  sl_exec_parts (disch := with_reducible exact chk1_ok _ ‹_›)
  ihave Hwd2 := (Aside.elim _) $$ HA2
  ihave Hwt3 := (Aside.elim _) $$ HA
  ihave Hwd3 := (wdN_join c WD 3) $$ [HF3_src HN3]
  · isplitl [HF3_src]; · iexact HF3_src
    iexact HN3
  ihave Hs3 := (slot_join c 3) $$ [HF3_dst HR3]
  · isplitl [HF3_dst]; · iexists _; iexact HF3_dst
    iexists _; iexact HR3
  ihave HFree : freeS c WD WT 3 $$ [Hs3 HF3 Hwd3 Hwt3]
  · iapply (Entails.of_eq (freeS.eq_1 c WD WT 3).symm)
    isplitl [Hs3]; · iexact Hs3
    isplitl [HF3]; · iexact HF3
    isplitl [Hwd3]; · iexact Hwd3
    iexact Hwt3
  sl_for (fun (k : ℕ) (a : Acc7 (F := F)) => inv3 c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) k a) $$ [HF0 HF1 Hc2 Hwt2 Hwd2 HFree HOT0 Ht0 HOT1 Ht1 HLT Hx8 Hwts Hd2t Hd2ts Hzc HW]
  case region =>
    intro k acc
    exact inv3_step c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) arg11 harg11 arg12 harg12 arg13 harg13 arg14 harg14 _ _ _ _ _ _ _ _ _ _ _ _ _ _ _ _ _ _ _ k acc
  · iapply (inv3_entry c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) (k0_pay311 (F := F), k0_pay312 (F := F), k0_pay313 (F := F), k0_pay314 (F := F), k0_pay315 (F := F), k0_pay316 (F := F), 0#32) (show (0#32).toNat < 250 by decide))
    isplitl [HF0]
    · iexact HF0
    isplitl [HF1]
    · iexact HF1
    isplitl [Hc2 Hwt2 Hwd2]
    · isplitl [Hc2]
      · iexists _; iexact Hc2
      isplitl [Hwt2]
      · iexact Hwt2
      iexact Hwd2
    isplitl [HFree]
    · iexact HFree
    isplitl [HOT0 Ht0]
    · isplitl [HOT0]
      · iexact HOT0
      iexact Ht0
    isplitl [HOT1 Ht1]
    · isplitl [HOT1]
      · iexact HOT1
      iexact Ht1
    isplitl [HLT]
    · iexact HLT
    isplitl [Hx8]
    · iexact Hx8
    isplitl [Hwts]
    · iexact Hwts
    isplitl [Hd2t]
    · iexact Hd2t
    isplitl [Hd2ts]
    · iexact Hd2ts
    isplitl [Hzc]
    · iexists _; iexact Hzc
    iexists _; iexact HW
  iintro %acc3 HI
  ihave HE := (inv3_exit c WD WT (x8M.view.writes (Elt F) x8M.view.junk (body_run.sl.Hx8_1 c XIN)) (wtsM.view.writes (Elt F) wtsM.view.junk [⟨Rect.whole S1002x128, body_run.sl.dma0_10 c WTSIN⟩]) (d2tM.view.writes (Elt F) d2tM.view.junk [⟨Rect.whole S250x128, body_run.sl.dma0_11 c D2IN⟩]) (d2tsM.view.writes (Elt F) d2tsM.view.junk [⟨Rect.whole S250x128, body_run.sl.dma0_11 c D2IN⟩]) (body_run.sl.r_2 c XSIN) (body_run.sl.r_3 c XSIN) (body_run.sl.r_4 c XSIN) acc3) $$ HI
  icases HE with ⟨%hJ, ⟨⟨%n1, HF1⟩, ⟨%fr1, HR1⟩, HN1, Hwd1⟩, HFree2, HFree3, HFree0, HP1a, HP0a, HLTd, Hx8, Hwts, Hd2t, Hd2ts, ⟨%f12', Hzc⟩, ⟨%W'', HW⟩⟩
  ihave HP1b := (Entails.of_eq (outT.eq_1 _ _ _ _ _ _ _ _ _)) $$ HP1a
  ihave HP0b := (Entails.of_eq (outT.eq_1 _ _ _ _ _ _ _ _ _)) $$ HP0a
  icases HP1b with ⟨%fp1, %wp1, %gp1, %hwp1, HP1⟩
  icases HP0b with ⟨%fp0, %wp0, %gp0, %hwp0, HP0⟩
  ihave HA0 := (Aside.intro _) $$ HFree0
  ihave HA2 := (Aside.intro _) $$ HFree2
  ihave HA3 := (Aside.intro _) $$ HFree3
  ihave HA1 := (Aside.intro _) $$ Hwd1
  sl_exec_parts (disch := first | with_reducible exact chk1_ok _ ‹_› | with_reducible exact chk9_ok _ ‹_› | (with_reducible refine chk10_ok _ _ ?_) <;> assumption)
  ihave HC2 := (tslot_cut c (body_run.sl.HP0_src_w6 c WT XIN XSIN WTSIN gp0)) $$ HP0_src
  icases HC2 with ⟨HPn, HPr⟩
  sl_exec_parts (disch := first | with_reducible exact chk1_ok _ ‹_› | with_reducible exact chk9_ok _ ‹_› | (with_reducible refine chk10_ok _ _ ?_) <;> assumption)
  sl_for (fun _ _ => iprop((∃ f, zcP c f) ∗ (∃ f, zdP c f))) $$ [Hzc Hzd]
  case region =>
    intro k acc
    have hk : k.val < 250 := trips4 ▸ k.isLt
    iintro ⟨⟨%fz, Hzc⟩, ⟨%fz2, Hzd⟩⟩
    sl_unfold [body_run.sl.prog.body_4, k0_t4_body]
    sl_exec_parts (disch := with_reducible exact chk1_ok _ ‹_›)
    sl_step
    isplitl [Hzc]; · iexists _; iexact Hzc
    iexists _; iexact Hzd
  · isplitl [Hzc]; · iexists _; iexact Hzc
    iexists _; iexact Hzd
  iintro %acc4 HI
  icases HI with ⟨⟨%f12e, Hzc⟩, ⟨%f13e, Hzd⟩⟩
  ihave Htok2 : iprop(∃ g, ⌜∀ j, Tok (g j)⌝ ∗ tokP c g) $$ [Htok]
  · iexists _; isplitr
    on_goal 2 => iexact Htok
    ipureintro; exact tok_writes c _ _ (fun x => htok _)
  icases Htok2 with ⟨%gt, %hgt, Htok⟩
  sl_exec_parts (disch := first | ((with_reducible refine chk11_ok _ ?_) <;> exact hgt _) | ((with_reducible refine chk12_ok _ ?_) <;> exact hgt _) | ((with_reducible refine chk13_ok _ ?_) <;> exact hgt _) | ((with_reducible refine chk14_ok _ ?_) <;> exact hgt _) | ((with_reducible refine chk15_ok _ ?_) <;> exact hgt _) | ((with_reducible refine chk16_ok _ ?_) <;> exact hgt _) | ((with_reducible refine chk17_ok _ ?_) <;> exact hgt _) | ((with_reducible refine chk18_ok _ ?_) <;> exact hgt _) | ((with_reducible refine chk19_ok _ ?_) <;> exact hgt _) | ((with_reducible refine chk20_ok _ ?_) <;> exact hgt _) | ((with_reducible refine chk21_ok _ ?_) <;> exact hgt _) | ((with_reducible refine chk22_ok _ ?_) <;> exact hgt _) | ((with_reducible refine chk23_ok _ ?_) <;> exact hgt _) | ((with_reducible refine chk24_ok _ ?_) <;> exact hgt _) | ((with_reducible refine chk25_ok _ ?_) <;> exact hgt _) | ((with_reducible refine chk26_ok _ ?_) <;> exact hgt _) | ((with_reducible refine chk27_ok _ ?_) <;> exact hgt _) | ((with_reducible refine chk28_ok _ ?_) <;> exact hgt _) | ((with_reducible refine chk29_ok _ ?_) <;> exact hgt _) | ((with_reducible refine chk30_ok _ ?_) <;> exact hgt _) | ((with_reducible refine chk31_ok _ ?_) <;> exact hgt _))
  sl_step
  ihave HG0 := (Aside.elim _) $$ HA0
  ihave HG2 := (Aside.elim _) $$ HA2
  ihave HG3 := (Aside.elim _) $$ HA3
  icases HG0 with ⟨Hs0, Hc0, Hwd0, Hwt0⟩
  icases HG2 with ⟨Hs2, Hc2, Hwd2, Hwt2⟩
  icases HG3 with ⟨Hs3, Hc3, Hwd3, Hwt3⟩
  ihave Hwd1 := (Aside.elim _) $$ HA1
  ihave Hwt1 := (wtN_join c WT 1) $$ [HF1_src HN1]
  · isplitl [HF1_src]; · iexact HF1_src
    iexact HN1
  ihave Hs1 := (slot_join c 1) $$ [HF1_dst HR1]
  · isplitl [HF1_dst]; · iexists _; iexact HF1_dst
    iexists _; iexact HR1
  ihave HOD0 := (dslot_join c (body_run.sl.HO0_src_w6 c WD HIN HSIN WDSIN go0) (body_run.sl.HO0_src_w6 c WD HIN HSIN WDSIN go0)) $$ [HOn HOr]
  · isplitl [HOn]; · iexact HOn
    iexact HOr
  ihave HOT0 := (tslot_join c (body_run.sl.HP0_src_w6 c WT XIN XSIN WTSIN gp0) (body_run.sl.HP0_src_w6 c WT XIN XSIN WTSIN gp0)) $$ [HPn HPr]
  · isplitl [HPn]; · iexact HPn
    iexact HPr
  unfold postP opsP scrP cellsP resD resT
  isplitl [Hxin Hxsin Hhin Hhsin Hwtsin Hwdsin Hd2a Hd2b Htokin Hparin Hwd0 Hwd1 Hwd2 Hwd3 Hwt0 Hwt1 Hwt2 Hwt3]
  · isplitl [Hxin]
    · iexact Hxin
    isplitl [Hxsin]
    · iexact Hxsin
    isplitl [Hhin]
    · iexact Hhin
    isplitl [Hhsin]
    · iexact Hhsin
    isplitl [Hwtsin]
    · iexact Hwtsin
    isplitl [Hwdsin]
    · iexact Hwdsin
    isplitl [Hd2a]
    · iexact Hd2a
    isplitl [Hd2b]
    · iexact Hd2b
    isplitl [Htokin]
    · iexact Htokin
    isplitl [Hparin]
    · iexact Hparin
    isplitl [Hwd0 Hwd1 Hwd2 Hwd3]
    · isplitl [Hwd0]
      · iexact Hwd0
      isplitl [Hwd1]
      · iexact Hwd1
      isplitl [Hwd2]
      · iexact Hwd2
      iexact Hwd3
    isplitl [Hwt0]
    · iexact Hwt0
    isplitl [Hwt1]
    · iexact Hwt1
    isplitl [Hwt2]
    · iexact Hwt2
    iexact Hwt3
  isplitl [Hs0 Hs1 Hs2 Hs3 Hxv Hhv Hxsv Hhsv Hwts Hwds Hd2t Hd2ts Htok Hpar Hx8 Hh8 Hzc Hzd HOT0 HP1_src HOD0 HO1_src]
  · isplitl [Hs0]
    · iexact Hs0
    isplitl [Hs1]
    · iexact Hs1
    isplitl [Hs2]
    · iexact Hs2
    isplitl [Hs3]
    · iexact Hs3
    isplitl [Hxv]
    · iexists _; iexact Hxv
    isplitl [Hhv]
    · iexists _; iexact Hhv
    isplitl [Hxsv]
    · iexists _; iexact Hxsv
    isplitl [Hhsv]
    · iexists _; iexact Hhsv
    isplitl [Hwts]
    · iexists _; iexact Hwts
    isplitl [Hwds]
    · iexists _; iexact Hwds
    isplitl [Hd2t]
    · iexists _; iexact Hd2t
    isplitl [Hd2ts]
    · iexists _; iexact Hd2ts
    isplitl [Htok]
    · iexists _; iexact Htok
    isplitl [Hpar]
    · iexists _; iexact Hpar
    isplitl [Hx8]
    · iexists _; iexact Hx8
    isplitl [Hh8]
    · iexists _; iexact Hh8
    isplitl [Hzc]
    · iexists _; iexact Hzc
    isplitl [Hzd]
    · iexists _; iexact Hzd
    isplitl [HOT0]
    · iexact HOT0
    isplitl [HP1_src]
    · iexists _; iexact HP1_src
    isplitl [HOD0]
    · iexact HOD0
    iexists _; iexact HO1_src
  isplitl [Hc0 HF1 Hc2 Hc3 Hi0 Hi1 Hi2 Hi3 Hi4 Hi5 Hi6 Hi7 Hi8 Hi9 HP0 HP1 HO0 HO1 Hn]
  · isplitl [Hc0]
    · iexact Hc0
    isplitl [HF1]
    · iexact HF1
    isplitl [Hc2]
    · iexact Hc2
    isplitl [Hc3]
    · iexact Hc3
    isplitl [Hi0]
    · iexact Hi0
    isplitl [Hi1]
    · iexact Hi1
    isplitl [Hi2]
    · iexact Hi2
    isplitl [Hi3]
    · iexact Hi3
    isplitl [Hi4]
    · iexact Hi4
    isplitl [Hi5]
    · iexact Hi5
    isplitl [Hi6]
    · iexact Hi6
    isplitl [Hi7]
    · iexact Hi7
    isplitl [Hi8]
    · iexact Hi8
    isplitl [Hi9]
    · iexact Hi9
    isplitl [HP0]
    · iexact HP0
    isplitl [HP1]
    · iexact HP1
    isplitl [HO0]
    · iexact HO0
    isplitl [HO1]
    · iexact HO1
    iexact Hn
  isplitl [HLDd HO1_dst HO0_dst HLDN]
  · iexists (h8M.view.writes (Elt F) h8M.view.junk (body_run.sl.Hh8_1 c HIN)), (wdsM.view.writes (Elt F) wdsM.view.junk [⟨Rect.whole S250x128, body_run.sl.dma0_4 c WDSIN⟩]), (body_run.sl.r_6 c HSIN), (body_run.sl.r_7 c HSIN), (body_run.sl.r_8 c HSIN); isplitr; · ipureintro; trivial
    isplitl [HLDd HO1_dst HO0_dst]
    · iapply (doneD_all c WD _ _ _ _ _)
      isplitl [HO0_dst]
      · iapply (Entails.of_eq (ldDone.eq_1 _ _ _ _ _ _ _ _).symm); iexists _, _; isplitr
        on_goal 2 => iexact HO0_dst
        ipureintro; exact hwo0
      isplitl [HO1_dst]
      · iapply (Entails.of_eq (ldDone.eq_1 _ _ _ _ _ _ _ _).symm); iexists _, _; isplitr
        on_goal 2 => iexact HO1_dst
        ipureintro; exact hwo1
      iexact HLDd
    iexists _, _; isplitr
    on_goal 2 => iexact HLDN
    ipureintro; trivial
  isplitl [HLTd HP1_dst HP0_dst HLTN]
  · iexists (x8M.view.writes (Elt F) x8M.view.junk (body_run.sl.Hx8_1 c XIN)), (wtsM.view.writes (Elt F) wtsM.view.junk [⟨Rect.whole S1002x128, body_run.sl.dma0_10 c WTSIN⟩]), (body_run.sl.r_2 c XSIN), (body_run.sl.r_3 c XSIN), (body_run.sl.r_4 c XSIN); isplitr
    · ipureintro; unfold relT; refine ⟨?_, ?_, ?_, ?_, ?_⟩
      · refine (x8_writes (F := F) _ _ _ _ rfl).trans ?_
        have e0 : body_run.sl.v75 c XIN = blkX (F := F) XIN 0 := blkX_read (F := F) XIN 0 ![0, 0, 0] rfl _ xvM.view
        have e1 : body_run.sl.v78 c XIN = blkX (F := F) XIN 1 := blkX_read (F := F) XIN 1 ![1, 0, 0] rfl _ xvM.view
        have e2 : body_run.sl.v81 c XIN = blkX (F := F) XIN 2 := blkX_read (F := F) XIN 2 ![2, 0, 0] rfl _ xvM.view
        rw [← e0, ← e1, ← e2]; rfl
      · exact wts_writes (F := F) wtsM.view.junk (body_run.sl.dma0_10 c WTSIN) _ rfl
      · have e0 : body_run.sl.v108 c XSIN = rowX (F := F) XSIN 0 := rowX_read (F := F) XSIN 0 ![0, 0] rfl _ xsvM.view
        rw [← e0]; rfl
      · have e0 : body_run.sl.v122 c XSIN = rowX (F := F) XSIN 1 := rowX_read (F := F) XSIN 1 ![1, 0] rfl _ xsvM.view
        rw [← e0]; rfl
      · have e0 : body_run.sl.v136 c XSIN = rowX (F := F) XSIN 2 := rowX_read (F := F) XSIN 2 ![2, 0] rfl _ xsvM.view
        rw [← e0]; rfl
    isplitl [HLTd HP1_dst HP0_dst]
    · iapply (doneT_all c WT _ _ _ _ _)
      isplitl [HP0_dst]
      · iapply (Entails.of_eq (ltDone.eq_1 _ _ _ _ _ _ _ _).symm); iexists _, _; isplitr
        on_goal 2 => iexact HP0_dst
        ipureintro; exact hwp0
      isplitl [HP1_dst]
      · iapply (Entails.of_eq (ltDone.eq_1 _ _ _ _ _ _ _ _).symm); iexists _, _; isplitr
        on_goal 2 => iexact HP1_dst
        ipureintro; exact hwp1
      iexact HLTd
    iexists _, _; isplitr
    on_goal 2 => iexact HLTN
    ipureintro
    unfold okTN
    intro y
    have l0 : (y 0).val < 3 := (y 0).isLt
    have l2 : (y 2).val < 256 := (y 2).isLt
    have he : (y 0).val = 0 ∨ (y 0).val = 1 ∨ (y 0).val = 2 := by omega
    have hq : (y 2).val / 128 = 0 ∨ (y 2).val / 128 = 1 := by omega
    have hA : prodN (x8M.view.writes (Elt F) x8M.view.junk (body_run.sl.Hx8_1 c XIN)) (wtN.view.read (Elt F) WT)
        = k0_pay360 (body_run.sl.v532 c XIN) (body_run.sl.r_60 c WT) (body_run.sl.cst_333 (F := F)) := by
      have e1 : body_run.sl.v532 c XIN = _ := readX8 (F := F) (x8M.view.writes (Elt F) x8M.view.junk (body_run.sl.Hx8_1 c XIN)) _
      have e2 : body_run.sl.r_60 c WT = wtN.view.read (Elt F) WT := by
        unfold body_run.sl.r_60 body_run.sl.v533 k0_pay359
        exact slab_readN (F := F) 1 _ rfl _ _ _ (fun p => land_atN (F := F) 1 _ _ p _ rfl)
      rw [e2, e1]; rfl
    rw [hA]
    have hR0 : body_run.sl.v536 c WTSIN = rowsN (F := F) (wtsM.view.writes (Elt F) wtsM.view.junk [⟨Rect.whole S1002x128, body_run.sl.dma0_10 c WTSIN⟩]) 0 :=
      readRowN (F := F) (wtsM.view.writes (Elt F) wtsM.view.junk [⟨Rect.whole S1002x128, body_run.sl.dma0_10 c WTSIN⟩]) 0 _ rfl _
    have hR1 : body_run.sl.v550 c WTSIN = rowsN (F := F) (wtsM.view.writes (Elt F) wtsM.view.junk [⟨Rect.whole S1002x128, body_run.sl.dma0_10 c WTSIN⟩]) 1 :=
      readRowN (F := F) (wtsM.view.writes (Elt F) wtsM.view.junk [⟨Rect.whole S1002x128, body_run.sl.dma0_10 c WTSIN⟩]) 1 _ rfl _
    unfold body_run.sl.dma0_14
    refine read_tnslot (F := F) _ y _ _ rfl ?_
    intro z hz hy
    refine stepN _ ![body_run.sl.r_2 c XSIN, body_run.sl.r_3 c XSIN, body_run.sl.r_4 c XSIN] _ 0 2 1 ![0, 2, 0, 128] rfl _ _ _ z hz y hy ![16, 128] rfl slices_S32x256_o16_128_S8x128 (by rw [← hR1]; rfl) fun h6 => ?_
    refine stepN _ ![body_run.sl.r_2 c XSIN, body_run.sl.r_3 c XSIN, body_run.sl.r_4 c XSIN] _ 0 1 1 ![0, 1, 0, 128] rfl _ _ _ z hz y hy ![8, 128] rfl slices_S32x256_o8_128_S8x128 (by rw [← hR1]; rfl) fun h5 => ?_
    refine stepN _ ![body_run.sl.r_2 c XSIN, body_run.sl.r_3 c XSIN, body_run.sl.r_4 c XSIN] _ 0 0 1 ![0, 0, 0, 128] rfl _ _ _ z hz y hy ![0, 128] rfl slices_S32x256_o0_128_S8x128 (by rw [← hR1]; rfl) fun h4 => ?_
    refine stepN _ ![body_run.sl.r_2 c XSIN, body_run.sl.r_3 c XSIN, body_run.sl.r_4 c XSIN] _ 0 2 0 ![0, 2, 0, 0] rfl _ _ _ z hz y hy ![16, 0] rfl slices_S32x256_o16_0_S8x128 (by rw [← hR0]; rfl) fun h3 => ?_
    refine stepN _ ![body_run.sl.r_2 c XSIN, body_run.sl.r_3 c XSIN, body_run.sl.r_4 c XSIN] _ 0 1 0 ![0, 1, 0, 0] rfl _ _ _ z hz y hy ![8, 0] rfl slices_S32x256_o8_0_S8x128 (by rw [← hR0]; rfl) fun h2 => ?_
    refine stepN _ ![body_run.sl.r_2 c XSIN, body_run.sl.r_3 c XSIN, body_run.sl.r_4 c XSIN] _ 0 0 0 ![0, 0, 0, 0] rfl _ _ _ z hz y hy ![0, 0] rfl slices_S32x256_o0_0_S8x128 (by rw [← hR0]; rfl) fun h1 => ?_
    exfalso
    replace h1 : ¬((y 0).val = 0 ∧ (y 2).val / 128 = 0) := h1
    replace h2 : ¬((y 0).val = 1 ∧ (y 2).val / 128 = 0) := h2
    replace h3 : ¬((y 0).val = 2 ∧ (y 2).val / 128 = 0) := h3
    replace h4 : ¬((y 0).val = 0 ∧ (y 2).val / 128 = 1) := h4
    replace h5 : ¬((y 0).val = 1 ∧ (y 2).val / 128 = 1) := h5
    replace h6 : ¬((y 0).val = 2 ∧ (y 2).val / 128 = 1) := h6
    rcases he with e | e | e <;> rcases hq with q | q
    · exact h1 ⟨e, q⟩
    · exact h4 ⟨e, q⟩
    · exact h2 ⟨e, q⟩
    · exact h5 ⟨e, q⟩
    · exact h3 ⟨e, q⟩
    · exact h6 ⟨e, q⟩
  isplitl [Hw11]
  · iexists _; iexact Hw11
  isplitl [Hw12]
  · iexists _; iexact Hw12
  isplitl [Hw13]
  · iexists _; iexact Hw13
  isplitl [Hw14]
  · iexists _; iexact Hw14
  iexists _; iexact HW

end Body

end Cert.Proof.KernelIdealRun
-- ==== Proof.KernelIdealLaunch.lean ====
/-
  The whole program run: the launch of the one call over the body's run, every argument read back unchanged, every
  semaphore back at zero, and what the logits arrays hold.
-/
module

public import proofs.«01_k».proof.Proof.KernelIdealBody
public import proofs.«01_k».proof.Proof.Gen.KernelIdeal.Frame

@[expose] public section

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.Pipeline (Dat Cfg Window BodyObligation BodyObligationLoose cellOf)

local notation "𝕄" => MT nD τ sig Unit (Elt F) ℕ (UU nD τ) ℕ

variable (m : (ℓ : Loc nD τ sig) → Buf (Elt F) ℓ) (ρ : Dev nD → PrngReg)

/-! ## Whole buffers -/

theorem wholeP (c : Dev nD) (b : Ref sig .tc) (q) (f : Buf (Elt F) ((c : Thread nD τ).loc b)) :
    (((Memref.whole b).view.loc (c : Thread nD τ) ↦[(Memref.whole b).view.set]{q} f) : sProp 𝕄) = (((c : Thread nD τ).loc b) ↦[Finset.univ]{q} f) :=
  congrArg (fun S => (((c : Thread nD τ).loc b) ↦[S]{q} f : sProp 𝕄)) (View.set_whole _)
theorem wholeEi (c : Dev nD) (b : Ref sig .tc) :
    (iprop(∃ f : Buf (Elt F) ((c : Thread nD τ).loc b), ((c : Thread nD τ).loc b) ↦{fullShare} f) : sProp 𝕄)
      ⊢ iprop(∃ f, (Memref.whole b).view.loc (c : Thread nD τ) ↦[(Memref.whole b).view.set]{fullShare} f) := by
  iintro ⟨%f, H⟩; iexists f; iapply (Entails.of_eq (wholeP c b _ f).symm); iexact H
theorem wholeEo (c : Dev nD) (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  iintro ⟨%f, H⟩; iexists f; iapply (Entails.of_eq (wholeP c b _ f)); iexact H

/-! ## The call's operands, whole and lent -/

def opsV (c : Dev nD) : sProp 𝕄 := opsP c (V m c main_arg6) (V m c main_arg2) (V m c main_arg0) (V m c main_arg1) (V m c main_arg4) (V m c main_arg5) (V m c main_v0) (V m c main_v1) (V m c main_v2) (V m c main_arg9) (V m c main_arg10)
def opsLeft (c : Dev nD) : sProp 𝕄 := iprop(wdLeft c (V m c main_arg6) ∗ wtLeft c (V m c main_arg2) ∗ d2Left c (V m c main_v2))
def opsW (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg9) ↦{fullShare} V m c main_arg9) ∗ (((c : Thread nD τ).loc main_arg10) ↦{fullShare} V m c main_arg10) ∗ (((c : Thread nD τ).loc main_v0) ↦{fullShare} V m c main_v0) ∗ (((c : Thread nD τ).loc main_v1) ↦{fullShare} V m c main_v1) ∗ (((c : Thread nD τ).loc main_v2) ↦{fullShare} V m c main_v2))

theorem ops_in (c : Dev nD) : opsW m c ⊢ (iprop(opsV m c ∗ opsLeft m c) : sProp 𝕄) := by
  unfold opsW opsV opsLeft opsP
  iintro ⟨Hmain_arg0, Hmain_arg1, Hmain_arg2, Hmain_arg4, Hmain_arg5, Hmain_arg6, Hmain_arg9, Hmain_arg10, Hmain_v0, Hmain_v1, Hmain_v2⟩
  ihave Hwd := (wd_split c (V m c main_arg6)) $$ Hmain_arg6
  ihave Hwt := (wt_split c (V m c main_arg2)) $$ Hmain_arg2
  ihave Hd2 := (d2_split c (V m c main_v2)) $$ Hmain_v2
  icases Hwd with ⟨HwdL, Hwd0, Hwd1, Hwd2, Hwd3⟩
  icases Hwt with ⟨HwtL, Hwt0, Hwt1, Hwt2, Hwt3⟩
  icases Hd2 with ⟨Hd2L, Hd2a, Hd2b⟩
  isplitl [Hmain_arg0 Hmain_arg1 Hmain_arg4 Hmain_arg5 Hmain_v0 Hmain_v1 Hd2a Hd2b Hmain_arg9 Hmain_arg10 Hwd0 Hwd1 Hwd2 Hwd3 Hwt0 Hwt1 Hwt2 Hwt3]
  · isplitl [Hmain_arg0]
    · iapply (Entails.of_eq (wholeP c main_arg0 _ _).symm); iexact Hmain_arg0
    isplitl [Hmain_arg1]
    · iapply (Entails.of_eq (wholeP c main_arg1 _ _).symm); iexact Hmain_arg1
    isplitl [Hmain_arg4]
    · iapply (Entails.of_eq (wholeP c main_arg4 _ _).symm); iexact Hmain_arg4
    isplitl [Hmain_arg5]
    · iapply (Entails.of_eq (wholeP c main_arg5 _ _).symm); iexact Hmain_arg5
    isplitl [Hmain_v0]
    · iapply (Entails.of_eq (wholeP c main_v0 _ _).symm); iexact Hmain_v0
    isplitl [Hmain_v1]
    · iapply (Entails.of_eq (wholeP c main_v1 _ _).symm); iexact Hmain_v1
    isplitl [Hd2a]
    · iexact Hd2a
    isplitl [Hd2b]
    · iexact Hd2b
    isplitl [Hmain_arg9]
    · iapply (Entails.of_eq (wholeP c main_arg9 _ _).symm); iexact Hmain_arg9
    isplitl [Hmain_arg10]
    · iapply (Entails.of_eq (wholeP c main_arg10 _ _).symm); iexact Hmain_arg10
    isplitl [Hwd0 Hwd1 Hwd2 Hwd3]
    · isplitl [Hwd0]
      · iexact Hwd0
      isplitl [Hwd1]
      · iexact Hwd1
      isplitl [Hwd2]
      · iexact Hwd2
      iexact Hwd3
    isplitl [Hwt0]
    · iexact Hwt0
    isplitl [Hwt1]
    · iexact Hwt1
    isplitl [Hwt2]
    · iexact Hwt2
    iexact Hwt3
  isplitl [HwdL]
  · iexact HwdL
  isplitl [HwtL]
  · iexact HwtL
  iexact Hd2L
theorem ops_out (c : Dev nD) : (iprop(opsV m c ∗ opsLeft m c) : sProp 𝕄) ⊢ opsW m c := by
  unfold opsW opsV opsLeft opsP
  iintro ⟨⟨Hmain_arg0, Hmain_arg1, Hmain_arg4, Hmain_arg5, Hmain_v0, Hmain_v1, Hd2a, Hd2b, Hmain_arg9, Hmain_arg10, ⟨Hwd0, Hwd1, Hwd2, Hwd3⟩, ⟨Hwt0, Hwt1, Hwt2, Hwt3⟩⟩, HwdL, HwtL, Hd2L⟩
  ihave Hmain_arg6 := (wd_joinS c (V m c main_arg6)) $$ [HwdL Hwd0 Hwd1 Hwd2 Hwd3]
  · isplitl [HwdL]
    · iexact HwdL
    isplitl [Hwd0]
    · iexact Hwd0
    isplitl [Hwd1]
    · iexact Hwd1
    isplitl [Hwd2]
    · iexact Hwd2
    iexact Hwd3
  ihave Hmain_arg2 := (wt_joinS c (V m c main_arg2)) $$ [HwtL Hwt0 Hwt1 Hwt2 Hwt3]
  · isplitl [HwtL]
    · iexact HwtL
    isplitl [Hwt0]
    · iexact Hwt0
    isplitl [Hwt1]
    · iexact Hwt1
    isplitl [Hwt2]
    · iexact Hwt2
    iexact Hwt3
  ihave Hmain_v2 := (d2_joinS c (V m c main_v2)) $$ [Hd2L Hd2a Hd2b]
  · isplitl [Hd2L]
    · iexact Hd2L
    isplitl [Hd2a]
    · iexact Hd2a
    iexact Hd2b
  isplitl [Hmain_arg0]
  · iapply (Entails.of_eq (wholeP c main_arg0 _ _)); iexact Hmain_arg0
  isplitl [Hmain_arg1]
  · iapply (Entails.of_eq (wholeP c main_arg1 _ _)); iexact Hmain_arg1
  isplitl [Hmain_arg2]
  · iexact Hmain_arg2
  isplitl [Hmain_arg4]
  · iapply (Entails.of_eq (wholeP c main_arg4 _ _)); iexact Hmain_arg4
  isplitl [Hmain_arg5]
  · iapply (Entails.of_eq (wholeP c main_arg5 _ _)); iexact Hmain_arg5
  isplitl [Hmain_arg6]
  · iexact Hmain_arg6
  isplitl [Hmain_arg9]
  · iapply (Entails.of_eq (wholeP c main_arg9 _ _)); iexact Hmain_arg9
  isplitl [Hmain_arg10]
  · iapply (Entails.of_eq (wholeP c main_arg10 _ _)); iexact Hmain_arg10
  isplitl [Hmain_v0]
  · iapply (Entails.of_eq (wholeP c main_v0 _ _)); iexact Hmain_v0
  isplitl [Hmain_v1]
  · iapply (Entails.of_eq (wholeP c main_v1 _ _)); iexact Hmain_v1
  iexact Hmain_v2

/-! ## The call's own buffers -/

theorem scr_in (c : Dev nD) : (Pipeline.scopedRest (Ix := Unit) (Name := ℕ) (U := UU nD τ) (Lvl := ℕ) (Val := Elt F) spec0 c : sProp 𝕄) ⊢ scrP (F := F) c := by
  rw [scopedRest0_eq]
  unfold scrP
  iintro ⟨S0, S1, S2, S3, S4, S5, S6, S7, S11, S12, S13, S14, S15, S16, S8, S9, S10⟩
  ihave R := (ring_split c) $$ S0
  icases R with ⟨R0, R1, R2, R3⟩
  ihave OT := (tslot_split c) $$ S15
  icases OT with ⟨OT0, OT1⟩
  ihave OD := (dslot_split c) $$ S16
  icases OD with ⟨OD0, OD1⟩
  isplitl [R0]
  · iexact R0
  isplitl [R1]
  · iexact R1
  isplitl [R2]
  · iexact R2
  isplitl [R3]
  · iexact R3
  isplitl [S1]
  · iapply (wholeEi c cc0_scratch1); iexact S1
  isplitl [S2]
  · iapply (wholeEi c cc0_scratch2); iexact S2
  isplitl [S3]
  · iapply (wholeEi c cc0_scratch3); iexact S3
  isplitl [S4]
  · iapply (wholeEi c cc0_scratch4); iexact S4
  isplitl [S5]
  · iapply (wholeEi c cc0_scratch5); iexact S5
  isplitl [S6]
  · iapply (wholeEi c cc0_scratch6); iexact S6
  isplitl [S7]
  · iapply (wholeEi c cc0_scratch7); iexact S7
  isplitl [S8]
  · iapply (wholeEi c cc0_scratch8); iexact S8
  isplitl [S9]
  · iapply (wholeEi c cc0_scratch9); iexact S9
  isplitl [S10]
  · iapply (wholeEi c cc0_scratch10); iexact S10
  isplitl [S11]
  · iapply (wholeEi c cc0_scratch11); iexact S11
  isplitl [S12]
  · iapply (wholeEi c cc0_scratch12); iexact S12
  isplitl [S13]
  · iapply (wholeEi c cc0_scratch13); iexact S13
  isplitl [S14]
  · iapply (wholeEi c cc0_scratch14); iexact S14
  isplitl [OT0]
  · iexact OT0
  isplitl [OT1]
  · iexact OT1
  isplitl [OD0]
  · iexact OD0
  iexact OD1
theorem scr_out (c : Dev nD) : scrP (F := F) c ⊢ (Pipeline.scopedRest (Ix := Unit) (Name := ℕ) (U := UU nD τ) (Lvl := ℕ) (Val := Elt F) spec0 c : sProp 𝕄) := by
  rw [scopedRest0_eq]
  unfold scrP
  iintro ⟨R0, R1, R2, R3, S1, S2, S3, S4, S5, S6, S7, S8, S9, S10, S11, S12, S13, S14, OT0, OT1, OD0, OD1⟩
  ihave S0 := (ring_join c) $$ [R0 R1 R2 R3]
  · isplitl [R0]
    · iexact R0
    isplitl [R1]
    · iexact R1
    isplitl [R2]
    · iexact R2
    iexact R3
  ihave S15 := (tslot_joinS c) $$ [OT0 OT1]
  · isplitl [OT0]
    · iexact OT0
    iexact OT1
  ihave S16 := (dslot_joinS c) $$ [OD0 OD1]
  · isplitl [OD0]
    · iexact OD0
    iexact OD1
  isplitl [S0]
  · iexact S0
  isplitl [S1]
  · iapply (wholeEo c cc0_scratch1); iexact S1
  isplitl [S2]
  · iapply (wholeEo c cc0_scratch2); iexact S2
  isplitl [S3]
  · iapply (wholeEo c cc0_scratch3); iexact S3
  isplitl [S4]
  · iapply (wholeEo c cc0_scratch4); iexact S4
  isplitl [S5]
  · iapply (wholeEo c cc0_scratch5); iexact S5
  isplitl [S6]
  · iapply (wholeEo c cc0_scratch6); iexact S6
  isplitl [S7]
  · iapply (wholeEo c cc0_scratch7); iexact S7
  isplitl [S11]
  · iapply (wholeEo c cc0_scratch11); iexact S11
  isplitl [S12]
  · iapply (wholeEo c cc0_scratch12); iexact S12
  isplitl [S13]
  · iapply (wholeEo c cc0_scratch13); iexact S13
  isplitl [S14]
  · iapply (wholeEo c cc0_scratch14); iexact S14
  isplitl [S15]
  · iexact S15
  isplitl [S16]
  · iexact S16
  isplitl [S8]
  · iapply (wholeEo c cc0_scratch8); iexact S8
  isplitl [S9]
  · iapply (wholeEo c cc0_scratch9); iexact S9
  iapply (wholeEo c cc0_scratch10); iexact S10

/-! ## Its semaphores -/

abbrev osem : Fin 19 → SemLoc sig := ![.dma (csm 0).sem, .dma (csm 1).sem, .dma (csm 2).sem, .dma (csm 3).sem, .dma (ism 0).sem, .dma (ism 1).sem, .dma (ism 2).sem, .dma (ism 3).sem, .dma (ism 4).sem, .dma (ism 5).sem, .dma (ism 6).sem, .dma (ism 7).sem, .dma (ism 8).sem, .dma (ism 9).sem, .dma (tsm 0).sem, .dma (tsm 1).sem, .dma (dsm 0).sem, .dma (dsm 1).sem, .dma nsm.sem]
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = cellsP (F := F) c := by
  unfold Pipeline.ownSems0 cellsP
  rw [bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide)]
  rfl

/-! ## The pipeline's proof data -/

def homesP (c : Dev nD) : sProp 𝕄 :=
  iprop(bigSep Finset.univ (ldHome (F := F) c) ∗ (∃ f, ldNP (F := F) c f) ∗ bigSep Finset.univ (ltHome (F := F) c) ∗ (∃ f, ltNP (F := F) c f))
def resP (c : Dev nD) : sProp 𝕄 :=
  iprop(resD c (V m c main_arg6) (V m c main_arg4) (V m c main_arg5) (V m c main_v1) ∗ resT c (V m c main_arg2) (V m c main_arg0) (V m c main_arg1) (V m c main_v0))
/-- Before the call's one point, and after it. -/
def Φ0 (c : Dev nD) : sProp 𝕄 := iprop(opsV m c ∗ scrP (F := F) c ∗ cellsP (F := F) c ∗ homesP (F := F) c)
def Φ1 (c : Dev nD) : sProp 𝕄 := iprop(opsV m c ∗ scrP (F := F) c ∗ cellsP (F := F) c ∗ resP m c)
def ΦK (c : Dev nD) (t : ℕ) : sProp 𝕄 := if t = 0 then Φ0 m c else Φ1 m c

def dats (_ : Fin 1) (c : Dev nD) : Dat τ (Elt F) Unit ℕ (UU nD τ) ℕ cfg0 c where
  A w := V m c (Pipeline.arrRef spec0 w)
  after w t := fun _ => Classical.choice inferInstance
  Φ t := ΦK m c t.val
  q _ := fullShare
  owed _ := 0

/-- On every core the draft tokens are tokens of the draft vocabulary. -/
def PreOK : Prop := ∀ (c : Dev nD) (j), Tok (m ((c : Thread nD τ).loc main_arg9) j)

/-! ## The body obligation -/

abbrev bodyG (arg11 : Memref sig .tc .vmem S3x7 .f32) (harg11 : arg11.IsWhole) (arg12 : Memref sig .tc .vmem S3x7 .f32) (harg12 : arg12.IsWhole) (arg13 : Memref sig .tc .vmem S3x8 .f32) (harg13 : arg13.IsWhole) (arg14 : Memref sig .tc .vmem S3x7 .f32) (harg14 : arg14.IsWhole) : Prog (TpuEff nD τ sig (Elt F) Λ₀ .tc) PUnit := cc0_tree_verify_stats (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_arg5) (Memref.isWhole_whole _) (Memref.whole main_arg6) (Memref.isWhole_whole _) (Memref.whole main_v1) (Memref.isWhole_whole _) (Memref.whole main_v2) (Memref.isWhole_whole _) (Memref.whole main_arg9) (Memref.isWhole_whole _) (Memref.whole main_arg10) (Memref.isWhole_whole _) arg11 harg11 arg12 harg12 arg13 harg13 arg14 harg14 (Memref.whole main_v3_4) (Memref.isWhole_whole _) (Memref.whole main_v3_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

set_option backward.isDefEq.respectTransparency.types false in
set_option maxHeartbeats 1600000 in
theorem body_obligation (h : PreOK m) (c : Dev nD) : BodyObligationLoose (dats (F := F) m 0 c) (defs₀ (F := F)) 𝒱₀ () Set.univ (fun _ => true) := fun t => by
  have ht : t.val = 0 := by rw [fin_N0 t]; rfl
  have htok : ∀ j, Tok (V m c main_arg9 j) := fun j => by rw [V_main_arg9]; exact h c j
  rw [bigSep_W0]
  dsimp only
  rw [show (dats m 0 c).Φ t.castSucc = ΦK m c t.val from rfl, show (dats m 0 c).Φ t.succ = ΦK m c (t.val + 1) from rfl]
  rw [show ΦK m c t.val = Φ0 m c from if_pos ht, show ΦK m c (t.val + 1) = Φ1 m c from if_neg (by omega)]
  unfold Dat.owesAt Pipeline.owesWithin
  rw [show (dats m 0 c).owed t.castSucc = 0 from rfl, show (dats m 0 c).owed t.succ = 0 from rfl]
  unfold owns Φ0 Φ1 opsV homesP resP
  iintro ⟨⟨HO, HS, HC, HLD, HLDN, HLT, HLTN⟩, ⟨%W, -, HW⟩, ⟨%d0, %g0, -, H0⟩, ⟨%d1, %g1, -, H1⟩, ⟨%d2, %g2, -, H2⟩, ⟨%d3, %g3, -, H3⟩⟩
  sl_rw [prog_eq t]
  ihave HB := (body_run c (V m c main_arg6) (V m c main_arg2) (V m c main_arg0) (V m c main_arg1) (V m c main_arg4) (V m c main_arg5) (V m c main_v0) (V m c main_v1) (V m c main_v2) (V m c main_arg9) (V m c main_arg10) (st0_0 t) (hstage0_0 0) (st0_1 t) (hstage0_1 0) (st0_2 t) (hstage0_2 0) (st0_3 t) (hstage0_3 0) htok) $$ [HO HS HC HLD HLDN HLT HLTN H0 H1 H2 H3 HW]
  · isplitl [HO]
    · iexact HO
    isplitl [HS]
    · iexact HS
    isplitl [HC]
    · iexact HC
    isplitl [HLD]
    · iexact HLD
    isplitl [HLDN]
    · iexact HLDN
    isplitl [HLT]
    · iexact HLT
    isplitl [HLTN]
    · iexact HLTN
    isplitl [H0]
    · iexists _; iexact H0
    isplitl [H1]
    · iexists _; iexact H1
    isplitl [H2]
    · iexists _; iexact H2
    isplitl [H3]
    · iexists _; iexact H3
    iexists _; iexact HW
  iapply (wp_wand _ _) $$ HB
  iintro %u HP
  unfold postP
  icases HP with ⟨HO, HS, HC, HRD, HRT, ⟨%g0', H0⟩, ⟨%g1', H1⟩, ⟨%g2', H2⟩, ⟨%g3', H3⟩, ⟨%W', HW⟩⟩
  isplitl [HO HS HC HRD HRT]
  · isplitl [HO]
    · iexact HO
    isplitl [HS]
    · iexact HS
    isplitl [HC]
    · iexact HC
    isplitl [HRD]
    · iexact HRD
    iexact HRT
  isplitl [HW]
  · iexists W'; isplitr; · ipureintro; exact fun _ _ => Or.inl trivial
    iexact HW
  isplitl [H0]
  · iexists _, g0'; isplitr; · ipureintro; rfl
    iexact H0
  isplitl [H1]
  · iexists _, g1'; isplitr; · ipureintro; rfl
    iexact H1
  isplitl [H2]
  · iexists _, g2'; isplitr; · ipureintro; rfl
    iexact H2
  iexists _, g3'; isplitr; · ipureintro; rfl
  iexact H3

/-! ## What the logits hold -/

/-- The draft logits, block by block. -/
def GD (c : Dev nD) (g : Buf (Elt F) ((c : Thread nD τ).loc main_v3_5)) : Prop :=
  ∃ H8 WDS hs0 hs1 hs2, relD c (V m c main_arg4) (V m c main_arg5) (V m c main_v1) H8 WDS hs0 hs1 hs2
    ∧ (∀ b, ∃ f, (∃ f' w, okD c (V m c main_arg6) H8 WDS hs0 hs1 hs2 b w ∧ f = (ldB b).view.writes (Elt F) f' [⟨Rect.whole S3x7x1024, w⟩]) ∧ ∀ i ∈ BD b, g i = f i)
    ∧ ∃ f, (∃ f' w, okDN c (V m c main_arg6) H8 WDS hs0 hs1 hs2 w ∧ f = ldN.view.writes (Elt F) f' [⟨Rect.whole S3x7x256, w⟩]) ∧ ∀ i ∈ BND, g i = f i
/-- The target logits, block by block. -/
def GT (c : Dev nD) (g : Buf (Elt F) ((c : Thread nD τ).loc main_v3_4)) : Prop :=
  ∃ X8 WTS xs0 xs1 xs2, relT c (V m c main_arg0) (V m c main_arg1) (V m c main_v0) X8 WTS xs0 xs1 xs2
    ∧ (∀ b, ∃ f, (∃ f' w, okT c (V m c main_arg2) X8 WTS xs0 xs1 xs2 b w ∧ f = (ltB b).view.writes (Elt F) f' [⟨Rect.whole S3x8x1024, w⟩]) ∧ ∀ i ∈ BT b, g i = f i)
    ∧ ∃ f, (∃ f' w, okTN c (V m c main_arg2) X8 WTS xs0 xs1 xs2 w ∧ f = ltN.view.writes (Elt F) f' [⟨Rect.whole S3x8x256, w⟩]) ∧ ∀ i ∈ BNT, g i = f i
theorem resD_join (c : Dev nD) : (resD c (V m c main_arg6) (V m c main_arg4) (V m c main_arg5) (V m c main_v1) : sProp 𝕄) ⊢ iprop(∃ g, ⌜GD m c g⌝ ∗ (((c : Thread nD τ).loc main_v3_5) ↦{fullShare} g)) := by
  unfold resD
  iintro ⟨%H8, %WDS, %hs0, %hs1, %hs2, %hrel, HB, %f, %w, %hw, HN⟩
  ihave HG := (ld_join (F := F) c (fun b f => ∃ f' w, okD c (V m c main_arg6) H8 WDS hs0 hs1 hs2 b w ∧ f = (ldB b).view.writes (Elt F) f' [⟨Rect.whole S3x7x1024, w⟩])
    (fun f => ∃ f' w, okDN c (V m c main_arg6) H8 WDS hs0 hs1 hs2 w ∧ f = ldN.view.writes (Elt F) f' [⟨Rect.whole S3x7x256, w⟩])) $$ [HB HN]
  · isplitl [HB]
    · iapply (bigMono (s := Finset.univ) (fun b _ => (show (ldDone c (V m c main_arg6) H8 WDS hs0 hs1 hs2 b : sProp 𝕄) ⊢ _ from by
        unfold ldDone
        iintro ⟨%f, %w, %hw, H⟩
        iexists _; isplitr
        on_goal 2 => iexact H
        ipureintro; exact ⟨f, w, hw, rfl⟩)))
      iexact HB
    · iexists _; isplitr
      on_goal 2 => iexact HN
      ipureintro; exact ⟨f, w, hw, rfl⟩
  icases HG with ⟨%g, %hg, HG⟩
  iexists g; isplitr
  · ipureintro; exact ⟨H8, WDS, hs0, hs1, hs2, hrel, hg.1, hg.2⟩
  iexact HG
theorem resT_join (c : Dev nD) : (resT c (V m c main_arg2) (V m c main_arg0) (V m c main_arg1) (V m c main_v0) : sProp 𝕄) ⊢ iprop(∃ g, ⌜GT m c g⌝ ∗ (((c : Thread nD τ).loc main_v3_4) ↦{fullShare} g)) := by
  unfold resT
  iintro ⟨%X8, %WTS, %xs0, %xs1, %xs2, %hrel, HB, %f, %w, %hw, HN⟩
  ihave HG := (lt_join (F := F) c (fun b f => ∃ f' w, okT c (V m c main_arg2) X8 WTS xs0 xs1 xs2 b w ∧ f = (ltB b).view.writes (Elt F) f' [⟨Rect.whole S3x8x1024, w⟩])
    (fun f => ∃ f' w, okTN c (V m c main_arg2) X8 WTS xs0 xs1 xs2 w ∧ f = ltN.view.writes (Elt F) f' [⟨Rect.whole S3x8x256, w⟩])) $$ [HB HN]
  · isplitl [HB]
    · iapply (bigMono (s := Finset.univ) (fun b _ => (show (ltDone c (V m c main_arg2) X8 WTS xs0 xs1 xs2 b : sProp 𝕄) ⊢ _ from by
        unfold ltDone
        iintro ⟨%f, %w, %hw, H⟩
        iexists _; isplitr
        on_goal 2 => iexact H
        ipureintro; exact ⟨f, w, hw, rfl⟩)))
      iexact HB
    · iexists _; isplitr
      on_goal 2 => iexact HN
      ipureintro; exact ⟨f, w, hw, rfl⟩
  icases HG with ⟨%g, %hg, HG⟩
  iexists g; isplitr
  · ipureintro; exact ⟨X8, WTS, xs0, xs1, xs2, hrel, hg.1, hg.2⟩
  iexact HG

/-! ## The run -/

def intoΦ (c : Dev nD) : sProp 𝕄 := iprop(opsV m c ∗ cellsP (F := F) c ∗ homesP (F := F) c)
def outOfΦ (c : Dev nD) : sProp 𝕄 := iprop(opsV m c ∗ resP m c)
def asideΦ (c : Dev nD) : sProp 𝕄 := iprop(opsLeft m c ∗ (((c : Thread nD τ).loc main_arg3) ↦{fullShare} V m c main_arg3) ∗ (((c : Thread nD τ).loc main_arg7) ↦{fullShare} V m c main_arg7) ∗ (((c : Thread nD τ).loc main_arg8) ↦{fullShare} V m c main_arg8))
def u₀ : UU nD τ := (initOf (Pipeline.cells cfgs cellOf_inj) (Pipeline.launchToks cfgs cellOf_inj), 1)
def QY (c : Dev nD) (s : MemSt nD τ sig (Elt F)) : Prop :=
  (s.mem ((c : Thread nD τ).loc main_arg0) = V m c main_arg0 ∧ s.mem ((c : Thread nD τ).loc main_arg1) = V m c main_arg1 ∧ s.mem ((c : Thread nD τ).loc main_arg2) = V m c main_arg2 ∧ s.mem ((c : Thread nD τ).loc main_arg3) = V m c main_arg3 ∧ s.mem ((c : Thread nD τ).loc main_arg4) = V m c main_arg4 ∧ s.mem ((c : Thread nD τ).loc main_arg5) = V m c main_arg5 ∧ s.mem ((c : Thread nD τ).loc main_arg6) = V m c main_arg6 ∧ s.mem ((c : Thread nD τ).loc main_arg7) = V m c main_arg7 ∧ s.mem ((c : Thread nD τ).loc main_arg8) = V m c main_arg8 ∧ s.mem ((c : Thread nD τ).loc main_arg9) = V m c main_arg9 ∧ s.mem ((c : Thread nD τ).loc main_arg10) = V m c main_arg10)
  ∧ GD m c (s.mem ((c : Thread nD τ).loc main_v3_5)) ∧ GT m c (s.mem ((c : Thread nD τ).loc main_v3_4))

theorem hX_ (c : Dev nD) (P1 P2 : sProp 𝕄) : iprop(Pipeline.unscopedRest (Ix := Unit) (Name := ℕ) (U := UU nD τ) (Lvl := ℕ) spec0 c (V m c) ∗ Pipeline.ownSems0 osem c ∗ P1 ∗ P2 ∗ emp)
    ⊢ |={Set.univ}=> iprop(intoΦ m c ∗ asideΦ m c) := by
  rw [unscopedRest0_eq, ownSems0_eq]
  unfold intoΦ asideΦ homesP
  iintro ⟨⟨Hmain_arg0, Hmain_arg1, Hmain_arg2, Hmain_arg3, Hmain_arg4, Hmain_arg5, Hmain_arg6, Hmain_arg7, Hmain_arg8, Hmain_arg9, Hmain_arg10, Hmain_v0, Hmain_v1, Hmain_v2, Hmain_v3_4, Hmain_v3_5⟩, HC, -, -, -⟩
  ihave HOp := (ops_in m c) $$ [Hmain_arg0 Hmain_arg1 Hmain_arg2 Hmain_arg4 Hmain_arg5 Hmain_arg6 Hmain_arg9 Hmain_arg10 Hmain_v0 Hmain_v1 Hmain_v2]
  · unfold opsW
    isplitl [Hmain_arg0]
    · iexact Hmain_arg0
    isplitl [Hmain_arg1]
    · iexact Hmain_arg1
    isplitl [Hmain_arg2]
    · iexact Hmain_arg2
    isplitl [Hmain_arg4]
    · iexact Hmain_arg4
    isplitl [Hmain_arg5]
    · iexact Hmain_arg5
    isplitl [Hmain_arg6]
    · iexact Hmain_arg6
    isplitl [Hmain_arg9]
    · iexact Hmain_arg9
    isplitl [Hmain_arg10]
    · iexact Hmain_arg10
    isplitl [Hmain_v0]
    · iexact Hmain_v0
    isplitl [Hmain_v1]
    · iexact Hmain_v1
    iexact Hmain_v2
  icases HOp with ⟨HOp, HL⟩
  ihave HLD := (ld_split c (V m c main_v3_5)) $$ Hmain_v3_5
  ihave HLT := (lt_split c (V m c main_v3_4)) $$ Hmain_v3_4
  icases HLD with ⟨HLD, HLDN⟩
  icases HLT with ⟨HLT, HLTN⟩
  imodintro
  isplitl [HOp HC HLD HLDN HLT HLTN]
  · isplitl [HOp]
    · iexact HOp
    isplitl [HC]
    · iexact HC
    isplitl [HLD]
    · iexact HLD
    isplitl [HLDN]
    · iexact HLDN
    isplitl [HLT]
    · iexact HLT
    iexact HLTN
  isplitl [HL]
  · iexact HL
  isplitl [Hmain_arg3]
  · iexact Hmain_arg3
  isplitl [Hmain_arg7]
  · iexact Hmain_arg7
  iexact Hmain_arg8

theorem hY_ (c : Dev nD) (s' : Phys nD τ sig (Elt F)) : iprop(outOfΦ m c ∗ asideΦ m c ∗ SI s') ⊢ |={Set.univ}=> iprop(⌜QY m c s'.mem⌝ ∗ (SI s' : sProp 𝕄)) := by
  unfold outOfΦ asideΦ resP
  iintro ⟨⟨HO, HRD, HRT⟩, ⟨HL, Hmain_arg3, Hmain_arg7, Hmain_arg8⟩, HSI⟩
  ihave HOW := (ops_out m c) $$ [HO HL]
  · isplitl [HO]; · iexact HO
    iexact HL
  unfold opsW
  icases HOW with ⟨Hmain_arg0, Hmain_arg1, Hmain_arg2, Hmain_arg4, Hmain_arg5, Hmain_arg6, Hmain_arg9, Hmain_arg10, Hmain_v0, Hmain_v1, Hmain_v2⟩
  ihave HGD := (resD_join m c) $$ HRD
  ihave HGT := (resT_join m c) $$ HRT
  icases HGD with ⟨%gd, %hgd, HGD⟩
  icases HGT with ⟨%gt, %hgt, HGT⟩
  icombine HSI Hmain_arg0 gives %hmain_arg0
  icombine HSI Hmain_arg1 gives %hmain_arg1
  icombine HSI Hmain_arg2 gives %hmain_arg2
  icombine HSI Hmain_arg3 gives %hmain_arg3
  icombine HSI Hmain_arg4 gives %hmain_arg4
  icombine HSI Hmain_arg5 gives %hmain_arg5
  icombine HSI Hmain_arg6 gives %hmain_arg6
  icombine HSI Hmain_arg7 gives %hmain_arg7
  icombine HSI Hmain_arg8 gives %hmain_arg8
  icombine HSI Hmain_arg9 gives %hmain_arg9
  icombine HSI Hmain_arg10 gives %hmain_arg10
  icombine HSI HGD gives %hd
  icombine HSI HGT gives %ht
  imodintro
  isplitr
  · ipureintro
    refine ⟨⟨Buf.eq_of_forall_mem_univ hmain_arg0, Buf.eq_of_forall_mem_univ hmain_arg1, Buf.eq_of_forall_mem_univ hmain_arg2, Buf.eq_of_forall_mem_univ hmain_arg3, Buf.eq_of_forall_mem_univ hmain_arg4, Buf.eq_of_forall_mem_univ hmain_arg5, Buf.eq_of_forall_mem_univ hmain_arg6, Buf.eq_of_forall_mem_univ hmain_arg7, Buf.eq_of_forall_mem_univ hmain_arg8, Buf.eq_of_forall_mem_univ hmain_arg9, Buf.eq_of_forall_mem_univ hmain_arg10⟩, ?_, ?_⟩
    · have e := Buf.eq_of_forall_mem_univ hd; rw [e]; exact hgd
    · have e := Buf.eq_of_forall_mem_univ ht; rw [e]; exact hgt
  iexact HSI

set_option backward.isDefEq.respectTransparency.types false in
/-- From any memory whose draft tokens are tokens of the draft vocabulary: every weakly fair run ends, and ends with
    every argument unchanged, the logits as computed, every semaphore at zero. -/
theorem run_main (h : PreOK m) : θ_run defs (onTc (τ := τ) (main (F := F))) ⟨m, fun _ => 0, ρ⟩ (fun r => (∀ c : Dev nD, QY m c r.2) ∧ r.2.sem = fun _ => 0) :=
  Pipeline.θ_run_region_kit_forget_quiescent cfgs (dats m) () (0 : Fin 1) launch0 ownSemFacts EP defs₀ 𝒱₀ (fun _ => true) m ρ main
    (hbody := fun c => body_obligation m h c) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := asideΦ m)
    (hX := fun c => hX_ m c _ _)
    (hin := fun c => by
      rw [show (dats m 0 c).Φ 0 = Φ0 m c from (if_pos rfl : ΦK m c 0 = Φ0 m c)]
      unfold intoΦ Φ0
      iintro ⟨⟨HO, HC, HH⟩, HR⟩
      ihave HS := (scr_in c) $$ HR
      isplitl [HO]; · iexact HO
      isplitl [HS]; · iexact HS
      isplitl [HC]; · iexact HC
      iexact HH)
    (hout := fun c => by
      rw [show (dats m 0 c).Φ (Fin.last cfg0.N) = Φ1 m c from (if_neg (by rw [Fin.val_last]; exact Nat.one_ne_zero) : ΦK m c (Fin.last cfg0.N).val = Φ1 m c), ownSems0_eq]
      unfold outOfΦ Φ1
      iintro ⟨HO, HS, HC, HR⟩
      isplitl [HO HR]
      · isplitl [HO]; · iexact HO
        iexact HR
      isplitl [HC]; · iexact HC
      iapply (scr_out c); iexact HS)
    (QY := QY m)
    (hY := hY_ m)
    (hQ := fun s hh hz => ⟨fun c => (hh c).2, hz⟩)

/-! ## The precondition -/

theorem tok_of_bits (v : BitVec 32) (h : IntOp.andi (IntOp.cmpi .sge v 0#32) (IntOp.cmpi .slt v 32000#32) = 1#1) : Tok v := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at h
  have h0 : (0#32 : BitVec 32).toInt = 0 := by decide
  have h4 : (32000#32 : BitVec 32).toInt = 32000 := by decide
  rw [h0, h4] at h
  unfold Tok
  have := BitVec.toInt_eq_toNat_cond v
  have hl := v.isLt
  split at this <;> omega

end Cert.Proof.KernelIdealRun
-- ==== Proof.KernelIdealElems.lean ====
/-
  The elements of the target logits over the reals: a block's element is the sum of the products, scaled.
-/
module

public import proofs.«01_k».proof.Proof.KernelIdealVal
public import proofs.«01_k».proof.Proof.KernelIdealNarrow
public import proofs.«01_k».proof.Proof.KernelIdealSplit
public import Idealize.ShloMosaic.Lib.ValueLayout
public import Idealize.ShloMosaic.Lib.Pipeline.ValueKit
public import Idealize.ShloMosaic.Lib.MatmulPlain
public import Idealize.ShloMosaic.Lib.Pointwise

@[expose] public section

noncomputable section

namespace Cert.Proof.Elems

open Cert.KernelIdeal Cert.KernelIdeal.Gen Cert.Proof.KernelIdealRun Idealize.ShloMosaic Idealize.ShloMosaic.TcCoe Idealize.SL.Sem

/-- One element of the logits: the sum of the products, scaled. -/
def logitK (s xs ws : EReal) : EReal := s * (xs * ws) * (Scalar.ofBits (F := Ideal) .f32 0x3FB6DB6E#32 : EReal)

/-- The kernel's element: it multiplies the constant into the column's scale first. -/
theorem elemZ_logit (a x r : EReal) : (elemZ (F := Ideal) a x r : EReal) = logitK a x r := by
  show a * (x * (r * _)) = a * (x * r) * _
  rw [mul_assoc a, mul_assoc x]

theorem prodT_apply (X8 : S32x3072.Idx → Elt Ideal .fp8e4m3) (W : S3072x1024.Idx → Elt Ideal .fp8e4m3) (r : Fin 32) (l : Fin 1024) :
    prodT X8 W (ix2 r l) = ∑ k : Fin 3072, (X8 (ix2 r k) : EReal) * W (ix2 k l) := by
  pointwise [prodT]
theorem prodN_apply (X8 : S32x3072.Idx → Elt Ideal .fp8e4m3) (W : S3072x256.Idx → Elt Ideal .fp8e4m3) (r : Fin 32) (l : Fin 256) :
    prodN X8 W (ix2 r l) = ∑ k : Fin 3072, (X8 (ix2 r k) : EReal) * W (ix2 k l) := by
  pointwise [prodN]

/-- The packed rows: batch `b`'s row `r` is row `8 b + r`. -/
theorem pack_apply (v0 v1 v2 : Vec Ideal S1x8x3072 .fp8e4m3) (b : Fin 3) (r : Fin 8) (k : Fin 3072) (R : Fin 32) (h : R.val = 8 * b.val + r.val) :
    k0_pay299 (k0_pay298 v0) v1 v2 (ix2 R k) = (![v0, v1, v2] b : Vec Ideal S1x8x3072 .fp8e4m3) (ix3 (0 : Fin 1) r k) := by
  have hr := r.isLt
  pointwise [k0_pay299, k0_pay298]
  fin_cases b
  · have h' : R.val = r.val := by simpa using h
    rw [dif_pos (by omega)]
    exact congrArg v0 (congrArg (fun z => ix3 (0 : Fin 1) z k) (Fin.ext h'))
  · have h' : R.val = 8 + r.val := by simpa using h
    rw [dif_neg (by omega), dif_pos (by omega)]
    exact congrArg v1 (congrArg (fun z => ix3 (0 : Fin 1) z k) (Fin.ext (by show R.val - 8 = r.val; omega)))
  · have h' : R.val = 16 + r.val := by simpa using h
    rw [dif_neg (by omega), dif_neg (by omega), dif_pos (by omega)]
    exact congrArg v2 (congrArg (fun z => ix3 (0 : Fin 1) z k) (Fin.ext (by show R.val - 8 - 8 = r.val; omega)))

/-- A row of scales turned into a column: the diagonal of its copies, summed. -/
theorem col_apply (v : Vec Ideal S1x8 .f32) (r : Fin 8) (l : Fin 128) : k0_pay304 v (ix2 r l) = v (ix2 (0 : Fin 1) r) := by
  pointwise [k0_pay304]
  have e : ∀ x : Fin 8, Scalar.select (IntOp.cmpi .eq (BitVec.ofNat 32 r.val) (BitVec.ofNat 32 x.val)) (v (ix2 (0 : Fin 1) x)) (0 : EReal) = if x = r then (v (ix2 (0 : Fin 1) x) : EReal) else 0 := by
    intro x
    by_cases hx : x = r
    · subst hx; rw [if_pos rfl]
      simp [Scalar.select, IntOp.cmpi]
    · have hn : (BitVec.ofNat 32 r.val == BitVec.ofNat 32 x.val) = false := by
        rw [beq_eq_false_iff_ne]
        intro h
        have h2 := congrArg BitVec.toNat h
        simp only [BitVec.toNat_ofNat] at h2
        exact hx (Fin.ext (by omega))
      rw [if_neg hx]
      simp [Scalar.select, IntOp.cmpi, hn]
  rw [Finset.sum_const_zero, add_zero, Finset.sum_congr rfl (fun x _ => e x), Finset.sum_ite_eq' Finset.univ r, if_pos (Finset.mem_univ r)]

theorem colRow (s : Fin 3 → Vec Ideal S1x8 .f32) (b : Fin 3) (r : Fin 8) (l : Fin 128) :
    (![k0_pay304 (s 0), k0_pay304 (s 1), k0_pay304 (s 2)] b : FVec Ideal S8x128 .f32) (ix2 r l) = s b (ix2 (0 : Fin 1) r) := by
  fin_cases b
  · exact col_apply (s 0) r l
  · exact col_apply (s 1) r l
  · exact col_apply (s 2) r l
theorem packRow (v : Fin 3 → Vec Ideal S1x8x3072 .fp8e4m3) (b : Fin 3) (r : Fin 8) (k : Fin 3072) (R : Fin 32) (h : R.val = 8 * b.val + r.val) :
    k0_pay299 (k0_pay298 (v 0)) (v 1) (v 2) (ix2 R k) = v b (ix3 (0 : Fin 1) r k) := by
  refine (pack_apply (v 0) (v 1) (v 2) b r k R h).trans ?_
  fin_cases b <;> rfl

/-- The columns of a block of the target weight. -/
theorem wtB_read (W : S3072x128256.Idx → Elt Ideal .fp8e4m3) (b : Fin 125) (k : Fin 3072) (l : Fin 1024) (L : Fin 128256) (h : L.val = 1024 * b.val + l.val) :
    (wtB b).view.read (Elt Ideal) W (ix2 k l) = W (ix2 k L) := by
  refine congrArg W (funext fun a => Fin.ext ?_)
  refine (ValueKit.rect_emb_unit_val (s := S3072x128256) (c2 b.val) S3072x1024.size (c2_inbT b) (ix2 k l) a).trans ?_
  fin_cases a
  · show 0 + k.val = k.val; omega
  · show 1024 * b.val + l.val = L.val; omega
theorem wtN_read (W : S3072x128256.Idx → Elt Ideal .fp8e4m3) (k : Fin 3072) (l : Fin 256) (L : Fin 128256) (h : L.val = 128000 + l.val) :
    wtN.view.read (Elt Ideal) W (ix2 k l) = W (ix2 k L) := by
  refine congrArg W (funext fun a => Fin.ext ?_)
  refine (ValueKit.rect_emb_unit_val (s := S3072x128256) ![0, 128000] S3072x256.size inb_S3072x128256_S3072x256_0_128000 (ix2 k l) a).trans ?_
  fin_cases a
  · show 0 + k.val = k.val; omega
  · show 128000 + l.val = L.val; omega

/-- An element of a block of target logits, over the reals. -/
theorem blkT_val (v : Fin 3 → Vec Ideal S1x8x3072 .fp8e4m3) (s : Fin 3 → Vec Ideal S1x8 .f32) (W : S3072x128256.Idx → Elt Ideal .fp8e4m3)
    (WTS : S1002x128.Idx → Elt Ideal .f32) (bk : Fin 125) (b : Fin 3) (r : Fin 8) (l : Fin 1024) (L : Fin 128256) (h : L.val = 1024 * bk.val + l.val) :
    blockT (prodT (k0_pay299 (k0_pay298 (v 0)) (v 1) (v 2)) ((wtB bk).view.read (Elt Ideal) W)) ![k0_pay304 (s 0), k0_pay304 (s 1), k0_pay304 (s 2)] (rowsT WTS bk) (ix3 b r l)
      = logitK (∑ k : Fin 3072, (v b (ix3 (0 : Fin 1) r k) : EReal) * W (ix2 k L)) (s b (ix2 (0 : Fin 1) r))
          (WTS (ix2 ⟨L.val / 128, by have := L.isLt; omega⟩ ⟨L.val % 128, Nat.mod_lt _ (by decide)⟩)) := by
  have hb := b.isLt
  have hr := r.isLt
  have hl := l.isLt
  unfold blockT
  rw [elemZ_logit]
  have e1 := prodT_apply (k0_pay299 (k0_pay298 (v 0)) (v 1) (v 2)) ((wtB bk).view.read (Elt Ideal) W) ⟨8 * b.val + r.val, by omega⟩ l
  have e2 : ∀ k : Fin 3072, (k0_pay299 (k0_pay298 (v 0)) (v 1) (v 2) (ix2 ⟨8 * b.val + r.val, by omega⟩ k) : EReal) * (wtB bk).view.read (Elt Ideal) W (ix2 k l) = (v b (ix3 (0 : Fin 1) r k) : EReal) * W (ix2 k L) := fun k => by
    rw [packRow v b r k ⟨8 * b.val + r.val, by omega⟩ rfl, wtB_read W bk k l L h]
  rw [Finset.sum_congr rfl (fun k _ => e2 k)] at e1
  have e3 := colRow s b r ⟨l.val % 128, Nat.mod_lt _ (by decide)⟩
  have e4 : (rowsT WTS bk ⟨l.val / 128, by omega⟩ (ix2 (0 : Fin 1) ⟨l.val % 128, Nat.mod_lt _ (by decide)⟩) : EReal) = WTS (ix2 ⟨L.val / 128, by have := L.isLt; omega⟩ ⟨L.val % 128, Nat.mod_lt _ (by decide)⟩) := by
    refine congrArg WTS (funext fun a => Fin.ext ?_)
    fin_cases a
    · show 8 * bk.val + l.val / 128 = L.val / 128; omega
    · show l.val % 128 = L.val % 128; omega
  exact congr (congr (congrArg logitK e1) e3) e4

/-- An element of the narrow last block of target logits, over the reals. -/
theorem blkN_val (v : Fin 3 → Vec Ideal S1x8x3072 .fp8e4m3) (s : Fin 3 → Vec Ideal S1x8 .f32) (W : S3072x128256.Idx → Elt Ideal .fp8e4m3)
    (WTS : S1002x128.Idx → Elt Ideal .f32) (b : Fin 3) (r : Fin 8) (l : Fin 256) (L : Fin 128256) (h : L.val = 128000 + l.val) :
    blockN (prodN (k0_pay299 (k0_pay298 (v 0)) (v 1) (v 2)) (wtN.view.read (Elt Ideal) W)) ![k0_pay304 (s 0), k0_pay304 (s 1), k0_pay304 (s 2)] (rowsN WTS) (ix3 b r l)
      = logitK (∑ k : Fin 3072, (v b (ix3 (0 : Fin 1) r k) : EReal) * W (ix2 k L)) (s b (ix2 (0 : Fin 1) r))
          (WTS (ix2 ⟨L.val / 128, by have := L.isLt; omega⟩ ⟨L.val % 128, Nat.mod_lt _ (by decide)⟩)) := by
  have hb := b.isLt
  have hr := r.isLt
  have hl := l.isLt
  unfold blockN
  rw [elemZ_logit]
  have e1 := prodN_apply (k0_pay299 (k0_pay298 (v 0)) (v 1) (v 2)) (wtN.view.read (Elt Ideal) W) ⟨8 * b.val + r.val, by omega⟩ l
  have e2 : ∀ k : Fin 3072, (k0_pay299 (k0_pay298 (v 0)) (v 1) (v 2) (ix2 ⟨8 * b.val + r.val, by omega⟩ k) : EReal) * wtN.view.read (Elt Ideal) W (ix2 k l) = (v b (ix3 (0 : Fin 1) r k) : EReal) * W (ix2 k L) := fun k => by
    rw [packRow v b r k ⟨8 * b.val + r.val, by omega⟩ rfl, wtN_read W k l L h]
  rw [Finset.sum_congr rfl (fun k _ => e2 k)] at e1
  have e3 := colRow s b r ⟨l.val % 128, Nat.mod_lt _ (by decide)⟩
  have e4 : (rowsN WTS ⟨l.val / 128, by omega⟩ (ix2 (0 : Fin 1) ⟨l.val % 128, Nat.mod_lt _ (by decide)⟩) : EReal) = WTS (ix2 ⟨L.val / 128, by have := L.isLt; omega⟩ ⟨L.val % 128, Nat.mod_lt _ (by decide)⟩) := by
    refine congrArg WTS (funext fun a => Fin.ext ?_)
    fin_cases a
    · show 1000 + l.val / 128 = L.val / 128; omega
    · show l.val % 128 = L.val % 128; omega
  exact congr (congr (congrArg logitK e1) e3) e4

/-- What block `bk` holds, read at an element of the whole array. -/
theorem ltB_at (bk : Fin 125) (w : S3x8x1024.Idx → Elt Ideal .bf16) (f : S3x8x128256.Idx → Elt Ideal .bf16)
    (hf : (ltB bk).view.read (Elt Ideal) f = w) (b : Fin 3) (r : Fin 8) (l : Fin 1024) (L : Fin 128256) (h : L.val = 1024 * bk.val + l.val) :
    f (ix3 b r L) = w (ix3 b r l) := by
  have e : (ix3 b r L : S3x8x128256.Idx) = (ltB bk).view.emb (ix3 b r l) := by
    funext a
    refine Fin.ext (Eq.symm ?_)
    refine (ValueKit.rect_emb_unit_val (s := S3x8x128256) (c3 bk.val) S3x8x1024.size (c3_inbT bk) (ix3 b r l) a).trans ?_
    fin_cases a
    · show 0 + b.val = b.val; omega
    · show 0 + r.val = r.val; omega
    · show 1024 * bk.val + l.val = L.val; omega
  rw [e]
  exact congrFun hf (ix3 b r l)
theorem ltN_at (w : S3x8x256.Idx → Elt Ideal .bf16) (f : S3x8x128256.Idx → Elt Ideal .bf16)
    (hf : ltN.view.read (Elt Ideal) f = w) (b : Fin 3) (r : Fin 8) (l : Fin 256) (L : Fin 128256) (h : L.val = 128000 + l.val) :
    f (ix3 b r L) = w (ix3 b r l) := by
  have e : (ix3 b r L : S3x8x128256.Idx) = ltN.view.emb (ix3 b r l) := by
    funext a
    refine Fin.ext (Eq.symm ?_)
    refine (ValueKit.rect_emb_unit_val (s := S3x8x128256) ![0, 0, 128000] S3x8x256.size inb_S3x8x128256_S3x8x256_0_0_128000 (ix3 b r l) a).trans ?_
    fin_cases a
    · show 0 + b.val = b.val; omega
    · show 0 + r.val = r.val; omega
    · show 128000 + l.val = L.val; omega
  rw [e]
  exact congrFun hf (ix3 b r l)

/-- The whole array of target logits, from its blocks. -/
theorem logits_val (v : Fin 3 → Vec Ideal S1x8x3072 .fp8e4m3) (s : Fin 3 → Vec Ideal S1x8 .f32) (W : S3072x128256.Idx → Elt Ideal .fp8e4m3)
    (WTS : S1002x128.Idx → Elt Ideal .f32) (g : S3x8x128256.Idx → Elt Ideal .bf16)
    (hB : ∀ bk : Fin 125, ∃ f : S3x8x128256.Idx → Elt Ideal .bf16, (∃ (w : S3x8x1024.Idx → Elt Ideal .bf16),
      (∀ y, w y = blockT (prodT (k0_pay299 (k0_pay298 (v 0)) (v 1) (v 2)) ((wtB bk).view.read (Elt Ideal) W)) ![k0_pay304 (s 0), k0_pay304 (s 1), k0_pay304 (s 2)] (rowsT WTS bk) y)
        ∧ (ltB bk).view.read (Elt Ideal) f = w) ∧ ∀ i ∈ BT bk, g i = f i)
    (hN : ∃ f : S3x8x128256.Idx → Elt Ideal .bf16, (∃ (w : S3x8x256.Idx → Elt Ideal .bf16),
      (∀ y, w y = blockN (prodN (k0_pay299 (k0_pay298 (v 0)) (v 1) (v 2)) (wtN.view.read (Elt Ideal) W)) ![k0_pay304 (s 0), k0_pay304 (s 1), k0_pay304 (s 2)] (rowsN WTS) y)
        ∧ ltN.view.read (Elt Ideal) f = w) ∧ ∀ i ∈ BNT, g i = f i)
    (b : Fin 3) (r : Fin 8) (L : Fin 128256) :
    g (ix3 b r L) = logitK (∑ k : Fin 3072, (v b (ix3 (0 : Fin 1) r k) : EReal) * W (ix2 k L)) (s b (ix2 (0 : Fin 1) r))
          (WTS (ix2 ⟨L.val / 128, by have := L.isLt; omega⟩ ⟨L.val % 128, Nat.mod_lt _ (by decide)⟩)) := by
  have hL := L.isLt
  by_cases h : L.val < 128000
  · have hq : L.val / 1024 < 125 := by omega
    obtain ⟨f, ⟨w, hw, hf⟩, hg⟩ := hB ⟨L.val / 1024, hq⟩
    have hl : L.val = 1024 * (L.val / 1024) + L.val % 1024 := by omega
    have h1 := ltB_at ⟨L.val / 1024, hq⟩ w f hf b r ⟨L.val % 1024, Nat.mod_lt _ (by decide)⟩ L hl
    have h2 := blkT_val v s W WTS ⟨L.val / 1024, hq⟩ b r ⟨L.val % 1024, Nat.mod_lt _ (by decide)⟩ L hl
    have h3 : (ix3 b r L : S3x8x128256.Idx) ∈ BT ⟨L.val / 1024, hq⟩ := (mem_BT _ _).2 (by show 1024 * (L.val / 1024) ≤ L.val ∧ L.val < 1024 * (L.val / 1024) + 1024; omega)
    exact ((hg _ h3).trans h1).trans ((hw _).trans h2)
  · obtain ⟨f, ⟨w, hw, hf⟩, hg⟩ := hN
    have hl : L.val = 128000 + (L.val - 128000) := by omega
    have h1 := ltN_at w f hf b r ⟨L.val - 128000, by omega⟩ L hl
    have h2 := blkN_val v s W WTS b r ⟨L.val - 128000, by omega⟩ L hl
    have h3 : (ix3 b r L : S3x8x128256.Idx) ∈ BNT := (mem_BNT _).2 (by show 128000 ≤ L.val; omega)
    exact ((hg _ h3).trans h1).trans ((hw _).trans h2)

end Cert.Proof.Elems
-- ==== Proof.RefVal.lean ====
/-
  The target logits that the reference leaves, over the reals: the value of its one call, read at an element.
-/
module

public import proofs.«01_k».proof.Proof.Gen.ReferenceIdeal.Value
public import Idealize.ShloMosaic.Lib.ValueLayout
public import Idealize.ShloMosaic.Lib.Pipeline.ValueKit
public import Idealize.ShloMosaic.Lib.MatmulPlain
public import Idealize.ShloMosaic.Lib.Pointwise

@[expose] public section

noncomputable section

namespace Cert.Proof.RefVal

open Cert.ReferenceIdeal Cert.ReferenceIdeal.Gen Idealize.ShloMosaic Idealize.ShloMosaic.TcCoe Idealize.SL.Sem

/-- One element of the logits: the sum of the products, scaled. -/
def logit (s xs ws : EReal) : EReal := s * (xs * ws) * (Scalar.ofBits (F := Ideal) .f32 0x3FB6DB6E#32 : EReal)

theorem pay6_apply (v0 : Vec Ideal S1x8x3072 .fp8e4m3) (v2 : Vec Ideal S3072x128256 .fp8e4m3) (v4 : Vec Ideal S1x8 .f32) (v7 : Vec Ideal S1x128256 .f32)
    (r : Fin 8) (l : Fin 128256) :
    k0_pay6 v0 v2 v4 v7 (ix3 (0 : Fin 1) r l) = logit (∑ k : Fin 3072, (v0 (ix3 (0 : Fin 1) r k) : EReal) * v2 (ix2 k l)) (v4 (ix2 (0 : Fin 1) r)) (v7 (ix2 (0 : Fin 1) l)) := by
  unfold logit
  pointwise [k0_pay6]
theorem pay9_apply (v0 : Vec Ideal S1x8x3072 .fp8e4m3) (v2 : Vec Ideal S3072x128256 .fp8e4m3) (v4 : Vec Ideal S1x8 .f32) (v7 : Vec Ideal S1x128256 .f32)
    (r : Fin 8) (l : Fin 128256) :
    k0_pay9 v0 v2 v4 v7 (ix3 (0 : Fin 1) r l) = logit (∑ k : Fin 3072, (v0 (ix3 (0 : Fin 1) r k) : EReal) * v2 (ix2 k l)) (v4 (ix2 (0 : Fin 1) r)) (v7 (ix2 (0 : Fin 1) l)) := by
  unfold logit
  pointwise [k0_pay9]
theorem pay13_apply (v0 : Vec Ideal S1x8x3072 .fp8e4m3) (v2 : Vec Ideal S3072x128256 .fp8e4m3) (v4 : Vec Ideal S1x8 .f32) (v7 : Vec Ideal S1x128256 .f32)
    (r : Fin 8) (l : Fin 128256) :
    k0_pay13 v0 v2 v4 v7 (ix3 (0 : Fin 1) r l) = logit (∑ k : Fin 3072, (v0 (ix3 (0 : Fin 1) r k) : EReal) * v2 (ix2 k l)) (v4 (ix2 (0 : Fin 1) r)) (v7 (ix2 (0 : Fin 1) l)) := by
  unfold logit
  pointwise [k0_pay13]

/-- An index of the whole rectangle of a shape's slice `b`. -/
theorem out12_apply (x0 : Vec Ideal S3x8x3072 .fp8e4m3) (x1 : Vec Ideal S3x8 .f32) (x2 : Vec Ideal S3072x128256 .fp8e4m3) (x3 : Vec Ideal S1x128256 .f32)
    (x4 : Vec Ideal S3x7x3072 .fp8e4m3) (x5 : Vec Ideal S3x7 .f32) (x6 : Vec Ideal S3072x32000 .fp8e4m3) (x7 : Vec Ideal S1x32000 .f32)
    (b : Fin 3) (r : Fin 8) (l : Fin 128256) :
    out0_12 x0 x1 x2 x3 x4 x5 x6 x7 (ix3 b r l)
      = logit (∑ k : Fin 3072, (x0 (ix3 b r k) : EReal) * x2 (ix2 k l)) (x1 (ix2 b r)) (x3 (ix2 (0 : Fin 1) l)) := by
  have e : ∀ (off : Fin 3 → ℕ) (o : ℕ) (ho : off = ![o, 0, 0]) (inb : ∀ a, off a + S1x8x128256.size a ≤ S3x8x128256.size a) (hb : b.val = o),
      (ix3 b r l : S3x8x128256.Idx) = (Rect.unit (s := S3x8x128256) off S1x8x128256.size inb).emb (ix3 (0 : Fin 1) r l) := by
    intro off o ho inb hb
    subst ho
    funext a
    refine Fin.ext ?_
    rw [ValueKit.rect_emb_unit_val]
    match a with
    | ⟨0, _⟩ => show b.val = o + 0; omega
    | ⟨1, _⟩ => show r.val = 0 + r.val; omega
    | ⟨2, _⟩ => show l.val = 0 + l.val; omega
  have n : ∀ (off : Fin 3 → ℕ) (o : ℕ) (ho : off = ![o, 0, 0]) (inb : ∀ a, off a + S1x8x128256.size a ≤ S3x8x128256.size a) (hb : b.val ≠ o),
      (ix3 b r l : S3x8x128256.Idx) ∉ (Rect.unit (s := S3x8x128256) off S1x8x128256.size inb).set := by
    intro off o ho inb hb hm
    subst ho
    obtain ⟨h1, h2⟩ := Rect.mem_set_unit.1 hm 0
    have h1' : o ≤ b.val := h1
    have h2' : b.val < o + 1 := h2
    omega
  unfold out0_12
  have h3 : b.val = 0 ∨ b.val = 1 ∨ b.val = 2 := by have := b.isLt; omega
  rcases h3 with h | h | h
  · have hv : b.val = 0 := by omega
    refine (View.canon_cons_of_not_mem ⟨r0_18, _⟩ _ (n ![2, 0, 0] 2 rfl inb_S3x8x128256_S1x8x128256_2_0_0 (by omega))).trans ?_
    refine (View.canon_cons_of_not_mem ⟨r0_12, _⟩ _ (n ![1, 0, 0] 1 rfl inb_S3x8x128256_S1x8x128256_1_0_0 (by omega))).trans ?_
    refine (congrArg (View.canon _) (e ![0, 0, 0] 0 rfl inb_S3x8x128256_S1x8x128256_0_0_0 hv)).trans ?_
    refine (View.canon_cons_emb r0_4 _ _ _).trans ?_
    rw [pay6_apply]
    have h0 : ∀ k : Fin 3072, r0_0.idx (ix3 (0 : Fin 1) r k) = ix3 b r k := fun k => by
      funext a
      refine Fin.ext ?_
      match a with
      | ⟨0, _⟩ => show 0 + 1 * 0 = b.val; omega
      | ⟨1, _⟩ => show 0 + 1 * r.val = r.val; omega
      | ⟨2, _⟩ => show 0 + 1 * k.val = k.val; omega
    have h1 : ∀ k : Fin 3072, r0_1.idx (ix2 k l) = ix2 k l := fun k => by
      funext a
      refine Fin.ext ?_
      match a with
      | ⟨0, _⟩ => show 0 + 1 * k.val = k.val; omega
      | ⟨1, _⟩ => show 0 + 1 * l.val = l.val; omega
    have h2 : r0_2.idx (ix2 (0 : Fin 1) r) = ix2 b r := by
      funext a
      refine Fin.ext ?_
      match a with
      | ⟨0, _⟩ => show 0 + 1 * 0 = b.val; omega
      | ⟨1, _⟩ => show 0 + 1 * r.val = r.val; omega
    have h3 : r0_3.idx (ix2 (0 : Fin 1) l) = ix2 (0 : Fin 1) l := by
      funext a
      refine Fin.ext ?_
      match a with
      | ⟨0, _⟩ => rfl
      | ⟨1, _⟩ => show 0 + 1 * l.val = l.val; omega
    unfold logit
    simp only [View.ld, h0, h1, h2, h3]
  · have hv : b.val = 1 := by omega
    refine (View.canon_cons_of_not_mem ⟨r0_18, _⟩ _ (n ![2, 0, 0] 2 rfl inb_S3x8x128256_S1x8x128256_2_0_0 (by omega))).trans ?_
    refine (congrArg (View.canon _) (e ![1, 0, 0] 1 rfl inb_S3x8x128256_S1x8x128256_1_0_0 hv)).trans ?_
    refine (View.canon_cons_emb r0_12 _ _ _).trans ?_
    rw [pay9_apply]
    have h0 : ∀ k : Fin 3072, r0_10.idx (ix3 (0 : Fin 1) r k) = ix3 b r k := fun k => by
      funext a
      refine Fin.ext ?_
      match a with
      | ⟨0, _⟩ => show 1 + 1 * 0 = b.val; omega
      | ⟨1, _⟩ => show 0 + 1 * r.val = r.val; omega
      | ⟨2, _⟩ => show 0 + 1 * k.val = k.val; omega
    have h1 : ∀ k : Fin 3072, r0_1.idx (ix2 k l) = ix2 k l := fun k => by
      funext a
      refine Fin.ext ?_
      match a with
      | ⟨0, _⟩ => show 0 + 1 * k.val = k.val; omega
      | ⟨1, _⟩ => show 0 + 1 * l.val = l.val; omega
    have h2 : r0_11.idx (ix2 (0 : Fin 1) r) = ix2 b r := by
      funext a
      refine Fin.ext ?_
      match a with
      | ⟨0, _⟩ => show 1 + 1 * 0 = b.val; omega
      | ⟨1, _⟩ => show 0 + 1 * r.val = r.val; omega
    have h3 : r0_3.idx (ix2 (0 : Fin 1) l) = ix2 (0 : Fin 1) l := by
      funext a
      refine Fin.ext ?_
      match a with
      | ⟨0, _⟩ => rfl
      | ⟨1, _⟩ => show 0 + 1 * l.val = l.val; omega
    unfold logit
    simp only [View.ld, h0, h1, h2, h3]
  · have hv : b.val = 2 := by omega
    refine (congrArg (View.canon _) (e ![2, 0, 0] 2 rfl inb_S3x8x128256_S1x8x128256_2_0_0 hv)).trans ?_
    refine (View.canon_cons_emb r0_18 _ _ _).trans ?_
    rw [pay13_apply]
    have h0 : ∀ k : Fin 3072, r0_16.idx (ix3 (0 : Fin 1) r k) = ix3 b r k := fun k => by
      funext a
      refine Fin.ext ?_
      match a with
      | ⟨0, _⟩ => show 2 + 1 * 0 = b.val; omega
      | ⟨1, _⟩ => show 0 + 1 * r.val = r.val; omega
      | ⟨2, _⟩ => show 0 + 1 * k.val = k.val; omega
    have h1 : ∀ k : Fin 3072, r0_1.idx (ix2 k l) = ix2 k l := fun k => by
      funext a
      refine Fin.ext ?_
      match a with
      | ⟨0, _⟩ => show 0 + 1 * k.val = k.val; omega
      | ⟨1, _⟩ => show 0 + 1 * l.val = l.val; omega
    have h2 : r0_17.idx (ix2 (0 : Fin 1) r) = ix2 b r := by
      funext a
      refine Fin.ext ?_
      match a with
      | ⟨0, _⟩ => show 2 + 1 * 0 = b.val; omega
      | ⟨1, _⟩ => show 0 + 1 * r.val = r.val; omega
    have h3 : r0_3.idx (ix2 (0 : Fin 1) l) = ix2 (0 : Fin 1) l := by
      funext a
      refine Fin.ext ?_
      match a with
      | ⟨0, _⟩ => rfl
      | ⟨1, _⟩ => show 0 + 1 * l.val = l.val; omega
    unfold logit
    simp only [View.ld, h0, h1, h2, h3]

variable (m : (ℓ : Loc nD τ sig) → Buf (Elt Ideal) ℓ) (ρ : Dev nD → PrngReg)

/-- The target logits, from the states, the weight, the states' scales and the columns' scales. -/
def refT (x : S3x8x3072.Idx → EReal) (w : S3072x128256.Idx → EReal) (xs : S3x8.Idx → EReal) (ws : S1x128256.Idx → EReal) (y : S3x8x128256.Idx) : EReal :=
  logit (∑ k : Fin 3072, x (ix3 (y 0) (y 1) k) * w (ix2 k (y 2))) (xs (ix2 (y 0) (y 1))) (ws (ix2 (0 : Fin 1) (y 2)))

theorem arr12 (c : Dev nD) : (dats m 0 c).arrAt 12 cfg0.N = refT (V m c main_arg0) (V m c main_arg2) (V m c main_arg1) (V m c main_v0) := by
  refine (dats m 0 c).arrAt_eq_of_covers 12 (refT (V m c main_arg0) (V m c main_arg2) (V m c main_arg1) (V m c main_v0)) (by decide +kernel) fun t hf y => ?_
  blk_simp
  rw [after0_12]
  obtain ⟨b, r, l, rfl⟩ : ∃ (b : Fin 3) (r : Fin 8) (l : Fin 128256), y = ix3 b r l := ⟨y 0, y 1, y 2, by funext a; match a with | ⟨0, _⟩ => rfl | ⟨1, _⟩ => rfl | ⟨2, _⟩ => rfl⟩
  refine (out12_apply _ _ _ _ _ _ _ _ b r l).trans ?_
  have i0 : ∀ t : Fin cfg0.N, win0_12.index t = ![0, 0, 0] := (by decide +kernel : ∀ t : Fin grid0.N, _)
  have hy : (win0_12.blk t).view.emb (ix3 b r l) = (ix3 b r l : S3x8x128256.Idx) := by blk_ext [i0]
  rw [hy]
  have i1 : ∀ t : Fin cfg0.N, win0_0.index t = ![0, 0, 0] := (by decide +kernel : ∀ t : Fin grid0.N, _)
  have i2 : ∀ t : Fin cfg0.N, win0_1.index t = ![0, 0] := (by decide +kernel : ∀ t : Fin grid0.N, _)
  have i3 : ∀ t : Fin cfg0.N, win0_2.index t = ![0, 0] := (by decide +kernel : ∀ t : Fin grid0.N, _)
  have i4 : ∀ t : Fin cfg0.N, win0_3.index t = ![0, 0] := (by decide +kernel : ∀ t : Fin grid0.N, _)
  blk_simp [iblk]
  have e0 : ∀ k : Fin 3072, (win0_0.blk t).view.emb (ix3 b r k) = (ix3 b r k : S3x8x3072.Idx) := fun k => by blk_ext [i1]
  have e1 : (win0_1.blk t).view.emb (ix2 b r) = (ix2 b r : S3x8.Idx) := by blk_ext [i2]
  have e2 : ∀ k : Fin 3072, (win0_2.blk t).view.emb (ix2 k l) = (ix2 k l : S3072x128256.Idx) := fun k => by blk_ext [i3]
  have e3 : (win0_3.blk t).view.emb (ix2 (0 : Fin 1) l) = (ix2 (0 : Fin 1) l : S1x128256.Idx) := by blk_ext [i4]
  simp only [e0, e1, e2, e3]
  rfl

theorem V_v0 (c : Dev nD) (l : Fin 128256) : (V m c main_v0 : S1x128256.Idx → EReal) (ix2 (0 : Fin 1) l) = (m ((c : Thread nD τ).loc main_arg3) : S128256.Idx → EReal) (ix1 l) := by
  have e : (V m c main_v0 : S1x128256.Idx → EReal) = shapeCast S1x128256 (m ((c : Thread nD τ).loc main_arg3) : S128256.Idx → EReal) shapeCasts_S128256_S1x128256 := by
    rfl
  rw [e]
  exact shapeCast_apply _ _ _ (ix1 l) (by rw [Shape.rowMajor_val_two, Shape.rowMajor_val_one]; show l.val = 0 * 128256 + l.val; omega)

end Cert.Proof.RefVal
-- ==== Proof.Value.lean ====
/-
  The target logits of the kernel and of the reference, over the reals, are the same array.
-/
module

public import proofs.«01_k».proof.Defs
public import proofs.«01_k».proof.Proof.Gen.KernelIdeal
public import proofs.«01_k».proof.Proof.Gen.KernelIdeal.Frame
public import proofs.«01_k».proof.Proof.Gen.ReferenceIdeal
public import proofs.«01_k».proof.Proof.KernelIdealLaunch
public import proofs.«01_k».proof.Proof.KernelIdealElems
public import proofs.«01_k».proof.Proof.RefVal

@[expose] public section

noncomputable section

namespace Cert.Proof

open Idealize.ShloMosaic Idealize.ShloMosaic.TcCoe Idealize.SL.Sem Cert

/-- The stated side conditions of the mask. -/
instance on_facts : Cert.On_logits_only.Facts where
  bcast_S_S3x7 := by decide
  bcast_S_S3x8 := by decide
  bcast_S_S3x8x128256 := by decide
  bcast_S_S3x7x32000 := by decide

/-- The target logits: each the sum of the products of a row and a column, scaled. -/
def target (x : KernelIdeal.S3x8x3072.Idx → EReal) (w : KernelIdeal.S3072x128256.Idx → EReal) (xs : KernelIdeal.S3x8.Idx → EReal) (ws : KernelIdeal.S128256.Idx → EReal)
    (y : KernelIdeal.S3x8x128256.Idx) : EReal :=
  Elems.logitK (∑ k : Fin 3072, x (ix3 (y 0) (y 1) k) * w (ix2 k (y 2))) (xs (ix2 (y 0) (y 1))) (ws (ix1 (y 2)))

/-- The columns' scales as the kernel is handed them: rows of 128. -/
theorem kernel_scales (m : (ℓ : Loc Cert.KernelIdeal.nD Cert.KernelIdeal.τ Cert.KernelIdeal.sig) → Buf (Elt Ideal) ℓ) (c : Dev Cert.KernelIdeal.nD) (L : Fin 128256) :
    (KernelIdeal.Gen.V m c KernelIdeal.main_v0 : KernelIdeal.S1002x128.Idx → EReal) (ix2 ⟨L.val / 128, by have := L.isLt; omega⟩ ⟨L.val % 128, Nat.mod_lt _ (by decide)⟩)
      = (m ((c : Thread Cert.KernelIdeal.nD Cert.KernelIdeal.τ).loc KernelIdeal.main_arg3) : KernelIdeal.S128256.Idx → EReal) (ix1 L) := by
  have e : (KernelIdeal.Gen.V m c KernelIdeal.main_v0 : KernelIdeal.S1002x128.Idx → EReal)
      = shapeCast KernelIdeal.S1002x128 (m ((c : Thread Cert.KernelIdeal.nD Cert.KernelIdeal.τ).loc KernelIdeal.main_arg3) : KernelIdeal.S128256.Idx → EReal) KernelIdeal.Gen.facts.shapeCasts_S128256_S1002x128 := by
    rfl
  rw [e]
  exact shapeCast_apply _ _ _ (ix1 L) (by
    rw [Shape.rowMajor_val_two, Shape.rowMajor_val_one]; show L.val = L.val / 128 * 128 + L.val % 128; omega)

/-- What the kernel leaves in its array of target logits. -/
theorem kernel_target (m : (ℓ : Loc Cert.KernelIdeal.nD Cert.KernelIdeal.τ Cert.KernelIdeal.sig) → Buf (Elt Ideal) ℓ) (c : Dev Cert.KernelIdeal.nD)
    (g : KernelIdeal.S3x8x128256.Idx → Elt Ideal .bf16) (h : KernelIdealRun.GT m c g) (y : KernelIdeal.S3x8x128256.Idx) :
    g y = target (m ((c : Thread Cert.KernelIdeal.nD Cert.KernelIdeal.τ).loc KernelIdeal.main_arg0)) (m ((c : Thread Cert.KernelIdeal.nD Cert.KernelIdeal.τ).loc KernelIdeal.main_arg2))
      (m ((c : Thread Cert.KernelIdeal.nD Cert.KernelIdeal.τ).loc KernelIdeal.main_arg1)) (m ((c : Thread Cert.KernelIdeal.nD Cert.KernelIdeal.τ).loc KernelIdeal.main_arg3)) y := by
  obtain ⟨b, r, L, rfl⟩ : ∃ (b : Fin 3) (r : Fin 8) (L : Fin 128256), y = ix3 b r L :=
    ⟨y 0, y 1, y 2, by funext a; match a with | ⟨0, _⟩ => rfl | ⟨1, _⟩ => rfl | ⟨2, _⟩ => rfl⟩
  have key : g (ix3 b r L) = target (KernelIdeal.Gen.V m c KernelIdeal.main_arg0) (KernelIdeal.Gen.V m c KernelIdeal.main_arg2) (KernelIdeal.Gen.V m c KernelIdeal.main_arg1)
      (m ((c : Thread Cert.KernelIdeal.nD Cert.KernelIdeal.τ).loc KernelIdeal.main_arg3)) (ix3 b r L) := by
    unfold target
    obtain ⟨X8, WTS, xs0, xs1, xs2, ⟨h0, h1, h2, h3, h4⟩, hB, f, ⟨f', w, hw, hf⟩, hN⟩ := h
    subst h0 h1 h2 h3 h4
    refine (Elems.logits_val (fun b => KernelIdealRun.blkX (KernelIdeal.Gen.V m c KernelIdeal.main_arg0) b) (fun b => KernelIdealRun.rowX (KernelIdeal.Gen.V m c KernelIdeal.main_arg1) b)
      (KernelIdeal.Gen.V m c KernelIdeal.main_arg2) (KernelIdeal.Gen.V m c KernelIdeal.main_v0) g (fun bk => ?_) ⟨f, ⟨w, hw, ?_⟩, hN⟩ b r L).trans ?_
    · obtain ⟨f, ⟨f', w, hw, hf⟩, hg⟩ := hB bk
      refine ⟨f, ⟨w, hw, ?_⟩, hg⟩
      rw [hf]
      exact View.read_writes_whole _ _ _
    · rw [hf]
      exact View.read_writes_whole _ _ _
    · exact congrArg (Elems.logitK _ _) (kernel_scales m c L)
  rw [KernelIdeal.Gen.V_main_arg0 m c, KernelIdeal.Gen.V_main_arg1 m c, KernelIdeal.Gen.V_main_arg2 m c] at key
  exact key

/-- What the reference leaves in its array of target logits. -/
theorem reference_target (m : (ℓ : Loc Cert.ReferenceIdeal.nD Cert.ReferenceIdeal.τ Cert.ReferenceIdeal.sig) → Buf (Elt Ideal) ℓ) (c : Dev Cert.ReferenceIdeal.nD)
    (y : KernelIdeal.S3x8x128256.Idx) :
    ((ReferenceIdeal.Gen.dats m 0 c).arrAt 12 ReferenceIdeal.cfg0.N : KernelIdeal.S3x8x128256.Idx → EReal) y
      = target (m ((c : Thread Cert.ReferenceIdeal.nD Cert.ReferenceIdeal.τ).loc ReferenceIdeal.main_arg0)) (m ((c : Thread Cert.ReferenceIdeal.nD Cert.ReferenceIdeal.τ).loc ReferenceIdeal.main_arg2))
      (m ((c : Thread Cert.ReferenceIdeal.nD Cert.ReferenceIdeal.τ).loc ReferenceIdeal.main_arg1)) (m ((c : Thread Cert.ReferenceIdeal.nD Cert.ReferenceIdeal.τ).loc ReferenceIdeal.main_arg3)) y := by
  rw [RefVal.arr12 m c, ReferenceIdeal.Gen.V_main_arg0 m c, ReferenceIdeal.Gen.V_main_arg1 m c, ReferenceIdeal.Gen.V_main_arg2 m c]
  exact congrArg (Elems.logitK _ _) (RefVal.V_v0 m c (y 2))

/-- An element the mask leaves out: nothing is asked of it. -/
theorem off {P : Prop} {a : BitVec 1} (e : a = 0#1) (h : a = 1#1) : P := absurd (e.symm.trans h) (by decide)

/-- The kernel's target logits are the reference's. -/
theorem algebraic [Cert.Pre_tokens_fit.Facts] (ok : ∀ m, Pre_KernelIdeal m → KernelIdealRun.PreOK m) : algebraic_KernelIdeal_ReferenceIdeal_on_logits_only := by
  intro m g m' g' hp ha
  refine ⟨fun c => m ((c : Thread Cert.KernelIdeal.nD Cert.KernelIdeal.τ).loc KernelIdeal.main_v3_0), fun c => m ((c : Thread Cert.KernelIdeal.nD Cert.KernelIdeal.τ).loc KernelIdeal.main_v3_1),
    fun c => m ((c : Thread Cert.KernelIdeal.nD Cert.KernelIdeal.τ).loc KernelIdeal.main_v3_2), fun c => m ((c : Thread Cert.KernelIdeal.nD Cert.KernelIdeal.τ).loc KernelIdeal.main_v3_3),
    fun c => target (m ((c : Thread Cert.KernelIdeal.nD Cert.KernelIdeal.τ).loc KernelIdeal.main_arg0)) (m ((c : Thread Cert.KernelIdeal.nD Cert.KernelIdeal.τ).loc KernelIdeal.main_arg2))
      (m ((c : Thread Cert.KernelIdeal.nD Cert.KernelIdeal.τ).loc KernelIdeal.main_arg1)) (m ((c : Thread Cert.KernelIdeal.nD Cert.KernelIdeal.τ).loc KernelIdeal.main_arg3)),
    fun c => m ((c : Thread Cert.KernelIdeal.nD Cert.KernelIdeal.τ).loc KernelIdeal.main_v3_5), ?_, ?_⟩
  · refine (θ_run _ _ _).mono (fun r hh c => ?_) (KernelIdealRun.run_main (F := Ideal) m g (ok m hp))
    refine ⟨fun i => off rfl, fun i => off rfl, fun i => off rfl, fun i => off rfl, fun i _ => kernel_target m c _ (hh.1 c).2.2 i, fun i => off rfl, ?_⟩
    exact ⟨((hh.1 c).1.1).trans (Cert.KernelIdeal.Gen.V_main_arg0 m c), ((hh.1 c).1.2.1).trans (Cert.KernelIdeal.Gen.V_main_arg1 m c), ((hh.1 c).1.2.2.1).trans (Cert.KernelIdeal.Gen.V_main_arg2 m c), ((hh.1 c).1.2.2.2.1).trans (Cert.KernelIdeal.Gen.V_main_arg3 m c), ((hh.1 c).1.2.2.2.2.1).trans (Cert.KernelIdeal.Gen.V_main_arg4 m c), ((hh.1 c).1.2.2.2.2.2.1).trans (Cert.KernelIdeal.Gen.V_main_arg5 m c), ((hh.1 c).1.2.2.2.2.2.2.1).trans (Cert.KernelIdeal.Gen.V_main_arg6 m c), ((hh.1 c).1.2.2.2.2.2.2.2.1).trans (Cert.KernelIdeal.Gen.V_main_arg7 m c), ((hh.1 c).1.2.2.2.2.2.2.2.2.1).trans (Cert.KernelIdeal.Gen.V_main_arg8 m c), ((hh.1 c).1.2.2.2.2.2.2.2.2.2.1).trans (Cert.KernelIdeal.Gen.V_main_arg9 m c), ((hh.1 c).1.2.2.2.2.2.2.2.2.2.2).trans (Cert.KernelIdeal.Gen.V_main_arg10 m c)⟩
  · refine (θ_run _ _ _).mono (fun r hh c => ?_) (ReferenceIdeal.Value.run_blocks m' g')
    refine ⟨fun i => off rfl, fun i => off rfl, fun i => off rfl, fun i => off rfl, fun i _ => ?_, fun i => off rfl, (hh c).2.2.2.2.2.2⟩
    rw [(hh c).2.2.2.2.1]
    refine (reference_target m' c i).trans ?_
    rw [(ha c).1, (ha c).2.1, (ha c).2.2.1, (ha c).2.2.2.1]

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelLaunch
public import proofs.«01_k».proof.Proof.KernelIdealLaunch
public import proofs.«01_k».proof.Proof.Value

@[expose] public section

namespace Cert.Proof

open Idealize.ShloMosaic Idealize.ShloMosaic.TcCoe Idealize.SL.Sem Cert

/-- The precondition's stated side conditions. -/
instance pre_facts : Cert.Pre_tokens_fit.Facts where
  bcast_S_S3x7 := by decide

/-- The precondition of `Kernel`, read on the draft tokens. -/
theorem ok_Kernel (m : (ℓ : Loc Cert.Kernel.nD Cert.Kernel.τ Cert.Kernel.sig) → Buf (Elt Bits) ℓ) (h : Pre_Kernel m) : Cert.Proof.KernelRun.PreOK m := by
  intro c j
  have e := congrFun (h c) j
  simp only [Cert.Pre_tokens_fit.fn, andi, cmpi, broadcastInDim, constantI] at e
  exact Cert.Proof.KernelRun.tok_of_bits _ e

/-- `Kernel` runs, leaves its arguments and ends with every semaphore at zero. -/
theorem frame_Kernel : quiescent_Kernel := fun m ρ h =>
  (θ_run _ _ _).mono
    (fun _ hh => ⟨fun c => ⟨((hh.1 c).1.1).trans (Cert.Kernel.Gen.V_main_arg0 m c), ((hh.1 c).1.2.1).trans (Cert.Kernel.Gen.V_main_arg1 m c), ((hh.1 c).1.2.2.1).trans (Cert.Kernel.Gen.V_main_arg2 m c), ((hh.1 c).1.2.2.2.1).trans (Cert.Kernel.Gen.V_main_arg3 m c), ((hh.1 c).1.2.2.2.2.1).trans (Cert.Kernel.Gen.V_main_arg4 m c), ((hh.1 c).1.2.2.2.2.2.1).trans (Cert.Kernel.Gen.V_main_arg5 m c), ((hh.1 c).1.2.2.2.2.2.2.1).trans (Cert.Kernel.Gen.V_main_arg6 m c), ((hh.1 c).1.2.2.2.2.2.2.2.1).trans (Cert.Kernel.Gen.V_main_arg7 m c), ((hh.1 c).1.2.2.2.2.2.2.2.2.1).trans (Cert.Kernel.Gen.V_main_arg8 m c), ((hh.1 c).1.2.2.2.2.2.2.2.2.2.1).trans (Cert.Kernel.Gen.V_main_arg9 m c), ((hh.1 c).1.2.2.2.2.2.2.2.2.2.2).trans (Cert.Kernel.Gen.V_main_arg10 m c)⟩, hh.2⟩)
    (Cert.Proof.KernelRun.run_main (F := Bits) m ρ (ok_Kernel m h))

/-- The precondition of `KernelIdeal`, read on the draft tokens. -/
theorem ok_KernelIdeal (m : (ℓ : Loc Cert.KernelIdeal.nD Cert.KernelIdeal.τ Cert.KernelIdeal.sig) → Buf (Elt Ideal) ℓ) (h : Pre_KernelIdeal m) : Cert.Proof.KernelIdealRun.PreOK m := by
  intro c j
  have e := congrFun (h c) j
  simp only [Cert.Pre_tokens_fit.fn, andi, cmpi, broadcastInDim, constantI] at e
  exact Cert.Proof.KernelIdealRun.tok_of_bits _ e

/-- `KernelIdeal` runs, leaves its arguments and ends with every semaphore at zero. -/
theorem frame_KernelIdeal : quiescent_KernelIdeal := fun m ρ h =>
  (θ_run _ _ _).mono
    (fun _ hh => ⟨fun c => ⟨((hh.1 c).1.1).trans (Cert.KernelIdeal.Gen.V_main_arg0 m c), ((hh.1 c).1.2.1).trans (Cert.KernelIdeal.Gen.V_main_arg1 m c), ((hh.1 c).1.2.2.1).trans (Cert.KernelIdeal.Gen.V_main_arg2 m c), ((hh.1 c).1.2.2.2.1).trans (Cert.KernelIdeal.Gen.V_main_arg3 m c), ((hh.1 c).1.2.2.2.2.1).trans (Cert.KernelIdeal.Gen.V_main_arg4 m c), ((hh.1 c).1.2.2.2.2.2.1).trans (Cert.KernelIdeal.Gen.V_main_arg5 m c), ((hh.1 c).1.2.2.2.2.2.2.1).trans (Cert.KernelIdeal.Gen.V_main_arg6 m c), ((hh.1 c).1.2.2.2.2.2.2.2.1).trans (Cert.KernelIdeal.Gen.V_main_arg7 m c), ((hh.1 c).1.2.2.2.2.2.2.2.2.1).trans (Cert.KernelIdeal.Gen.V_main_arg8 m c), ((hh.1 c).1.2.2.2.2.2.2.2.2.2.1).trans (Cert.KernelIdeal.Gen.V_main_arg9 m c), ((hh.1 c).1.2.2.2.2.2.2.2.2.2.2).trans (Cert.KernelIdeal.Gen.V_main_arg10 m c)⟩, hh.2⟩)
    (Cert.Proof.KernelIdealRun.run_main (F := Ideal) m ρ (ok_KernelIdeal m h))

theorem claim : Cert.Claim := ⟨Cert.Kernel.Gen.facts, Cert.KernelIdeal.Gen.facts, Cert.ReferenceIdeal.Gen.facts, pre_facts, on_facts,
  frame_Kernel, frame_KernelIdeal, fun m ρ _ => Cert.ReferenceIdeal.Gen.frame m ρ, fun m ρ _ => Cert.ReferenceIdeal.Gen.frame m ρ, trivial,
  algebraic ok_KernelIdeal⟩

end Cert.Proof

end
